-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojReferenceIdeal (m : (ℓ : Loc Cert.OutprojReferenceIdeal.nD Cert.OutprojReferenceIdeal.τ Cert.OutprojReferenceIdeal.sig) → Buf (Elt Ideal) ℓ) : Prop :=
  True

def Pre_MobaProj (m : (ℓ : Loc Cert.MobaProj.nD Cert.MobaProj.τ Cert.MobaProj.sig) → Buf (Elt Bits) ℓ) : Prop :=
  True

def Pre_MobaProjIdeal (m : (ℓ : Loc Cert.MobaProjIdeal.nD Cert.MobaProjIdeal.τ Cert.MobaProjIdeal.sig) → Buf (Elt Ideal) ℓ) : Prop :=
  True

def Pre_MobaProjReferenceIdeal (m : (ℓ : Loc Cert.MobaProjReferenceIdeal.nD Cert.MobaProjReferenceIdeal.τ Cert.MobaProjReferenceIdeal.sig) → Buf (Elt Ideal) ℓ) : Prop :=
  True

def Pre_MobaSample (m : (ℓ : Loc Cert.MobaSample.nD Cert.MobaSample.τ Cert.MobaSample.sig) → Buf (Elt Bits) ℓ) : Prop :=
  True

def Pre_MobaSampleIdeal (m : (ℓ : Loc Cert.MobaSampleIdeal.nD Cert.MobaSampleIdeal.τ Cert.MobaSampleIdeal.sig) → Buf (Elt Ideal) ℓ) : Prop :=
  True

def Pre_MobaSampleReferenceIdeal (m : (ℓ : Loc Cert.MobaSampleReferenceIdeal.nD Cert.MobaSampleReferenceIdeal.τ Cert.MobaSampleReferenceIdeal.sig) → Buf (Elt Ideal) ℓ) : Prop :=
  True

def Pre_NsaProj (m : (ℓ : Loc Cert.NsaProj.nD Cert.NsaProj.τ Cert.NsaProj.sig) → Buf (Elt Bits) ℓ) : Prop :=
  True

def Pre_NsaProjIdeal (m : (ℓ : Loc Cert.NsaProjIdeal.nD Cert.NsaProjIdeal.τ Cert.NsaProjIdeal.sig) → Buf (Elt Ideal) ℓ) : Prop :=
  True

def Pre_NsaProjReferenceIdeal (m : (ℓ : Loc Cert.NsaProjReferenceIdeal.nD Cert.NsaProjReferenceIdeal.τ Cert.NsaProjReferenceIdeal.sig) → Buf (Elt Ideal) ℓ) : Prop :=
  True

def Pre_MlaExpand (m : (ℓ : Loc Cert.MlaExpand.nD Cert.MlaExpand.τ Cert.MlaExpand.sig) → Buf (Elt Bits) ℓ) : Prop :=
  True

def Pre_MlaExpandIdeal (m : (ℓ : Loc Cert.MlaExpandIdeal.nD Cert.MlaExpandIdeal.τ Cert.MlaExpandIdeal.sig) → Buf (Elt Ideal) ℓ) : Prop :=
  True

def Pre_MlaExpandReferenceIdeal (m : (ℓ : Loc Cert.MlaExpandReferenceIdeal.nD Cert.MlaExpandReferenceIdeal.τ Cert.MlaExpandReferenceIdeal.sig) → Buf (Elt Ideal) ℓ) : Prop :=
  True

def Pre_MlaProj (m : (ℓ : Loc Cert.MlaProj.nD Cert.MlaProj.τ Cert.MlaProj.sig) → Buf (Elt Bits) ℓ) : Prop :=
  True

def Pre_MlaProjIdeal (m : (ℓ : Loc Cert.MlaProjIdeal.nD Cert.MlaProjIdeal.τ Cert.MlaProjIdeal.sig) → Buf (Elt Ideal) ℓ) : Prop :=
  True

def Pre_MlaProjReferenceIdeal (m : (ℓ : Loc Cert.MlaProjReferenceIdeal.nD Cert.MlaProjReferenceIdeal.τ Cert.MlaProjReferenceIdeal.sig) → Buf (Elt Ideal) ℓ) : Prop :=
  True

def Pre_MobaMeans (m : (ℓ : Loc Cert.MobaMeans.nD Cert.MobaMeans.τ Cert.MobaMeans.sig) → Buf (Elt Bits) ℓ) : Prop :=
  True

def Pre_MobaMeansIdeal (m : (ℓ : Loc Cert.MobaMeansIdeal.nD Cert.MobaMeansIdeal.τ Cert.MobaMeansIdeal.sig) → Buf (Elt Ideal) ℓ) : Prop :=
  True

def Pre_MobaMeansReferenceIdeal (m : (ℓ : Loc Cert.MobaMeansReferenceIdeal.nD Cert.MobaMeansReferenceIdeal.τ Cert.MobaMeansReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2))
      ∧ r.2.sem = fun _ => 0)

def quiescent_OutprojReferenceIdeal [hOutprojReferenceIdeal : Cert.OutprojReferenceIdeal.Facts] : Prop :=
  ∀ (m : (ℓ : Loc Cert.OutprojReferenceIdeal.nD Cert.OutprojReferenceIdeal.τ Cert.OutprojReferenceIdeal.sig) → Buf (Elt Ideal) ℓ) (g : Dev Cert.OutprojReferenceIdeal.nD → PrngReg), Pre_OutprojReferenceIdeal m →
    θ_run (Cert.OutprojReferenceIdeal.defs (F := Ideal)) (onTc (τ := Cert.OutprojReferenceIdeal.τ) (Cert.OutprojReferenceIdeal.main (F := Ideal))) ⟨m, fun _ => 0, g⟩ (fun r => (∀ c : Dev Cert.OutprojReferenceIdeal.nD,
      r.2.mem ((c.tc : Thread Cert.OutprojReferenceIdeal.nD Cert.OutprojReferenceIdeal.τ).loc Cert.OutprojReferenceIdeal.main_arg0) = m ((c.tc : Thread Cert.OutprojReferenceIdeal.nD Cert.OutprojReferenceIdeal.τ).loc Cert.OutprojReferenceIdeal.main_arg0)
      ∧ r.2.mem ((c.tc : Thread Cert.OutprojReferenceIdeal.nD Cert.OutprojReferenceIdeal.τ).loc Cert.OutprojReferenceIdeal.main_arg1) = m ((c.tc : Thread Cert.OutprojReferenceIdeal.nD Cert.OutprojReferenceIdeal.τ).loc Cert.OutprojReferenceIdeal.main_arg1)
      ∧ r.2.mem ((c.tc : Thread Cert.OutprojReferenceIdeal.nD Cert.OutprojReferenceIdeal.τ).loc Cert.OutprojReferenceIdeal.main_arg2) = m ((c.tc : Thread Cert.OutprojReferenceIdeal.nD Cert.OutprojReferenceIdeal.τ).loc Cert.OutprojReferenceIdeal.main_arg2))
      ∧ r.2.sem = fun _ => 0)

def quiescent_MobaProj [hMobaProj : Cert.MobaProj.Facts] : Prop :=
  ∀ (m : (ℓ : Loc Cert.MobaProj.nD Cert.MobaProj.τ Cert.MobaProj.sig) → Buf (Elt Bits) ℓ) (g : Dev Cert.MobaProj.nD → PrngReg), Pre_MobaProj m →
    θ_run (Cert.MobaProj.defs (F := Bits)) (onTc (τ := Cert.MobaProj.τ) (Cert.MobaProj.main (F := Bits))) ⟨m, fun _ => 0, g⟩ (fun r => (∀ c : Dev Cert.MobaProj.nD,
      r.2.mem ((c.tc : Thread Cert.MobaProj.nD Cert.MobaProj.τ).loc Cert.MobaProj.main_arg0) = m ((c.tc : Thread Cert.MobaProj.nD Cert.MobaProj.τ).loc Cert.MobaProj.main_arg0)
      ∧ r.2.mem ((c.tc : Thread Cert.MobaProj.nD Cert.MobaProj.τ).loc Cert.MobaProj.main_arg1) = m ((c.tc : Thread Cert.MobaProj.nD Cert.MobaProj.τ).loc Cert.MobaProj.main_arg1)
      ∧ r.2.mem ((c.tc : Thread Cert.MobaProj.nD Cert.MobaProj.τ).loc Cert.MobaProj.main_arg2) = m ((c.tc : Thread Cert.MobaProj.nD Cert.MobaProj.τ).loc Cert.MobaProj.main_arg2)
      ∧ r.2.mem ((c.tc : Thread Cert.MobaProj.nD Cert.MobaProj.τ).loc Cert.MobaProj.main_arg3) = m ((c.tc : Thread Cert.MobaProj.nD Cert.MobaProj.τ).loc Cert.MobaProj.main_arg3)
      ∧ r.2.mem ((c.tc : Thread Cert.MobaProj.nD Cert.MobaProj.τ).loc Cert.MobaProj.main_arg4) = m ((c.tc : Thread Cert.MobaProj.nD Cert.MobaProj.τ).loc Cert.MobaProj.main_arg4)
      ∧ r.2.mem ((c.tc : Thread Cert.MobaProj.nD Cert.MobaProj.τ).loc Cert.MobaProj.main_arg5) = m ((c.tc : Thread Cert.MobaProj.nD Cert.MobaProj.τ).loc Cert.MobaProj.main_arg5)
      ∧ r.2.mem ((c.tc : Thread Cert.MobaProj.nD Cert.MobaProj.τ).loc Cert.MobaProj.main_arg6) = m ((c.tc : Thread Cert.MobaProj.nD Cert.MobaProj.τ).loc Cert.MobaProj.main_arg6))
      ∧ r.2.sem = fun _ => 0)

def quiescent_MobaProjIdeal [hMobaProjIdeal : Cert.MobaProjIdeal.Facts] : Prop :=
  ∀ (m : (ℓ : Loc Cert.MobaProjIdeal.nD Cert.MobaProjIdeal.τ Cert.MobaProjIdeal.sig) → Buf (Elt Ideal) ℓ) (g : Dev Cert.MobaProjIdeal.nD → PrngReg), Pre_MobaProjIdeal m →
    θ_run (Cert.MobaProjIdeal.defs (F := Ideal)) (onTc (τ := Cert.MobaProjIdeal.τ) (Cert.MobaProjIdeal.main (F := Ideal))) ⟨m, fun _ => 0, g⟩ (fun r => (∀ c : Dev Cert.MobaProjIdeal.nD,
      r.2.mem ((c.tc : Thread Cert.MobaProjIdeal.nD Cert.MobaProjIdeal.τ).loc Cert.MobaProjIdeal.main_arg0) = m ((c.tc : Thread Cert.MobaProjIdeal.nD Cert.MobaProjIdeal.τ).loc Cert.MobaProjIdeal.main_arg0)
      ∧ r.2.mem ((c.tc : Thread Cert.MobaProjIdeal.nD Cert.MobaProjIdeal.τ).loc Cert.MobaProjIdeal.main_arg1) = m ((c.tc : Thread Cert.MobaProjIdeal.nD Cert.MobaProjIdeal.τ).loc Cert.MobaProjIdeal.main_arg1)
      ∧ r.2.mem ((c.tc : Thread Cert.MobaProjIdeal.nD Cert.MobaProjIdeal.τ).loc Cert.MobaProjIdeal.main_arg2) = m ((c.tc : Thread Cert.MobaProjIdeal.nD Cert.MobaProjIdeal.τ).loc Cert.MobaProjIdeal.main_arg2)
      ∧ r.2.mem ((c.tc : Thread Cert.MobaProjIdeal.nD Cert.MobaProjIdeal.τ).loc Cert.MobaProjIdeal.main_arg3) = m ((c.tc : Thread Cert.MobaProjIdeal.nD Cert.MobaProjIdeal.τ).loc Cert.MobaProjIdeal.main_arg3)
      ∧ r.2.mem ((c.tc : Thread Cert.MobaProjIdeal.nD Cert.MobaProjIdeal.τ).loc Cert.MobaProjIdeal.main_arg4) = m ((c.tc : Thread Cert.MobaProjIdeal.nD Cert.MobaProjIdeal.τ).loc Cert.MobaProjIdeal.main_arg4)
      ∧ r.2.mem ((c.tc : Thread Cert.MobaProjIdeal.nD Cert.MobaProjIdeal.τ).loc Cert.MobaProjIdeal.main_arg5) = m ((c.tc : Thread Cert.MobaProjIdeal.nD Cert.MobaProjIdeal.τ).loc Cert.MobaProjIdeal.main_arg5)
      ∧ r.2.mem ((c.tc : Thread Cert.MobaProjIdeal.nD Cert.MobaProjIdeal.τ).loc Cert.MobaProjIdeal.main_arg6) = m ((c.tc : Thread Cert.MobaProjIdeal.nD Cert.MobaProjIdeal.τ).loc Cert.MobaProjIdeal.main_arg6))
      ∧ r.2.sem = fun _ => 0)

def quiescent_MobaProjReferenceIdeal [hMobaProjReferenceIdeal : Cert.MobaProjReferenceIdeal.Facts] : Prop :=
  ∀ (m : (ℓ : Loc Cert.MobaProjReferenceIdeal.nD Cert.MobaProjReferenceIdeal.τ Cert.MobaProjReferenceIdeal.sig) → Buf (Elt Ideal) ℓ) (g : Dev Cert.MobaProjReferenceIdeal.nD → PrngReg), Pre_MobaProjReferenceIdeal m →
    θ_run (Cert.MobaProjReferenceIdeal.defs (F := Ideal)) (onTc (τ := Cert.MobaProjReferenceIdeal.τ) (Cert.MobaProjReferenceIdeal.main (F := Ideal))) ⟨m, fun _ => 0, g⟩ (fun r => (∀ c : Dev Cert.MobaProjReferenceIdeal.nD,
      r.2.mem ((c.tc : Thread Cert.MobaProjReferenceIdeal.nD Cert.MobaProjReferenceIdeal.τ).loc Cert.MobaProjReferenceIdeal.main_arg0) = m ((c.tc : Thread Cert.MobaProjReferenceIdeal.nD Cert.MobaProjReferenceIdeal.τ).loc Cert.MobaProjReferenceIdeal.main_arg0)
      ∧ r.2.mem ((c.tc : Thread Cert.MobaProjReferenceIdeal.nD Cert.MobaProjReferenceIdeal.τ).loc Cert.MobaProjReferenceIdeal.main_arg1) = m ((c.tc : Thread Cert.MobaProjReferenceIdeal.nD Cert.MobaProjReferenceIdeal.τ).loc Cert.MobaProjReferenceIdeal.main_arg1)
      ∧ r.2.mem ((c.tc : Thread Cert.MobaProjReferenceIdeal.nD Cert.MobaProjReferenceIdeal.τ).loc Cert.MobaProjReferenceIdeal.main_arg2) = m ((c.tc : Thread Cert.MobaProjReferenceIdeal.nD Cert.MobaProjReferenceIdeal.τ).loc Cert.MobaProjReferenceIdeal.main_arg2)
      ∧ r.2.mem ((c.tc : Thread Cert.MobaProjReferenceIdeal.nD Cert.MobaProjReferenceIdeal.τ).loc Cert.MobaProjReferenceIdeal.main_arg3) = m ((c.tc : Thread Cert.MobaProjReferenceIdeal.nD Cert.MobaProjReferenceIdeal.τ).loc Cert.MobaProjReferenceIdeal.main_arg3)
      ∧ r.2.mem ((c.tc : Thread Cert.MobaProjReferenceIdeal.nD Cert.MobaProjReferenceIdeal.τ).loc Cert.MobaProjReferenceIdeal.main_arg4) = m ((c.tc : Thread Cert.MobaProjReferenceIdeal.nD Cert.MobaProjReferenceIdeal.τ).loc Cert.MobaProjReferenceIdeal.main_arg4)
      ∧ r.2.mem ((c.tc : Thread Cert.MobaProjReferenceIdeal.nD Cert.MobaProjReferenceIdeal.τ).loc Cert.MobaProjReferenceIdeal.main_arg5) = m ((c.tc : Thread Cert.MobaProjReferenceIdeal.nD Cert.MobaProjReferenceIdeal.τ).loc Cert.MobaProjReferenceIdeal.main_arg5)
      ∧ r.2.mem ((c.tc : Thread Cert.MobaProjReferenceIdeal.nD Cert.MobaProjReferenceIdeal.τ).loc Cert.MobaProjReferenceIdeal.main_arg6) = m ((c.tc : Thread Cert.MobaProjReferenceIdeal.nD Cert.MobaProjReferenceIdeal.τ).loc Cert.MobaProjReferenceIdeal.main_arg6))
      ∧ r.2.sem = fun _ => 0)

def quiescent_MobaSample [hMobaSample : Cert.MobaSample.Facts] : Prop :=
  ∀ (m : (ℓ : Loc Cert.MobaSample.nD Cert.MobaSample.τ Cert.MobaSample.sig) → Buf (Elt Bits) ℓ) (g : Dev Cert.MobaSample.nD → PrngReg), Pre_MobaSample m →
    θ_run (Cert.MobaSample.defs (F := Bits)) (onTc (τ := Cert.MobaSample.τ) (Cert.MobaSample.main (F := Bits))) ⟨m, fun _ => 0, g⟩ (fun r => (∀ c : Dev Cert.MobaSample.nD,
      r.2.mem ((c.tc : Thread Cert.MobaSample.nD Cert.MobaSample.τ).loc Cert.MobaSample.main_arg0) = m ((c.tc : Thread Cert.MobaSample.nD Cert.MobaSample.τ).loc Cert.MobaSample.main_arg0)
      ∧ r.2.mem ((c.tc : Thread Cert.MobaSample.nD Cert.MobaSample.τ).loc Cert.MobaSample.main_arg1) = m ((c.tc : Thread Cert.MobaSample.nD Cert.MobaSample.τ).loc Cert.MobaSample.main_arg1)
      ∧ r.2.mem ((c.tc : Thread Cert.MobaSample.nD Cert.MobaSample.τ).loc Cert.MobaSample.main_arg2) = m ((c.tc : Thread Cert.MobaSample.nD Cert.MobaSample.τ).loc Cert.MobaSample.main_arg2)
      ∧ r.2.mem ((c.tc : Thread Cert.MobaSample.nD Cert.MobaSample.τ).loc Cert.MobaSample.main_arg3) = m ((c.tc : Thread Cert.MobaSample.nD Cert.MobaSample.τ).loc Cert.MobaSample.main_arg3)
      ∧ r.2.mem ((c.tc : Thread Cert.MobaSample.nD Cert.MobaSample.τ).loc Cert.MobaSample.main_arg4) = m ((c.tc : Thread Cert.MobaSample.nD Cert.MobaSample.τ).loc Cert.MobaSample.main_arg4)
      ∧ r.2.mem ((c.tc : Thread Cert.MobaSample.nD Cert.MobaSample.τ).loc Cert.MobaSample.main_arg5) = m ((c.tc : Thread Cert.MobaSample.nD Cert.MobaSample.τ).loc Cert.MobaSample.main_arg5)
      ∧ r.2.mem ((c.tc : Thread Cert.MobaSample.nD Cert.MobaSample.τ).loc Cert.MobaSample.main_arg6) = m ((c.tc : Thread Cert.MobaSample.nD Cert.MobaSample.τ).loc Cert.MobaSample.main_arg6))
      ∧ r.2.sem = fun _ => 0)

def quiescent_MobaSampleIdeal [hMobaSampleIdeal : Cert.MobaSampleIdeal.Facts] : Prop :=
  ∀ (m : (ℓ : Loc Cert.MobaSampleIdeal.nD Cert.MobaSampleIdeal.τ Cert.MobaSampleIdeal.sig) → Buf (Elt Ideal) ℓ) (g : Dev Cert.MobaSampleIdeal.nD → PrngReg), Pre_MobaSampleIdeal m →
    θ_run (Cert.MobaSampleIdeal.defs (F := Ideal)) (onTc (τ := Cert.MobaSampleIdeal.τ) (Cert.MobaSampleIdeal.main (F := Ideal))) ⟨m, fun _ => 0, g⟩ (fun r => (∀ c : Dev Cert.MobaSampleIdeal.nD,
      r.2.mem ((c.tc : Thread Cert.MobaSampleIdeal.nD Cert.MobaSampleIdeal.τ).loc Cert.MobaSampleIdeal.main_arg0) = m ((c.tc : Thread Cert.MobaSampleIdeal.nD Cert.MobaSampleIdeal.τ).loc Cert.MobaSampleIdeal.main_arg0)
      ∧ r.2.mem ((c.tc : Thread Cert.MobaSampleIdeal.nD Cert.MobaSampleIdeal.τ).loc Cert.MobaSampleIdeal.main_arg1) = m ((c.tc : Thread Cert.MobaSampleIdeal.nD Cert.MobaSampleIdeal.τ).loc Cert.MobaSampleIdeal.main_arg1)
      ∧ r.2.mem ((c.tc : Thread Cert.MobaSampleIdeal.nD Cert.MobaSampleIdeal.τ).loc Cert.MobaSampleIdeal.main_arg2) = m ((c.tc : Thread Cert.MobaSampleIdeal.nD Cert.MobaSampleIdeal.τ).loc Cert.MobaSampleIdeal.main_arg2)
      ∧ r.2.mem ((c.tc : Thread Cert.MobaSampleIdeal.nD Cert.MobaSampleIdeal.τ).loc Cert.MobaSampleIdeal.main_arg3) = m ((c.tc : Thread Cert.MobaSampleIdeal.nD Cert.MobaSampleIdeal.τ).loc Cert.MobaSampleIdeal.main_arg3)
      ∧ r.2.mem ((c.tc : Thread Cert.MobaSampleIdeal.nD Cert.MobaSampleIdeal.τ).loc Cert.MobaSampleIdeal.main_arg4) = m ((c.tc : Thread Cert.MobaSampleIdeal.nD Cert.MobaSampleIdeal.τ).loc Cert.MobaSampleIdeal.main_arg4)
      ∧ r.2.mem ((c.tc : Thread Cert.MobaSampleIdeal.nD Cert.MobaSampleIdeal.τ).loc Cert.MobaSampleIdeal.main_arg5) = m ((c.tc : Thread Cert.MobaSampleIdeal.nD Cert.MobaSampleIdeal.τ).loc Cert.MobaSampleIdeal.main_arg5)
      ∧ r.2.mem ((c.tc : Thread Cert.MobaSampleIdeal.nD Cert.MobaSampleIdeal.τ).loc Cert.MobaSampleIdeal.main_arg6) = m ((c.tc : Thread Cert.MobaSampleIdeal.nD Cert.MobaSampleIdeal.τ).loc Cert.MobaSampleIdeal.main_arg6))
      ∧ r.2.sem = fun _ => 0)

def quiescent_MobaSampleReferenceIdeal [hMobaSampleReferenceIdeal : Cert.MobaSampleReferenceIdeal.Facts] : Prop :=
  ∀ (m : (ℓ : Loc Cert.MobaSampleReferenceIdeal.nD Cert.MobaSampleReferenceIdeal.τ Cert.MobaSampleReferenceIdeal.sig) → Buf (Elt Ideal) ℓ) (g : Dev Cert.MobaSampleReferenceIdeal.nD → PrngReg), Pre_MobaSampleReferenceIdeal m →
    θ_run (Cert.MobaSampleReferenceIdeal.defs (F := Ideal)) (onTc (τ := Cert.MobaSampleReferenceIdeal.τ) (Cert.MobaSampleReferenceIdeal.main (F := Ideal))) ⟨m, fun _ => 0, g⟩ (fun r => (∀ c : Dev Cert.MobaSampleReferenceIdeal.nD,
      r.2.mem ((c.tc : Thread Cert.MobaSampleReferenceIdeal.nD Cert.MobaSampleReferenceIdeal.τ).loc Cert.MobaSampleReferenceIdeal.main_arg0) = m ((c.tc : Thread Cert.MobaSampleReferenceIdeal.nD Cert.MobaSampleReferenceIdeal.τ).loc Cert.MobaSampleReferenceIdeal.main_arg0)
      ∧ r.2.mem ((c.tc : Thread Cert.MobaSampleReferenceIdeal.nD Cert.MobaSampleReferenceIdeal.τ).loc Cert.MobaSampleReferenceIdeal.main_arg1) = m ((c.tc : Thread Cert.MobaSampleReferenceIdeal.nD Cert.MobaSampleReferenceIdeal.τ).loc Cert.MobaSampleReferenceIdeal.main_arg1)
      ∧ r.2.mem ((c.tc : Thread Cert.MobaSampleReferenceIdeal.nD Cert.MobaSampleReferenceIdeal.τ).loc Cert.MobaSampleReferenceIdeal.main_arg2) = m ((c.tc : Thread Cert.MobaSampleReferenceIdeal.nD Cert.MobaSampleReferenceIdeal.τ).loc Cert.MobaSampleReferenceIdeal.main_arg2)
      ∧ r.2.mem ((c.tc : Thread Cert.MobaSampleReferenceIdeal.nD Cert.MobaSampleReferenceIdeal.τ).loc Cert.MobaSampleReferenceIdeal.main_arg3) = m ((c.tc : Thread Cert.MobaSampleReferenceIdeal.nD Cert.MobaSampleReferenceIdeal.τ).loc Cert.MobaSampleReferenceIdeal.main_arg3)
      ∧ r.2.mem ((c.tc : Thread Cert.MobaSampleReferenceIdeal.nD Cert.MobaSampleReferenceIdeal.τ).loc Cert.MobaSampleReferenceIdeal.main_arg4) = m ((c.tc : Thread Cert.MobaSampleReferenceIdeal.nD Cert.MobaSampleReferenceIdeal.τ).loc Cert.MobaSampleReferenceIdeal.main_arg4)
      ∧ r.2.mem ((c.tc : Thread Cert.MobaSampleReferenceIdeal.nD Cert.MobaSampleReferenceIdeal.τ).loc Cert.MobaSampleReferenceIdeal.main_arg5) = m ((c.tc : Thread Cert.MobaSampleReferenceIdeal.nD Cert.MobaSampleReferenceIdeal.τ).loc Cert.MobaSampleReferenceIdeal.main_arg5)
      ∧ r.2.mem ((c.tc : Thread Cert.MobaSampleReferenceIdeal.nD Cert.MobaSampleReferenceIdeal.τ).loc Cert.MobaSampleReferenceIdeal.main_arg6) = m ((c.tc : Thread Cert.MobaSampleReferenceIdeal.nD Cert.MobaSampleReferenceIdeal.τ).loc Cert.MobaSampleReferenceIdeal.main_arg6))
      ∧ r.2.sem = fun _ => 0)

def quiescent_NsaProj [hNsaProj : Cert.NsaProj.Facts] : Prop :=
  ∀ (m : (ℓ : Loc Cert.NsaProj.nD Cert.NsaProj.τ Cert.NsaProj.sig) → Buf (Elt Bits) ℓ) (g : Dev Cert.NsaProj.nD → PrngReg), Pre_NsaProj m →
    θ_run (Cert.NsaProj.defs (F := Bits)) (onTc (τ := Cert.NsaProj.τ) (Cert.NsaProj.main (F := Bits))) ⟨m, fun _ => 0, g⟩ (fun r => (∀ c : Dev Cert.NsaProj.nD,
      r.2.mem ((c.tc : Thread Cert.NsaProj.nD Cert.NsaProj.τ).loc Cert.NsaProj.main_arg0) = m ((c.tc : Thread Cert.NsaProj.nD Cert.NsaProj.τ).loc Cert.NsaProj.main_arg0)
      ∧ r.2.mem ((c.tc : Thread Cert.NsaProj.nD Cert.NsaProj.τ).loc Cert.NsaProj.main_arg1) = m ((c.tc : Thread Cert.NsaProj.nD Cert.NsaProj.τ).loc Cert.NsaProj.main_arg1)
      ∧ r.2.mem ((c.tc : Thread Cert.NsaProj.nD Cert.NsaProj.τ).loc Cert.NsaProj.main_arg2) = m ((c.tc : Thread Cert.NsaProj.nD Cert.NsaProj.τ).loc Cert.NsaProj.main_arg2)
      ∧ r.2.mem ((c.tc : Thread Cert.NsaProj.nD Cert.NsaProj.τ).loc Cert.NsaProj.main_arg3) = m ((c.tc : Thread Cert.NsaProj.nD Cert.NsaProj.τ).loc Cert.NsaProj.main_arg3)
      ∧ r.2.mem ((c.tc : Thread Cert.NsaProj.nD Cert.NsaProj.τ).loc Cert.NsaProj.main_arg4) = m ((c.tc : Thread Cert.NsaProj.nD Cert.NsaProj.τ).loc Cert.NsaProj.main_arg4)
      ∧ r.2.mem ((c.tc : Thread Cert.NsaProj.nD Cert.NsaProj.τ).loc Cert.NsaProj.main_arg5) = m ((c.tc : Thread Cert.NsaProj.nD Cert.NsaProj.τ).loc Cert.NsaProj.main_arg5)
      ∧ r.2.mem ((c.tc : Thread Cert.NsaProj.nD Cert.NsaProj.τ).loc Cert.NsaProj.main_arg6) = m ((c.tc : Thread Cert.NsaProj.nD Cert.NsaProj.τ).loc Cert.NsaProj.main_arg6))
      ∧ r.2.sem = fun _ => 0)

def quiescent_NsaProjIdeal [hNsaProjIdeal : Cert.NsaProjIdeal.Facts] : Prop :=
  ∀ (m : (ℓ : Loc Cert.NsaProjIdeal.nD Cert.NsaProjIdeal.τ Cert.NsaProjIdeal.sig) → Buf (Elt Ideal) ℓ) (g : Dev Cert.NsaProjIdeal.nD → PrngReg), Pre_NsaProjIdeal m →
    θ_run (Cert.NsaProjIdeal.defs (F := Ideal)) (onTc (τ := Cert.NsaProjIdeal.τ) (Cert.NsaProjIdeal.main (F := Ideal))) ⟨m, fun _ => 0, g⟩ (fun r => (∀ c : Dev Cert.NsaProjIdeal.nD,
      r.2.mem ((c.tc : Thread Cert.NsaProjIdeal.nD Cert.NsaProjIdeal.τ).loc Cert.NsaProjIdeal.main_arg0) = m ((c.tc : Thread Cert.NsaProjIdeal.nD Cert.NsaProjIdeal.τ).loc Cert.NsaProjIdeal.main_arg0)
      ∧ r.2.mem ((c.tc : Thread Cert.NsaProjIdeal.nD Cert.NsaProjIdeal.τ).loc Cert.NsaProjIdeal.main_arg1) = m ((c.tc : Thread Cert.NsaProjIdeal.nD Cert.NsaProjIdeal.τ).loc Cert.NsaProjIdeal.main_arg1)
      ∧ r.2.mem ((c.tc : Thread Cert.NsaProjIdeal.nD Cert.NsaProjIdeal.τ).loc Cert.NsaProjIdeal.main_arg2) = m ((c.tc : Thread Cert.NsaProjIdeal.nD Cert.NsaProjIdeal.τ).loc Cert.NsaProjIdeal.main_arg2)
      ∧ r.2.mem ((c.tc : Thread Cert.NsaProjIdeal.nD Cert.NsaProjIdeal.τ).loc Cert.NsaProjIdeal.main_arg3) = m ((c.tc : Thread Cert.NsaProjIdeal.nD Cert.NsaProjIdeal.τ).loc Cert.NsaProjIdeal.main_arg3)
      ∧ r.2.mem ((c.tc : Thread Cert.NsaProjIdeal.nD Cert.NsaProjIdeal.τ).loc Cert.NsaProjIdeal.main_arg4) = m ((c.tc : Thread Cert.NsaProjIdeal.nD Cert.NsaProjIdeal.τ).loc Cert.NsaProjIdeal.main_arg4)
      ∧ r.2.mem ((c.tc : Thread Cert.NsaProjIdeal.nD Cert.NsaProjIdeal.τ).loc Cert.NsaProjIdeal.main_arg5) = m ((c.tc : Thread Cert.NsaProjIdeal.nD Cert.NsaProjIdeal.τ).loc Cert.NsaProjIdeal.main_arg5)
      ∧ r.2.mem ((c.tc : Thread Cert.NsaProjIdeal.nD Cert.NsaProjIdeal.τ).loc Cert.NsaProjIdeal.main_arg6) = m ((c.tc : Thread Cert.NsaProjIdeal.nD Cert.NsaProjIdeal.τ).loc Cert.NsaProjIdeal.main_arg6))
      ∧ r.2.sem = fun _ => 0)

def quiescent_NsaProjReferenceIdeal [hNsaProjReferenceIdeal : Cert.NsaProjReferenceIdeal.Facts] : Prop :=
  ∀ (m : (ℓ : Loc Cert.NsaProjReferenceIdeal.nD Cert.NsaProjReferenceIdeal.τ Cert.NsaProjReferenceIdeal.sig) → Buf (Elt Ideal) ℓ) (g : Dev Cert.NsaProjReferenceIdeal.nD → PrngReg), Pre_NsaProjReferenceIdeal m →
    θ_run (Cert.NsaProjReferenceIdeal.defs (F := Ideal)) (onTc (τ := Cert.NsaProjReferenceIdeal.τ) (Cert.NsaProjReferenceIdeal.main (F := Ideal))) ⟨m, fun _ => 0, g⟩ (fun r => (∀ c : Dev Cert.NsaProjReferenceIdeal.nD,
      r.2.mem ((c.tc : Thread Cert.NsaProjReferenceIdeal.nD Cert.NsaProjReferenceIdeal.τ).loc Cert.NsaProjReferenceIdeal.main_arg0) = m ((c.tc : Thread Cert.NsaProjReferenceIdeal.nD Cert.NsaProjReferenceIdeal.τ).loc Cert.NsaProjReferenceIdeal.main_arg0)
      ∧ r.2.mem ((c.tc : Thread Cert.NsaProjReferenceIdeal.nD Cert.NsaProjReferenceIdeal.τ).loc Cert.NsaProjReferenceIdeal.main_arg1) = m ((c.tc : Thread Cert.NsaProjReferenceIdeal.nD Cert.NsaProjReferenceIdeal.τ).loc Cert.NsaProjReferenceIdeal.main_arg1)
      ∧ r.2.mem ((c.tc : Thread Cert.NsaProjReferenceIdeal.nD Cert.NsaProjReferenceIdeal.τ).loc Cert.NsaProjReferenceIdeal.main_arg2) = m ((c.tc : Thread Cert.NsaProjReferenceIdeal.nD Cert.NsaProjReferenceIdeal.τ).loc Cert.NsaProjReferenceIdeal.main_arg2)
      ∧ r.2.mem ((c.tc : Thread Cert.NsaProjReferenceIdeal.nD Cert.NsaProjReferenceIdeal.τ).loc Cert.NsaProjReferenceIdeal.main_arg3) = m ((c.tc : Thread Cert.NsaProjReferenceIdeal.nD Cert.NsaProjReferenceIdeal.τ).loc Cert.NsaProjReferenceIdeal.main_arg3)
      ∧ r.2.mem ((c.tc : Thread Cert.NsaProjReferenceIdeal.nD Cert.NsaProjReferenceIdeal.τ).loc Cert.NsaProjReferenceIdeal.main_arg4) = m ((c.tc : Thread Cert.NsaProjReferenceIdeal.nD Cert.NsaProjReferenceIdeal.τ).loc Cert.NsaProjReferenceIdeal.main_arg4)
      ∧ r.2.mem ((c.tc : Thread Cert.NsaProjReferenceIdeal.nD Cert.NsaProjReferenceIdeal.τ).loc Cert.NsaProjReferenceIdeal.main_arg5) = m ((c.tc : Thread Cert.NsaProjReferenceIdeal.nD Cert.NsaProjReferenceIdeal.τ).loc Cert.NsaProjReferenceIdeal.main_arg5)
      ∧ r.2.mem ((c.tc : Thread Cert.NsaProjReferenceIdeal.nD Cert.NsaProjReferenceIdeal.τ).loc Cert.NsaProjReferenceIdeal.main_arg6) = m ((c.tc : Thread Cert.NsaProjReferenceIdeal.nD Cert.NsaProjReferenceIdeal.τ).loc Cert.NsaProjReferenceIdeal.main_arg6))
      ∧ r.2.sem = fun _ => 0)

def quiescent_MlaExpand [hMlaExpand : Cert.MlaExpand.Facts] : Prop :=
  ∀ (m : (ℓ : Loc Cert.MlaExpand.nD Cert.MlaExpand.τ Cert.MlaExpand.sig) → Buf (Elt Bits) ℓ) (g : Dev Cert.MlaExpand.nD → PrngReg), Pre_MlaExpand m →
    θ_run (Cert.MlaExpand.defs (F := Bits)) (onTc (τ := Cert.MlaExpand.τ) (Cert.MlaExpand.main (F := Bits))) ⟨m, fun _ => 0, g⟩ (fun r => (∀ c : Dev Cert.MlaExpand.nD,
      r.2.mem ((c.tc : Thread Cert.MlaExpand.nD Cert.MlaExpand.τ).loc Cert.MlaExpand.main_arg0) = m ((c.tc : Thread Cert.MlaExpand.nD Cert.MlaExpand.τ).loc Cert.MlaExpand.main_arg0)
      ∧ r.2.mem ((c.tc : Thread Cert.MlaExpand.nD Cert.MlaExpand.τ).loc Cert.MlaExpand.main_arg1) = m ((c.tc : Thread Cert.MlaExpand.nD Cert.MlaExpand.τ).loc Cert.MlaExpand.main_arg1)
      ∧ r.2.mem ((c.tc : Thread Cert.MlaExpand.nD Cert.MlaExpand.τ).loc Cert.MlaExpand.main_arg2) = m ((c.tc : Thread Cert.MlaExpand.nD Cert.MlaExpand.τ).loc Cert.MlaExpand.main_arg2))
      ∧ r.2.sem = fun _ => 0)

def quiescent_MlaExpandIdeal [hMlaExpandIdeal : Cert.MlaExpandIdeal.Facts] : Prop :=
  ∀ (m : (ℓ : Loc Cert.MlaExpandIdeal.nD Cert.MlaExpandIdeal.τ Cert.MlaExpandIdeal.sig) → Buf (Elt Ideal) ℓ) (g : Dev Cert.MlaExpandIdeal.nD → PrngReg), Pre_MlaExpandIdeal m →
    θ_run (Cert.MlaExpandIdeal.defs (F := Ideal)) (onTc (τ := Cert.MlaExpandIdeal.τ) (Cert.MlaExpandIdeal.main (F := Ideal))) ⟨m, fun _ => 0, g⟩ (fun r => (∀ c : Dev Cert.MlaExpandIdeal.nD,
      r.2.mem ((c.tc : Thread Cert.MlaExpandIdeal.nD Cert.MlaExpandIdeal.τ).loc Cert.MlaExpandIdeal.main_arg0) = m ((c.tc : Thread Cert.MlaExpandIdeal.nD Cert.MlaExpandIdeal.τ).loc Cert.MlaExpandIdeal.main_arg0)
      ∧ r.2.mem ((c.tc : Thread Cert.MlaExpandIdeal.nD Cert.MlaExpandIdeal.τ).loc Cert.MlaExpandIdeal.main_arg1) = m ((c.tc : Thread Cert.MlaExpandIdeal.nD Cert.MlaExpandIdeal.τ).loc Cert.MlaExpandIdeal.main_arg1)
      ∧ r.2.mem ((c.tc : Thread Cert.MlaExpandIdeal.nD Cert.MlaExpandIdeal.τ).loc Cert.MlaExpandIdeal.main_arg2) = m ((c.tc : Thread Cert.MlaExpandIdeal.nD Cert.MlaExpandIdeal.τ).loc Cert.MlaExpandIdeal.main_arg2))
      ∧ r.2.sem = fun _ => 0)

def quiescent_MlaExpandReferenceIdeal [hMlaExpandReferenceIdeal : Cert.MlaExpandReferenceIdeal.Facts] : Prop :=
  ∀ (m : (ℓ : Loc Cert.MlaExpandReferenceIdeal.nD Cert.MlaExpandReferenceIdeal.τ Cert.MlaExpandReferenceIdeal.sig) → Buf (Elt Ideal) ℓ) (g : Dev Cert.MlaExpandReferenceIdeal.nD → PrngReg), Pre_MlaExpandReferenceIdeal m →
    θ_run (Cert.MlaExpandReferenceIdeal.defs (F := Ideal)) (onTc (τ := Cert.MlaExpandReferenceIdeal.τ) (Cert.MlaExpandReferenceIdeal.main (F := Ideal))) ⟨m, fun _ => 0, g⟩ (fun r => (∀ c : Dev Cert.MlaExpandReferenceIdeal.nD,
      r.2.mem ((c.tc : Thread Cert.MlaExpandReferenceIdeal.nD Cert.MlaExpandReferenceIdeal.τ).loc Cert.MlaExpandReferenceIdeal.main_arg0) = m ((c.tc : Thread Cert.MlaExpandReferenceIdeal.nD Cert.MlaExpandReferenceIdeal.τ).loc Cert.MlaExpandReferenceIdeal.main_arg0)
      ∧ r.2.mem ((c.tc : Thread Cert.MlaExpandReferenceIdeal.nD Cert.MlaExpandReferenceIdeal.τ).loc Cert.MlaExpandReferenceIdeal.main_arg1) = m ((c.tc : Thread Cert.MlaExpandReferenceIdeal.nD Cert.MlaExpandReferenceIdeal.τ).loc Cert.MlaExpandReferenceIdeal.main_arg1)
      ∧ r.2.mem ((c.tc : Thread Cert.MlaExpandReferenceIdeal.nD Cert.MlaExpandReferenceIdeal.τ).loc Cert.MlaExpandReferenceIdeal.main_arg2) = m ((c.tc : Thread Cert.MlaExpandReferenceIdeal.nD Cert.MlaExpandReferenceIdeal.τ).loc Cert.MlaExpandReferenceIdeal.main_arg2))
      ∧ r.2.sem = fun _ => 0)

def quiescent_MlaProj [hMlaProj : Cert.MlaProj.Facts] : Prop :=
  ∀ (m : (ℓ : Loc Cert.MlaProj.nD Cert.MlaProj.τ Cert.MlaProj.sig) → Buf (Elt Bits) ℓ) (g : Dev Cert.MlaProj.nD → PrngReg), Pre_MlaProj m →
    θ_run (Cert.MlaProj.defs (F := Bits)) (onTc (τ := Cert.MlaProj.τ) (Cert.MlaProj.main (F := Bits))) ⟨m, fun _ => 0, g⟩ (fun r => (∀ c : Dev Cert.MlaProj.nD,
      r.2.mem ((c.tc : Thread Cert.MlaProj.nD Cert.MlaProj.τ).loc Cert.MlaProj.main_arg0) = m ((c.tc : Thread Cert.MlaProj.nD Cert.MlaProj.τ).loc Cert.MlaProj.main_arg0)
      ∧ r.2.mem ((c.tc : Thread Cert.MlaProj.nD Cert.MlaProj.τ).loc Cert.MlaProj.main_arg1) = m ((c.tc : Thread Cert.MlaProj.nD Cert.MlaProj.τ).loc Cert.MlaProj.main_arg1)
      ∧ r.2.mem ((c.tc : Thread Cert.MlaProj.nD Cert.MlaProj.τ).loc Cert.MlaProj.main_arg2) = m ((c.tc : Thread Cert.MlaProj.nD Cert.MlaProj.τ).loc Cert.MlaProj.main_arg2)
      ∧ r.2.mem ((c.tc : Thread Cert.MlaProj.nD Cert.MlaProj.τ).loc Cert.MlaProj.main_arg3) = m ((c.tc : Thread Cert.MlaProj.nD Cert.MlaProj.τ).loc Cert.MlaProj.main_arg3)
      ∧ r.2.mem ((c.tc : Thread Cert.MlaProj.nD Cert.MlaProj.τ).loc Cert.MlaProj.main_arg4) = m ((c.tc : Thread Cert.MlaProj.nD Cert.MlaProj.τ).loc Cert.MlaProj.main_arg4)
      ∧ r.2.mem ((c.tc : Thread Cert.MlaProj.nD Cert.MlaProj.τ).loc Cert.MlaProj.main_arg5) = m ((c.tc : Thread Cert.MlaProj.nD Cert.MlaProj.τ).loc Cert.MlaProj.main_arg5)
      ∧ r.2.mem ((c.tc : Thread Cert.MlaProj.nD Cert.MlaProj.τ).loc Cert.MlaProj.main_arg6) = m ((c.tc : Thread Cert.MlaProj.nD Cert.MlaProj.τ).loc Cert.MlaProj.main_arg6)
      ∧ r.2.mem ((c.tc : Thread Cert.MlaProj.nD Cert.MlaProj.τ).loc Cert.MlaProj.main_arg7) = m ((c.tc : Thread Cert.MlaProj.nD Cert.MlaProj.τ).loc Cert.MlaProj.main_arg7)
      ∧ r.2.mem ((c.tc : Thread Cert.MlaProj.nD Cert.MlaProj.τ).loc Cert.MlaProj.main_arg8) = m ((c.tc : Thread Cert.MlaProj.nD Cert.MlaProj.τ).loc Cert.MlaProj.main_arg8)
      ∧ r.2.mem ((c.tc : Thread Cert.MlaProj.nD Cert.MlaProj.τ).loc Cert.MlaProj.main_arg9) = m ((c.tc : Thread Cert.MlaProj.nD Cert.MlaProj.τ).loc Cert.MlaProj.main_arg9))
      ∧ r.2.sem = fun _ => 0)

def quiescent_MlaProjIdeal [hMlaProjIdeal : Cert.MlaProjIdeal.Facts] : Prop :=
  ∀ (m : (ℓ : Loc Cert.MlaProjIdeal.nD Cert.MlaProjIdeal.τ Cert.MlaProjIdeal.sig) → Buf (Elt Ideal) ℓ) (g : Dev Cert.MlaProjIdeal.nD → PrngReg), Pre_MlaProjIdeal m →
    θ_run (Cert.MlaProjIdeal.defs (F := Ideal)) (onTc (τ := Cert.MlaProjIdeal.τ) (Cert.MlaProjIdeal.main (F := Ideal))) ⟨m, fun _ => 0, g⟩ (fun r => (∀ c : Dev Cert.MlaProjIdeal.nD,
      r.2.mem ((c.tc : Thread Cert.MlaProjIdeal.nD Cert.MlaProjIdeal.τ).loc Cert.MlaProjIdeal.main_arg0) = m ((c.tc : Thread Cert.MlaProjIdeal.nD Cert.MlaProjIdeal.τ).loc Cert.MlaProjIdeal.main_arg0)
      ∧ r.2.mem ((c.tc : Thread Cert.MlaProjIdeal.nD Cert.MlaProjIdeal.τ).loc Cert.MlaProjIdeal.main_arg1) = m ((c.tc : Thread Cert.MlaProjIdeal.nD Cert.MlaProjIdeal.τ).loc Cert.MlaProjIdeal.main_arg1)
      ∧ r.2.mem ((c.tc : Thread Cert.MlaProjIdeal.nD Cert.MlaProjIdeal.τ).loc Cert.MlaProjIdeal.main_arg2) = m ((c.tc : Thread Cert.MlaProjIdeal.nD Cert.MlaProjIdeal.τ).loc Cert.MlaProjIdeal.main_arg2)
      ∧ r.2.mem ((c.tc : Thread Cert.MlaProjIdeal.nD Cert.MlaProjIdeal.τ).loc Cert.MlaProjIdeal.main_arg3) = m ((c.tc : Thread Cert.MlaProjIdeal.nD Cert.MlaProjIdeal.τ).loc Cert.MlaProjIdeal.main_arg3)
      ∧ r.2.mem ((c.tc : Thread Cert.MlaProjIdeal.nD Cert.MlaProjIdeal.τ).loc Cert.MlaProjIdeal.main_arg4) = m ((c.tc : Thread Cert.MlaProjIdeal.nD Cert.MlaProjIdeal.τ).loc Cert.MlaProjIdeal.main_arg4)
      ∧ r.2.mem ((c.tc : Thread Cert.MlaProjIdeal.nD Cert.MlaProjIdeal.τ).loc Cert.MlaProjIdeal.main_arg5) = m ((c.tc : Thread Cert.MlaProjIdeal.nD Cert.MlaProjIdeal.τ).loc Cert.MlaProjIdeal.main_arg5)
      ∧ r.2.mem ((c.tc : Thread Cert.MlaProjIdeal.nD Cert.MlaProjIdeal.τ).loc Cert.MlaProjIdeal.main_arg6) = m ((c.tc : Thread Cert.MlaProjIdeal.nD Cert.MlaProjIdeal.τ).loc Cert.MlaProjIdeal.main_arg6)
      ∧ r.2.mem ((c.tc : Thread Cert.MlaProjIdeal.nD Cert.MlaProjIdeal.τ).loc Cert.MlaProjIdeal.main_arg7) = m ((c.tc : Thread Cert.MlaProjIdeal.nD Cert.MlaProjIdeal.τ).loc Cert.MlaProjIdeal.main_arg7)
      ∧ r.2.mem ((c.tc : Thread Cert.MlaProjIdeal.nD Cert.MlaProjIdeal.τ).loc Cert.MlaProjIdeal.main_arg8) = m ((c.tc : Thread Cert.MlaProjIdeal.nD Cert.MlaProjIdeal.τ).loc Cert.MlaProjIdeal.main_arg8)
      ∧ r.2.mem ((c.tc : Thread Cert.MlaProjIdeal.nD Cert.MlaProjIdeal.τ).loc Cert.MlaProjIdeal.main_arg9) = m ((c.tc : Thread Cert.MlaProjIdeal.nD Cert.MlaProjIdeal.τ).loc Cert.MlaProjIdeal.main_arg9))
      ∧ r.2.sem = fun _ => 0)

def quiescent_MlaProjReferenceIdeal [hMlaProjReferenceIdeal : Cert.MlaProjReferenceIdeal.Facts] : Prop :=
  ∀ (m : (ℓ : Loc Cert.MlaProjReferenceIdeal.nD Cert.MlaProjReferenceIdeal.τ Cert.MlaProjReferenceIdeal.sig) → Buf (Elt Ideal) ℓ) (g : Dev Cert.MlaProjReferenceIdeal.nD → PrngReg), Pre_MlaProjReferenceIdeal m →
    θ_run (Cert.MlaProjReferenceIdeal.defs (F := Ideal)) (onTc (τ := Cert.MlaProjReferenceIdeal.τ) (Cert.MlaProjReferenceIdeal.main (F := Ideal))) ⟨m, fun _ => 0, g⟩ (fun r => (∀ c : Dev Cert.MlaProjReferenceIdeal.nD,
      r.2.mem ((c.tc : Thread Cert.MlaProjReferenceIdeal.nD Cert.MlaProjReferenceIdeal.τ).loc Cert.MlaProjReferenceIdeal.main_arg0) = m ((c.tc : Thread Cert.MlaProjReferenceIdeal.nD Cert.MlaProjReferenceIdeal.τ).loc Cert.MlaProjReferenceIdeal.main_arg0)
      ∧ r.2.mem ((c.tc : Thread Cert.MlaProjReferenceIdeal.nD Cert.MlaProjReferenceIdeal.τ).loc Cert.MlaProjReferenceIdeal.main_arg1) = m ((c.tc : Thread Cert.MlaProjReferenceIdeal.nD Cert.MlaProjReferenceIdeal.τ).loc Cert.MlaProjReferenceIdeal.main_arg1)
      ∧ r.2.mem ((c.tc : Thread Cert.MlaProjReferenceIdeal.nD Cert.MlaProjReferenceIdeal.τ).loc Cert.MlaProjReferenceIdeal.main_arg2) = m ((c.tc : Thread Cert.MlaProjReferenceIdeal.nD Cert.MlaProjReferenceIdeal.τ).loc Cert.MlaProjReferenceIdeal.main_arg2)
      ∧ r.2.mem ((c.tc : Thread Cert.MlaProjReferenceIdeal.nD Cert.MlaProjReferenceIdeal.τ).loc Cert.MlaProjReferenceIdeal.main_arg3) = m ((c.tc : Thread Cert.MlaProjReferenceIdeal.nD Cert.MlaProjReferenceIdeal.τ).loc Cert.MlaProjReferenceIdeal.main_arg3)
      ∧ r.2.mem ((c.tc : Thread Cert.MlaProjReferenceIdeal.nD Cert.MlaProjReferenceIdeal.τ).loc Cert.MlaProjReferenceIdeal.main_arg4) = m ((c.tc : Thread Cert.MlaProjReferenceIdeal.nD Cert.MlaProjReferenceIdeal.τ).loc Cert.MlaProjReferenceIdeal.main_arg4)
      ∧ r.2.mem ((c.tc : Thread Cert.MlaProjReferenceIdeal.nD Cert.MlaProjReferenceIdeal.τ).loc Cert.MlaProjReferenceIdeal.main_arg5) = m ((c.tc : Thread Cert.MlaProjReferenceIdeal.nD Cert.MlaProjReferenceIdeal.τ).loc Cert.MlaProjReferenceIdeal.main_arg5)
      ∧ r.2.mem ((c.tc : Thread Cert.MlaProjReferenceIdeal.nD Cert.MlaProjReferenceIdeal.τ).loc Cert.MlaProjReferenceIdeal.main_arg6) = m ((c.tc : Thread Cert.MlaProjReferenceIdeal.nD Cert.MlaProjReferenceIdeal.τ).loc Cert.MlaProjReferenceIdeal.main_arg6)
      ∧ r.2.mem ((c.tc : Thread Cert.MlaProjReferenceIdeal.nD Cert.MlaProjReferenceIdeal.τ).loc Cert.MlaProjReferenceIdeal.main_arg7) = m ((c.tc : Thread Cert.MlaProjReferenceIdeal.nD Cert.MlaProjReferenceIdeal.τ).loc Cert.MlaProjReferenceIdeal.main_arg7)
      ∧ r.2.mem ((c.tc : Thread Cert.MlaProjReferenceIdeal.nD Cert.MlaProjReferenceIdeal.τ).loc Cert.MlaProjReferenceIdeal.main_arg8) = m ((c.tc : Thread Cert.MlaProjReferenceIdeal.nD Cert.MlaProjReferenceIdeal.τ).loc Cert.MlaProjReferenceIdeal.main_arg8)
      ∧ r.2.mem ((c.tc : Thread Cert.MlaProjReferenceIdeal.nD Cert.MlaProjReferenceIdeal.τ).loc Cert.MlaProjReferenceIdeal.main_arg9) = m ((c.tc : Thread Cert.MlaProjReferenceIdeal.nD Cert.MlaProjReferenceIdeal.τ).loc Cert.MlaProjReferenceIdeal.main_arg9))
      ∧ r.2.sem = fun _ => 0)

def quiescent_MobaMeans [hMobaMeans : Cert.MobaMeans.Facts] : Prop :=
  ∀ (m : (ℓ : Loc Cert.MobaMeans.nD Cert.MobaMeans.τ Cert.MobaMeans.sig) → Buf (Elt Bits) ℓ) (g : Dev Cert.MobaMeans.nD → PrngReg), Pre_MobaMeans m →
    θ_run (Cert.MobaMeans.defs (F := Bits)) (onTc (τ := Cert.MobaMeans.τ) (Cert.MobaMeans.main (F := Bits))) ⟨m, fun _ => 0, g⟩ (fun r => (∀ c : Dev Cert.MobaMeans.nD,
      r.2.mem ((c.tc : Thread Cert.MobaMeans.nD Cert.MobaMeans.τ).loc Cert.MobaMeans.main_arg0) = m ((c.tc : Thread Cert.MobaMeans.nD Cert.MobaMeans.τ).loc Cert.MobaMeans.main_arg0))
      ∧ r.2.sem = fun _ => 0)

def quiescent_MobaMeansIdeal [hMobaMeansIdeal : Cert.MobaMeansIdeal.Facts] : Prop :=
  ∀ (m : (ℓ : Loc Cert.MobaMeansIdeal.nD Cert.MobaMeansIdeal.τ Cert.MobaMeansIdeal.sig) → Buf (Elt Ideal) ℓ) (g : Dev Cert.MobaMeansIdeal.nD → PrngReg), Pre_MobaMeansIdeal m →
    θ_run (Cert.MobaMeansIdeal.defs (F := Ideal)) (onTc (τ := Cert.MobaMeansIdeal.τ) (Cert.MobaMeansIdeal.main (F := Ideal))) ⟨m, fun _ => 0, g⟩ (fun r => (∀ c : Dev Cert.MobaMeansIdeal.nD,
      r.2.mem ((c.tc : Thread Cert.MobaMeansIdeal.nD Cert.MobaMeansIdeal.τ).loc Cert.MobaMeansIdeal.main_arg0) = m ((c.tc : Thread Cert.MobaMeansIdeal.nD Cert.MobaMeansIdeal.τ).loc Cert.MobaMeansIdeal.main_arg0))
      ∧ r.2.sem = fun _ => 0)

def quiescent_MobaMeansReferenceIdeal [hMobaMeansReferenceIdeal : Cert.MobaMeansReferenceIdeal.Facts] : Prop :=
  ∀ (m : (ℓ : Loc Cert.MobaMeansReferenceIdeal.nD Cert.MobaMeansReferenceIdeal.τ Cert.MobaMeansReferenceIdeal.sig) → Buf (Elt Ideal) ℓ) (g : Dev Cert.MobaMeansReferenceIdeal.nD → PrngReg), Pre_MobaMeansReferenceIdeal m →
    θ_run (Cert.MobaMeansReferenceIdeal.defs (F := Ideal)) (onTc (τ := Cert.MobaMeansReferenceIdeal.τ) (Cert.MobaMeansReferenceIdeal.main (F := Ideal))) ⟨m, fun _ => 0, g⟩ (fun r => (∀ c : Dev Cert.MobaMeansReferenceIdeal.nD,
      r.2.mem ((c.tc : Thread Cert.MobaMeansReferenceIdeal.nD Cert.MobaMeansReferenceIdeal.τ).loc Cert.MobaMeansReferenceIdeal.main_arg0) = m ((c.tc : Thread Cert.MobaMeansReferenceIdeal.nD Cert.MobaMeansReferenceIdeal.τ).loc Cert.MobaMeansReferenceIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Mlp_MlpIdeal : Prop :=
  True

def algebraic_MlpIdeal_MlpReferenceIdeal [hMlpIdeal : Cert.MlpIdeal.Facts] [hMlpReferenceIdeal : Cert.MlpReferenceIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpIdeal m →
    (∀ c : Dev Cert.MlpIdeal.nD,
      m' ((c.tc : Thread Cert.MlpReferenceIdeal.nD Cert.MlpReferenceIdeal.τ).loc Cert.MlpReferenceIdeal.main_arg0) = m ((c.tc : Thread Cert.MlpIdeal.nD Cert.MlpIdeal.τ).loc Cert.MlpIdeal.main_arg0)
      ∧ m' ((c.tc : Thread Cert.MlpReferenceIdeal.nD Cert.MlpReferenceIdeal.τ).loc Cert.MlpReferenceIdeal.main_arg1) = m ((c.tc : Thread Cert.MlpIdeal.nD Cert.MlpIdeal.τ).loc Cert.MlpIdeal.main_arg1)
      ∧ m' ((c.tc : Thread Cert.MlpReferenceIdeal.nD Cert.MlpReferenceIdeal.τ).loc Cert.MlpReferenceIdeal.main_arg2) = m ((c.tc : Thread Cert.MlpIdeal.nD Cert.MlpIdeal.τ).loc Cert.MlpIdeal.main_arg2)
      ∧ m' ((c.tc : Thread Cert.MlpReferenceIdeal.nD Cert.MlpReferenceIdeal.τ).loc Cert.MlpReferenceIdeal.main_arg3) = m ((c.tc : Thread Cert.MlpIdeal.nD Cert.MlpIdeal.τ).loc Cert.MlpIdeal.main_arg3)) →
    ∃ (v0 : (c : Dev Cert.MlpIdeal.nD) → Buf (Elt Ideal) ((c.tc : Thread Cert.MlpIdeal.nD Cert.MlpIdeal.τ).loc Cert.MlpIdeal.main_v3)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v3) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v17) = v0 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3))

def preserves_Outproj_OutprojIdeal : Prop :=
  True

def algebraic_OutprojIdeal_OutprojReferenceIdeal [hOutprojIdeal : Cert.OutprojIdeal.Facts] [hOutprojReferenceIdeal : Cert.OutprojReferenceIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojReferenceIdeal.nD Cert.OutprojReferenceIdeal.τ Cert.OutprojReferenceIdeal.sig) → Buf (Elt Ideal) ℓ) (g' : Dev Cert.OutprojReferenceIdeal.nD → PrngReg), Pre_OutprojIdeal m →
    (∀ c : Dev Cert.OutprojIdeal.nD,
      m' ((c.tc : Thread Cert.OutprojReferenceIdeal.nD Cert.OutprojReferenceIdeal.τ).loc Cert.OutprojReferenceIdeal.main_arg0) = m ((c.tc : Thread Cert.OutprojIdeal.nD Cert.OutprojIdeal.τ).loc Cert.OutprojIdeal.main_arg0)
      ∧ m' ((c.tc : Thread Cert.OutprojReferenceIdeal.nD Cert.OutprojReferenceIdeal.τ).loc Cert.OutprojReferenceIdeal.main_arg1) = m ((c.tc : Thread Cert.OutprojIdeal.nD Cert.OutprojIdeal.τ).loc Cert.OutprojIdeal.main_arg1)
      ∧ m' ((c.tc : Thread Cert.OutprojReferenceIdeal.nD Cert.OutprojReferenceIdeal.τ).loc Cert.OutprojReferenceIdeal.main_arg2) = m ((c.tc : Thread Cert.OutprojIdeal.nD Cert.OutprojIdeal.τ).loc Cert.OutprojIdeal.main_arg2)) →
    ∃ (v0 : (c : Dev Cert.OutprojIdeal.nD) → Buf (Elt Ideal) ((c.tc : Thread Cert.OutprojIdeal.nD Cert.OutprojIdeal.τ).loc Cert.OutprojIdeal.main_v1)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v1) = v0 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2))
      ∧ θ_run (Cert.OutprojReferenceIdeal.defs (F := Ideal)) (onTc (τ := Cert.OutprojReferenceIdeal.τ) (Cert.OutprojReferenceIdeal.main (F := Ideal))) ⟨m', fun _ => 0, g'⟩ (fun r => ∀ c : Dev Cert.OutprojReferenceIdeal.nD,
          r.2.mem ((c.tc : Thread Cert.OutprojReferenceIdeal.nD Cert.OutprojReferenceIdeal.τ).loc Cert.OutprojReferenceIdeal.main_v2) = v0 c
          ∧ r.2.mem ((c.tc : Thread Cert.OutprojReferenceIdeal.nD Cert.OutprojReferenceIdeal.τ).loc Cert.OutprojReferenceIdeal.main_arg0) = m' ((c.tc : Thread Cert.OutprojReferenceIdeal.nD Cert.OutprojReferenceIdeal.τ).loc Cert.OutprojReferenceIdeal.main_arg0)
          ∧ r.2.mem ((c.tc : Thread Cert.OutprojReferenceIdeal.nD Cert.OutprojReferenceIdeal.τ).loc Cert.OutprojReferenceIdeal.main_arg1) = m' ((c.tc : Thread Cert.OutprojReferenceIdeal.nD Cert.OutprojReferenceIdeal.τ).loc Cert.OutprojReferenceIdeal.main_arg1)
          ∧ r.2.mem ((c.tc : Thread Cert.OutprojReferenceIdeal.nD Cert.OutprojReferenceIdeal.τ).loc Cert.OutprojReferenceIdeal.main_arg2) = m' ((c.tc : Thread Cert.OutprojReferenceIdeal.nD Cert.OutprojReferenceIdeal.τ).loc Cert.OutprojReferenceIdeal.main_arg2))

def preserves_MobaProj_MobaProjIdeal : Prop :=
  True

def algebraic_MobaProjIdeal_MobaProjReferenceIdeal [hMobaProjIdeal : Cert.MobaProjIdeal.Facts] [hMobaProjReferenceIdeal : Cert.MobaProjReferenceIdeal.Facts] : Prop :=
  ∀ (m : (ℓ : Loc Cert.MobaProjIdeal.nD Cert.MobaProjIdeal.τ Cert.MobaProjIdeal.sig) → Buf (Elt Ideal) ℓ) (g : Dev Cert.MobaProjIdeal.nD → PrngReg)
    (m' : (ℓ : Loc Cert.MobaProjReferenceIdeal.nD Cert.MobaProjReferenceIdeal.τ Cert.MobaProjReferenceIdeal.sig) → Buf (Elt Ideal) ℓ) (g' : Dev Cert.MobaProjReferenceIdeal.nD → PrngReg), Pre_MobaProjIdeal m →
    (∀ c : Dev Cert.MobaProjIdeal.nD,
      m' ((c.tc : Thread Cert.MobaProjReferenceIdeal.nD Cert.MobaProjReferenceIdeal.τ).loc Cert.MobaProjReferenceIdeal.main_arg0) = m ((c.tc : Thread Cert.MobaProjIdeal.nD Cert.MobaProjIdeal.τ).loc Cert.MobaProjIdeal.main_arg0)
      ∧ m' ((c.tc : Thread Cert.MobaProjReferenceIdeal.nD Cert.MobaProjReferenceIdeal.τ).loc Cert.MobaProjReferenceIdeal.main_arg1) = m ((c.tc : Thread Cert.MobaProjIdeal.nD Cert.MobaProjIdeal.τ).loc Cert.MobaProjIdeal.main_arg1)
      ∧ m' ((c.tc : Thread Cert.MobaProjReferenceIdeal.nD Cert.MobaProjReferenceIdeal.τ).loc Cert.MobaProjReferenceIdeal.main_arg2) = m ((c.tc : Thread Cert.MobaProjIdeal.nD Cert.MobaProjIdeal.τ).loc Cert.MobaProjIdeal.main_arg2)
      ∧ m' ((c.tc : Thread Cert.MobaProjReferenceIdeal.nD Cert.MobaProjReferenceIdeal.τ).loc Cert.MobaProjReferenceIdeal.main_arg3) = m ((c.tc : Thread Cert.MobaProjIdeal.nD Cert.MobaProjIdeal.τ).loc Cert.MobaProjIdeal.main_arg3)
      ∧ m' ((c.tc : Thread Cert.MobaProjReferenceIdeal.nD Cert.MobaProjReferenceIdeal.τ).loc Cert.MobaProjReferenceIdeal.main_arg4) = m ((c.tc : Thread Cert.MobaProjIdeal.nD Cert.MobaProjIdeal.τ).loc Cert.MobaProjIdeal.main_arg4)
      ∧ m' ((c.tc : Thread Cert.MobaProjReferenceIdeal.nD Cert.MobaProjReferenceIdeal.τ).loc Cert.MobaProjReferenceIdeal.main_arg5) = m ((c.tc : Thread Cert.MobaProjIdeal.nD Cert.MobaProjIdeal.τ).loc Cert.MobaProjIdeal.main_arg5)
      ∧ m' ((c.tc : Thread Cert.MobaProjReferenceIdeal.nD Cert.MobaProjReferenceIdeal.τ).loc Cert.MobaProjReferenceIdeal.main_arg6) = m ((c.tc : Thread Cert.MobaProjIdeal.nD Cert.MobaProjIdeal.τ).loc Cert.MobaProjIdeal.main_arg6)) →
    ∃ (v0 : (c : Dev Cert.MobaProjIdeal.nD) → Buf (Elt Ideal) ((c.tc : Thread Cert.MobaProjIdeal.nD Cert.MobaProjIdeal.τ).loc Cert.MobaProjIdeal.main_v39_0)) (v1 : (c : Dev Cert.MobaProjIdeal.nD) → Buf (Elt Ideal) ((c.tc : Thread Cert.MobaProjIdeal.nD Cert.MobaProjIdeal.τ).loc Cert.MobaProjIdeal.main_v39_1)) (v2 : (c : Dev Cert.MobaProjIdeal.nD) → Buf (Elt Ideal) ((c.tc : Thread Cert.MobaProjIdeal.nD Cert.MobaProjIdeal.τ).loc Cert.MobaProjIdeal.main_v39_2)),
      θ_run (Cert.MobaProjIdeal.defs (F := Ideal)) (onTc (τ := Cert.MobaProjIdeal.τ) (Cert.MobaProjIdeal.main (F := Ideal))) ⟨m, fun _ => 0, g⟩ (fun r => ∀ c : Dev Cert.MobaProjIdeal.nD,
          r.2.mem ((c.tc : Thread Cert.MobaProjIdeal.nD Cert.MobaProjIdeal.τ).loc Cert.MobaProjIdeal.main_v39_0) = v0 c
          ∧ r.2.mem ((c.tc : Thread Cert.MobaProjIdeal.nD Cert.MobaProjIdeal.τ).loc Cert.MobaProjIdeal.main_v39_1) = v1 c
          ∧ r.2.mem ((c.tc : Thread Cert.MobaProjIdeal.nD Cert.MobaProjIdeal.τ).loc Cert.MobaProjIdeal.main_v39_2) = v2 c
          ∧ r.2.mem ((c.tc : Thread Cert.MobaProjIdeal.nD Cert.MobaProjIdeal.τ).loc Cert.MobaProjIdeal.main_arg0) = m ((c.tc : Thread Cert.MobaProjIdeal.nD Cert.MobaProjIdeal.τ).loc Cert.MobaProjIdeal.main_arg0)
          ∧ r.2.mem ((c.tc : Thread Cert.MobaProjIdeal.nD Cert.MobaProjIdeal.τ).loc Cert.MobaProjIdeal.main_arg1) = m ((c.tc : Thread Cert.MobaProjIdeal.nD Cert.MobaProjIdeal.τ).loc Cert.MobaProjIdeal.main_arg1)
          ∧ r.2.mem ((c.tc : Thread Cert.MobaProjIdeal.nD Cert.MobaProjIdeal.τ).loc Cert.MobaProjIdeal.main_arg2) = m ((c.tc : Thread Cert.MobaProjIdeal.nD Cert.MobaProjIdeal.τ).loc Cert.MobaProjIdeal.main_arg2)
          ∧ r.2.mem ((c.tc : Thread Cert.MobaProjIdeal.nD Cert.MobaProjIdeal.τ).loc Cert.MobaProjIdeal.main_arg3) = m ((c.tc : Thread Cert.MobaProjIdeal.nD Cert.MobaProjIdeal.τ).loc Cert.MobaProjIdeal.main_arg3)
          ∧ r.2.mem ((c.tc : Thread Cert.MobaProjIdeal.nD Cert.MobaProjIdeal.τ).loc Cert.MobaProjIdeal.main_arg4) = m ((c.tc : Thread Cert.MobaProjIdeal.nD Cert.MobaProjIdeal.τ).loc Cert.MobaProjIdeal.main_arg4)
          ∧ r.2.mem ((c.tc : Thread Cert.MobaProjIdeal.nD Cert.MobaProjIdeal.τ).loc Cert.MobaProjIdeal.main_arg5) = m ((c.tc : Thread Cert.MobaProjIdeal.nD Cert.MobaProjIdeal.τ).loc Cert.MobaProjIdeal.main_arg5)
          ∧ r.2.mem ((c.tc : Thread Cert.MobaProjIdeal.nD Cert.MobaProjIdeal.τ).loc Cert.MobaProjIdeal.main_arg6) = m ((c.tc : Thread Cert.MobaProjIdeal.nD Cert.MobaProjIdeal.τ).loc Cert.MobaProjIdeal.main_arg6))
      ∧ θ_run (Cert.MobaProjReferenceIdeal.defs (F := Ideal)) (onTc (τ := Cert.MobaProjReferenceIdeal.τ) (Cert.MobaProjReferenceIdeal.main (F := Ideal))) ⟨m', fun _ => 0, g'⟩ (fun r => ∀ c : Dev Cert.MobaProjReferenceIdeal.nD,
          r.2.mem ((c.tc : Thread Cert.MobaProjReferenceIdeal.nD Cert.MobaProjReferenceIdeal.τ).loc Cert.MobaProjReferenceIdeal.main_v91) = v0 c
          ∧ r.2.mem ((c.tc : Thread Cert.MobaProjReferenceIdeal.nD Cert.MobaProjReferenceIdeal.τ).loc Cert.MobaProjReferenceIdeal.main_v90) = v1 c
          ∧ r.2.mem ((c.tc : Thread Cert.MobaProjReferenceIdeal.nD Cert.MobaProjReferenceIdeal.τ).loc Cert.MobaProjReferenceIdeal.main_v92) = v2 c
          ∧ r.2.mem ((c.tc : Thread Cert.MobaProjReferenceIdeal.nD Cert.MobaProjReferenceIdeal.τ).loc Cert.MobaProjReferenceIdeal.main_arg0) = m' ((c.tc : Thread Cert.MobaProjReferenceIdeal.nD Cert.MobaProjReferenceIdeal.τ).loc Cert.MobaProjReferenceIdeal.main_arg0)
          ∧ r.2.mem ((c.tc : Thread Cert.MobaProjReferenceIdeal.nD Cert.MobaProjReferenceIdeal.τ).loc Cert.MobaProjReferenceIdeal.main_arg1) = m' ((c.tc : Thread Cert.MobaProjReferenceIdeal.nD Cert.MobaProjReferenceIdeal.τ).loc Cert.MobaProjReferenceIdeal.main_arg1)
          ∧ r.2.mem ((c.tc : Thread Cert.MobaProjReferenceIdeal.nD Cert.MobaProjReferenceIdeal.τ).loc Cert.MobaProjReferenceIdeal.main_arg2) = m' ((c.tc : Thread Cert.MobaProjReferenceIdeal.nD Cert.MobaProjReferenceIdeal.τ).loc Cert.MobaProjReferenceIdeal.main_arg2)
          ∧ r.2.mem ((c.tc : Thread Cert.MobaProjReferenceIdeal.nD Cert.MobaProjReferenceIdeal.τ).loc Cert.MobaProjReferenceIdeal.main_arg3) = m' ((c.tc : Thread Cert.MobaProjReferenceIdeal.nD Cert.MobaProjReferenceIdeal.τ).loc Cert.MobaProjReferenceIdeal.main_arg3)
          ∧ r.2.mem ((c.tc : Thread Cert.MobaProjReferenceIdeal.nD Cert.MobaProjReferenceIdeal.τ).loc Cert.MobaProjReferenceIdeal.main_arg4) = m' ((c.tc : Thread Cert.MobaProjReferenceIdeal.nD Cert.MobaProjReferenceIdeal.τ).loc Cert.MobaProjReferenceIdeal.main_arg4)
          ∧ r.2.mem ((c.tc : Thread Cert.MobaProjReferenceIdeal.nD Cert.MobaProjReferenceIdeal.τ).loc Cert.MobaProjReferenceIdeal.main_arg5) = m' ((c.tc : Thread Cert.MobaProjReferenceIdeal.nD Cert.MobaProjReferenceIdeal.τ).loc Cert.MobaProjReferenceIdeal.main_arg5)
          ∧ r.2.mem ((c.tc : Thread Cert.MobaProjReferenceIdeal.nD Cert.MobaProjReferenceIdeal.τ).loc Cert.MobaProjReferenceIdeal.main_arg6) = m' ((c.tc : Thread Cert.MobaProjReferenceIdeal.nD Cert.MobaProjReferenceIdeal.τ).loc Cert.MobaProjReferenceIdeal.main_arg6))

def preserves_MobaSample_MobaSampleIdeal : Prop :=
  True

def algebraic_MobaSampleIdeal_MobaSampleReferenceIdeal [hMobaSampleIdeal : Cert.MobaSampleIdeal.Facts] [hMobaSampleReferenceIdeal : Cert.MobaSampleReferenceIdeal.Facts] : Prop :=
  ∀ (m : (ℓ : Loc Cert.MobaSampleIdeal.nD Cert.MobaSampleIdeal.τ Cert.MobaSampleIdeal.sig) → Buf (Elt Ideal) ℓ) (g : Dev Cert.MobaSampleIdeal.nD → PrngReg)
    (m' : (ℓ : Loc Cert.MobaSampleReferenceIdeal.nD Cert.MobaSampleReferenceIdeal.τ Cert.MobaSampleReferenceIdeal.sig) → Buf (Elt Ideal) ℓ) (g' : Dev Cert.MobaSampleReferenceIdeal.nD → PrngReg), Pre_MobaSampleIdeal m →
    (∀ c : Dev Cert.MobaSampleIdeal.nD,
      m' ((c.tc : Thread Cert.MobaSampleReferenceIdeal.nD Cert.MobaSampleReferenceIdeal.τ).loc Cert.MobaSampleReferenceIdeal.main_arg0) = m ((c.tc : Thread Cert.MobaSampleIdeal.nD Cert.MobaSampleIdeal.τ).loc Cert.MobaSampleIdeal.main_arg0)
      ∧ m' ((c.tc : Thread Cert.MobaSampleReferenceIdeal.nD Cert.MobaSampleReferenceIdeal.τ).loc Cert.MobaSampleReferenceIdeal.main_arg1) = m ((c.tc : Thread Cert.MobaSampleIdeal.nD Cert.MobaSampleIdeal.τ).loc Cert.MobaSampleIdeal.main_arg1)
      ∧ m' ((c.tc : Thread Cert.MobaSampleReferenceIdeal.nD Cert.MobaSampleReferenceIdeal.τ).loc Cert.MobaSampleReferenceIdeal.main_arg2) = m ((c.tc : Thread Cert.MobaSampleIdeal.nD Cert.MobaSampleIdeal.τ).loc Cert.MobaSampleIdeal.main_arg2)
      ∧ m' ((c.tc : Thread Cert.MobaSampleReferenceIdeal.nD Cert.MobaSampleReferenceIdeal.τ).loc Cert.MobaSampleReferenceIdeal.main_arg3) = m ((c.tc : Thread Cert.MobaSampleIdeal.nD Cert.MobaSampleIdeal.τ).loc Cert.MobaSampleIdeal.main_arg3)
      ∧ m' ((c.tc : Thread Cert.MobaSampleReferenceIdeal.nD Cert.MobaSampleReferenceIdeal.τ).loc Cert.MobaSampleReferenceIdeal.main_arg4) = m ((c.tc : Thread Cert.MobaSampleIdeal.nD Cert.MobaSampleIdeal.τ).loc Cert.MobaSampleIdeal.main_arg4)
      ∧ m' ((c.tc : Thread Cert.MobaSampleReferenceIdeal.nD Cert.MobaSampleReferenceIdeal.τ).loc Cert.MobaSampleReferenceIdeal.main_arg5) = m ((c.tc : Thread Cert.MobaSampleIdeal.nD Cert.MobaSampleIdeal.τ).loc Cert.MobaSampleIdeal.main_arg5)
      ∧ m' ((c.tc : Thread Cert.MobaSampleReferenceIdeal.nD Cert.MobaSampleReferenceIdeal.τ).loc Cert.MobaSampleReferenceIdeal.main_arg6) = m ((c.tc : Thread Cert.MobaSampleIdeal.nD Cert.MobaSampleIdeal.τ).loc Cert.MobaSampleIdeal.main_arg6)) →
    ∃ (v0 : (c : Dev Cert.MobaSampleIdeal.nD) → Buf (Elt Ideal) ((c.tc : Thread Cert.MobaSampleIdeal.nD Cert.MobaSampleIdeal.τ).loc Cert.MobaSampleIdeal.main_v45_0)) (v1 : (c : Dev Cert.MobaSampleIdeal.nD) → Buf (Elt Ideal) ((c.tc : Thread Cert.MobaSampleIdeal.nD Cert.MobaSampleIdeal.τ).loc Cert.MobaSampleIdeal.main_v45_1)) (v2 : (c : Dev Cert.MobaSampleIdeal.nD) → Buf (Elt Ideal) ((c.tc : Thread Cert.MobaSampleIdeal.nD Cert.MobaSampleIdeal.τ).loc Cert.MobaSampleIdeal.main_v45_2)),
      θ_run (Cert.MobaSampleIdeal.defs (F := Ideal)) (onTc (τ := Cert.MobaSampleIdeal.τ) (Cert.MobaSampleIdeal.main (F := Ideal))) ⟨m, fun _ => 0, g⟩ (fun r => ∀ c : Dev Cert.MobaSampleIdeal.nD,
          r.2.mem ((c.tc : Thread Cert.MobaSampleIdeal.nD Cert.MobaSampleIdeal.τ).loc Cert.MobaSampleIdeal.main_v45_0) = v0 c
          ∧ r.2.mem ((c.tc : Thread Cert.MobaSampleIdeal.nD Cert.MobaSampleIdeal.τ).loc Cert.MobaSampleIdeal.main_v45_1) = v1 c
          ∧ r.2.mem ((c.tc : Thread Cert.MobaSampleIdeal.nD Cert.MobaSampleIdeal.τ).loc Cert.MobaSampleIdeal.main_v45_2) = v2 c
          ∧ r.2.mem ((c.tc : Thread Cert.MobaSampleIdeal.nD Cert.MobaSampleIdeal.τ).loc Cert.MobaSampleIdeal.main_arg0) = m ((c.tc : Thread Cert.MobaSampleIdeal.nD Cert.MobaSampleIdeal.τ).loc Cert.MobaSampleIdeal.main_arg0)
          ∧ r.2.mem ((c.tc : Thread Cert.MobaSampleIdeal.nD Cert.MobaSampleIdeal.τ).loc Cert.MobaSampleIdeal.main_arg1) = m ((c.tc : Thread Cert.MobaSampleIdeal.nD Cert.MobaSampleIdeal.τ).loc Cert.MobaSampleIdeal.main_arg1)
          ∧ r.2.mem ((c.tc : Thread Cert.MobaSampleIdeal.nD Cert.MobaSampleIdeal.τ).loc Cert.MobaSampleIdeal.main_arg2) = m ((c.tc : Thread Cert.MobaSampleIdeal.nD Cert.MobaSampleIdeal.τ).loc Cert.MobaSampleIdeal.main_arg2)
          ∧ r.2.mem ((c.tc : Thread Cert.MobaSampleIdeal.nD Cert.MobaSampleIdeal.τ).loc Cert.MobaSampleIdeal.main_arg3) = m ((c.tc : Thread Cert.MobaSampleIdeal.nD Cert.MobaSampleIdeal.τ).loc Cert.MobaSampleIdeal.main_arg3)
          ∧ r.2.mem ((c.tc : Thread Cert.MobaSampleIdeal.nD Cert.MobaSampleIdeal.τ).loc Cert.MobaSampleIdeal.main_arg4) = m ((c.tc : Thread Cert.MobaSampleIdeal.nD Cert.MobaSampleIdeal.τ).loc Cert.MobaSampleIdeal.main_arg4)
          ∧ r.2.mem ((c.tc : Thread Cert.MobaSampleIdeal.nD Cert.MobaSampleIdeal.τ).loc Cert.MobaSampleIdeal.main_arg5) = m ((c.tc : Thread Cert.MobaSampleIdeal.nD Cert.MobaSampleIdeal.τ).loc Cert.MobaSampleIdeal.main_arg5)
          ∧ r.2.mem ((c.tc : Thread Cert.MobaSampleIdeal.nD Cert.MobaSampleIdeal.τ).loc Cert.MobaSampleIdeal.main_arg6) = m ((c.tc : Thread Cert.MobaSampleIdeal.nD Cert.MobaSampleIdeal.τ).loc Cert.MobaSampleIdeal.main_arg6))
      ∧ θ_run (Cert.MobaSampleReferenceIdeal.defs (F := Ideal)) (onTc (τ := Cert.MobaSampleReferenceIdeal.τ) (Cert.MobaSampleReferenceIdeal.main (F := Ideal))) ⟨m', fun _ => 0, g'⟩ (fun r => ∀ c : Dev Cert.MobaSampleReferenceIdeal.nD,
          r.2.mem ((c.tc : Thread Cert.MobaSampleReferenceIdeal.nD Cert.MobaSampleReferenceIdeal.τ).loc Cert.MobaSampleReferenceIdeal.main_v86) = v0 c
          ∧ r.2.mem ((c.tc : Thread Cert.MobaSampleReferenceIdeal.nD Cert.MobaSampleReferenceIdeal.τ).loc Cert.MobaSampleReferenceIdeal.main_v90) = v1 c
          ∧ r.2.mem ((c.tc : Thread Cert.MobaSampleReferenceIdeal.nD Cert.MobaSampleReferenceIdeal.τ).loc Cert.MobaSampleReferenceIdeal.main_v91) = v2 c
          ∧ r.2.mem ((c.tc : Thread Cert.MobaSampleReferenceIdeal.nD Cert.MobaSampleReferenceIdeal.τ).loc Cert.MobaSampleReferenceIdeal.main_arg0) = m' ((c.tc : Thread Cert.MobaSampleReferenceIdeal.nD Cert.MobaSampleReferenceIdeal.τ).loc Cert.MobaSampleReferenceIdeal.main_arg0)
          ∧ r.2.mem ((c.tc : Thread Cert.MobaSampleReferenceIdeal.nD Cert.MobaSampleReferenceIdeal.τ).loc Cert.MobaSampleReferenceIdeal.main_arg1) = m' ((c.tc : Thread Cert.MobaSampleReferenceIdeal.nD Cert.MobaSampleReferenceIdeal.τ).loc Cert.MobaSampleReferenceIdeal.main_arg1)
          ∧ r.2.mem ((c.tc : Thread Cert.MobaSampleReferenceIdeal.nD Cert.MobaSampleReferenceIdeal.τ).loc Cert.MobaSampleReferenceIdeal.main_arg2) = m' ((c.tc : Thread Cert.MobaSampleReferenceIdeal.nD Cert.MobaSampleReferenceIdeal.τ).loc Cert.MobaSampleReferenceIdeal.main_arg2)
          ∧ r.2.mem ((c.tc : Thread Cert.MobaSampleReferenceIdeal.nD Cert.MobaSampleReferenceIdeal.τ).loc Cert.MobaSampleReferenceIdeal.main_arg3) = m' ((c.tc : Thread Cert.MobaSampleReferenceIdeal.nD Cert.MobaSampleReferenceIdeal.τ).loc Cert.MobaSampleReferenceIdeal.main_arg3)
          ∧ r.2.mem ((c.tc : Thread Cert.MobaSampleReferenceIdeal.nD Cert.MobaSampleReferenceIdeal.τ).loc Cert.MobaSampleReferenceIdeal.main_arg4) = m' ((c.tc : Thread Cert.MobaSampleReferenceIdeal.nD Cert.MobaSampleReferenceIdeal.τ).loc Cert.MobaSampleReferenceIdeal.main_arg4)
          ∧ r.2.mem ((c.tc : Thread Cert.MobaSampleReferenceIdeal.nD Cert.MobaSampleReferenceIdeal.τ).loc Cert.MobaSampleReferenceIdeal.main_arg5) = m' ((c.tc : Thread Cert.MobaSampleReferenceIdeal.nD Cert.MobaSampleReferenceIdeal.τ).loc Cert.MobaSampleReferenceIdeal.main_arg5)
          ∧ r.2.mem ((c.tc : Thread Cert.MobaSampleReferenceIdeal.nD Cert.MobaSampleReferenceIdeal.τ).loc Cert.MobaSampleReferenceIdeal.main_arg6) = m' ((c.tc : Thread Cert.MobaSampleReferenceIdeal.nD Cert.MobaSampleReferenceIdeal.τ).loc Cert.MobaSampleReferenceIdeal.main_arg6))

def preserves_NsaProj_NsaProjIdeal : Prop :=
  True

def algebraic_NsaProjIdeal_NsaProjReferenceIdeal [hNsaProjIdeal : Cert.NsaProjIdeal.Facts] [hNsaProjReferenceIdeal : Cert.NsaProjReferenceIdeal.Facts] : Prop :=
  ∀ (m : (ℓ : Loc Cert.NsaProjIdeal.nD Cert.NsaProjIdeal.τ Cert.NsaProjIdeal.sig) → Buf (Elt Ideal) ℓ) (g : Dev Cert.NsaProjIdeal.nD → PrngReg)
    (m' : (ℓ : Loc Cert.NsaProjReferenceIdeal.nD Cert.NsaProjReferenceIdeal.τ Cert.NsaProjReferenceIdeal.sig) → Buf (Elt Ideal) ℓ) (g' : Dev Cert.NsaProjReferenceIdeal.nD → PrngReg), Pre_NsaProjIdeal m →
    (∀ c : Dev Cert.NsaProjIdeal.nD,
      m' ((c.tc : Thread Cert.NsaProjReferenceIdeal.nD Cert.NsaProjReferenceIdeal.τ).loc Cert.NsaProjReferenceIdeal.main_arg0) = m ((c.tc : Thread Cert.NsaProjIdeal.nD Cert.NsaProjIdeal.τ).loc Cert.NsaProjIdeal.main_arg0)
      ∧ m' ((c.tc : Thread Cert.NsaProjReferenceIdeal.nD Cert.NsaProjReferenceIdeal.τ).loc Cert.NsaProjReferenceIdeal.main_arg1) = m ((c.tc : Thread Cert.NsaProjIdeal.nD Cert.NsaProjIdeal.τ).loc Cert.NsaProjIdeal.main_arg1)
      ∧ m' ((c.tc : Thread Cert.NsaProjReferenceIdeal.nD Cert.NsaProjReferenceIdeal.τ).loc Cert.NsaProjReferenceIdeal.main_arg2) = m ((c.tc : Thread Cert.NsaProjIdeal.nD Cert.NsaProjIdeal.τ).loc Cert.NsaProjIdeal.main_arg2)
      ∧ m' ((c.tc : Thread Cert.NsaProjReferenceIdeal.nD Cert.NsaProjReferenceIdeal.τ).loc Cert.NsaProjReferenceIdeal.main_arg3) = m ((c.tc : Thread Cert.NsaProjIdeal.nD Cert.NsaProjIdeal.τ).loc Cert.NsaProjIdeal.main_arg3)
      ∧ m' ((c.tc : Thread Cert.NsaProjReferenceIdeal.nD Cert.NsaProjReferenceIdeal.τ).loc Cert.NsaProjReferenceIdeal.main_arg4) = m ((c.tc : Thread Cert.NsaProjIdeal.nD Cert.NsaProjIdeal.τ).loc Cert.NsaProjIdeal.main_arg4)
      ∧ m' ((c.tc : Thread Cert.NsaProjReferenceIdeal.nD Cert.NsaProjReferenceIdeal.τ).loc Cert.NsaProjReferenceIdeal.main_arg5) = m ((c.tc : Thread Cert.NsaProjIdeal.nD Cert.NsaProjIdeal.τ).loc Cert.NsaProjIdeal.main_arg5)
      ∧ m' ((c.tc : Thread Cert.NsaProjReferenceIdeal.nD Cert.NsaProjReferenceIdeal.τ).loc Cert.NsaProjReferenceIdeal.main_arg6) = m ((c.tc : Thread Cert.NsaProjIdeal.nD Cert.NsaProjIdeal.τ).loc Cert.NsaProjIdeal.main_arg6)) →
    ∃ (v0 : (c : Dev Cert.NsaProjIdeal.nD) → Buf (Elt Ideal) ((c.tc : Thread Cert.NsaProjIdeal.nD Cert.NsaProjIdeal.τ).loc Cert.NsaProjIdeal.main_v56_0)) (v1 : (c : Dev Cert.NsaProjIdeal.nD) → Buf (Elt Ideal) ((c.tc : Thread Cert.NsaProjIdeal.nD Cert.NsaProjIdeal.τ).loc Cert.NsaProjIdeal.main_v56_1)) (v2 : (c : Dev Cert.NsaProjIdeal.nD) → Buf (Elt Ideal) ((c.tc : Thread Cert.NsaProjIdeal.nD Cert.NsaProjIdeal.τ).loc Cert.NsaProjIdeal.main_v56_2)) (v3 : (c : Dev Cert.NsaProjIdeal.nD) → Buf (Elt Ideal) ((c.tc : Thread Cert.NsaProjIdeal.nD Cert.NsaProjIdeal.τ).loc Cert.NsaProjIdeal.main_v56_3)),
      θ_run (Cert.NsaProjIdeal.defs (F := Ideal)) (onTc (τ := Cert.NsaProjIdeal.τ) (Cert.NsaProjIdeal.main (F := Ideal))) ⟨m, fun _ => 0, g⟩ (fun r => ∀ c : Dev Cert.NsaProjIdeal.nD,
          r.2.mem ((c.tc : Thread Cert.NsaProjIdeal.nD Cert.NsaProjIdeal.τ).loc Cert.NsaProjIdeal.main_v56_0) = v0 c
          ∧ r.2.mem ((c.tc : Thread Cert.NsaProjIdeal.nD Cert.NsaProjIdeal.τ).loc Cert.NsaProjIdeal.main_v56_1) = v1 c
          ∧ r.2.mem ((c.tc : Thread Cert.NsaProjIdeal.nD Cert.NsaProjIdeal.τ).loc Cert.NsaProjIdeal.main_v56_2) = v2 c
          ∧ r.2.mem ((c.tc : Thread Cert.NsaProjIdeal.nD Cert.NsaProjIdeal.τ).loc Cert.NsaProjIdeal.main_v56_3) = v3 c
          ∧ r.2.mem ((c.tc : Thread Cert.NsaProjIdeal.nD Cert.NsaProjIdeal.τ).loc Cert.NsaProjIdeal.main_arg0) = m ((c.tc : Thread Cert.NsaProjIdeal.nD Cert.NsaProjIdeal.τ).loc Cert.NsaProjIdeal.main_arg0)
          ∧ r.2.mem ((c.tc : Thread Cert.NsaProjIdeal.nD Cert.NsaProjIdeal.τ).loc Cert.NsaProjIdeal.main_arg1) = m ((c.tc : Thread Cert.NsaProjIdeal.nD Cert.NsaProjIdeal.τ).loc Cert.NsaProjIdeal.main_arg1)
          ∧ r.2.mem ((c.tc : Thread Cert.NsaProjIdeal.nD Cert.NsaProjIdeal.τ).loc Cert.NsaProjIdeal.main_arg2) = m ((c.tc : Thread Cert.NsaProjIdeal.nD Cert.NsaProjIdeal.τ).loc Cert.NsaProjIdeal.main_arg2)
          ∧ r.2.mem ((c.tc : Thread Cert.NsaProjIdeal.nD Cert.NsaProjIdeal.τ).loc Cert.NsaProjIdeal.main_arg3) = m ((c.tc : Thread Cert.NsaProjIdeal.nD Cert.NsaProjIdeal.τ).loc Cert.NsaProjIdeal.main_arg3)
          ∧ r.2.mem ((c.tc : Thread Cert.NsaProjIdeal.nD Cert.NsaProjIdeal.τ).loc Cert.NsaProjIdeal.main_arg4) = m ((c.tc : Thread Cert.NsaProjIdeal.nD Cert.NsaProjIdeal.τ).loc Cert.NsaProjIdeal.main_arg4)
          ∧ r.2.mem ((c.tc : Thread Cert.NsaProjIdeal.nD Cert.NsaProjIdeal.τ).loc Cert.NsaProjIdeal.main_arg5) = m ((c.tc : Thread Cert.NsaProjIdeal.nD Cert.NsaProjIdeal.τ).loc Cert.NsaProjIdeal.main_arg5)
          ∧ r.2.mem ((c.tc : Thread Cert.NsaProjIdeal.nD Cert.NsaProjIdeal.τ).loc Cert.NsaProjIdeal.main_arg6) = m ((c.tc : Thread Cert.NsaProjIdeal.nD Cert.NsaProjIdeal.τ).loc Cert.NsaProjIdeal.main_arg6))
      ∧ θ_run (Cert.NsaProjReferenceIdeal.defs (F := Ideal)) (onTc (τ := Cert.NsaProjReferenceIdeal.τ) (Cert.NsaProjReferenceIdeal.main (F := Ideal))) ⟨m', fun _ => 0, g'⟩ (fun r => ∀ c : Dev Cert.NsaProjReferenceIdeal.nD,
          r.2.mem ((c.tc : Thread Cert.NsaProjReferenceIdeal.nD Cert.NsaProjReferenceIdeal.τ).loc Cert.NsaProjReferenceIdeal.main_v108) = v0 c
          ∧ r.2.mem ((c.tc : Thread Cert.NsaProjReferenceIdeal.nD Cert.NsaProjReferenceIdeal.τ).loc Cert.NsaProjReferenceIdeal.main_v94) = v1 c
          ∧ r.2.mem ((c.tc : Thread Cert.NsaProjReferenceIdeal.nD Cert.NsaProjReferenceIdeal.τ).loc Cert.NsaProjReferenceIdeal.main_v109) = v2 c
          ∧ r.2.mem ((c.tc : Thread Cert.NsaProjReferenceIdeal.nD Cert.NsaProjReferenceIdeal.τ).loc Cert.NsaProjReferenceIdeal.main_v104) = v3 c
          ∧ r.2.mem ((c.tc : Thread Cert.NsaProjReferenceIdeal.nD Cert.NsaProjReferenceIdeal.τ).loc Cert.NsaProjReferenceIdeal.main_arg0) = m' ((c.tc : Thread Cert.NsaProjReferenceIdeal.nD Cert.NsaProjReferenceIdeal.τ).loc Cert.NsaProjReferenceIdeal.main_arg0)
          ∧ r.2.mem ((c.tc : Thread Cert.NsaProjReferenceIdeal.nD Cert.NsaProjReferenceIdeal.τ).loc Cert.NsaProjReferenceIdeal.main_arg1) = m' ((c.tc : Thread Cert.NsaProjReferenceIdeal.nD Cert.NsaProjReferenceIdeal.τ).loc Cert.NsaProjReferenceIdeal.main_arg1)
          ∧ r.2.mem ((c.tc : Thread Cert.NsaProjReferenceIdeal.nD Cert.NsaProjReferenceIdeal.τ).loc Cert.NsaProjReferenceIdeal.main_arg2) = m' ((c.tc : Thread Cert.NsaProjReferenceIdeal.nD Cert.NsaProjReferenceIdeal.τ).loc Cert.NsaProjReferenceIdeal.main_arg2)
          ∧ r.2.mem ((c.tc : Thread Cert.NsaProjReferenceIdeal.nD Cert.NsaProjReferenceIdeal.τ).loc Cert.NsaProjReferenceIdeal.main_arg3) = m' ((c.tc : Thread Cert.NsaProjReferenceIdeal.nD Cert.NsaProjReferenceIdeal.τ).loc Cert.NsaProjReferenceIdeal.main_arg3)
          ∧ r.2.mem ((c.tc : Thread Cert.NsaProjReferenceIdeal.nD Cert.NsaProjReferenceIdeal.τ).loc Cert.NsaProjReferenceIdeal.main_arg4) = m' ((c.tc : Thread Cert.NsaProjReferenceIdeal.nD Cert.NsaProjReferenceIdeal.τ).loc Cert.NsaProjReferenceIdeal.main_arg4)
          ∧ r.2.mem ((c.tc : Thread Cert.NsaProjReferenceIdeal.nD Cert.NsaProjReferenceIdeal.τ).loc Cert.NsaProjReferenceIdeal.main_arg5) = m' ((c.tc : Thread Cert.NsaProjReferenceIdeal.nD Cert.NsaProjReferenceIdeal.τ).loc Cert.NsaProjReferenceIdeal.main_arg5)
          ∧ r.2.mem ((c.tc : Thread Cert.NsaProjReferenceIdeal.nD Cert.NsaProjReferenceIdeal.τ).loc Cert.NsaProjReferenceIdeal.main_arg6) = m' ((c.tc : Thread Cert.NsaProjReferenceIdeal.nD Cert.NsaProjReferenceIdeal.τ).loc Cert.NsaProjReferenceIdeal.main_arg6))

def preserves_MlaExpand_MlaExpandIdeal : Prop :=
  True

def algebraic_MlaExpandIdeal_MlaExpandReferenceIdeal [hMlaExpandIdeal : Cert.MlaExpandIdeal.Facts] [hMlaExpandReferenceIdeal : Cert.MlaExpandReferenceIdeal.Facts] : Prop :=
  ∀ (m : (ℓ : Loc Cert.MlaExpandIdeal.nD Cert.MlaExpandIdeal.τ Cert.MlaExpandIdeal.sig) → Buf (Elt Ideal) ℓ) (g : Dev Cert.MlaExpandIdeal.nD → PrngReg)
    (m' : (ℓ : Loc Cert.MlaExpandReferenceIdeal.nD Cert.MlaExpandReferenceIdeal.τ Cert.MlaExpandReferenceIdeal.sig) → Buf (Elt Ideal) ℓ) (g' : Dev Cert.MlaExpandReferenceIdeal.nD → PrngReg), Pre_MlaExpandIdeal m →
    (∀ c : Dev Cert.MlaExpandIdeal.nD,
      m' ((c.tc : Thread Cert.MlaExpandReferenceIdeal.nD Cert.MlaExpandReferenceIdeal.τ).loc Cert.MlaExpandReferenceIdeal.main_arg0) = m ((c.tc : Thread Cert.MlaExpandIdeal.nD Cert.MlaExpandIdeal.τ).loc Cert.MlaExpandIdeal.main_arg0)
      ∧ m' ((c.tc : Thread Cert.MlaExpandReferenceIdeal.nD Cert.MlaExpandReferenceIdeal.τ).loc Cert.MlaExpandReferenceIdeal.main_arg1) = m ((c.tc : Thread Cert.MlaExpandIdeal.nD Cert.MlaExpandIdeal.τ).loc Cert.MlaExpandIdeal.main_arg1)
      ∧ m' ((c.tc : Thread Cert.MlaExpandReferenceIdeal.nD Cert.MlaExpandReferenceIdeal.τ).loc Cert.MlaExpandReferenceIdeal.main_arg2) = m ((c.tc : Thread Cert.MlaExpandIdeal.nD Cert.MlaExpandIdeal.τ).loc Cert.MlaExpandIdeal.main_arg2)) →
    ∃ (v0 : (c : Dev Cert.MlaExpandIdeal.nD) → Buf (Elt Ideal) ((c.tc : Thread Cert.MlaExpandIdeal.nD Cert.MlaExpandIdeal.τ).loc Cert.MlaExpandIdeal.main_v46_0)) (v1 : (c : Dev Cert.MlaExpandIdeal.nD) → Buf (Elt Ideal) ((c.tc : Thread Cert.MlaExpandIdeal.nD Cert.MlaExpandIdeal.τ).loc Cert.MlaExpandIdeal.main_v46_1)),
      θ_run (Cert.MlaExpandIdeal.defs (F := Ideal)) (onTc (τ := Cert.MlaExpandIdeal.τ) (Cert.MlaExpandIdeal.main (F := Ideal))) ⟨m, fun _ => 0, g⟩ (fun r => ∀ c : Dev Cert.MlaExpandIdeal.nD,
          r.2.mem ((c.tc : Thread Cert.MlaExpandIdeal.nD Cert.MlaExpandIdeal.τ).loc Cert.MlaExpandIdeal.main_v46_0) = v0 c
          ∧ r.2.mem ((c.tc : Thread Cert.MlaExpandIdeal.nD Cert.MlaExpandIdeal.τ).loc Cert.MlaExpandIdeal.main_v46_1) = v1 c
          ∧ r.2.mem ((c.tc : Thread Cert.MlaExpandIdeal.nD Cert.MlaExpandIdeal.τ).loc Cert.MlaExpandIdeal.main_arg0) = m ((c.tc : Thread Cert.MlaExpandIdeal.nD Cert.MlaExpandIdeal.τ).loc Cert.MlaExpandIdeal.main_arg0)
          ∧ r.2.mem ((c.tc : Thread Cert.MlaExpandIdeal.nD Cert.MlaExpandIdeal.τ).loc Cert.MlaExpandIdeal.main_arg1) = m ((c.tc : Thread Cert.MlaExpandIdeal.nD Cert.MlaExpandIdeal.τ).loc Cert.MlaExpandIdeal.main_arg1)
          ∧ r.2.mem ((c.tc : Thread Cert.MlaExpandIdeal.nD Cert.MlaExpandIdeal.τ).loc Cert.MlaExpandIdeal.main_arg2) = m ((c.tc : Thread Cert.MlaExpandIdeal.nD Cert.MlaExpandIdeal.τ).loc Cert.MlaExpandIdeal.main_arg2))
      ∧ θ_run (Cert.MlaExpandReferenceIdeal.defs (F := Ideal)) (onTc (τ := Cert.MlaExpandReferenceIdeal.τ) (Cert.MlaExpandReferenceIdeal.main (F := Ideal))) ⟨m', fun _ => 0, g'⟩ (fun r => ∀ c : Dev Cert.MlaExpandReferenceIdeal.nD,
          r.2.mem ((c.tc : Thread Cert.MlaExpandReferenceIdeal.nD Cert.MlaExpandReferenceIdeal.τ).loc Cert.MlaExpandReferenceIdeal.main_v24) = v0 c
          ∧ r.2.mem ((c.tc : Thread Cert.MlaExpandReferenceIdeal.nD Cert.MlaExpandReferenceIdeal.τ).loc Cert.MlaExpandReferenceIdeal.main_v27) = v1 c
          ∧ r.2.mem ((c.tc : Thread Cert.MlaExpandReferenceIdeal.nD Cert.MlaExpandReferenceIdeal.τ).loc Cert.MlaExpandReferenceIdeal.main_arg0) = m' ((c.tc : Thread Cert.MlaExpandReferenceIdeal.nD Cert.MlaExpandReferenceIdeal.τ).loc Cert.MlaExpandReferenceIdeal.main_arg0)
          ∧ r.2.mem ((c.tc : Thread Cert.MlaExpandReferenceIdeal.nD Cert.MlaExpandReferenceIdeal.τ).loc Cert.MlaExpandReferenceIdeal.main_arg1) = m' ((c.tc : Thread Cert.MlaExpandReferenceIdeal.nD Cert.MlaExpandReferenceIdeal.τ).loc Cert.MlaExpandReferenceIdeal.main_arg1)
          ∧ r.2.mem ((c.tc : Thread Cert.MlaExpandReferenceIdeal.nD Cert.MlaExpandReferenceIdeal.τ).loc Cert.MlaExpandReferenceIdeal.main_arg2) = m' ((c.tc : Thread Cert.MlaExpandReferenceIdeal.nD Cert.MlaExpandReferenceIdeal.τ).loc Cert.MlaExpandReferenceIdeal.main_arg2))

def preserves_MlaProj_MlaProjIdeal : Prop :=
  True

def algebraic_MlaProjIdeal_MlaProjReferenceIdeal [hMlaProjIdeal : Cert.MlaProjIdeal.Facts] [hMlaProjReferenceIdeal : Cert.MlaProjReferenceIdeal.Facts] : Prop :=
  ∀ (m : (ℓ : Loc Cert.MlaProjIdeal.nD Cert.MlaProjIdeal.τ Cert.MlaProjIdeal.sig) → Buf (Elt Ideal) ℓ) (g : Dev Cert.MlaProjIdeal.nD → PrngReg)
    (m' : (ℓ : Loc Cert.MlaProjReferenceIdeal.nD Cert.MlaProjReferenceIdeal.τ Cert.MlaProjReferenceIdeal.sig) → Buf (Elt Ideal) ℓ) (g' : Dev Cert.MlaProjReferenceIdeal.nD → PrngReg), Pre_MlaProjIdeal m →
    (∀ c : Dev Cert.MlaProjIdeal.nD,
      m' ((c.tc : Thread Cert.MlaProjReferenceIdeal.nD Cert.MlaProjReferenceIdeal.τ).loc Cert.MlaProjReferenceIdeal.main_arg0) = m ((c.tc : Thread Cert.MlaProjIdeal.nD Cert.MlaProjIdeal.τ).loc Cert.MlaProjIdeal.main_arg0)
      ∧ m' ((c.tc : Thread Cert.MlaProjReferenceIdeal.nD Cert.MlaProjReferenceIdeal.τ).loc Cert.MlaProjReferenceIdeal.main_arg1) = m ((c.tc : Thread Cert.MlaProjIdeal.nD Cert.MlaProjIdeal.τ).loc Cert.MlaProjIdeal.main_arg1)
      ∧ m' ((c.tc : Thread Cert.MlaProjReferenceIdeal.nD Cert.MlaProjReferenceIdeal.τ).loc Cert.MlaProjReferenceIdeal.main_arg2) = m ((c.tc : Thread Cert.MlaProjIdeal.nD Cert.MlaProjIdeal.τ).loc Cert.MlaProjIdeal.main_arg2)
      ∧ m' ((c.tc : Thread Cert.MlaProjReferenceIdeal.nD Cert.MlaProjReferenceIdeal.τ).loc Cert.MlaProjReferenceIdeal.main_arg3) = m ((c.tc : Thread Cert.MlaProjIdeal.nD Cert.MlaProjIdeal.τ).loc Cert.MlaProjIdeal.main_arg3)
      ∧ m' ((c.tc : Thread Cert.MlaProjReferenceIdeal.nD Cert.MlaProjReferenceIdeal.τ).loc Cert.MlaProjReferenceIdeal.main_arg4) = m ((c.tc : Thread Cert.MlaProjIdeal.nD Cert.MlaProjIdeal.τ).loc Cert.MlaProjIdeal.main_arg4)
      ∧ m' ((c.tc : Thread Cert.MlaProjReferenceIdeal.nD Cert.MlaProjReferenceIdeal.τ).loc Cert.MlaProjReferenceIdeal.main_arg5) = m ((c.tc : Thread Cert.MlaProjIdeal.nD Cert.MlaProjIdeal.τ).loc Cert.MlaProjIdeal.main_arg5)
      ∧ m' ((c.tc : Thread Cert.MlaProjReferenceIdeal.nD Cert.MlaProjReferenceIdeal.τ).loc Cert.MlaProjReferenceIdeal.main_arg6) = m ((c.tc : Thread Cert.MlaProjIdeal.nD Cert.MlaProjIdeal.τ).loc Cert.MlaProjIdeal.main_arg6)
      ∧ m' ((c.tc : Thread Cert.MlaProjReferenceIdeal.nD Cert.MlaProjReferenceIdeal.τ).loc Cert.MlaProjReferenceIdeal.main_arg7) = m ((c.tc : Thread Cert.MlaProjIdeal.nD Cert.MlaProjIdeal.τ).loc Cert.MlaProjIdeal.main_arg7)
      ∧ m' ((c.tc : Thread Cert.MlaProjReferenceIdeal.nD Cert.MlaProjReferenceIdeal.τ).loc Cert.MlaProjReferenceIdeal.main_arg8) = m ((c.tc : Thread Cert.MlaProjIdeal.nD Cert.MlaProjIdeal.τ).loc Cert.MlaProjIdeal.main_arg8)
      ∧ m' ((c.tc : Thread Cert.MlaProjReferenceIdeal.nD Cert.MlaProjReferenceIdeal.τ).loc Cert.MlaProjReferenceIdeal.main_arg9) = m ((c.tc : Thread Cert.MlaProjIdeal.nD Cert.MlaProjIdeal.τ).loc Cert.MlaProjIdeal.main_arg9)) →
    ∃ (v0 : (c : Dev Cert.MlaProjIdeal.nD) → Buf (Elt Ideal) ((c.tc : Thread Cert.MlaProjIdeal.nD Cert.MlaProjIdeal.τ).loc Cert.MlaProjIdeal.main_v84_0)) (v1 : (c : Dev Cert.MlaProjIdeal.nD) → Buf (Elt Ideal) ((c.tc : Thread Cert.MlaProjIdeal.nD Cert.MlaProjIdeal.τ).loc Cert.MlaProjIdeal.main_v84_1)),
      θ_run (Cert.MlaProjIdeal.defs (F := Ideal)) (onTc (τ := Cert.MlaProjIdeal.τ) (Cert.MlaProjIdeal.main (F := Ideal))) ⟨m, fun _ => 0, g⟩ (fun r => ∀ c : Dev Cert.MlaProjIdeal.nD,
          r.2.mem ((c.tc : Thread Cert.MlaProjIdeal.nD Cert.MlaProjIdeal.τ).loc Cert.MlaProjIdeal.main_v84_0) = v0 c
          ∧ r.2.mem ((c.tc : Thread Cert.MlaProjIdeal.nD Cert.MlaProjIdeal.τ).loc Cert.MlaProjIdeal.main_v84_1) = v1 c
          ∧ r.2.mem ((c.tc : Thread Cert.MlaProjIdeal.nD Cert.MlaProjIdeal.τ).loc Cert.MlaProjIdeal.main_arg0) = m ((c.tc : Thread Cert.MlaProjIdeal.nD Cert.MlaProjIdeal.τ).loc Cert.MlaProjIdeal.main_arg0)
          ∧ r.2.mem ((c.tc : Thread Cert.MlaProjIdeal.nD Cert.MlaProjIdeal.τ).loc Cert.MlaProjIdeal.main_arg1) = m ((c.tc : Thread Cert.MlaProjIdeal.nD Cert.MlaProjIdeal.τ).loc Cert.MlaProjIdeal.main_arg1)
          ∧ r.2.mem ((c.tc : Thread Cert.MlaProjIdeal.nD Cert.MlaProjIdeal.τ).loc Cert.MlaProjIdeal.main_arg2) = m ((c.tc : Thread Cert.MlaProjIdeal.nD Cert.MlaProjIdeal.τ).loc Cert.MlaProjIdeal.main_arg2)
          ∧ r.2.mem ((c.tc : Thread Cert.MlaProjIdeal.nD Cert.MlaProjIdeal.τ).loc Cert.MlaProjIdeal.main_arg3) = m ((c.tc : Thread Cert.MlaProjIdeal.nD Cert.MlaProjIdeal.τ).loc Cert.MlaProjIdeal.main_arg3)
          ∧ r.2.mem ((c.tc : Thread Cert.MlaProjIdeal.nD Cert.MlaProjIdeal.τ).loc Cert.MlaProjIdeal.main_arg4) = m ((c.tc : Thread Cert.MlaProjIdeal.nD Cert.MlaProjIdeal.τ).loc Cert.MlaProjIdeal.main_arg4)
          ∧ r.2.mem ((c.tc : Thread Cert.MlaProjIdeal.nD Cert.MlaProjIdeal.τ).loc Cert.MlaProjIdeal.main_arg5) = m ((c.tc : Thread Cert.MlaProjIdeal.nD Cert.MlaProjIdeal.τ).loc Cert.MlaProjIdeal.main_arg5)
          ∧ r.2.mem ((c.tc : Thread Cert.MlaProjIdeal.nD Cert.MlaProjIdeal.τ).loc Cert.MlaProjIdeal.main_arg6) = m ((c.tc : Thread Cert.MlaProjIdeal.nD Cert.MlaProjIdeal.τ).loc Cert.MlaProjIdeal.main_arg6)
          ∧ r.2.mem ((c.tc : Thread Cert.MlaProjIdeal.nD Cert.MlaProjIdeal.τ).loc Cert.MlaProjIdeal.main_arg7) = m ((c.tc : Thread Cert.MlaProjIdeal.nD Cert.MlaProjIdeal.τ).loc Cert.MlaProjIdeal.main_arg7)
          ∧ r.2.mem ((c.tc : Thread Cert.MlaProjIdeal.nD Cert.MlaProjIdeal.τ).loc Cert.MlaProjIdeal.main_arg8) = m ((c.tc : Thread Cert.MlaProjIdeal.nD Cert.MlaProjIdeal.τ).loc Cert.MlaProjIdeal.main_arg8)
          ∧ r.2.mem ((c.tc : Thread Cert.MlaProjIdeal.nD Cert.MlaProjIdeal.τ).loc Cert.MlaProjIdeal.main_arg9) = m ((c.tc : Thread Cert.MlaProjIdeal.nD Cert.MlaProjIdeal.τ).loc Cert.MlaProjIdeal.main_arg9))
      ∧ θ_run (Cert.MlaProjReferenceIdeal.defs (F := Ideal)) (onTc (τ := Cert.MlaProjReferenceIdeal.τ) (Cert.MlaProjReferenceIdeal.main (F := Ideal))) ⟨m', fun _ => 0, g'⟩ (fun r => ∀ c : Dev Cert.MlaProjReferenceIdeal.nD,
          r.2.mem ((c.tc : Thread Cert.MlaProjReferenceIdeal.nD Cert.MlaProjReferenceIdeal.τ).loc Cert.MlaProjReferenceIdeal.main_v131) = v0 c
          ∧ r.2.mem ((c.tc : Thread Cert.MlaProjReferenceIdeal.nD Cert.MlaProjReferenceIdeal.τ).loc Cert.MlaProjReferenceIdeal.main_v133) = v1 c
          ∧ r.2.mem ((c.tc : Thread Cert.MlaProjReferenceIdeal.nD Cert.MlaProjReferenceIdeal.τ).loc Cert.MlaProjReferenceIdeal.main_arg0) = m' ((c.tc : Thread Cert.MlaProjReferenceIdeal.nD Cert.MlaProjReferenceIdeal.τ).loc Cert.MlaProjReferenceIdeal.main_arg0)
          ∧ r.2.mem ((c.tc : Thread Cert.MlaProjReferenceIdeal.nD Cert.MlaProjReferenceIdeal.τ).loc Cert.MlaProjReferenceIdeal.main_arg1) = m' ((c.tc : Thread Cert.MlaProjReferenceIdeal.nD Cert.MlaProjReferenceIdeal.τ).loc Cert.MlaProjReferenceIdeal.main_arg1)
          ∧ r.2.mem ((c.tc : Thread Cert.MlaProjReferenceIdeal.nD Cert.MlaProjReferenceIdeal.τ).loc Cert.MlaProjReferenceIdeal.main_arg2) = m' ((c.tc : Thread Cert.MlaProjReferenceIdeal.nD Cert.MlaProjReferenceIdeal.τ).loc Cert.MlaProjReferenceIdeal.main_arg2)
          ∧ r.2.mem ((c.tc : Thread Cert.MlaProjReferenceIdeal.nD Cert.MlaProjReferenceIdeal.τ).loc Cert.MlaProjReferenceIdeal.main_arg3) = m' ((c.tc : Thread Cert.MlaProjReferenceIdeal.nD Cert.MlaProjReferenceIdeal.τ).loc Cert.MlaProjReferenceIdeal.main_arg3)
          ∧ r.2.mem ((c.tc : Thread Cert.MlaProjReferenceIdeal.nD Cert.MlaProjReferenceIdeal.τ).loc Cert.MlaProjReferenceIdeal.main_arg4) = m' ((c.tc : Thread Cert.MlaProjReferenceIdeal.nD Cert.MlaProjReferenceIdeal.τ).loc Cert.MlaProjReferenceIdeal.main_arg4)
          ∧ r.2.mem ((c.tc : Thread Cert.MlaProjReferenceIdeal.nD Cert.MlaProjReferenceIdeal.τ).loc Cert.MlaProjReferenceIdeal.main_arg5) = m' ((c.tc : Thread Cert.MlaProjReferenceIdeal.nD Cert.MlaProjReferenceIdeal.τ).loc Cert.MlaProjReferenceIdeal.main_arg5)
          ∧ r.2.mem ((c.tc : Thread Cert.MlaProjReferenceIdeal.nD Cert.MlaProjReferenceIdeal.τ).loc Cert.MlaProjReferenceIdeal.main_arg6) = m' ((c.tc : Thread Cert.MlaProjReferenceIdeal.nD Cert.MlaProjReferenceIdeal.τ).loc Cert.MlaProjReferenceIdeal.main_arg6)
          ∧ r.2.mem ((c.tc : Thread Cert.MlaProjReferenceIdeal.nD Cert.MlaProjReferenceIdeal.τ).loc Cert.MlaProjReferenceIdeal.main_arg7) = m' ((c.tc : Thread Cert.MlaProjReferenceIdeal.nD Cert.MlaProjReferenceIdeal.τ).loc Cert.MlaProjReferenceIdeal.main_arg7)
          ∧ r.2.mem ((c.tc : Thread Cert.MlaProjReferenceIdeal.nD Cert.MlaProjReferenceIdeal.τ).loc Cert.MlaProjReferenceIdeal.main_arg8) = m' ((c.tc : Thread Cert.MlaProjReferenceIdeal.nD Cert.MlaProjReferenceIdeal.τ).loc Cert.MlaProjReferenceIdeal.main_arg8)
          ∧ r.2.mem ((c.tc : Thread Cert.MlaProjReferenceIdeal.nD Cert.MlaProjReferenceIdeal.τ).loc Cert.MlaProjReferenceIdeal.main_arg9) = m' ((c.tc : Thread Cert.MlaProjReferenceIdeal.nD Cert.MlaProjReferenceIdeal.τ).loc Cert.MlaProjReferenceIdeal.main_arg9))

def preserves_MobaMeans_MobaMeansIdeal : Prop :=
  True

def algebraic_MobaMeansIdeal_MobaMeansReferenceIdeal [hMobaMeansIdeal : Cert.MobaMeansIdeal.Facts] [hMobaMeansReferenceIdeal : Cert.MobaMeansReferenceIdeal.Facts] : Prop :=
  ∀ (m : (ℓ : Loc Cert.MobaMeansIdeal.nD Cert.MobaMeansIdeal.τ Cert.MobaMeansIdeal.sig) → Buf (Elt Ideal) ℓ) (g : Dev Cert.MobaMeansIdeal.nD → PrngReg)
    (m' : (ℓ : Loc Cert.MobaMeansReferenceIdeal.nD Cert.MobaMeansReferenceIdeal.τ Cert.MobaMeansReferenceIdeal.sig) → Buf (Elt Ideal) ℓ) (g' : Dev Cert.MobaMeansReferenceIdeal.nD → PrngReg), Pre_MobaMeansIdeal m →
    (∀ c : Dev Cert.MobaMeansIdeal.nD,
      m' ((c.tc : Thread Cert.MobaMeansReferenceIdeal.nD Cert.MobaMeansReferenceIdeal.τ).loc Cert.MobaMeansReferenceIdeal.main_arg0) = m ((c.tc : Thread Cert.MobaMeansIdeal.nD Cert.MobaMeansIdeal.τ).loc Cert.MobaMeansIdeal.main_arg0)) →
    ∃ (v0 : (c : Dev Cert.MobaMeansIdeal.nD) → Buf (Elt Ideal) ((c.tc : Thread Cert.MobaMeansIdeal.nD Cert.MobaMeansIdeal.τ).loc Cert.MobaMeansIdeal.main_v0)),
      θ_run (Cert.MobaMeansIdeal.defs (F := Ideal)) (onTc (τ := Cert.MobaMeansIdeal.τ) (Cert.MobaMeansIdeal.main (F := Ideal))) ⟨m, fun _ => 0, g⟩ (fun r => ∀ c : Dev Cert.MobaMeansIdeal.nD,
          r.2.mem ((c.tc : Thread Cert.MobaMeansIdeal.nD Cert.MobaMeansIdeal.τ).loc Cert.MobaMeansIdeal.main_v0) = v0 c
          ∧ r.2.mem ((c.tc : Thread Cert.MobaMeansIdeal.nD Cert.MobaMeansIdeal.τ).loc Cert.MobaMeansIdeal.main_arg0) = m ((c.tc : Thread Cert.MobaMeansIdeal.nD Cert.MobaMeansIdeal.τ).loc Cert.MobaMeansIdeal.main_arg0))
      ∧ θ_run (Cert.MobaMeansReferenceIdeal.defs (F := Ideal)) (onTc (τ := Cert.MobaMeansReferenceIdeal.τ) (Cert.MobaMeansReferenceIdeal.main (F := Ideal))) ⟨m', fun _ => 0, g'⟩ (fun r => ∀ c : Dev Cert.MobaMeansReferenceIdeal.nD,
          r.2.mem ((c.tc : Thread Cert.MobaMeansReferenceIdeal.nD Cert.MobaMeansReferenceIdeal.τ).loc Cert.MobaMeansReferenceIdeal.main_v7) = v0 c
          ∧ r.2.mem ((c.tc : Thread Cert.MobaMeansReferenceIdeal.nD Cert.MobaMeansReferenceIdeal.τ).loc Cert.MobaMeansReferenceIdeal.main_arg0) = m' ((c.tc : Thread Cert.MobaMeansReferenceIdeal.nD Cert.MobaMeansReferenceIdeal.τ).loc Cert.MobaMeansReferenceIdeal.main_arg0))

def Claim : Prop :=
  ∃ (hKernel : Cert.Kernel.Facts) (hKernelIdeal : Cert.KernelIdeal.Facts) (hReferenceIdeal : Cert.ReferenceIdeal.Facts) (hMlp : Cert.Mlp.Facts) (hMlpIdeal : Cert.MlpIdeal.Facts) (hMlpReferenceIdeal : Cert.MlpReferenceIdeal.Facts) (hOutproj : Cert.Outproj.Facts) (hOutprojIdeal : Cert.OutprojIdeal.Facts) (hOutprojReferenceIdeal : Cert.OutprojReferenceIdeal.Facts) (hMobaProj : Cert.MobaProj.Facts) (hMobaProjIdeal : Cert.MobaProjIdeal.Facts) (hMobaProjReferenceIdeal : Cert.MobaProjReferenceIdeal.Facts) (hMobaSample : Cert.MobaSample.Facts) (hMobaSampleIdeal : Cert.MobaSampleIdeal.Facts) (hMobaSampleReferenceIdeal : Cert.MobaSampleReferenceIdeal.Facts) (hNsaProj : Cert.NsaProj.Facts) (hNsaProjIdeal : Cert.NsaProjIdeal.Facts) (hNsaProjReferenceIdeal : Cert.NsaProjReferenceIdeal.Facts) (hMlaExpand : Cert.MlaExpand.Facts) (hMlaExpandIdeal : Cert.MlaExpandIdeal.Facts) (hMlaExpandReferenceIdeal : Cert.MlaExpandReferenceIdeal.Facts) (hMlaProj : Cert.MlaProj.Facts) (hMlaProjIdeal : Cert.MlaProjIdeal.Facts) (hMlaProjReferenceIdeal : Cert.MlaProjReferenceIdeal.Facts) (hMobaMeans : Cert.MobaMeans.Facts) (hMobaMeansIdeal : Cert.MobaMeansIdeal.Facts) (hMobaMeansReferenceIdeal : Cert.MobaMeansReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Mlp (hMlp := hMlp)
    ∧ quiescent_MlpIdeal (hMlpIdeal := hMlpIdeal)
    ∧ quiescent_MlpReferenceIdeal (hMlpReferenceIdeal := hMlpReferenceIdeal)
    ∧ quiescent_Outproj (hOutproj := hOutproj)
    ∧ quiescent_OutprojIdeal (hOutprojIdeal := hOutprojIdeal)
    ∧ quiescent_OutprojReferenceIdeal (hOutprojReferenceIdeal := hOutprojReferenceIdeal)
    ∧ quiescent_MobaProj (hMobaProj := hMobaProj)
    ∧ quiescent_MobaProjIdeal (hMobaProjIdeal := hMobaProjIdeal)
    ∧ quiescent_MobaProjReferenceIdeal (hMobaProjReferenceIdeal := hMobaProjReferenceIdeal)
    ∧ quiescent_MobaSample (hMobaSample := hMobaSample)
    ∧ quiescent_MobaSampleIdeal (hMobaSampleIdeal := hMobaSampleIdeal)
    ∧ quiescent_MobaSampleReferenceIdeal (hMobaSampleReferenceIdeal := hMobaSampleReferenceIdeal)
    ∧ quiescent_NsaProj (hNsaProj := hNsaProj)
    ∧ quiescent_NsaProjIdeal (hNsaProjIdeal := hNsaProjIdeal)
    ∧ quiescent_NsaProjReferenceIdeal (hNsaProjReferenceIdeal := hNsaProjReferenceIdeal)
    ∧ quiescent_MlaExpand (hMlaExpand := hMlaExpand)
    ∧ quiescent_MlaExpandIdeal (hMlaExpandIdeal := hMlaExpandIdeal)
    ∧ quiescent_MlaExpandReferenceIdeal (hMlaExpandReferenceIdeal := hMlaExpandReferenceIdeal)
    ∧ quiescent_MlaProj (hMlaProj := hMlaProj)
    ∧ quiescent_MlaProjIdeal (hMlaProjIdeal := hMlaProjIdeal)
    ∧ quiescent_MlaProjReferenceIdeal (hMlaProjReferenceIdeal := hMlaProjReferenceIdeal)
    ∧ quiescent_MobaMeans (hMobaMeans := hMobaMeans)
    ∧ quiescent_MobaMeansIdeal (hMobaMeansIdeal := hMobaMeansIdeal)
    ∧ quiescent_MobaMeansReferenceIdeal (hMobaMeansReferenceIdeal := hMobaMeansReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Mlp_MlpIdeal
    ∧ algebraic_MlpIdeal_MlpReferenceIdeal (hMlpIdeal := hMlpIdeal) (hMlpReferenceIdeal := hMlpReferenceIdeal)
    ∧ preserves_Outproj_OutprojIdeal
    ∧ algebraic_OutprojIdeal_OutprojReferenceIdeal (hOutprojIdeal := hOutprojIdeal) (hOutprojReferenceIdeal := hOutprojReferenceIdeal)
    ∧ preserves_MobaProj_MobaProjIdeal
    ∧ algebraic_MobaProjIdeal_MobaProjReferenceIdeal (hMobaProjIdeal := hMobaProjIdeal) (hMobaProjReferenceIdeal := hMobaProjReferenceIdeal)
    ∧ preserves_MobaSample_MobaSampleIdeal
    ∧ algebraic_MobaSampleIdeal_MobaSampleReferenceIdeal (hMobaSampleIdeal := hMobaSampleIdeal) (hMobaSampleReferenceIdeal := hMobaSampleReferenceIdeal)
    ∧ preserves_NsaProj_NsaProjIdeal
    ∧ algebraic_NsaProjIdeal_NsaProjReferenceIdeal (hNsaProjIdeal := hNsaProjIdeal) (hNsaProjReferenceIdeal := hNsaProjReferenceIdeal)
    ∧ preserves_MlaExpand_MlaExpandIdeal
    ∧ algebraic_MlaExpandIdeal_MlaExpandReferenceIdeal (hMlaExpandIdeal := hMlaExpandIdeal) (hMlaExpandReferenceIdeal := hMlaExpandReferenceIdeal)
    ∧ preserves_MlaProj_MlaProjIdeal
    ∧ algebraic_MlaProjIdeal_MlaProjReferenceIdeal (hMlaProjIdeal := hMlaProjIdeal) (hMlaProjReferenceIdeal := hMlaProjReferenceIdeal)
    ∧ preserves_MobaMeans_MobaMeansIdeal
    ∧ algebraic_MobaMeansIdeal_MobaMeansReferenceIdeal (hMobaMeansIdeal := hMobaMeansIdeal) (hMobaMeansReferenceIdeal := hMobaMeansReferenceIdeal)
-- ==== Pre_finite.lean ====
abbrev S16384x2048 : Shape := ⟨2, ![16384, 2048]⟩
abbrev S16384x1024 : Shape := ⟨2, ![16384, 1024]⟩
abbrev S_ : Shape := ⟨0, ![]⟩

class Facts : Prop where
  bitsLt_bf16_f32 : FTy.bits .bf16 < FTy.bits .f32
  bcast_S_S16384x2048 : S_.BroadcastsInDim S16384x2048 (![] : Fin 0 → Fin S16384x2048.rank)
  bcast_S_S16384x1024 : S_.BroadcastsInDim S16384x1024 (![] : Fin 0 → Fin S16384x1024.rank)

variable [Facts]

def fn {F : FTy → Type} [FloatOps F] (main_arg0 : FVec F S16384x2048 .bf16) (main_arg1 : FVec F S16384x2048 .bf16) (main_arg2 : FVec F S16384x1024 .bf16) : IVec S16384x2048 1 × IVec S16384x2048 1 × IVec S16384x1024 1 :=
  let main_v0 : FVec F S16384x2048 .f32 := (extf .f32 · bitsLt_bf16_f32) main_arg0
  let main_v1 : FVec F S16384x2048 .f32 := Host.absf main_v0
  let main_cst : FVec F S_ .f32 := constant S_ .f32 0x7F800000#32
  let main_v2 : FVec F S16384x2048 .f32 := broadcastInDim S16384x2048 ![] bcast_S_S16384x2048 main_cst
  let main_v3 : IVec S16384x2048 1 := cmpf .olt main_v1 main_v2
  let main_v4 : FVec F S16384x2048 .f32 := (extf .f32 · bitsLt_bf16_f32) main_arg1
  let main_v5 : FVec F S16384x2048 .f32 := Host.absf main_v4
  let main_cst_0 : FVec F S_ .f32 := constant S_ .f32 0x7F800000#32
  let main_v6 : FVec F S16384x2048 .f32 := broadcastInDim S16384x2048 ![] bcast_S_S16384x2048 main_cst_0
  let main_v7 : IVec S16384x2048 1 := cmpf .olt main_v5 main_v6
  let main_v8 : FVec F S16384x1024 .f32 := (extf .f32 · bitsLt_bf16_f32) main_arg2
  let main_v9 : FVec F S16384x1024 .f32 := Host.absf main_v8
  let main_cst_1 : FVec F S_ .f32 := constant S_ .f32 0x7F800000#32
  let main_v10 : FVec F S16384x1024 .f32 := broadcastInDim S16384x1024 ![] bcast_S_S16384x1024 main_cst_1
  let main_v11 : IVec S16384x1024 1 := cmpf .olt main_v9 main_v10
  (main_v3, main_v7, main_v11)
-- ==== Kernel.lean ====
abbrev S16384x2048 : Shape := ⟨2, ![16384, 2048]⟩
abbrev S16384x1024 : Shape := ⟨2, ![16384, 1024]⟩
abbrev S256x256 : Shape := ⟨2, ![256, 256]⟩
abbrev S2048x256 : Shape := ⟨2, ![2048, 256]⟩
abbrev S2048x128 : Shape := ⟨2, ![2048, 128]⟩
abbrev S256x128 : Shape := ⟨2, ![256, 128]⟩
abbrev S512x1 : Shape := ⟨2, ![512, 1]⟩
abbrev S512x128 : Shape := ⟨2, ![512, 128]⟩
abbrev S512x256 : Shape := ⟨2, ![512, 256]⟩
abbrev S512 : Shape := ⟨1, ![512]⟩

abbrev nBuf : Space → Nat
  | .hbm => 4
  | .vmem => 11
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x1024, .bf16⟩
  | .hbm, ⟨3, _⟩ => ⟨S16384x1024, .bf16⟩
  | .local _ .vmem, ⟨0, _⟩ => ⟨S256x256, .bf16⟩
  | .local _ .vmem, ⟨1, _⟩ => ⟨S256x256, .bf16⟩
  | .local _ .vmem, ⟨2, _⟩ => ⟨S2048x256, .bf16⟩
  | .local _ .vmem, ⟨3, _⟩ => ⟨S2048x256, .bf16⟩
  | .local _ .vmem, ⟨4, _⟩ => ⟨S2048x128, .bf16⟩
  | .local _ .vmem, ⟨5, _⟩ => ⟨S2048x128, .bf16⟩
  | .local _ .vmem, ⟨6, _⟩ => ⟨S256x128, .bf16⟩
  | .local _ .vmem, ⟨7, _⟩ => ⟨S256x128, .bf16⟩
  | .local _ .vmem, ⟨8, _⟩ => ⟨S512x1, .f32⟩
  | .local _ .vmem, ⟨9, _⟩ => ⟨S512x1, .f32⟩
  | .local _ .vmem, ⟨10, _⟩ => ⟨S512x128, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 8], ![false, false, false]⟩

@[reducible] def k0_t1_loop (i : grid0.Coords) : Scf.Loop 32 :=
  let c0_i32_10 : BitVec 32 := 0#32
  let arg2 : BitVec 32 := BitVec.ofNat 32 (i 2).val
  let v15 : BitVec 32 := Scalar.subi arg2 c0_i32_10
  let c1_i32 : BitVec 32 := 1#32
  let v17 : BitVec 32 := Scalar.divsi v15 c1_i32
  let v18 : BitVec 32 := Scalar.muli v17 c1_i32
  let v19 : BitVec 32 := Scalar.addi c0_i32_10 v18
  let c1_i32_11 : BitVec 32 := 1#32
  ⟨c0_i32_10, v19, c1_i32_11⟩
def k0_mult1 (i : grid0.Coords) (k0_t1 : Fin (k0_t1_loop i).trips) : BitVec 32 :=
  let c0_i32_10 : BitVec 32 := 0#32
  let c1_i32_11 : BitVec 32 := 1#32
  let arg10 : BitVec 32 := Scf.iv c0_i32_10 c1_i32_11 k0_t1
  let c256_i32_41 : BitVec 32 := 256#32
  let v81 : BitVec 32 := Scalar.muli arg10 c256_i32_41
  v81
def k0_off1 (i : grid0.Coords) (k0_t1 : Fin (k0_t1_loop i).trips) : Fin 2 → Nat :=
  let c0_i32_10 : BitVec 32 := 0#32
  let c1_i32_11 : BitVec 32 := 1#32
  let arg10 : BitVec 32 := Scf.iv c0_i32_10 c1_i32_11 k0_t1
  let c256_i32_41 : BitVec 32 := 256#32
  let v81 : BitVec 32 := Scalar.muli arg10 c256_i32_41
  let v82 : BitVec 32 := v81
  let v83 : Index := Scalar.indexCast v82
  let c0_42 : Index := 0#32
  ![v83.toNat, 0]
def k0_off2 (i : grid0.Coords) (k0_t1 : Fin (k0_t1_loop i).trips) : Fin 2 → Nat :=
  let c0_i32_10 : BitVec 32 := 0#32
  let c1_i32_11 : BitVec 32 := 1#32
  let arg10 : BitVec 32 := Scf.iv c0_i32_10 c1_i32_11 k0_t1
  let c256_i32_41 : BitVec 32 := 256#32
  let v81 : BitVec 32 := Scalar.muli arg10 c256_i32_41
  let v82 : BitVec 32 := v81
  let v86 : Index := Scalar.indexCast v82
  let c128_44 : Index := 128#32
  ![v86.toNat, 128]
def k0_off3 (i : grid0.Coords) (k0_t1 : Fin (k0_t1_loop i).trips) : Fin 2 → Nat :=
  let c0_i32_10 : BitVec 32 := 0#32
  let c1_i32_11 : BitVec 32 := 1#32
  let arg10 : BitVec 32 := Scf.iv c0_i32_10 c1_i32_11 k0_t1
  let c256_i32_41 : BitVec 32 := 256#32
  let v81 : BitVec 32 := Scalar.muli arg10 c256_i32_41
  let v82 : BitVec 32 := v81
  let v90 : Index := Scalar.indexCast v82
  let c0_46 : Index := 0#32
  ![v90.toNat, 0]
@[reducible] def k0_t2_loop (i : grid0.Coords) : Scf.Loop 32 :=
  let c0_i32_10 : BitVec 32 := 0#32
  let arg2 : BitVec 32 := BitVec.ofNat 32 (i 2).val
  let v15 : BitVec 32 := Scalar.subi arg2 c0_i32_10
  let c1_i32 : BitVec 32 := 1#32
  let v17 : BitVec 32 := Scalar.divsi v15 c1_i32
  let v18 : BitVec 32 := Scalar.muli v17 c1_i32
  let v19 : BitVec 32 := Scalar.addi c0_i32_10 v18
  let v16 : BitVec 32 := Scalar.addi c0_i32_10 v15
  let c1_i32_12 : BitVec 32 := 1#32
  ⟨v19, v16, c1_i32_12⟩
def k0_mult2 (i : grid0.Coords) (k0_t2 : Fin (k0_t2_loop i).trips) : BitVec 32 :=
  let c0_i32_10 : BitVec 32 := 0#32
  let arg2 : BitVec 32 := BitVec.ofNat 32 (i 2).val
  let v15 : BitVec 32 := Scalar.subi arg2 c0_i32_10
  let c1_i32 : BitVec 32 := 1#32
  let v17 : BitVec 32 := Scalar.divsi v15 c1_i32
  let v18 : BitVec 32 := Scalar.muli v17 c1_i32
  let v19 : BitVec 32 := Scalar.addi c0_i32_10 v18
  let c1_i32_12 : BitVec 32 := 1#32
  let arg10 : BitVec 32 := Scf.iv v19 c1_i32_12 k0_t2
  let c256_i32_41 : BitVec 32 := 256#32
  let v81 : BitVec 32 := Scalar.muli arg10 c256_i32_41
  v81
def k0_off4 (i : grid0.Coords) (k0_t2 : Fin (k0_t2_loop i).trips) : Fin 2 → Nat :=
  let c0_i32_10 : BitVec 32 := 0#32
  let arg2 : BitVec 32 := BitVec.ofNat 32 (i 2).val
  let v15 : BitVec 32 := Scalar.subi arg2 c0_i32_10
  let c1_i32 : BitVec 32 := 1#32
  let v17 : BitVec 32 := Scalar.divsi v15 c1_i32
  let v18 : BitVec 32 := Scalar.muli v17 c1_i32
  let v19 : BitVec 32 := Scalar.addi c0_i32_10 v18
  let c1_i32_12 : BitVec 32 := 1#32
  let arg10 : BitVec 32 := Scf.iv v19 c1_i32_12 k0_t2
  let c256_i32_41 : BitVec 32 := 256#32
  let v81 : BitVec 32 := Scalar.muli arg10 c256_i32_41
  let v82 : BitVec 32 := v81
  let v83 : Index := Scalar.indexCast v82
  let c0_42 : Index := 0#32
  ![v83.toNat, 0]
def k0_off5 (i : grid0.Coords) (k0_t2 : Fin (k0_t2_loop i).trips) : Fin 2 → Nat :=
  let c0_i32_10 : BitVec 32 := 0#32
  let arg2 : BitVec 32 := BitVec.ofNat 32 (i 2).val
  let v15 : BitVec 32 := Scalar.subi arg2 c0_i32_10
  let c1_i32 : BitVec 32 := 1#32
  let v17 : BitVec 32 := Scalar.divsi v15 c1_i32
  let v18 : BitVec 32 := Scalar.muli v17 c1_i32
  let v19 : BitVec 32 := Scalar.addi c0_i32_10 v18
  let c1_i32_12 : BitVec 32 := 1#32
  let arg10 : BitVec 32 := Scf.iv v19 c1_i32_12 k0_t2
  let c256_i32_41 : BitVec 32 := 256#32
  let v81 : BitVec 32 := Scalar.muli arg10 c256_i32_41
  let v82 : BitVec 32 := v81
  let v86 : Index := Scalar.indexCast v82
  let c128_44 : Index := 128#32
  ![v86.toNat, 128]
def k0_off6 (i : grid0.Coords) (k0_t2 : Fin (k0_t2_loop i).trips) : Fin 2 → Nat :=
  let c0_i32_10 : BitVec 32 := 0#32
  let arg2 : BitVec 32 := BitVec.ofNat 32 (i 2).val
  let v15 : BitVec 32 := Scalar.subi arg2 c0_i32_10
  let c1_i32 : BitVec 32 := 1#32
  let v17 : BitVec 32 := Scalar.divsi v15 c1_i32
  let v18 : BitVec 32 := Scalar.muli v17 c1_i32
  let v19 : BitVec 32 := Scalar.addi c0_i32_10 v18
  let c1_i32_12 : BitVec 32 := 1#32
  let arg10 : BitVec 32 := Scf.iv v19 c1_i32_12 k0_t2
  let c256_i32_41 : BitVec 32 := 256#32
  let v81 : BitVec 32 := Scalar.muli arg10 c256_i32_41
  let v82 : BitVec 32 := v81
  let v90 : Index := Scalar.indexCast v82
  let c0_46 : Index := 0#32
  ![v90.toNat, 0]
def k0_mult3 (i : grid0.Coords) : BitVec 32 :=
  let arg2 : BitVec 32 := BitVec.ofNat 32 (i 2).val
  let c256_i32 : BitVec 32 := 256#32
  let v20 : BitVec 32 := Scalar.muli arg2 c256_i32
  v20
def k0_off7 (i : grid0.Coords) : Fin 2 → Nat :=
  let arg2 : BitVec 32 := BitVec.ofNat 32 (i 2).val
  let c256_i32 : BitVec 32 := 256#32
  let v20 : BitVec 32 := Scalar.muli arg2 c256_i32
  let v21 : BitVec 32 := v20
  let v26 : Index := Scalar.indexCast v21
  let c0_13 : Index := 0#32
  ![v26.toNat, 0]
def k0_off8 (i : grid0.Coords) : Fin 2 → Nat :=
  let arg2 : BitVec 32 := BitVec.ofNat 32 (i 2).val
  let c256_i32 : BitVec 32 := 256#32
  let v20 : BitVec 32 := Scalar.muli arg2 c256_i32
  let v21 : BitVec 32 := v20
  let v29 : Index := Scalar.indexCast v21
  let c128_15 : Index := 128#32
  ![v29.toNat, 128]
def k0_off9 (i : grid0.Coords) : Fin 2 → Nat :=
  let arg2 : BitVec 32 := BitVec.ofNat 32 (i 2).val
  let c256_i32 : BitVec 32 := 256#32
  let v20 : BitVec 32 := Scalar.muli arg2 c256_i32
  let v21 : BitVec 32 := v20
  let v34 : Index := Scalar.indexCast v21
  let c0_17 : Index := 0#32
  ![v34.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S16384x2048 : Shape := ⟨2, ![16384, 2048]⟩
abbrev S16384x1024 : Shape := ⟨2, ![16384, 1024]⟩
abbrev S8x2048x16x128 : Shape := ⟨4, ![8, 2048, 16, 128]⟩
abbrev S8x2048x16x64 : Shape := ⟨4, ![8, 2048, 16, 64]⟩
abbrev S8x16x2048x2048 : Shape := ⟨4, ![8, 16, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S1x1x2048x2048 : Shape := ⟨4, ![1, 1, 2048, 2048]⟩
abbrev S_ : Shape := ⟨0, ![]⟩
abbrev S8x16x2048 : Shape := ⟨3, ![8, 16, 2048]⟩
abbrev S8x16x2048x1 : Shape := ⟨4, ![8, 16, 2048, 1]⟩
abbrev S8x16x64x2048 : Shape := ⟨4, ![8, 16, 64, 2048]⟩

abbrev nBuf : Space → Nat
  | .hbm => 53
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x1024, .bf16⟩
  | .hbm, ⟨3, _⟩ => ⟨S16384x2048, .f32⟩
  | .hbm, ⟨4, _⟩ => ⟨S8x2048x16x128, .f32⟩
  | .hbm, ⟨5, _⟩ => ⟨S16384x2048, .f32⟩
  | .hbm, ⟨6, _⟩ => ⟨S8x2048x16x128, .f32⟩
  | .hbm, ⟨7, _⟩ => ⟨S16384x1024, .f32⟩
  | .hbm, ⟨8, _⟩ => ⟨S8x2048x16x64, .f32⟩
  | .hbm, ⟨9, _⟩ => ⟨S8x16x2048x2048, .f32⟩
  | .hbm, ⟨10, _⟩ => ⟨S2048, .i32⟩
  | .hbm, ⟨11, _⟩ => ⟨S1x2048, .i32⟩
  | .hbm, ⟨12, _⟩ => ⟨S2048x1, .i32⟩
  | .hbm, ⟨13, _⟩ => ⟨S2048x2048, .i32⟩
  | .hbm, ⟨14, _⟩ => ⟨S2048x2048, .i32⟩
  | .hbm, ⟨15, _⟩ => ⟨S2048x2048, .i1⟩
  | .hbm, ⟨16, _⟩ => ⟨S1x1x2048x2048, .i1⟩
  | .hbm, ⟨17, _⟩ => ⟨S_, .f32⟩
  | .hbm, ⟨18, _⟩ => ⟨S_, .f32⟩
  | .hbm, ⟨19, _⟩ => ⟨S8x16x2048x2048, .i1⟩
  | .hbm, ⟨20, _⟩ => ⟨S8x16x2048x2048, .f32⟩
  | .hbm, ⟨21, _⟩ => ⟨S8x16x2048x2048, .f32⟩
  | .hbm, ⟨22, _⟩ => ⟨S_, .f32⟩
  | .hbm, ⟨23, _⟩ => ⟨S8x16x2048, .f32⟩
  | .hbm, ⟨24, _⟩ => ⟨S8x16x2048x1, .f32⟩
  | .hbm, ⟨25, _⟩ => ⟨S8x16x2048x1, .f32⟩
  | .hbm, ⟨26, _⟩ => ⟨S_, .f32⟩
  | .hbm, ⟨27, _⟩ => ⟨S8x16x2048x1, .f32⟩
  | .hbm, ⟨28, _⟩ => ⟨S8x16x2048x1, .i1⟩
  | .hbm, ⟨29, _⟩ => ⟨S_, .f32⟩
  | .hbm, ⟨30, _⟩ => ⟨S_, .f32⟩
  | .hbm, ⟨31, _⟩ => ⟨S8x16x2048x1, .f32⟩
  | .hbm, ⟨32, _⟩ => ⟨S8x16x2048x1, .f32⟩
  | .hbm, ⟨33, _⟩ => ⟨S8x16x2048x2048, .f32⟩
  | .hbm, ⟨34, _⟩ => ⟨S8x16x2048x2048, .f32⟩
  | .hbm, ⟨35, _⟩ => ⟨S8x16x2048x2048, .f32⟩
  | .hbm, ⟨36, _⟩ => ⟨S_, .f32⟩
  | .hbm, ⟨37, _⟩ => ⟨S_, .f32⟩
  | .hbm, ⟨38, _⟩ => ⟨S8x16x2048x2048, .i1⟩
  | .hbm, ⟨39, _⟩ => ⟨S8x16x2048x2048, .f32⟩
  | .hbm, ⟨40, _⟩ => ⟨S8x16x2048x2048, .f32⟩
  | .hbm, ⟨41, _⟩ => ⟨S_, .f32⟩
  | .hbm, ⟨42, _⟩ => ⟨S8x16x2048, .f32⟩
  | .hbm, ⟨43, _⟩ => ⟨S8x16x2048x1, .f32⟩
  | .hbm, ⟨44, _⟩ => ⟨S_, .f32⟩
  | .hbm, ⟨45, _⟩ => ⟨S8x16x2048x1, .f32⟩
  | .hbm, ⟨46, _⟩ => ⟨S8x16x2048x1, .f32⟩
  | .hbm, ⟨47, _⟩ => ⟨S8x16x2048x2048, .f32⟩
  | .hbm, ⟨48, _⟩ => ⟨S8x16x2048x2048, .f32⟩
  | .hbm, ⟨49, _⟩ => ⟨S8x16x64x2048, .f32⟩
  | .hbm, ⟨50, _⟩ => ⟨S8x2048x16x64, .f32⟩
  | .hbm, ⟨51, _⟩ => ⟨S16384x1024, .f32⟩
  | .hbm, ⟨52, _⟩ => ⟨S16384x1024, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_call1_v0 : Ref sig .tc := ⟨.hbm, 30, rfl⟩
abbrev main_call1_v1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_call2_v0 : Ref sig .tc := ⟨.hbm, 37, rfl⟩
abbrev main_call2_v1 : Ref sig .tc := ⟨.hbm, 38, rfl⟩
abbrev main_call2_v2 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩

abbrev nD : Nat := 1
abbrev τ : Topo := Topo.v7x

variable {F : FTy → Type} [FloatOps F]
-- ==== Mlp.lean ====
abbrev S16384x1024 : Shape := ⟨2, ![16384, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1x1024, .f32⟩
  | .hbm, ⟨5, _⟩ => ⟨S1024x4096, .bf16⟩
  | .hbm, ⟨6, _⟩ => ⟨S4096x1024, .bf16⟩
  | .hbm, ⟨7, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S4096x1024, .bf16⟩
  | .local _ .vmem, ⟨5, _⟩ => ⟨S512x1024, .f32⟩
  | .local _ .vmem, ⟨6, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MlpReferenceIdeal.lean ====
abbrev S16384x1024 : Shape := ⟨2, ![16384, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩

abbrev nBuf : Space → Nat
  | .hbm => 27
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x4096, .f32⟩
  | .hbm, ⟨21, _⟩ => ⟨S_, .f32⟩
  | .hbm, ⟨22, _⟩ => ⟨S16384x4096, .f32⟩
  | .hbm, ⟨23, _⟩ => ⟨S16384x4096, .f32⟩
  | .hbm, ⟨24, _⟩ => ⟨S16384x4096, .f32⟩
  | .hbm, ⟨25, _⟩ => ⟨S16384x1024, .f32⟩
  | .hbm, ⟨26, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_cst : Ref sig .tc := ⟨.hbm, 21, rfl⟩
abbrev main_call0_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== Outproj.lean ====
abbrev S16384x1024 : Shape := ⟨2, ![16384, 1024]⟩
abbrev S1024x1024 : Shape := ⟨2, ![1024, 1024]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1024x1024, .f32⟩
  | .hbm, ⟨3, _⟩ => ⟨S1024x1024, .bf16⟩
  | .hbm, ⟨4, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OutprojReferenceIdeal.lean ====
abbrev S16384x1024 : Shape := ⟨2, ![16384, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1024x1024, .f32⟩
  | .hbm, ⟨3, _⟩ => ⟨S16384x1024, .f32⟩
  | .hbm, ⟨4, _⟩ => ⟨S16384x1024, .f32⟩
  | .hbm, ⟨5, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== MobaProj.lean ====
abbrev S8x2048x1024 : Shape := ⟨3, ![8, 2048, 1024]⟩
abbrev S1024 : Shape := ⟨1, ![1024]⟩
abbrev S1024x1536 : Shape := ⟨2, ![1024, 1536]⟩
abbrev S64 : Shape := ⟨1, ![64]⟩
abbrev S2048x32 : Shape := ⟨2, ![2048, 32]⟩
abbrev S8x256 : Shape := ⟨2, ![8, 256]⟩
abbrev S1024x1024 : Shape := ⟨2, ![1024, 1024]⟩
abbrev S_ : Shape := ⟨0, ![]⟩
abbrev S1024x1 : Shape := ⟨2, ![1024, 1]⟩
abbrev S1024x512 : Shape := ⟨2, ![1024, 512]⟩
abbrev S16384x1024 : Shape := ⟨2, ![16384, 1024]⟩
abbrev S1x1024 : Shape := ⟨2, ![1, 1024]⟩
abbrev S2048x64 : Shape := ⟨2, ![2048, 64]⟩
abbrev S1x2048x1x64 : Shape := ⟨4, ![1, 2048, 1, 64]⟩
abbrev S1x2048x4x64 : Shape := ⟨4, ![1, 2048, 4, 64]⟩
abbrev S2048x256 : Shape := ⟨2, ![2048, 256]⟩
abbrev S1x64 : Shape := ⟨2, ![1, 64]⟩
abbrev S4x64 : Shape := ⟨2, ![4, 64]⟩
abbrev S256 : Shape := ⟨1, ![256]⟩
abbrev S1 : Shape := ⟨1, ![1]⟩
abbrev S256x256 : Shape := ⟨2, ![256, 256]⟩
abbrev S16384x512 : Shape := ⟨2, ![16384, 512]⟩
abbrev S512x1024 : Shape := ⟨2, ![512, 1024]⟩
abbrev S512x256 : Shape := ⟨2, ![512, 256]⟩
abbrev S512x512 : Shape := ⟨2, ![512, 512]⟩
abbrev S512 : Shape := ⟨1, ![512]⟩
abbrev S512x1 : Shape := ⟨2, ![512, 1]⟩
abbrev S1x256 : Shape := ⟨2, ![1, 256]⟩
abbrev S1024x256 : Shape := ⟨2, ![1024, 256]⟩

abbrev nBuf : Space → Nat
  | .hbm => 61
  | .vmem => 16
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x1536, .f32⟩
  | .hbm, ⟨3, _⟩ => ⟨S64, .f32⟩
  | .hbm, ⟨4, _⟩ => ⟨S64, .f32⟩
  | .hbm, ⟨5, _⟩ => ⟨S2048x32, .f32⟩
  | .hbm, ⟨6, _⟩ => ⟨S2048x32, .f32⟩
  | .hbm, ⟨7, _⟩ => ⟨S1024, .i32⟩
  | .hbm, ⟨8, _⟩ => ⟨S1024, .i1⟩
  | .hbm, ⟨9, _⟩ => ⟨S8x256, .f32⟩
  | .hbm, ⟨10, _⟩ => ⟨S1024x1024, .f32⟩
  | .hbm, ⟨11, _⟩ => ⟨S_, .i32⟩
  | .hbm, ⟨12, _⟩ => ⟨S1024, .i32⟩
  | .hbm, ⟨13, _⟩ => ⟨S1024, .i32⟩
  | .hbm, ⟨14, _⟩ => ⟨S1024, .i32⟩
  | .hbm, ⟨15, _⟩ => ⟨S1024x1, .i32⟩
  | .hbm, ⟨16, _⟩ => ⟨S1024x1024, .f32⟩
  | .hbm, ⟨17, _⟩ => ⟨S1024x512, .f32⟩
  | .hbm, ⟨18, _⟩ => ⟨S1024x1536, .f32⟩
  | .hbm, ⟨19, _⟩ => ⟨S1024x1536, .bf16⟩
  | .hbm, ⟨20, _⟩ => ⟨S16384x1024, .f32⟩
  | .hbm, ⟨21, _⟩ => ⟨S1x1024, .f32⟩
  | .hbm, ⟨22, _⟩ => ⟨S2048x64, .f32⟩
  | .hbm, ⟨23, _⟩ => ⟨S1x2048x1x64, .f32⟩
  | .hbm, ⟨24, _⟩ => ⟨S1x2048x4x64, .f32⟩
  | .hbm, ⟨25, _⟩ => ⟨S2048x256, .f32⟩
  | .hbm, ⟨26, _⟩ => ⟨S2048x32, .f32⟩
  | .hbm, ⟨27, _⟩ => ⟨S2048x64, .f32⟩
  | .hbm, ⟨28, _⟩ => ⟨S1x2048x1x64, .f32⟩
  | .hbm, ⟨29, _⟩ => ⟨S1x2048x4x64, .f32⟩
  | .hbm, ⟨30, _⟩ => ⟨S2048x256, .f32⟩
  | .hbm, ⟨31, _⟩ => ⟨S1x64, .f32⟩
  | .hbm, ⟨32, _⟩ => ⟨S4x64, .f32⟩
  | .hbm, ⟨33, _⟩ => ⟨S256, .f32⟩
  | .hbm, ⟨34, _⟩ => ⟨S_, .i32⟩
  | .hbm, ⟨35, _⟩ => ⟨S1, .i32⟩
  | .hbm, ⟨36, _⟩ => ⟨S8x256, .f32⟩
  | .hbm, ⟨37, _⟩ => ⟨S1x64, .f32⟩
  | .hbm, ⟨38, _⟩ => ⟨S4x64, .f32⟩
  | .hbm, ⟨39, _⟩ => ⟨S256, .f32⟩
  | .hbm, ⟨40, _⟩ => ⟨S_, .i32⟩
  | .hbm, ⟨41, _⟩ => ⟨S1, .i32⟩
  | .hbm, ⟨42, _⟩ => ⟨S8x256, .f32⟩
  | .hbm, ⟨43, _⟩ => ⟨S256x256, .i32⟩
  | .hbm, ⟨44, _⟩ => ⟨S_, .i32⟩
  | .hbm, ⟨45, _⟩ => ⟨S256x256, .i32⟩
  | .hbm, ⟨46, _⟩ => ⟨S256x256, .i32⟩
  | .hbm, ⟨47, _⟩ => ⟨S256x256, .i32⟩
  | .hbm, ⟨48, _⟩ => ⟨S_, .i32⟩
  | .hbm, ⟨49, _⟩ => ⟨S256x256, .i32⟩
  | .hbm, ⟨50, _⟩ => ⟨S256x256, .i32⟩
  | .hbm, ⟨51, _⟩ => ⟨S256x256, .i1⟩
  | .hbm, ⟨52, _⟩ => ⟨S_, .f32⟩
  | .hbm, ⟨53, _⟩ => ⟨S_, .f32⟩
  | .hbm, ⟨54, _⟩ => ⟨S256x256, .f32⟩
  | .hbm, ⟨55, _⟩ => ⟨S256x256, .f32⟩
  | .hbm, ⟨56, _⟩ => ⟨S256x256, .f32⟩
  | .hbm, ⟨57, _⟩ => ⟨S256x256, .bf16⟩
  | .hbm, ⟨58, _⟩ => ⟨S16384x1024, .bf16⟩
  | .hbm, ⟨59, _⟩ => ⟨S16384x512, .f32⟩
  | .hbm, ⟨60, _⟩ => ⟨S16384x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1536, .bf16⟩
  | .local _ .vmem, ⟨4, _⟩ => ⟨S256x256, .bf16⟩
  | .local _ .vmem, ⟨5, _⟩ => ⟨S8x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x1024, .bf16⟩
  | .local _ .vmem, ⟨11, _⟩ => ⟨S512x1024, .bf16⟩
  | .local _ .vmem, ⟨12, _⟩ => ⟨S512x512, .f32⟩
  | .local _ .vmem, ⟨13, _⟩ => ⟨S512x512, .f32⟩
  | .local _ .vmem, ⟨14, _⟩ => ⟨S512x512, .bf16⟩
  | .local _ .vmem, ⟨15, _⟩ => ⟨S512x512, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_cst : Ref sig .tc := ⟨.hbm, 9, rfl⟩
abbrev main_v0 : Ref sig .tc := ⟨.hbm, 10, rfl⟩
abbrev main_c_1 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_4 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_5 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_cst_7 : Ref sig .tc := ⟨.hbm, 53, rfl⟩
abbrev main_call0_v0 : Ref sig .tc := ⟨.hbm, 54, rfl⟩
abbrev main_call0_v1 : Ref sig .tc := ⟨.hbm, 55, rfl⟩
abbrev main_v37 : Ref sig .tc := ⟨.hbm, 56, rfl⟩
abbrev main_v38 : Ref sig .tc := ⟨.hbm, 57, rfl⟩
abbrev main_v39_0 : Ref sig .tc := ⟨.hbm, 58, rfl⟩
abbrev main_v39_1 : Ref sig .tc := ⟨.hbm, 59, rfl⟩
abbrev main_v39_2 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MobaProjReferenceIdeal.lean ====
abbrev S8x2048x1024 : Shape := ⟨3, ![8, 2048, 1024]⟩
abbrev S1024 : Shape := ⟨1, ![1024]⟩
abbrev S1024x1536 : Shape := ⟨2, ![1024, 1536]⟩
abbrev S64 : Shape := ⟨1, ![64]⟩
abbrev S2048x32 : Shape := ⟨2, ![2048, 32]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x1536 : Shape := ⟨3, ![8, 2048, 1536]⟩
abbrev S8x2048x16x64 : Shape := ⟨4, ![8, 2048, 16, 64]⟩
abbrev S8x2048x16 : Shape := ⟨3, ![8, 2048, 16]⟩
abbrev S8x2048x16x1 : Shape := ⟨4, ![8, 2048, 16, 1]⟩
abbrev S1x1x1x64 : Shape := ⟨4, ![1, 1, 1, 64]⟩
abbrev S8x2048x16x32 : Shape := ⟨4, ![8, 2048, 16, 32]⟩
abbrev S2048x1x32 : Shape := ⟨3, ![2048, 1, 32]⟩
abbrev S1x2048x1x32 : Shape := ⟨4, ![1, 2048, 1, 32]⟩
abbrev S8x2048x256 : Shape := ⟨3, ![8, 2048, 256]⟩
abbrev S8x2048x4x64 : Shape := ⟨4, ![8, 2048, 4, 64]⟩
abbrev S8x2048x4 : Shape := ⟨3, ![8, 2048, 4]⟩
abbrev S8x2048x4x1 : Shape := ⟨4, ![8, 2048, 4, 1]⟩
abbrev S8x2048x4x32 : Shape := ⟨4, ![8, 2048, 4, 32]⟩
abbrev S8x2048x2x2x4x64 : Shape := ⟨6, ![8, 2048, 2, 2, 4, 64]⟩
abbrev S8x2048x2x4x2x64 : Shape := ⟨6, ![8, 2048, 2, 4, 2, 64]⟩
abbrev S16384x1024 : Shape := ⟨2, ![16384, 1024]⟩
abbrev S8x2048x512 : Shape := ⟨3, ![8, 2048, 512]⟩
abbrev S16384x512 : Shape := ⟨2, ![16384, 512]⟩

abbrev nBuf : Space → Nat
  | .hbm => 110
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x1536, .f32⟩
  | .hbm, ⟨3, _⟩ => ⟨S64, .f32⟩
  | .hbm, ⟨4, _⟩ => ⟨S64, .f32⟩
  | .hbm, ⟨5, _⟩ => ⟨S2048x32, .f32⟩
  | .hbm, ⟨6, _⟩ => ⟨S2048x32, .f32⟩
  | .hbm, ⟨7, _⟩ => ⟨S8x2048x1024, .f32⟩
  | .hbm, ⟨8, _⟩ => ⟨S_, .f32⟩
  | .hbm, ⟨9, _⟩ => ⟨S8x2048, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S8x2048x1, .f32⟩
  | .hbm, ⟨18, _⟩ => ⟨S8x2048x1024, .f32⟩
  | .hbm, ⟨19, _⟩ => ⟨S8x2048x1024, .f32⟩
  | .hbm, ⟨20, _⟩ => ⟨S1x1x1024, .f32⟩
  | .hbm, ⟨21, _⟩ => ⟨S8x2048x1024, .f32⟩
  | .hbm, ⟨22, _⟩ => ⟨S8x2048x1024, .f32⟩
  | .hbm, ⟨23, _⟩ => ⟨S8x2048x1536, .f32⟩
  | .hbm, ⟨24, _⟩ => ⟨S8x2048x1024, .f32⟩
  | .hbm, ⟨25, _⟩ => ⟨S8x2048x16x64, .f32⟩
  | .hbm, ⟨26, _⟩ => ⟨S8x2048x16x64, .f32⟩
  | .hbm, ⟨27, _⟩ => ⟨S_, .f32⟩
  | .hbm, ⟨28, _⟩ => ⟨S8x2048x16, .f32⟩
  | .hbm, ⟨29, _⟩ => ⟨S8x2048x16x1, .f32⟩
  | .hbm, ⟨30, _⟩ => ⟨S_, .f32⟩
  | .hbm, ⟨31, _⟩ => ⟨S8x2048x16x1, .f32⟩
  | .hbm, ⟨32, _⟩ => ⟨S8x2048x16x1, .f32⟩
  | .hbm, ⟨33, _⟩ => ⟨S_, .f32⟩
  | .hbm, ⟨34, _⟩ => ⟨S8x2048x16x1, .f32⟩
  | .hbm, ⟨35, _⟩ => ⟨S8x2048x16x1, .f32⟩
  | .hbm, ⟨36, _⟩ => ⟨S8x2048x16x1, .f32⟩
  | .hbm, ⟨37, _⟩ => ⟨S8x2048x16x64, .f32⟩
  | .hbm, ⟨38, _⟩ => ⟨S8x2048x16x64, .f32⟩
  | .hbm, ⟨39, _⟩ => ⟨S1x1x1x64, .f32⟩
  | .hbm, ⟨40, _⟩ => ⟨S8x2048x16x64, .f32⟩
  | .hbm, ⟨41, _⟩ => ⟨S8x2048x16x64, .f32⟩
  | .hbm, ⟨42, _⟩ => ⟨S8x2048x16x32, .f32⟩
  | .hbm, ⟨43, _⟩ => ⟨S8x2048x16x32, .f32⟩
  | .hbm, ⟨44, _⟩ => ⟨S2048x1x32, .f32⟩
  | .hbm, ⟨45, _⟩ => ⟨S2048x1x32, .f32⟩
  | .hbm, ⟨46, _⟩ => ⟨S1x2048x1x32, .f32⟩
  | .hbm, ⟨47, _⟩ => ⟨S8x2048x16x32, .f32⟩
  | .hbm, ⟨48, _⟩ => ⟨S8x2048x16x32, .f32⟩
  | .hbm, ⟨49, _⟩ => ⟨S1x2048x1x32, .f32⟩
  | .hbm, ⟨50, _⟩ => ⟨S8x2048x16x32, .f32⟩
  | .hbm, ⟨51, _⟩ => ⟨S8x2048x16x32, .f32⟩
  | .hbm, ⟨52, _⟩ => ⟨S8x2048x16x32, .f32⟩
  | .hbm, ⟨53, _⟩ => ⟨S1x2048x1x32, .f32⟩
  | .hbm, ⟨54, _⟩ => ⟨S8x2048x16x32, .f32⟩
  | .hbm, ⟨55, _⟩ => ⟨S8x2048x16x32, .f32⟩
  | .hbm, ⟨56, _⟩ => ⟨S1x2048x1x32, .f32⟩
  | .hbm, ⟨57, _⟩ => ⟨S8x2048x16x32, .f32⟩
  | .hbm, ⟨58, _⟩ => ⟨S8x2048x16x32, .f32⟩
  | .hbm, ⟨59, _⟩ => ⟨S8x2048x16x32, .f32⟩
  | .hbm, ⟨60, _⟩ => ⟨S8x2048x16x64, .f32⟩
  | .hbm, ⟨61, _⟩ => ⟨S_, .f32⟩
  | .hbm, ⟨62, _⟩ => ⟨S8x2048x16x64, .f32⟩
  | .hbm, ⟨63, _⟩ => ⟨S8x2048x16x64, .f32⟩
  | .hbm, ⟨64, _⟩ => ⟨S8x2048x256, .f32⟩
  | .hbm, ⟨65, _⟩ => ⟨S8x2048x4x64, .f32⟩
  | .hbm, ⟨66, _⟩ => ⟨S8x2048x4x64, .f32⟩
  | .hbm, ⟨67, _⟩ => ⟨S_, .f32⟩
  | .hbm, ⟨68, _⟩ => ⟨S8x2048x4, .f32⟩
  | .hbm, ⟨69, _⟩ => ⟨S8x2048x4x1, .f32⟩
  | .hbm, ⟨70, _⟩ => ⟨S_, .f32⟩
  | .hbm, ⟨71, _⟩ => ⟨S8x2048x4x1, .f32⟩
  | .hbm, ⟨72, _⟩ => ⟨S8x2048x4x1, .f32⟩
  | .hbm, ⟨73, _⟩ => ⟨S_, .f32⟩
  | .hbm, ⟨74, _⟩ => ⟨S8x2048x4x1, .f32⟩
  | .hbm, ⟨75, _⟩ => ⟨S8x2048x4x1, .f32⟩
  | .hbm, ⟨76, _⟩ => ⟨S8x2048x4x1, .f32⟩
  | .hbm, ⟨77, _⟩ => ⟨S8x2048x4x64, .f32⟩
  | .hbm, ⟨78, _⟩ => ⟨S8x2048x4x64, .f32⟩
  | .hbm, ⟨79, _⟩ => ⟨S1x1x1x64, .f32⟩
  | .hbm, ⟨80, _⟩ => ⟨S8x2048x4x64, .f32⟩
  | .hbm, ⟨81, _⟩ => ⟨S8x2048x4x64, .f32⟩
  | .hbm, ⟨82, _⟩ => ⟨S8x2048x4x32, .f32⟩
  | .hbm, ⟨83, _⟩ => ⟨S8x2048x4x32, .f32⟩
  | .hbm, ⟨84, _⟩ => ⟨S2048x1x32, .f32⟩
  | .hbm, ⟨85, _⟩ => ⟨S2048x1x32, .f32⟩
  | .hbm, ⟨86, _⟩ => ⟨S1x2048x1x32, .f32⟩
  | .hbm, ⟨87, _⟩ => ⟨S8x2048x4x32, .f32⟩
  | .hbm, ⟨88, _⟩ => ⟨S8x2048x4x32, .f32⟩
  | .hbm, ⟨89, _⟩ => ⟨S1x2048x1x32, .f32⟩
  | .hbm, ⟨90, _⟩ => ⟨S8x2048x4x32, .f32⟩
  | .hbm, ⟨91, _⟩ => ⟨S8x2048x4x32, .f32⟩
  | .hbm, ⟨92, _⟩ => ⟨S8x2048x4x32, .f32⟩
  | .hbm, ⟨93, _⟩ => ⟨S1x2048x1x32, .f32⟩
  | .hbm, ⟨94, _⟩ => ⟨S8x2048x4x32, .f32⟩
  | .hbm, ⟨95, _⟩ => ⟨S8x2048x4x32, .f32⟩
  | .hbm, ⟨96, _⟩ => ⟨S1x2048x1x32, .f32⟩
  | .hbm, ⟨97, _⟩ => ⟨S8x2048x4x32, .f32⟩
  | .hbm, ⟨98, _⟩ => ⟨S8x2048x4x32, .f32⟩
  | .hbm, ⟨99, _⟩ => ⟨S8x2048x4x32, .f32⟩
  | .hbm, ⟨100, _⟩ => ⟨S8x2048x4x64, .f32⟩
  | .hbm, ⟨101, _⟩ => ⟨S8x2048x2x2x4x64, .f32⟩
  | .hbm, ⟨102, _⟩ => ⟨S8x2048x2x4x2x64, .f32⟩
  | .hbm, ⟨103, _⟩ => ⟨S16384x1024, .f32⟩
  | .hbm, ⟨104, _⟩ => ⟨S8x2048x256, .f32⟩
  | .hbm, ⟨105, _⟩ => ⟨S8x2048x256, .f32⟩
  | .hbm, ⟨106, _⟩ => ⟨S8x2048x512, .f32⟩
  | .hbm, ⟨107, _⟩ => ⟨S16384x512, .f32⟩
  | .hbm, ⟨108, _⟩ => ⟨S16384x1024, .bf16⟩
  | .hbm, ⟨109, _⟩ => ⟨S16384x512, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_5 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_6 : Ref sig .tc := ⟨.hbm, 67, rfl⟩
abbrev main_v53 : Ref sig .tc := ⟨.hbm, 68, rfl⟩
abbrev main_v54 : Ref sig .tc := ⟨.hbm, 69, rfl⟩
abbrev main_cst_7 : Ref sig .tc := ⟨.hbm, 70, rfl⟩
abbrev main_v55 : Ref sig .tc := ⟨.hbm, 71, rfl⟩
abbrev main_v56 : Ref sig .tc := ⟨.hbm, 72, rfl⟩
abbrev main_cst_8 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩

abbrev nD : Nat := 1
abbrev τ : Topo := Topo.v7x

variable {F : FTy → Type} [FloatOps F]
-- ==== MobaSample.lean ====
abbrev S32x8x1024 : Shape := ⟨3, ![32, 8, 1024]⟩
abbrev S1024 : Shape := ⟨1, ![1024]⟩
abbrev S1024x1536 : Shape := ⟨2, ![1024, 1536]⟩
abbrev S64 : Shape := ⟨1, ![64]⟩
abbrev S8x32 : Shape := ⟨2, ![8, 32]⟩
abbrev S8x256 : Shape := ⟨2, ![8, 256]⟩
abbrev S1024x1024 : Shape := ⟨2, ![1024, 1024]⟩
abbrev S_ : Shape := ⟨0, ![]⟩
abbrev S1024x1 : Shape := ⟨2, ![1024, 1]⟩
abbrev S1024x512 : Shape := ⟨2, ![1024, 512]⟩
abbrev S1x8x1x32 : Shape := ⟨4, ![1, 8, 1, 32]⟩
abbrev S32x8x1x32 : Shape := ⟨4, ![32, 8, 1, 32]⟩
abbrev S256x32 : Shape := ⟨2, ![256, 32]⟩
abbrev S256x1024 : Shape := ⟨2, ![256, 1024]⟩
abbrev S1x1024 : Shape := ⟨2, ![1, 1024]⟩
abbrev S256x64 : Shape := ⟨2, ![256, 64]⟩
abbrev S1x256x1x64 : Shape := ⟨4, ![1, 256, 1, 64]⟩
abbrev S1x256x4x64 : Shape := ⟨4, ![1, 256, 4, 64]⟩
abbrev S256x256 : Shape := ⟨2, ![256, 256]⟩
abbrev S1x64 : Shape := ⟨2, ![1, 64]⟩
abbrev S4x64 : Shape := ⟨2, ![4, 64]⟩
abbrev S256 : Shape := ⟨1, ![256]⟩
abbrev S1 : Shape := ⟨1, ![1]⟩
abbrev S256x512 : Shape := ⟨2, ![256, 512]⟩
abbrev S256x1 : Shape := ⟨2, ![256, 1]⟩
abbrev S1x256 : Shape := ⟨2, ![1, 256]⟩
abbrev S1024x256 : Shape := ⟨2, ![1024, 256]⟩

abbrev nBuf : Space → Nat
  | .hbm => 67
  | .vmem => 10
  | .smem => 0
  | _ => 0

abbrev bufTy : (tb : Table) → Fin (tcTables nBuf tb) → BufTy
  | .hbm, ⟨0, _⟩ => ⟨S32x8x1024, .f32⟩
  | .hbm, ⟨1, _⟩ => ⟨S1024, .f32⟩
  | .hbm, ⟨2, _⟩ => ⟨S1024x1536, .f32⟩
  | .hbm, ⟨3, _⟩ => ⟨S64, .f32⟩
  | .hbm, ⟨4, _⟩ => ⟨S64, .f32⟩
  | .hbm, ⟨5, _⟩ => ⟨S8x32, .f32⟩
  | .hbm, ⟨6, _⟩ => ⟨S8x32, .f32⟩
  | .hbm, ⟨7, _⟩ => ⟨S1024, .i32⟩
  | .hbm, ⟨8, _⟩ => ⟨S1024, .i1⟩
  | .hbm, ⟨9, _⟩ => ⟨S8x256, .f32⟩
  | .hbm, ⟨10, _⟩ => ⟨S1024x1024, .f32⟩
  | .hbm, ⟨11, _⟩ => ⟨S_, .i32⟩
  | .hbm, ⟨12, _⟩ => ⟨S1024, .i32⟩
  | .hbm, ⟨13, _⟩ => ⟨S1024, .i32⟩
  | .hbm, ⟨14, _⟩ => ⟨S1024, .i32⟩
  | .hbm, ⟨15, _⟩ => ⟨S1024x1, .i32⟩
  | .hbm, ⟨16, _⟩ => ⟨S1024x1024, .f32⟩
  | .hbm, ⟨17, _⟩ => ⟨S1024x512, .f32⟩
  | .hbm, ⟨18, _⟩ => ⟨S1024x1536, .f32⟩
  | .hbm, ⟨19, _⟩ => ⟨S1024x1536, .bf16⟩
  | .hbm, ⟨20, _⟩ => ⟨S1x8x1x32, .f32⟩
  | .hbm, ⟨21, _⟩ => ⟨S32x8x1x32, .f32⟩
  | .hbm, ⟨22, _⟩ => ⟨S256x32, .f32⟩
  | .hbm, ⟨23, _⟩ => ⟨S1x8x1x32, .f32⟩
  | .hbm, ⟨24, _⟩ => ⟨S32x8x1x32, .f32⟩
  | .hbm, ⟨25, _⟩ => ⟨S256x32, .f32⟩
  | .hbm, ⟨26, _⟩ => ⟨S256x1024, .f32⟩
  | .hbm, ⟨27, _⟩ => ⟨S1x1024, .f32⟩
  | .hbm, ⟨28, _⟩ => ⟨S256x64, .f32⟩
  | .hbm, ⟨29, _⟩ => ⟨S1x256x1x64, .f32⟩
  | .hbm, ⟨30, _⟩ => ⟨S1x256x4x64, .f32⟩
  | .hbm, ⟨31, _⟩ => ⟨S256x256, .f32⟩
  | .hbm, ⟨32, _⟩ => ⟨S256x32, .f32⟩
  | .hbm, ⟨33, _⟩ => ⟨S256x64, .f32⟩
  | .hbm, ⟨34, _⟩ => ⟨S1x256x1x64, .f32⟩
  | .hbm, ⟨35, _⟩ => ⟨S1x256x4x64, .f32⟩
  | .hbm, ⟨36, _⟩ => ⟨S256x256, .f32⟩
  | .hbm, ⟨37, _⟩ => ⟨S1x64, .f32⟩
  | .hbm, ⟨38, _⟩ => ⟨S4x64, .f32⟩
  | .hbm, ⟨39, _⟩ => ⟨S256, .f32⟩
  | .hbm, ⟨40, _⟩ => ⟨S_, .i32⟩
  | .hbm, ⟨41, _⟩ => ⟨S1, .i32⟩
  | .hbm, ⟨42, _⟩ => ⟨S8x256, .f32⟩
  | .hbm, ⟨43, _⟩ => ⟨S1x64, .f32⟩
  | .hbm, ⟨44, _⟩ => ⟨S4x64, .f32⟩
  | .hbm, ⟨45, _⟩ => ⟨S256, .f32⟩
  | .hbm, ⟨46, _⟩ => ⟨S_, .i32⟩
  | .hbm, ⟨47, _⟩ => ⟨S1, .i32⟩
  | .hbm, ⟨48, _⟩ => ⟨S8x256, .f32⟩
  | .hbm, ⟨49, _⟩ => ⟨S256x256, .i32⟩
  | .hbm, ⟨50, _⟩ => ⟨S_, .i32⟩
  | .hbm, ⟨51, _⟩ => ⟨S256x256, .i32⟩
  | .hbm, ⟨52, _⟩ => ⟨S256x256, .i32⟩
  | .hbm, ⟨53, _⟩ => ⟨S256x256, .i32⟩
  | .hbm, ⟨54, _⟩ => ⟨S_, .i32⟩
  | .hbm, ⟨55, _⟩ => ⟨S256x256, .i32⟩
  | .hbm, ⟨56, _⟩ => ⟨S256x256, .i32⟩
  | .hbm, ⟨57, _⟩ => ⟨S256x256, .i1⟩
  | .hbm, ⟨58, _⟩ => ⟨S_, .f32⟩
  | .hbm, ⟨59, _⟩ => ⟨S_, .f32⟩
  | .hbm, ⟨60, _⟩ => ⟨S256x256, .f32⟩
  | .hbm, ⟨61, _⟩ => ⟨S256x256, .f32⟩
  | .hbm, ⟨62, _⟩ => ⟨S256x256, .f32⟩
  | .hbm, ⟨63, _⟩ => ⟨S256x256, .bf16⟩
  | .hbm, ⟨64, _⟩ => ⟨S256x1024, .f32⟩
  | .hbm, ⟨65, _⟩ => ⟨S256x512, .f32⟩
  | .hbm, ⟨66, _⟩ => ⟨S256x512, .bf16⟩
  | .local _ .vmem, ⟨0, _⟩ => ⟨S256x1024, .f32⟩
  | .local _ .vmem, ⟨1, _⟩ => ⟨S1x1024, .f32⟩
  | .local _ .vmem, ⟨2, _⟩ => ⟨S1024x1536, .bf16⟩
  | .local _ .vmem, ⟨3, _⟩ => ⟨S256x256, .bf16⟩
  | .local _ .vmem, ⟨4, _⟩ => ⟨S8x256, .f32⟩
  | .local _ .vmem, ⟨5, _⟩ => ⟨S256x256, .f32⟩
  | .local _ .vmem, ⟨6, _⟩ => ⟨S256x256, .f32⟩
  | .local _ .vmem, ⟨7, _⟩ => ⟨S256x1024, .f32⟩
  | .local _ .vmem, ⟨8, _⟩ => ⟨S256x512, .f32⟩
  | .local _ .vmem, ⟨9, _⟩ => ⟨S256x512, .bf16⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_cst : Ref sig .tc := ⟨.hbm, 9, rfl⟩
abbrev main_v0 : Ref sig .tc := ⟨.hbm, 10, rfl⟩
abbrev main_c_1 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_2 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_3 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_c_4 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_c_5 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_6 : Ref sig .tc := ⟨.hbm, 58, rfl⟩
abbrev main_cst_7 : Ref sig .tc := ⟨.hbm, 59, rfl⟩
abbrev main_call0_v0 : Ref sig .tc := ⟨.hbm, 60, rfl⟩
abbrev main_call0_v1 : Ref sig .tc := ⟨.hbm, 61, rfl⟩
abbrev main_v43 : Ref sig .tc := ⟨.hbm, 62, rfl⟩
abbrev main_v44 : Ref sig .tc := ⟨.hbm, 63, rfl⟩
abbrev main_v45_0 : Ref sig .tc := ⟨.hbm, 64, rfl⟩
abbrev main_v45_1 : Ref sig .tc := ⟨.hbm, 65, rfl⟩
abbrev main_v45_2 : Ref sig .tc := ⟨.hbm, 66, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S256x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== MobaSampleReferenceIdeal.lean ====
abbrev S32x8x1024 : Shape := ⟨3, ![32, 8, 1024]⟩
abbrev S1024 : Shape := ⟨1, ![1024]⟩
abbrev S1024x1536 : Shape := ⟨2, ![1024, 1536]⟩
abbrev S64 : Shape := ⟨1, ![64]⟩
abbrev S8x32 : Shape := ⟨2, ![8, 32]⟩
abbrev S_ : Shape := ⟨0, ![]⟩
abbrev S32x8 : Shape := ⟨2, ![32, 8]⟩
abbrev S32x8x1 : Shape := ⟨3, ![32, 8, 1]⟩
abbrev S1x1x1024 : Shape := ⟨3, ![1, 1, 1024]⟩
abbrev S32x8x1536 : Shape := ⟨3, ![32, 8, 1536]⟩
abbrev S32x8x16x64 : Shape := ⟨4, ![32, 8, 16, 64]⟩
abbrev S32x8x16 : Shape := ⟨3, ![32, 8, 16]⟩
abbrev S32x8x16x1 : Shape := ⟨4, ![32, 8, 16, 1]⟩
abbrev S1x1x1x64 : Shape := ⟨4, ![1, 1, 1, 64]⟩
abbrev S32x8x16x32 : Shape := ⟨4, ![32, 8, 16, 32]⟩
abbrev S8x1x32 : Shape := ⟨3, ![8, 1, 32]⟩
abbrev S1x8x1x32 : Shape := ⟨4, ![1, 8, 1, 32]⟩
abbrev S32x8x256 : Shape := ⟨3, ![32, 8, 256]⟩
abbrev S32x8x4x64 : Shape := ⟨4, ![32, 8, 4, 64]⟩
abbrev S32x8x4 : Shape := ⟨3, ![32, 8, 4]⟩
abbrev S32x8x4x1 : Shape := ⟨4, ![32, 8, 4, 1]⟩
abbrev S32x8x4x32 : Shape := ⟨4, ![32, 8, 4, 32]⟩
abbrev S32x8x2x2x4x64 : Shape := ⟨6, ![32, 8, 2, 2, 4, 64]⟩
abbrev S32x8x2x4x2x64 : Shape := ⟨6, ![32, 8, 2, 4, 2, 64]⟩
abbrev S256x1024 : Shape := ⟨2, ![256, 1024]⟩
abbrev S32x8x512 : Shape := ⟨3, ![32, 8, 512]⟩
abbrev S256x512 : Shape := ⟨2, ![256, 512]⟩

abbrev nBuf : Space → Nat
  | .hbm => 109
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S1024, .f32⟩
  | .hbm, ⟨2, _⟩ => ⟨S1024x1536, .f32⟩
  | .hbm, ⟨3, _⟩ => ⟨S64, .f32⟩
  | .hbm, ⟨4, _⟩ => ⟨S64, .f32⟩
  | .hbm, ⟨5, _⟩ => ⟨S8x32, .f32⟩
  | .hbm, ⟨6, _⟩ => ⟨S8x32, .f32⟩
  | .hbm, ⟨7, _⟩ => ⟨S32x8x1024, .f32⟩
  | .hbm, ⟨8, _⟩ => ⟨S_, .f32⟩
  | .hbm, ⟨9, _⟩ => ⟨S32x8, .f32⟩
  | .hbm, ⟨10, _⟩ => ⟨S32x8x1, .f32⟩
  | .hbm, ⟨11, _⟩ => ⟨S_, .f32⟩
  | .hbm, ⟨12, _⟩ => ⟨S32x8x1, .f32⟩
  | .hbm, ⟨13, _⟩ => ⟨S32x8x1, .f32⟩
  | .hbm, ⟨14, _⟩ => ⟨S_, .f32⟩
  | .hbm, ⟨15, _⟩ => ⟨S32x8x1, .f32⟩
  | .hbm, ⟨16, _⟩ => ⟨S32x8x1, .f32⟩
  | .hbm, ⟨17, _⟩ => ⟨S32x8x1, .f32⟩
  | .hbm, ⟨18, _⟩ => ⟨S32x8x1024, .f32⟩
  | .hbm, ⟨19, _⟩ => ⟨S32x8x1024, .f32⟩
  | .hbm, ⟨20, _⟩ => ⟨S1x1x1024, .f32⟩
  | .hbm, ⟨21, _⟩ => ⟨S32x8x1024, .f32⟩
  | .hbm, ⟨22, _⟩ => ⟨S32x8x1024, .f32⟩
  | .hbm, ⟨23, _⟩ => ⟨S32x8x1536, .f32⟩
  | .hbm, ⟨24, _⟩ => ⟨S32x8x1024, .f32⟩
  | .hbm, ⟨25, _⟩ => ⟨S32x8x16x64, .f32⟩
  | .hbm, ⟨26, _⟩ => ⟨S32x8x16x64, .f32⟩
  | .hbm, ⟨27, _⟩ => ⟨S_, .f32⟩
  | .hbm, ⟨28, _⟩ => ⟨S32x8x16, .f32⟩
  | .hbm, ⟨29, _⟩ => ⟨S32x8x16x1, .f32⟩
  | .hbm, ⟨30, _⟩ => ⟨S_, .f32⟩
  | .hbm, ⟨31, _⟩ => ⟨S32x8x16x1, .f32⟩
  | .hbm, ⟨32, _⟩ => ⟨S32x8x16x1, .f32⟩
  | .hbm, ⟨33, _⟩ => ⟨S_, .f32⟩
  | .hbm, ⟨34, _⟩ => ⟨S32x8x16x1, .f32⟩
  | .hbm, ⟨35, _⟩ => ⟨S32x8x16x1, .f32⟩
  | .hbm, ⟨36, _⟩ => ⟨S32x8x16x1, .f32⟩
  | .hbm, ⟨37, _⟩ => ⟨S32x8x16x64, .f32⟩
  | .hbm, ⟨38, _⟩ => ⟨S32x8x16x64, .f32⟩
  | .hbm, ⟨39, _⟩ => ⟨S1x1x1x64, .f32⟩
  | .hbm, ⟨40, _⟩ => ⟨S32x8x16x64, .f32⟩
  | .hbm, ⟨41, _⟩ => ⟨S32x8x16x64, .f32⟩
  | .hbm, ⟨42, _⟩ => ⟨S32x8x16x32, .f32⟩
  | .hbm, ⟨43, _⟩ => ⟨S32x8x16x32, .f32⟩
  | .hbm, ⟨44, _⟩ => ⟨S8x1x32, .f32⟩
  | .hbm, ⟨45, _⟩ => ⟨S8x1x32, .f32⟩
  | .hbm, ⟨46, _⟩ => ⟨S1x8x1x32, .f32⟩
  | .hbm, ⟨47, _⟩ => ⟨S32x8x16x32, .f32⟩
  | .hbm, ⟨48, _⟩ => ⟨S32x8x16x32, .f32⟩
  | .hbm, ⟨49, _⟩ => ⟨S1x8x1x32, .f32⟩
  | .hbm, ⟨50, _⟩ => ⟨S32x8x16x32, .f32⟩
  | .hbm, ⟨51, _⟩ => ⟨S32x8x16x32, .f32⟩
  | .hbm, ⟨52, _⟩ => ⟨S32x8x16x32, .f32⟩
  | .hbm, ⟨53, _⟩ => ⟨S1x8x1x32, .f32⟩
  | .hbm, ⟨54, _⟩ => ⟨S32x8x16x32, .f32⟩
  | .hbm, ⟨55, _⟩ => ⟨S32x8x16x32, .f32⟩
  | .hbm, ⟨56, _⟩ => ⟨S1x8x1x32, .f32⟩
  | .hbm, ⟨57, _⟩ => ⟨S32x8x16x32, .f32⟩
  | .hbm, ⟨58, _⟩ => ⟨S32x8x16x32, .f32⟩
  | .hbm, ⟨59, _⟩ => ⟨S32x8x16x32, .f32⟩
  | .hbm, ⟨60, _⟩ => ⟨S32x8x16x64, .f32⟩
  | .hbm, ⟨61, _⟩ => ⟨S_, .f32⟩
  | .hbm, ⟨62, _⟩ => ⟨S32x8x16x64, .f32⟩
  | .hbm, ⟨63, _⟩ => ⟨S32x8x16x64, .f32⟩
  | .hbm, ⟨64, _⟩ => ⟨S32x8x256, .f32⟩
  | .hbm, ⟨65, _⟩ => ⟨S32x8x4x64, .f32⟩
  | .hbm, ⟨66, _⟩ => ⟨S32x8x4x64, .f32⟩
  | .hbm, ⟨67, _⟩ => ⟨S_, .f32⟩
  | .hbm, ⟨68, _⟩ => ⟨S32x8x4, .f32⟩
  | .hbm, ⟨69, _⟩ => ⟨S32x8x4x1, .f32⟩
  | .hbm, ⟨70, _⟩ => ⟨S_, .f32⟩
  | .hbm, ⟨71, _⟩ => ⟨S32x8x4x1, .f32⟩
  | .hbm, ⟨72, _⟩ => ⟨S32x8x4x1, .f32⟩
  | .hbm, ⟨73, _⟩ => ⟨S_, .f32⟩
  | .hbm, ⟨74, _⟩ => ⟨S32x8x4x1, .f32⟩
  | .hbm, ⟨75, _⟩ => ⟨S32x8x4x1, .f32⟩
  | .hbm, ⟨76, _⟩ => ⟨S32x8x4x1, .f32⟩
  | .hbm, ⟨77, _⟩ => ⟨S32x8x4x64, .f32⟩
  | .hbm, ⟨78, _⟩ => ⟨S32x8x4x64, .f32⟩
  | .hbm, ⟨79, _⟩ => ⟨S1x1x1x64, .f32⟩
  | .hbm, ⟨80, _⟩ => ⟨S32x8x4x64, .f32⟩
  | .hbm, ⟨81, _⟩ => ⟨S32x8x4x64, .f32⟩
  | .hbm, ⟨82, _⟩ => ⟨S32x8x4x32, .f32⟩
  | .hbm, ⟨83, _⟩ => ⟨S32x8x4x32, .f32⟩
  | .hbm, ⟨84, _⟩ => ⟨S8x1x32, .f32⟩
  | .hbm, ⟨85, _⟩ => ⟨S8x1x32, .f32⟩
  | .hbm, ⟨86, _⟩ => ⟨S1x8x1x32, .f32⟩
  | .hbm, ⟨87, _⟩ => ⟨S32x8x4x32, .f32⟩
  | .hbm, ⟨88, _⟩ => ⟨S32x8x4x32, .f32⟩
  | .hbm, ⟨89, _⟩ => ⟨S1x8x1x32, .f32⟩
  | .hbm, ⟨90, _⟩ => ⟨S32x8x4x32, .f32⟩
  | .hbm, ⟨91, _⟩ => ⟨S32x8x4x32, .f32⟩
  | .hbm, ⟨92, _⟩ => ⟨S32x8x4x32, .f32⟩
  | .hbm, ⟨93, _⟩ => ⟨S1x8x1x32, .f32⟩
  | .hbm, ⟨94, _⟩ => ⟨S32x8x4x32, .f32⟩
  | .hbm, ⟨95, _⟩ => ⟨S32x8x4x32, .f32⟩
  | .hbm, ⟨96, _⟩ => ⟨S1x8x1x32, .f32⟩
  | .hbm, ⟨97, _⟩ => ⟨S32x8x4x32, .f32⟩
  | .hbm, ⟨98, _⟩ => ⟨S32x8x4x32, .f32⟩
  | .hbm, ⟨99, _⟩ => ⟨S32x8x4x32, .f32⟩
  | .hbm, ⟨100, _⟩ => ⟨S32x8x4x64, .f32⟩
  | .hbm, ⟨101, _⟩ => ⟨S32x8x2x2x4x64, .f32⟩
  | .hbm, ⟨102, _⟩ => ⟨S32x8x2x4x2x64, .f32⟩
  | .hbm, ⟨103, _⟩ => ⟨S256x1024, .f32⟩
  | .hbm, ⟨104, _⟩ => ⟨S32x8x256, .f32⟩
  | .hbm, ⟨105, _⟩ => ⟨S32x8x256, .f32⟩
  | .hbm, ⟨106, _⟩ => ⟨S32x8x512, .f32⟩
  | .hbm, ⟨107, _⟩ => ⟨S256x512, .f32⟩
  | .hbm, ⟨108, _⟩ => ⟨S256x512, .bf16⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_5 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_6 : Ref sig .tc := ⟨.hbm, 67, rfl⟩
abbrev main_v53 : Ref sig .tc := ⟨.hbm, 68, rfl⟩
abbrev main_v54 : Ref sig .tc := ⟨.hbm, 69, rfl⟩
abbrev main_cst_7 : Ref sig .tc := ⟨.hbm, 70, rfl⟩
abbrev main_v55 : Ref sig .tc := ⟨.hbm, 71, rfl⟩
abbrev main_v56 : Ref sig .tc := ⟨.hbm, 72, rfl⟩
abbrev main_cst_8 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩

abbrev nD : Nat := 1
abbrev τ : Topo := Topo.v7x

variable {F : FTy → Type} [FloatOps F]
-- ==== NsaProj.lean ====
abbrev S8x2048x1024 : Shape := ⟨3, ![8, 2048, 1024]⟩
abbrev S1024 : Shape := ⟨1, ![1024]⟩
abbrev S1024x1840 : Shape := ⟨2, ![1024, 1840]⟩
abbrev S64 : Shape := ⟨1, ![64]⟩
abbrev S3x64 : Shape := ⟨2, ![3, 64]⟩
abbrev S2048x32 : Shape := ⟨2, ![2048, 32]⟩
abbrev S8x256 : Shape := ⟨2, ![8, 256]⟩
abbrev S1024x1024 : Shape := ⟨2, ![1024, 1024]⟩
abbrev S_ : Shape := ⟨0, ![]⟩
abbrev S1024x1 : Shape := ⟨2, ![1024, 1]⟩
abbrev S1024x816 : Shape := ⟨2, ![1024, 816]⟩
abbrev S1024x80 : Shape := ⟨2, ![1024, 80]⟩
abbrev S1024x1920 : Shape := ⟨2, ![1024, 1920]⟩
abbrev S16384x1024 : Shape := ⟨2, ![16384, 1024]⟩
abbrev S1x1024 : Shape := ⟨2, ![1, 1024]⟩
abbrev S2048x64 : Shape := ⟨2, ![2048, 64]⟩
abbrev S1x2048x1x64 : Shape := ⟨4, ![1, 2048, 1, 64]⟩
abbrev S1x2048x4x64 : Shape := ⟨4, ![1, 2048, 4, 64]⟩
abbrev S2048x256 : Shape := ⟨2, ![2048, 256]⟩
abbrev S1x64 : Shape := ⟨2, ![1, 64]⟩
abbrev S4x64 : Shape := ⟨2, ![4, 64]⟩
abbrev S256 : Shape := ⟨1, ![256]⟩
abbrev S1 : Shape := ⟨1, ![1]⟩
abbrev S256x256 : Shape := ⟨2, ![256, 256]⟩
abbrev S16384x768 : Shape := ⟨2, ![16384, 768]⟩
abbrev S16384x128 : Shape := ⟨2, ![16384, 128]⟩
abbrev S512x1024 : Shape := ⟨2, ![512, 1024]⟩
abbrev S512x256 : Shape := ⟨2, ![512, 256]⟩
abbrev S512x768 : Shape := ⟨2, ![512, 768]⟩
abbrev S512x128 : Shape := ⟨2, ![512, 128]⟩
abbrev S512 : Shape := ⟨1, ![512]⟩
abbrev S512x1 : Shape := ⟨2, ![512, 1]⟩
abbrev S1x256 : Shape := ⟨2, ![1, 256]⟩
abbrev S1024x256 : Shape := ⟨2, ![1024, 256]⟩
abbrev S128x128 : Shape := ⟨2, ![128, 128]⟩
abbrev S1x128 : Shape := ⟨2, ![1, 128]⟩
abbrev S1024x128 : Shape := ⟨2, ![1024, 128]⟩

abbrev nBuf : Space → Nat
  | .hbm => 82
  | .vmem => 18
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x1840, .f32⟩
  | .hbm, ⟨3, _⟩ => ⟨S64, .f32⟩
  | .hbm, ⟨4, _⟩ => ⟨S3x64, .f32⟩
  | .hbm, ⟨5, _⟩ => ⟨S2048x32, .f32⟩
  | .hbm, ⟨6, _⟩ => ⟨S2048x32, .f32⟩
  | .hbm, ⟨7, _⟩ => ⟨S1024, .i32⟩
  | .hbm, ⟨8, _⟩ => ⟨S1024, .i1⟩
  | .hbm, ⟨9, _⟩ => ⟨S8x256, .f32⟩
  | .hbm, ⟨10, _⟩ => ⟨S1024x1024, .f32⟩
  | .hbm, ⟨11, _⟩ => ⟨S_, .i32⟩
  | .hbm, ⟨12, _⟩ => ⟨S1024, .i32⟩
  | .hbm, ⟨13, _⟩ => ⟨S1024, .i32⟩
  | .hbm, ⟨14, _⟩ => ⟨S1024, .i32⟩
  | .hbm, ⟨15, _⟩ => ⟨S1024x1, .i32⟩
  | .hbm, ⟨16, _⟩ => ⟨S1024x1024, .f32⟩
  | .hbm, ⟨17, _⟩ => ⟨S1024x816, .f32⟩
  | .hbm, ⟨18, _⟩ => ⟨S_, .f32⟩
  | .hbm, ⟨19, _⟩ => ⟨S1024x80, .f32⟩
  | .hbm, ⟨20, _⟩ => ⟨S1024x1920, .f32⟩
  | .hbm, ⟨21, _⟩ => ⟨S1024x1920, .bf16⟩
  | .hbm, ⟨22, _⟩ => ⟨S16384x1024, .f32⟩
  | .hbm, ⟨23, _⟩ => ⟨S1x1024, .f32⟩
  | .hbm, ⟨24, _⟩ => ⟨S2048x64, .f32⟩
  | .hbm, ⟨25, _⟩ => ⟨S1x2048x1x64, .f32⟩
  | .hbm, ⟨26, _⟩ => ⟨S1x2048x4x64, .f32⟩
  | .hbm, ⟨27, _⟩ => ⟨S2048x256, .f32⟩
  | .hbm, ⟨28, _⟩ => ⟨S2048x32, .f32⟩
  | .hbm, ⟨29, _⟩ => ⟨S2048x64, .f32⟩
  | .hbm, ⟨30, _⟩ => ⟨S1x2048x1x64, .f32⟩
  | .hbm, ⟨31, _⟩ => ⟨S1x2048x4x64, .f32⟩
  | .hbm, ⟨32, _⟩ => ⟨S2048x256, .f32⟩
  | .hbm, ⟨33, _⟩ => ⟨S1x64, .f32⟩
  | .hbm, ⟨34, _⟩ => ⟨S4x64, .f32⟩
  | .hbm, ⟨35, _⟩ => ⟨S256, .f32⟩
  | .hbm, ⟨36, _⟩ => ⟨S_, .i32⟩
  | .hbm, ⟨37, _⟩ => ⟨S1, .i32⟩
  | .hbm, ⟨38, _⟩ => ⟨S8x256, .f32⟩
  | .hbm, ⟨39, _⟩ => ⟨S1x64, .f32⟩
  | .hbm, ⟨40, _⟩ => ⟨S64, .f32⟩
  | .hbm, ⟨41, _⟩ => ⟨S1x64, .f32⟩
  | .hbm, ⟨42, _⟩ => ⟨S4x64, .f32⟩
  | .hbm, ⟨43, _⟩ => ⟨S256, .f32⟩
  | .hbm, ⟨44, _⟩ => ⟨S_, .i32⟩
  | .hbm, ⟨45, _⟩ => ⟨S1, .i32⟩
  | .hbm, ⟨46, _⟩ => ⟨S8x256, .f32⟩
  | .hbm, ⟨47, _⟩ => ⟨S1x64, .f32⟩
  | .hbm, ⟨48, _⟩ => ⟨S64, .f32⟩
  | .hbm, ⟨49, _⟩ => ⟨S1x64, .f32⟩
  | .hbm, ⟨50, _⟩ => ⟨S4x64, .f32⟩
  | .hbm, ⟨51, _⟩ => ⟨S256, .f32⟩
  | .hbm, ⟨52, _⟩ => ⟨S_, .i32⟩
  | .hbm, ⟨53, _⟩ => ⟨S1, .i32⟩
  | .hbm, ⟨54, _⟩ => ⟨S8x256, .f32⟩
  | .hbm, ⟨55, _⟩ => ⟨S1x64, .f32⟩
  | .hbm, ⟨56, _⟩ => ⟨S64, .f32⟩
  | .hbm, ⟨57, _⟩ => ⟨S1x64, .f32⟩
  | .hbm, ⟨58, _⟩ => ⟨S4x64, .f32⟩
  | .hbm, ⟨59, _⟩ => ⟨S256, .f32⟩
  | .hbm, ⟨60, _⟩ => ⟨S_, .i32⟩
  | .hbm, ⟨61, _⟩ => ⟨S1, .i32⟩
  | .hbm, ⟨62, _⟩ => ⟨S8x256, .f32⟩
  | .hbm, ⟨63, _⟩ => ⟨S256x256, .i32⟩
  | .hbm, ⟨64, _⟩ => ⟨S_, .i32⟩
  | .hbm, ⟨65, _⟩ => ⟨S256x256, .i32⟩
  | .hbm, ⟨66, _⟩ => ⟨S256x256, .i32⟩
  | .hbm, ⟨67, _⟩ => ⟨S256x256, .i32⟩
  | .hbm, ⟨68, _⟩ => ⟨S_, .i32⟩
  | .hbm, ⟨69, _⟩ => ⟨S256x256, .i32⟩
  | .hbm, ⟨70, _⟩ => ⟨S256x256, .i32⟩
  | .hbm, ⟨71, _⟩ => ⟨S256x256, .i1⟩
  | .hbm, ⟨72, _⟩ => ⟨S_, .f32⟩
  | .hbm, ⟨73, _⟩ => ⟨S_, .f32⟩
  | .hbm, ⟨74, _⟩ => ⟨S256x256, .f32⟩
  | .hbm, ⟨75, _⟩ => ⟨S256x256, .f32⟩
  | .hbm, ⟨76, _⟩ => ⟨S256x256, .f32⟩
  | .hbm, ⟨77, _⟩ => ⟨S256x256, .bf16⟩
  | .hbm, ⟨78, _⟩ => ⟨S16384x1024, .bf16⟩
  | .hbm, ⟨79, _⟩ => ⟨S16384x768, .f32⟩
  | .hbm, ⟨80, _⟩ => ⟨S16384x768, .bf16⟩
  | .hbm, ⟨81, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1920, .bf16⟩
  | .local _ .vmem, ⟨4, _⟩ => ⟨S256x256, .bf16⟩
  | .local _ .vmem, ⟨5, _⟩ => ⟨S8x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x1024, .bf16⟩
  | .local _ .vmem, ⟨11, _⟩ => ⟨S512x1024, .bf16⟩
  | .local _ .vmem, ⟨12, _⟩ => ⟨S512x768, .f32⟩
  | .local _ .vmem, ⟨13, _⟩ => ⟨S512x768, .f32⟩
  | .local _ .vmem, ⟨14, _⟩ => ⟨S512x768, .bf16⟩
  | .local _ .vmem, ⟨15, _⟩ => ⟨S512x768, .bf16⟩
  | .local _ .vmem, ⟨16, _⟩ => ⟨S512x128, .f32⟩
  | .local _ .vmem, ⟨17, _⟩ => ⟨S512x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_cst : Ref sig .tc := ⟨.hbm, 9, rfl⟩
abbrev main_v0 : Ref sig .tc := ⟨.hbm, 10, rfl⟩
abbrev main_c_1 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_4 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_c_5 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_c_6 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_c_7 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_c_8 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_9 : Ref sig .tc := ⟨.hbm, 72, rfl⟩
abbrev main_cst_10 : Ref sig .tc := ⟨.hbm, 73, rfl⟩
abbrev main_call0_v0 : Ref sig .tc := ⟨.hbm, 74, rfl⟩
abbrev main_call0_v1 : Ref sig .tc := ⟨.hbm, 75, rfl⟩
abbrev main_v54 : Ref sig .tc := ⟨.hbm, 76, rfl⟩
abbrev main_v55 : Ref sig .tc := ⟨.hbm, 77, rfl⟩
abbrev main_v56_0 : Ref sig .tc := ⟨.hbm, 78, rfl⟩
abbrev main_v56_1 : Ref sig .tc := ⟨.hbm, 79, rfl⟩
abbrev main_v56_2 : Ref sig .tc := ⟨.hbm, 80, rfl⟩
abbrev main_v56_3 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1920 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x768 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== NsaProjReferenceIdeal.lean ====
abbrev S8x2048x1024 : Shape := ⟨3, ![8, 2048, 1024]⟩
abbrev S1024 : Shape := ⟨1, ![1024]⟩
abbrev S1024x1840 : Shape := ⟨2, ![1024, 1840]⟩
abbrev S64 : Shape := ⟨1, ![64]⟩
abbrev S3x64 : Shape := ⟨2, ![3, 64]⟩
abbrev S2048x32 : Shape := ⟨2, ![2048, 32]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x1840 : Shape := ⟨3, ![8, 2048, 1840]⟩
abbrev S8x2048x16x64 : Shape := ⟨4, ![8, 2048, 16, 64]⟩
abbrev S8x2048x16 : Shape := ⟨3, ![8, 2048, 16]⟩
abbrev S8x2048x16x1 : Shape := ⟨4, ![8, 2048, 16, 1]⟩
abbrev S1x1x1x64 : Shape := ⟨4, ![1, 1, 1, 64]⟩
abbrev S8x2048x16x32 : Shape := ⟨4, ![8, 2048, 16, 32]⟩
abbrev S2048x1x32 : Shape := ⟨3, ![2048, 1, 32]⟩
abbrev S1x2048x1x32 : Shape := ⟨4, ![1, 2048, 1, 32]⟩
abbrev S8x2048x768 : Shape := ⟨3, ![8, 2048, 768]⟩
abbrev S8x2048x3x2x2x64 : Shape := ⟨6, ![8, 2048, 3, 2, 2, 64]⟩
abbrev S8x2048x3x1x2x64 : Shape := ⟨6, ![8, 2048, 3, 1, 2, 64]⟩
abbrev S8x2048x3x2x64 : Shape := ⟨5, ![8, 2048, 3, 2, 64]⟩
abbrev S3x1x64 : Shape := ⟨3, ![3, 1, 64]⟩
abbrev S8x2048x3x2 : Shape := ⟨4, ![8, 2048, 3, 2]⟩
abbrev S8x2048x3x2x1 : Shape := ⟨5, ![8, 2048, 3, 2, 1]⟩
abbrev S1x1x3x1x64 : Shape := ⟨5, ![1, 1, 3, 1, 64]⟩
abbrev S8x2048x6x64 : Shape := ⟨4, ![8, 2048, 6, 64]⟩
abbrev S8x2048x6x32 : Shape := ⟨4, ![8, 2048, 6, 32]⟩
abbrev S16384x768 : Shape := ⟨2, ![16384, 768]⟩
abbrev S8x2048x48 : Shape := ⟨3, ![8, 2048, 48]⟩
abbrev S8x2048x80 : Shape := ⟨3, ![8, 2048, 80]⟩
abbrev S8x2048x128 : Shape := ⟨3, ![8, 2048, 128]⟩
abbrev S16384x128 : Shape := ⟨2, ![16384, 128]⟩
abbrev S8x2048x2x8x64 : Shape := ⟨5, ![8, 2048, 2, 8, 64]⟩
abbrev S8x2048x8x2x64 : Shape := ⟨5, ![8, 2048, 8, 2, 64]⟩
abbrev S16384x1024 : Shape := ⟨2, ![16384, 1024]⟩

abbrev nBuf : Space → Nat
  | .hbm => 130
  | .vmem => 0
  | .smem => 0
  | _ => 0

abbrev hbmTy0_0 (i : Nat) : BufTy := match i % 128 with
  | 0 => ⟨S8x2048x1024, .f32⟩
  | 1 => ⟨S1024, .f32⟩
  | 2 => ⟨S1024x1840, .f32⟩
  | 3 => ⟨S64, .f32⟩
  | 4 => ⟨S3x64, .f32⟩
  | 5 => ⟨S2048x32, .f32⟩
  | 6 => ⟨S2048x32, .f32⟩
  | 7 => ⟨S8x2048x1024, .f32⟩
  | 8 => ⟨S_, .f32⟩
  | 9 => ⟨S8x2048, .f32⟩
  | 10 => ⟨S8x2048x1, .f32⟩
  | 11 => ⟨S_, .f32⟩
  | 12 => ⟨S8x2048x1, .f32⟩
  | 13 => ⟨S8x2048x1, .f32⟩
  | 14 => ⟨S_, .f32⟩
  | 15 => ⟨S8x2048x1, .f32⟩
  | 16 => ⟨S8x2048x1, .f32⟩
  | 17 => ⟨S8x2048x1, .f32⟩
  | 18 => ⟨S8x2048x1024, .f32⟩
  | 19 => ⟨S8x2048x1024, .f32⟩
  | 20 => ⟨S1x1x1024, .f32⟩
  | 21 => ⟨S8x2048x1024, .f32⟩
  | 22 => ⟨S8x2048x1024, .f32⟩
  | 23 => ⟨S8x2048x1840, .f32⟩
  | 24 => ⟨S8x2048x1024, .f32⟩
  | 25 => ⟨S8x2048x16x64, .f32⟩
  | 26 => ⟨S8x2048x16x64, .f32⟩
  | 27 => ⟨S_, .f32⟩
  | 28 => ⟨S8x2048x16, .f32⟩
  | 29 => ⟨S8x2048x16x1, .f32⟩
  | 30 => ⟨S_, .f32⟩
  | 31 => ⟨S8x2048x16x1, .f32⟩
  | 32 => ⟨S8x2048x16x1, .f32⟩
  | 33 => ⟨S_, .f32⟩
  | 34 => ⟨S8x2048x16x1, .f32⟩
  | 35 => ⟨S8x2048x16x1, .f32⟩
  | 36 => ⟨S8x2048x16x1, .f32⟩
  | 37 => ⟨S8x2048x16x64, .f32⟩
  | 38 => ⟨S8x2048x16x64, .f32⟩
  | 39 => ⟨S1x1x1x64, .f32⟩
  | 40 => ⟨S8x2048x16x64, .f32⟩
  | 41 => ⟨S8x2048x16x64, .f32⟩
  | 42 => ⟨S8x2048x16x32, .f32⟩
  | 43 => ⟨S8x2048x16x32, .f32⟩
  | 44 => ⟨S2048x1x32, .f32⟩
  | 45 => ⟨S2048x1x32, .f32⟩
  | 46 => ⟨S1x2048x1x32, .f32⟩
  | 47 => ⟨S8x2048x16x32, .f32⟩
  | 48 => ⟨S8x2048x16x32, .f32⟩
  | 49 => ⟨S1x2048x1x32, .f32⟩
  | 50 => ⟨S8x2048x16x32, .f32⟩
  | 51 => ⟨S8x2048x16x32, .f32⟩
  | 52 => ⟨S8x2048x16x32, .f32⟩
  | 53 => ⟨S1x2048x1x32, .f32⟩
  | 54 => ⟨S8x2048x16x32, .f32⟩
  | 55 => ⟨S8x2048x16x32, .f32⟩
  | 56 => ⟨S1x2048x1x32, .f32⟩
  | 57 => ⟨S8x2048x16x32, .f32⟩
  | 58 => ⟨S8x2048x16x32, .f32⟩
  | 59 => ⟨S8x2048x16x32, .f32⟩
  | 60 => ⟨S8x2048x16x64, .f32⟩
  | 61 => ⟨S_, .f32⟩
  | 62 => ⟨S8x2048x16x64, .f32⟩
  | 63 => ⟨S8x2048x16x64, .f32⟩
  | 64 => ⟨S8x2048x768, .f32⟩
  | 65 => ⟨S8x2048x3x2x2x64, .f32⟩
  | 66 => ⟨S8x2048x3x1x2x64, .f32⟩
  | 67 => ⟨S8x2048x3x2x64, .f32⟩
  | 68 => ⟨S3x1x64, .f32⟩
  | 69 => ⟨S8x2048x3x2x64, .f32⟩
  | 70 => ⟨S_, .f32⟩
  | 71 => ⟨S8x2048x3x2, .f32⟩
  | 72 => ⟨S8x2048x3x2x1, .f32⟩
  | 73 => ⟨S_, .f32⟩
  | 74 => ⟨S8x2048x3x2x1, .f32⟩
  | 75 => ⟨S8x2048x3x2x1, .f32⟩
  | 76 => ⟨S_, .f32⟩
  | 77 => ⟨S8x2048x3x2x1, .f32⟩
  | 78 => ⟨S8x2048x3x2x1, .f32⟩
  | 79 => ⟨S8x2048x3x2x1, .f32⟩
  | 80 => ⟨S8x2048x3x2x64, .f32⟩
  | 81 => ⟨S8x2048x3x2x64, .f32⟩
  | 82 => ⟨S1x1x3x1x64, .f32⟩
  | 83 => ⟨S8x2048x3x2x64, .f32⟩
  | 84 => ⟨S8x2048x3x2x64, .f32⟩
  | 85 => ⟨S8x2048x6x64, .f32⟩
  | 86 => ⟨S8x2048x6x32, .f32⟩
  | 87 => ⟨S8x2048x6x32, .f32⟩
  | 88 => ⟨S2048x1x32, .f32⟩
  | 89 => ⟨S2048x1x32, .f32⟩
  | 90 => ⟨S1x2048x1x32, .f32⟩
  | 91 => ⟨S8x2048x6x32, .f32⟩
  | 92 => ⟨S8x2048x6x32, .f32⟩
  | 93 => ⟨S1x2048x1x32, .f32⟩
  | 94 => ⟨S8x2048x6x32, .f32⟩
  | 95 => ⟨S8x2048x6x32, .f32⟩
  | 96 => ⟨S8x2048x6x32, .f32⟩
  | 97 => ⟨S1x2048x1x32, .f32⟩
  | 98 => ⟨S8x2048x6x32, .f32⟩
  | 99 => ⟨S8x2048x6x32, .f32⟩
  | 100 => ⟨S1x2048x1x32, .f32⟩
  | 101 => ⟨S8x2048x6x32, .f32⟩
  | 102 => ⟨S8x2048x6x32, .f32⟩
  | 103 => ⟨S8x2048x6x32, .f32⟩
  | 104 => ⟨S8x2048x6x64, .f32⟩
  | 105 => ⟨S8x2048x3x2x64, .f32⟩
  | 106 => ⟨S8x2048x3x1x2x64, .f32⟩
  | 107 => ⟨S8x2048x3x2x64, .f32⟩
  | 108 => ⟨S8x2048x3x1x2x64, .f32⟩
  | 109 => ⟨S8x2048x3x1x2x64, .f32⟩
  | 110 => ⟨S8x2048x3x2x2x64, .f32⟩
  | 111 => ⟨S16384x768, .f32⟩
  | 112 => ⟨S8x2048x48, .f32⟩
  | 113 => ⟨S_, .f32⟩
  | 114 => ⟨S8x2048x80, .f32⟩
  | 115 => ⟨S8x2048x128, .f32⟩
  | 116 => ⟨S8x2048x128, .f32⟩
  | 117 => ⟨S8x2048x128, .f32⟩
  | 118 => ⟨S_, .f32⟩
  | 119 => ⟨S8x2048x128, .f32⟩
  | 120 => ⟨S8x2048x128, .f32⟩
  | 121 => ⟨S_, .f32⟩
  | 122 => ⟨S8x2048x128, .f32⟩
  | 123 => ⟨S8x2048x128, .f32⟩
  | 124 => ⟨S16384x128, .f32⟩
  | 125 => ⟨S8x2048x2x8x64, .f32⟩
  | 126 => ⟨S8x2048x8x2x64, .f32⟩
  | 127 => ⟨S16384x1024, .f32⟩
  | _ => ⟨S8x2048x1024, .f32⟩

abbrev hbmTy0_1 (i : Nat) : BufTy := match i % 128 with
  | 0 => ⟨S16384x1024, .bf16⟩
  | 1 => ⟨S16384x768, .bf16⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_5 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_6 : Ref sig .tc := ⟨.hbm, 70, rfl⟩
abbrev main_v56 : Ref sig .tc := ⟨.hbm, 71, rfl⟩
abbrev main_v57 : Ref sig .tc := ⟨.hbm, 72, rfl⟩
abbrev main_cst_7 : Ref sig .tc := ⟨.hbm, 73, rfl⟩
abbrev main_v58 : Ref sig .tc := ⟨.hbm, 74, rfl⟩
abbrev main_v59 : Ref sig .tc := ⟨.hbm, 75, rfl⟩
abbrev main_cst_8 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_cst_9 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_cst_10 : Ref sig .tc := ⟨.hbm, 118, rfl⟩
abbrev main_v100 : Ref sig .tc := ⟨.hbm, 119, rfl⟩
abbrev main_v101 : Ref sig .tc := ⟨.hbm, 120, rfl⟩
abbrev main_cst_11 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩

abbrev nD : Nat := 1
abbrev τ : Topo := Topo.v7x

variable {F : FTy → Type} [FloatOps F]
-- ==== MlaExpand.lean ====
abbrev S16384x288 : Shape := ⟨2, ![16384, 288]⟩
abbrev S256x2048 : Shape := ⟨2, ![256, 2048]⟩
abbrev S96 : Shape := ⟨1, ![96]⟩
abbrev S2048 : Shape := ⟨1, ![2048]⟩
abbrev S256x16x128 : Shape := ⟨3, ![256, 16, 128]⟩
abbrev S256x16x64 : Shape := ⟨3, ![256, 16, 64]⟩
abbrev S256x1024 : Shape := ⟨2, ![256, 1024]⟩
abbrev S_ : Shape := ⟨0, ![]⟩
abbrev S256x1 : Shape := ⟨2, ![256, 1]⟩
abbrev S256x1025 : Shape := ⟨2, ![256, 1025]⟩
abbrev S2048x1 : Shape := ⟨2, ![2048, 1]⟩
abbrev S256x256 : Shape := ⟨2, ![256, 256]⟩
abbrev S64 : Shape := ⟨1, ![64]⟩
abbrev S128 : Shape := ⟨1, ![128]⟩
abbrev S8x256 : Shape := ⟨2, ![8, 256]⟩
abbrev S1x128 : Shape := ⟨2, ![1, 128]⟩
abbrev S2x128 : Shape := ⟨2, ![2, 128]⟩
abbrev S256 : Shape := ⟨1, ![256]⟩
abbrev S1 : Shape := ⟨1, ![1]⟩
abbrev S32x256 : Shape := ⟨2, ![32, 256]⟩
abbrev S16384x2048 : Shape := ⟨2, ![16384, 2048]⟩
abbrev S16384x1024 : Shape := ⟨2, ![16384, 1024]⟩
abbrev S512x288 : Shape := ⟨2, ![512, 288]⟩
abbrev S512x2048 : Shape := ⟨2, ![512, 2048]⟩
abbrev S512x1024 : Shape := ⟨2, ![512, 1024]⟩
abbrev S512x256 : Shape := ⟨2, ![512, 256]⟩
abbrev S512x32 : Shape := ⟨2, ![512, 32]⟩
abbrev S1x256 : Shape := ⟨2, ![1, 256]⟩

abbrev nBuf : Space → Nat
  | .hbm => 72
  | .vmem => 11
  | .smem => 0
  | _ => 0

abbrev bufTy : (tb : Table) → Fin (tcTables nBuf tb) → BufTy
  | .hbm, ⟨0, _⟩ => ⟨S16384x288, .f32⟩
  | .hbm, ⟨1, _⟩ => ⟨S256x2048, .f32⟩
  | .hbm, ⟨2, _⟩ => ⟨S96, .f32⟩
  | .hbm, ⟨3, _⟩ => ⟨S2048, .i32⟩
  | .hbm, ⟨4, _⟩ => ⟨S2048, .i1⟩
  | .hbm, ⟨5, _⟩ => ⟨S256x16x128, .f32⟩
  | .hbm, ⟨6, _⟩ => ⟨S256x16x64, .f32⟩
  | .hbm, ⟨7, _⟩ => ⟨S256x1024, .f32⟩
  | .hbm, ⟨8, _⟩ => ⟨S256x16x64, .f32⟩
  | .hbm, ⟨9, _⟩ => ⟨S256x1024, .f32⟩
  | .hbm, ⟨10, _⟩ => ⟨S_, .f32⟩
  | .hbm, ⟨11, _⟩ => ⟨S256x1, .f32⟩
  | .hbm, ⟨12, _⟩ => ⟨S256x1025, .f32⟩
  | .hbm, ⟨13, _⟩ => ⟨S_, .i32⟩
  | .hbm, ⟨14, _⟩ => ⟨S2048, .i32⟩
  | .hbm, ⟨15, _⟩ => ⟨S2048, .i32⟩
  | .hbm, ⟨16, _⟩ => ⟨S2048, .i32⟩
  | .hbm, ⟨17, _⟩ => ⟨S2048x1, .i32⟩
  | .hbm, ⟨18, _⟩ => ⟨S256x2048, .f32⟩
  | .hbm, ⟨19, _⟩ => ⟨S256x2048, .bf16⟩
  | .hbm, ⟨20, _⟩ => ⟨S256x256, .i32⟩
  | .hbm, ⟨21, _⟩ => ⟨S_, .i32⟩
  | .hbm, ⟨22, _⟩ => ⟨S256x256, .i32⟩
  | .hbm, ⟨23, _⟩ => ⟨S256x256, .i32⟩
  | .hbm, ⟨24, _⟩ => ⟨S256x256, .i32⟩
  | .hbm, ⟨25, _⟩ => ⟨S_, .i32⟩
  | .hbm, ⟨26, _⟩ => ⟨S256x256, .i32⟩
  | .hbm, ⟨27, _⟩ => ⟨S256x256, .i32⟩
  | .hbm, ⟨28, _⟩ => ⟨S256x256, .i1⟩
  | .hbm, ⟨29, _⟩ => ⟨S_, .i32⟩
  | .hbm, ⟨30, _⟩ => ⟨S256x256, .i32⟩
  | .hbm, ⟨31, _⟩ => ⟨S256x256, .i32⟩
  | .hbm, ⟨32, _⟩ => ⟨S_, .i32⟩
  | .hbm, ⟨33, _⟩ => ⟨S256x256, .i32⟩
  | .hbm, ⟨34, _⟩ => ⟨S256x256, .i1⟩
  | .hbm, ⟨35, _⟩ => ⟨S256x256, .i1⟩
  | .hbm, ⟨36, _⟩ => ⟨S_, .f32⟩
  | .hbm, ⟨37, _⟩ => ⟨S_, .f32⟩
  | .hbm, ⟨38, _⟩ => ⟨S256x256, .f32⟩
  | .hbm, ⟨39, _⟩ => ⟨S256x256, .f32⟩
  | .hbm, ⟨40, _⟩ => ⟨S256x256, .f32⟩
  | .hbm, ⟨41, _⟩ => ⟨S256x256, .bf16⟩
  | .hbm, ⟨42, _⟩ => ⟨S64, .f32⟩
  | .hbm, ⟨43, _⟩ => ⟨S_, .f32⟩
  | .hbm, ⟨44, _⟩ => ⟨S64, .f32⟩
  | .hbm, ⟨45, _⟩ => ⟨S128, .f32⟩
  | .hbm, ⟨46, _⟩ => ⟨S_, .f32⟩
  | .hbm, ⟨47, _⟩ => ⟨S8x256, .f32⟩
  | .hbm, ⟨48, _⟩ => ⟨S1x128, .f32⟩
  | .hbm, ⟨49, _⟩ => ⟨S2x128, .f32⟩
  | .hbm, ⟨50, _⟩ => ⟨S256, .f32⟩
  | .hbm, ⟨51, _⟩ => ⟨S_, .i32⟩
  | .hbm, ⟨52, _⟩ => ⟨S1, .i32⟩
  | .hbm, ⟨53, _⟩ => ⟨S8x256, .f32⟩
  | .hbm, ⟨54, _⟩ => ⟨S32x256, .i32⟩
  | .hbm, ⟨55, _⟩ => ⟨S32x256, .i32⟩
  | .hbm, ⟨56, _⟩ => ⟨S_, .i32⟩
  | .hbm, ⟨57, _⟩ => ⟨S32x256, .i32⟩
  | .hbm, ⟨58, _⟩ => ⟨S32x256, .i32⟩
  | .hbm, ⟨59, _⟩ => ⟨S_, .i32⟩
  | .hbm, ⟨60, _⟩ => ⟨S32x256, .i32⟩
  | .hbm, ⟨61, _⟩ => ⟨S32x256, .i32⟩
  | .hbm, ⟨62, _⟩ => ⟨S32x256, .i1⟩
  | .hbm, ⟨63, _⟩ => ⟨S_, .f32⟩
  | .hbm, ⟨64, _⟩ => ⟨S_, .f32⟩
  | .hbm, ⟨65, _⟩ => ⟨S32x256, .f32⟩
  | .hbm, ⟨66, _⟩ => ⟨S32x256, .f32⟩
  | .hbm, ⟨67, _⟩ => ⟨S32x256, .f32⟩
  | .hbm, ⟨68, _⟩ => ⟨S256x1024, .bf16⟩
  | .hbm, ⟨69, _⟩ => ⟨S32x256, .bf16⟩
  | .hbm, ⟨70, _⟩ => ⟨S16384x2048, .bf16⟩
  | .hbm, ⟨71, _⟩ => ⟨S16384x1024, .bf16⟩
  | .local _ .vmem, ⟨0, _⟩ => ⟨S512x288, .f32⟩
  | .local _ .vmem, ⟨1, _⟩ => ⟨S512x288, .f32⟩
  | .local _ .vmem, ⟨2, _⟩ => ⟨S256x2048, .bf16⟩
  | .local _ .vmem, ⟨3, _⟩ => ⟨S256x1024, .bf16⟩
  | .local _ .vmem, ⟨4, _⟩ => ⟨S256x256, .bf16⟩
  | .local _ .vmem, ⟨5, _⟩ => ⟨S8x256, .f32⟩
  | .local _ .vmem, ⟨6, _⟩ => ⟨S32x256, .bf16⟩
  | .local _ .vmem, ⟨7, _⟩ => ⟨S512x2048, .bf16⟩
  | .local _ .vmem, ⟨8, _⟩ => ⟨S512x2048, .bf16⟩
  | .local _ .vmem, ⟨9, _⟩ => ⟨S512x1024, .bf16⟩
  | .local _ .vmem, ⟨10, _⟩ => ⟨S512x1024, .bf16⟩
  | _, _ => ⟨S16384x288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_4 : Ref sig .tc := ⟨.hbm, 29, rfl⟩
abbrev main_v20 : Ref sig .tc := ⟨.hbm, 30, rfl⟩
abbrev main_v21 : Ref sig .tc := ⟨.hbm, 31, rfl⟩
abbrev main_c_5 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_6 : Ref sig .tc := ⟨.hbm, 36, rfl⟩
abbrev main_cst_7 : Ref sig .tc := ⟨.hbm, 37, rfl⟩
abbrev main_call0_v0 : Ref sig .tc := ⟨.hbm, 38, rfl⟩
abbrev main_call0_v1 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_8 : Ref sig .tc := ⟨.hbm, 43, rfl⟩
abbrev main_v28 : Ref sig .tc := ⟨.hbm, 44, rfl⟩
abbrev main_v29 : Ref sig .tc := ⟨.hbm, 45, rfl⟩
abbrev main_cst_9 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_10 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_11 : Ref sig .tc := ⟨.hbm, 56, rfl⟩
abbrev main_v38 : Ref sig .tc := ⟨.hbm, 57, rfl⟩
abbrev main_v39 : Ref sig .tc := ⟨.hbm, 58, rfl⟩
abbrev main_c_12 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_13 : Ref sig .tc := ⟨.hbm, 63, rfl⟩
abbrev main_cst_14 : Ref sig .tc := ⟨.hbm, 64, rfl⟩
abbrev main_call1_v0 : Ref sig .tc := ⟨.hbm, 65, rfl⟩
abbrev main_call1_v1 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46_0 : Ref sig .tc := ⟨.hbm, 70, rfl⟩
abbrev main_v46_1 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x288 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MlaExpandReferenceIdeal.lean ====
abbrev S16384x288 : Shape := ⟨2, ![16384, 288]⟩
abbrev S256x2048 : Shape := ⟨2, ![256, 2048]⟩
abbrev S96 : Shape := ⟨1, ![96]⟩
abbrev S16384x256 : Shape := ⟨2, ![16384, 256]⟩
abbrev S16384x32 : Shape := ⟨2, ![16384, 32]⟩
abbrev S16384x2048 : Shape := ⟨2, ![16384, 2048]⟩
abbrev S16384x16x128 : Shape := ⟨3, ![16384, 16, 128]⟩
abbrev S16384x16x64 : Shape := ⟨3, ![16384, 16, 64]⟩
abbrev S64 : Shape := ⟨1, ![64]⟩
abbrev S_ : Shape := ⟨0, ![]⟩
abbrev S16384x16 : Shape := ⟨2, ![16384, 16]⟩
abbrev S16384x16x1 : Shape := ⟨3, ![16384, 16, 1]⟩
abbrev S1x1x64 : Shape := ⟨3, ![1, 1, 64]⟩
abbrev S16384x1x32 : Shape := ⟨3, ![16384, 1, 32]⟩
abbrev S16384x16x32 : Shape := ⟨3, ![16384, 16, 32]⟩
abbrev S16384x1024 : Shape := ⟨2, ![16384, 1024]⟩

abbrev nBuf : Space → Nat
  | .hbm => 35
  | .vmem => 0
  | .smem => 0
  | _ => 0

abbrev bufTy : (tb : Table) → Fin (tcTables nBuf tb) → BufTy
  | .hbm, ⟨0, _⟩ => ⟨S16384x288, .f32⟩
  | .hbm, ⟨1, _⟩ => ⟨S256x2048, .f32⟩
  | .hbm, ⟨2, _⟩ => ⟨S96, .f32⟩
  | .hbm, ⟨3, _⟩ => ⟨S16384x256, .f32⟩
  | .hbm, ⟨4, _⟩ => ⟨S16384x32, .f32⟩
  | .hbm, ⟨5, _⟩ => ⟨S16384x2048, .f32⟩
  | .hbm, ⟨6, _⟩ => ⟨S16384x16x128, .f32⟩
  | .hbm, ⟨7, _⟩ => ⟨S16384x16x64, .f32⟩
  | .hbm, ⟨8, _⟩ => ⟨S64, .f32⟩
  | .hbm, ⟨9, _⟩ => ⟨S16384x16x64, .f32⟩
  | .hbm, ⟨10, _⟩ => ⟨S_, .f32⟩
  | .hbm, ⟨11, _⟩ => ⟨S16384x16, .f32⟩
  | .hbm, ⟨12, _⟩ => ⟨S16384x16x1, .f32⟩
  | .hbm, ⟨13, _⟩ => ⟨S_, .f32⟩
  | .hbm, ⟨14, _⟩ => ⟨S16384x16x1, .f32⟩
  | .hbm, ⟨15, _⟩ => ⟨S16384x16x1, .f32⟩
  | .hbm, ⟨16, _⟩ => ⟨S_, .f32⟩
  | .hbm, ⟨17, _⟩ => ⟨S16384x16x1, .f32⟩
  | .hbm, ⟨18, _⟩ => ⟨S16384x16x1, .f32⟩
  | .hbm, ⟨19, _⟩ => ⟨S16384x16x1, .f32⟩
  | .hbm, ⟨20, _⟩ => ⟨S16384x16x64, .f32⟩
  | .hbm, ⟨21, _⟩ => ⟨S16384x16x64, .f32⟩
  | .hbm, ⟨22, _⟩ => ⟨S1x1x64, .f32⟩
  | .hbm, ⟨23, _⟩ => ⟨S16384x16x64, .f32⟩
  | .hbm, ⟨24, _⟩ => ⟨S16384x16x64, .f32⟩
  | .hbm, ⟨25, _⟩ => ⟨S16384x1x32, .f32⟩
  | .hbm, ⟨26, _⟩ => ⟨S16384x16x32, .f32⟩
  | .hbm, ⟨27, _⟩ => ⟨S_, .f32⟩
  | .hbm, ⟨28, _⟩ => ⟨S16384x16x32, .f32⟩
  | .hbm, ⟨29, _⟩ => ⟨S16384x16x128, .f32⟩
  | .hbm, ⟨30, _⟩ => ⟨S16384x2048, .f32⟩
  | .hbm, ⟨31, _⟩ => ⟨S16384x2048, .bf16⟩
  | .hbm, ⟨32, _⟩ => ⟨S16384x16x64, .f32⟩
  | .hbm, ⟨33, _⟩ => ⟨S16384x1024, .f32⟩
  | .hbm, ⟨34, _⟩ => ⟨S16384x1024, .bf16⟩
  | _, _ => ⟨S16384x288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== MlaProj.lean ====
abbrev S8x2048x1024 : Shape := ⟨3, ![8, 2048, 1024]⟩
abbrev S1024 : Shape := ⟨1, ![1024]⟩
abbrev S1024x672 : Shape := ⟨2, ![1024, 672]⟩
abbrev S384 : Shape := ⟨1, ![384]⟩
abbrev S256 : Shape := ⟨1, ![256]⟩
abbrev S384x1536 : Shape := ⟨2, ![384, 1536]⟩
abbrev S96 : Shape := ⟨1, ![96]⟩
abbrev S2048x16 : Shape := ⟨2, ![2048, 16]⟩
abbrev S2048 : Shape := ⟨1, ![2048]⟩
abbrev S128 : Shape := ⟨1, ![128]⟩
abbrev S16384x1024 : Shape := ⟨2, ![16384, 1024]⟩
abbrev S1x1024 : Shape := ⟨2, ![1, 1024]⟩
abbrev S_ : Shape := ⟨0, ![]⟩
abbrev S1024x96 : Shape := ⟨2, ![1024, 96]⟩
abbrev S1024x768 : Shape := ⟨2, ![1024, 768]⟩
abbrev S384x1 : Shape := ⟨2, ![384, 1]⟩
abbrev S384x1537 : Shape := ⟨2, ![384, 1537]⟩
abbrev S2048x1 : Shape := ⟨2, ![2048, 1]⟩
abbrev S384x2048 : Shape := ⟨2, ![384, 2048]⟩
abbrev S2048x64 : Shape := ⟨2, ![2048, 64]⟩
abbrev S2048x32 : Shape := ⟨2, ![2048, 32]⟩
abbrev S2048x128 : Shape := ⟨2, ![2048, 128]⟩
abbrev S1x2048x1x128 : Shape := ⟨4, ![1, 2048, 1, 128]⟩
abbrev S1x2048x2x128 : Shape := ⟨4, ![1, 2048, 2, 128]⟩
abbrev S2048x256 : Shape := ⟨2, ![2048, 256]⟩
abbrev S2048x96 : Shape := ⟨2, ![2048, 96]⟩
abbrev S8x384 : Shape := ⟨2, ![8, 384]⟩
abbrev S1 : Shape := ⟨1, ![1]⟩
abbrev S2 : Shape := ⟨1, ![2]⟩
abbrev S32 : Shape := ⟨1, ![32]⟩
abbrev S1x128 : Shape := ⟨2, ![1, 128]⟩
abbrev S2x128 : Shape := ⟨2, ![2, 128]⟩
abbrev S256x256 : Shape := ⟨2, ![256, 256]⟩
abbrev S16384x2048 : Shape := ⟨2, ![16384, 2048]⟩
abbrev S16384x288 : Shape := ⟨2, ![16384, 288]⟩
abbrev S512x1024 : Shape := ⟨2, ![512, 1024]⟩
abbrev S512x256 : Shape := ⟨2, ![512, 256]⟩
abbrev S512x128 : Shape := ⟨2, ![512, 128]⟩
abbrev S512x2048 : Shape := ⟨2, ![512, 2048]⟩
abbrev S512x288 : Shape := ⟨2, ![512, 288]⟩
abbrev S512 : Shape := ⟨1, ![512]⟩
abbrev S512x1 : Shape := ⟨2, ![512, 1]⟩
abbrev S1024x384 : Shape := ⟨2, ![1024, 384]⟩
abbrev S512x384 : Shape := ⟨2, ![512, 384]⟩
abbrev S1x384 : Shape := ⟨2, ![1, 384]⟩
abbrev S1024x256 : Shape := ⟨2, ![1024, 256]⟩
abbrev S1x256 : Shape := ⟨2, ![1, 256]⟩
abbrev S1024x128 : Shape := ⟨2, ![1024, 128]⟩
abbrev S512x32 : Shape := ⟨2, ![512, 32]⟩
abbrev S384x256 : Shape := ⟨2, ![384, 256]⟩

abbrev nBuf : Space → Nat
  | .hbm => 138
  | .vmem => 19
  | .smem => 0
  | _ => 0

abbrev hbmTy0_0 (i : Nat) : BufTy := match i % 128 with
  | 0 => ⟨S8x2048x1024, .f32⟩
  | 1 => ⟨S1024, .f32⟩
  | 2 => ⟨S1024x672, .f32⟩
  | 3 => ⟨S384, .f32⟩
  | 4 => ⟨S256, .f32⟩
  | 5 => ⟨S384x1536, .f32⟩
  | 6 => ⟨S96, .f32⟩
  | 7 => ⟨S96, .f32⟩
  | 8 => ⟨S2048x16, .f32⟩
  | 9 => ⟨S2048x16, .f32⟩
  | 10 => ⟨S2048, .i32⟩
  | 11 => ⟨S2048, .i1⟩
  | 12 => ⟨S128, .f32⟩
  | 13 => ⟨S256, .f32⟩
  | 14 => ⟨S16384x1024, .f32⟩
  | 15 => ⟨S1x1024, .f32⟩
  | 16 => ⟨S_, .f32⟩
  | 17 => ⟨S1024x96, .f32⟩
  | 18 => ⟨S1024x768, .f32⟩
  | 19 => ⟨S1024x768, .bf16⟩
  | 20 => ⟨S_, .f32⟩
  | 21 => ⟨S384x1, .f32⟩
  | 22 => ⟨S384x1537, .f32⟩
  | 23 => ⟨S_, .i32⟩
  | 24 => ⟨S2048, .i32⟩
  | 25 => ⟨S2048, .i32⟩
  | 26 => ⟨S2048, .i32⟩
  | 27 => ⟨S2048x1, .i32⟩
  | 28 => ⟨S384x2048, .f32⟩
  | 29 => ⟨S384x2048, .bf16⟩
  | 30 => ⟨S_, .f32⟩
  | 31 => ⟨S2048x64, .f32⟩
  | 32 => ⟨S_, .f32⟩
  | 33 => ⟨S2048x32, .f32⟩
  | 34 => ⟨S2048x128, .f32⟩
  | 35 => ⟨S1x2048x1x128, .f32⟩
  | 36 => ⟨S1x2048x2x128, .f32⟩
  | 37 => ⟨S2048x256, .f32⟩
  | 38 => ⟨S_, .f32⟩
  | 39 => ⟨S2048x64, .f32⟩
  | 40 => ⟨S2048x16, .f32⟩
  | 41 => ⟨S_, .f32⟩
  | 42 => ⟨S2048x32, .f32⟩
  | 43 => ⟨S2048x128, .f32⟩
  | 44 => ⟨S1x2048x1x128, .f32⟩
  | 45 => ⟨S1x2048x2x128, .f32⟩
  | 46 => ⟨S2048x256, .f32⟩
  | 47 => ⟨S_, .f32⟩
  | 48 => ⟨S2048x96, .f32⟩
  | 49 => ⟨S2048x128, .f32⟩
  | 50 => ⟨S2048x16, .f32⟩
  | 51 => ⟨S_, .f32⟩
  | 52 => ⟨S2048x96, .f32⟩
  | 53 => ⟨S2048x128, .f32⟩
  | 54 => ⟨S_, .f32⟩
  | 55 => ⟨S8x384, .f32⟩
  | 56 => ⟨S_, .i32⟩
  | 57 => ⟨S1, .i32⟩
  | 58 => ⟨S8x384, .f32⟩
  | 59 => ⟨S_, .i32⟩
  | 60 => ⟨S1, .i32⟩
  | 61 => ⟨S_, .i32⟩
  | 62 => ⟨S1, .i32⟩
  | 63 => ⟨S2, .i32⟩
  | 64 => ⟨S8x384, .f32⟩
  | 65 => ⟨S32, .f32⟩
  | 66 => ⟨S_, .i32⟩
  | 67 => ⟨S1, .i32⟩
  | 68 => ⟨S_, .i32⟩
  | 69 => ⟨S1, .i32⟩
  | 70 => ⟨S2, .i32⟩
  | 71 => ⟨S8x384, .f32⟩
  | 72 => ⟨S_, .i32⟩
  | 73 => ⟨S1, .i32⟩
  | 74 => ⟨S_, .i32⟩
  | 75 => ⟨S1, .i32⟩
  | 76 => ⟨S2, .i32⟩
  | 77 => ⟨S8x384, .f32⟩
  | 78 => ⟨S_, .i32⟩
  | 79 => ⟨S1, .i32⟩
  | 80 => ⟨S_, .i32⟩
  | 81 => ⟨S1, .i32⟩
  | 82 => ⟨S2, .i32⟩
  | 83 => ⟨S8x384, .f32⟩
  | 84 => ⟨S_, .f32⟩
  | 85 => ⟨S32, .f32⟩
  | 86 => ⟨S128, .f32⟩
  | 87 => ⟨S1x128, .f32⟩
  | 88 => ⟨S2x128, .f32⟩
  | 89 => ⟨S256, .f32⟩
  | 90 => ⟨S_, .i32⟩
  | 91 => ⟨S1, .i32⟩
  | 92 => ⟨S_, .i32⟩
  | 93 => ⟨S1, .i32⟩
  | 94 => ⟨S2, .i32⟩
  | 95 => ⟨S8x384, .f32⟩
  | 96 => ⟨S256x256, .i32⟩
  | 97 => ⟨S256x256, .i32⟩
  | 98 => ⟨S_, .i32⟩
  | 99 => ⟨S256x256, .i32⟩
  | 100 => ⟨S256x256, .i32⟩
  | 101 => ⟨S_, .i32⟩
  | 102 => ⟨S256x256, .i32⟩
  | 103 => ⟨S256x256, .i32⟩
  | 104 => ⟨S_, .i32⟩
  | 105 => ⟨S256x256, .i32⟩
  | 106 => ⟨S256x256, .i1⟩
  | 107 => ⟨S_, .i32⟩
  | 108 => ⟨S256x256, .i32⟩
  | 109 => ⟨S256x256, .i32⟩
  | 110 => ⟨S_, .i32⟩
  | 111 => ⟨S256x256, .i32⟩
  | 112 => ⟨S256x256, .i1⟩
  | 113 => ⟨S_, .i32⟩
  | 114 => ⟨S256x256, .i32⟩
  | 115 => ⟨S256x256, .i32⟩
  | 116 => ⟨S_, .i32⟩
  | 117 => ⟨S256x256, .i32⟩
  | 118 => ⟨S256x256, .i1⟩
  | 119 => ⟨S256x256, .i1⟩
  | 120 => ⟨S_, .f32⟩
  | 121 => ⟨S_, .f32⟩
  | 122 => ⟨S256x256, .f32⟩
  | 123 => ⟨S256x256, .f32⟩
  | 124 => ⟨S256x256, .f32⟩
  | 125 => ⟨S_, .f32⟩
  | 126 => ⟨S256x256, .f32⟩
  | 127 => ⟨S256x256, .f32⟩
  | _ => ⟨S8x2048x1024, .f32⟩

abbrev hbmTy0_1 (i : Nat) : BufTy := match i % 128 with
  | 0 => ⟨S_, .i32⟩
  | 1 => ⟨S256x256, .i32⟩
  | 2 => ⟨S256x256, .i32⟩
  | 3 => ⟨S256x256, .i1⟩
  | 4 => ⟨S_, .f32⟩
  | 5 => ⟨S256x256, .f32⟩
  | 6 => ⟨S256x256, .f32⟩
  | 7 => ⟨S256x256, .bf16⟩
  | 8 => ⟨S16384x2048, .bf16⟩
  | 9 => ⟨S16384x288, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x768, .bf16⟩
  | .local _ .vmem, ⟨4, _⟩ => ⟨S384x2048, .bf16⟩
  | .local _ .vmem, ⟨5, _⟩ => ⟨S256x256, .bf16⟩
  | .local _ .vmem, ⟨6, _⟩ => ⟨S8x384, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x2048, .bf16⟩
  | .local _ .vmem, ⟨16, _⟩ => ⟨S512x2048, .bf16⟩
  | .local _ .vmem, ⟨17, _⟩ => ⟨S512x288, .f32⟩
  | .local _ .vmem, ⟨18, _⟩ => ⟨S512x288, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_c_0 : Ref sig .tc := ⟨.hbm, 11, rfl⟩
abbrev main_cst : Ref sig .tc := ⟨.hbm, 12, rfl⟩
abbrev main_cst_1 : Ref sig .tc := ⟨.hbm, 13, rfl⟩
abbrev main_v0 : Ref sig .tc := ⟨.hbm, 14, rfl⟩
abbrev main_v1 : Ref sig .tc := ⟨.hbm, 15, rfl⟩
abbrev main_cst_2 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst_3 : Ref sig .tc := ⟨.hbm, 20, rfl⟩
abbrev main_v5 : Ref sig .tc := ⟨.hbm, 21, rfl⟩
abbrev main_v6 : Ref sig .tc := ⟨.hbm, 22, rfl⟩
abbrev main_c_4 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_5 : Ref sig .tc := ⟨.hbm, 30, rfl⟩
abbrev main_v13 : Ref sig .tc := ⟨.hbm, 31, rfl⟩
abbrev main_cst_6 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_7 : Ref sig .tc := ⟨.hbm, 38, rfl⟩
abbrev main_v19 : Ref sig .tc := ⟨.hbm, 39, rfl⟩
abbrev main_v20 : Ref sig .tc := ⟨.hbm, 40, rfl⟩
abbrev main_cst_8 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_9 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_10 : Ref sig .tc := ⟨.hbm, 51, rfl⟩
abbrev main_v29 : Ref sig .tc := ⟨.hbm, 52, rfl⟩
abbrev main_v30 : Ref sig .tc := ⟨.hbm, 53, rfl⟩
abbrev main_cst_11 : Ref sig .tc := ⟨.hbm, 54, rfl⟩
abbrev main_v31 : Ref sig .tc := ⟨.hbm, 55, rfl⟩
abbrev main_c_12 : Ref sig .tc := ⟨.hbm, 56, rfl⟩
abbrev main_v32 : Ref sig .tc := ⟨.hbm, 57, rfl⟩
abbrev main_v33 : Ref sig .tc := ⟨.hbm, 58, rfl⟩
abbrev main_c_13 : Ref sig .tc := ⟨.hbm, 59, rfl⟩
abbrev main_v34 : Ref sig .tc := ⟨.hbm, 60, rfl⟩
abbrev main_c_14 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_c_15 : Ref sig .tc := ⟨.hbm, 66, rfl⟩
abbrev main_v39 : Ref sig .tc := ⟨.hbm, 67, rfl⟩
abbrev main_c_16 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_c_17 : Ref sig .tc := ⟨.hbm, 72, rfl⟩
abbrev main_v43 : Ref sig .tc := ⟨.hbm, 73, rfl⟩
abbrev main_c_18 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_c_19 : Ref sig .tc := ⟨.hbm, 78, rfl⟩
abbrev main_v47 : Ref sig .tc := ⟨.hbm, 79, rfl⟩
abbrev main_c_20 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_cst_21 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_c_22 : Ref sig .tc := ⟨.hbm, 90, rfl⟩
abbrev main_v56 : Ref sig .tc := ⟨.hbm, 91, rfl⟩
abbrev main_c_23 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_c_24 : Ref sig .tc := ⟨.hbm, 98, rfl⟩
abbrev main_v62 : Ref sig .tc := ⟨.hbm, 99, rfl⟩
abbrev main_v63 : Ref sig .tc := ⟨.hbm, 100, rfl⟩
abbrev main_c_25 : Ref sig .tc := ⟨.hbm, 101, rfl⟩
abbrev main_v64 : Ref sig .tc := ⟨.hbm, 102, rfl⟩
abbrev main_v65 : Ref sig .tc := ⟨.hbm, 103, rfl⟩
abbrev main_c_26 : Ref sig .tc := ⟨.hbm, 104, rfl⟩
abbrev main_v66 : Ref sig .tc := ⟨.hbm, 105, rfl⟩
abbrev main_v67 : Ref sig .tc := ⟨.hbm, 106, rfl⟩
abbrev main_c_27 : Ref sig .tc := ⟨.hbm, 107, rfl⟩
abbrev main_v68 : Ref sig .tc := ⟨.hbm, 108, rfl⟩
abbrev main_v69 : Ref sig .tc := ⟨.hbm, 109, rfl⟩
abbrev main_c_28 : Ref sig .tc := ⟨.hbm, 110, rfl⟩
abbrev main_v70 : Ref sig .tc := ⟨.hbm, 111, rfl⟩
abbrev main_v71 : Ref sig .tc := ⟨.hbm, 112, rfl⟩
abbrev main_c_29 : Ref sig .tc := ⟨.hbm, 113, rfl⟩
abbrev main_v72 : Ref sig .tc := ⟨.hbm, 114, rfl⟩
abbrev main_v73 : Ref sig .tc := ⟨.hbm, 115, rfl⟩
abbrev main_c_30 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_cst_31 : Ref sig .tc := ⟨.hbm, 120, rfl⟩
abbrev main_cst_32 : Ref sig .tc := ⟨.hbm, 121, rfl⟩
abbrev main_call0_v0 : Ref sig .tc := ⟨.hbm, 122, rfl⟩
abbrev main_call0_v1 : Ref sig .tc := ⟨.hbm, 123, rfl⟩
abbrev main_v77 : Ref sig .tc := ⟨.hbm, 124, rfl⟩
abbrev main_cst_33 : Ref sig .tc := ⟨.hbm, 125, rfl⟩
abbrev main_call1_v0 : Ref sig .tc := ⟨.hbm, 126, rfl⟩
abbrev main_v78 : Ref sig .tc := ⟨.hbm, 127, rfl⟩
abbrev main_c_34 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_cst_35 : Ref sig .tc := ⟨.hbm, 132, rfl⟩
abbrev main_call2_v0 : Ref sig .tc := ⟨.hbm, 133, rfl⟩
abbrev main_v82 : Ref sig .tc := ⟨.hbm, 134, rfl⟩
abbrev main_v83 : Ref sig .tc := ⟨.hbm, 135, rfl⟩
abbrev main_v84_0 : Ref sig .tc := ⟨.hbm, 136, rfl⟩
abbrev main_v84_1 : Ref sig .tc := ⟨.hbm, 137, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x288 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MlaProjReferenceIdeal.lean ====
abbrev S8x2048x1024 : Shape := ⟨3, ![8, 2048, 1024]⟩
abbrev S1024 : Shape := ⟨1, ![1024]⟩
abbrev S1024x672 : Shape := ⟨2, ![1024, 672]⟩
abbrev S384 : Shape := ⟨1, ![384]⟩
abbrev S256 : Shape := ⟨1, ![256]⟩
abbrev S384x1536 : Shape := ⟨2, ![384, 1536]⟩
abbrev S96 : Shape := ⟨1, ![96]⟩
abbrev S2048x16 : Shape := ⟨2, ![2048, 16]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x672 : Shape := ⟨3, ![8, 2048, 672]⟩
abbrev S8x2048x384 : Shape := ⟨3, ![8, 2048, 384]⟩
abbrev S1x1x384 : Shape := ⟨3, ![1, 1, 384]⟩
abbrev S8x2048x256 : Shape := ⟨3, ![8, 2048, 256]⟩
abbrev S1x1x256 : Shape := ⟨3, ![1, 1, 256]⟩
abbrev S8x2048x32 : Shape := ⟨3, ![8, 2048, 32]⟩
abbrev S32 : Shape := ⟨1, ![32]⟩
abbrev S1x1x32 : Shape := ⟨3, ![1, 1, 32]⟩
abbrev S8x2048x16 : Shape := ⟨3, ![8, 2048, 16]⟩
abbrev S1x2048x16 : Shape := ⟨3, ![1, 2048, 16]⟩
abbrev S8x2048x1536 : Shape := ⟨3, ![8, 2048, 1536]⟩
abbrev S8x2048x16x96 : Shape := ⟨4, ![8, 2048, 16, 96]⟩
abbrev S8x2048x16x32 : Shape := ⟨4, ![8, 2048, 16, 32]⟩
abbrev S8x2048x16x1 : Shape := ⟨4, ![8, 2048, 16, 1]⟩
abbrev S1x1x1x32 : Shape := ⟨4, ![1, 1, 1, 32]⟩
abbrev S2048x1x16 : Shape := ⟨3, ![2048, 1, 16]⟩
abbrev S8x2048x16x16 : Shape := ⟨4, ![8, 2048, 16, 16]⟩
abbrev S1x2048x1x16 : Shape := ⟨4, ![1, 2048, 1, 16]⟩
abbrev S8x2048x16x64 : Shape := ⟨4, ![8, 2048, 16, 64]⟩
abbrev S64 : Shape := ⟨1, ![64]⟩
abbrev S1x1x1x64 : Shape := ⟨4, ![1, 1, 1, 64]⟩
abbrev S8x2048x16x128 : Shape := ⟨4, ![8, 2048, 16, 128]⟩
abbrev S16384x2048 : Shape := ⟨2, ![16384, 2048]⟩
abbrev S8x2048x288 : Shape := ⟨3, ![8, 2048, 288]⟩
abbrev S16384x288 : Shape := ⟨2, ![16384, 288]⟩

abbrev nBuf : Space → Nat
  | .hbm => 164
  | .vmem => 0
  | .smem => 0
  | _ => 0

abbrev hbmTy0_0 (i : Nat) : BufTy := match i % 128 with
  | 0 => ⟨S8x2048x1024, .f32⟩
  | 1 => ⟨S1024, .f32⟩
  | 2 => ⟨S1024x672, .f32⟩
  | 3 => ⟨S384, .f32⟩
  | 4 => ⟨S256, .f32⟩
  | 5 => ⟨S384x1536, .f32⟩
  | 6 => ⟨S96, .f32⟩
  | 7 => ⟨S96, .f32⟩
  | 8 => ⟨S2048x16, .f32⟩
  | 9 => ⟨S2048x16, .f32⟩
  | 10 => ⟨S8x2048x1024, .f32⟩
  | 11 => ⟨S_, .f32⟩
  | 12 => ⟨S8x2048, .f32⟩
  | 13 => ⟨S8x2048x1, .f32⟩
  | 14 => ⟨S_, .f32⟩
  | 15 => ⟨S8x2048x1, .f32⟩
  | 16 => ⟨S8x2048x1, .f32⟩
  | 17 => ⟨S_, .f32⟩
  | 18 => ⟨S8x2048x1, .f32⟩
  | 19 => ⟨S8x2048x1, .f32⟩
  | 20 => ⟨S8x2048x1, .f32⟩
  | 21 => ⟨S8x2048x1024, .f32⟩
  | 22 => ⟨S8x2048x1024, .f32⟩
  | 23 => ⟨S1x1x1024, .f32⟩
  | 24 => ⟨S8x2048x1024, .f32⟩
  | 25 => ⟨S8x2048x1024, .f32⟩
  | 26 => ⟨S8x2048x672, .f32⟩
  | 27 => ⟨S8x2048x384, .f32⟩
  | 28 => ⟨S8x2048x384, .f32⟩
  | 29 => ⟨S_, .f32⟩
  | 30 => ⟨S8x2048, .f32⟩
  | 31 => ⟨S8x2048x1, .f32⟩
  | 32 => ⟨S_, .f32⟩
  | 33 => ⟨S8x2048x1, .f32⟩
  | 34 => ⟨S8x2048x1, .f32⟩
  | 35 => ⟨S_, .f32⟩
  | 36 => ⟨S8x2048x1, .f32⟩
  | 37 => ⟨S8x2048x1, .f32⟩
  | 38 => ⟨S8x2048x1, .f32⟩
  | 39 => ⟨S8x2048x384, .f32⟩
  | 40 => ⟨S8x2048x384, .f32⟩
  | 41 => ⟨S1x1x384, .f32⟩
  | 42 => ⟨S8x2048x384, .f32⟩
  | 43 => ⟨S8x2048x384, .f32⟩
  | 44 => ⟨S8x2048x256, .f32⟩
  | 45 => ⟨S8x2048x256, .f32⟩
  | 46 => ⟨S_, .f32⟩
  | 47 => ⟨S8x2048, .f32⟩
  | 48 => ⟨S8x2048x1, .f32⟩
  | 49 => ⟨S_, .f32⟩
  | 50 => ⟨S8x2048x1, .f32⟩
  | 51 => ⟨S8x2048x1, .f32⟩
  | 52 => ⟨S_, .f32⟩
  | 53 => ⟨S8x2048x1, .f32⟩
  | 54 => ⟨S8x2048x1, .f32⟩
  | 55 => ⟨S8x2048x1, .f32⟩
  | 56 => ⟨S8x2048x256, .f32⟩
  | 57 => ⟨S8x2048x256, .f32⟩
  | 58 => ⟨S1x1x256, .f32⟩
  | 59 => ⟨S8x2048x256, .f32⟩
  | 60 => ⟨S8x2048x256, .f32⟩
  | 61 => ⟨S8x2048x32, .f32⟩
  | 62 => ⟨S32, .f32⟩
  | 63 => ⟨S8x2048x32, .f32⟩
  | 64 => ⟨S_, .f32⟩
  | 65 => ⟨S8x2048, .f32⟩
  | 66 => ⟨S8x2048x1, .f32⟩
  | 67 => ⟨S_, .f32⟩
  | 68 => ⟨S8x2048x1, .f32⟩
  | 69 => ⟨S8x2048x1, .f32⟩
  | 70 => ⟨S_, .f32⟩
  | 71 => ⟨S8x2048x1, .f32⟩
  | 72 => ⟨S8x2048x1, .f32⟩
  | 73 => ⟨S8x2048x1, .f32⟩
  | 74 => ⟨S8x2048x32, .f32⟩
  | 75 => ⟨S8x2048x32, .f32⟩
  | 76 => ⟨S1x1x32, .f32⟩
  | 77 => ⟨S8x2048x32, .f32⟩
  | 78 => ⟨S8x2048x32, .f32⟩
  | 79 => ⟨S8x2048x16, .f32⟩
  | 80 => ⟨S8x2048x16, .f32⟩
  | 81 => ⟨S1x2048x16, .f32⟩
  | 82 => ⟨S8x2048x16, .f32⟩
  | 83 => ⟨S8x2048x16, .f32⟩
  | 84 => ⟨S1x2048x16, .f32⟩
  | 85 => ⟨S8x2048x16, .f32⟩
  | 86 => ⟨S8x2048x16, .f32⟩
  | 87 => ⟨S8x2048x16, .f32⟩
  | 88 => ⟨S1x2048x16, .f32⟩
  | 89 => ⟨S8x2048x16, .f32⟩
  | 90 => ⟨S8x2048x16, .f32⟩
  | 91 => ⟨S1x2048x16, .f32⟩
  | 92 => ⟨S8x2048x16, .f32⟩
  | 93 => ⟨S8x2048x16, .f32⟩
  | 94 => ⟨S8x2048x16, .f32⟩
  | 95 => ⟨S8x2048x32, .f32⟩
  | 96 => ⟨S8x2048x1536, .f32⟩
  | 97 => ⟨S8x2048x16x96, .f32⟩
  | 98 => ⟨S8x2048x16x32, .f32⟩
  | 99 => ⟨S32, .f32⟩
  | 100 => ⟨S8x2048x16x32, .f32⟩
  | 101 => ⟨S_, .f32⟩
  | 102 => ⟨S8x2048x16, .f32⟩
  | 103 => ⟨S8x2048x16x1, .f32⟩
  | 104 => ⟨S_, .f32⟩
  | 105 => ⟨S8x2048x16x1, .f32⟩
  | 106 => ⟨S8x2048x16x1, .f32⟩
  | 107 => ⟨S_, .f32⟩
  | 108 => ⟨S8x2048x16x1, .f32⟩
  | 109 => ⟨S8x2048x16x1, .f32⟩
  | 110 => ⟨S8x2048x16x1, .f32⟩
  | 111 => ⟨S8x2048x16x32, .f32⟩
  | 112 => ⟨S8x2048x16x32, .f32⟩
  | 113 => ⟨S1x1x1x32, .f32⟩
  | 114 => ⟨S8x2048x16x32, .f32⟩
  | 115 => ⟨S8x2048x16x32, .f32⟩
  | 116 => ⟨S2048x1x16, .f32⟩
  | 117 => ⟨S2048x1x16, .f32⟩
  | 118 => ⟨S8x2048x16x16, .f32⟩
  | 119 => ⟨S8x2048x16x16, .f32⟩
  | 120 => ⟨S1x2048x1x16, .f32⟩
  | 121 => ⟨S8x2048x16x16, .f32⟩
  | 122 => ⟨S8x2048x16x16, .f32⟩
  | 123 => ⟨S1x2048x1x16, .f32⟩
  | 124 => ⟨S8x2048x16x16, .f32⟩
  | 125 => ⟨S8x2048x16x16, .f32⟩
  | 126 => ⟨S8x2048x16x16, .f32⟩
  | 127 => ⟨S1x2048x1x16, .f32⟩
  | _ => ⟨S8x2048x1024, .f32⟩

abbrev hbmTy0_1 (i : Nat) : BufTy := match i % 128 with
  | 0 => ⟨S8x2048x16x16, .f32⟩
  | 1 => ⟨S8x2048x16x16, .f32⟩
  | 2 => ⟨S1x2048x1x16, .f32⟩
  | 3 => ⟨S8x2048x16x16, .f32⟩
  | 4 => ⟨S8x2048x16x16, .f32⟩
  | 5 => ⟨S8x2048x16x16, .f32⟩
  | 6 => ⟨S8x2048x16x32, .f32⟩
  | 7 => ⟨S8x2048x16x64, .f32⟩
  | 8 => ⟨S64, .f32⟩
  | 9 => ⟨S8x2048x16x64, .f32⟩
  | 10 => ⟨S_, .f32⟩
  | 11 => ⟨S8x2048x16, .f32⟩
  | 12 => ⟨S8x2048x16x1, .f32⟩
  | 13 => ⟨S_, .f32⟩
  | 14 => ⟨S8x2048x16x1, .f32⟩
  | 15 => ⟨S8x2048x16x1, .f32⟩
  | 16 => ⟨S_, .f32⟩
  | 17 => ⟨S8x2048x16x1, .f32⟩
  | 18 => ⟨S8x2048x16x1, .f32⟩
  | 19 => ⟨S8x2048x16x1, .f32⟩
  | 20 => ⟨S8x2048x16x64, .f32⟩
  | 21 => ⟨S8x2048x16x64, .f32⟩
  | 22 => ⟨S1x1x1x64, .f32⟩
  | 23 => ⟨S8x2048x16x64, .f32⟩
  | 24 => ⟨S8x2048x16x64, .f32⟩
  | 25 => ⟨S8x2048x16x96, .f32⟩
  | 26 => ⟨S_, .f32⟩
  | 27 => ⟨S8x2048x16x96, .f32⟩
  | 28 => ⟨S8x2048x16x96, .f32⟩
  | 29 => ⟨S_, .f32⟩
  | 30 => ⟨S8x2048x16x32, .f32⟩
  | 31 => ⟨S8x2048x16x128, .f32⟩
  | 32 => ⟨S16384x2048, .f32⟩
  | 33 => ⟨S16384x2048, .bf16⟩
  | 34 => ⟨S8x2048x288, .f32⟩
  | 35 => ⟨S16384x288, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_8 : Ref sig .tc := ⟨.hbm, 64, rfl⟩
abbrev main_v45 : Ref sig .tc := ⟨.hbm, 65, rfl⟩
abbrev main_v46 : Ref sig .tc := ⟨.hbm, 66, rfl⟩
abbrev main_cst_9 : Ref sig .tc := ⟨.hbm, 67, rfl⟩
abbrev main_v47 : Ref sig .tc := ⟨.hbm, 68, rfl⟩
abbrev main_v48 : Ref sig .tc := ⟨.hbm, 69, rfl⟩
abbrev main_cst_10 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_cst_11 : Ref sig .tc := ⟨.hbm, 101, rfl⟩
abbrev main_v79 : Ref sig .tc := ⟨.hbm, 102, rfl⟩
abbrev main_v80 : Ref sig .tc := ⟨.hbm, 103, rfl⟩
abbrev main_cst_12 : Ref sig .tc := ⟨.hbm, 104, rfl⟩
abbrev main_v81 : Ref sig .tc := ⟨.hbm, 105, rfl⟩
abbrev main_v82 : Ref sig .tc := ⟨.hbm, 106, rfl⟩
abbrev main_cst_13 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_cst_14 : Ref sig .tc := ⟨.hbm, 138, rfl⟩
abbrev main_v113 : Ref sig .tc := ⟨.hbm, 139, rfl⟩
abbrev main_v114 : Ref sig .tc := ⟨.hbm, 140, rfl⟩
abbrev main_cst_15 : Ref sig .tc := ⟨.hbm, 141, rfl⟩
abbrev main_v115 : Ref sig .tc := ⟨.hbm, 142, rfl⟩
abbrev main_v116 : Ref sig .tc := ⟨.hbm, 143, rfl⟩
abbrev main_cst_16 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_cst_17 : Ref sig .tc := ⟨.hbm, 154, rfl⟩
abbrev main_v126 : Ref sig .tc := ⟨.hbm, 155, rfl⟩
abbrev main_v127 : Ref sig .tc := ⟨.hbm, 156, rfl⟩
abbrev main_cst_18 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩

abbrev nD : Nat := 1
abbrev τ : Topo := Topo.v7x

variable {F : FTy → Type} [FloatOps F]
-- ==== MobaMeans.lean ====
abbrev S16384x512 : Shape := ⟨2, ![16384, 512]⟩
abbrev S64x256 : Shape := ⟨2, ![64, 256]⟩
abbrev S2048x256 : Shape := ⟨2, ![2048, 256]⟩
abbrev S8x256 : Shape := ⟨2, ![8, 256]⟩
abbrev S8x256x256 : Shape := ⟨3, ![8, 256, 256]⟩

abbrev nBuf : Space → Nat
  | .hbm => 2
  | .vmem => 4
  | .smem => 0
  | _ => 0

abbrev bufTy : (tb : Table) → Fin (tcTables nBuf tb) → BufTy
  | .hbm, ⟨0, _⟩ => ⟨S16384x512, .f32⟩
  | .hbm, ⟨1, _⟩ => ⟨S64x256, .f32⟩
  | .local _ .vmem, ⟨0, _⟩ => ⟨S2048x256, .f32⟩
  | .local _ .vmem, ⟨1, _⟩ => ⟨S2048x256, .f32⟩
  | .local _ .vmem, ⟨2, _⟩ => ⟨S8x256, .f32⟩
  | .local _ .vmem, ⟨3, _⟩ => ⟨S8x256, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== MobaMeansReferenceIdeal.lean ====
abbrev S16384x512 : Shape := ⟨2, ![16384, 512]⟩
abbrev S8x2048x2x4x64 : Shape := ⟨5, ![8, 2048, 2, 4, 64]⟩
abbrev S8x2048x1x4x64 : Shape := ⟨5, ![8, 2048, 1, 4, 64]⟩
abbrev S8x2048x4x64 : Shape := ⟨4, ![8, 2048, 4, 64]⟩
abbrev S8x8x256x4x64 : Shape := ⟨5, ![8, 8, 256, 4, 64]⟩
abbrev S_ : Shape := ⟨0, ![]⟩
abbrev S8x8x4x64 : Shape := ⟨4, ![8, 8, 4, 64]⟩
abbrev S64x256 : Shape := ⟨2, ![64, 256]⟩

abbrev nBuf : Space → Nat
  | .hbm => 11
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S8x2048x2x4x64, .f32⟩
  | .hbm, ⟨2, _⟩ => ⟨S8x2048x1x4x64, .f32⟩
  | .hbm, ⟨3, _⟩ => ⟨S8x2048x4x64, .f32⟩
  | .hbm, ⟨4, _⟩ => ⟨S8x8x256x4x64, .f32⟩
  | .hbm, ⟨5, _⟩ => ⟨S_, .f32⟩
  | .hbm, ⟨6, _⟩ => ⟨S8x8x4x64, .f32⟩
  | .hbm, ⟨7, _⟩ => ⟨S_, .f32⟩
  | .hbm, ⟨8, _⟩ => ⟨S8x8x4x64, .f32⟩
  | .hbm, ⟨9, _⟩ => ⟨S8x8x4x64, .f32⟩
  | .hbm, ⟨10, _⟩ => ⟨S64x256, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Proof.Mla.Block.lean ====
/-
  What one grid point of the prompt attention leaves in its output block, as a function of the three blocks it reads: the running
  maximum, normaliser and weighted sum of the online softmax, carried through the key blocks left of the diagonal and the
  diagonal block itself, and the quotient at the end.
-/
module

public import proofs.«01_k».proof.Proof.Gen.KernelIdeal.Value

@[expose] public section

set_option maxRecDepth 16384

noncomputable section

namespace Cert.Mla

open Cert.KernelIdeal Cert.KernelIdeal.Gen Idealize.ShloMosaic Idealize.ShloMosaic.TcCoe Idealize.SL.Sem

/-! ## Whole-buffer stores and loads -/

theorem zero2 : (![0, 0] : Fin 2 → ℕ) = fun _ => 0 := by funext a; fin_cases a <;> rfl

/-- A buffer reads as the payload of a store that fills it, when that store is the last. -/
theorem read_writes_full {sig : RefSig} {κ : Kind} {sp : Space} {S : Shape} {e : EltTy} {Val : EltTy → Type}
    (v : View sig κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h
  funext y
  have e1 := View.read_writes_cons_emb v f (Rect.whole S) w L y
  rw [Rect.emb_whole_apply] at e1
  exact e1

/-- A load of a whole buffer reads its contents. -/
theorem readAt_full {sig : RefSig} {κ : Kind} {sp : Space} {S : Shape} {e : EltTy} {Val : EltTy → Type}
    (v : View sig κ sp S e) (f : v.ty.Contents Val) {off : Fin S.rank → ℕ} (h : off = fun _ => 0)
    (inb : ∀ a, off a + S.size a ≤ S.size a) :
    v.readAt Val (Rect.unit off S.size inb).toLoadRect f = v.read Val f :=
  (View.readAt_eq_ld v f (Rect.unit off S.size inb)).trans (View.ld_unit_zero h inb _)

variable {F : FTy → Type} [FloatOps F]

/-! ## The state of the online softmax and one step of it -/

/-- The running maximum, normaliser and weighted sum of the 512 query rows (256 of each of two heads). -/
structure St (F : FTy → Type) where
  m : Vec F S512x1 .f32
  l : Vec F S512x1 .f32
  a : Vec F S512x128 .f32

/-- One block of 256 keys taken in: `q0`, `q1` the two heads' queries, `k0`, `k1` their keys, `v` both heads' values,
    `mask` which keys a row may see. -/
def step (q0 q1 : Vec F S256x128 .bf16) (mask : IVec S512x256 1) (k0 k1 v : Vec F S256x128 .bf16) (s : St F) : St F where
  m := k0_pay7 q0 q1 mask k0 k1 s.m
  l := k0_pay8 q0 q1 mask k0 k1 s.m s.l
  a := k0_pay21 v (k0_pay5 q0 q1 mask k0 k1 s.m) s.a (k0_pay9 q0 q1 mask k0 k1 s.m)

/-- The state before any key. -/
def st0 : St F := ⟨k0_pay17, k0_pay18, k0_pay19⟩

/-- The first head's queries in a block of two heads. -/
def qa (x0 : Vec F S256x256 .bf16) : Vec F S256x128 .bf16 :=
  View.ld x0 (Rect.unit (s := S256x256) ![0, 0] S256x128.size inb_S256x256_S256x128_0_0)
/-- The second head's. -/
def qb (x0 : Vec F S256x256 .bf16) : Vec F S256x128 .bf16 :=
  View.ld x0 (Rect.unit (s := S256x256) ![0, 128] S256x128.size inb_S256x256_S256x128_0_128)

/-- The state after the first `n` key blocks left of the diagonal. -/
def stAt (i : grid0.Coords) (x0 : Vec F S256x256 .bf16) (x1 : Vec F S2048x256 .bf16) (x2 : Vec F S2048x128 .bf16) : ℕ → St F
  | 0 => st0
  | n + 1 =>
    if h : n < (k0_t1_loop i).trips then
      step (qa x0) (qb x0) k0_pay20
        (View.ld x1 (Rect.unit (s := S2048x256) (k0_off1 i ⟨n, h⟩) S256x128.size (k0_off1_inb i ⟨n, h⟩)))
        (View.ld x1 (Rect.unit (s := S2048x256) (k0_off2 i ⟨n, h⟩) S256x128.size (k0_off2_inb i ⟨n, h⟩)))
        (View.ld x2 (Rect.unit (s := S2048x128) (k0_off3 i ⟨n, h⟩) S256x128.size (k0_off3_inb i ⟨n, h⟩)))
        (stAt i x0 x1 x2 n)
    else stAt i x0 x1 x2 n

/-- The state after the diagonal block, where a query sees the keys up to itself. -/
def stEnd (i : grid0.Coords) (x0 : Vec F S256x256 .bf16) (x1 : Vec F S2048x256 .bf16) (x2 : Vec F S2048x128 .bf16) : St F :=
  step (qa x0) (qb x0) (k0_pay25 k0_pay23 (iota .tc S512x256 32 [1] iota_S512x256_d1_w32))
    (View.ld x1 (Rect.unit (s := S2048x256) (k0_off7 i) S256x128.size (k0_off7_inb i)))
    (View.ld x1 (Rect.unit (s := S2048x256) (k0_off8 i) S256x128.size (k0_off8_inb i)))
    (View.ld x2 (Rect.unit (s := S2048x128) (k0_off9 i) S256x128.size (k0_off9_inb i)))
    (stAt i x0 x1 x2 (k0_t1_loop i).trips)

/-- The second loop runs no trip: the blocks left of the diagonal are all taken by the first. -/
theorem trips2 (i : grid0.Coords) : Scf.trips (k0_t2_loop i).lb (k0_t2_loop i).ub (k0_t2_loop i).st = 0 := by
  have h : ∀ n : Fin 8, Scf.trips (Scalar.addi 0#32 (Scalar.muli (Scalar.divsi (Scalar.subi (BitVec.ofNat 32 n.val) 0#32) 1#32) 1#32))
      (Scalar.addi 0#32 (Scalar.subi (BitVec.ofNat 32 n.val) 0#32)) 1#32 = 0 := by decide +kernel
  exact h (i 2)

/-- The first loop runs as many trips as there are key blocks left of the diagonal. -/
theorem trips1 (i : grid0.Coords) : (k0_t1_loop i).trips = (i 2).val := by
  have h : ∀ n : Fin 8, Scf.trips 0#32 (Scalar.addi 0#32 (Scalar.muli (Scalar.divsi (Scalar.subi (BitVec.ofNat 32 n.val) 0#32) 1#32) 1#32))
      1#32 = n.val := by decide +kernel
  exact h (i 2)

section
variable (c : Dev nD) (i : grid0.Coords) (arg3 : Memref sig .tc .vmem S256x256 .bf16) (harg3 : arg3.IsWhole) (arg4 : Memref sig .tc .vmem S2048x256 .bf16) (harg4 : arg4.IsWhole) (arg5 : Memref sig .tc .vmem S2048x128 .bf16) (harg5 : arg5.IsWhole) (arg6 : Memref sig .tc .vmem S256x128 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x128 .f32) (harg9 : arg9.IsWhole)

/-- The state the three scratch buffers hold after a list of stores into each. -/
def stOf (g7 : BufTy.Contents (Elt F) arg7.view.ty) (g8 : BufTy.Contents (Elt F) arg8.view.ty) (g9 : BufTy.Contents (Elt F) arg9.view.ty)
    (L : List (View.Piece (Elt F) S512x1 .f32) × List (View.Piece (Elt F) S512x1 .f32) × List (View.Piece (Elt F) S512x128 .f32)) : St F :=
  ⟨arg7.view.read (Elt F) (arg7.view.writes (Elt F) g7 L.1), arg8.view.read (Elt F) (arg8.view.writes (Elt F) g8 L.2.1),
    arg9.view.read (Elt F) (arg9.view.writes (Elt F) g9 L.2.2)⟩

/-- The stores of one trip carry the state one step on. -/
theorem stOf_trip (x0 : Vec F S256x256 .bf16) (x1 : Vec F S2048x256 .bf16) (x2 : Vec F S2048x128 .bf16)
    (g7 : BufTy.Contents (Elt F) arg7.view.ty) (g8 : BufTy.Contents (Elt F) arg8.view.ty) (g9 : BufTy.Contents (Elt F) arg9.view.ty)
    (hg : stOf arg7 arg8 arg9 g7 g8 g9 ([], [], []) = st0) (n : ℕ) (hn : n ≤ (k0_t1_loop i).trips) :
    stOf arg7 arg8 arg9 g7 g8 g9 (pb_k0_t1 (F := F) Variants.none c none i arg3 harg3 arg4 harg4 arg5 harg5 arg6 harg6 arg7 harg7 arg8 harg8 arg9 harg9
      (qa x0) (qb x0) (harg4.unread x1) (harg5.unread x2) g7 g8 g9 n) = stAt i x0 x1 x2 n := by
  induction n with
  | zero => exact hg
  | succ n ih =>
    have ih := ih (Nat.le_of_succ_le hn)
    have hn' : n < (k0_t1_loop i).trips := hn
    rw [stAt, dif_pos hn']
    rw [pb_k0_t1_succ (F := F) Variants.none c none i arg3 harg3 arg4 harg4 arg5 harg5 arg6 harg6 arg7 harg7 arg8 harg8 arg9 harg9
      (qa x0) (qb x0) (harg4.unread x1) (harg5.unread x2) g7 g8 g9 ⟨n, hn'⟩]
    rw [← ih]
    generalize pb_k0_t1 (F := F) Variants.none c none i arg3 harg3 arg4 harg4 arg5 harg5 arg6 harg6 arg7 harg7 arg8 harg8 arg9 harg9
      (qa x0) (qb x0) (harg4.unread x1) (harg5.unread x2) g7 g8 g9 n = P
    unfold tripL_k0_t1 trip_k0_t1 trip_k0_t1.sl.r trip_k0_t1.sl.r_1 trip_k0_t1.sl.r_2 trip_k0_t1.sl.r_3 stOf step
    simp only [List.cons_append, List.nil_append]
    rw [read_writes_full _ _ zero2, read_writes_full _ _ zero2, read_writes_full _ _ zero2]
    rw [readAt_full _ _ zero2, readAt_full _ _ zero2, readAt_full _ _ zero2]
    simp only [View.readAt_eq_ld, harg4.read_unread, harg5.read_unread]

/-- What the body leaves in the output block: the weighted sum over the normaliser, of the state after the diagonal block. -/
theorem out_eq (x0 : Vec F S256x256 .bf16) (x1 : Vec F S2048x256 .bf16) (x2 : Vec F S2048x128 .bf16) :
    out0_A_3 c i arg3 harg3 arg4 harg4 arg5 harg5 arg6 harg6 arg7 harg7 arg8 harg8 arg9 harg9 x0 x1 x2
      = k0_pay2 (stEnd i x0 x1 x2).a (stEnd i x0 x1 x2).l := by
  have h1 := stOf_trip (F := F) c i arg3 harg3 arg4 harg4 arg5 harg5 arg6 harg6 arg7 harg7 arg8 harg8 arg9 harg9 x0 x1 x2
    (arg7.view.writes (Elt F) arg7.view.junk kernelRun0_A.sl.HS0_1) (arg8.view.writes (Elt F) arg8.view.junk kernelRun0_A.sl.HS1_1)
    (arg9.view.writes (Elt F) arg9.view.junk kernelRun0_A.sl.HS2_1) (by
      unfold stOf st0 kernelRun0_A.sl.HS0_1 kernelRun0_A.sl.HS1_1 kernelRun0_A.sl.HS2_1
      simp only [View.writes_nil]
      rw [read_writes_full _ _ zero2, read_writes_full _ _ zero2, read_writes_full _ _ zero2])
    _ le_rfl
  have e7 : kernelRun0_A.sl.v38 (F := F) c i arg3 harg3 arg4 harg4 arg5 harg5 arg6 harg6 arg7 harg7 arg8 harg8 arg9 harg9 x0 x1 x2
      = (stAt i x0 x1 x2 (k0_t1_loop i).trips).m := by
    unfold kernelRun0_A.sl.v38 View.readCov
    rw [readAt_full _ _ zero2, trips2, pb_k0_t2.eq_1]
    simp only [List.nil_append, View.readAt_eq_ld, harg3.read_unread]
    rw [View.writes_append]
    exact congrArg St.m h1
  have e8 : kernelRun0_A.sl.v52 (F := F) c i arg3 harg3 arg4 harg4 arg5 harg5 arg6 harg6 arg7 harg7 arg8 harg8 arg9 harg9 x0 x1 x2
      = (stAt i x0 x1 x2 (k0_t1_loop i).trips).l := by
    unfold kernelRun0_A.sl.v52 View.readCov
    rw [readAt_full _ _ zero2, trips2, pb_k0_t2.eq_1]
    simp only [List.nil_append, View.readAt_eq_ld, harg3.read_unread]
    rw [View.writes_append]
    exact congrArg St.l h1
  have e9 : kernelRun0_A.sl.v60 (F := F) c i arg3 harg3 arg4 harg4 arg5 harg5 arg6 harg6 arg7 harg7 arg8 harg8 arg9 harg9 x0 x1 x2
      = (stAt i x0 x1 x2 (k0_t1_loop i).trips).a := by
    unfold kernelRun0_A.sl.v60 View.readCov
    rw [readAt_full _ _ zero2, trips2, pb_k0_t2.eq_1]
    simp only [List.nil_append, View.readAt_eq_ld, harg3.read_unread]
    rw [View.writes_append]
    exact congrArg St.a h1
  unfold out0_A_3 kernelRun0_A
  dsimp only
  rw [read_writes_full _ _ zero2]
  unfold kernelRun0_A.sl.v69 kernelRun0_A.sl.v70 kernelRun0_A.sl.HS2_1_1 kernelRun0_A.sl.HS1_1_1 View.readCov
  rw [readAt_full _ _ zero2, readAt_full _ _ zero2, read_writes_full _ _ zero2, read_writes_full _ _ zero2]
  unfold kernelRun0_A.sl.r_2 kernelRun0_A.sl.r kernelRun0_A.sl.r_1 kernelRun0_A.sl.v25
  rw [e7, e8, e9]
  simp only [View.readAt_eq_ld, harg3.read_unread, harg4.read_unread, harg5.read_unread]
  rfl

end

end Cert.Mla

end
-- ==== Proof.Mla.Row.lean ====
/-
  One row of the online softmax over the real numbers: a step of the state on finite scores and values stays finite, and is
  the step of the shifted sums.
-/
module

public import proofs.«01_k».proof.Proof.Mla.Block
public import Idealize.ShloMosaic.Lib.Pointwise

@[expose] public section

set_option maxRecDepth 16384

noncomputable section

namespace Cert.Mla

open Cert.KernelIdeal Cert.KernelIdeal.Gen Idealize.ShloMosaic Idealize.ShloMosaic.TcCoe Idealize.SL.Sem

/-! ## Real numbers inside the extended ones -/

theorem ofBits_bot : Ideal.ofBits .f32 0xFF800000#32 = ⊥ := by
  simp [Ideal.ofBits, Ideal.ieee]

theorem ofBits_top : Ideal.ofBits .f32 0x7F800000#32 = ⊤ := by
  simp [Ideal.ofBits, Ideal.ieee]

/-- The kernel's stand-in for minus infinity is a finite number. -/
theorem ofBits_neg : ∃ x : ℝ, Ideal.ofBits .f32 0xF149F2CA#32 = (x : EReal) := by
  simp only [Ideal.ofBits, Ideal.ieee]
  rw [if_neg (by decide), if_neg (by decide)]
  exact ⟨_, rfl⟩

theorem coe_sum {ι : Type} (s : Finset ι) (f : ι → ℝ) : ((∑ i ∈ s, f i : ℝ) : EReal) = ∑ i ∈ s, (f i : EReal) := by
  classical
  induction s using Finset.induction with
  | empty => simp
  | insert a s h ih => rw [Finset.sum_insert h, Finset.sum_insert h, EReal.coe_add, ih]

theorem sum_eq_coe {ι : Type} (s : Finset ι) (g : ι → EReal) (f : ι → ℝ) (h : ∀ i ∈ s, g i = (f i : EReal)) :
    ∑ i ∈ s, g i = ((∑ i ∈ s, f i : ℝ) : EReal) := by
  rw [coe_sum]; exact Finset.sum_congr rfl h

/-- The maximum of a real number and finitely many others that are not plus infinity is a real number. -/
theorem max_fold_real {ι : Type} (s : Finset ι) (M : ℝ) (g : ι → EReal) (h : ∀ i ∈ s, g i < ⊤) :
    ∃ M' : ℝ, max (M : EReal) (s.fold max ⊥ g) = (M' : EReal) := by
  have h1 : s.fold max ⊥ g < ⊤ := (Finset.fold_max_lt (c := (⊤ : EReal))).2 ⟨bot_lt_top, h⟩
  have h2 : max (M : EReal) (s.fold max ⊥ g) < ⊤ := max_lt (EReal.coe_lt_top M) h1
  have h3 : ⊥ < max (M : EReal) (s.fold max ⊥ g) := lt_max_of_lt_left (EReal.bot_lt_coe M)
  exact ⟨_, (EReal.coe_toReal h2.ne h3.ne').symm⟩

theorem select_pos {α : Type} {b : BitVec 1} (h : b = 1#1) (x y : α) : Scalar.select b x y = x := if_pos h

theorem select_neg {α : Type} {b : BitVec 1} (h : ¬ b = 1#1) (x y : α) : Scalar.select b x y = y := if_neg h

/-! ## One row of the state -/

/-- Row `r` of a state holds the real numbers `M`, `S` and `A d`. -/
structure RowIs (s : St Ideal) (r : Fin 512) (M S : ℝ) (A : Fin 128 → ℝ) : Prop where
  m : s.m (ix2 r 0) = (M : EReal)
  l : s.l (ix2 r 0) = (S : EReal)
  a : ∀ d, s.a (ix2 r d) = (A d : EReal)

variable (q0 q1 k0 k1 v : Vec Ideal S256x128 .bf16) (mask : IVec S512x256 1) (s : St Ideal) (r : Fin 512)

/-- Row `r`'s score against key `x` of the block: the first 256 rows are the first head's, the others the second's. -/
def score (x : Fin 256) : EReal :=
  if h : r.val < 256 then ∑ e : Fin 128, q0 (ix2 ⟨r.val, h⟩ e) * k0 (ix2 x e)
  else ∑ e : Fin 128, q1 (ix2 ⟨r.val - 256, by have := r.isLt; omega⟩ e) * k1 (ix2 x e)

theorem pay3_apply (x : Fin 256) : k0_pay3 q0 q1 mask k0 k1 (ix2 r x)
    = Scalar.select (mask (ix2 r x)) (score q0 q1 k0 k1 r x) (Ideal.ofBits .f32 0xF149F2CA#32) := by
  unfold score
  pointwise [k0_pay3]

theorem pay4_apply (m : Vec Ideal S512x1 .f32) : k0_pay4 q0 q1 mask k0 k1 m (ix2 r 0)
    = max (m (ix2 r 0)) (Finset.univ.fold max ⊥ fun x : Fin 256 => k0_pay3 q0 q1 mask k0 k1 (ix2 r x)) := by
  rw [← ofBits_bot]
  pointwise [k0_pay4]

/-- One step carries a row of real numbers to a row of real numbers: the new maximum is some real number, the normaliser
    and the weighted sums are rescaled to it and take the block's unmasked terms in. -/
theorem step_row {M S : ℝ} {A : Fin 128 → ℝ} (hs : RowIs s r M S A) (sc : Fin 256 → ℝ) (V : Fin 256 → Fin 128 → ℝ)
    (hsc : ∀ x, score q0 q1 k0 k1 r x = (sc x : EReal)) (hv : ∀ x d, v (ix2 x d) = (V x d : EReal)) :
    ∃ M' : ℝ, RowIs (step q0 q1 mask k0 k1 v s) r M'
      (Real.exp (M - M') * S + ∑ x : Fin 256, if mask (ix2 r x) = 1#1 then Real.exp (sc x - M') else 0)
      (fun d => Real.exp (M - M') * A d + ∑ x : Fin 256, if mask (ix2 r x) = 1#1 then Real.exp (sc x - M') * V x d else 0) := by
  obtain ⟨g, hg⟩ := ofBits_neg
  have h3 : ∀ x, k0_pay3 q0 q1 mask k0 k1 (ix2 r x) = Scalar.select (mask (ix2 r x)) (sc x : EReal) (g : EReal) := fun x => by
    rw [pay3_apply, hsc, hg]
  obtain ⟨M', hM⟩ := max_fold_real Finset.univ M (fun x : Fin 256 => k0_pay3 q0 q1 mask k0 k1 (ix2 r x)) (fun x _ => by
    show k0_pay3 q0 q1 mask k0 k1 (ix2 r x) < ⊤
    rw [h3]; unfold Scalar.select; split <;> exact EReal.coe_lt_top _)
  have h4 : k0_pay4 q0 q1 mask k0 k1 s.m (ix2 r 0) = (M' : EReal) := by rw [pay4_apply, hs.m, hM]
  have hE : Ideal.exp ((M : EReal) - (M' : EReal)) = (Real.exp (M - M') : EReal) := by rw [← EReal.coe_sub]; rfl
  have hP : ∀ x, Scalar.select (mask (ix2 r x)) (Ideal.exp (k0_pay3 q0 q1 mask k0 k1 (ix2 r x) - (M' : EReal))) (0 : EReal)
      = ((if mask (ix2 r x) = 1#1 then Real.exp (sc x - M') else 0 : ℝ) : EReal) := fun x => by
    rw [h3]
    by_cases hb : mask (ix2 r x) = 1#1
    · rw [select_pos hb, select_pos hb, if_pos hb, ← EReal.coe_sub]; rfl
    · rw [select_neg hb, if_neg hb]; rfl
  refine ⟨M', ?_, ?_, fun d => ?_⟩
  · rw [← h4]
    pointwise [step, k0_pay7]
  · have e : (step q0 q1 mask k0 k1 v s).l (ix2 r 0)
        = Ideal.exp (s.m (ix2 r 0) - k0_pay4 q0 q1 mask k0 k1 s.m (ix2 r 0)) * s.l (ix2 r 0)
          + ∑ x : Fin 256, Scalar.select (mask (ix2 r x))
              (Ideal.exp (k0_pay3 q0 q1 mask k0 k1 (ix2 r x) - k0_pay4 q0 q1 mask k0 k1 s.m (ix2 r 0))) 0 := by
      pointwise [step, k0_pay8, k0_pay6, k0_pay5]
    rw [e, h4, hs.m, hs.l, hE, sum_eq_coe _ _ _ fun x _ => hP x, ← EReal.coe_mul, ← EReal.coe_add]
  · have e : (step q0 q1 mask k0 k1 v s).a (ix2 r d)
        = Ideal.exp (s.m (ix2 r 0) - k0_pay4 q0 q1 mask k0 k1 s.m (ix2 r 0)) * s.a (ix2 r d)
          + ∑ x : Fin 256, Scalar.select (mask (ix2 r x))
              (Ideal.exp (k0_pay3 q0 q1 mask k0 k1 (ix2 r x) - k0_pay4 q0 q1 mask k0 k1 s.m (ix2 r 0)) * v (ix2 x d)) 0 := by
      pointwise [step, k0_pay21, k0_pay5, k0_pay9, k0_pay6]
    have hQ : ∀ x, Scalar.select (mask (ix2 r x)) (Ideal.exp (k0_pay3 q0 q1 mask k0 k1 (ix2 r x) - (M' : EReal)) * v (ix2 x d)) (0 : EReal)
        = ((if mask (ix2 r x) = 1#1 then Real.exp (sc x - M') * V x d else 0 : ℝ) : EReal) := fun x => by
      have h := hP x
      by_cases hb : mask (ix2 r x) = 1#1
      · rw [select_pos hb, if_pos hb] at h ⊢
        rw [h, hv, ← EReal.coe_mul]
      · rw [select_neg hb, if_neg hb]; rfl
    rw [e, h4, hs.m, hs.a, hE, sum_eq_coe _ _ _ fun x _ => hQ x, ← EReal.coe_mul, ← EReal.coe_add]

/-- The state before any key, in every row. -/
theorem st0_row : ∃ M : ℝ, RowIs st0 r M 0 (fun _ => 0) := by
  obtain ⟨g, hg⟩ := ofBits_neg
  refine ⟨g, ?_, ?_, fun d => ?_⟩
  · rw [← hg]; pointwise [st0, k0_pay17]
  · have e : (st0 : St Ideal).l (ix2 r 0) = 0 := by pointwise [st0, k0_pay18]
    rw [e]; rfl
  · have e : (st0 : St Ideal).a (ix2 r d) = 0 := by pointwise [st0, k0_pay19]
    rw [e]; rfl

/-! ## Sums over the keys seen so far -/

/-- Rescaling a sum of shifted exponentials to another shift. -/
theorem rescale (n : ℕ) (M M' : ℝ) (sc f : ℕ → ℝ) :
    Real.exp (M - M') * ∑ j ∈ Finset.range n, Real.exp (sc j - M) * f j = ∑ j ∈ Finset.range n, Real.exp (sc j - M') * f j := by
  rw [Finset.mul_sum]
  refine Finset.sum_congr rfl fun j _ => ?_
  rw [← mul_assoc, ← Real.exp_add]
  congr 2; ring

/-- The terms up to `p` of a block. -/
theorem sum_upto (p N : ℕ) (hp : p < N) (f : ℕ → ℝ) :
    (∑ x : Fin N, if x.val ≤ p then f x.val else 0) = ∑ x ∈ Finset.range (p + 1), f x := by
  rw [← Finset.sum_range (fun x => if x ≤ p then f x else 0), ← Finset.sum_filter]
  refine Finset.sum_congr ?_ fun _ _ => rfl
  ext x; simp; omega

/-- Row `r` holds the shifted sums over the first `n` keys. -/
def RowSums (s : St Ideal) (r : Fin 512) (sc : ℕ → ℝ) (V : ℕ → Fin 128 → ℝ) (n : ℕ) : Prop :=
  ∃ M : ℝ, RowIs s r M (∑ j ∈ Finset.range n, Real.exp (sc j - M)) (fun d => ∑ j ∈ Finset.range n, Real.exp (sc j - M) * V j d)

theorem RowSums.zero (sc : ℕ → ℝ) (V : ℕ → Fin 128 → ℝ) : RowSums st0 r sc V 0 := by
  obtain ⟨M, h⟩ := st0_row r
  exact ⟨M, by simpa using h⟩

/-- Taking in a block of which the row sees the keys up to `p` carries the sums on by `p + 1` keys. -/
theorem RowSums.step {sc : ℕ → ℝ} {V : ℕ → Fin 128 → ℝ} {n p : ℕ} (hp : p < 256) (hs : RowSums s r sc V n)
    (hsc : ∀ x : Fin 256, score q0 q1 k0 k1 r x = (sc (n + x.val) : EReal)) (hv : ∀ x d, v (ix2 x d) = (V (n + x.val) d : EReal))
    (hm : ∀ x : Fin 256, mask (ix2 r x) = 1#1 ↔ x.val ≤ p) :
    RowSums (step q0 q1 mask k0 k1 v s) r sc V (n + (p + 1)) := by
  obtain ⟨M, hM⟩ := hs
  obtain ⟨M', h⟩ := step_row q0 q1 k0 k1 v mask s r hM (fun x => sc (n + x.val)) (fun x d => V (n + x.val) d) hsc hv
  refine ⟨M', ?_⟩
  simp only [hm] at h
  have e1 := sum_upto p 256 hp (fun x => Real.exp (sc (n + x) - M'))
  have e2 := fun d => sum_upto p 256 hp (fun x => Real.exp (sc (n + x) - M') * V (n + x) d)
  have e3 := rescale n M M' sc (fun _ => 1)
  simp only [mul_one] at e3
  simp only [e1, e2, e3, rescale n M M' sc (fun j => V j _)] at h
  simpa only [Finset.sum_range_add] using h

end Cert.Mla

end
-- ==== Proof.Mla.Tile.lean ====
/-
  What one block of the output holds, over the real numbers: for every query row and every lane, the softmax average of the
  values over the keys up to the query.
-/
module

public import proofs.«01_k».proof.Proof.Mla.Row
public import Idealize.ShloMosaic.Lib.Pipeline.ValueKit.Tiles

@[expose] public section

set_option maxRecDepth 16384

noncomputable section

namespace Cert.Mla

open Cert.KernelIdeal Cert.KernelIdeal.Gen Idealize.ShloMosaic Idealize.ShloMosaic.TcCoe Idealize.SL.Sem

/-- The average of `V` over the first `n` keys, weighted by the exponentials of the scores. -/
def softAvg (sc V : ℕ → ℝ) (n : ℕ) : ℝ :=
  (∑ j ∈ Finset.range n, Real.exp (sc j) * V j) / ∑ j ∈ Finset.range n, Real.exp (sc j)

theorem sum_exp_pos (sc : ℕ → ℝ) {n : ℕ} (hn : 0 < n) : 0 < ∑ j ∈ Finset.range n, Real.exp (sc j) :=
  Finset.sum_pos (fun _ _ => Real.exp_pos _) ⟨0, Finset.mem_range.mpr hn⟩

/-- The average does not depend on a shift of the scores. -/
theorem softAvg_shift (sc V : ℕ → ℝ) (n : ℕ) (M : ℝ) :
    (∑ j ∈ Finset.range n, Real.exp (sc j - M) * V j) / (∑ j ∈ Finset.range n, Real.exp (sc j - M)) = softAvg sc V n := by
  have e : ∀ j, Real.exp (sc j - M) = Real.exp (-M) * Real.exp (sc j) := fun j => by rw [← Real.exp_add]; congr 1; ring
  simp only [e, mul_assoc, ← Finset.mul_sum]
  exact mul_div_mul_left _ _ (Real.exp_pos _).ne'

/-- The quotient the block ends with, on real numbers. -/
theorem div_real (x y : ℝ) (hy : y ≠ 0) : Ideal.div (x : EReal) (y : EReal) = ((x / y : ℝ) : EReal) := by
  rw [Ideal.div_coe hy, ← EReal.coe_mul]; congr 1; ring

/-- A window of an array of two axes at an index. -/
theorem ld2 {a b a' b' : ℕ} {e : EltTy} (X : Vec Ideal (⟨2, ![a, b]⟩ : Shape) e) (off : Fin 2 → ℕ)
    (inb : ∀ k, off k + (![a', b'] : Fin 2 → ℕ) k ≤ (![a, b] : Fin 2 → ℕ) k) (x : Fin a') (y : Fin b') (x' : Fin a) (y' : Fin b)
    (h0 : x'.val = off 0 + x.val) (h1 : y'.val = off 1 + y.val) :
    View.ld X (Rect.unit (s := (⟨2, ![a, b]⟩ : Shape)) off ![a', b'] inb) (ix2 x y) = X (ix2 x' y') :=
  View.ld_unit_apply_of (Val := Elt Ideal) (S := (⟨2, ![a, b]⟩ : Shape)) X off ![a', b'] inb (ix2 x y) (ix2 x' y') fun k => by
    match k with
    | ⟨0, _⟩ => exact h0
    | ⟨1, _⟩ => exact h1

section
variable (i : grid0.Coords)

theorem muli256 (n : Fin 8) : (Scalar.indexCast (Scalar.muli (BitVec.ofNat 32 n.val) 256#32) : Index).toNat = 256 * n.val := by
  revert n; decide +kernel

theorem iv256 (n : Fin 8) : (Scalar.indexCast (Scalar.muli (Scf.iv 0#32 1#32 n.val) 256#32) : Index).toNat = 256 * n.val := by
  revert n; decide +kernel

theorem off1_0 (k : Fin (k0_t1_loop i).trips) : k0_off1 i k 0 = 256 * k.val :=
  iv256 ⟨k.val, by have h := k.isLt; have e := trips1 i; have l : (i 2).val < 8 := (i 2).isLt; omega⟩

variable (x0 : Vec Ideal S256x256 .bf16) (x1 : Vec Ideal S2048x256 .bf16) (x2 : Vec Ideal S2048x128 .bf16)
  (Q K V : ℕ → ℕ → ℝ) (hQ : ∀ r c, x0 (ix2 r c) = (Q r.val c.val : EReal)) (hK : ∀ r c, x1 (ix2 r c) = (K r.val c.val : EReal))
  (hV : ∀ r c, x2 (ix2 r c) = (V r.val c.val : EReal)) (r : Fin 512)

/-- The score of query row `r` of the block (the second 256 rows are the second head's) against key `j`. -/
def tileScore (r j : ℕ) : ℝ :=
  ∑ e : Fin 128, Q (r % 256) (128 * (r / 256) + e.val) * K j (128 * (r / 256) + e.val)

include hQ hK in
/-- The scores of a step whose keys start at row `n` of the block of keys. -/
theorem score_tile (n : ℕ) (hn : n + 256 ≤ 2048) (o1 o2 : Fin 2 → ℕ) (b1 b2) (e1 : o1 0 = n) (e1' : o1 1 = 0) (e2 : o2 0 = n) (e2' : o2 1 = 128)
    (x : Fin 256) :
    score (qa x0) (qb x0) (View.ld x1 (Rect.unit (s := S2048x256) o1 S256x128.size b1))
      (View.ld x1 (Rect.unit (s := S2048x256) o2 S256x128.size b2)) r x = (tileScore Q K r.val (n + x.val) : EReal) := by
  have hr := r.isLt
  have hx := x.isLt
  unfold score tileScore
  split
  · rename_i h
    refine sum_eq_coe _ _ _ fun e _ => ?_
    have he := e.isLt
    rw [show qa x0 (ix2 ⟨r.val, h⟩ e) = x0 (ix2 ⟨r.val, h⟩ ⟨e.val, by omega⟩) from ld2 _ _ _ _ _ _ _ (by simp) (by simp),
      show View.ld x1 (Rect.unit (s := S2048x256) o1 S256x128.size b1) (ix2 x e) = x1 (ix2 ⟨n + x.val, by omega⟩ ⟨e.val, by omega⟩)
        from ld2 _ _ _ _ _ _ _ (by simp [e1]) (by simp [e1']), hQ, hK, ← EReal.coe_mul]
    have d : r.val / 256 = 0 := by omega
    have m : r.val % 256 = r.val := by omega
    simp [d, m]
  · rename_i h
    refine sum_eq_coe _ _ _ fun e _ => ?_
    have he := e.isLt
    rw [show qb x0 (ix2 ⟨r.val - 256, by omega⟩ e) = x0 (ix2 ⟨r.val - 256, by omega⟩ ⟨128 + e.val, by omega⟩)
        from ld2 _ _ _ _ _ _ _ (by simp) (by simp),
      show View.ld x1 (Rect.unit (s := S2048x256) o2 S256x128.size b2) (ix2 x e) = x1 (ix2 ⟨n + x.val, by omega⟩ ⟨128 + e.val, by omega⟩)
        from ld2 _ _ _ _ _ _ _ (by simp [e2]) (by simp [e2']), hQ, hK, ← EReal.coe_mul]
    have d : r.val / 256 = 1 := by omega
    have m : r.val % 256 = r.val - 256 := by omega
    simp [d, m]

include hV in
theorem val_tile (n : ℕ) (hn : n + 256 ≤ 2048) (o : Fin 2 → ℕ) (b) (e0 : o 0 = n) (e1 : o 1 = 0) (x : Fin 256) (d : Fin 128) :
    View.ld x2 (Rect.unit (s := S2048x128) o S256x128.size b) (ix2 x d) = (V (n + x.val) d.val : EReal) := by
  have hx := x.isLt
  rw [show View.ld x2 (Rect.unit (s := S2048x128) o S256x128.size b) (ix2 x d) = x2 (ix2 ⟨n + x.val, by omega⟩ d)
    from ld2 _ _ _ _ _ _ _ (by simp [e0]) (by simp [e1]), hV]

include hQ hK hV in
/-- After `n` blocks left of the diagonal every row holds the sums over the first `256 n` keys. -/
theorem stAt_row (n : ℕ) (hn : n ≤ (i 2).val) :
    RowSums (stAt i x0 x1 x2 n) r (tileScore Q K r.val) (fun j d => V j d.val) (256 * n) := by
  induction n with
  | zero => exact RowSums.zero r _ _
  | succ n ih =>
    have h8 : (i 2).val < 8 := (i 2).isLt
    have h : n < (k0_t1_loop i).trips := by rw [trips1]; omega
    rw [stAt, dif_pos h]
    have := RowSums.step _ _ _ _ _ k0_pay20 _ r (p := 255) (by decide) (ih (by omega))
      (score_tile x0 x1 Q K hQ hK r (256 * n) (by omega) (k0_off1 i ⟨n, h⟩) (k0_off2 i ⟨n, h⟩) (k0_off1_inb i ⟨n, h⟩)
        (k0_off2_inb i ⟨n, h⟩) (off1_0 i ⟨n, h⟩) rfl (off1_0 i ⟨n, h⟩) rfl)
      (val_tile x2 V hV (256 * n) (by omega) (k0_off3 i ⟨n, h⟩) (k0_off3_inb i ⟨n, h⟩) (off1_0 i ⟨n, h⟩) rfl)
      (fun x => by
        have e : k0_pay20 (ix2 r x) = 1#1 := by pointwise [k0_pay20]
        have hx := x.isLt
        exact ⟨fun _ => by omega, fun _ => e⟩)
    rwa [show 256 * n + (255 + 1) = 256 * (n + 1) by ring] at this

/-- The diagonal mask: a query sees the keys up to its own place in the block. -/
theorem mask_diag (r : Fin 512) (x : Fin 256) :
    k0_pay25 k0_pay23 (iota .tc S512x256 32 [1] iota_S512x256_d1_w32) (ix2 r x) = 1#1 ↔ x.val ≤ r.val % 256 := by
  have e : k0_pay25 k0_pay23 (iota .tc S512x256 32 [1] iota_S512x256_d1_w32) (ix2 r x)
      = IntOp.cmpi .sle (BitVec.ofNat 32 x.val) (IntOp.andi (BitVec.ofNat 32 r.val) 255#32) := by
    pointwise [k0_pay25, k0_pay23]
  have a : ∀ r : Fin 512, IntOp.andi (BitVec.ofNat 32 r.val) 255#32 = BitVec.ofNat 32 (r.val % 256) := by decide +kernel
  rw [e, a r]
  have hx := x.isLt
  have hm := Nat.mod_lt r.val (show 0 < 256 by decide)
  have hi : ∀ n : ℕ, n < 256 → (BitVec.ofNat 32 n).toInt = (n : ℤ) := fun n hn => by
    rw [BitVec.toInt_eq_toNat_of_lt] <;> simp [BitVec.toNat_ofNat] <;> omega
  have hs : (BitVec.ofNat 32 x.val).sle (BitVec.ofNat 32 (r.val % 256)) = decide (x.val ≤ r.val % 256) := by
    rw [BitVec.sle, hi _ hx, hi _ hm]; exact decide_eq_decide.mpr Nat.cast_le
  show BitVec.ofBool ((BitVec.ofNat 32 x.val).sle (BitVec.ofNat 32 (r.val % 256))) = 1#1 ↔ _
  rw [hs]
  by_cases h : x.val ≤ r.val % 256
  · rw [decide_eq_true h]; exact ⟨fun _ => h, fun _ => rfl⟩
  · rw [decide_eq_false h]; exact ⟨fun e => absurd e (by decide), fun e => absurd e h⟩

include hQ hK hV in
/-- At the end every row holds the sums over the keys up to its query. -/
theorem stEnd_row :
    RowSums (stEnd i x0 x1 x2) r (tileScore Q K r.val) (fun j d => V j d.val) (256 * (i 2).val + (r.val % 256 + 1)) := by
  have h8 : (i 2).val < 8 := (i 2).isLt
  have h := stAt_row i x0 x1 x2 Q K V hQ hK hV r (i 2).val le_rfl
  rw [← trips1 i] at h
  unfold stEnd
  rw [trips1] at h ⊢
  exact RowSums.step _ _ _ _ _ _ _ r (Nat.mod_lt _ (by decide)) h
      (score_tile x0 x1 Q K hQ hK r (256 * (i 2).val) (by omega) (k0_off7 i) (k0_off8 i) (k0_off7_inb i)
        (k0_off8_inb i) (muli256 (i 2)) rfl (muli256 (i 2)) rfl)
      (val_tile x2 V hV (256 * (i 2).val) (by omega) (k0_off9 i) (k0_off9_inb i) (muli256 (i 2)) rfl)
      (mask_diag r)

include hQ hK hV in
theorem quot_row (d : Fin 128) :
    Ideal.div ((stEnd i x0 x1 x2).a (ix2 r d)) ((stEnd i x0 x1 x2).l (ix2 r 0))
      = (softAvg (tileScore Q K r.val) (fun j => V j d.val) (256 * (i 2).val + (r.val % 256 + 1)) : EReal) := by
  obtain ⟨M, h⟩ := stEnd_row i x0 x1 x2 Q K V hQ hK hV r
  rw [h.a, h.l, div_real _ _ (sum_exp_pos (fun j => tileScore Q K r.val j - M) (by omega)).ne', softAvg_shift]

include hQ hK hV in
/-- The block of the output: row `y`, lane `d` (the first 64 lanes are the first head's) is the average over the keys up to
    the query. -/
theorem tile_apply (y : Fin 256) (d : Fin 128) :
    k0_pay2 (stEnd i x0 x1 x2).a (stEnd i x0 x1 x2).l (ix2 y d)
      = (softAvg (fun j => ∑ e : Fin 128, Q y.val (128 * (d.val / 64) + e.val) * K j (128 * (d.val / 64) + e.val)) (fun j => V j d.val)
          (256 * (i 2).val + (y.val + 1)) : EReal) := by
  have hy := y.isLt
  have hd := d.isLt
  have e : k0_pay2 (stEnd i x0 x1 x2).a (stEnd i x0 x1 x2).l (ix2 y d)
      = Scalar.select (IntOp.cmpi .slt (BitVec.ofNat 32 d.val) 64#32)
          (Ideal.div ((stEnd i x0 x1 x2).a (ix2 ⟨y.val, by omega⟩ d)) ((stEnd i x0 x1 x2).l (ix2 ⟨y.val, by omega⟩ 0)))
          (Ideal.div ((stEnd i x0 x1 x2).a (ix2 ⟨256 + y.val, by omega⟩ d)) ((stEnd i x0 x1 x2).l (ix2 ⟨256 + y.val, by omega⟩ 0))) := by
    pointwise [k0_pay2]
  have m : ∀ d : Fin 128, IntOp.cmpi .slt (BitVec.ofNat 32 d.val) 64#32 = if d.val < 64 then 1#1 else 0#1 := by decide +kernel
  rw [e, m, quot_row i x0 x1 x2 Q K V hQ hK hV, quot_row i x0 x1 x2 Q K V hQ hK hV]
  unfold tileScore
  by_cases h : d.val < 64
  · rw [if_pos h, select_pos rfl]
    have e1 : d.val / 64 = 0 := by omega
    have e2 : y.val / 256 = 0 := by omega
    have e3 : y.val % 256 = y.val := by omega
    simp only [e1, e2, e3]
  · rw [if_neg h, select_neg (by decide)]
    have e1 : d.val / 64 = 1 := by omega
    have e2 : (256 + y.val) / 256 = 1 := by omega
    have e3 : (256 + y.val) % 256 = y.val := by omega
    simp only [e1, e2, e3]

end

end Cert.Mla

end
-- ==== Proof.Mla.Spec.lean ====
/-
  Causal attention over the real numbers, as one function of the three arrays.
-/
module

public import proofs.«01_k».proof.Proof.Mla.Tile

@[expose] public section

noncomputable section

namespace Cert.Mla

open Idealize.ShloMosaic

/-- An array of two axes as a matrix of real numbers. -/
def mat {a b : ℕ} (X : (⟨2, ![a, b]⟩ : Shape).Idx → EReal) (i j : ℕ) : ℝ :=
  if h : i < a ∧ j < b then (X (ix2 ⟨i, h.1⟩ ⟨j, h.2⟩)).toReal else 0

/-- Every entry is a real number. -/
def Fin2 {a b : ℕ} (X : (⟨2, ![a, b]⟩ : Shape).Idx → EReal) : Prop := ∀ i, X i ≠ ⊤ ∧ X i ≠ ⊥

theorem mat_coe {a b : ℕ} {X : (⟨2, ![a, b]⟩ : Shape).Idx → EReal} (hX : Fin2 X) (i : Fin a) (j : Fin b) :
    X (ix2 i j) = (mat X i.val j.val : EReal) := by
  unfold mat
  rw [dif_pos ⟨i.isLt, j.isLt⟩]
  exact (EReal.coe_toReal (hX _).1 (hX _).2).symm

/-- Sixteen heads, eight sequences of 2048 positions: row `R` is position `R % 2048` of sequence `R / 2048`, and column `C` of
    the result belongs to head `C / 64`. The query sees the keys of its sequence up to itself. -/
def attn (q k : (⟨2, ![16384, 2048]⟩ : Shape).Idx → EReal) (v : (⟨2, ![16384, 1024]⟩ : Shape).Idx → EReal) (R C : ℕ) : ℝ :=
  softAvg (fun j => ∑ e : Fin 128, mat q R (128 * (C / 64) + e.val) * mat k (2048 * (R / 2048) + j) (128 * (C / 64) + e.val))
    (fun j => mat v (2048 * (R / 2048) + j) C) (R % 2048 + 1)

/-- The same as an array. -/
def attnArr (q k : (⟨2, ![16384, 2048]⟩ : Shape).Idx → EReal) (v : (⟨2, ![16384, 1024]⟩ : Shape).Idx → EReal) :
    (⟨2, ![16384, 1024]⟩ : Shape).Idx → EReal :=
  fun i => (attn q k v (i 0).val (i 1).val : EReal)

end Cert.Mla

end
-- ==== Proof.Mla.Final.lean ====
/-
  The kernel's whole result: its blocks tile the array, so it is causal attention at every index.
-/
module

public import proofs.«01_k».proof.Proof.Mla.Spec
public import Idealize.ShloMosaic.Lib.Pipeline.Value

@[expose] public section

set_option maxRecDepth 16384

noncomputable section

namespace Cert.Mla

open Cert.KernelIdeal Cert.KernelIdeal.Gen Idealize.ShloMosaic Idealize.ShloMosaic.TcCoe Idealize.SL.Sem
open Idealize.ShloMosaic.Pipeline (Dat)

/-! ## Where the blocks lie -/

section
variable (i : grid0.Coords)

theorem rowBlk : ∀ a b : Fin 8, (Scalar.addi (Scalar.muli (BitVec.ofNat 32 a.val) 8#32) (BitVec.ofNat 32 b.val)).toNat = 8 * a.val + b.val := by
  decide +kernel

theorem colBlk : ∀ a : Fin 8, (BitVec.ofNat 32 a.val).toNat = a.val := by
  decide +kernel

end

/-- An index of an array of two axes is the pair of its coordinates. -/
theorem idx2 {a b : ℕ} (x : (⟨2, ![a, b]⟩ : Shape).Idx) : x = ix2 (x 0) (x 1) :=
  funext fun k => by
    match k with
    | ⟨0, _⟩ => rfl
    | ⟨1, _⟩ => rfl

variable (m : (ℓ : Loc nD τ sig) → Buf (Elt Ideal) ℓ) (c : Dev nD) (t : Fin cfg0.N)

/-- The three argument arrays. -/
abbrev argQ : (⟨2, ![16384, 2048]⟩ : Shape).Idx → EReal := m ((c : Thread nD τ).loc main_arg0)
abbrev argK : (⟨2, ![16384, 2048]⟩ : Shape).Idx → EReal := m ((c : Thread nD τ).loc main_arg1)
abbrev argV : (⟨2, ![16384, 1024]⟩ : Shape).Idx → EReal := m ((c : Thread nD τ).loc main_arg2)

/-- The grid's coordinates: the sequence, the pair of heads, the block of queries. -/
abbrev gb : ℕ := (grid0.coords t 0).val
abbrev gp : ℕ := (grid0.coords t 1).val
abbrev gi : ℕ := (grid0.coords t 2).val

theorem gb_lt : gb t < 8 := (grid0.coords t 0).isLt
theorem gp_lt : gp t < 8 := (grid0.coords t 1).isLt
theorem gi_lt : gi t < 8 := (grid0.coords t 2).isLt

theorem iblk0 (hf : Fin2 (argQ m c)) (r : Fin 256) (k : Fin 256) :
    iblk m c 0 t (ix2 r k) = (mat (argQ m c) (256 * (8 * gb t + gi t) + r.val) (256 * gp t + k.val) : EReal) := by
  have h0 := gb_lt t; have h1 := gp_lt t; have h2 := gi_lt t; have hr := r.isLt; have hk := k.isLt
  refine Eq.trans ?_ (mat_coe hf ⟨256 * (8 * gb t + gi t) + r.val, by omega⟩ ⟨256 * gp t + k.val, by omega⟩)
  show V m c main_arg0 ((win0_0.rect t).emb (ix2 r k)) = _
  rw [V_main_arg0]
  refine congrArg (argQ m c) (funext fun a => Fin.ext ?_)
  have e0 : win0_0.index t 0 = 8 * gb t + gi t := rowBlk (grid0.coords t 0) (grid0.coords t 2)
  have e1 : win0_0.index t 1 = gp t := colBlk (grid0.coords t 1)
  match a with
  | ⟨0, _⟩ =>
    show win0_0.index t 0 * 256 + 1 * r.val = 256 * (8 * gb t + gi t) + r.val
    omega
  | ⟨1, _⟩ =>
    show win0_0.index t 1 * 256 + 1 * k.val = 256 * gp t + k.val
    omega

theorem iblk1 (hf : Fin2 (argK m c)) (r : Fin 2048) (k : Fin 256) :
    iblk m c 1 t (ix2 r k) = (mat (argK m c) (2048 * gb t + r.val) (256 * gp t + k.val) : EReal) := by
  have h0 := gb_lt t; have h1 := gp_lt t; have hr := r.isLt; have hk := k.isLt
  refine Eq.trans ?_ (mat_coe hf ⟨2048 * gb t + r.val, by omega⟩ ⟨256 * gp t + k.val, by omega⟩)
  show V m c main_arg1 ((win0_1.rect t).emb (ix2 r k)) = _
  rw [V_main_arg1]
  refine congrArg (argK m c) (funext fun a => Fin.ext ?_)
  have e0 : win0_1.index t 0 = gb t := colBlk (grid0.coords t 0)
  have e1 : win0_1.index t 1 = gp t := colBlk (grid0.coords t 1)
  match a with
  | ⟨0, _⟩ =>
    show win0_1.index t 0 * 2048 + 1 * r.val = 2048 * gb t + r.val
    omega
  | ⟨1, _⟩ =>
    show win0_1.index t 1 * 256 + 1 * k.val = 256 * gp t + k.val
    omega

theorem iblk2 (hf : Fin2 (argV m c)) (r : Fin 2048) (k : Fin 128) :
    iblk m c 2 t (ix2 r k) = (mat (argV m c) (2048 * gb t + r.val) (128 * gp t + k.val) : EReal) := by
  have h0 := gb_lt t; have h1 := gp_lt t; have hr := r.isLt; have hk := k.isLt
  refine Eq.trans ?_ (mat_coe hf ⟨2048 * gb t + r.val, by omega⟩ ⟨128 * gp t + k.val, by omega⟩)
  show V m c main_arg2 ((win0_2.rect t).emb (ix2 r k)) = _
  rw [V_main_arg2]
  refine congrArg (argV m c) (funext fun a => Fin.ext ?_)
  have e0 : win0_2.index t 0 = gb t := colBlk (grid0.coords t 0)
  have e1 : win0_2.index t 1 = gp t := colBlk (grid0.coords t 1)
  match a with
  | ⟨0, _⟩ =>
    show win0_2.index t 0 * 2048 + 1 * r.val = 2048 * gb t + r.val
    omega
  | ⟨1, _⟩ =>
    show win0_2.index t 1 * 128 + 1 * k.val = 128 * gp t + k.val
    omega

/-- What a grid point writes back is its block of the attention. -/
theorem flushed_eq (hq : Fin2 (argQ m c)) (hk : Fin2 (argK m c)) (hv : Fin2 (argV m c)) :
    (dats m 0 c).flushed 3 t = ((cfg0.win 3).blk t).view.read (Elt Ideal) (attnArr (argQ m c) (argK m c) (argV m c)) := by
  rw [Value.flushed3_A, out_eq]
  funext j
  obtain ⟨y, d, rfl⟩ : ∃ (y : Fin 256) (d : Fin 128), j = ix2 y d := ⟨j 0, j 1, idx2 j⟩
  have h0 := gb_lt t; have h1 := gp_lt t; have h2 := gi_lt t; have hy := y.isLt; have hd := d.isLt
  have e := tile_apply (grid0.coords t) (iblk m c 0 t) (iblk m c 1 t) (iblk m c 2 t)
    (fun a b => mat (argQ m c) (256 * (8 * gb t + gi t) + a) (256 * gp t + b))
    (fun a b => mat (argK m c) (2048 * gb t + a) (256 * gp t + b))
    (fun a b => mat (argV m c) (2048 * gb t + a) (128 * gp t + b))
    (iblk0 m c t hq) (iblk1 m c t hk) (iblk2 m c t hv) y d
  refine Eq.trans e ?_
  have i0 : win0_3.index t 0 = 8 * gb t + gi t := rowBlk (grid0.coords t 0) (grid0.coords t 2)
  have i1 : win0_3.index t 1 = gp t := colBlk (grid0.coords t 1)
  show _ = ((attn (argQ m c) (argK m c) (argV m c) (win0_3.index t 0 * 256 + 1 * y.val) (win0_3.index t 1 * 128 + 1 * d.val) : ℝ) : EReal)
  rw [i0, i1]
  unfold attn
  have a1 : ((8 * gb t + gi t) * 256 + 1 * y.val) / 2048 = gb t := by omega
  have a2 : ((8 * gb t + gi t) * 256 + 1 * y.val) % 2048 = 256 * gi t + y.val := by omega
  have a3 : (gp t * 128 + 1 * d.val) / 64 = 2 * gp t + d.val / 64 := by omega
  have a4 : ((8 * gb t + gi t) * 256 + 1 * y.val) = 256 * (8 * gb t + gi t) + y.val := by omega
  have a5 : (gp t * 128 + 1 * d.val) = 128 * gp t + d.val := by omega
  have a6 : ∀ e, 128 * (2 * gp t + d.val / 64) + e = 256 * gp t + (128 * (d.val / 64) + e) := fun e => by omega
  rw [a1, a2, a3, a4, a5]
  simp only [a6, add_assoc]

theorem mem_blk (x : S16384x1024.Idx) :
    x ∈ ((cfg0.win 3).blk t).view.set ↔ (x 0 : ℕ) / 256 = 8 * gb t + gi t ∧ (x 1 : ℕ) / 128 = gp t := by
  show x ∈ ((View.whole main_v0).slice (win0_3.rect t)).set ↔ _
  rw [View.set_slice_whole, Rect.mem_set_unit]
  have i0 : win0_3.index t 0 = 8 * gb t + gi t := rowBlk (grid0.coords t 0) (grid0.coords t 2)
  have i1 : win0_3.index t 1 = gp t := colBlk (grid0.coords t 1)
  refine ⟨fun h => ?_, fun h a => ?_⟩
  · have b0 : win0_3.index t 0 * 256 ≤ (x 0 : ℕ) ∧ (x 0 : ℕ) < win0_3.index t 0 * 256 + 256 := h 0
    have b1 : win0_3.index t 1 * 128 ≤ (x 1 : ℕ) ∧ (x 1 : ℕ) < win0_3.index t 1 * 128 + 128 := h 1
    omega
  · match a with
    | ⟨0, _⟩ =>
      show win0_3.index t 0 * 256 ≤ (x 0 : ℕ) ∧ (x 0 : ℕ) < win0_3.index t 0 * 256 + 256
      omega
    | ⟨1, _⟩ =>
      show win0_3.index t 1 * 128 ≤ (x 1 : ℕ) ∧ (x 1 : ℕ) < win0_3.index t 1 * 128 + 128
      omega

/-- Every triple of coordinates is a grid point's. -/
theorem point_of : ∀ b p i : Fin 8, ∃ t : Fin cfg0.N, gb t = b.val ∧ gp t = p.val ∧ gi t = i.val := by
  have h : ∀ b p i : Fin 8, ∀ l : 64 * b.val + 8 * p.val + i.val < grid0.N,
      (grid0.coords ⟨64 * b.val + 8 * p.val + i.val, l⟩ 0).val = b.val
      ∧ (grid0.coords ⟨64 * b.val + 8 * p.val + i.val, l⟩ 1).val = p.val
      ∧ (grid0.coords ⟨64 * b.val + 8 * p.val + i.val, l⟩ 2).val = i.val := by decide +kernel
  intro b p i
  have hb := b.isLt; have hp := p.isLt; have hi := i.isLt
  exact ⟨_, h b p i (lt_of_lt_of_eq (by omega) N_0.symm)⟩

theorem cover (x : S16384x1024.Idx) : ∃ t : Fin cfg0.N, (cfg0.win 3).flush t = true ∧ x ∈ ((cfg0.win 3).blk t).view.set := by
  have h0 : (x 0 : ℕ) < 16384 := (x 0).isLt
  have h1 : (x 1 : ℕ) < 1024 := (x 1).isLt
  obtain ⟨t, hb, hp, hi⟩ := point_of ⟨(x 0 : ℕ) / 2048, by omega⟩ ⟨(x 1 : ℕ) / 128, by omega⟩ ⟨(x 0 : ℕ) / 256 % 8, by omega⟩
  refine ⟨t, flush0_3 t, (mem_blk t x).mpr ⟨?_, ?_⟩⟩
  · rw [hb, hi]; dsimp only; omega
  · rw [hp]

/-- The result array at the end of the grid is the attention of the arguments. -/
theorem final (hq : Fin2 (argQ m c)) (hk : Fin2 (argK m c)) (hv : Fin2 (argV m c)) :
    (dats m 0 c).arrAt 3 cfg0.N = attnArr (argQ m c) (argK m c) (argV m c) :=
  (dats m 0 c).arrAt_eq_of_cover 3 (attnArr (argQ m c) (argK m c) (argV m c)) (fun t _ => flushed_eq m c t hq hk hv) cover

end Cert.Mla

end
-- ==== Proof.Mla.Ref.lean ====
/-
  The reference's result read at an index: the same causal attention.
-/
module

public import proofs.«01_k».proof.Proof.Mla.Spec
public import proofs.«01_k».proof.Proof.Gen.ReferenceIdeal.Run

@[expose] public section

set_option maxRecDepth 16384

noncomputable section

namespace Cert.Mla.Ref

open Cert.ReferenceIdeal Cert.ReferenceIdeal.Gen Idealize.ShloMosaic Idealize.ShloMosaic.TcCoe Idealize.SL.Sem

/-- The causal mask. -/
def msk : IVec S8x16x2048x2048 1 :=
  broadcastInDim S8x16x2048x2048 ![0, 1, 2, 3] bcast_S1x1x2048x2048_S8x16x2048x2048_0_1_2_3 (broadcastInDim S1x1x2048x2048 ![2, 3] bcast_S2048x2048_S1x1x2048x2048_2_3 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0)))))

variable (q k : FVec Ideal S16384x2048 .bf16) (v : FVec Ideal S16384x1024 .bf16)

/-- The scores of all queries against all keys. -/
def scores : FVec Ideal S8x16x2048x2048 .f32 :=
  Host.dotGeneral dot_S8x2048x16x128_S8x2048x16x128_S8x16x2048x2048_3_3_1_1_02_02 none (shapeCast _ (extf .f32 q bitsLt_bf16_f32) shapeCasts_S16384x2048_S8x2048x16x128) (shapeCast _ (extf .f32 k bitsLt_bf16_f32) shapeCasts_S16384x2048_S8x2048x16x128)

/-- The scores with minus infinity where the mask is unset. -/
def masked (s : FVec Ideal S8x16x2048x2048 .f32) : FVec Ideal S8x16x2048x2048 .f32 :=
  select msk s (broadcastInDim S8x16x2048x2048 ![] bcast_S_S8x16x2048x2048 (id (constant S_ .f32 0xFF800000#32)))

/-- Each row's maximum. -/
def rmax (s : FVec Ideal S8x16x2048x2048 .f32) : FVec Ideal S8x16x2048x1 .f32 :=
  broadcastInDim S8x16x2048x1 ![0, 1, 2] bcast_S8x16x2048_S8x16x2048x1_0_1_2 (Host.reduce FloatOps.maximumf s (constant S_ .f32 0xFF800000#32) reducesTo_S8x16x2048x2048_S8x16x2048_d3 h_S_)

/-- The maximum where it is finite. -/
def rmaxF (x : FVec Ideal S8x16x2048x1 .f32) : FVec Ideal S8x16x2048x1 .f32 :=
  select (cmpf .olt (Host.absf x) (broadcastInDim S8x16x2048x1 ![] bcast_S_S8x16x2048x1 (constant S_ .f32 0x7F800000#32))) x (broadcastInDim S8x16x2048x1 ![] bcast_S_S8x16x2048x1 (id (constant S_ .f32 0x00000000#32)))

/-- The exponentials of the shifted scores, zero where the mask is unset. -/
def expo (s : FVec Ideal S8x16x2048x2048 .f32) (x : FVec Ideal S8x16x2048x1 .f32) : FVec Ideal S8x16x2048x2048 .f32 :=
  select msk (Host.exp (subf s (broadcastInDim S8x16x2048x2048 ![0, 1, 2, 3] bcast_S8x16x2048x1_S8x16x2048x2048_0_1_2_3 x))) (broadcastInDim S8x16x2048x2048 ![] bcast_S_S8x16x2048x2048 (id (constant S_ .f32 0x00000000#32)))

/-- The probabilities. -/
def prob (e : FVec Ideal S8x16x2048x2048 .f32) : FVec Ideal S8x16x2048x2048 .f32 :=
  Host.divf e (broadcastInDim S8x16x2048x2048 ![0, 1, 2, 3] bcast_S8x16x2048x1_S8x16x2048x2048_0_1_2_3 (maximumf (broadcastInDim S8x16x2048x1 ![0, 1, 2] bcast_S8x16x2048_S8x16x2048x1_0_1_2 (Host.reduceAdd e (constant S_ .f32 0x00000000#32) reducesTo_S8x16x2048x2048_S8x16x2048_d3 h_S_)) (broadcastInDim S8x16x2048x1 ![] bcast_S_S8x16x2048x1 (constant S_ .f32 0x00800000#32))))

/-- The result. -/
def outp (p : FVec Ideal S8x16x2048x2048 .f32) : FVec Ideal S16384x1024 .bf16 :=
  truncf .bf16 (shapeCast _ (transpose S8x2048x16x64 [0, 3, 1, 2] (Host.dotGeneral dot_S8x2048x16x64_S8x16x2048x2048_S8x16x64x2048_1_3_3_2_02_01 none (shapeCast _ (extf .f32 v bitsLt_bf16_f32) shapeCasts_S16384x1024_S8x2048x16x64) p) transposes_S8x16x64x2048_S8x2048x16x64_0_3_1_2) shapeCasts_S8x2048x16x64_S16384x1024) bitsLt_bf16_f32

variable (m : (ℓ : Loc nD τ sig) → Buf (Elt Ideal) ℓ) (c : Dev nD)

/-- The reference's result is these steps after one another. -/
theorem res_eq : Value.res_out0 m c = outp (m ((c.tc : Thread nD τ).loc main_arg2))
   (prob (expo (masked (scores (m ((c.tc : Thread nD τ).loc main_arg0)) (m ((c.tc : Thread nD τ).loc main_arg1))))
     (rmaxF (rmax (masked (scores (m ((c.tc : Thread nD τ).loc main_arg0)) (m ((c.tc : Thread nD τ).loc main_arg1)))))))) := rfl

/-! ## The steps at an index -/

section
variable (b : Fin 8) (h : Fin 16) (i j : Fin 2048)

/-- A comparison of two small numbers as words. -/
theorem sle_small (x y : ℕ) (hx : x < 2048) (hy : y < 2048) :
    IntOp.cmpi .sle (BitVec.ofNat 32 x) (BitVec.ofNat 32 y) = 1#1 ↔ x ≤ y := by
  have hi : ∀ n : ℕ, n < 2048 → (BitVec.ofNat 32 n).toInt = (n : ℤ) := fun n hn => by
    rw [BitVec.toInt_eq_toNat_of_lt] <;> simp [BitVec.toNat_ofNat] <;> omega
  have hs : (BitVec.ofNat 32 x).sle (BitVec.ofNat 32 y) = decide (x ≤ y) := by
    rw [BitVec.sle, hi _ hx, hi _ hy]; exact decide_eq_decide.mpr Nat.cast_le
  show BitVec.ofBool ((BitVec.ofNat 32 x).sle (BitVec.ofNat 32 y)) = 1#1 ↔ _
  rw [hs]
  by_cases h : x ≤ y
  · rw [decide_eq_true h]; exact ⟨fun _ => h, fun _ => rfl⟩
  · rw [decide_eq_false h]; exact ⟨fun e => absurd e (by decide), fun e => absurd e h⟩

theorem msk_apply : msk (ix4 b h i j) = 1#1 ↔ j.val ≤ i.val := by
  have e : msk (ix4 b h i j) = IntOp.cmpi .sle (BitVec.ofNat 32 j.val) (BitVec.ofNat 32 i.val) := by pointwise [msk]
  rw [e]; exact sle_small _ _ j.isLt i.isLt

theorem scores_apply : scores q k (ix4 b h i j)
    = ∑ x : Fin 128, q (ix2 ⟨b.val * 2048 + i.val, by omega⟩ ⟨h.val * 128 + x.val, by omega⟩)
        * k (ix2 ⟨b.val * 2048 + j.val, by omega⟩ ⟨h.val * 128 + x.val, by omega⟩) := by
  pointwise [scores]

theorem masked_apply (s) : masked s (ix4 b h i j) = Scalar.select (msk (ix4 b h i j)) (s (ix4 b h i j)) ⊥ := by
  rw [← ofBits_bot]; pointwise [masked]; rfl

theorem rmax_apply (s) : rmax s (ix4 b h i 0) = Finset.univ.fold max ⊥ fun x : Fin 2048 => s (ix4 b h i x) := by
  rw [← ofBits_bot]; pointwise [rmax]

theorem rmaxF_apply (x) : rmaxF x (ix4 b h i 0) = if max (x (ix4 b h i 0)) (-x (ix4 b h i 0)) < ⊤ then x (ix4 b h i 0) else 0 := by

  rw [← ofBits_top]
  have e : rmaxF x (ix4 b h i 0) = if max (x (ix4 b h i 0)) (-x (ix4 b h i 0)) < Ideal.ofBits .f32 0x7F800000#32 then x (ix4 b h i 0)
      else Ideal.ofBits .f32 0x00000000#32 := by
    refine Eq.trans (b := if max (x (ix4 b h i 0)) (-x (ix4 b h i 0)) < Ideal.ofBits .f32 0x7F800000#32 then x (ix4 b h i 0)
      else id (constant (F := Ideal) S_ .f32 0x00000000#32) ix0) ?_ rfl
    pointwise [rmaxF]
    rfl
  rw [e, Ideal.ofBits_zero_f32]

theorem expo_apply (s x) : expo s x (ix4 b h i j) = Scalar.select (msk (ix4 b h i j)) (Ideal.exp (s (ix4 b h i j) - x (ix4 b h i 0))) 0 := by

  have e : expo s x (ix4 b h i j) = Scalar.select (msk (ix4 b h i j)) (Ideal.exp (s (ix4 b h i j) - x (ix4 b h i 0)))
      (Ideal.ofBits .f32 0x00000000#32) := by
    refine Eq.trans (b := Scalar.select (msk (ix4 b h i j)) (Ideal.exp (s (ix4 b h i j) - x (ix4 b h i 0)))
      (id (constant (F := Ideal) S_ .f32 0x00000000#32) ix0)) ?_ rfl
    pointwise [expo]
  rw [e, Ideal.ofBits_zero_f32]

theorem prob_apply (e) : prob e (ix4 b h i j)
    = Ideal.div (e (ix4 b h i j)) (max (∑ x : Fin 2048, e (ix4 b h i x)) (Ideal.ofBits .f32 0x00800000#32)) := by
  pointwise [prob]

theorem outp_apply (R : Fin 16384) (C : Fin 1024) (p) : outp v p (ix2 R C)
    = ∑ x : Fin 2048, v (ix2 ⟨R.val / 2048 * 2048 + x.val, by omega⟩ C)
        * p (ix4 ⟨R.val / 2048, by omega⟩ ⟨C.val / 64, by omega⟩ ⟨R.val % 2048, by omega⟩ x) := by
  pointwise [outp]

end

/-- The reference's lower bound of the normaliser is at most one. -/
theorem tiny_le : Ideal.ofBits .f32 0x00800000#32 ≤ ((1 : ℝ) : EReal) := by
  simp only [Ideal.ofBits, Ideal.ieee]
  rw [if_neg (by decide), if_neg (by decide), EReal.coe_le_coe_iff]
  norm_num [Nat.shiftRight_eq_div_pow]
  rw [if_neg (by decide)]
  norm_num

/-! ## One row -/

section
variable (b : Fin 8) (h : Fin 16) (i : Fin 2048) (s : FVec Ideal S8x16x2048x2048 .f32) (S : ℕ → ℝ)
  (hs : ∀ j : Fin 2048, s (ix4 b h i j) = (S j.val : EReal))

include hs in
theorem masked_row (j : Fin 2048) : masked s (ix4 b h i j) = if j.val ≤ i.val then (S j.val : EReal) else ⊥ := by
  rw [masked_apply, hs]
  by_cases hj : j.val ≤ i.val
  · rw [select_pos ((msk_apply b h i j).mpr hj), if_pos hj]
  · rw [select_neg (fun e => hj ((msk_apply b h i j).mp e)), if_neg hj]

include hs in
/-- A row's maximum is a real number and one of the row's unmasked scores reaches it. -/
theorem rmax_row : ∃ M : ℝ, rmax (masked s) (ix4 b h i 0) = (M : EReal) ∧ ∃ j : Fin 2048, j.val ≤ i.val ∧ M ≤ S j.val := by
  rw [rmax_apply]
  have lt : (Finset.univ.fold max ⊥ fun x : Fin 2048 => masked s (ix4 b h i x)) < ⊤ :=
    (Finset.fold_max_lt (c := (⊤ : EReal))).2 ⟨bot_lt_top, fun x _ => by
      show masked s (ix4 b h i x) < ⊤
      rw [masked_row b h i s S hs]; split
      · exact EReal.coe_lt_top _
      · exact bot_lt_top⟩
  have gt : ⊥ < Finset.univ.fold max ⊥ fun x : Fin 2048 => masked s (ix4 b h i x) :=
    lt_of_lt_of_le (EReal.bot_lt_coe (S i.val)) ((Finset.le_fold_max (S i.val : EReal)).2 (Or.inr ⟨i, Finset.mem_univ _, by
      show _ ≤ masked s (ix4 b h i i)
      rw [masked_row b h i s S hs, if_pos le_rfl]⟩))
  have e := (EReal.coe_toReal lt.ne gt.ne').symm
  refine ⟨_, e, ?_⟩
  rcases (Finset.le_fold_max _).1 (le_of_eq e.symm) with h' | ⟨j, _, hj⟩
  · exact absurd h' (not_le.mpr (EReal.bot_lt_coe _))
  · rw [masked_row b h i s S hs] at hj
    by_cases hji : j.val ≤ i.val
    · rw [if_pos hji] at hj
      exact ⟨j, hji, EReal.coe_le_coe_iff.mp hj⟩
    · rw [if_neg hji] at hj
      exact absurd hj (not_le.mpr (EReal.bot_lt_coe _))

include hs in
/-- A row's probabilities: the shifted exponentials over their sum. -/
theorem prob_row : ∃ M : ℝ, ∀ j : Fin 2048, prob (expo (masked s) (rmaxF (rmax (masked s)))) (ix4 b h i j)
    = (((if j.val ≤ i.val then Real.exp (S j.val - M) else 0) / ∑ x ∈ Finset.range (i.val + 1), Real.exp (S x - M) : ℝ) : EReal) := by
  obtain ⟨M, hM, j0, hj0, hle⟩ := rmax_row b h i s S hs
  refine ⟨M, fun j => ?_⟩
  have hF : rmaxF (rmax (masked s)) (ix4 b h i 0) = (M : EReal) := by
    rw [rmaxF_apply, hM, if_pos]
    exact max_lt (EReal.coe_lt_top _) (by rw [← EReal.coe_neg]; exact EReal.coe_lt_top _)
  have hE : ∀ x : Fin 2048, expo (masked s) (rmaxF (rmax (masked s))) (ix4 b h i x)
      = ((if x.val ≤ i.val then Real.exp (S x.val - M) else 0 : ℝ) : EReal) := fun x => by
    rw [expo_apply, hF, masked_row b h i s S hs]
    by_cases hx : x.val ≤ i.val
    · rw [select_pos ((msk_apply b h i x).mpr hx), if_pos hx, if_pos hx, ← EReal.coe_sub]; rfl
    · rw [select_neg (fun e => hx ((msk_apply b h i x).mp e)), if_neg hx]; rfl
  have hsum : ∑ x : Fin 2048, expo (masked s) (rmaxF (rmax (masked s))) (ix4 b h i x)
      = ((∑ x ∈ Finset.range (i.val + 1), Real.exp (S x - M) : ℝ) : EReal) := by
    rw [sum_eq_coe _ _ _ fun x _ => hE x, sum_upto i.val 2048 i.isLt fun x => Real.exp (S x - M)]
  have one : (1 : ℝ) ≤ ∑ x ∈ Finset.range (i.val + 1), Real.exp (S x - M) :=
    le_trans (Real.one_le_exp (sub_nonneg.mpr hle))
      (Finset.single_le_sum (f := fun x => Real.exp (S x - M)) (fun _ _ => (Real.exp_pos _).le) (Finset.mem_range.mpr (by omega)))
  rw [prob_apply, hE, hsum, max_eq_left (le_trans tiny_le (EReal.coe_le_coe_iff.mpr one)), div_real _ _ (by linarith)]

end

/-- The sum of the values weighted by the probabilities is the average. -/
theorem avg_sum (i : ℕ) (hi : i < 2048) (S V : ℕ → ℝ) (M : ℝ) :
    (∑ x : Fin 2048, V x.val * ((if x.val ≤ i then Real.exp (S x.val - M) else 0) / ∑ x ∈ Finset.range (i + 1), Real.exp (S x - M)))
      = softAvg S V (i + 1) := by
  rw [← softAvg_shift _ _ _ M, ← sum_upto i 2048 hi (fun x => Real.exp (S x - M) * V x), Finset.sum_div]
  refine Finset.sum_congr rfl fun x _ => ?_
  split <;> ring

/-- The reference at an index is the attention. -/
theorem ref_apply (hq : Fin2 q) (hk : Fin2 k) (hv : Fin2 v) (R : Fin 16384) (C : Fin 1024) :
    outp v (prob (expo (masked (scores q k)) (rmaxF (rmax (masked (scores q k)))))) (ix2 R C) = (attn q k v R.val C.val : EReal) := by
  have hR := R.isLt
  have hC := C.isLt
  rw [outp_apply]
  obtain ⟨M, hM⟩ := prob_row ⟨R.val / 2048, by omega⟩ ⟨C.val / 64, by omega⟩ ⟨R.val % 2048, by omega⟩ (scores q k)
    (fun j => ∑ e : Fin 128, mat q R.val (128 * (C.val / 64) + e.val) * mat k (2048 * (R.val / 2048) + j) (128 * (C.val / 64) + e.val))
    (fun j => by
      rw [scores_apply]
      refine sum_eq_coe _ _ _ fun e _ => ?_
      rw [mat_coe hq, mat_coe hk, ← EReal.coe_mul]
      have e1 : R.val / 2048 * 2048 + R.val % 2048 = R.val := by omega
      have e2 : C.val / 64 * 128 + e.val = 128 * (C.val / 64) + e.val := by omega
      have e3 : R.val / 2048 * 2048 + j.val = 2048 * (R.val / 2048) + j.val := by omega
      simp only [e1, e2, e3])
  unfold attn
  rw [sum_eq_coe _ _ _ fun x _ => by rw [hM x, mat_coe hv, ← EReal.coe_mul]]
  refine congrArg _ (Eq.trans (Finset.sum_congr rfl fun x _ => ?_) (avg_sum (R.val % 2048) (Nat.mod_lt _ (by decide)) _ _ M))
  have e3 : R.val / 2048 * 2048 + x.val = 2048 * (R.val / 2048) + x.val := by omega
  dsimp only
  rw [e3]

end Cert.Mla.Ref

end
-- ==== Proof.Mla.Claims.lean ====
/-
  The claims about the latent attention over the prompt.
-/
module

public import proofs.«01_k».proof.Defs
public import proofs.«01_k».proof.Proof.Gen.Kernel.Frame
public import proofs.«01_k».proof.Proof.Mla.Final
public import proofs.«01_k».proof.Proof.Mla.Ref
public import Idealize.ShloMosaic.Lib.Quiescent

@[expose] public section

set_option maxRecDepth 16384

noncomputable section

namespace Cert.Mla

open Idealize.ShloMosaic Idealize.ShloMosaic.TcCoe Idealize.SL.Sem

/-- The side conditions of the precondition's text. -/
theorem preFacts : Cert.Pre_finite.Facts where
  bitsLt_bf16_f32 := by decide
  bcast_S_S16384x2048 := by decide
  bcast_S_S16384x1024 := by decide

attribute [local instance] preFacts

/-- The kernel as printed terminates, its arguments unchanged. -/
theorem frame_P : Cert.quiescent_Kernel := fun m ρ _ => Cert.Kernel.Gen.frame m ρ
/-- The kernel over the extended reals terminates, its arguments unchanged. -/
theorem frame_PI : Cert.quiescent_KernelIdeal := fun m ρ _ => Cert.KernelIdeal.Gen.frame m ρ
theorem frame_PI_pre : Cert.quiescent_KernelIdeal_pre_finite := fun m ρ _ => Cert.KernelIdeal.Gen.frame m ρ
/-- The reference terminates, its arguments unchanged; it has no semaphore. -/
theorem frame_RI : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)
theorem frame_RI_pre : Cert.quiescent_ReferenceIdeal_pre_finite := fun m ρ _ => frame_RI m ρ trivial
/-- No operation was rewritten. -/
theorem preserves : Cert.preserves_Kernel_KernelIdeal := trivial

/-- An array whose absolute values are all below plus infinity has real entries. -/
theorem fin2_of_lt {a b : ℕ} (X : FVec Ideal (⟨2, ![a, b]⟩ : Shape) .bf16) (hb : FTy.bits .bf16 < FTy.bits .f32)
    (hc : (⟨0, ![]⟩ : Shape).BroadcastsInDim (⟨2, ![a, b]⟩ : Shape) (![] : Fin 0 → Fin 2))
    (h : cmpf .olt (Host.absf (extf .f32 X hb)) (broadcastInDim (⟨2, ![a, b]⟩ : Shape) ![] hc (constant (F := Ideal) ⟨0, ![]⟩ .f32 0x7F800000#32))
      = fun _ => 1#1) : Fin2 X := by
  intro i
  have hi := congrFun h i
  have e : Ideal.cmp .olt (max (X i) (-X i)) (Ideal.ofBits .f32 0x7F800000#32) = 1#1 := hi
  rw [ofBits_top] at e
  have lt : max (X i) (-X i) < ⊤ := by
    by_contra hn
    have : Ideal.cmp .olt (max (X i) (-X i)) ⊤ = 0#1 := by simp [Ideal.cmp, hn]
    rw [this] at e; exact absurd e (by decide)
  refine ⟨(lt_of_le_of_lt (le_max_left _ _) lt).ne, fun hbot => ?_⟩
  rw [hbot] at lt
  simp at lt

/-- On finite arguments the kernel's result is the reference's. -/
theorem algebraic : Cert.algebraic_KernelIdeal_ReferenceIdeal_pre_finite := by
  intro m ρ m' ρ' hpre hagree
  have hq : ∀ c, Fin2 (argQ m c) := fun c => fin2_of_lt _ _ _ (hpre c).1
  have hk : ∀ c, Fin2 (argK m c) := fun c => fin2_of_lt _ _ _ (hpre c).2.1
  have hv : ∀ c, Fin2 (argV m c) := fun c => fin2_of_lt _ _ _ (hpre c).2.2
  refine ⟨fun c => attnArr (argQ m c) (argK m c) (argV m c), ?_, ?_⟩
  · exact (θ_run Cert.KernelIdeal.defs _ _).mono (fun _ h c => ⟨(h c).1.trans (final m c (hq c) (hk c) (hv c)), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    refine (Ref.res_eq m' c).trans ?_
    rw [(hagree c).1, (hagree c).2.1, (hagree c).2.2]
    funext i
    rw [idx2 i]
    exact Ref.ref_apply _ _ _ (hq c) (hk c) (hv c) (i 0) (i 1)

end Cert.Mla

end
-- ==== Proof.Shared.Index.lean ====
/-
  Arrays of two axes at an index, windows of them, and sums in consecutive parts.
-/
module

public import Idealize.ShloMosaic.Lib.Pointwise
public import Idealize.ShloMosaic.Lib.Pipeline.ValueKit.Tiles
public import Idealize.ShloMosaic.Lib.Pipeline.Value

@[expose] public section

noncomputable section

namespace Cert.Shared

open Idealize.ShloMosaic

/-- An index of an array of two axes is the pair of its coordinates. -/
theorem pair_idx {a b : ℕ} (x : (⟨2, ![a, b]⟩ : Shape).Idx) : x = ix2 (x 0) (x 1) := by
  funext k; fin_cases k <;> rfl

/-- A window of an array of two axes, read at a place of the window. -/
theorem window_apply {a b a' b' : ℕ} {e : EltTy} (X : Vec Ideal (⟨2, ![a, b]⟩ : Shape) e) (off : Fin 2 → ℕ)
    (inb : ∀ k, off k + (![a', b'] : Fin 2 → ℕ) k ≤ (![a, b] : Fin 2 → ℕ) k) (x : Fin a') (y : Fin b') (x' : Fin a) (y' : Fin b)
    (h0 : x'.val = off 0 + x.val) (h1 : y'.val = off 1 + y.val) :
    View.ld X (Rect.unit (s := (⟨2, ![a, b]⟩ : Shape)) off ![a', b'] inb) (ix2 x y) = X (ix2 x' y') :=
  View.ld_unit_apply_of (Val := Elt Ideal) (S := (⟨2, ![a, b]⟩ : Shape)) X off ![a', b'] inb (ix2 x y) (ix2 x' y') fun k => by
    fin_cases k
    · exact h0
    · exact h1

/-- The window that is the whole array. -/
theorem window_whole {a b : ℕ} {e : EltTy} (X : Vec Ideal (⟨2, ![a, b]⟩ : Shape) e) (off : Fin 2 → ℕ) (h0 : off 0 = 0) (h1 : off 1 = 0)
    (inb : ∀ k, off k + (![a, b] : Fin 2 → ℕ) k ≤ (![a, b] : Fin 2 → ℕ) k) :
    View.ld X (Rect.unit (s := (⟨2, ![a, b]⟩ : Shape)) off ![a, b] inb) = X := by
  funext j
  rw [pair_idx j]
  exact window_apply X off inb _ _ _ _ (by rw [h0]; omega) (by rw [h1]; omega)

/-- A sum over 4096 places is the sum of four sums over 1024. -/
theorem sum_quarters (f : Fin 4096 → EReal) :
    ∑ k, f k = ∑ k : Fin 1024, f ⟨k.val, by omega⟩ + ∑ k : Fin 1024, f ⟨1024 + k.val, by omega⟩
      + ∑ k : Fin 1024, f ⟨2048 + k.val, by omega⟩ + ∑ k : Fin 1024, f ⟨3072 + k.val, by omega⟩ := by
  refine (Fin.sum_univ_add (a := 3072) (b := 1024) f).trans (congrArg₂ _ ?_ rfl)
  refine (Fin.sum_univ_add (a := 2048) (b := 1024) _).trans (congrArg₂ _ ?_ rfl)
  exact Fin.sum_univ_add (a := 1024) (b := 1024) _

end Cert.Shared

end
-- ==== Proof.MobaProj.Spec.lean ====
/-
  The block-attention projection: what it is of one row, head by head, and the same through lanes of four heads at once.
-/
module

public import proofs.«01_k».proof.Proof.Shared.Index

@[expose] public section

set_option maxRecDepth 16384

noncomputable section

namespace Cert.MobaProj

open Idealize.ShloMosaic

/-! ## The function of one row -/

/-- A row divided by its root mean square and scaled by the gains. -/
def nrm (x g : Fin 1024 → EReal) (k : Fin 1024) : EReal :=
  x k * Ideal.rsqrt (Ideal.div (∑ j, x j * x j) (Ideal.ofBits .f32 1149239296#32) + Ideal.ofBits .f32 897988541#32) * g k

/-- A head divided by its root mean square and scaled by the gains. -/
def hn (A g : Fin 64 → EReal) (e : Fin 64) : EReal :=
  A e * Ideal.rsqrt (Ideal.div (∑ j, A j * A j) (Ideal.ofBits .f32 1115684864#32) + Ideal.ofBits .f32 897988541#32) * g e

/-- A head rotated by its angles, the halves the pairs' coordinates. -/
def rot (y : Fin 64 → EReal) (c s : Fin 32 → EReal) (e : Fin 64) : EReal :=
  if h : e.val < 32 then y e * c ⟨e.val, h⟩ - y ⟨e.val + 32, by omega⟩ * s ⟨e.val, h⟩
  else y ⟨e.val - 32, by omega⟩ * s ⟨e.val - 32, by omega⟩ + y e * c ⟨e.val - 32, by omega⟩

/-- Coordinate `e` of the head whose columns start at `o`: projected, normed and rotated. -/
def head (h : Fin 1024 → EReal) (W : Fin 1024 → Fin 1536 → EReal) (o : ℕ) (ho : o + 64 ≤ 1536) (g : Fin 64 → EReal)
    (c s : Fin 32 → EReal) (e : Fin 64) : EReal :=
  rot (hn (fun e => ∑ k, h k * W k ⟨o + e.val, by omega⟩) g) c s e

/-- Where the columns of the head at slot column `d` start: slots run over pairs of key heads, then the queries of a group,
    then the two key heads. -/
def slot (d : ℕ) : ℕ := 64 * ((2 * (d / 512) + d / 64 % 2) * 4 + d / 128 % 4)

theorem slot_le (d : ℕ) (hd : d < 1024) : slot d + 64 ≤ 1536 := by unfold slot; omega

/-- The queries of a row in slot order, scaled. -/
def qRow (h : Fin 1024 → EReal) (W : Fin 1024 → Fin 1536 → EReal) (g : Fin 64 → EReal) (c s : Fin 32 → EReal) (d : Fin 1024) : EReal :=
  head h W (slot d.val) (slot_le _ d.isLt) g c s ⟨d.val % 64, Nat.mod_lt _ (by omega)⟩ * Ideal.ofBits .f32 1040187392#32

/-- The keys and then the values of a row. -/
def kvRow (h : Fin 1024 → EReal) (W : Fin 1024 → Fin 1536 → EReal) (g : Fin 64 → EReal) (c s : Fin 32 → EReal) (d : Fin 512) : EReal :=
  if hd : d.val < 256 then head h W (1024 + 64 * (d.val / 64)) (by omega) g c s ⟨d.val % 64, Nat.mod_lt _ (by omega)⟩
  else ∑ k, h k * W k ⟨1024 + d.val, by omega⟩

/-! ## The same through lanes -/

/-- Four heads side by side: each lane divided by the root of its masked mean of squares, scaled, and rotated by lane turns. -/
def lane (h : Fin 1024 → EReal) (W : Fin 1024 → Fin 256 → EReal) (M : Fin 256 → Fin 256 → EReal) (g u c s : Fin 256 → EReal)
    (j : Fin 256) : EReal :=
  let y : Fin 256 → EReal := fun j => (∑ x, h x * W x j) *
    Ideal.rsqrt (∑ x, ((∑ k, h k * W k x) * ∑ k, h k * W k x) * M x j + Ideal.ofBits .f32 897988541#32) * g j
  y j * c j + (if Ideal.ofBits .f32 1056964608#32 < u j then y ⟨(j.val + 256 - 224) % 256, Nat.mod_lt _ (by omega)⟩
    else y ⟨(j.val + 256 - 32) % 256, Nat.mod_lt _ (by omega)⟩) * s j

theorem ofBits_64 : Ideal.ofBits .f32 1115684864#32 = ((64 : ℝ) : EReal) := by
  simp [Ideal.ofBits, Ideal.ieee, -EReal.coe_mul]; norm_num
theorem ofBits_64th : Ideal.ofBits .f32 1015021568#32 = ((1 / 64 : ℝ) : EReal) := by
  simp [Ideal.ofBits, Ideal.ieee, -EReal.coe_mul]; norm_num
theorem ofBits_half : Ideal.ofBits .f32 1056964608#32 = ((1 / 2 : ℝ) : EReal) := by
  simp [Ideal.ofBits, Ideal.ieee, -EReal.coe_mul]; norm_num

theorem sq_nonneg' (a : EReal) : 0 ≤ a * a := by
  rcases le_total 0 a with h | h
  · exact mul_nonneg h h
  · rw [← neg_mul_neg]
    exact mul_nonneg (EReal.neg_nonneg.2 h) (EReal.neg_nonneg.2 h)

/-- A sum of squares times a factor, factor by factor. -/
theorem sum_sq_mul {n : ℕ} (a : Fin n → EReal) (c : EReal) : ∑ k, a k * a k * c = (∑ k, a k * a k) * c := by
  induction n with
  | zero => simp
  | succ n ih =>
    rw [Fin.sum_univ_castSucc, Fin.sum_univ_castSucc, ih (fun k => a k.castSucc),
      EReal.right_distrib_of_nonneg (Finset.sum_nonneg fun _ _ => sq_nonneg' _) (sq_nonneg' _)]

/-- A sum over 256 lanes masked to the group of 64 holding lane `j`. -/
theorem sum_group (f : Fin 256 → EReal) (j : Fin 256) :
    (∑ x : Fin 256, if x.val / 64 = j.val / 64 then f x else 0) = ∑ e : Fin 64, f ⟨64 * (j.val / 64) + e.val, by omega⟩ := by
  rw [← (finProdFinEquiv (m := 4) (n := 64)).sum_comp, Fintype.sum_prod_type,
    Finset.sum_eq_single (⟨j.val / 64, by omega⟩ : Fin 4)]
  · refine Finset.sum_congr rfl fun e _ => ?_
    have : (finProdFinEquiv ((⟨j.val / 64, by omega⟩ : Fin 4), e)).val / 64 = j.val / 64 := by
      show (e.val + 64 * (j.val / 64)) / 64 = _
      omega
    rw [if_pos this]
    exact congrArg f (Fin.ext (Nat.add_comm _ _))
  · intro b _ hb
    refine Finset.sum_eq_zero fun e _ => if_neg fun h => hb (Fin.ext ?_)
    have : (e.val + 64 * b.val) / 64 = j.val / 64 := h
    show b.val = j.val / 64
    omega
  · exact fun h => absurd (Finset.mem_univ _) h

/-- With the group masks, tables and gains of four heads side by side, a lane is its head's coordinate. -/
theorem lane_eq (h : Fin 1024 → EReal) (W : Fin 1024 → Fin 256 → EReal) (M : Fin 256 → Fin 256 → EReal) (g u c s : Fin 256 → EReal)
    (g' : Fin 64 → EReal) (c' s' : Fin 32 → EReal)
    (hM : ∀ x j, M x j = if x.val / 64 = j.val / 64 then Ideal.ofBits .f32 1015021568#32 else 0)
    (hg : ∀ j, g j = g' ⟨j.val % 64, Nat.mod_lt _ (by omega)⟩)
    (hu : ∀ j, u j = if j.val % 64 < 32 then 1 else 0)
    (hc : ∀ j, c j = c' ⟨j.val % 32, Nat.mod_lt _ (by omega)⟩)
    (hs : ∀ j, s j = if j.val % 64 < 32 then -s' ⟨j.val % 32, Nat.mod_lt _ (by omega)⟩ else s' ⟨j.val % 32, Nat.mod_lt _ (by omega)⟩)
    (j : Fin 256) :
    lane h W M g u c s j
      = rot (hn (fun e => ∑ k, h k * W k ⟨64 * (j.val / 64) + e.val, by omega⟩) g') c' s' ⟨j.val % 64, Nat.mod_lt _ (by omega)⟩ := by
  have hy : ∀ (i : Fin 256) (e : Fin 64), i.val = 64 * (j.val / 64) + e.val →
      (∑ x, h x * W x i) * Ideal.rsqrt (∑ x, ((∑ k, h k * W k x) * ∑ k, h k * W k x) * M x i + Ideal.ofBits .f32 897988541#32) * g i
        = hn (fun e => ∑ k, h k * W k ⟨64 * (j.val / 64) + e.val, by omega⟩) g' e := by
    intro i e hi
    have hi' : i = ⟨64 * (j.val / 64) + e.val, by omega⟩ := Fin.ext hi
    have hd : i.val / 64 = j.val / 64 := by omega
    have hm : (⟨i.val % 64, Nat.mod_lt _ (by omega)⟩ : Fin 64) = e := Fin.ext (by show _ % 64 = _; omega)
    have hA : (∑ x, h x * W x i) = ∑ k, h k * W k ⟨64 * (j.val / 64) + e.val, by omega⟩ :=
      Finset.sum_congr rfl fun k _ => congrArg (fun i => h k * W k i) hi'
    unfold hn
    rw [hg]
    simp only [hM, hd, hm, mul_ite, mul_zero]
    rw [sum_group (fun x => ((∑ k, h k * W k x) * ∑ k, h k * W k x) * Ideal.ofBits .f32 1015021568#32) j,
      sum_sq_mul (fun e : Fin 64 => ∑ k, h k * W k ⟨64 * (j.val / 64) + e.val, by omega⟩)]
    have hdiv : ∀ S : EReal, Ideal.div S (Ideal.ofBits .f32 1115684864#32) = S * Ideal.ofBits .f32 1015021568#32 := by
      intro S
      have h0 : ((64 : ℝ) : EReal) ≠ 0 := by norm_num
      rw [ofBits_64, ofBits_64th, Ideal.div, if_neg h0, ← EReal.coe_inv]
      norm_num
    rw [hdiv, hA]
  unfold lane rot
  dsimp only
  rw [hc, hs, hu, ofBits_half]
  have hj : j.val < 256 := j.isLt
  by_cases hlt : j.val % 64 < 32
  · have e1 := hy j ⟨j.val % 64, Nat.mod_lt _ (by omega)⟩ (by show _ = _ + j.val % 64; omega)
    have e2 := hy ⟨(j.val + 256 - 224) % 256, Nat.mod_lt _ (by omega)⟩ ⟨j.val % 64 + 32, by omega⟩
      (by show (j.val + 256 - 224) % 256 = _ + (j.val % 64 + 32); omega)
    have h1 : (((1 / 2 : ℝ)) : EReal) < 1 := by exact_mod_cast (by norm_num : (1 / 2 : ℝ) < 1)
    have hcm : (⟨j.val % 32, Nat.mod_lt _ (by omega)⟩ : Fin 32) = ⟨j.val % 64, hlt⟩ := Fin.ext (by show j.val % 32 = j.val % 64; omega)
    rw [if_pos hlt, if_pos hlt, if_pos h1, dif_pos hlt, e1, e2, hcm, mul_neg, sub_eq_add_neg]
  · have e1 := hy j ⟨j.val % 64, Nat.mod_lt _ (by omega)⟩ (by show _ = _ + j.val % 64; omega)
    have e2 := hy ⟨(j.val + 256 - 32) % 256, Nat.mod_lt _ (by omega)⟩ ⟨j.val % 64 - 32, by omega⟩
      (by show (j.val + 256 - 32) % 256 = _ + (j.val % 64 - 32); omega)
    have h1 : ¬ (((1 / 2 : ℝ)) : EReal) < 0 := by
      rw [not_lt]; exact_mod_cast (by norm_num : (0 : ℝ) ≤ 1 / 2)
    have hcm : (⟨j.val % 32, Nat.mod_lt _ (by omega)⟩ : Fin 32) = ⟨j.val % 64 - 32, by omega⟩ :=
      Fin.ext (by show j.val % 32 = j.val % 64 - 32; omega)
    rw [if_neg hlt, if_neg hlt, if_neg h1, dif_neg hlt, e1, e2, hcm, add_comm]

end Cert.MobaProj

end
-- ==== Proof.MlaExpand.Spec.lean ====
/-
  The expansion of the latent rows to keys and values: what it is of one row, head by head, and its keys through lanes of two heads at once.
-/
module

public import proofs.«01_k».proof.Proof.MobaProj.Spec

@[expose] public section

set_option maxRecDepth 16384

noncomputable section

namespace Cert.MlaExpand

open Idealize.ShloMosaic
open Cert.MobaProj (hn sum_group sum_sq_mul ofBits_64 ofBits_64th)

/-! ## The function of one row -/

/-- The keys of a row: in each head's 128 columns, 64 that are projected from the latent row's first part and normed, then the latent row's
    second part of 32, then zeros. -/
def kRow (l : Fin 288 → EReal) (W : Fin 256 → Fin 2048 → EReal) (g : Fin 64 → EReal) (d : Fin 2048) : EReal :=
  if h : d.val % 128 < 64 then
    hn (fun e => ∑ k : Fin 256, l ⟨k.val, by omega⟩ * W k ⟨128 * (d.val / 128) + e.val, by omega⟩) g ⟨d.val % 128, h⟩
  else if d.val % 128 < 96 then l ⟨192 + d.val % 128 % 96, by omega⟩ else 0

/-- The values of a row: the second 64 of each head's 128 projected columns. -/
def vRow (l : Fin 288 → EReal) (W : Fin 256 → Fin 2048 → EReal) (d : Fin 1024) : EReal :=
  ∑ k : Fin 256, l ⟨k.val, by omega⟩ * W k ⟨128 * (d.val / 64) + 64 + d.val % 64, by omega⟩

/-! ## The keys through lanes -/

/-- Two heads side by side: each lane divided by the root of its masked mean of squares and scaled, plus what the rotated part places there. -/
def lane (l : Fin 256 → EReal) (p : Fin 32 → EReal) (W M : Fin 256 → Fin 256 → EReal) (g : Fin 256 → EReal) (P : Fin 32 → Fin 256 → EReal)
    (j : Fin 256) : EReal :=
  (∑ x, l x * W x j) * Ideal.rsqrt (∑ x, ((∑ k, l k * W k x) * ∑ k, l k * W k x) * M x j + Ideal.ofBits .f32 897988541#32) * g j
    + ∑ e, p e * P e j

/-- With the masks, gains and places of two heads side by side, a lane is its head's coordinate. -/
theorem lane_eq (l : Fin 256 → EReal) (p : Fin 32 → EReal) (W M : Fin 256 → Fin 256 → EReal) (g : Fin 256 → EReal)
    (P : Fin 32 → Fin 256 → EReal) (g' : Fin 64 → EReal)
    (hM : ∀ x j, M x j = if x.val / 64 = j.val / 64 then (if j.val / 64 % 2 = 0 then Ideal.ofBits .f32 1015021568#32 else 0) else 0)
    (hg : ∀ j, g j = if j.val % 128 < 64 then g' ⟨j.val % 64, Nat.mod_lt _ (by omega)⟩ else 0)
    (hP : ∀ e j, P e j = if j.val % 128 = e.val + 64 then 1 else 0)
    (j : Fin 256) :
    lane l p W M g P j = if h : j.val % 128 < 64 then
        hn (fun e => ∑ k, l k * W k ⟨128 * (j.val / 128) + e.val, by omega⟩) g' ⟨j.val % 128, h⟩
      else if j.val % 128 < 96 then p ⟨(j.val % 128 - 64) % 32, Nat.mod_lt _ (by omega)⟩ else 0 := by
  unfold lane
  by_cases hlt : j.val % 128 < 64
  · have hz : ∑ e, p e * P e j = 0 := Finset.sum_eq_zero fun e _ => by rw [hP, if_neg (by omega), mul_zero]
    rw [dif_pos hlt, hz, add_zero]
    have hpar : j.val / 64 % 2 = 0 := by omega
    have hm : (⟨j.val % 64, Nat.mod_lt _ (by omega)⟩ : Fin 64) = ⟨j.val % 128, hlt⟩ := Fin.ext (by show _ % 64 = _ % 128; omega)
    have hi : ∀ e : Fin 64, (⟨64 * (j.val / 64) + e.val, by omega⟩ : Fin 256) = ⟨128 * (j.val / 128) + e.val, by omega⟩ :=
      fun e => Fin.ext (by simp only; omega)
    have hA : (∑ x, l x * W x j) = ∑ k, l k * W k ⟨128 * (j.val / 128) + j.val % 128, by omega⟩ :=
      Finset.sum_congr rfl fun k _ => congrArg (fun i => l k * W k i) (Fin.ext (by simp only; omega))
    unfold hn
    rw [hg, if_pos hlt, hm]
    simp only [hM, if_pos hpar, mul_ite, mul_zero]
    rw [sum_group (fun x => ((∑ k, l k * W k x) * ∑ k, l k * W k x) * Ideal.ofBits .f32 1015021568#32) j]
    simp only [hi]
    rw [sum_sq_mul (fun e : Fin 64 => ∑ k, l k * W k ⟨128 * (j.val / 128) + e.val, by omega⟩)]
    have hdiv : ∀ S : EReal, Ideal.div S (Ideal.ofBits .f32 1115684864#32) = S * Ideal.ofBits .f32 1015021568#32 := by
      intro S
      have h0 : ((64 : ℝ) : EReal) ≠ 0 := by norm_num
      rw [ofBits_64, ofBits_64th, Ideal.div, if_neg h0, ← EReal.coe_inv]
      norm_num
    rw [hdiv, hA]
  · rw [dif_neg hlt, hg, if_neg hlt, mul_zero, zero_add]
    by_cases h96 : j.val % 128 < 96
    · rw [if_pos h96, Finset.sum_eq_single (⟨(j.val % 128 - 64) % 32, Nat.mod_lt _ (by omega)⟩ : Fin 32)]
      · rw [hP, if_pos (by simp only; omega), mul_one]
      · intro e _ he
        rw [hP, if_neg (fun h => he (Fin.ext (by simp only; omega))), mul_zero]
      · exact fun h => absurd (Finset.mem_univ _) h
    · rw [if_neg h96]
      exact Finset.sum_eq_zero fun e _ => by rw [hP, if_neg (by omega), mul_zero]

end Cert.MlaExpand

end
-- ==== Proof.MlaExpand.Block.lean ====
/-
  One block of the kernel: its two results at a row, the keys as lanes of two heads.
-/
module

public import proofs.«01_k».proof.Proof.Gen.MlaExpandIdeal.Frame
public import proofs.«01_k».proof.Proof.MlaExpand.Spec

@[expose] public section

set_option maxRecDepth 16384

noncomputable section

namespace Cert.MlaExpand

open Idealize.ShloMosaic
open Cert.MlaExpandIdeal Cert.MlaExpandIdeal.Gen

/-! ## The vectors the block stores -/

section
variable (h : FVec Ideal S512x256 .bf16) (q : FVec Ideal S512x256 .f32) (M : FVec Ideal S256x256 .bf16) (g : FVec Ideal S1x256 .f32)
  (w : FVec Ideal S256x256 .bf16) (r : Fin 512) (j : Fin 256)

/-- A lane over the block's vectors at a row, the placed part `q` given. -/
abbrev vlane : EReal :=
  (∑ x, h (ix2 r x) * w (ix2 x j)) * Ideal.rsqrt (∑ x, ((∑ k, h (ix2 r k) * w (ix2 k x)) * ∑ k, h (ix2 r k) * w (ix2 k x)) * M (ix2 x j)
    + Ideal.ofBits .f32 897988541#32) * g (ix2 0 j) + q (ix2 r j)

theorem pay1_apply : k0_pay1 h q M g w (ix2 r j) = vlane h q M g w r j := by
  unfold vlane
  pointwise [k0_pay1]
theorem pay16_apply : k0_pay16 h q M g w (ix2 r j) = vlane h q M g w r j := by
  unfold vlane
  pointwise [k0_pay16]
theorem pay15_apply : k0_pay15 h q M g w (ix2 r j) = vlane h q M g w r j := by
  unfold vlane
  pointwise [k0_pay15]
theorem pay14_apply : k0_pay14 h q M g (k0_pay13 w) (constant (F := Ideal) S512x256 .f32 0x00000000#32) (ix2 r j) = vlane h q M g w r j := by
  unfold vlane
  pointwise [k0_pay14, k0_pay13]
theorem pay12_apply : k0_pay12 h q M g w (ix2 r j) = vlane h q M g w r j := by
  unfold vlane
  pointwise [k0_pay12]
theorem pay11_apply : k0_pay11 h q M g w (ix2 r j) = vlane h q M g w r j := by
  unfold vlane
  pointwise [k0_pay11]

end

section
variable (a : Vec Ideal S512x256 .f32) (b : Vec Ideal S512x32 .f32) (P : Vec Ideal S32x256 .bf16) (M : Vec Ideal S256x256 .bf16)
  (g : Vec Ideal S1x256 .f32) (w : Vec Ideal S256x256 .bf16) (r : Fin 512) (j : Fin 256)

theorem pay10_apply : k0_pay10 (k0_pay4 b P) (k0_pay6 g) (k0_pay8 a w) (k0_pay9 a M w) (ix2 r j)
    = vlane (k0_pay3 a) (k0_pay4 b P) (k0_pay5 M) (k0_pay6 g) w r j := by
  unfold vlane
  generalize hp : k0_pay3 a = p
  generalize hq : k0_pay4 b P = q
  generalize hM : k0_pay5 M = M'
  generalize hg : k0_pay6 g = g'
  pointwise [k0_pay10, k0_pay9, k0_pay8, hp, hM]

theorem pay7_apply : k0_pay7 a b P M g w (ix2 r j) = vlane (k0_pay3 a) (k0_pay4 b P) (k0_pay5 M) (k0_pay6 g) w r j := by
  unfold vlane
  generalize hp : k0_pay3 a = p
  generalize hq : k0_pay4 b P = q
  generalize hM : k0_pay5 M = M'
  generalize hg : k0_pay6 g = g'
  pointwise [k0_pay7, hp, hq, hM, hg]

theorem pay3_apply : k0_pay3 a (ix2 r j) = a (ix2 r j) := by
  pointwise [k0_pay3]
theorem pay4_apply : k0_pay4 b P (ix2 r j) = ∑ e, b (ix2 r e) * P (ix2 e j) := by
  pointwise [k0_pay4]
theorem pay5_apply (x : Fin 256) : k0_pay5 M (ix2 x j) = M (ix2 x j) := by
  pointwise [k0_pay5]
theorem pay6_apply : k0_pay6 g (ix2 0 j) = g (ix2 0 j) := by
  pointwise [k0_pay6]

end

theorem pay2_apply (h : FVec Ideal S512x256 .bf16) (w : Vec Ideal S256x1024 .bf16) (r : Fin 512) (j : Fin 1024) :
    k0_pay2 h w (ix2 r j) = ∑ k, h (ix2 r k) * w (ix2 k j) := by
  pointwise [k0_pay2]

/-! ## The block's results -/

section
variable (x : Vec Ideal S512x288 .f32) (W : Vec Ideal S256x2048 .bf16) (U : Vec Ideal S256x1024 .bf16) (M : Vec Ideal S256x256 .bf16)
  (C : Vec Ideal S8x256 .f32) (P : Vec Ideal S32x256 .bf16) (r : Fin 512)

/-- The window of 256 columns of the weights at column `n`. -/
theorem cols_apply (n : ℕ) (hn : n + 256 ≤ 2048) (inb) (k : Fin 256) (j : Fin 256) :
    View.ld W (Rect.unit (s := S256x2048) ![0, n] S256x256.size inb) (ix2 k j) = W (ix2 k ⟨n + j.val, by omega⟩) :=
  Shared.window_apply W ![0, n] inb k j k ⟨n + j.val, by omega⟩ (Nat.zero_add _).symm rfl

/-- The first part of the block's rows. -/
theorem first_apply (inb) (k : Fin 256) :
    View.ld x (Rect.unit (s := S512x288) ![0, 0] S512x256.size inb) (ix2 r k) = x (ix2 r ⟨k.val, by omega⟩) :=
  Shared.window_apply x ![0, 0] inb r k r ⟨k.val, by omega⟩ (Nat.zero_add _).symm (Nat.zero_add _).symm

/-- The second part of the block's rows. -/
theorem second_apply (inb) (e : Fin 32) :
    View.ld x (Rect.unit (s := S512x288) ![0, 256] S512x32.size inb) (ix2 r e) = x (ix2 r ⟨256 + e.val, by omega⟩) :=
  Shared.window_apply x ![0, 256] inb r e r ⟨256 + e.val, by omega⟩ (Nat.zero_add _).symm rfl

/-- The first row of the constants. -/
theorem const_apply (inb) (j : Fin 256) : View.ld C (Rect.unit (s := S8x256) ![0, 0] S1x256.size inb) (ix2 0 j) = C (ix2 0 j) :=
  Shared.window_apply C ![0, 0] inb 0 j 0 j rfl (Nat.zero_add _).symm

/-- The lanes of the 256 columns of the weights at column `n`. -/
def blane (n : ℕ) (hn : n + 256 ≤ 2048) (j : Fin 256) : EReal :=
  lane (fun k => x (ix2 r ⟨k.val, by omega⟩)) (fun e => x (ix2 r ⟨256 + e.val, by omega⟩)) (fun k j => W (ix2 k ⟨n + j.val, by omega⟩))
    (fun x j => M (ix2 x j)) (fun j => C (ix2 0 j)) (fun e j => P (ix2 e j)) j

theorem vlane_eq (n : ℕ) (hn : n + 256 ≤ 2048) (inb inb0 inb1 inb4) (j : Fin 256) :
    vlane (k0_pay3 (View.ld x (Rect.unit (s := S512x288) ![0, 0] S512x256.size inb0)))
        (k0_pay4 (View.ld x (Rect.unit (s := S512x288) ![0, 256] S512x32.size inb1)) P) (k0_pay5 M)
        (k0_pay6 (View.ld C (Rect.unit (s := S8x256) ![0, 0] S1x256.size inb4)))
        (View.ld W (Rect.unit (s := S256x2048) ![0, n] S256x256.size inb)) r j
      = blane x W M C P r n hn j := by
  unfold vlane blane lane
  simp only [pay3_apply, pay4_apply, pay5_apply, pay6_apply, first_apply x r inb0, second_apply x r inb1, const_apply C inb4, cols_apply W n hn inb]

/-- The block's keys. -/
def kBlk : Vec Ideal S512x2048 .bf16 := fun y =>
  blane x W M C P (y 0) (256 * ((y 1).val / 256)) (by have : (y 1).val < 2048 := (y 1).isLt; omega) ⟨(y 1).val % 256, Nat.mod_lt _ (by omega)⟩

/-- The block's values. -/
def vBlk : Vec Ideal S512x1024 .bf16 := fun y => ∑ k : Fin 256, x (ix2 (y 0) ⟨k.val, by omega⟩) * U (ix2 k (y 1))

/-- A block's keys at the place a window of 256 columns at a multiple of 256 reads. -/
theorem kBlk_at (n : ℕ) (hn : n + 256 ≤ 2048) (hm : n % 256 = 0) (y : S512x2048.Idx) (j : Fin 256) (h0 : (y 0).val = r.val)
    (h1 : (y 1).val = n + j.val) : kBlk x W M C P y = blane x W M C P r n hn j := by
  have e0 : y 0 = r := Fin.ext h0
  unfold kBlk
  have e1 : 256 * ((y 1).val / 256) = n := by omega
  have e2 : (⟨(y 1).val % 256, Nat.mod_lt _ (by omega)⟩ : Fin 256) = j := Fin.ext (by show (y 1).val % 256 = j.val; omega)
  rw [e2, e0]
  simp only [e1]

theorem out6_eq : out0_6 x W U M C P = kBlk x W M C P := by
  have hP : View.ld P r0_2 = P := Shared.window_whole P _ rfl rfl _
  have hM : View.ld M r0_3 = M := Shared.window_whole M _ rfl rfl _
  funext y
  unfold out0_6
  refine View.canon_apply_of_pieces _ _ ?_ y (cover0_6 _ _ _ _ _ _ _ _ y)
  simp only [k0_pay17, k0_pay18, k0_pay19, k0_pay20, hP, hM]
  intro p hp
  simp only [List.mem_cons, List.not_mem_nil, or_false] at hp
  rcases hp with rfl | rfl | rfl | rfl | rfl | rfl | rfl | rfl <;> intro z <;>
    obtain ⟨r, j, rfl⟩ : ∃ (r : Fin 512) (j : Fin 256), z = ix2 r j := ⟨z 0, z 1, Shared.pair_idx z⟩
  · refine (pay1_apply _ _ _ _ _ r j).trans ?_
    rw [kBlk_at x W M C P r 1792 (by omega) (by omega) _ j (by show 0 + 1 * r.val = _; omega) (by show 1792 + 1 * j.val = _; omega)]
    exact vlane_eq x W M C P r 1792 (by omega) _ _ _ _ j
  · refine (pay16_apply _ _ _ _ _ r j).trans ?_
    rw [kBlk_at x W M C P r 1536 (by omega) (by omega) _ j (by show 0 + 1 * r.val = _; omega) (by show 1536 + 1 * j.val = _; omega)]
    exact vlane_eq x W M C P r 1536 (by omega) _ _ _ _ j
  · refine (pay15_apply _ _ _ _ _ r j).trans ?_
    rw [kBlk_at x W M C P r 1280 (by omega) (by omega) _ j (by show 0 + 1 * r.val = _; omega) (by show 1280 + 1 * j.val = _; omega)]
    exact vlane_eq x W M C P r 1280 (by omega) _ _ _ _ j
  · refine (pay14_apply _ _ _ _ _ r j).trans ?_
    rw [kBlk_at x W M C P r 1024 (by omega) (by omega) _ j (by show 0 + 1 * r.val = _; omega) (by show 1024 + 1 * j.val = _; omega)]
    exact vlane_eq x W M C P r 1024 (by omega) _ _ _ _ j
  · refine (pay12_apply _ _ _ _ _ r j).trans ?_
    rw [kBlk_at x W M C P r 768 (by omega) (by omega) _ j (by show 0 + 1 * r.val = _; omega) (by show 768 + 1 * j.val = _; omega)]
    exact vlane_eq x W M C P r 768 (by omega) _ _ _ _ j
  · refine (pay11_apply _ _ _ _ _ r j).trans ?_
    rw [kBlk_at x W M C P r 512 (by omega) (by omega) _ j (by show 0 + 1 * r.val = _; omega) (by show 512 + 1 * j.val = _; omega)]
    exact vlane_eq x W M C P r 512 (by omega) _ _ _ _ j
  · refine (pay10_apply _ _ _ _ _ _ r j).trans ?_
    rw [kBlk_at x W M C P r 256 (by omega) (by omega) _ j (by show 0 + 1 * r.val = _; omega) (by show 256 + 1 * j.val = _; omega)]
    exact vlane_eq x W M C P r 256 (by omega) _ _ _ _ j
  · refine (pay7_apply _ _ _ _ _ _ r j).trans ?_
    rw [kBlk_at x W M C P r 0 (by omega) (by omega) _ j (by show 0 + 1 * r.val = _; omega) (by show 0 + 1 * j.val = _; omega)]
    exact vlane_eq x W M C P r 0 (by omega) _ _ _ _ j

theorem out7_eq : out0_7 x W U M C P = vBlk x U := by
  have hU : View.ld U r0_21 = U := Shared.window_whole U _ rfl rfl _
  funext y
  unfold out0_7
  refine View.canon_apply_of_pieces _ _ ?_ y (cover0_7 _ y)
  simp only [k0_pay17, hU]
  intro p hp
  simp only [List.mem_cons, List.not_mem_nil, or_false] at hp
  rcases hp with rfl
  intro z
  obtain ⟨r, j, rfl⟩ : ∃ (r : Fin 512) (j : Fin 1024), z = ix2 r j := ⟨z 0, z 1, Shared.pair_idx z⟩
  refine (pay2_apply _ _ r j).trans ?_
  have e : Rect.emb r0_22 (ix2 r j) = (ix2 r j : S512x1024.Idx) := by
    funext a
    refine Fin.ext ?_
    match a with
    | ⟨0, _⟩ =>
      show 0 + 1 * r.val = r.val
      omega
    | ⟨1, _⟩ =>
      show 0 + 1 * j.val = j.val
      omega
  show _ = vBlk x U (Rect.emb r0_22 (ix2 r j))
  rw [e]
  exact Finset.sum_congr rfl fun k _ => congrArg (· * U (ix2 k j)) ((pay3_apply _ r k).trans (first_apply x r _ k))

end

end Cert.MlaExpand

end
-- ==== Proof.MobaProj.Host.lean ====
/-
  What the host hands the kernel: the weights with the queries' columns in slot order, the gains and the half mask as rows of
  constants, the group means' matrix, and the tables laid out over lanes.
-/
module

public import proofs.«01_k».proof.Proof.Gen.MobaProjIdeal.Frame
public import proofs.«01_k».proof.Proof.MobaProj.Spec
public import Idealize.ShloMosaic.Lib.Routing.OpsPair

@[expose] public section

set_option maxRecDepth 16384

noncomputable section

namespace Cert.MobaProj

open Cert.MobaProjIdeal Cert.MobaProjIdeal.Gen Idealize.ShloMosaic Idealize.ShloMosaic.TcCoe Idealize.SL.Sem

variable (m : (ℓ : Loc nD τ sig) → Buf (Elt Ideal) ℓ) (c : Dev nD)

/-- The seven argument arrays. -/
abbrev argX : FVec Ideal S8x2048x1024 .f32 := m ((c : Thread nD τ).loc main_arg0)
abbrev argG : FVec Ideal S1024 .f32 := m ((c : Thread nD τ).loc main_arg1)
abbrev argW : FVec Ideal S1024x1536 .f32 := m ((c : Thread nD τ).loc main_arg2)
abbrev argQ : FVec Ideal S64 .f32 := m ((c : Thread nD τ).loc main_arg3)
abbrev argK : FVec Ideal S64 .f32 := m ((c : Thread nD τ).loc main_arg4)
abbrev argC : FVec Ideal S2048x32 .f32 := m ((c : Thread nD τ).loc main_arg5)
abbrev argS : FVec Ideal S2048x32 .f32 := m ((c : Thread nD τ).loc main_arg6)

/-! ## The rows and the tables -/

theorem rows_apply (n : Fin 16384) (k : Fin 1024) :
    V m c main_v9 (ix2 n k) = argX m c (ix3 ⟨n.val / 2048, by omega⟩ ⟨n.val % 2048, Nat.mod_lt _ (by omega)⟩ k) := by
  have e : V m c main_v9 = shapeCast S16384x1024 (argX m c) shapeCasts_S8x2048x1024_S16384x1024 := by
    dsimp only [V, hostOps0, hostOps0_1, hostOps0_2, List.flatten_cons, List.flatten_nil, List.append_nil, List.cons_append,
      List.nil_append]
    after_results <;> rfl
  rw [e]
  pointwise

theorem gains_apply (k : Fin 1024) : V m c main_v10 (ix2 0 k) = argG m c (ix1 k) := by
  have e : V m c main_v10 = shapeCast S1x1024 (argG m c) shapeCasts_S1024_S1x1024 := by
    dsimp only [V, hostOps0, hostOps0_1, hostOps0_2, List.flatten_cons, List.flatten_nil, List.append_nil, List.cons_append,
      List.nil_append]
    after_results <;> rfl
  rw [e]
  pointwise

/-- The cosines over lanes. -/
def cosWide (C : FVec Ideal S2048x32 .f32) : FVec Ideal S2048x256 .f32 :=
  shapeCast S2048x256 (broadcastInDim S1x2048x4x64 ![0, 1, 2, 3] bcast_S1x2048x1x64_S1x2048x4x64_0_1_2_3
    (shapeCast S1x2048x1x64 (concatenate S2048x64 1 [⟨S2048x32, C⟩, ⟨S2048x32, C⟩] concatenates_S2048x32_S2048x32_S2048x64_d1)
      shapeCasts_S2048x64_S1x2048x1x64)) shapeCasts_S1x2048x4x64_S2048x256

/-- The signed sines over lanes. -/
def sinWide (C : FVec Ideal S2048x32 .f32) : FVec Ideal S2048x256 .f32 :=
  shapeCast S2048x256 (broadcastInDim S1x2048x4x64 ![0, 1, 2, 3] bcast_S1x2048x1x64_S1x2048x4x64_0_1_2_3
    (shapeCast S1x2048x1x64 (concatenate S2048x64 1 [⟨S2048x32, Host.negf C⟩, ⟨S2048x32, C⟩] concatenates_S2048x32_S2048x32_S2048x64_d1)
      shapeCasts_S2048x64_S1x2048x1x64)) shapeCasts_S1x2048x4x64_S2048x256

theorem cos_apply (n : Fin 2048) (j : Fin 256) :
    V m c main_v14 (ix2 n j) = argC m c (ix2 n ⟨j.val % 32, Nat.mod_lt _ (by omega)⟩) := by
  have e : V m c main_v14 = cosWide (argC m c) := by
    dsimp only [V, hostOps0, hostOps0_1, hostOps0_2, List.flatten_cons, List.flatten_nil, List.append_nil, List.cons_append,
      List.nil_append]
    after_results <;> rfl
  rw [e]
  pointwise [cosWide]
  split
  · exact congrArg (fun d => argC m c (ix2 n d)) (Fin.ext (by simp only; omega))
  · exact congrArg (fun d => argC m c (ix2 n d)) (Fin.ext (by simp only; omega))

theorem sin_apply (n : Fin 2048) (j : Fin 256) :
    V m c main_v19 (ix2 n j) = if j.val % 64 < 32 then -argS m c (ix2 n ⟨j.val % 32, Nat.mod_lt _ (by omega)⟩)
      else argS m c (ix2 n ⟨j.val % 32, Nat.mod_lt _ (by omega)⟩) := by
  have e : V m c main_v19 = sinWide (argS m c) := by
    dsimp only [V, hostOps0, hostOps0_1, hostOps0_2, List.flatten_cons, List.flatten_nil, List.append_nil, List.cons_append,
      List.nil_append]
    after_results <;> rfl
  rw [e]
  pointwise [sinWide]
  split
  · exact congrArg (fun d => -argS m c (ix2 n d)) (Fin.ext (by simp only; omega))
  · exact congrArg (fun d => argS m c (ix2 n d)) (Fin.ext (by simp only; omega))

/-! ## The constants -/

/-- The group means' matrix. -/
def means : FVec Ideal S256x256 .bf16 :=
  truncf .bf16 (select (cmpi .eq (Host.divsi (iotaInDim S256x256 32 0) (broadcastInDim S256x256 ![] bcast_S_S256x256 (constantI S_ 32 64#32)))
      (Host.divsi (iotaInDim S256x256 32 1) (broadcastInDim S256x256 ![] bcast_S_S256x256 (constantI S_ 32 64#32))))
    (broadcastInDim S256x256 ![] bcast_S_S256x256 (constant (F := Ideal) S_ .f32 0x3C800000#32))
    (broadcastInDim S256x256 ![] bcast_S_S256x256 (constant (F := Ideal) S_ .f32 0x00000000#32))) bitsLt_bf16_f32

theorem group_word : ∀ x : Fin 256, IntOp.divsi .host (BitVec.ofNat 32 x.val) 64#32 = BitVec.ofNat 32 (x.val / 64) := by
  decide +kernel

theorem means_apply (x j : Fin 256) :
    V m c main_v38 (ix2 x j) = if x.val / 64 = j.val / 64 then Ideal.ofBits .f32 1015021568#32 else 0 := by
  have e : V m c main_v38 = means := by
    dsimp only [V, hostOps0, hostOps0_1, hostOps0_2, List.flatten_cons, List.flatten_nil, List.append_nil, List.cons_append,
      List.nil_append]
    after_results <;> rfl
  rw [e]
  pointwise [means]
  rw [group_word, group_word]
  by_cases h : x.val / 64 = j.val / 64
  · rw [h, if_pos rfl]
    simp [Scalar.select, IntOp.cmpi]
  · have hn : BitVec.ofNat 32 (x.val / 64) ≠ BitVec.ofNat 32 (j.val / 64) := by
      intro e
      have := congrArg BitVec.toNat e
      simp only [BitVec.toNat_ofNat] at this
      omega
    rw [if_neg h]
    have hb : (BitVec.ofNat 32 (x.val / 64) == BitVec.ofNat 32 (j.val / 64)) = false := beq_false_of_ne hn
    simp [Scalar.select, IntOp.cmpi, hb]

/-- The gains of four heads side by side. -/
def wide (q : FVec Ideal S64 .f32) : FVec Ideal S256 .f32 :=
  shapeCast S256 (broadcastInDim S4x64 ![0, 1] bcast_S1x64_S4x64_0_1 (shapeCast S1x64 q shapeCasts_S64_S1x64)) shapeCasts_S4x64_S256

theorem wide_apply (q : FVec Ideal S64 .f32) (j : Fin 256) : wide q (ix1 j) = q (ix1 ⟨j.val % 64, Nat.mod_lt _ (by omega)⟩) := by
  pointwise [wide]

/-- The literal of zeros and, in its third row, the half mask. -/
def mask : FVec Ideal S8x256 .f32 := fun i => FloatOps.ofBits .f32 (lit1 (S8x256.rowMajor i))

/-- One row of the constants set. -/
def setRow (C : FVec Ideal S8x256 .f32) (n : BitVec 32) (u : FVec Ideal S256 .f32) : FVec Ideal S8x256 .f32 :=
  Host.scatter scatter_S8x256_S1_S256_0_0_0_0 (fun _ b => b) C (broadcastInDim S1 ![] bcast_S_S1 (constantI S_ 32 n)) u

theorem consts_eq : V m c main_v29 = setRow (setRow mask 0#32 (wide (argQ m c))) 1#32 (wide (argK m c)) := by
  dsimp only [V, hostOps0, hostOps0_1, hostOps0_2, List.flatten_cons, List.flatten_nil, List.append_nil, List.cons_append,
    List.nil_append]
  after_results <;> rfl

/-- Taking the last update among those that land leaves the one that lands. -/
theorem foldl_land {ι α : Type} [DecidableEq ι] (P : ι → Prop) [DecidablePred P] (v : ι → α) (k : ι) (h : ∀ n, P n ↔ n = k) (l : List ι) (a : α) :
    l.foldl (fun a n => if P n then v n else a) a = if k ∈ l then v k else a := by
  induction l generalizing a with
  | nil => simp
  | cons n l ih =>
    rw [List.foldl_cons, ih]
    have hk : P k := (h k).2 rfl
    by_cases e : n = k
    · subst e; simp [hk]
    · have : ¬ P n := fun q => e ((h n).1 q)
      simp [this, Ne.symm e]

/-- The set row holds the update; the others stay. -/
theorem setRow_apply (C : FVec Ideal S8x256 .f32) (n : Fin 8) (u : FVec Ideal S256 .f32) (r : Fin 8) (j : Fin 256) :
    setRow C (BitVec.ofNat 32 n.val) u (ix2 r j) = if r = n then u (ix1 j) else C (ix2 r j) := by
  unfold setRow
  rw [Routing.scatter_at]
  have hl : ∀ k : S256.Idx, scatter_S8x256_S1_S256_0_0_0_0.resultIdx? k (broadcastInDim S1 ![] bcast_S_S1 (constantI S_ 32 (BitVec.ofNat 32 n.val)))
      = some (ix2 r j) ↔ r = n ∧ k = ix1 j := by
    intro k
    refine (Routing.resultIdx?_ix2 (R := 8) (C := 256) scatter_S8x256_S1_S256_0_0_0_0 k _ r j).trans ?_
    have h0 : scatter_S8x256_S1_S256_0_0_0_0.start k (broadcastInDim S1 ![] bcast_S_S1 (constantI S_ 32 (BitVec.ofNat 32 n.val))) 0
        = (BitVec.ofNat 32 n.val).toInt := rfl
    have h1 : scatter_S8x256_S1_S256_0_0_0_0.start k (broadcastInDim S1 ![] bcast_S_S1 (constantI S_ 32 (BitVec.ofNat 32 n.val))) 1 = 0 := rfl
    have w0 : scatter_S8x256_S1_S256_0_0_0_0.window k 0 = 0 := rfl
    have w1 : scatter_S8x256_S1_S256_0_0_0_0.window k 1 = (k 0).val := rfl
    have hn : (BitVec.ofNat 32 n.val).toInt = (n.val : Int) := by
      have : ∀ n : Fin 8, (BitVec.ofNat 32 n.val).toInt = (n.val : Int) := by decide
      exact this n
    rw [h0, h1, w0, w1, hn]
    constructor
    · rintro ⟨e0, e1⟩
      refine ⟨Fin.ext (by omega), funext fun a => ?_⟩
      match a with
      | ⟨0, _⟩ => exact Fin.ext (by show (k 0).val = j.val; omega)
    · rintro ⟨rfl, rfl⟩
      exact ⟨by omega, by show (0 : Int) + (j.val : Int) = _; omega⟩
  simp only [hl]
  by_cases hr : r = n
  · rw [if_pos hr]
    simp only [hr, true_and]
    refine (foldl_land (fun i => S256.rowMajor.symm i = ix1 j) (fun i => u (S256.rowMajor.symm i)) (S256.rowMajor (ix1 j))
      (fun i => ⟨fun e => by rw [← e, Equiv.apply_symm_apply], fun e => by rw [e, Equiv.symm_apply_apply]⟩) _ _).trans ?_
    rw [if_pos (List.mem_finRange _), Equiv.symm_apply_apply]
  · rw [if_neg hr]
    simp only [hr, false_and, if_false]
    generalize List.finRange S256.numel = l
    induction l with
    | nil => rfl
    | cons _ _ ih => exact ih

theorem qgain_apply (j : Fin 256) : V m c main_v29 (ix2 0 j) = argQ m c (ix1 ⟨j.val % 64, Nat.mod_lt _ (by omega)⟩) := by
  rw [consts_eq, ← wide_apply (argQ m c)]
  refine (setRow_apply _ 1 _ 0 j).trans ?_
  rw [if_neg (by decide)]
  refine (setRow_apply _ 0 _ 0 j).trans ?_
  rw [if_pos rfl]

theorem kgain_apply (j : Fin 256) : V m c main_v29 (ix2 1 j) = argK m c (ix1 ⟨j.val % 64, Nat.mod_lt _ (by omega)⟩) := by
  rw [consts_eq, ← wide_apply (argK m c)]
  refine (setRow_apply _ 1 _ 1 j).trans ?_
  rw [if_pos rfl]

theorem mask_word : ∀ j : Fin 256, lit1 (S8x256.rowMajor (ix2 2 j)) = if j.val % 64 < 32 then 0x3F800000#32 else 0x00000000#32 := by
  decide +kernel

theorem half_apply (j : Fin 256) : V m c main_v29 (ix2 2 j) = if j.val % 64 < 32 then (1 : EReal) else (0 : EReal) := by
  rw [consts_eq]
  refine (setRow_apply _ 1 _ 2 j).trans ?_
  rw [if_neg (by decide)]
  refine (setRow_apply _ 0 _ 2 j).trans ?_
  rw [if_neg (by decide)]
  unfold mask
  rw [mask_word]
  split
  · show Ideal.ofBits .f32 0x3F800000#32 = 1
    simp [Ideal.ofBits, Ideal.ieee, -EReal.coe_mul]
    norm_num
  · show Ideal.ofBits .f32 0x00000000#32 = 0
    simp [Ideal.ofBits, Ideal.ieee, -EReal.coe_mul]

/-! ## The weights -/

/-- The weights with the queries' columns gathered. -/
def weights (W : FVec Ideal S1024x1536 .f32) : FVec Ideal S1024x1536 .bf16 :=
  truncf .bf16 (concatenate S1024x1536 1 [⟨S1024x1024, Host.gather gather_S1024x1024_S1024x1_S1024x1024_0_1_n_n_1_1_10241
      (extractStridedSlice S1024x1024 ![0, 0] W slices_S1024x1536_S1024x1024_0_0)
      (broadcastInDim S1024x1 ![0] bcast_S1024_S1024x1_0 (select (constantI S1024 1 0#1)
        (addi (fun i => lit0 (S1024.rowMajor i)) (broadcastInDim S1024 ![] bcast_S_S1024 (constantI S_ 32 1024#32)))
        (fun i => lit0 (S1024.rowMajor i))))⟩,
    ⟨S1024x512, extractStridedSlice S1024x512 ![0, 1024] W slices_S1024x1536_S1024x512_0_1024⟩] concatenates_S1024x1024_S1024x512_S1024x1536_d1)
    bitsLt_bf16_f32

theorem weights_eq : V m c main_v8 = weights (argW m c) := by
  dsimp only [V, hostOps0, hostOps0_1, hostOps0_2, List.flatten_cons, List.flatten_nil, List.append_nil, List.cons_append,
    List.nil_append]
  after_results <;> rfl

/-- A gathered column. -/
theorem gather_col (x : S1024x1024.Idx → EReal) (idx : IVec S1024x1 32) (k j b : Fin 1024) (hb : idx (ix2 j 0) = BitVec.ofNat 32 b.val) :
    Host.gather gather_S1024x1024_S1024x1_S1024x1024_0_1_n_n_1_1_10241 x idx (ix2 k j) = x (ix2 k b) := by
  refine congrArg x (funext fun a => Fin.ext ?_)
  match a with
  | ⟨0, _⟩ =>
    show 0 + 0 + k.val = k.val
    omega
  | ⟨1, _⟩ =>
    have hi : gather_S1024x1024_S1024x1_S1024x1024_0_1_n_n_1_1_10241.siIdx (ix2 k j) ⟨0, by decide⟩ = ix2 j 0 := by
      funext a
      match a with
      | ⟨0, _⟩ => rfl
      | ⟨1, _⟩ => rfl
    show min (idx (gather_S1024x1024_S1024x1_S1024x1024_0_1_n_n_1_1_10241.siIdx (ix2 k j) ⟨0, by decide⟩)).toInt.toNat (1024 - 1) + 0 + 0 = b.val
    have hz : ∀ b : Fin 1024, (BitVec.ofNat 32 b.val).toInt.toNat = b.val := by decide +kernel
    rw [hi, hb, hz]
    omega

theorem slot_word : ∀ j : Fin 1024, lit0 (S1024.rowMajor (ix1 j)) = BitVec.ofNat 32 (slot j.val + j.val % 64) := by
  decide +kernel

theorem weights_apply (k : Fin 1024) (d : Fin 1536) : V m c main_v8 (ix2 k d)
    = if d.val < 1024 then argW m c (ix2 k ⟨slot (d.val % 1024) + d.val % 64, by unfold slot; omega⟩) else argW m c (ix2 k d) := by
  rw [weights_eq]
  pointwise [weights]
  split
  · rename_i h
    refine (gather_col _ _ k ⟨d.val, h⟩ ⟨slot d.val + d.val % 64, by unfold slot; omega⟩ ?_).trans ?_
    · exact slot_word ⟨d.val, h⟩
    · pointwise
      exact congrArg (fun d => argW m c (ix2 k d)) (Fin.ext (by simp only [Nat.mod_eq_of_lt h]))
  · exact congrArg (fun d => argW m c (ix2 k d)) (Fin.ext (by simp only; omega))

end Cert.MobaProj

end
-- ==== Proof.MlaExpand.Host.lean ====
/-
  What the host hands the kernel: the weights' columns split into keys and values, the gains as a row of constants, the group means' matrix, and the
  matrix that places the rotated part.
-/
module

public import proofs.«01_k».proof.Proof.Gen.MlaExpandIdeal.Frame
public import proofs.«01_k».proof.Proof.MlaExpand.Spec
public import proofs.«01_k».proof.Proof.MobaProj.Host
public import Idealize.ShloMosaic.Lib.Routing.OpsPair

@[expose] public section

set_option maxRecDepth 16384

noncomputable section

namespace Cert.MlaExpand

open Cert.MobaProj (foldl_land group_word)
open Cert.MlaExpandIdeal Cert.MlaExpandIdeal.Gen Idealize.ShloMosaic Idealize.ShloMosaic.TcCoe Idealize.SL.Sem

variable (m : (ℓ : Loc nD τ sig) → Buf (Elt Ideal) ℓ) (c : Dev nD)

/-- The three argument arrays. -/
abbrev argL : FVec Ideal S16384x288 .f32 := m ((c : Thread nD τ).loc main_arg0)
abbrev argW : FVec Ideal S256x2048 .f32 := m ((c : Thread nD τ).loc main_arg1)
abbrev argK : FVec Ideal S96 .f32 := m ((c : Thread nD τ).loc main_arg2)

/-! ## The constants -/

/-- The group means' matrix. -/
def means : FVec Ideal S256x256 .bf16 :=
  truncf .bf16 (select (andi (cmpi .eq
      (Host.divsi (iotaInDim S256x256 32 0) (broadcastInDim S256x256 ![] bcast_S_S256x256 (constantI S_ 32 64#32)))
      (Host.divsi (iotaInDim S256x256 32 1) (broadcastInDim S256x256 ![] bcast_S_S256x256 (constantI S_ 32 64#32))))
      (cmpi .eq (andi (Host.divsi (iotaInDim S256x256 32 0) (broadcastInDim S256x256 ![] bcast_S_S256x256 (constantI S_ 32 64#32)))
        (broadcastInDim S256x256 ![] bcast_S_S256x256 (constantI S_ 32 1#32))) (broadcastInDim S256x256 ![] bcast_S_S256x256 (constantI S_ 32 0#32))))
    (broadcastInDim S256x256 ![] bcast_S_S256x256 (constant (F := Ideal) S_ .f32 0x3C800000#32))
    (broadcastInDim S256x256 ![] bcast_S_S256x256 (constant (F := Ideal) S_ .f32 0x00000000#32))) bitsLt_bf16_f32

theorem means_word : ∀ a b : Fin 4, IntOp.andi (IntOp.cmpi .eq (BitVec.ofNat 32 a.val) (BitVec.ofNat 32 b.val))
    (IntOp.cmpi .eq (IntOp.andi (BitVec.ofNat 32 a.val) 1#32) 0#32) = if a.val = b.val then (if b.val % 2 = 0 then 1#1 else 0#1) else 0#1 := by
  decide

theorem means_apply (x j : Fin 256) : V m c main_v26 (ix2 x j)
    = if x.val / 64 = j.val / 64 then (if j.val / 64 % 2 = 0 then Ideal.ofBits .f32 1015021568#32 else 0) else 0 := by
  have e : V m c main_v26 = means := by
    dsimp only [V, hostOps0, hostOps0_1, hostOps0_2, hostOps0_3, hostOps0_4, List.flatten_cons, List.flatten_nil, List.append_nil,
      List.cons_append, List.nil_append]
    after_results <;> rfl
  rw [e]
  pointwise [means]
  rw [group_word, group_word]
  have hw := means_word ⟨x.val / 64, by omega⟩ ⟨j.val / 64, by omega⟩
  simp only at hw
  rw [hw]
  split
  · split
    · simp [Scalar.select]
    · simp [Scalar.select]
  · simp [Scalar.select]

/-- The matrix that places the rotated part. -/
def place : FVec Ideal S32x256 .bf16 :=
  truncf .bf16 (select (cmpi .eq (andi (iotaInDim S32x256 32 1) (broadcastInDim S32x256 ![] bcast_S_S32x256 (constantI S_ 32 127#32)))
      (addi (iotaInDim S32x256 32 0) (broadcastInDim S32x256 ![] bcast_S_S32x256 (constantI S_ 32 64#32))))
    (broadcastInDim S32x256 ![] bcast_S_S32x256 (constant (F := Ideal) S_ .f32 0x3F800000#32))
    (broadcastInDim S32x256 ![] bcast_S_S32x256 (constant (F := Ideal) S_ .f32 0x00000000#32))) bitsLt_bf16_f32

theorem place_word : ∀ (a : Fin 32) (b : Fin 256), IntOp.cmpi .eq (IntOp.andi (BitVec.ofNat 32 b.val) 127#32)
    (IntOp.addi (BitVec.ofNat 32 a.val) 64#32) = if b.val % 128 = a.val + 64 then 1#1 else 0#1 := by
  decide +kernel

theorem place_apply (a : Fin 32) (j : Fin 256) : V m c main_v45 (ix2 a j) = if j.val % 128 = a.val + 64 then (1 : EReal) else (0 : EReal) := by
  have e : V m c main_v45 = place := by
    dsimp only [V, hostOps0, hostOps0_1, hostOps0_2, hostOps0_3, hostOps0_4, List.flatten_cons, List.flatten_nil, List.append_nil,
      List.cons_append, List.nil_append]
    after_results <;> rfl
  rw [e]
  pointwise [place]
  rw [place_word]
  split
  · simp [Scalar.select]
  · simp [Scalar.select]

/-- The gains of two heads side by side, zeros behind each. -/
def wide (q : FVec Ideal S96 .f32) : FVec Ideal S256 .f32 :=
  shapeCast S256 (broadcastInDim S2x128 ![0, 1] bcast_S1x128_S2x128_0_1 (shapeCast S1x128 (concatenate S128 0
    [⟨S64, extractStridedSlice S64 ![0] q slices_S96_S64_0⟩, ⟨S64, broadcastInDim S64 ![] bcast_S_S64 (constant (F := Ideal) S_ .f32 0x00000000#32)⟩]
    concatenates_S64_S64_S128_d0) shapeCasts_S128_S1x128)) shapeCasts_S2x128_S256

theorem wide_apply (q : FVec Ideal S96 .f32) (j : Fin 256) :
    wide q (ix1 j) = if j.val % 128 < 64 then q (ix1 ⟨j.val % 64, by omega⟩) else 0 := by
  pointwise [wide]
  split
  · exact congrArg (fun d => q (ix1 d)) (Fin.ext (by simp only; omega))
  · rfl

/-- The first row of the constants set. -/
def setRow (C : FVec Ideal S8x256 .f32) (u : FVec Ideal S256 .f32) : FVec Ideal S8x256 .f32 :=
  Host.scatter scatter_S8x256_S1_S256_0_0_0_0 (fun _ b => b) C (broadcastInDim S1 ![] bcast_S_S1 (constantI S_ 32 0#32)) u

/-- The set row holds the update. -/
theorem setRow_apply (C : FVec Ideal S8x256 .f32) (u : FVec Ideal S256 .f32) (j : Fin 256) : setRow C u (ix2 0 j) = u (ix1 j) := by
  unfold setRow
  rw [Routing.scatter_at]
  have hl : ∀ k : S256.Idx, scatter_S8x256_S1_S256_0_0_0_0.resultIdx? k (broadcastInDim S1 ![] bcast_S_S1 (constantI S_ 32 0#32))
      = some (ix2 0 j) ↔ k = ix1 j := by
    intro k
    refine (Routing.resultIdx?_ix2 (R := 8) (C := 256) scatter_S8x256_S1_S256_0_0_0_0 k _ 0 j).trans ?_
    have h0 : scatter_S8x256_S1_S256_0_0_0_0.start k (broadcastInDim S1 ![] bcast_S_S1 (constantI S_ 32 0#32)) 0 = 0 := rfl
    have h1 : scatter_S8x256_S1_S256_0_0_0_0.start k (broadcastInDim S1 ![] bcast_S_S1 (constantI S_ 32 0#32)) 1 = 0 := rfl
    have w0 : scatter_S8x256_S1_S256_0_0_0_0.window k 0 = 0 := rfl
    have w1 : scatter_S8x256_S1_S256_0_0_0_0.window k 1 = (k 0).val := rfl
    rw [h0, h1, w0, w1]
    constructor
    · rintro ⟨_, e1⟩
      refine funext fun a => ?_
      match a with
      | ⟨0, _⟩ => exact Fin.ext (by show (k 0).val = j.val; omega)
    · rintro rfl
      exact ⟨rfl, by show (0 : Int) + (j.val : Int) = _; omega⟩
  simp only [hl]
  refine (foldl_land (fun i => S256.rowMajor.symm i = ix1 j) (fun i => u (S256.rowMajor.symm i)) (S256.rowMajor (ix1 j))
    (fun i => ⟨fun e => by rw [← e, Equiv.apply_symm_apply], fun e => by rw [e, Equiv.symm_apply_apply]⟩) _ _).trans ?_
  rw [if_pos (List.mem_finRange _), Equiv.symm_apply_apply]

theorem gain_apply (j : Fin 256) :
    V m c main_v35 (ix2 0 j) = if j.val % 128 < 64 then argK m c (ix1 ⟨j.val % 64, by omega⟩) else 0 := by
  have e : V m c main_v35 = setRow (broadcastInDim S8x256 ![] bcast_S_S8x256 (constant (F := Ideal) S_ .f32 0x00000000#32)) (wide (argK m c)) := by
    dsimp only [V, hostOps0, hostOps0_1, hostOps0_2, hostOps0_3, hostOps0_4, List.flatten_cons, List.flatten_nil, List.append_nil,
      List.cons_append, List.nil_append]
    after_results <;> rfl
  rw [e, setRow_apply, wide_apply]

/-! ## The weights -/

/-- The keys' columns gathered, columns of zeros between. -/
def keys (W : FVec Ideal S256x2048 .f32) : FVec Ideal S256x2048 .bf16 :=
  truncf .bf16 (Host.gather gather_S256x1025_S2048x1_S256x2048_0_1_n_n_1_1_2561
    (concatenate S256x1025 1 [⟨S256x1024, shapeCast S256x1024 (extractStridedSlice S256x16x64 ![0, 0, 0]
        (shapeCast S256x16x128 W shapeCasts_S256x2048_S256x16x128) slices_S256x16x128_S256x16x64_0_0_0) shapeCasts_S256x16x64_S256x1024⟩,
      ⟨S256x1, broadcastInDim S256x1 ![] bcast_S_S256x1 (constant (F := Ideal) S_ .f32 0x00000000#32)⟩] concatenates_S256x1024_S256x1_S256x1025_d1)
    (broadcastInDim S2048x1 ![0] bcast_S2048_S2048x1_0 (select (constantI S2048 1 0#1)
      (addi (fun i => lit0 (S2048.rowMajor i)) (broadcastInDim S2048 ![] bcast_S_S2048 (constantI S_ 32 1025#32)))
      (fun i => lit0 (S2048.rowMajor i))))) bitsLt_bf16_f32

theorem keys_eq : V m c main_v12 = keys (argW m c) := by
  dsimp only [V, hostOps0, hostOps0_1, hostOps0_2, hostOps0_3, hostOps0_4, List.flatten_cons, List.flatten_nil, List.append_nil,
    List.cons_append, List.nil_append]
  after_results <;> rfl

/-- A gathered column. -/
theorem gather_col (x : S256x1025.Idx → EReal) (idx : IVec S2048x1 32) (k : Fin 256) (j : Fin 2048) (b : Fin 1024)
    (hb : idx (ix2 j 0) = BitVec.ofNat 32 b.val) :
    Host.gather gather_S256x1025_S2048x1_S256x2048_0_1_n_n_1_1_2561 x idx (ix2 k j) = x (ix2 k ⟨b.val, by omega⟩) := by
  refine congrArg x (funext fun a => Fin.ext ?_)
  match a with
  | ⟨0, _⟩ =>
    show 0 + 0 + k.val = k.val
    omega
  | ⟨1, _⟩ =>
    have hi : gather_S256x1025_S2048x1_S256x2048_0_1_n_n_1_1_2561.siIdx (ix2 k j) ⟨0, by decide⟩ = ix2 j 0 := by
      funext a
      match a with
      | ⟨0, _⟩ => rfl
      | ⟨1, _⟩ => rfl
    show min (idx (gather_S256x1025_S2048x1_S256x2048_0_1_n_n_1_1_2561.siIdx (ix2 k j) ⟨0, by decide⟩)).toInt.toNat (1025 - 1) + 0 + 0 = b.val
    have hz : ∀ b : Fin 1024, (BitVec.ofNat 32 b.val).toInt.toNat = b.val := by decide +kernel
    rw [hi, hb, hz]
    omega

theorem slot_word : ∀ (a : Fin 16) (e : Fin 64),
    lit0 (S2048.rowMajor (ix1 ⟨128 * a.val + e.val, by omega⟩)) = BitVec.ofNat 32 (64 * a.val + e.val) := by
  decide +kernel

theorem keys_apply (k : Fin 256) (d : Fin 2048) (h : d.val % 128 < 64) : V m c main_v12 (ix2 k d) = argW m c (ix2 k d) := by
  rw [keys_eq]
  pointwise [keys]
  have hd : d = ⟨128 * (d.val / 128) + d.val % 128, by omega⟩ := Fin.ext (by simp only; omega)
  refine (gather_col _ _ k d ⟨64 * (d.val / 128) + d.val % 128, by omega⟩ ?_).trans ?_
  · refine Eq.trans ?_ (slot_word ⟨d.val / 128, by omega⟩ ⟨d.val % 128, h⟩)
    exact congrArg (fun d => lit0 (S2048.rowMajor (ix1 d))) hd
  · pointwise
    rw [dif_pos (by omega)]
    exact congrArg (fun d => argW m c (ix2 k d)) (Fin.ext (by simp only; omega))

theorem values_apply (k : Fin 256) (d : Fin 1024) :
    V m c main_v44 (ix2 k d) = argW m c (ix2 k ⟨128 * (d.val / 64) + 64 + d.val % 64, by omega⟩) := by
  have e : V m c main_v44 = truncf .bf16 (shapeCast S256x1024 (extractStridedSlice S256x16x64 ![0, 0, 64]
      (shapeCast S256x16x128 (argW m c) shapeCasts_S256x2048_S256x16x128) slices_S256x16x128_S256x16x64_0_0_64) shapeCasts_S256x16x64_S256x1024)
      bitsLt_bf16_f32 := by
    dsimp only [V, hostOps0, hostOps0_1, hostOps0_2, hostOps0_3, hostOps0_4, List.flatten_cons, List.flatten_nil, List.append_nil,
      List.cons_append, List.nil_append]
    after_results <;> rfl
  rw [e]
  pointwise
  exact congrArg (fun d => argW m c (ix2 k d)) (Fin.ext (by simp only; omega))

end Cert.MlaExpand

end
-- ==== Proof.MlaExpand.Final.lean ====
/-
  The kernel's whole results: its blocks of rows tile the arrays, so they are the keys and values of every latent row.
-/
module

public import proofs.«01_k».proof.Proof.MlaExpand.Block
public import proofs.«01_k».proof.Proof.MlaExpand.Host
public import proofs.«01_k».proof.Proof.Gen.MlaExpandIdeal.Value

@[expose] public section

set_option maxRecDepth 16384

noncomputable section

namespace Cert.MlaExpand

open Cert.MobaProj (hn)
open Cert.MlaExpandIdeal Cert.MlaExpandIdeal.Gen Idealize.ShloMosaic Idealize.ShloMosaic.TcCoe Idealize.SL.Sem
open Idealize.ShloMosaic.Pipeline (Dat)

/-! ## The keys and values of every row -/

section
variable (l : FVec Ideal S16384x288 .f32) (w : FVec Ideal S256x2048 .f32) (g : FVec Ideal S96 .f32)

/-- The keys of every row; the first 64 of the gains scale them. -/
def kArr : FVec Ideal S16384x2048 .bf16 := fun y =>
  kRow (fun k => l (ix2 (y 0) k)) (fun k d => w (ix2 k d)) (fun e => g (ix1 ⟨e.val, by omega⟩)) (y 1)

/-- The values of every row. -/
def vArr : FVec Ideal S16384x1024 .bf16 := fun y => vRow (fun k => l (ix2 (y 0) k)) (fun k d => w (ix2 k d)) (y 1)

end

variable (m : (ℓ : Loc nD τ sig) → Buf (Elt Ideal) ℓ) (c : Dev nD) (t : Fin cfg0.N)

/-! ## A grid point's blocks -/

/-- A grid point's block of rows. -/
theorem index_rows : ∀ t : Fin cfg0.N, win0_0.index t 0 = t.val ∧ win0_0.index t 1 = 0 :=
  (by decide +kernel : ∀ t : Fin grid0.N, win0_0.index t 0 = t.val ∧ win0_0.index t 1 = 0)
theorem index_k : ∀ t : Fin cfg0.N, win0_6.index t 0 = t.val ∧ win0_6.index t 1 = 0 :=
  (by decide +kernel : ∀ t : Fin grid0.N, win0_6.index t 0 = t.val ∧ win0_6.index t 1 = 0)
theorem index_v : ∀ t : Fin cfg0.N, win0_7.index t 0 = t.val ∧ win0_7.index t 1 = 0 :=
  (by decide +kernel : ∀ t : Fin grid0.N, win0_7.index t 0 = t.val ∧ win0_7.index t 1 = 0)

theorem t_lt : t.val < 32 := lt_of_lt_of_eq t.isLt N_0

/-- The row of the array at row `r` of a grid point's block. -/
abbrev rowAt (r : Fin 512) : Fin 16384 := ⟨512 * t.val + r.val, by have := t_lt t; omega⟩

theorem blkX (r : Fin 512) (k : Fin 288) : iblk m c 0 t (ix2 r k) = argL m c (ix2 (rowAt t r) k) := by
  show V m c main_arg0 ((win0_0.rect t).emb (ix2 r k)) = _
  rw [V_main_arg0]
  refine congrArg (argL m c) (funext fun a => Fin.ext ?_)
  obtain ⟨e0, e1⟩ := index_rows t
  match a with
  | ⟨0, _⟩ =>
    show win0_0.index t 0 * 512 + 1 * r.val = 512 * t.val + r.val
    omega
  | ⟨1, _⟩ =>
    show win0_0.index t 1 * 288 + 1 * k.val = k.val
    omega

theorem blkW (k : Fin 256) (d : Fin 2048) : iblk m c 1 t (ix2 k d) = V m c main_v12 (ix2 k d) := by
  show V m c main_v12 ((win0_1.rect t).emb (ix2 k d)) = _
  refine congrArg (V m c main_v12) (funext fun a => Fin.ext ?_)
  match a with
  | ⟨0, _⟩ =>
    show 0 * 256 + 1 * k.val = k.val
    omega
  | ⟨1, _⟩ =>
    show 0 * 2048 + 1 * d.val = d.val
    omega

theorem blkU (k : Fin 256) (d : Fin 1024) : iblk m c 2 t (ix2 k d) = V m c main_v44 (ix2 k d) := by
  show V m c main_v44 ((win0_2.rect t).emb (ix2 k d)) = _
  refine congrArg (V m c main_v44) (funext fun a => Fin.ext ?_)
  match a with
  | ⟨0, _⟩ =>
    show 0 * 256 + 1 * k.val = k.val
    omega
  | ⟨1, _⟩ =>
    show 0 * 1024 + 1 * d.val = d.val
    omega

theorem blkM (x j : Fin 256) : iblk m c 3 t (ix2 x j) = V m c main_v26 (ix2 x j) := by
  show V m c main_v26 ((win0_3.rect t).emb (ix2 x j)) = _
  refine congrArg (V m c main_v26) (funext fun a => Fin.ext ?_)
  match a with
  | ⟨0, _⟩ =>
    show 0 * 256 + 1 * x.val = x.val
    omega
  | ⟨1, _⟩ =>
    show 0 * 256 + 1 * j.val = j.val
    omega

theorem blkC (x : Fin 8) (j : Fin 256) : iblk m c 4 t (ix2 x j) = V m c main_v35 (ix2 x j) := by
  show V m c main_v35 ((win0_4.rect t).emb (ix2 x j)) = _
  refine congrArg (V m c main_v35) (funext fun a => Fin.ext ?_)
  match a with
  | ⟨0, _⟩ =>
    show 0 * 8 + 1 * x.val = x.val
    omega
  | ⟨1, _⟩ =>
    show 0 * 256 + 1 * j.val = j.val
    omega

theorem blkP (x : Fin 32) (j : Fin 256) : iblk m c 5 t (ix2 x j) = V m c main_v45 (ix2 x j) := by
  show V m c main_v45 ((win0_5.rect t).emb (ix2 x j)) = _
  refine congrArg (V m c main_v45) (funext fun a => Fin.ext ?_)
  match a with
  | ⟨0, _⟩ =>
    show 0 * 32 + 1 * x.val = x.val
    omega
  | ⟨1, _⟩ =>
    show 0 * 256 + 1 * j.val = j.val
    omega

/-! ## What a grid point writes back -/

/-- The keys of a block. -/
theorem k_blk (r : Fin 512) (d : Fin 2048) :
    kBlk (iblk m c 0 t) (iblk m c 1 t) (iblk m c 3 t) (iblk m c 4 t) (iblk m c 5 t) (ix2 r d)
      = kArr (argL m c) (argW m c) (argK m c) (ix2 (rowAt t r) d) := by
  show blane (iblk m c 0 t) (iblk m c 1 t) (iblk m c 3 t) (iblk m c 4 t) (iblk m c 5 t) r (256 * (d.val / 256)) (by omega)
      ⟨d.val % 256, Nat.mod_lt _ (by omega)⟩
    = kRow (fun k => argL m c (ix2 (rowAt t r) k)) (fun k d => argW m c (ix2 k d)) (fun e => argK m c (ix1 ⟨e.val, by omega⟩)) d
  unfold blane
  refine (lane_eq _ _ _ _ _ _ (fun e => argK m c (ix1 ⟨e.val, by omega⟩)) ?_ ?_ ?_ _).trans ?_
  · intro x j; rw [blkM]; exact means_apply m c x j
  · intro j; rw [blkC]; exact gain_apply m c j
  · intro e j; rw [blkP]; exact place_apply m c e j
  · have hd : d.val % 256 % 128 = d.val % 128 := by omega
    unfold kRow
    by_cases h : d.val % 128 < 64
    · rw [dif_pos (show d.val % 256 % 128 < 64 by omega), dif_pos h]
      have hm : (⟨d.val % 256 % 128, by omega⟩ : Fin 64) = ⟨d.val % 128, h⟩ := Fin.ext hd
      refine congrArg₂ (fun A e => hn A _ e) (funext fun e => Finset.sum_congr rfl fun k _ => ?_) hm
      refine congrArg₂ (· * ·) (blkX m c t r _) ?_
      refine (blkW m c t k _).trans ((keys_apply m c k _ (by simp only; omega)).trans ?_)
      exact congrArg (fun d => argW m c (ix2 k d)) (Fin.ext (by simp only; omega))
    · rw [dif_neg (show ¬ d.val % 256 % 128 < 64 by omega), dif_neg h]
      by_cases h96 : d.val % 128 < 96
      · rw [if_pos (show d.val % 256 % 128 < 96 by omega), if_pos h96]
        refine (blkX m c t r _).trans (congrArg (fun k => argL m c (ix2 (rowAt t r) k)) (Fin.ext ?_))
        show 256 + (d.val % 256 % 128 - 64) % 32 = 192 + d.val % 128 % 96
        omega
      · rw [if_neg (show ¬ d.val % 256 % 128 < 96 by omega), if_neg h96]

/-- The values of a block. -/
theorem v_blk (r : Fin 512) (d : Fin 1024) :
    vBlk (iblk m c 0 t) (iblk m c 2 t) (ix2 r d) = vArr (argL m c) (argW m c) (ix2 (rowAt t r) d) :=
  Finset.sum_congr rfl fun k _ => congrArg₂ (fun a b : EReal => a * b) (blkX m c t r _) ((blkU m c t k d).trans (values_apply m c k d))

/-- The keys. -/
theorem flushed_k : (dats m 0 c).flushed 6 t = ((cfg0.win 6).blk t).view.read (Elt Ideal) (kArr (argL m c) (argW m c) (argK m c)) := by
  rw [Value.flushed6]
  funext y
  obtain ⟨r, d, rfl⟩ : ∃ (r : Fin 512) (d : Fin 2048), y = ix2 r d := ⟨y 0, y 1, Shared.pair_idx y⟩
  refine (congrFun (out6_eq (iblk m c 0 t) (iblk m c 1 t) (iblk m c 2 t) (iblk m c 3 t) (iblk m c 4 t) (iblk m c 5 t)) (ix2 r d)).trans ?_
  refine (k_blk m c t r d).trans ?_
  show _ = kArr (argL m c) (argW m c) (argK m c) ((win0_6.rect t).emb (ix2 r d))
  refine congrArg _ (funext fun a => Fin.ext ?_)
  obtain ⟨e0, e1⟩ := index_k t
  match a with
  | ⟨0, _⟩ =>
    show 512 * t.val + r.val = win0_6.index t 0 * 512 + 1 * r.val
    omega
  | ⟨1, _⟩ =>
    show d.val = win0_6.index t 1 * 2048 + 1 * d.val
    omega

/-- The values. -/
theorem flushed_v : (dats m 0 c).flushed 7 t = ((cfg0.win 7).blk t).view.read (Elt Ideal) (vArr (argL m c) (argW m c)) := by
  rw [Value.flushed7]
  funext y
  obtain ⟨r, d, rfl⟩ : ∃ (r : Fin 512) (d : Fin 1024), y = ix2 r d := ⟨y 0, y 1, Shared.pair_idx y⟩
  refine (congrFun (out7_eq (iblk m c 0 t) (iblk m c 1 t) (iblk m c 2 t) (iblk m c 3 t) (iblk m c 4 t) (iblk m c 5 t)) (ix2 r d)).trans ?_
  refine (v_blk m c t r d).trans ?_
  show _ = vArr (argL m c) (argW m c) ((win0_7.rect t).emb (ix2 r d))
  refine congrArg _ (funext fun a => Fin.ext ?_)
  obtain ⟨e0, e1⟩ := index_v t
  match a with
  | ⟨0, _⟩ =>
    show 512 * t.val + r.val = win0_7.index t 0 * 512 + 1 * r.val
    omega
  | ⟨1, _⟩ =>
    show d.val = win0_7.index t 1 * 1024 + 1 * d.val
    omega

/-! ## The whole arrays -/

/-- Every place of the keys lies in a grid point's block. -/
theorem cover_k (x : S16384x2048.Idx) : ∃ t : Fin cfg0.N, (cfg0.win 6).flush t = true ∧ x ∈ ((cfg0.win 6).blk t).view.set := by
  have h0 : (x 0 : ℕ) < 16384 := (x 0).isLt
  have h1 : (x 1 : ℕ) < 2048 := (x 1).isLt
  let t : Fin cfg0.N := ⟨(x 0 : ℕ) / 512, lt_of_lt_of_eq (by omega) N_0.symm⟩
  refine ⟨t, flush0_6 t, ?_⟩
  show x ∈ ((View.whole main_v46_0).slice (win0_6.rect t)).set
  rw [View.set_slice_whole, Rect.mem_set_unit]
  obtain ⟨e0, e1⟩ := index_k t
  have ht : t.val = (x 0 : ℕ) / 512 := rfl
  intro a
  match a with
  | ⟨0, _⟩ =>
    show win0_6.index t 0 * 512 ≤ (x 0 : ℕ) ∧ (x 0 : ℕ) < win0_6.index t 0 * 512 + 512
    omega
  | ⟨1, _⟩ =>
    show win0_6.index t 1 * 2048 ≤ (x 1 : ℕ) ∧ (x 1 : ℕ) < win0_6.index t 1 * 2048 + 2048
    omega

/-- Every place of the values lies in a grid point's block. -/
theorem cover_v (x : S16384x1024.Idx) : ∃ t : Fin cfg0.N, (cfg0.win 7).flush t = true ∧ x ∈ ((cfg0.win 7).blk t).view.set := by
  have h0 : (x 0 : ℕ) < 16384 := (x 0).isLt
  have h1 : (x 1 : ℕ) < 1024 := (x 1).isLt
  let t : Fin cfg0.N := ⟨(x 0 : ℕ) / 512, lt_of_lt_of_eq (by omega) N_0.symm⟩
  refine ⟨t, flush0_7 t, ?_⟩
  show x ∈ ((View.whole main_v46_1).slice (win0_7.rect t)).set
  rw [View.set_slice_whole, Rect.mem_set_unit]
  obtain ⟨e0, e1⟩ := index_v t
  have ht : t.val = (x 0 : ℕ) / 512 := rfl
  intro a
  match a with
  | ⟨0, _⟩ =>
    show win0_7.index t 0 * 512 ≤ (x 0 : ℕ) ∧ (x 0 : ℕ) < win0_7.index t 0 * 512 + 512
    omega
  | ⟨1, _⟩ =>
    show win0_7.index t 1 * 1024 ≤ (x 1 : ℕ) ∧ (x 1 : ℕ) < win0_7.index t 1 * 1024 + 1024
    omega

/-- The keys' array at the end of the grid. -/
theorem final_k : (dats m 0 c).arrAt 6 cfg0.N = kArr (argL m c) (argW m c) (argK m c) :=
  (dats m 0 c).arrAt_eq_of_cover 6 _ (fun t _ => flushed_k m c t) cover_k
/-- The values' array at the end of the grid. -/
theorem final_v : (dats m 0 c).arrAt 7 cfg0.N = vArr (argL m c) (argW m c) :=
  (dats m 0 c).arrAt_eq_of_cover 7 _ (fun t _ => flushed_v m c t) cover_v

end Cert.MlaExpand

end
-- ==== Proof.MlaExpand.Claims.lean ====
/-
  The claims about the expansion of the latent rows.
-/
module

public import proofs.«01_k».proof.Defs
public import proofs.«01_k».proof.Proof.Gen.MlaExpand.Frame
public import proofs.«01_k».proof.Proof.Gen.MlaExpandReferenceIdeal.Run
public import proofs.«01_k».proof.Proof.MlaExpand.Final
public import Idealize.ShloMosaic.Lib.Quiescent

@[expose] public section

set_option maxRecDepth 16384

noncomputable section

namespace Cert.MlaExpand

open Idealize.ShloMosaic Idealize.ShloMosaic.TcCoe Idealize.SL.Sem
open Cert.MobaProj (hn)

/-- The kernel as printed terminates, its arguments unchanged. -/
theorem frame_P : Cert.quiescent_MlaExpand := fun m ρ _ => Cert.MlaExpand.Gen.frame m ρ
/-- The kernel over the extended reals terminates, its arguments unchanged. -/
theorem frame_PI : Cert.quiescent_MlaExpandIdeal := fun m ρ _ => Cert.MlaExpandIdeal.Gen.frame m ρ
/-- The reference terminates, its arguments unchanged; it has no semaphore. -/
theorem frame_RI : Cert.quiescent_MlaExpandReferenceIdeal := fun m ρ _ =>
  (θ_run Cert.MlaExpandReferenceIdeal.defs _ _).mono (fun r h => ⟨fun c => (h c).2.2, sem_eq_zero_of_no_sems (by decide) r.2⟩)
    (Cert.MlaExpandReferenceIdeal.Value.run (F := Ideal) m ρ)
/-- No operation was rewritten. -/
theorem preserves : Cert.preserves_MlaExpand_MlaExpandIdeal := trivial

section
open Cert.MlaExpandReferenceIdeal Cert.MlaExpandReferenceIdeal.Gen

variable (l : FVec Ideal S16384x288 .f32) (w : FVec Ideal S256x2048 .f32) (g : FVec Ideal S96 .f32)

/-- The reference's product of the latent rows' first part with the weights, by heads. -/
def refProj : FVec Ideal S16384x16x128 .f32 :=
  shapeCast S16384x16x128 (Host.dotGeneral dot_S16384x256_S256x2048_S16384x2048_1_0_0_1_n_n none (extractStridedSlice S16384x256 ![0, 0] l
    slices_S16384x288_S16384x256_0_0) w) shapeCasts_S16384x2048_S16384x16x128

/-- The reference's normed keys of the product's first parts `a`. -/
def refNorm (a : FVec Ideal S16384x16x64 .f32) : FVec Ideal S16384x16x64 .f32 :=
  mulf (mulf a (broadcastInDim S16384x16x64 ![0, 1, 2] bcast_S16384x16x1_S16384x16x64_0_1_2 (Host.rsqrt (addf (Host.divf (broadcastInDim S16384x16x1
    ![0, 1] bcast_S16384x16_S16384x16x1_0_1 (Host.reduceAdd (mulf a a) (constant S_ .f32 0x00000000#32) reducesTo_S16384x16x64_S16384x16_d2 h_S_))
    (broadcastInDim S16384x16x1 ![] bcast_S_S16384x16x1 (constant S_ .f32 0x42800000#32))) (broadcastInDim S16384x16x1 ![] bcast_S_S16384x16x1
    (constant S_ .f32 0x358637BD#32)))))) (broadcastInDim S16384x16x64 ![0, 1, 2] bcast_S1x1x64_S16384x16x64_0_1_2 (broadcastInDim S1x1x64 ![2]
    bcast_S64_S1x1x64_2 (extractStridedSlice S64 ![0] g slices_S96_S64_0)))

/-- The reference's keys: of each head the normed part `b`, the rotated part, and zeros. -/
def refK (b : FVec Ideal S16384x16x64 .f32) : FVec Ideal S16384x2048 .bf16 :=
  truncf .bf16 (shapeCast S16384x2048 (concatenate S16384x16x128 2 [⟨S16384x16x64, b⟩, ⟨S16384x16x32, broadcastInDim S16384x16x32 ![0, 1, 2]
    bcast_S16384x1x32_S16384x16x32_0_1_2 (broadcastInDim S16384x1x32 ![0, 2] bcast_S16384x32_S16384x1x32_0_2 (extractStridedSlice S16384x32 ![0, 256]
    l slices_S16384x288_S16384x32_0_256))⟩, ⟨S16384x16x32, broadcastInDim S16384x16x32 ![] bcast_S_S16384x16x32 (constant S_ .f32 0x00000000#32)⟩]
    concatenates_S16384x16x64_S16384x16x32_S16384x16x32_S16384x16x128_d2) shapeCasts_S16384x16x128_S16384x2048) bitsLt_bf16_f32

/-- The reference's values of the product `p`. -/
def refV (p : FVec Ideal S16384x16x128 .f32) : FVec Ideal S16384x1024 .bf16 :=
  truncf .bf16 (shapeCast S16384x1024 (extractStridedSlice S16384x16x64 ![0, 0, 64] p slices_S16384x16x128_S16384x16x64_0_0_64)
    shapeCasts_S16384x16x64_S16384x1024) bitsLt_bf16_f32

theorem refProj_apply (n : Fin 16384) (a : Fin 16) (e : Fin 128) :
    refProj l w (ix3 n a e) = ∑ k : Fin 256, l (ix2 n ⟨k.val, by omega⟩) * w (ix2 k ⟨128 * a.val + e.val, by omega⟩) := by
  have he : (⟨128 * a.val + e.val, by omega⟩ : Fin 2048) = ⟨a.val * 128 + e.val, by omega⟩ := Fin.ext (by simp only; omega)
  rw [he]
  pointwise [refProj]

theorem refNorm_apply (a : FVec Ideal S16384x16x64 .f32) (n : Fin 16384) (h : Fin 16) (e : Fin 64) :
    refNorm g a (ix3 n h e) = hn (fun e => a (ix3 n h e)) (fun e => g (ix1 ⟨e.val, by omega⟩)) e := by
  unfold hn
  pointwise [refNorm]

theorem refK_apply (b : FVec Ideal S16384x16x64 .f32) (n : Fin 16384) (d : Fin 2048) :
    refK l b (ix2 n d) = if h : d.val % 128 < 64 then b (ix3 n ⟨d.val / 128, by omega⟩ ⟨d.val % 128, h⟩)
      else if d.val % 128 < 96 then l (ix2 n ⟨192 + d.val % 128 % 96, by omega⟩) else 0 := by
  pointwise [refK]
  split
  · rfl
  · rename_i h
    by_cases h96 : d.val % 128 < 96
    · rw [dif_pos (show d.val % 128 - 64 < 32 by omega), if_pos h96]
      exact congrArg (fun k => l (ix2 n k)) (Fin.ext (by simp only; omega))
    · rw [dif_neg (show ¬ d.val % 128 - 64 < 32 by omega), if_neg h96]

theorem refV_apply (p : FVec Ideal S16384x16x128 .f32) (n : Fin 16384) (d : Fin 1024) :
    refV p (ix2 n d) = p (ix3 n ⟨d.val / 64, by omega⟩ ⟨64 + d.val % 64, by omega⟩) := by
  pointwise [refV]

/-- The reference's keys are the expansion's. -/
theorem ref_k : refK l (refNorm g (extractStridedSlice S16384x16x64 ![0, 0, 0] (refProj l w) slices_S16384x16x128_S16384x16x64_0_0_0))
    = kArr l w g := by
  funext j
  obtain ⟨n, d, rfl⟩ : ∃ (n : Fin 16384) (d : Fin 2048), j = ix2 n d := ⟨j 0, j 1, Shared.pair_idx j⟩
  have hs : ∀ (h : Fin 16) (e : Fin 64), extractStridedSlice S16384x16x64 ![0, 0, 0] (refProj l w) slices_S16384x16x128_S16384x16x64_0_0_0
      (ix3 n h e) = refProj l w (ix3 n h ⟨e.val, by omega⟩) := by
    intro h e
    pointwise
  rw [refK_apply]
  simp only [refNorm_apply, hs, refProj_apply]
  rfl

/-- The reference's values are the expansion's. -/
theorem ref_v : refV (refProj l w) = vArr l w := by
  funext j
  obtain ⟨n, d, rfl⟩ : ∃ (n : Fin 16384) (d : Fin 1024), j = ix2 n d := ⟨j 0, j 1, Shared.pair_idx j⟩
  rw [refV_apply, refProj_apply]
  show _ = vRow (fun k => l (ix2 n k)) (fun k d => w (ix2 k d)) d
  unfold vRow
  refine Finset.sum_congr rfl fun k _ => ?_
  exact congrArg (fun d => l (ix2 n ⟨k.val, by omega⟩) * w (ix2 k d)) (Fin.ext (by simp only; omega))

end

/-- The kernel's two results are the reference's, whatever the arguments. -/
theorem algebraic : Cert.algebraic_MlaExpandIdeal_MlaExpandReferenceIdeal := by
  intro m ρ m' ρ' _ hagree
  refine ⟨fun c => kArr (argL m c) (argW m c) (argK m c), fun c => vArr (argL m c) (argW m c), ?_, ?_⟩
  · exact (θ_run Cert.MlaExpandIdeal.defs _ _).mono (fun _ h c => ⟨(h c).1.trans (final_k m c), (h c).2.1.trans (final_v m c), (h c).2.2⟩)
      (Cert.MlaExpandIdeal.Value.run_blocks (F := Ideal) m ρ)
  · refine (θ_run Cert.MlaExpandReferenceIdeal.defs _ _).mono (fun _ h c => ⟨(h c).1.trans ?_, (h c).2.1.trans ?_, (h c).2.2⟩)
      (Cert.MlaExpandReferenceIdeal.Value.run (F := Ideal) m' ρ')
    · rw [(hagree c).1, (hagree c).2.1, (hagree c).2.2]
      exact ref_k (argL m c) (argW m c) (argK m c)
    · rw [(hagree c).1, (hagree c).2.1]
      exact ref_v (argL m c) (argW m c)

end Cert.MlaExpand

end
-- ==== Proof.MlaProj.Spec.lean ====
/-
  The latent attention's projection: what it is of one row, head by head, and the same through lanes of two padded heads at once.
-/
module

public import proofs.«01_k».proof.Proof.MobaProj.Spec

@[expose] public section

set_option maxRecDepth 16384

noncomputable section

namespace Cert.MlaProj

open Idealize.ShloMosaic

/-! ## The function of one row -/

/-- A row divided by its root mean square and scaled by the gains; the word is the row's length. -/
def nrm {n : ℕ} (w : BitVec 32) (x g : Fin n → EReal) (k : Fin n) : EReal :=
  x k * Ideal.rsqrt (Ideal.div (∑ j, x j * x j) (Ideal.ofBits .f32 w) + Ideal.ofBits .f32 897988541#32) * g k

/-- Thirty-two coordinates rotated by their angles, the halves the pairs' coordinates. -/
def rot (y : Fin 32 → EReal) (c s : Fin 16 → EReal) (e : Fin 32) : EReal :=
  if h : e.val < 16 then y e * c ⟨e.val, h⟩ - y ⟨e.val + 16, by omega⟩ * s ⟨e.val, h⟩
  else y ⟨e.val - 16, by omega⟩ * s ⟨e.val - 16, by omega⟩ + y e * c ⟨e.val - 16, by omega⟩

/-- Coordinate `e` of a query head in its 128 lanes: 64 coordinates normed, 32 normed and rotated, 32 zeros. -/
def qHead (A g : Fin 96 → EReal) (c s : Fin 16 → EReal) (e : Fin 128) : EReal :=
  if h : e.val < 64 then nrm (n := 64) 1115684864#32 (fun e => A ⟨e.val, by omega⟩) (fun e => g ⟨e.val, by omega⟩) ⟨e.val, h⟩
  else if h' : e.val < 96 then
    rot (nrm (n := 32) 1107296256#32 (fun e => A ⟨64 + e.val, by omega⟩) fun e => g ⟨64 + e.val, by omega⟩) c s ⟨e.val - 64, by omega⟩
  else 0

/-- The latent query of a row. -/
def qLat (h : Fin 1024 → EReal) (W : Fin 1024 → Fin 672 → EReal) (g : Fin 384 → EReal) : Fin 384 → EReal :=
  nrm 1136656384#32 (fun e => ∑ k, h k * W k ⟨e.val, by omega⟩) g

/-- The queries of a row, scaled: sixteen heads of 128 lanes. -/
def qRow (cq : Fin 384 → EReal) (U : Fin 384 → Fin 1536 → EReal) (g : Fin 96 → EReal) (c s : Fin 16 → EReal) (d : Fin 2048) : EReal :=
  qHead (fun e => ∑ k, cq k * U k ⟨96 * (d.val / 128) + e.val, by omega⟩) g c s ⟨d.val % 128, Nat.mod_lt _ (by omega)⟩
    * Ideal.ofBits .f32 1037108716#32

/-- The latent key of a row and its rotated part. -/
def latRow (h : Fin 1024 → EReal) (W : Fin 1024 → Fin 672 → EReal) (gk : Fin 256 → EReal) (kn : Fin 96 → EReal) (c s : Fin 16 → EReal)
    (d : Fin 288) : EReal :=
  if hd : d.val < 256 then nrm 1132462080#32 (fun e => ∑ k, h k * W k ⟨384 + e.val, by omega⟩) gk ⟨d.val, hd⟩
  else rot (nrm (n := 32) 1107296256#32 (fun e => ∑ k, h k * W k ⟨640 + e.val, by omega⟩) fun e => kn ⟨64 + e.val, by omega⟩) c s
    ⟨d.val - 256, by omega⟩

/-! ## The same through lanes -/

/-- Two heads side by side: each lane divided by the root of its masked mean of squares, scaled, and rotated by lane turns. -/
def lane (C : Fin 384 → EReal) (U : Fin 384 → Fin 256 → EReal) (M : Fin 256 → Fin 256 → EReal) (g u c s : Fin 256 → EReal)
    (j : Fin 256) : EReal :=
  let y : Fin 256 → EReal := fun j => (∑ x, C x * U x j) *
    Ideal.rsqrt (∑ x, ((∑ k, C k * U k x) * ∑ k, C k * U k x) * M x j + Ideal.ofBits .f32 897988541#32) * g j
  y j * c j + (if Ideal.ofBits .f32 1056964608#32 < u j then y ⟨(j.val + 256 - 240) % 256, Nat.mod_lt _ (by omega)⟩
    else y ⟨(j.val + 256 - 16) % 256, Nat.mod_lt _ (by omega)⟩) * s j

/-- The rotated part of the key in 128 lanes. -/
def laneK (h : Fin 1024 → EReal) (W : Fin 1024 → Fin 128 → EReal) (g u c s : Fin 128 → EReal) (j : Fin 128) : EReal :=
  let y : Fin 128 → EReal := fun j => (∑ x, h x * W x j) *
    Ideal.rsqrt ((∑ x, ((∑ k, h k * W k x) * ∑ k, h k * W k x)) * Ideal.ofBits .f32 1023410176#32 + Ideal.ofBits .f32 897988541#32) * g j
  y j * c j + (if Ideal.ofBits .f32 1056964608#32 < u j then y ⟨(j.val + 128 - 112) % 128, Nat.mod_lt _ (by omega)⟩
    else y ⟨(j.val + 128 - 16) % 128, Nat.mod_lt _ (by omega)⟩) * s j

theorem ofBits_32 : Ideal.ofBits .f32 1107296256#32 = ((32 : ℝ) : EReal) := by
  simp [Ideal.ofBits, Ideal.ieee, -EReal.coe_mul]; norm_num
theorem ofBits_32nd : Ideal.ofBits .f32 1023410176#32 = ((1 / 32 : ℝ) : EReal) := by
  simp [Ideal.ofBits, Ideal.ieee, -EReal.coe_mul]; norm_num

theorem div_64 (S : EReal) : Ideal.div S (Ideal.ofBits .f32 1115684864#32) = S * Ideal.ofBits .f32 1015021568#32 := by
  have h0 : ((64 : ℝ) : EReal) ≠ 0 := by norm_num
  rw [MobaProj.ofBits_64, MobaProj.ofBits_64th, Ideal.div, if_neg h0, ← EReal.coe_inv]
  norm_num
theorem div_32 (S : EReal) : Ideal.div S (Ideal.ofBits .f32 1107296256#32) = S * Ideal.ofBits .f32 1023410176#32 := by
  have h0 : ((32 : ℝ) : EReal) ≠ 0 := by norm_num
  rw [ofBits_32, ofBits_32nd, Ideal.div, if_neg h0, ← EReal.coe_inv]
  norm_num

theorem half_lt_one : Ideal.ofBits .f32 1056964608#32 < 1 := by
  rw [MobaProj.ofBits_half]; exact_mod_cast (by norm_num : (1 / 2 : ℝ) < 1)
theorem not_half_lt_zero : ¬ Ideal.ofBits .f32 1056964608#32 < 0 := by
  rw [MobaProj.ofBits_half, not_lt]; exact_mod_cast (by norm_num : (0 : ℝ) ≤ 1 / 2)

/-- A sum over 256 lanes masked to the group of 32 holding lane `j`. -/
theorem sum_group32 (f : Fin 256 → EReal) (j : Fin 256) :
    (∑ x : Fin 256, if x.val / 32 = j.val / 32 then f x else 0) = ∑ e : Fin 32, f ⟨32 * (j.val / 32) + e.val, by omega⟩ := by
  rw [← (finProdFinEquiv (m := 8) (n := 32)).sum_comp, Fintype.sum_prod_type,
    Finset.sum_eq_single (⟨j.val / 32, by omega⟩ : Fin 8)]
  · refine Finset.sum_congr rfl fun e _ => ?_
    have : (finProdFinEquiv ((⟨j.val / 32, by omega⟩ : Fin 8), e)).val / 32 = j.val / 32 := by
      show (e.val + 32 * (j.val / 32)) / 32 = _
      omega
    rw [if_pos this]
    exact congrArg f (Fin.ext (Nat.add_comm _ _))
  · intro b _ hb
    refine Finset.sum_eq_zero fun e _ => if_neg fun h => hb (Fin.ext ?_)
    have : (e.val + 32 * b.val) / 32 = j.val / 32 := h
    show b.val = j.val / 32
    omega
  · exact fun h => absurd (Finset.mem_univ _) h

/-- The partner of lane `j` in the rotation of its 32 coordinates, `e` the coordinate. -/
theorem rot_eq (y : Fin 32 → EReal) (c s : Fin 16 → EReal) (e : Fin 32) (u a b p : EReal)
    (hu : u = if e.val < 16 then 1 else 0)
    (ha : ∀ h : e.val < 16, a = y ⟨e.val + 16, by omega⟩) (hb : ∀ h : ¬ e.val < 16, b = y ⟨e.val - 16, by omega⟩)
    (hp : p = if e.val < 16 then -s ⟨e.val % 16, Nat.mod_lt _ (by omega)⟩ else s ⟨e.val % 16, Nat.mod_lt _ (by omega)⟩) :
    y e * c ⟨e.val % 16, Nat.mod_lt _ (by omega)⟩ + (if Ideal.ofBits .f32 1056964608#32 < u then a else b) * p = rot y c s e := by
  unfold rot
  by_cases h : e.val < 16
  · have hm : (⟨e.val % 16, Nat.mod_lt _ (by omega)⟩ : Fin 16) = ⟨e.val, h⟩ := Fin.ext (Nat.mod_eq_of_lt h)
    rw [hu, hp, if_pos h, if_pos h, if_pos half_lt_one, dif_pos h, hm, ha h, mul_neg, sub_eq_add_neg]
  · have hm : (⟨e.val % 16, Nat.mod_lt _ (by omega)⟩ : Fin 16) = ⟨e.val - 16, by omega⟩ := Fin.ext (by show e.val % 16 = e.val - 16; omega)
    rw [hu, hp, if_neg h, if_neg h, if_neg not_half_lt_zero, dif_neg h, hm, hb h, add_comm]

/-- With the group masks, tables and gains of two padded heads side by side, a lane is its head's coordinate. -/
theorem lane_eq (C : Fin 384 → EReal) (U : Fin 384 → Fin 256 → EReal) (M : Fin 256 → Fin 256 → EReal) (g u c s : Fin 256 → EReal)
    (g' : Fin 96 → EReal) (c' s' : Fin 16 → EReal)
    (hM : ∀ x j : Fin 256, j.val % 128 < 64 → M x j = if x.val / 64 = j.val / 64 then Ideal.ofBits .f32 1015021568#32 else 0)
    (hM' : ∀ x j : Fin 256, 64 ≤ j.val % 128 → j.val % 128 < 96 → M x j = if x.val / 32 = j.val / 32 then Ideal.ofBits .f32 1023410176#32 else 0)
    (hg : ∀ j : Fin 256, g j = if h : j.val % 128 < 96 then g' ⟨j.val % 128, h⟩ else 0)
    (hu : ∀ j : Fin 256, u j = if 64 ≤ j.val % 128 ∧ j.val % 128 < 80 then 1 else 0)
    (hc : ∀ j : Fin 256, c j = if 64 ≤ j.val % 128 ∧ j.val % 128 < 96 then c' ⟨j.val % 16, Nat.mod_lt _ (by omega)⟩ else 1)
    (hs : ∀ j : Fin 256, s j = if 64 ≤ j.val % 128 ∧ j.val % 128 < 96 then
      (if j.val % 128 < 80 then -s' ⟨j.val % 16, Nat.mod_lt _ (by omega)⟩ else s' ⟨j.val % 16, Nat.mod_lt _ (by omega)⟩) else 0)
    (j : Fin 256) :
    lane C U M g u c s j
      = qHead (fun e => ∑ k, C k * U k ⟨128 * (j.val / 128) + e.val, by omega⟩) g' c' s' ⟨j.val % 128, Nat.mod_lt _ (by omega)⟩ := by
  have hy : ∀ (i : Fin 256) (e : Fin 64), i.val = 128 * (j.val / 128) + e.val →
      (∑ x, C x * U x i) * Ideal.rsqrt (∑ x, ((∑ k, C k * U k x) * ∑ k, C k * U k x) * M x i + Ideal.ofBits .f32 897988541#32) * g i
        = nrm (n := 64) 1115684864#32 (fun e => ∑ k, C k * U k ⟨128 * (j.val / 128) + e.val, by omega⟩) (fun e => g' ⟨e.val, by omega⟩) e := by
    intro i e hi
    have hd : ∀ e : Fin 64, (⟨64 * (i.val / 64) + e.val, by omega⟩ : Fin 256) = ⟨128 * (j.val / 128) + e.val, by omega⟩ :=
      fun e' => Fin.ext (by show 64 * (i.val / 64) + e'.val = 128 * (j.val / 128) + e'.val; omega)
    have hm : i.val % 128 < 64 := by omega
    have hA : (∑ x, C x * U x i) = ∑ k, C k * U k ⟨128 * (j.val / 128) + e.val, by omega⟩ :=
      Finset.sum_congr rfl fun k _ => congrArg (fun i => C k * U k i) (Fin.ext hi)
    have hge : g i = g' ⟨e.val, by omega⟩ := by
      rw [hg, dif_pos (by omega)]
      exact congrArg g' (Fin.ext (by show i.val % 128 = e.val; omega))
    unfold nrm
    rw [hge]
    simp only [hM _ i hm, mul_ite, mul_zero]
    rw [MobaProj.sum_group (fun x => ((∑ k, C k * U k x) * ∑ k, C k * U k x) * Ideal.ofBits .f32 1015021568#32) i]
    simp only [hd]
    rw [MobaProj.sum_sq_mul (fun e : Fin 64 => ∑ k, C k * U k ⟨128 * (j.val / 128) + e.val, by omega⟩), div_64, hA]
  have hy' : ∀ (i : Fin 256) (e : Fin 32), i.val = 128 * (j.val / 128) + (64 + e.val) →
      (∑ x, C x * U x i) * Ideal.rsqrt (∑ x, ((∑ k, C k * U k x) * ∑ k, C k * U k x) * M x i + Ideal.ofBits .f32 897988541#32) * g i
        = nrm (n := 32) 1107296256#32 (fun e => ∑ k, C k * U k ⟨128 * (j.val / 128) + (64 + e.val), by omega⟩)
            (fun e => g' ⟨64 + e.val, by omega⟩) e := by
    intro i e hi
    have hd : ∀ e : Fin 32, (⟨32 * (i.val / 32) + e.val, by omega⟩ : Fin 256) = ⟨128 * (j.val / 128) + (64 + e.val), by omega⟩ :=
      fun e' => Fin.ext (by show 32 * (i.val / 32) + e'.val = 128 * (j.val / 128) + (64 + e'.val); omega)
    have hA : (∑ x, C x * U x i) = ∑ k, C k * U k ⟨128 * (j.val / 128) + (64 + e.val), by omega⟩ :=
      Finset.sum_congr rfl fun k _ => congrArg (fun i => C k * U k i) (Fin.ext hi)
    have hge : g i = g' ⟨64 + e.val, by omega⟩ := by
      rw [hg, dif_pos (by omega)]
      exact congrArg g' (Fin.ext (by show i.val % 128 = 64 + e.val; omega))
    unfold nrm
    rw [hge]
    simp only [hM' _ i (by omega) (by omega), mul_ite, mul_zero]
    rw [sum_group32 (fun x => ((∑ k, C k * U k x) * ∑ k, C k * U k x) * Ideal.ofBits .f32 1023410176#32) i]
    simp only [hd]
    rw [MobaProj.sum_sq_mul (fun e : Fin 32 => ∑ k, C k * U k ⟨128 * (j.val / 128) + (64 + e.val), by omega⟩), div_32, hA]
  have hj : j.val < 256 := j.isLt
  unfold lane qHead
  dsimp only
  by_cases h1 : j.val % 128 < 64
  · have hc1 : c j = 1 := (hc j).trans (if_neg (by omega))
    have hs0 : s j = 0 := (hs j).trans (if_neg (by omega))
    rw [dif_pos h1, hc1, hs0, mul_zero, add_zero, mul_one]
    exact hy j ⟨j.val % 128, h1⟩ (by show _ = _ + j.val % 128; omega)
  · rw [dif_neg h1]
    by_cases h2 : j.val % 128 < 96
    · have he : (⟨j.val % 16, Nat.mod_lt _ (by omega)⟩ : Fin 16) = ⟨(j.val % 128 - 64) % 16, Nat.mod_lt _ (by omega)⟩ :=
        Fin.ext (by show j.val % 16 = (j.val % 128 - 64) % 16; omega)
      have hc1 : c j = c' ⟨(j.val % 128 - 64) % 16, Nat.mod_lt _ (by omega)⟩ := (hc j).trans ((if_pos (by omega)).trans (congrArg c' he))
      have hs1 := (hs j).trans (if_pos (by omega))
      rw [dif_pos h2, hc1, hs1, he, hu,
        hy' j ⟨j.val % 128 - 64, by omega⟩ (by show _ = _ + (64 + (j.val % 128 - 64)); omega)]
      refine rot_eq _ c' s' ⟨j.val % 128 - 64, by omega⟩ _ _ _ _ ?_ ?_ ?_ ?_
      · refine if_congr ?_ rfl rfl
        show _ ↔ j.val % 128 - 64 < 16
        omega
      · intro h
        have h : j.val % 128 - 64 < 16 := h
        exact hy' _ ⟨j.val % 128 - 64 + 16, by omega⟩ (by show (j.val + 256 - 240) % 256 = _ + (64 + (j.val % 128 - 64 + 16)); omega)
      · intro h
        have h : ¬ j.val % 128 - 64 < 16 := h
        exact hy' _ ⟨j.val % 128 - 64 - 16, by omega⟩ (by show (j.val + 256 - 16) % 256 = _ + (64 + (j.val % 128 - 64 - 16)); omega)
      · refine if_congr ?_ rfl rfl
        show _ ↔ j.val % 128 - 64 < 16
        omega
    · have hs0 : s j = 0 := (hs j).trans (if_neg (by omega))
      have hg0 : g j = 0 := (hg j).trans (dif_neg h2)
      rw [dif_neg h2, hs0, mul_zero, add_zero, hg0, mul_zero, zero_mul]

/-- With zero columns past the first 32, the first 32 lanes are the key's rotated part. -/
theorem laneK_eq (h : Fin 1024 → EReal) (W : Fin 1024 → Fin 128 → EReal) (g u c s : Fin 128 → EReal)
    (W' : Fin 1024 → Fin 32 → EReal) (g' : Fin 32 → EReal) (c' s' : Fin 16 → EReal)
    (hW : ∀ (k : Fin 1024) (e : Fin 32), W k ⟨e.val, by omega⟩ = W' k e)
    (hW0 : ∀ (k : Fin 1024) (j : Fin 128), 32 ≤ j.val → W k j = 0)
    (hg : ∀ e : Fin 32, g ⟨e.val, by omega⟩ = g' e)
    (hu : ∀ e : Fin 32, u ⟨e.val, by omega⟩ = if e.val < 16 then 1 else 0)
    (hc : ∀ e : Fin 32, c ⟨e.val, by omega⟩ = c' ⟨e.val % 16, Nat.mod_lt _ (by omega)⟩)
    (hs : ∀ e : Fin 32, s ⟨e.val, by omega⟩ = if e.val < 16 then -s' ⟨e.val % 16, Nat.mod_lt _ (by omega)⟩
      else s' ⟨e.val % 16, Nat.mod_lt _ (by omega)⟩)
    (e : Fin 32) :
    laneK h W g u c s ⟨e.val, by omega⟩ = rot (nrm (n := 32) 1107296256#32 (fun e => ∑ k, h k * W' k e) g') c' s' e := by
  have hsum : (∑ x : Fin 128, ((∑ k, h k * W k x) * ∑ k, h k * W k x)) = ∑ x : Fin 32, ((∑ k, h k * W' k x) * ∑ k, h k * W' k x) := by
    refine (Fin.sum_univ_add (a := 32) (b := 96) _).trans ?_
    have hz : (∑ i : Fin 96, ((∑ k, h k * W k (Fin.natAdd 32 i)) * ∑ k, h k * W k (Fin.natAdd 32 i))) = 0 := by
      refine Finset.sum_eq_zero fun i _ => ?_
      have : (∑ k, h k * W k (Fin.natAdd 32 i)) = 0 := Finset.sum_eq_zero fun k _ => by
        rw [hW0 k _ (by show 32 ≤ 32 + i.val; omega), mul_zero]
      rw [this, mul_zero]
    refine (congrArg₂ _ ?_ hz).trans (add_zero _)
    refine Finset.sum_congr rfl fun i _ => ?_
    have : (∑ k, h k * W k (Fin.castAdd 96 i)) = ∑ k, h k * W' k i := Finset.sum_congr rfl fun k _ => congrArg (h k * ·) (hW k i)
    rw [this]
  have hy : ∀ (i : Fin 128) (e : Fin 32), i.val = e.val →
      (∑ x, h x * W x i) * Ideal.rsqrt ((∑ x, ((∑ k, h k * W k x) * ∑ k, h k * W k x)) * Ideal.ofBits .f32 1023410176#32
        + Ideal.ofBits .f32 897988541#32) * g i
        = nrm (n := 32) 1107296256#32 (fun e => ∑ k, h k * W' k e) g' e := by
    intro i e hi
    have hi' : i = ⟨e.val, by omega⟩ := Fin.ext hi
    unfold nrm
    rw [hsum, div_32, hi', hg]
    simp only [hW]
  unfold laneK
  dsimp only
  rw [hc, hs, hu, hy _ e rfl]
  refine rot_eq _ c' s' e _ _ _ _ rfl ?_ ?_ rfl
  · intro h
    exact hy _ ⟨e.val + 16, by omega⟩ (by show (e.val + 128 - 112) % 128 = e.val + 16; omega)
  · intro h
    exact hy _ ⟨e.val - 16, by omega⟩ (by show (e.val + 128 - 16) % 128 = e.val - 16; omega)

end Cert.MlaProj

end
-- ==== Proof.MlaProj.Block.lean ====
/-
  One block of the kernel: its two results at a row, the queries as lanes of two padded heads, the latent key and its rotated part.
-/
module

public import proofs.«01_k».proof.Proof.Gen.MlaProjIdeal.Frame
public import proofs.«01_k».proof.Proof.MlaProj.Spec

@[expose] public section

set_option maxRecDepth 16384

noncomputable section

namespace Cert.MlaProj

open Idealize.ShloMosaic Idealize.ShloMosaic.TcCoe
open Cert.MlaProjIdeal Cert.MlaProjIdeal.Gen

/-! ## The vectors the block stores -/

theorem p13 (M : Vec Ideal S256x256 .bf16) : (k0_pay13 M : FVec Ideal S256x256 .bf16) = M := by
  funext y; obtain ⟨a, b, rfl⟩ : ∃ (a : Fin 256) (b : Fin 256), y = ix2 a b := ⟨y 0, y 1, Shared.pair_idx y⟩
  pointwise [k0_pay13]
theorem p14 (u : Vec Ideal S1x256 .f32) : (k0_pay14 u : FVec Ideal S1x256 .f32) = u := by
  funext y; obtain ⟨a, b, rfl⟩ : ∃ (a : Fin 1) (b : Fin 256), y = ix2 a b := ⟨y 0, y 1, Shared.pair_idx y⟩
  pointwise [k0_pay14]
theorem p15 (u : Vec Ideal S1x256 .f32) : (k0_pay15 u : FVec Ideal S1x256 .f32) = u := by
  funext y; obtain ⟨a, b, rfl⟩ : ∃ (a : Fin 1) (b : Fin 256), y = ix2 a b := ⟨y 0, y 1, Shared.pair_idx y⟩
  pointwise [k0_pay15]
theorem p16 (co : Vec Ideal S512x256 .f32) : (k0_pay16 co : FVec Ideal S512x256 .f32) = co := by
  funext y; obtain ⟨a, b, rfl⟩ : ∃ (a : Fin 512) (b : Fin 256), y = ix2 a b := ⟨y 0, y 1, Shared.pair_idx y⟩
  pointwise [k0_pay16]
theorem p17 (co : Vec Ideal S512x256 .f32) : (k0_pay17 co : FVec Ideal S512x256 .f32) = co := by
  funext y; obtain ⟨a, b, rfl⟩ : ∃ (a : Fin 512) (b : Fin 256), y = ix2 a b := ⟨y 0, y 1, Shared.pair_idx y⟩
  pointwise [k0_pay17]

section
variable (K : FVec Ideal S512x384 .bf16) (M : FVec Ideal S256x256 .bf16) (qg up : FVec Ideal S1x256 .f32) (co si : FVec Ideal S512x256 .f32)
  (w : Vec Ideal S384x256 .bf16) (r : Fin 512) (j : Fin 256)

/-- The lane function over the block's vectors at a row. -/
abbrev vlane : EReal :=
  lane (fun k => K (ix2 r k)) (fun k j => w (ix2 k j)) (fun x j => M (ix2 x j)) (fun j => qg (ix2 0 j)) (fun j => up (ix2 0 j))
    (fun j => co (ix2 r j)) (fun j => si (ix2 r j)) j

theorem pay1_apply : k0_pay1 K M qg up co si w (ix2 r j) = vlane K M qg up co si w r j * Ideal.ofBits .f32 1037108716#32 := by
  unfold vlane lane
  pointwise [k0_pay1]

theorem pay23_apply : k0_pay23 K M qg up co si w (ix2 r j) = vlane K M qg up co si w r j * Ideal.ofBits .f32 1037108716#32 := by
  unfold vlane lane
  pointwise [k0_pay23]

theorem pay29_apply : k0_pay29 K M qg up co si w (ix2 r j) = vlane K M qg up co si w r j * Ideal.ofBits .f32 1037108716#32 := by
  unfold vlane lane
  pointwise [k0_pay29]

theorem pay32_apply : k0_pay32 K M qg up co si w (ix2 r j) = vlane K M qg up co si w r j * Ideal.ofBits .f32 1037108716#32 := by
  unfold vlane lane
  pointwise [k0_pay32]

theorem pay31_apply :
    k0_pay31 qg up co si (k0_pay30 K M w) (ix2 r j) = vlane K M qg up co si w r j * Ideal.ofBits .f32 1037108716#32 := by
  unfold vlane lane
  pointwise [k0_pay31, k0_pay30]

theorem pay28_apply : k0_pay28 (k0_pay27 K M qg up co si w) (Scalar.ofBits .f32 0x3DD105EC#32) (ix2 r j)
    = vlane K M qg up co si w r j * Ideal.ofBits .f32 1037108716#32 := by
  unfold vlane lane
  pointwise [k0_pay28, k0_pay27]

theorem pay26_apply : k0_pay26 M qg up co si (k0_pay24 K w) (k0_pay25 K w) (constant S512x256 .f32 0x00000000#32) (ix2 r j)
    = vlane K M qg up co si w r j * Ideal.ofBits .f32 1037108716#32 := by
  unfold vlane lane
  pointwise [k0_pay26, k0_pay25, k0_pay24]

theorem pay22_apply : k0_pay22 co si (k0_pay18 K M qg w) (k0_pay19 K M qg w) (k0_pay20 K M qg w) (k0_pay21 (F := Ideal) up) (ix2 r j)
    = vlane K M qg up co si w r j * Ideal.ofBits .f32 1037108716#32 := by
  unfold vlane lane
  pointwise [k0_pay22, k0_pay18, k0_pay19, k0_pay20, k0_pay21, k0_pay13, k0_pay14, k0_pay15]

end

section
variable (x : Vec Ideal S512x1024 .f32) (g : Vec Ideal S1x1024 .f32) (r : Fin 512)

/-- The normed row `r` of a block. -/
abbrev hrow : Fin 1024 → EReal := nrm 1149239296#32 (fun k => x (ix2 r k)) fun k => g (ix2 0 k)

theorem pay2_apply (k : Fin 1024) : k0_pay2 x g (ix2 r k) = hrow x g r k := by
  unfold hrow nrm
  pointwise [k0_pay2]

theorem pay3_apply (w : Vec Ideal S1024x384 .bf16) (q : Vec Ideal S1x384 .f32) (e : Fin 384) : k0_pay3 x g w q (ix2 r e)
    = nrm 1136656384#32 (fun e => ∑ k, hrow x g r k * w (ix2 k e)) (fun e => q (ix2 0 e)) e := by
  have h : ∀ k, k0_pay2 x g (ix2 r k) = hrow x g r k := pay2_apply x g r
  generalize hp : k0_pay2 x g = p at h
  unfold nrm
  pointwise [k0_pay3, hp]
  simp only [h]

theorem pay5_apply (w : Vec Ideal S1024x256 .bf16) (q : Vec Ideal S1x256 .f32) (e : Fin 256) : k0_pay5 (k0_pay4 x g w) q (ix2 r e)
    = nrm 1132462080#32 (fun e => ∑ k, hrow x g r k * w (ix2 k e)) (fun e => q (ix2 0 e)) e := by
  have h : ∀ k, k0_pay2 x g (ix2 r k) = hrow x g r k := pay2_apply x g r
  generalize hp : k0_pay2 x g = p at h
  unfold nrm
  pointwise [k0_pay5, k0_pay4, hp]
  simp only [h]

theorem pay12_apply (h : FVec Ideal S512x1024 .bf16) (w : Vec Ideal S1024x128 .bf16) (q u : Vec Ideal S1x128 .f32)
    (co si : Vec Ideal S512x128 .f32) (e : Fin 32) :
    k0_pay12 (k0_pay6 h w q) (k0_pay7 co) (k0_pay8 si) (k0_pay9 h w q) (k0_pay10 h w q) (k0_pay11 u) (ix2 r e)
      = laneK (fun k => h (ix2 r k)) (fun k j => w (ix2 k j)) (fun j => q (ix2 0 j)) (fun j => u (ix2 0 j)) (fun j => co (ix2 r j))
        (fun j => si (ix2 r j)) ⟨e.val, by omega⟩ := by
  unfold laneK
  pointwise [k0_pay12, k0_pay6, k0_pay7, k0_pay8, k0_pay9, k0_pay10, k0_pay11]

end

/-! ## The block's results -/

section
variable (x : Vec Ideal S512x1024 .f32) (g : Vec Ideal S1x1024 .f32) (W : Vec Ideal S1024x768 .bf16) (U : Vec Ideal S384x2048 .bf16)
  (M : Vec Ideal S256x256 .bf16) (C : Vec Ideal S8x384 .f32) (co si : Vec Ideal S512x256 .f32) (ck sk : Vec Ideal S512x128 .f32) (r : Fin 512)

/-- The window of 256 columns of the expansion at column `n`. -/
theorem cols_apply (n : ℕ) (hn : n + 256 ≤ 2048) (inb) (k : Fin 384) (j : Fin 256) :
    View.ld U (Rect.unit (s := S384x2048) ![0, n] S384x256.size inb) (ix2 k j) = U (ix2 k ⟨n + j.val, by omega⟩) :=
  Shared.window_apply U ![0, n] inb k j k ⟨n + j.val, by omega⟩ (Nat.zero_add _).symm rfl

/-- The windows of the weights. -/
theorem w384_apply (inb) (k : Fin 1024) (j : Fin 384) :
    View.ld W (Rect.unit (s := S1024x768) ![0, 0] S1024x384.size inb) (ix2 k j) = W (ix2 k ⟨j.val, by omega⟩) :=
  Shared.window_apply W ![0, 0] inb k j k ⟨j.val, by omega⟩ (Nat.zero_add _).symm (Nat.zero_add _).symm
theorem w256_apply (inb) (k : Fin 1024) (j : Fin 256) :
    View.ld W (Rect.unit (s := S1024x768) ![0, 384] S1024x256.size inb) (ix2 k j) = W (ix2 k ⟨384 + j.val, by omega⟩) :=
  Shared.window_apply W ![0, 384] inb k j k ⟨384 + j.val, by omega⟩ (Nat.zero_add _).symm rfl
theorem w128_apply (inb) (k : Fin 1024) (j : Fin 128) :
    View.ld W (Rect.unit (s := S1024x768) ![0, 640] S1024x128.size inb) (ix2 k j) = W (ix2 k ⟨640 + j.val, by omega⟩) :=
  Shared.window_apply W ![0, 640] inb k j k ⟨640 + j.val, by omega⟩ (Nat.zero_add _).symm rfl

/-- The first places of a row of the constants. -/
theorem c384_apply (inb) (j : Fin 384) :
    View.ld C (Rect.unit (s := S8x384) ![0, 0] S1x384.size inb) (ix2 0 j) = C (ix2 0 j) :=
  Shared.window_apply C ![0, 0] inb 0 j 0 j rfl (Nat.zero_add _).symm
theorem c256_apply (n : ℕ) (hn : n < 8) (inb) (j : Fin 256) :
    View.ld C (Rect.unit (s := S8x384) ![n, 0] S1x256.size inb) (ix2 0 j) = C (ix2 ⟨n, hn⟩ ⟨j.val, by omega⟩) :=
  Shared.window_apply C ![n, 0] inb 0 j ⟨n, hn⟩ ⟨j.val, by omega⟩ rfl (Nat.zero_add _).symm
theorem c128_apply (n : ℕ) (hn : n < 8) (inb) (j : Fin 128) :
    View.ld C (Rect.unit (s := S8x384) ![n, 0] S1x128.size inb) (ix2 0 j) = C (ix2 ⟨n, hn⟩ ⟨j.val, by omega⟩) :=
  Shared.window_apply C ![n, 0] inb 0 j ⟨n, hn⟩ ⟨j.val, by omega⟩ rfl (Nat.zero_add _).symm

/-- The latent query of row `r`. -/
def bK : Fin 384 → EReal :=
  nrm 1136656384#32 (fun e => ∑ k, hrow x g r k * W (ix2 k ⟨e.val, by omega⟩)) fun e => C (ix2 0 e)

/-- The lanes of the 256 columns of the expansion at column `n`. -/
def blane (n : ℕ) (hn : n + 256 ≤ 2048) (j : Fin 256) : EReal :=
  lane (bK x g W C r) (fun k j => U (ix2 k ⟨n + j.val, by omega⟩)) (fun x j => M (ix2 x j))
    (fun j => C (ix2 4 ⟨j.val, by omega⟩)) (fun j => C (ix2 5 ⟨j.val, by omega⟩)) (fun j => co (ix2 r j)) (fun j => si (ix2 r j)) j

theorem vlane_eq (n : ℕ) (hn : n + 256 ≤ 2048) (i1 i2 i3 i4 i5) (j : Fin 256) :
    vlane (k0_pay3 x g (View.ld W (Rect.unit (s := S1024x768) ![0, 0] S1024x384.size i1))
        (View.ld C (Rect.unit (s := S8x384) ![0, 0] S1x384.size i2))) M
        (View.ld C (Rect.unit (s := S8x384) ![4, 0] S1x256.size i3)) (View.ld C (Rect.unit (s := S8x384) ![5, 0] S1x256.size i4)) co si
        (View.ld U (Rect.unit (s := S384x2048) ![0, n] S384x256.size i5)) r j
      = blane x g W U M C co si r n hn j := by
  have e4 : ∀ j : Fin 256, View.ld C (Rect.unit (s := S8x384) ![4, 0] S1x256.size i3) (ix2 0 j) = C (ix2 4 ⟨j.val, by omega⟩) :=
    c256_apply C 4 (by omega) i3
  have e5 : ∀ j : Fin 256, View.ld C (Rect.unit (s := S8x384) ![5, 0] S1x256.size i4) (ix2 0 j) = C (ix2 5 ⟨j.val, by omega⟩) :=
    c256_apply C 5 (by omega) i4
  have ew : ∀ (k : Fin 1024) (j : Fin 384), View.ld W (Rect.unit (s := S1024x768) ![0, 0] ![1024, 384] i1) (ix2 k j)
      = W (ix2 k ⟨j.val, by omega⟩) := w384_apply W i1
  have e0 : ∀ j : Fin 384, View.ld C (Rect.unit (s := S8x384) ![0, 0] ![1, 384] i2) (ix2 0 j) = C (ix2 0 j) := c384_apply C i2
  unfold vlane blane bK
  simp only [pay3_apply, cols_apply U n hn i5, ew, e0, e4, e5]

/-- The block's queries. -/
def qBlk : Vec Ideal S512x2048 .bf16 := fun y =>
  blane x g W U M C co si (y 0) (256 * ((y 1).val / 256)) (by have : (y 1).val < 2048 := (y 1).isLt; omega)
    ⟨(y 1).val % 256, Nat.mod_lt _ (by omega)⟩ * Ideal.ofBits .f32 1037108716#32

/-- The block's latent keys and their rotated parts. -/
def latBlk : Vec Ideal S512x288 .f32 := fun y =>
  if h : (y 1).val < 256 then
    nrm 1132462080#32 (fun e => ∑ k, hrow x g (y 0) k * W (ix2 k ⟨384 + e.val, by omega⟩)) (fun e => C (ix2 1 ⟨e.val, by omega⟩)) ⟨(y 1).val, h⟩
  else laneK (hrow x g (y 0)) (fun k j => W (ix2 k ⟨640 + j.val, by omega⟩)) (fun j => C (ix2 2 ⟨j.val, by omega⟩))
    (fun j => C (ix2 3 ⟨j.val, by omega⟩)) (fun j => ck (ix2 (y 0) j)) (fun j => sk (ix2 (y 0) j))
    ⟨(y 1).val - 256, by have : (y 1).val < 288 := (y 1).isLt; omega⟩

/-- A block's queries at the place a window of 256 columns at a multiple of 256 reads. -/
theorem qBlk_at (n : ℕ) (hn : n + 256 ≤ 2048) (hm : n % 256 = 0) (y : S512x2048.Idx) (j : Fin 256) (h0 : (y 0).val = r.val)
    (h1 : (y 1).val = n + j.val) :
    qBlk x g W U M C co si y = blane x g W U M C co si r n hn j * Ideal.ofBits .f32 1037108716#32 := by
  have e0 : y 0 = r := Fin.ext h0
  unfold qBlk
  have e1 : 256 * ((y 1).val / 256) = n := by omega
  have e2 : (⟨(y 1).val % 256, Nat.mod_lt _ (by omega)⟩ : Fin 256) = j := Fin.ext (by show (y 1).val % 256 = j.val; omega)
  rw [e2, e0]
  simp only [e1]

theorem latBlk_key (y : S512x288.Idx) (e : Fin 256) (h0 : (y 0).val = r.val) (h1 : (y 1).val = e.val) : latBlk x g W C ck sk y
    = nrm 1132462080#32 (fun e => ∑ k, hrow x g r k * W (ix2 k ⟨384 + e.val, by omega⟩)) (fun e => C (ix2 1 ⟨e.val, by omega⟩)) e := by
  have e0 : y 0 = r := Fin.ext h0
  unfold latBlk
  have e1 : (y 1).val < 256 := by omega
  have e2 : (⟨(y 1).val, e1⟩ : Fin 256) = e := Fin.ext h1
  rw [dif_pos e1, e2, e0]

theorem latBlk_rot (y : S512x288.Idx) (e : Fin 32) (h0 : (y 0).val = r.val) (h1 : (y 1).val = 256 + e.val) : latBlk x g W C ck sk y
    = laneK (hrow x g r) (fun k j => W (ix2 k ⟨640 + j.val, by omega⟩)) (fun j => C (ix2 2 ⟨j.val, by omega⟩))
      (fun j => C (ix2 3 ⟨j.val, by omega⟩)) (fun j => ck (ix2 r j)) (fun j => sk (ix2 r j)) ⟨e.val, by omega⟩ := by
  have e0 : y 0 = r := Fin.ext h0
  unfold latBlk
  have e1 : ¬ (y 1).val < 256 := by omega
  have e2 : (y 1).val - 256 = e.val := by omega
  rw [dif_neg e1, e0]
  simp only [e2]

section
variable (c : Dev nD) (i : grid0.Coords)
  (arg1 : Memref sig .tc .vmem S512x1024 .f32) (harg1 : arg1.IsWhole)
  (arg2 : Memref sig .tc .vmem S1x1024 .f32) (harg2 : arg2.IsWhole)
  (arg3 : Memref sig .tc .vmem S1024x768 .bf16) (harg3 : arg3.IsWhole)
  (arg4 : Memref sig .tc .vmem S384x2048 .bf16) (harg4 : arg4.IsWhole)
  (arg5 : Memref sig .tc .vmem S256x256 .bf16) (harg5 : arg5.IsWhole)
  (arg6 : Memref sig .tc .vmem S8x384 .f32) (harg6 : arg6.IsWhole)
  (arg7 : Memref sig .tc .vmem S512x256 .f32) (harg7 : arg7.IsWhole)
  (arg8 : Memref sig .tc .vmem S512x256 .f32) (harg8 : arg8.IsWhole)
  (arg9 : Memref sig .tc .vmem S512x128 .f32) (harg9 : arg9.IsWhole)
  (arg10 : Memref sig .tc .vmem S512x128 .f32) (harg10 : arg10.IsWhole)
  (arg11 : Memref sig .tc .vmem S512x2048 .bf16) (harg11 : arg11.IsWhole)
  (arg12 : Memref sig .tc .vmem S512x288 .f32) (harg12 : arg12.IsWhole)

theorem out10_eq : out0_A_10 c i arg1 harg1 arg2 harg2 arg3 harg3 arg4 harg4 arg5 harg5 arg6 harg6 arg7 harg7 arg8 harg8 arg9 harg9 arg10 harg10 arg11 harg11 arg12 harg12 x g W U M C co si ck sk = qBlk x g W U M C co si := by
  have hx : ∀ inb, View.ld x (Rect.unit (s := S512x1024) ![0, 0] S512x1024.size inb) = x := fun _ => Shared.window_whole x _ rfl rfl _
  have hg : ∀ inb, View.ld g (Rect.unit (s := S1x1024) ![0, 0] S1x1024.size inb) = g := fun _ => Shared.window_whole g _ rfl rfl _
  have hM : ∀ inb, View.ld M (Rect.unit (s := S256x256) ![0, 0] S256x256.size inb) = M := fun _ => Shared.window_whole M _ rfl rfl _
  have hco : ∀ inb, View.ld co (Rect.unit (s := S512x256) ![0, 0] S512x256.size inb) = co := fun _ => Shared.window_whole co _ rfl rfl _
  have hsi : ∀ inb, View.ld si (Rect.unit (s := S512x256) ![0, 0] S512x256.size inb) = si := fun _ => Shared.window_whole si _ rfl rfl _
  funext y
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 x g W U M C co si ck sk)]
  refine View.canon_apply_of_pieces _ _ ?_ y (cover0_A_10 c i arg1 harg1 arg2 harg2 arg3 harg3 arg4 harg4 arg5 harg5 arg6 harg6 arg7 harg7 arg8 harg8 arg9 harg9 arg10 harg10 arg11 harg11 arg12 harg12 x g W U M C co si ck sk y)
  unfold kernelRun0_A
  dsimp only [kernelRun0_A.sl.r_24, kernelRun0_A.sl.r_23, kernelRun0_A.sl.r_22, kernelRun0_A.sl.r_21, kernelRun0_A.sl.r_20, kernelRun0_A.sl.r_19, kernelRun0_A.sl.r_18, kernelRun0_A.sl.r_17, kernelRun0_A.sl.r_16, kernelRun0_A.sl.r_15, kernelRun0_A.sl.r_14, kernelRun0_A.sl.r_13, kernelRun0_A.sl.r_12, kernelRun0_A.sl.r_11, kernelRun0_A.sl.r_10, kernelRun0_A.sl.r_9, kernelRun0_A.sl.r_8, kernelRun0_A.sl.r_7, kernelRun0_A.sl.r_6, kernelRun0_A.sl.r_5, kernelRun0_A.sl.r_4, kernelRun0_A.sl.r_3, kernelRun0_A.sl.r_2, kernelRun0_A.sl.r_1, kernelRun0_A.sl.r, kernelRun0_A.sl.cst_65, kernelRun0_A.sl.cst_80]
  simp only [View.readAt_eq_ld, harg1.read_unread, harg2.read_unread, harg3.read_unread, harg4.read_unread, harg5.read_unread, harg6.read_unread, harg7.read_unread, harg8.read_unread, harg9.read_unread, harg10.read_unread,
    hx, hg, hM, hco, hsi, p13, p14, p15, p16, p17]
  intro p hp
  simp only [List.mem_cons, List.not_mem_nil, or_false] at hp
  rcases hp with rfl | rfl | rfl | rfl | rfl | rfl | rfl | rfl <;> intro z <;>
    obtain ⟨r, j, rfl⟩ : ∃ (r : Fin 512) (j : Fin 256), z = ix2 r j := ⟨z 0, z 1, Shared.pair_idx z⟩
  · refine (pay1_apply _ _ _ _ _ _ _ r j).trans ?_
    rw [qBlk_at x g W U M C co si r 1792 (by omega) (by omega) _ j (by show 0 + 1 * r.val = _; omega) (by show 1792 + 1 * j.val = _; omega)]
    exact congrArg (· * _) (vlane_eq x g W U M C co si r 1792 (by omega) _ _ _ _ _ j)
  · refine (pay32_apply _ _ _ _ _ _ _ r j).trans ?_
    rw [qBlk_at x g W U M C co si r 1536 (by omega) (by omega) _ j (by show 0 + 1 * r.val = _; omega) (by show 1536 + 1 * j.val = _; omega)]
    exact congrArg (· * _) (vlane_eq x g W U M C co si r 1536 (by omega) _ _ _ _ _ j)
  · refine (pay31_apply _ _ _ _ _ _ _ r j).trans ?_
    rw [qBlk_at x g W U M C co si r 1280 (by omega) (by omega) _ j (by show 0 + 1 * r.val = _; omega) (by show 1280 + 1 * j.val = _; omega)]
    exact congrArg (· * _) (vlane_eq x g W U M C co si r 1280 (by omega) _ _ _ _ _ j)
  · refine (pay29_apply _ _ _ _ _ _ _ r j).trans ?_
    rw [qBlk_at x g W U M C co si r 1024 (by omega) (by omega) _ j (by show 0 + 1 * r.val = _; omega) (by show 1024 + 1 * j.val = _; omega)]
    exact congrArg (· * _) (vlane_eq x g W U M C co si r 1024 (by omega) _ _ _ _ _ j)
  · refine (pay28_apply _ _ _ _ _ _ _ r j).trans ?_
    rw [qBlk_at x g W U M C co si r 768 (by omega) (by omega) _ j (by show 0 + 1 * r.val = _; omega) (by show 768 + 1 * j.val = _; omega)]
    exact congrArg (· * _) (vlane_eq x g W U M C co si r 768 (by omega) _ _ _ _ _ j)
  · refine (pay26_apply _ _ _ _ _ _ _ r j).trans ?_
    rw [qBlk_at x g W U M C co si r 512 (by omega) (by omega) _ j (by show 0 + 1 * r.val = _; omega) (by show 512 + 1 * j.val = _; omega)]
    exact congrArg (· * _) (vlane_eq x g W U M C co si r 512 (by omega) _ _ _ _ _ j)
  · refine (pay23_apply _ _ _ _ _ _ _ r j).trans ?_
    rw [qBlk_at x g W U M C co si r 256 (by omega) (by omega) _ j (by show 0 + 1 * r.val = _; omega) (by show 256 + 1 * j.val = _; omega)]
    exact congrArg (· * _) (vlane_eq x g W U M C co si r 256 (by omega) _ _ _ _ _ j)
  · refine (pay22_apply _ _ _ _ _ _ _ r j).trans ?_
    rw [qBlk_at x g W U M C co si r 0 (by omega) (by omega) _ j (by show 0 + 1 * r.val = _; omega) (by show 0 + 1 * j.val = _; omega)]
    exact congrArg (· * _) (vlane_eq x g W U M C co si r 0 (by omega) _ _ _ _ _ j)

theorem out11_eq : out0_A_11 c i arg1 harg1 arg2 harg2 arg3 harg3 arg4 harg4 arg5 harg5 arg6 harg6 arg7 harg7 arg8 harg8 arg9 harg9 arg10 harg10 arg11 harg11 arg12 harg12 x g W U M C co si ck sk = latBlk x g W C ck sk := by
  have hx : ∀ inb, View.ld x (Rect.unit (s := S512x1024) ![0, 0] S512x1024.size inb) = x := fun _ => Shared.window_whole x _ rfl rfl _
  have hg : ∀ inb, View.ld g (Rect.unit (s := S1x1024) ![0, 0] S1x1024.size inb) = g := fun _ => Shared.window_whole g _ rfl rfl _
  have hco : ∀ inb, View.ld ck (Rect.unit (s := S512x128) ![0, 0] S512x128.size inb) = ck := fun _ => Shared.window_whole ck _ rfl rfl _
  have hsi : ∀ inb, View.ld sk (Rect.unit (s := S512x128) ![0, 0] S512x128.size inb) = sk := fun _ => Shared.window_whole sk _ rfl rfl _
  funext y
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 x g W U M C co si ck sk)]
  refine View.canon_apply_of_pieces _ _ ?_ y (cover0_A_11 c i arg1 harg1 arg2 harg2 arg3 harg3 arg4 harg4 arg5 harg5 arg6 harg6 arg7 harg7 arg8 harg8 arg9 harg9 arg10 harg10 arg11 harg11 arg12 harg12 x g W U M C co si ck sk y)
  unfold kernelRun0_A
  dsimp only [kernelRun0_A.sl.r_10, kernelRun0_A.sl.r_9, kernelRun0_A.sl.r_8, kernelRun0_A.sl.r_7, kernelRun0_A.sl.r_6, kernelRun0_A.sl.r_5, kernelRun0_A.sl.r_4, kernelRun0_A.sl.r_3, kernelRun0_A.sl.r_2, kernelRun0_A.sl.r_1, kernelRun0_A.sl.r]
  simp only [View.readAt_eq_ld, harg1.read_unread, harg2.read_unread, harg3.read_unread, harg4.read_unread, harg5.read_unread, harg6.read_unread, harg7.read_unread, harg8.read_unread, harg9.read_unread, harg10.read_unread,
    hx, hg, hco, hsi]
  intro p hp
  simp only [List.mem_cons, List.not_mem_nil, or_false] at hp
  rcases hp with rfl | rfl <;> intro z
  · obtain ⟨r, j, rfl⟩ : ∃ (r : Fin 512) (j : Fin 32), z = ix2 r j := ⟨z 0, z 1, Shared.pair_idx z⟩
    refine (pay12_apply r _ _ _ _ _ _ j).trans ?_
    rw [latBlk_rot x g W C ck sk r _ j (by show 0 + 1 * r.val = _; omega) (by show 256 + 1 * j.val = _; omega)]
    have e2 : ∀ inb, ∀ j : Fin 128, View.ld C (Rect.unit (s := S8x384) ![2, 0] S1x128.size inb) (ix2 0 j) = C (ix2 2 ⟨j.val, by omega⟩) :=
      c128_apply C 2 (by omega)
    have e3 : ∀ inb, ∀ j : Fin 128, View.ld C (Rect.unit (s := S8x384) ![3, 0] S1x128.size inb) (ix2 0 j) = C (ix2 3 ⟨j.val, by omega⟩) :=
      c128_apply C 3 (by omega)
    have ew : ∀ inb, ∀ (k : Fin 1024) (j : Fin 128), View.ld W (Rect.unit (s := S1024x768) ![0, 640] ![1024, 128] inb) (ix2 k j)
        = W (ix2 k ⟨640 + j.val, by omega⟩) := w128_apply W
    simp only [pay2_apply, ew, e2, e3]
  · obtain ⟨r, j, rfl⟩ : ∃ (r : Fin 512) (j : Fin 256), z = ix2 r j := ⟨z 0, z 1, Shared.pair_idx z⟩
    refine (pay5_apply x g r _ _ j).trans ?_
    rw [latBlk_key x g W C ck sk r _ j (by show 0 + 1 * r.val = _; omega) (by show 0 + 1 * j.val = _; omega)]
    have e1 : ∀ inb, ∀ j : Fin 256, View.ld C (Rect.unit (s := S8x384) ![1, 0] S1x256.size inb) (ix2 0 j) = C (ix2 1 ⟨j.val, by omega⟩) :=
      c256_apply C 1 (by omega)
    have ew : ∀ inb, ∀ (k : Fin 1024) (j : Fin 256), View.ld W (Rect.unit (s := S1024x768) ![0, 384] ![1024, 256] inb) (ix2 k j)
        = W (ix2 k ⟨384 + j.val, by omega⟩) := w256_apply W
    simp only [ew, e1]

end

end

end Cert.MlaProj

end
-- ==== Proof.MlaProj.Host.lean ====
/-
  What the host hands the kernel: the weights with columns of zeros behind, the expansion's columns gathered into padded heads, the gains and
  masks as rows of constants, the group means' matrix, and the tables laid out over lanes.
-/
module

public import proofs.«01_k».proof.Proof.Gen.MlaProjIdeal.Frame
public import proofs.«01_k».proof.Proof.MlaProj.Spec
public import proofs.«01_k».proof.Proof.MobaProj.Host
public import Idealize.ShloMosaic.Lib.Routing.OpsPair

@[expose] public section

set_option maxRecDepth 16384

noncomputable section

namespace Cert.MlaProj

open Cert.MobaProj (foldl_land group_word)
open Cert.MlaProjIdeal Cert.MlaProjIdeal.Gen Idealize.ShloMosaic Idealize.ShloMosaic.TcCoe Idealize.SL.Sem

variable (m : (ℓ : Loc nD τ sig) → Buf (Elt Ideal) ℓ) (c : Dev nD)

/-- The ten argument arrays. -/
abbrev argX : FVec Ideal S8x2048x1024 .f32 := m ((c : Thread nD τ).loc main_arg0)
abbrev argG : FVec Ideal S1024 .f32 := m ((c : Thread nD τ).loc main_arg1)
abbrev argW : FVec Ideal S1024x672 .f32 := m ((c : Thread nD τ).loc main_arg2)
abbrev argGq : FVec Ideal S384 .f32 := m ((c : Thread nD τ).loc main_arg3)
abbrev argGk : FVec Ideal S256 .f32 := m ((c : Thread nD τ).loc main_arg4)
abbrev argU : FVec Ideal S384x1536 .f32 := m ((c : Thread nD τ).loc main_arg5)
abbrev argQ : FVec Ideal S96 .f32 := m ((c : Thread nD τ).loc main_arg6)
abbrev argK : FVec Ideal S96 .f32 := m ((c : Thread nD τ).loc main_arg7)
abbrev argC : FVec Ideal S2048x16 .f32 := m ((c : Thread nD τ).loc main_arg8)
abbrev argS : FVec Ideal S2048x16 .f32 := m ((c : Thread nD τ).loc main_arg9)

/-! ## The rows and the tables -/

theorem rows_apply (n : Fin 16384) (k : Fin 1024) :
    V m c main_v0 (ix2 n k) = argX m c (ix3 ⟨n.val / 2048, by omega⟩ ⟨n.val % 2048, Nat.mod_lt _ (by omega)⟩ k) := by
  have e : V m c main_v0 = shapeCast S16384x1024 (argX m c) shapeCasts_S8x2048x1024_S16384x1024 := by
    dsimp only [V, hostOps0, hostOps0_1, hostOps0_2, hostOps0_3, hostOps0_4, hostOps0_5, hostOps0_6, List.flatten_cons, List.flatten_nil,
      List.append_nil, List.cons_append, List.nil_append]
    after_results <;> rfl
  rw [e]
  pointwise

theorem gains_apply (k : Fin 1024) : V m c main_v1 (ix2 0 k) = argG m c (ix1 k) := by
  have e : V m c main_v1 = shapeCast S1x1024 (argG m c) shapeCasts_S1024_S1x1024 := by
    dsimp only [V, hostOps0, hostOps0_1, hostOps0_2, hostOps0_3, hostOps0_4, hostOps0_5, hostOps0_6, List.flatten_cons, List.flatten_nil,
      List.append_nil, List.cons_append, List.nil_append]
    after_results <;> rfl
  rw [e]
  pointwise

/-- A table over the lanes of two padded heads, from its parts. -/
def wideTable (a : FVec Ideal S2048x64 .f32) (p q : FVec Ideal S2048x16 .f32) (b : FVec Ideal S2048x32 .f32) : FVec Ideal S2048x256 .f32 :=
  shapeCast S2048x256 (broadcastInDim S1x2048x2x128 ![0, 1, 2, 3] bcast_S1x2048x1x128_S1x2048x2x128_0_1_2_3
    (shapeCast S1x2048x1x128 (concatenate S2048x128 1 [⟨S2048x64, a⟩, ⟨S2048x16, p⟩, ⟨S2048x16, q⟩, ⟨S2048x32, b⟩]
      concatenates_S2048x64_S2048x16_S2048x16_S2048x32_S2048x128_d1) shapeCasts_S2048x128_S1x2048x1x128)) shapeCasts_S1x2048x2x128_S2048x256

theorem wideTable_apply (a : FVec Ideal S2048x64 .f32) (p q : FVec Ideal S2048x16 .f32) (b : FVec Ideal S2048x32 .f32) (z : EReal)
    (ha : ∀ i, a i = z) (hb : ∀ i, b i = z) (n : Fin 2048) (j : Fin 256) : wideTable a p q b (ix2 n j)
      = if 64 ≤ j.val % 128 ∧ j.val % 128 < 96 then (if j.val % 128 < 80 then p (ix2 n ⟨j.val % 16, Nat.mod_lt _ (by omega)⟩)
        else q (ix2 n ⟨j.val % 16, Nat.mod_lt _ (by omega)⟩)) else z := by
  have hj := j.isLt
  by_cases h1 : 64 ≤ j.val % 128 ∧ j.val % 128 < 96
  · rw [if_pos h1]
    by_cases h2 : j.val % 128 < 80
    · rw [if_pos h2]
      pointwise [wideTable]
      rw [dif_neg (by omega), dif_pos (by omega)]
      exact congrArg (fun d => p (ix2 n d)) (Fin.ext (by simp only; omega))
    · rw [if_neg h2]
      pointwise [wideTable]
      rw [dif_neg (by omega), dif_neg (by omega), dif_pos (by omega)]
      exact congrArg (fun d => q (ix2 n d)) (Fin.ext (by simp only; omega))
  · rw [if_neg h1]
    pointwise [wideTable]
    by_cases h2 : j.val % 128 < 64
    · rw [dif_pos (by omega)]
      exact ha _
    · rw [dif_neg (by omega), dif_neg (by omega), dif_neg (by omega)]
      exact hb _

/-- Ones and zeros at any index. -/
theorem one_word : Ideal.ofBits .f32 0x3F800000#32 = 1 := by
  simp [Ideal.ofBits, Ideal.ieee, -EReal.coe_mul]
  norm_num
theorem zero_word : Ideal.ofBits .f32 0x00000000#32 = 0 := by
  simp [Ideal.ofBits, Ideal.ieee, -EReal.coe_mul]

theorem cosq_apply (n : Fin 2048) (j : Fin 256) : V m c main_v18 (ix2 n j)
    = if 64 ≤ j.val % 128 ∧ j.val % 128 < 96 then argC m c (ix2 n ⟨j.val % 16, Nat.mod_lt _ (by omega)⟩) else 1 := by
  have e : V m c main_v18 = wideTable (broadcastInDim S2048x64 ![] bcast_S_S2048x64 (constant (F := Ideal) S_ .f32 0x3F800000#32)) (argC m c) (argC m c)
      (broadcastInDim S2048x32 ![] bcast_S_S2048x32 (constant (F := Ideal) S_ .f32 0x3F800000#32)) := by
    dsimp only [V, hostOps0, hostOps0_1, hostOps0_2, hostOps0_3, hostOps0_4, hostOps0_5, hostOps0_6, List.flatten_cons, List.flatten_nil,
      List.append_nil, List.cons_append, List.nil_append]
    after_results <;> rfl
  rw [e]
  refine (wideTable_apply _ _ _ _ 1 (fun _ => one_word) (fun _ => one_word) n j).trans ?_
  rw [ite_self]

theorem sinq_apply (n : Fin 2048) (j : Fin 256) : V m c main_v25 (ix2 n j)
    = if 64 ≤ j.val % 128 ∧ j.val % 128 < 96 then (if j.val % 128 < 80 then -argS m c (ix2 n ⟨j.val % 16, Nat.mod_lt _ (by omega)⟩)
      else argS m c (ix2 n ⟨j.val % 16, Nat.mod_lt _ (by omega)⟩)) else 0 := by
  have e : V m c main_v25 = wideTable (broadcastInDim S2048x64 ![] bcast_S_S2048x64 (constant (F := Ideal) S_ .f32 0x00000000#32)) (Host.negf (argS m c))
      (argS m c) (broadcastInDim S2048x32 ![] bcast_S_S2048x32 (constant (F := Ideal) S_ .f32 0x00000000#32)) := by
    dsimp only [V, hostOps0, hostOps0_1, hostOps0_2, hostOps0_3, hostOps0_4, hostOps0_5, hostOps0_6, List.flatten_cons, List.flatten_nil,
      List.append_nil, List.cons_append, List.nil_append]
    after_results <;> rfl
  rw [e]
  exact wideTable_apply _ _ _ _ 0 (fun _ => zero_word) (fun _ => zero_word) n j

/-- A table over the key's lanes, from its parts. -/
def keyTable (p q : FVec Ideal S2048x16 .f32) (b : FVec Ideal S2048x96 .f32) : FVec Ideal S2048x128 .f32 :=
  concatenate S2048x128 1 [⟨S2048x16, p⟩, ⟨S2048x16, q⟩, ⟨S2048x96, b⟩] concatenates_S2048x16_S2048x16_S2048x96_S2048x128_d1

theorem keyTable_apply (p q : FVec Ideal S2048x16 .f32) (b : FVec Ideal S2048x96 .f32) (n : Fin 2048) (e : Fin 32) :
    keyTable p q b (ix2 n ⟨e.val, by omega⟩) = if e.val < 16 then p (ix2 n ⟨e.val % 16, Nat.mod_lt _ (by omega)⟩)
      else q (ix2 n ⟨e.val % 16, Nat.mod_lt _ (by omega)⟩) := by
  have he := e.isLt
  by_cases h : e.val < 16
  · rw [if_pos h]
    pointwise [keyTable]
    rw [dif_pos (by omega)]
    exact congrArg (fun d => p (ix2 n d)) (Fin.ext (by simp only; omega))
  · rw [if_neg h]
    pointwise [keyTable]
    rw [dif_neg (by omega), dif_pos (by omega)]
    exact congrArg (fun d => q (ix2 n d)) (Fin.ext (by simp only; omega))

theorem cosk_apply (n : Fin 2048) (e : Fin 32) :
    V m c main_v27 (ix2 n ⟨e.val, by omega⟩) = argC m c (ix2 n ⟨e.val % 16, Nat.mod_lt _ (by omega)⟩) := by
  have e' : V m c main_v27 = keyTable (argC m c) (argC m c)
      (broadcastInDim S2048x96 ![] bcast_S_S2048x96 (constant (F := Ideal) S_ .f32 0x3F800000#32)) := by
    dsimp only [V, hostOps0, hostOps0_1, hostOps0_2, hostOps0_3, hostOps0_4, hostOps0_5, hostOps0_6, List.flatten_cons, List.flatten_nil,
      List.append_nil, List.cons_append, List.nil_append]
    after_results <;> rfl
  rw [e', keyTable_apply, ite_self]

theorem sink_apply (n : Fin 2048) (e : Fin 32) : V m c main_v30 (ix2 n ⟨e.val, by omega⟩)
    = if e.val < 16 then -argS m c (ix2 n ⟨e.val % 16, Nat.mod_lt _ (by omega)⟩) else argS m c (ix2 n ⟨e.val % 16, Nat.mod_lt _ (by omega)⟩) := by
  have e' : V m c main_v30 = keyTable (Host.negf (argS m c)) (argS m c)
      (broadcastInDim S2048x96 ![] bcast_S_S2048x96 (constant (F := Ideal) S_ .f32 0x00000000#32)) := by
    dsimp only [V, hostOps0, hostOps0_1, hostOps0_2, hostOps0_3, hostOps0_4, hostOps0_5, hostOps0_6, List.flatten_cons, List.flatten_nil,
      List.append_nil, List.cons_append, List.nil_append]
    after_results <;> rfl
  rw [e', keyTable_apply]
  rfl

/-! ## The means -/

/-- The word `n` at every place of a square of 256. -/
abbrev full (n : BitVec 32) : IVec S256x256 32 := broadcastInDim S256x256 ![] bcast_S_S256x256 (constantI S_ 32 n)
/-- The number whose word is `n` at every place of a square of 256. -/
abbrev fullF (n : BitVec 32) : FVec Ideal S256x256 .f32 := broadcastInDim S256x256 ![] bcast_S_S256x256 (constant (F := Ideal) S_ .f32 n)

/-- The group means' matrix. -/
def means : FVec Ideal S256x256 .bf16 :=
  truncf .bf16 (select (cmpi .eq (Host.divsi (iotaInDim S256x256 32 0) (full 64#32)) (Host.divsi (iotaInDim S256x256 32 1) (full 64#32)))
    (select (cmpi .eq (andi (Host.divsi (iotaInDim S256x256 32 0) (full 64#32)) (full 1#32)) (full 0#32)) (fullF 0x3C800000#32)
      (select (andi (cmpi .eq (andi (iotaInDim S256x256 32 0) (full 32#32)) (full 0#32))
        (cmpi .eq (andi (iotaInDim S256x256 32 1) (full 32#32)) (full 0#32))) (fullF 0x3D000000#32) (fullF 0x00000000#32)))
    (fullF 0x00000000#32)) bitsLt_bf16_f32

theorem even_word : ∀ x : Fin 256, IntOp.cmpi .eq (IntOp.andi (BitVec.ofNat 32 (x.val / 64)) 1#32) 0#32
    = if x.val / 64 % 2 = 0 then 1#1 else 0#1 := by
  decide +kernel
theorem low_word : ∀ x : Fin 256, IntOp.cmpi .eq (IntOp.andi (BitVec.ofNat 32 x.val) 32#32) 0#32 = if x.val % 64 < 32 then 1#1 else 0#1 := by
  decide +kernel
theorem same_word : ∀ a b : Fin 4, IntOp.cmpi .eq (BitVec.ofNat 32 a.val) (BitVec.ofNat 32 b.val) = if a.val = b.val then 1#1 else 0#1 := by
  decide

theorem means_at (x j : Fin 256) : V m c main_v83 (ix2 x j) = if x.val / 64 = j.val / 64 then
    (if x.val / 64 % 2 = 0 then Ideal.ofBits .f32 1015021568#32
      else if x.val % 64 < 32 ∧ j.val % 64 < 32 then Ideal.ofBits .f32 1023410176#32 else 0) else 0 := by
  have e : V m c main_v83 = means := by
    dsimp only [V, hostOps0, hostOps0_1, hostOps0_2, hostOps0_3, hostOps0_4, hostOps0_5, hostOps0_6, List.flatten_cons, List.flatten_nil,
      List.append_nil, List.cons_append, List.nil_append]
    after_results <;> rfl
  rw [e]
  pointwise [means]
  have hs := same_word ⟨x.val / 64, by omega⟩ ⟨j.val / 64, by omega⟩
  simp only at hs
  rw [group_word, group_word, hs, even_word, low_word, low_word]
  by_cases h1 : x.val / 64 = j.val / 64 <;> by_cases h2 : x.val / 64 % 2 = 0 <;> by_cases h3 : x.val % 64 < 32 <;>
    by_cases h4 : j.val % 64 < 32 <;> simp [Scalar.select, IntOp.andi, h1, h2, h3, h4] <;> simp_all

theorem means_64 (x j : Fin 256) (h : j.val % 128 < 64) :
    V m c main_v83 (ix2 x j) = if x.val / 64 = j.val / 64 then Ideal.ofBits .f32 1015021568#32 else 0 := by
  rw [means_at]
  split
  · rw [if_pos (by omega)]
  · rfl

theorem means_32 (x j : Fin 256) (h : 64 ≤ j.val % 128) (h' : j.val % 128 < 96) :
    V m c main_v83 (ix2 x j) = if x.val / 32 = j.val / 32 then Ideal.ofBits .f32 1023410176#32 else 0 := by
  rw [means_at]
  by_cases h1 : x.val / 32 = j.val / 32
  · have a : x.val / 64 = j.val / 64 := by omega
    have b : ¬ x.val / 64 % 2 = 0 := by omega
    have d : x.val % 64 < 32 ∧ j.val % 64 < 32 := by omega
    rw [if_pos a, if_neg b, if_pos d, if_pos h1]
  · rw [if_neg h1]
    by_cases a : x.val / 64 = j.val / 64
    · have b : ¬ x.val / 64 % 2 = 0 := by omega
      have d : ¬ (x.val % 64 < 32 ∧ j.val % 64 < 32) := by omega
      rw [if_pos a, if_neg b, if_neg d]
    · rw [if_neg a]

/-! ## The constants -/

/-- A scatter of one row's first places sets those and leaves the rest. -/
theorem put_apply {W w : ℕ} {si : Shape} (sd : ScatterDims S8x384 si ⟨1, ![W]⟩) (idx : IVec si w) (C : FVec Ideal S8x384 .f32)
    (u : (⟨1, ![W]⟩ : Shape).Idx → EReal) (n : Fin 8) (h0 : ∀ k, sd.start k idx 0 = (n.val : Int)) (h1 : ∀ k, sd.start k idx 1 = 0)
    (w0 : ∀ k, sd.window k 0 = 0) (w1 : ∀ k, sd.window k 1 = (k 0).val) (r : Fin 8) (j : Fin 384) :
    Host.scatter sd (fun _ b => b) C idx u (ix2 r j) = if h : r = n ∧ j.val < W then u (ix1 ⟨j.val, h.2⟩) else C (ix2 r j) := by
  rw [Routing.scatter_at]
  have hl : ∀ k : (⟨1, ![W]⟩ : Shape).Idx, sd.resultIdx? k idx = some (ix2 r j) ↔ r = n ∧ (k 0).val = j.val := by
    intro k
    refine (Routing.resultIdx?_ix2 (R := 8) (C := 384) sd k _ r j).trans ?_
    rw [h0, h1, w0, w1]
    constructor
    · rintro ⟨e0, e1⟩
      exact ⟨Fin.ext (by omega), by omega⟩
    · rintro ⟨rfl, e⟩
      exact ⟨by omega, by omega⟩
  simp only [hl]
  by_cases h : r = n ∧ j.val < W
  · rw [dif_pos h]
    have hk : ∀ k : (⟨1, ![W]⟩ : Shape).Idx, (r = n ∧ (k 0).val = j.val) ↔ k = ix1 ⟨j.val, h.2⟩ := by
      intro k
      constructor
      · rintro ⟨_, e⟩
        funext a
        match a with
        | ⟨0, _⟩ => exact Fin.ext e
      · rintro rfl
        exact ⟨h.1, rfl⟩
    simp only [hk]
    refine (foldl_land (fun i => (⟨1, ![W]⟩ : Shape).rowMajor.symm i = ix1 ⟨j.val, h.2⟩) (fun i => u ((⟨1, ![W]⟩ : Shape).rowMajor.symm i))
      ((⟨1, ![W]⟩ : Shape).rowMajor (ix1 ⟨j.val, h.2⟩))
      (fun i => ⟨fun e => by rw [← e, Equiv.apply_symm_apply], fun e => by rw [e, Equiv.symm_apply_apply]⟩) _ _).trans ?_
    rw [if_pos (List.mem_finRange _), Equiv.symm_apply_apply]
  · rw [dif_neg h]
    have hk : ∀ k : (⟨1, ![W]⟩ : Shape).Idx, ¬ (r = n ∧ (k 0).val = j.val) := by
      rintro k ⟨e, e'⟩
      have : (k 0).val < W := (k 0).isLt
      exact h ⟨e, by omega⟩
    simp only [hk, if_false]
    generalize List.finRange (⟨1, ![W]⟩ : Shape).numel = l
    induction l with
    | nil => rfl
    | cons _ _ ih => exact ih

/-- The index of a row's first place. -/
abbrev at2 (n : BitVec 32) : IVec S2 32 :=
  concatenate S2 0 [⟨S1, broadcastInDim S1 ![] bcast_S_S1 (constantI S_ 32 n)⟩, ⟨S1, broadcastInDim S1 ![] bcast_S_S1 (constantI S_ 32 0#32)⟩]
    concatenates_S1_S1_S2_d0

/-- The gains of two heads side by side, zeros behind each. -/
def wide (q : FVec Ideal S96 .f32) : FVec Ideal S256 .f32 :=
  shapeCast S256 (broadcastInDim S2x128 ![0, 1] bcast_S1x128_S2x128_0_1 (shapeCast S1x128 (concatenate S128 0 [⟨S96, q⟩,
    ⟨S32, broadcastInDim S32 ![] bcast_S_S32 (constant (F := Ideal) S_ .f32 0x00000000#32)⟩]
    concatenates_S96_S32_S128_d0) shapeCasts_S128_S1x128)) shapeCasts_S2x128_S256

theorem wide_apply (q : FVec Ideal S96 .f32) (j : Fin 256) : wide q (ix1 j) = if h : j.val % 128 < 96 then q (ix1 ⟨j.val % 128, h⟩) else 0 := by
  by_cases h : j.val % 128 < 96
  · rw [dif_pos h]
    pointwise [wide]
    rw [dif_pos h]
  · rw [dif_neg h]
    pointwise [wide]
    rw [dif_neg h]

section
variable (C : FVec Ideal S8x384 .f32) (r : Fin 8) (j : Fin 384)

/-- The rows set one after the other. -/
def put0 (u : FVec Ideal S384 .f32) : FVec Ideal S8x384 .f32 :=
  Host.scatter scatter_S8x384_S1_S384_0_0_0_0 (fun _ b => b) C (broadcastInDim S1 ![] bcast_S_S1 (constantI S_ 32 0#32)) u
def put1 (u : FVec Ideal S256 .f32) : FVec Ideal S8x384 .f32 := Host.scatter scatter_S8x384_S2_S256_0_0_01_0 (fun _ b => b) C (at2 1#32) u
def put2 (u : FVec Ideal S32 .f32) : FVec Ideal S8x384 .f32 := Host.scatter scatter_S8x384_S2_S32_0_0_01_0 (fun _ b => b) C (at2 2#32) u
def put3 (u : FVec Ideal S128 .f32) : FVec Ideal S8x384 .f32 := Host.scatter scatter_S8x384_S2_S128_0_0_01_0 (fun _ b => b) C (at2 3#32) u
def put4 (u : FVec Ideal S256 .f32) : FVec Ideal S8x384 .f32 := Host.scatter scatter_S8x384_S2_S256_0_0_01_0 (fun _ b => b) C (at2 4#32) u
def put5 (u : FVec Ideal S256 .f32) : FVec Ideal S8x384 .f32 := Host.scatter scatter_S8x384_S2_S256_0_0_01_0 (fun _ b => b) C (at2 5#32) u

theorem put0_apply (u : FVec Ideal S384 .f32) : put0 C u (ix2 r j) = if h : r = 0 ∧ j.val < 384 then u (ix1 ⟨j.val, h.2⟩) else C (ix2 r j) :=
  put_apply _ _ C u 0 (fun _ => rfl) (fun _ => rfl) (fun _ => rfl) (fun _ => rfl) r j
theorem put1_apply (u : FVec Ideal S256 .f32) : put1 C u (ix2 r j) = if h : r = 1 ∧ j.val < 256 then u (ix1 ⟨j.val, h.2⟩) else C (ix2 r j) :=
  put_apply _ _ C u 1 (fun _ => rfl) (fun _ => rfl) (fun _ => rfl) (fun _ => rfl) r j
theorem put2_apply (u : FVec Ideal S32 .f32) : put2 C u (ix2 r j) = if h : r = 2 ∧ j.val < 32 then u (ix1 ⟨j.val, h.2⟩) else C (ix2 r j) :=
  put_apply _ _ C u 2 (fun _ => rfl) (fun _ => rfl) (fun _ => rfl) (fun _ => rfl) r j
theorem put3_apply (u : FVec Ideal S128 .f32) : put3 C u (ix2 r j) = if h : r = 3 ∧ j.val < 128 then u (ix1 ⟨j.val, h.2⟩) else C (ix2 r j) :=
  put_apply _ _ C u 3 (fun _ => rfl) (fun _ => rfl) (fun _ => rfl) (fun _ => rfl) r j
theorem put4_apply (u : FVec Ideal S256 .f32) : put4 C u (ix2 r j) = if h : r = 4 ∧ j.val < 256 then u (ix1 ⟨j.val, h.2⟩) else C (ix2 r j) :=
  put_apply _ _ C u 4 (fun _ => rfl) (fun _ => rfl) (fun _ => rfl) (fun _ => rfl) r j
theorem put5_apply (u : FVec Ideal S256 .f32) : put5 C u (ix2 r j) = if h : r = 5 ∧ j.val < 256 then u (ix1 ⟨j.val, h.2⟩) else C (ix2 r j) :=
  put_apply _ _ C u 5 (fun _ => rfl) (fun _ => rfl) (fun _ => rfl) (fun _ => rfl) r j

end

theorem consts_eq : V m c main_v59 = put4 (put5 (put3 (put2 (put1 (put0
    (broadcastInDim S8x384 ![] bcast_S_S8x384 (constant (F := Ideal) S_ .f32 0x00000000#32)) (argGq m c)) (argGk m c))
    (extractStridedSlice S32 ![64] (argK m c) slices_S96_S32_64)) (fun i => FloatOps.ofBits .f32 (lit1 (S128.rowMajor i))))
    (fun i => FloatOps.ofBits .f32 (lit2 (S256.rowMajor i)))) (wide (argQ m c)) := by
  dsimp only [V, hostOps0, hostOps0_1, hostOps0_2, hostOps0_3, hostOps0_4, hostOps0_5, hostOps0_6, List.flatten_cons, List.flatten_nil,
    List.append_nil, List.cons_append, List.nil_append]
  after_results <;> rfl

theorem row0_apply (j : Fin 384) : V m c main_v59 (ix2 0 j) = argGq m c (ix1 j) := by
  rw [consts_eq, put4_apply, dif_neg (by simp), put5_apply, dif_neg (by simp), put3_apply, dif_neg (by simp), put2_apply, dif_neg (by simp),
    put1_apply, dif_neg (by simp), put0_apply, dif_pos ⟨rfl, j.isLt⟩]

theorem row1_apply (j : Fin 256) : V m c main_v59 (ix2 1 ⟨j.val, by omega⟩) = argGk m c (ix1 j) := by
  rw [consts_eq, put4_apply, dif_neg (by simp), put5_apply, dif_neg (by simp), put3_apply, dif_neg (by simp), put2_apply, dif_neg (by simp),
    put1_apply, dif_pos ⟨rfl, j.isLt⟩]

theorem row2_apply (j : Fin 32) : V m c main_v59 (ix2 2 ⟨j.val, by omega⟩) = argK m c (ix1 ⟨64 + j.val, by omega⟩) := by
  rw [consts_eq, put4_apply, dif_neg (by simp), put5_apply, dif_neg (by simp), put3_apply, dif_neg (by simp), put2_apply, dif_pos ⟨rfl, j.isLt⟩]
  pointwise

theorem row3_word : ∀ j : Fin 128, lit1 (S128.rowMajor (ix1 j)) = if j.val < 16 then 0x3F800000#32 else 0x00000000#32 := by
  decide +kernel

theorem row3_apply (j : Fin 128) : V m c main_v59 (ix2 3 ⟨j.val, by omega⟩) = if j.val < 16 then (1 : EReal) else (0 : EReal) := by
  rw [consts_eq, put4_apply, dif_neg (by simp), put5_apply, dif_neg (by simp), put3_apply, dif_pos ⟨rfl, j.isLt⟩]
  show Ideal.ofBits .f32 (lit1 (S128.rowMajor (ix1 j))) = _
  rw [row3_word, apply_ite (Ideal.ofBits .f32), one_word, zero_word]

theorem row4_apply (j : Fin 256) :
    V m c main_v59 (ix2 4 ⟨j.val, by omega⟩) = if h : j.val % 128 < 96 then argQ m c (ix1 ⟨j.val % 128, h⟩) else 0 := by
  rw [consts_eq, put4_apply, dif_pos ⟨rfl, j.isLt⟩, wide_apply]

theorem row5_word : ∀ j : Fin 256, lit2 (S256.rowMajor (ix1 j)) = if 64 ≤ j.val % 128 ∧ j.val % 128 < 80 then 0x3F800000#32 else 0x00000000#32 := by
  decide +kernel

theorem row5_apply (j : Fin 256) :
    V m c main_v59 (ix2 5 ⟨j.val, by omega⟩) = if 64 ≤ j.val % 128 ∧ j.val % 128 < 80 then (1 : EReal) else (0 : EReal) := by
  rw [consts_eq, put4_apply, dif_neg (by simp), put5_apply, dif_pos ⟨rfl, j.isLt⟩]
  show Ideal.ofBits .f32 (lit2 (S256.rowMajor (ix1 j))) = _
  rw [row5_word, apply_ite (Ideal.ofBits .f32), one_word, zero_word]

/-! ## The weights -/

/-- The weights, columns of zeros behind. -/
def weights (W : FVec Ideal S1024x672 .f32) : FVec Ideal S1024x768 .bf16 :=
  truncf .bf16 (concatenate S1024x768 1 [⟨S1024x672, W⟩,
    ⟨S1024x96, broadcastInDim S1024x96 ![] bcast_S_S1024x96 (constant (F := Ideal) S_ .f32 0x00000000#32)⟩] concatenates_S1024x672_S1024x96_S1024x768_d1)
    bitsLt_bf16_f32

theorem weights_apply (k : Fin 1024) (d : Fin 768) : V m c main_v4 (ix2 k d) = if h : d.val < 672 then argW m c (ix2 k ⟨d.val, h⟩) else 0 := by
  have e : V m c main_v4 = weights (argW m c) := by
    dsimp only [V, hostOps0, hostOps0_1, hostOps0_2, hostOps0_3, hostOps0_4, hostOps0_5, hostOps0_6, List.flatten_cons, List.flatten_nil,
      List.append_nil, List.cons_append, List.nil_append]
    after_results <;> rfl
  rw [e]
  by_cases h : d.val < 672
  · rw [dif_pos h]
    pointwise [weights]
    rw [dif_pos h]
  · rw [dif_neg h]
    pointwise [weights]
    rw [dif_neg h]

/-- The expansion's columns gathered, columns of zeros between. -/
def expand (W : FVec Ideal S384x1536 .f32) : FVec Ideal S384x2048 .bf16 :=
  truncf .bf16 (Host.gather gather_S384x1537_S2048x1_S384x2048_0_1_n_n_1_1_3841
    (concatenate S384x1537 1 [⟨S384x1536, W⟩,
      ⟨S384x1, broadcastInDim S384x1 ![] bcast_S_S384x1 (constant (F := Ideal) S_ .f32 0x00000000#32)⟩] concatenates_S384x1536_S384x1_S384x1537_d1)
    (broadcastInDim S2048x1 ![0] bcast_S2048_S2048x1_0 (select (constantI S2048 1 0#1)
      (addi (fun i => lit0 (S2048.rowMajor i)) (broadcastInDim S2048 ![] bcast_S_S2048 (constantI S_ 32 1537#32)))
      (fun i => lit0 (S2048.rowMajor i))))) bitsLt_bf16_f32

/-- A gathered column. -/
theorem gather_col (x : S384x1537.Idx → EReal) (idx : IVec S2048x1 32) (k : Fin 384) (j : Fin 2048) (b : Fin 1536)
    (hb : idx (ix2 j 0) = BitVec.ofNat 32 b.val) :
    Host.gather gather_S384x1537_S2048x1_S384x2048_0_1_n_n_1_1_3841 x idx (ix2 k j) = x (ix2 k ⟨b.val, by omega⟩) := by
  refine congrArg x (funext fun a => Fin.ext ?_)
  match a with
  | ⟨0, _⟩ =>
    show 0 + 0 + k.val = k.val
    omega
  | ⟨1, _⟩ =>
    have hi : gather_S384x1537_S2048x1_S384x2048_0_1_n_n_1_1_3841.siIdx (ix2 k j) ⟨0, by decide⟩ = ix2 j 0 := by
      funext a
      match a with
      | ⟨0, _⟩ => rfl
      | ⟨1, _⟩ => rfl
    show min (idx (gather_S384x1537_S2048x1_S384x2048_0_1_n_n_1_1_3841.siIdx (ix2 k j) ⟨0, by decide⟩)).toInt.toNat (1537 - 1) + 0 + 0 = b.val
    have hz : ∀ b : Fin 1536, (BitVec.ofNat 32 b.val).toInt.toNat = b.val := by decide +kernel
    rw [hi, hb, hz]
    omega

theorem slot_word : ∀ j : Fin 2048, j.val % 128 < 96 → lit0 (S2048.rowMajor (ix1 j)) = BitVec.ofNat 32 (96 * (j.val / 128) + j.val % 128) := by
  decide +kernel

theorem expand_apply (k : Fin 384) (d : Fin 2048) (h : d.val % 128 < 96) :
    V m c main_v12 (ix2 k d) = argU m c (ix2 k ⟨96 * (d.val / 128) + d.val % 128, by omega⟩) := by
  have e : V m c main_v12 = expand (argU m c) := by
    dsimp only [V, hostOps0, hostOps0_1, hostOps0_2, hostOps0_3, hostOps0_4, hostOps0_5, hostOps0_6, List.flatten_cons, List.flatten_nil,
      List.append_nil, List.cons_append, List.nil_append]
    after_results <;> rfl
  rw [e]
  pointwise [expand]
  refine (gather_col _ _ k d ⟨96 * (d.val / 128) + d.val % 128, by omega⟩ ?_).trans ?_
  · exact slot_word d h
  · pointwise
    rw [dif_pos (by omega)]

end Cert.MlaProj

end
-- ==== Proof.MlaProj.Rows.lean ====
/-
  The latent attention's projection of every row of all batches.
-/
module

public import proofs.«01_k».proof.Proof.Gen.MlaProjIdeal.Frame
public import proofs.«01_k».proof.Proof.MlaProj.Spec

@[expose] public section

set_option maxRecDepth 16384

noncomputable section

namespace Cert.MlaProj

open Cert.MlaProjIdeal Cert.MlaProjIdeal.Gen Idealize.ShloMosaic Idealize.ShloMosaic.TcCoe

variable (x : FVec Ideal S8x2048x1024 .f32) (g : FVec Ideal S1024 .f32) (w : FVec Ideal S1024x672 .f32) (gq : FVec Ideal S384 .f32)
  (gk : FVec Ideal S256 .f32) (u : FVec Ideal S384x1536 .f32) (q k : FVec Ideal S96 .f32) (co si : FVec Ideal S2048x16 .f32)

/-- The normed row `n` of all batches. -/
def rowH (n : Fin 16384) : Fin 1024 → EReal :=
  nrm 1149239296#32 (fun k => x (ix3 ⟨n.val / 2048, by omega⟩ ⟨n.val % 2048, Nat.mod_lt _ (by omega)⟩ k)) (fun k => g (ix1 k))

/-- The angles' cosines or sines of row `n`. -/
def angle (t : FVec Ideal S2048x16 .f32) (n : Fin 16384) (e : Fin 16) : EReal := t (ix2 ⟨n.val % 2048, Nat.mod_lt _ (by omega)⟩ e)

/-- The queries of every row. -/
def qArr : FVec Ideal S16384x2048 .bf16 := fun y =>
  qRow (qLat (rowH x g (y 0)) (fun k d => w (ix2 k d)) (fun e => gq (ix1 e))) (fun k d => u (ix2 k d)) (fun e => q (ix1 e))
    (angle co (y 0)) (angle si (y 0)) (y 1)

/-- The latent key of every row and its rotated part. -/
def latArr : FVec Ideal S16384x288 .f32 := fun y =>
  latRow (rowH x g (y 0)) (fun k d => w (ix2 k d)) (fun e => gk (ix1 e)) (fun e => k (ix1 e)) (angle co (y 0)) (angle si (y 0)) (y 1)

end Cert.MlaProj

end
-- ==== Proof.MlaProj.Final.lean ====
/-
  The kernel's whole results: its blocks of rows tile the arrays, so they are the projection of every row.
-/
module

public import proofs.«01_k».proof.Proof.MlaProj.Block
public import proofs.«01_k».proof.Proof.MlaProj.Host
public import proofs.«01_k».proof.Proof.MlaProj.Rows
public import proofs.«01_k».proof.Proof.Gen.MlaProjIdeal.Value

@[expose] public section

set_option maxRecDepth 16384

noncomputable section

namespace Cert.MlaProj

open Cert.MlaProjIdeal Cert.MlaProjIdeal.Gen Idealize.ShloMosaic Idealize.ShloMosaic.TcCoe Idealize.SL.Sem
open Idealize.ShloMosaic.Pipeline (Dat)

variable (m : (ℓ : Loc nD τ sig) → Buf (Elt Ideal) ℓ) (c : Dev nD) (t : Fin cfg0.N)

/-! ## A grid point's blocks -/

/-- A grid point's block of rows. -/
theorem index_rows : ∀ t : Fin cfg0.N, win0_0.index t 0 = t.val ∧ win0_0.index t 1 = 0 :=
  (by decide +kernel : ∀ t : Fin grid0.N, win0_0.index t 0 = t.val ∧ win0_0.index t 1 = 0)
theorem index_cos : ∀ t : Fin cfg0.N, win0_6.index t 0 = t.val % 4 ∧ win0_6.index t 1 = 0 :=
  (by decide +kernel : ∀ t : Fin grid0.N, win0_6.index t 0 = t.val % 4 ∧ win0_6.index t 1 = 0)
theorem index_sin : ∀ t : Fin cfg0.N, win0_7.index t 0 = t.val % 4 ∧ win0_7.index t 1 = 0 :=
  (by decide +kernel : ∀ t : Fin grid0.N, win0_7.index t 0 = t.val % 4 ∧ win0_7.index t 1 = 0)
theorem index_ck : ∀ t : Fin cfg0.N, win0_8.index t 0 = t.val % 4 ∧ win0_8.index t 1 = 0 :=
  (by decide +kernel : ∀ t : Fin grid0.N, win0_8.index t 0 = t.val % 4 ∧ win0_8.index t 1 = 0)
theorem index_sk : ∀ t : Fin cfg0.N, win0_9.index t 0 = t.val % 4 ∧ win0_9.index t 1 = 0 :=
  (by decide +kernel : ∀ t : Fin grid0.N, win0_9.index t 0 = t.val % 4 ∧ win0_9.index t 1 = 0)
theorem index_q : ∀ t : Fin cfg0.N, win0_10.index t 0 = t.val ∧ win0_10.index t 1 = 0 :=
  (by decide +kernel : ∀ t : Fin grid0.N, win0_10.index t 0 = t.val ∧ win0_10.index t 1 = 0)
theorem index_lat : ∀ t : Fin cfg0.N, win0_11.index t 0 = t.val ∧ win0_11.index t 1 = 0 :=
  (by decide +kernel : ∀ t : Fin grid0.N, win0_11.index t 0 = t.val ∧ win0_11.index t 1 = 0)

theorem t_lt : t.val < 32 := lt_of_lt_of_eq t.isLt N_0

/-- The row of the array at row `r` of a grid point's block. -/
abbrev rowAt (r : Fin 512) : Fin 16384 := ⟨512 * t.val + r.val, by have := t_lt t; omega⟩

theorem blkX (r : Fin 512) (k : Fin 1024) : iblk m c 0 t (ix2 r k) = V m c main_v0 (ix2 (rowAt t r) k) := by
  show V m c main_v0 ((win0_0.rect t).emb (ix2 r k)) = _
  refine congrArg (V m c main_v0) (funext fun a => Fin.ext ?_)
  obtain ⟨e0, e1⟩ := index_rows t
  match a with
  | ⟨0, _⟩ =>
    show win0_0.index t 0 * 512 + 1 * r.val = 512 * t.val + r.val
    omega
  | ⟨1, _⟩ =>
    show win0_0.index t 1 * 1024 + 1 * k.val = k.val
    omega

theorem blkG (k : Fin 1024) : iblk m c 1 t (ix2 0 k) = argG m c (ix1 k) := by
  rw [← gains_apply]
  show V m c main_v1 ((win0_1.rect t).emb (ix2 0 k)) = _
  refine congrArg (V m c main_v1) (funext fun a => Fin.ext ?_)
  match a with
  | ⟨0, _⟩ => rfl
  | ⟨1, _⟩ =>
    show 0 * 1024 + 1 * k.val = k.val
    omega

theorem blkW (x : Fin 1024) (j : Fin 768) : iblk m c 2 t (ix2 x j) = V m c main_v4 (ix2 x j) := by
  show V m c main_v4 ((win0_2.rect t).emb (ix2 x j)) = _
  refine congrArg (V m c main_v4) (funext fun a => Fin.ext ?_)
  match a with
  | ⟨0, _⟩ =>
    show 0 * 1024 + 1 * x.val = x.val
    omega
  | ⟨1, _⟩ =>
    show 0 * 768 + 1 * j.val = j.val
    omega

theorem blkU (x : Fin 384) (j : Fin 2048) : iblk m c 3 t (ix2 x j) = V m c main_v12 (ix2 x j) := by
  show V m c main_v12 ((win0_3.rect t).emb (ix2 x j)) = _
  refine congrArg (V m c main_v12) (funext fun a => Fin.ext ?_)
  match a with
  | ⟨0, _⟩ =>
    show 0 * 384 + 1 * x.val = x.val
    omega
  | ⟨1, _⟩ =>
    show 0 * 2048 + 1 * j.val = j.val
    omega

theorem blkM (x : Fin 256) (j : Fin 256) : iblk m c 4 t (ix2 x j) = V m c main_v83 (ix2 x j) := by
  show V m c main_v83 ((win0_4.rect t).emb (ix2 x j)) = _
  refine congrArg (V m c main_v83) (funext fun a => Fin.ext ?_)
  match a with
  | ⟨0, _⟩ =>
    show 0 * 256 + 1 * x.val = x.val
    omega
  | ⟨1, _⟩ =>
    show 0 * 256 + 1 * j.val = j.val
    omega

theorem blkC (x : Fin 8) (j : Fin 384) : iblk m c 5 t (ix2 x j) = V m c main_v59 (ix2 x j) := by
  show V m c main_v59 ((win0_5.rect t).emb (ix2 x j)) = _
  refine congrArg (V m c main_v59) (funext fun a => Fin.ext ?_)
  match a with
  | ⟨0, _⟩ =>
    show 0 * 8 + 1 * x.val = x.val
    omega
  | ⟨1, _⟩ =>
    show 0 * 384 + 1 * j.val = j.val
    omega

theorem blkCos (r : Fin 512) (j : Fin 256) : iblk m c 6 t (ix2 r j)
    = V m c main_v18 (ix2 ⟨(rowAt t r).val % 2048, Nat.mod_lt _ (by omega)⟩ j) := by
  show V m c main_v18 ((win0_6.rect t).emb (ix2 r j)) = _
  refine congrArg (V m c main_v18) (funext fun a => Fin.ext ?_)
  obtain ⟨e0, e1⟩ := index_cos t
  match a with
  | ⟨0, _⟩ =>
    show win0_6.index t 0 * 512 + 1 * r.val = (512 * t.val + r.val) % 2048
    omega
  | ⟨1, _⟩ =>
    show win0_6.index t 1 * 256 + 1 * j.val = j.val
    omega

theorem blkSin (r : Fin 512) (j : Fin 256) : iblk m c 7 t (ix2 r j)
    = V m c main_v25 (ix2 ⟨(rowAt t r).val % 2048, Nat.mod_lt _ (by omega)⟩ j) := by
  show V m c main_v25 ((win0_7.rect t).emb (ix2 r j)) = _
  refine congrArg (V m c main_v25) (funext fun a => Fin.ext ?_)
  obtain ⟨e0, e1⟩ := index_sin t
  match a with
  | ⟨0, _⟩ =>
    show win0_7.index t 0 * 512 + 1 * r.val = (512 * t.val + r.val) % 2048
    omega
  | ⟨1, _⟩ =>
    show win0_7.index t 1 * 256 + 1 * j.val = j.val
    omega

theorem blkCk (r : Fin 512) (j : Fin 128) : iblk m c 8 t (ix2 r j)
    = V m c main_v27 (ix2 ⟨(rowAt t r).val % 2048, Nat.mod_lt _ (by omega)⟩ j) := by
  show V m c main_v27 ((win0_8.rect t).emb (ix2 r j)) = _
  refine congrArg (V m c main_v27) (funext fun a => Fin.ext ?_)
  obtain ⟨e0, e1⟩ := index_ck t
  match a with
  | ⟨0, _⟩ =>
    show win0_8.index t 0 * 512 + 1 * r.val = (512 * t.val + r.val) % 2048
    omega
  | ⟨1, _⟩ =>
    show win0_8.index t 1 * 128 + 1 * j.val = j.val
    omega

theorem blkSk (r : Fin 512) (j : Fin 128) : iblk m c 9 t (ix2 r j)
    = V m c main_v30 (ix2 ⟨(rowAt t r).val % 2048, Nat.mod_lt _ (by omega)⟩ j) := by
  show V m c main_v30 ((win0_9.rect t).emb (ix2 r j)) = _
  refine congrArg (V m c main_v30) (funext fun a => Fin.ext ?_)
  obtain ⟨e0, e1⟩ := index_sk t
  match a with
  | ⟨0, _⟩ =>
    show win0_9.index t 0 * 512 + 1 * r.val = (512 * t.val + r.val) % 2048
    omega
  | ⟨1, _⟩ =>
    show win0_9.index t 1 * 128 + 1 * j.val = j.val
    omega

/-- The normed row of a block. -/
theorem hrow_blk (r : Fin 512) : hrow (iblk m c 0 t) (iblk m c 1 t) r = rowH (argX m c) (argG m c) (rowAt t r) := by
  have ex : (fun k => iblk m c 0 t (ix2 r k)) = fun k => argX m c
      (ix3 ⟨(rowAt t r).val / 2048, by omega⟩ ⟨(rowAt t r).val % 2048, Nat.mod_lt _ (by omega)⟩ k) :=
    funext fun k => (blkX m c t r k).trans (rows_apply m c (rowAt t r) k)
  have eg : (fun k => iblk m c 1 t (ix2 0 k)) = fun k => argG m c (ix1 k) := funext fun k => blkG m c t k
  unfold rowH hrow
  rw [ex, eg]

/-- A column of the weights in a block. -/
theorem weight_blk (k : Fin 1024) (d : ℕ) (h : d < 672) : iblk m c 2 t (ix2 k ⟨d, by omega⟩) = argW m c (ix2 k ⟨d, h⟩) :=
  (blkW m c t k _).trans ((weights_apply m c k _).trans (dif_pos h))

/-- The latent query of a block's row. -/
theorem bK_blk (r : Fin 512) : bK (iblk m c 0 t) (iblk m c 1 t) (iblk m c 2 t) (iblk m c 5 t) r
    = qLat (rowH (argX m c) (argG m c) (rowAt t r)) (fun k d => argW m c (ix2 k d)) (fun e => argGq m c (ix1 e)) := by
  unfold bK qLat
  rw [hrow_blk]
  have ew : ∀ (k : Fin 1024) (e : Fin 384), iblk m c 2 t (ix2 k ⟨e.val, by omega⟩) = argW m c (ix2 k ⟨e.val, by omega⟩) :=
    fun k e => weight_blk m c t k e.val (by omega)
  have eg : (fun e : Fin 384 => iblk m c 5 t (ix2 0 e)) = fun e => argGq m c (ix1 e) :=
    funext fun e => (blkC m c t 0 e).trans (row0_apply m c e)
  rw [eg]
  simp only [ew]

/-- The queries of a block. -/
theorem q_blk (r : Fin 512) (d : Fin 2048) :
    qBlk (iblk m c 0 t) (iblk m c 1 t) (iblk m c 2 t) (iblk m c 3 t) (iblk m c 4 t) (iblk m c 5 t) (iblk m c 6 t) (iblk m c 7 t) (ix2 r d)
      = qArr (argX m c) (argG m c) (argW m c) (argGq m c) (argU m c) (argQ m c) (argC m c) (argS m c) (ix2 (rowAt t r) d) := by
  unfold qBlk qArr qRow blane
  refine congrArg (· * _) ?_
  show lane (bK _ _ _ _ r) _ _ _ _ _ _ _ = _
  rw [bK_blk]
  refine (lane_eq _ _ _ _ _ _ _ (fun e => argQ m c (ix1 e)) (angle (argC m c) (rowAt t r)) (angle (argS m c) (rowAt t r)) ?_ ?_ ?_ ?_ ?_ ?_ _).trans ?_
  · intro x j h; rw [blkM]; exact means_64 m c x j h
  · intro x j h h'; rw [blkM]; exact means_32 m c x j h h'
  · intro j; rw [blkC]; exact row4_apply m c j
  · intro j; rw [blkC]; exact row5_apply m c j
  · intro j; refine (blkCos m c t r j).trans ?_; exact cosq_apply m c _ j
  · intro j; refine (blkSin m c t r j).trans ?_; exact sinq_apply m c _ j
  · have hd : (⟨d.val % 256 % 128, Nat.mod_lt _ (by omega)⟩ : Fin 128) = ⟨d.val % 128, Nat.mod_lt _ (by omega)⟩ := Fin.ext (by simp only; omega)
    have hU : ∀ (k : Fin 384) (e : Fin 96), iblk m c 3 t (ix2 k ⟨256 * (d.val / 256) + (128 * (d.val % 256 / 128) + e.val), by omega⟩)
        = argU m c (ix2 k ⟨96 * (d.val / 128) + e.val, by omega⟩) := fun k e =>
      (blkU m c t k _).trans ((expand_apply m c k _ (by simp only; omega)).trans
        (congrArg (fun d => argU m c (ix2 k d)) (Fin.ext (by simp only; omega))))
    have hA : (fun e : Fin 96 => ∑ k, qLat (rowH (argX m c) (argG m c) (rowAt t r)) (fun k d => argW m c (ix2 k d)) (fun e => argGq m c (ix1 e)) k
          * iblk m c 3 t (ix2 k ⟨256 * (d.val / 256) + (128 * (d.val % 256 / 128) + e.val), by omega⟩))
        = fun e => ∑ k, qLat (rowH (argX m c) (argG m c) (rowAt t r)) (fun k d => argW m c (ix2 k d)) (fun e => argGq m c (ix1 e)) k
          * argU m c (ix2 k ⟨96 * (d.val / 128) + e.val, by omega⟩) :=
      funext fun e => Finset.sum_congr rfl fun k _ => congrArg (fun b : EReal => _ * b) (hU k e)
    exact (congrArg (fun A => qHead A _ _ _ _) hA).trans (congrArg _ hd)

/-- The latent keys of a block and their rotated parts. -/
theorem lat_blk (r : Fin 512) (d : Fin 288) :
    latBlk (iblk m c 0 t) (iblk m c 1 t) (iblk m c 2 t) (iblk m c 5 t) (iblk m c 8 t) (iblk m c 9 t) (ix2 r d)
      = latArr (argX m c) (argG m c) (argW m c) (argGk m c) (argK m c) (argC m c) (argS m c) (ix2 (rowAt t r) d) := by
  unfold latBlk latArr latRow
  by_cases h : d.val < 256
  · refine (dif_pos h).trans (Eq.trans ?_ (dif_pos h).symm)
    show nrm _ (fun e => ∑ k, hrow (iblk m c 0 t) (iblk m c 1 t) r k * _) _ _ = _
    rw [hrow_blk]
    have ew : ∀ (k : Fin 1024) (e : Fin 256), iblk m c 2 t (ix2 k ⟨384 + e.val, by omega⟩) = argW m c (ix2 k ⟨384 + e.val, by omega⟩) :=
      fun k e => weight_blk m c t k (384 + e.val) (by omega)
    have eg : (fun e : Fin 256 => iblk m c 5 t (ix2 1 ⟨e.val, by omega⟩)) = fun e => argGk m c (ix1 e) :=
      funext fun e => (blkC m c t 1 _).trans (row1_apply m c e)
    rw [eg]
    simp only [ew]
    rfl
  · refine (dif_neg h).trans (Eq.trans ?_ (dif_neg h).symm)
    show laneK (hrow (iblk m c 0 t) (iblk m c 1 t) r) _ _ _ _ _ _ = _
    rw [hrow_blk]
    refine laneK_eq _ _ _ _ _ _ (fun k e => argW m c (ix2 k ⟨640 + e.val, by omega⟩)) (fun e => argK m c (ix1 ⟨64 + e.val, by omega⟩))
      (angle (argC m c) (rowAt t r)) (angle (argS m c) (rowAt t r)) ?_ ?_ ?_ ?_ ?_ ?_ ⟨d.val - 256, by omega⟩
    · intro k e; exact weight_blk m c t k (640 + e.val) (by omega)
    · intro k j hj; exact (blkW m c t k _).trans ((weights_apply m c k _).trans (dif_neg (by simp only; omega)))
    · intro e; exact (blkC m c t 2 _).trans (row2_apply m c e)
    · intro e; exact (blkC m c t 3 _).trans (row3_apply m c ⟨e.val, by omega⟩)
    · intro e; exact (blkCk m c t r _).trans (cosk_apply m c _ e)
    · intro e; exact (blkSk m c t r _).trans (sink_apply m c _ e)

/-! ## What a grid point writes back -/

theorem flushed_q : (dats m 0 c).flushed 10 t
    = ((cfg0.win 10).blk t).view.read (Elt Ideal) (qArr (argX m c) (argG m c) (argW m c) (argGq m c) (argU m c) (argQ m c) (argC m c) (argS m c)) := by
  rw [Value.flushed10_A, out10_eq]
  funext y
  obtain ⟨r, d, rfl⟩ : ∃ (r : Fin 512) (d : Fin 2048), y = ix2 r d := ⟨y 0, y 1, Shared.pair_idx y⟩
  refine (q_blk m c t r d).trans ?_
  show _ = qArr (argX m c) (argG m c) (argW m c) (argGq m c) (argU m c) (argQ m c) (argC m c) (argS m c) ((win0_10.rect t).emb (ix2 r d))
  refine congrArg _ (funext fun a => Fin.ext ?_)
  obtain ⟨e0, e1⟩ := index_q t
  match a with
  | ⟨0, _⟩ =>
    show 512 * t.val + r.val = win0_10.index t 0 * 512 + 1 * r.val
    omega
  | ⟨1, _⟩ =>
    show d.val = win0_10.index t 1 * 2048 + 1 * d.val
    omega

theorem flushed_lat : (dats m 0 c).flushed 11 t
    = ((cfg0.win 11).blk t).view.read (Elt Ideal) (latArr (argX m c) (argG m c) (argW m c) (argGk m c) (argK m c) (argC m c) (argS m c)) := by
  rw [Value.flushed11_A, out11_eq]
  funext y
  obtain ⟨r, d, rfl⟩ : ∃ (r : Fin 512) (d : Fin 288), y = ix2 r d := ⟨y 0, y 1, Shared.pair_idx y⟩
  refine (lat_blk m c t r d).trans ?_
  show _ = latArr (argX m c) (argG m c) (argW m c) (argGk m c) (argK m c) (argC m c) (argS m c) ((win0_11.rect t).emb (ix2 r d))
  refine congrArg _ (funext fun a => Fin.ext ?_)
  obtain ⟨e0, e1⟩ := index_lat t
  match a with
  | ⟨0, _⟩ =>
    show 512 * t.val + r.val = win0_11.index t 0 * 512 + 1 * r.val
    omega
  | ⟨1, _⟩ =>
    show d.val = win0_11.index t 1 * 288 + 1 * d.val
    omega

/-! ## The whole arrays -/

theorem cover_q (x : S16384x2048.Idx) : ∃ t : Fin cfg0.N, (cfg0.win 10).flush t = true ∧ x ∈ ((cfg0.win 10).blk t).view.set := by
  have h0 : (x 0 : ℕ) < 16384 := (x 0).isLt
  have h1 : (x 1 : ℕ) < 2048 := (x 1).isLt
  let t : Fin cfg0.N := ⟨(x 0 : ℕ) / 512, lt_of_lt_of_eq (by omega) N_0.symm⟩
  refine ⟨t, flush0_10 t, ?_⟩
  show x ∈ ((View.whole main_v84_0).slice (win0_10.rect t)).set
  rw [View.set_slice_whole, Rect.mem_set_unit]
  obtain ⟨e0, e1⟩ := index_q t
  have ht : t.val = (x 0 : ℕ) / 512 := rfl
  intro a
  match a with
  | ⟨0, _⟩ =>
    show win0_10.index t 0 * 512 ≤ (x 0 : ℕ) ∧ (x 0 : ℕ) < win0_10.index t 0 * 512 + 512
    omega
  | ⟨1, _⟩ =>
    show win0_10.index t 1 * 2048 ≤ (x 1 : ℕ) ∧ (x 1 : ℕ) < win0_10.index t 1 * 2048 + 2048
    omega

theorem cover_lat (x : S16384x288.Idx) : ∃ t : Fin cfg0.N, (cfg0.win 11).flush t = true ∧ x ∈ ((cfg0.win 11).blk t).view.set := by
  have h0 : (x 0 : ℕ) < 16384 := (x 0).isLt
  have h1 : (x 1 : ℕ) < 288 := (x 1).isLt
  let t : Fin cfg0.N := ⟨(x 0 : ℕ) / 512, lt_of_lt_of_eq (by omega) N_0.symm⟩
  refine ⟨t, flush0_11 t, ?_⟩
  show x ∈ ((View.whole main_v84_1).slice (win0_11.rect t)).set
  rw [View.set_slice_whole, Rect.mem_set_unit]
  obtain ⟨e0, e1⟩ := index_lat t
  have ht : t.val = (x 0 : ℕ) / 512 := rfl
  intro a
  match a with
  | ⟨0, _⟩ =>
    show win0_11.index t 0 * 512 ≤ (x 0 : ℕ) ∧ (x 0 : ℕ) < win0_11.index t 0 * 512 + 512
    omega
  | ⟨1, _⟩ =>
    show win0_11.index t 1 * 288 ≤ (x 1 : ℕ) ∧ (x 1 : ℕ) < win0_11.index t 1 * 288 + 288
    omega

/-- The queries' array at the end of the grid. -/
theorem final_q : (dats m 0 c).arrAt 10 cfg0.N = qArr (argX m c) (argG m c) (argW m c) (argGq m c) (argU m c) (argQ m c) (argC m c) (argS m c) :=
  (dats m 0 c).arrAt_eq_of_cover 10 _ (fun t _ => flushed_q m c t) cover_q
/-- The latent keys' array at the end of the grid. -/
theorem final_lat : (dats m 0 c).arrAt 11 cfg0.N = latArr (argX m c) (argG m c) (argW m c) (argGk m c) (argK m c) (argC m c) (argS m c) :=
  (dats m 0 c).arrAt_eq_of_cover 11 _ (fun t _ => flushed_lat m c t) cover_lat

end Cert.MlaProj

end
-- ==== Proof.MlaProj.Claims.lean ====
/-
  The claims about the latent attention's projection.
-/
module

public import proofs.«01_k».proof.Defs
public import proofs.«01_k».proof.Proof.Gen.MlaProj.Frame
public import proofs.«01_k».proof.Proof.Gen.MlaProjReferenceIdeal.Run
public import proofs.«01_k».proof.Proof.MlaProj.Final
public import Idealize.ShloMosaic.Lib.Quiescent

@[expose] public section

set_option maxRecDepth 16384

noncomputable section

namespace Cert.MlaProj

open Idealize.ShloMosaic Idealize.ShloMosaic.TcCoe Idealize.SL.Sem

/-- The kernel as printed terminates, its arguments unchanged. -/
theorem frame_P : Cert.quiescent_MlaProj := fun m ρ _ => Cert.MlaProj.Gen.frame m ρ
/-- The kernel over the extended reals terminates, its arguments unchanged. -/
theorem frame_PI : Cert.quiescent_MlaProjIdeal := fun m ρ _ => Cert.MlaProjIdeal.Gen.frame m ρ
/-- The reference terminates, its arguments unchanged; it has no semaphore. -/
theorem frame_RI : Cert.quiescent_MlaProjReferenceIdeal := fun m ρ _ =>
  (θ_run Cert.MlaProjReferenceIdeal.defs _ _).mono (fun r h => ⟨fun c => (h c).2.2, sem_eq_zero_of_no_sems (by decide) r.2⟩)
    (Cert.MlaProjReferenceIdeal.Value.run (F := Ideal) m ρ)
/-- No operation was rewritten. -/
theorem preserves : Cert.preserves_MlaProj_MlaProjIdeal := trivial

section
open Cert.MlaProjReferenceIdeal Cert.MlaProjReferenceIdeal.Gen

variable (x : FVec Ideal S8x2048x1024 .f32) (g : FVec Ideal S1024 .f32) (w : FVec Ideal S1024x672 .f32) (gq : FVec Ideal S384 .f32)
  (gk : FVec Ideal S256 .f32) (u : FVec Ideal S384x1536 .f32) (q k : FVec Ideal S96 .f32) (co si : FVec Ideal S2048x16 .f32)

/-- The reference's normed rows. -/
def refNrm : FVec Ideal S8x2048x1024 .f32 :=
  mulf (mulf x (broadcastInDim S8x2048x1024 ![0, 1, 2] bcast_S8x2048x1_S8x2048x1024_0_1_2 (Host.rsqrt (addf (Host.divf (broadcastInDim S8x2048x1
    ![0, 1] bcast_S8x2048_S8x2048x1_0_1 (Host.reduceAdd (mulf x x) (constant S_ .f32 0x00000000#32) reducesTo_S8x2048x1024_S8x2048_d2 h_S_))
    (broadcastInDim S8x2048x1 ![] bcast_S_S8x2048x1 (constant S_ .f32 0x44800000#32))) (broadcastInDim S8x2048x1 ![] bcast_S_S8x2048x1 (constant
    S_ .f32 0x358637BD#32)))))) (broadcastInDim S8x2048x1024 ![0, 1, 2] bcast_S1x1x1024_S8x2048x1024_0_1_2 (broadcastInDim S1x1x1024 ![2]
    bcast_S1024_S1x1x1024_2 g))

/-- The reference's product of normed rows `h` with the weights. -/
def refProj (h : FVec Ideal S8x2048x1024 .f32) : FVec Ideal S8x2048x672 .f32 :=
  Host.dotGeneral dot_S8x2048x1024_S1024x672_S8x2048x672_2_0_01_1_n_n none h w

/-- The reference's latent query of the product `a`. -/
def refCq (a : FVec Ideal S8x2048x672 .f32) : FVec Ideal S8x2048x384 .f32 :=
  mulf (mulf (extractStridedSlice S8x2048x384 ![0, 0, 0] a slices_S8x2048x672_S8x2048x384_0_0_0) (broadcastInDim S8x2048x384 ![0, 1, 2]
    bcast_S8x2048x1_S8x2048x384_0_1_2 (Host.rsqrt (addf (Host.divf (broadcastInDim S8x2048x1 ![0, 1] bcast_S8x2048_S8x2048x1_0_1 (Host.reduceAdd
    (mulf (extractStridedSlice S8x2048x384 ![0, 0, 0] a slices_S8x2048x672_S8x2048x384_0_0_0) (extractStridedSlice S8x2048x384 ![0, 0, 0] a
    slices_S8x2048x672_S8x2048x384_0_0_0)) (constant S_ .f32 0x00000000#32) reducesTo_S8x2048x384_S8x2048_d2 h_S_)) (broadcastInDim S8x2048x1 ![]
    bcast_S_S8x2048x1 (constant S_ .f32 0x43C00000#32))) (broadcastInDim S8x2048x1 ![] bcast_S_S8x2048x1 (constant S_ .f32 0x358637BD#32))))))
    (broadcastInDim S8x2048x384 ![0, 1, 2] bcast_S1x1x384_S8x2048x384_0_1_2 (broadcastInDim S1x1x384 ![2] bcast_S384_S1x1x384_2 gq))

/-- The reference's query heads of latent queries `h`. -/
def refHeads (h : FVec Ideal S8x2048x384 .f32) : FVec Ideal S8x2048x16x96 .f32 :=
  shapeCast S8x2048x16x96 (Host.dotGeneral dot_S8x2048x384_S384x1536_S8x2048x1536_2_0_01_1_n_n none h u) shapeCasts_S8x2048x1536_S8x2048x16x96

/-- The reference's normed first parts of query heads `y`. -/
def refQn (y : FVec Ideal S8x2048x16x96 .f32) : FVec Ideal S8x2048x16x64 .f32 :=
  mulf (mulf (extractStridedSlice S8x2048x16x64 ![0, 0, 0, 0] y slices_S8x2048x16x96_S8x2048x16x64_0_0_0_0) (broadcastInDim S8x2048x16x64 ![0, 1,
    2, 3] bcast_S8x2048x16x1_S8x2048x16x64_0_1_2_3 (Host.rsqrt (addf (Host.divf (broadcastInDim S8x2048x16x1 ![0, 1, 2]
    bcast_S8x2048x16_S8x2048x16x1_0_1_2 (Host.reduceAdd (mulf (extractStridedSlice S8x2048x16x64 ![0, 0, 0, 0] y
    slices_S8x2048x16x96_S8x2048x16x64_0_0_0_0) (extractStridedSlice S8x2048x16x64 ![0, 0, 0, 0] y slices_S8x2048x16x96_S8x2048x16x64_0_0_0_0))
    (constant S_ .f32 0x00000000#32) reducesTo_S8x2048x16x64_S8x2048x16_d3 h_S_)) (broadcastInDim S8x2048x16x1 ![] bcast_S_S8x2048x16x1 (constant
    S_ .f32 0x42800000#32))) (broadcastInDim S8x2048x16x1 ![] bcast_S_S8x2048x16x1 (constant S_ .f32 0x358637BD#32)))))) (broadcastInDim
    S8x2048x16x64 ![0, 1, 2, 3] bcast_S1x1x1x64_S8x2048x16x64_0_1_2_3 (broadcastInDim S1x1x1x64 ![3] bcast_S64_S1x1x1x64_3 (extractStridedSlice
    S64 ![0] q slices_S96_S64_0)))

/-- The reference's normed second parts of query heads `y`. -/
def refQp (y : FVec Ideal S8x2048x16x96 .f32) : FVec Ideal S8x2048x16x32 .f32 :=
  mulf (mulf (extractStridedSlice S8x2048x16x32 ![0, 0, 0, 64] y slices_S8x2048x16x96_S8x2048x16x32_0_0_0_64) (broadcastInDim S8x2048x16x32 ![0,
    1, 2, 3] bcast_S8x2048x16x1_S8x2048x16x32_0_1_2_3 (Host.rsqrt (addf (Host.divf (broadcastInDim S8x2048x16x1 ![0, 1, 2]
    bcast_S8x2048x16_S8x2048x16x1_0_1_2 (Host.reduceAdd (mulf (extractStridedSlice S8x2048x16x32 ![0, 0, 0, 64] y
    slices_S8x2048x16x96_S8x2048x16x32_0_0_0_64) (extractStridedSlice S8x2048x16x32 ![0, 0, 0, 64] y slices_S8x2048x16x96_S8x2048x16x32_0_0_0_64))
    (constant S_ .f32 0x00000000#32) reducesTo_S8x2048x16x32_S8x2048x16_d3 h_S_)) (broadcastInDim S8x2048x16x1 ![] bcast_S_S8x2048x16x1 (constant
    S_ .f32 0x42000000#32))) (broadcastInDim S8x2048x16x1 ![] bcast_S_S8x2048x16x1 (constant S_ .f32 0x358637BD#32)))))) (broadcastInDim
    S8x2048x16x32 ![0, 1, 2, 3] bcast_S1x1x1x32_S8x2048x16x32_0_1_2_3 (broadcastInDim S1x1x1x32 ![3] bcast_S32_S1x1x1x32_3 (extractStridedSlice
    S32 ![64] q slices_S96_S32_64)))

/-- The reference's rotated query parts. -/
def refQr (y : FVec Ideal S8x2048x16x32 .f32) : FVec Ideal S8x2048x16x32 .f32 :=
  concatenate S8x2048x16x32 3 [⟨S8x2048x16x16, (subf (mulf (extractStridedSlice S8x2048x16x16 ![0, 0, 0, 0] y
    slices_S8x2048x16x32_S8x2048x16x16_0_0_0_0) (broadcastInDim S8x2048x16x16 ![0, 1, 2, 3] bcast_S1x2048x1x16_S8x2048x16x16_0_1_2_3
    (broadcastInDim S1x2048x1x16 ![1, 2, 3] bcast_S2048x1x16_S1x2048x1x16_1_2_3 (broadcastInDim S2048x1x16 ![0, 2] bcast_S2048x16_S2048x1x16_0_2
    co)))) (mulf (extractStridedSlice S8x2048x16x16 ![0, 0, 0, 16] y slices_S8x2048x16x32_S8x2048x16x16_0_0_0_16) (broadcastInDim S8x2048x16x16
    ![0, 1, 2, 3] bcast_S1x2048x1x16_S8x2048x16x16_0_1_2_3 (broadcastInDim S1x2048x1x16 ![1, 2, 3] bcast_S2048x1x16_S1x2048x1x16_1_2_3
    (broadcastInDim S2048x1x16 ![0, 2] bcast_S2048x16_S2048x1x16_0_2 si)))))⟩, ⟨S8x2048x16x16, (addf (mulf (extractStridedSlice S8x2048x16x16 ![0,
    0, 0, 0] y slices_S8x2048x16x32_S8x2048x16x16_0_0_0_0) (broadcastInDim S8x2048x16x16 ![0, 1, 2, 3] bcast_S1x2048x1x16_S8x2048x16x16_0_1_2_3
    (broadcastInDim S1x2048x1x16 ![1, 2, 3] bcast_S2048x1x16_S1x2048x1x16_1_2_3 (broadcastInDim S2048x1x16 ![0, 2] bcast_S2048x16_S2048x1x16_0_2
    si)))) (mulf (extractStridedSlice S8x2048x16x16 ![0, 0, 0, 16] y slices_S8x2048x16x32_S8x2048x16x16_0_0_0_16) (broadcastInDim S8x2048x16x16
    ![0, 1, 2, 3] bcast_S1x2048x1x16_S8x2048x16x16_0_1_2_3 (broadcastInDim S1x2048x1x16 ![1, 2, 3] bcast_S2048x1x16_S1x2048x1x16_1_2_3
    (broadcastInDim S2048x1x16 ![0, 2] bcast_S2048x16_S2048x1x16_0_2 co)))))⟩] concatenates_S8x2048x16x16_S8x2048x16x16_S8x2048x16x32_d3

/-- The reference's queries of first parts `y` and rotated parts `z`: scaled, with zeros behind each head. -/
def refQ (y : FVec Ideal S8x2048x16x64 .f32) (z : FVec Ideal S8x2048x16x32 .f32) : FVec Ideal S16384x2048 .bf16 :=
  truncf .bf16 (shapeCast S16384x2048 (concatenate S8x2048x16x128 3 [⟨S8x2048x16x96, (mulf (concatenate S8x2048x16x96 3 [⟨S8x2048x16x64, y⟩,
    ⟨S8x2048x16x32, z⟩] concatenates_S8x2048x16x64_S8x2048x16x32_S8x2048x16x96_d3) (broadcastInDim S8x2048x16x96 ![] bcast_S_S8x2048x16x96
    (constant S_ .f32 0x3DD105EC#32)))⟩, ⟨S8x2048x16x32, (broadcastInDim S8x2048x16x32 ![] bcast_S_S8x2048x16x32 (constant S_ .f32
    0x00000000#32))⟩] concatenates_S8x2048x16x96_S8x2048x16x32_S8x2048x16x128_d3) shapeCasts_S8x2048x16x128_S16384x2048) bitsLt_bf16_f32

/-- The reference's latent key of the product `a`. -/
def refCkv (a : FVec Ideal S8x2048x672 .f32) : FVec Ideal S8x2048x256 .f32 :=
  mulf (mulf (extractStridedSlice S8x2048x256 ![0, 0, 384] a slices_S8x2048x672_S8x2048x256_0_0_384) (broadcastInDim S8x2048x256 ![0, 1, 2]
    bcast_S8x2048x1_S8x2048x256_0_1_2 (Host.rsqrt (addf (Host.divf (broadcastInDim S8x2048x1 ![0, 1] bcast_S8x2048_S8x2048x1_0_1 (Host.reduceAdd
    (mulf (extractStridedSlice S8x2048x256 ![0, 0, 384] a slices_S8x2048x672_S8x2048x256_0_0_384) (extractStridedSlice S8x2048x256 ![0, 0, 384] a
    slices_S8x2048x672_S8x2048x256_0_0_384)) (constant S_ .f32 0x00000000#32) reducesTo_S8x2048x256_S8x2048_d2 h_S_)) (broadcastInDim S8x2048x1
    ![] bcast_S_S8x2048x1 (constant S_ .f32 0x43800000#32))) (broadcastInDim S8x2048x1 ![] bcast_S_S8x2048x1 (constant S_ .f32 0x358637BD#32))))))
    (broadcastInDim S8x2048x256 ![0, 1, 2] bcast_S1x1x256_S8x2048x256_0_1_2 (broadcastInDim S1x1x256 ![2] bcast_S256_S1x1x256_2 gk))

/-- The reference's normed last part of the product `a`. -/
def refKp (a : FVec Ideal S8x2048x672 .f32) : FVec Ideal S8x2048x32 .f32 :=
  mulf (mulf (extractStridedSlice S8x2048x32 ![0, 0, 640] a slices_S8x2048x672_S8x2048x32_0_0_640) (broadcastInDim S8x2048x32 ![0, 1, 2]
    bcast_S8x2048x1_S8x2048x32_0_1_2 (Host.rsqrt (addf (Host.divf (broadcastInDim S8x2048x1 ![0, 1] bcast_S8x2048_S8x2048x1_0_1 (Host.reduceAdd
    (mulf (extractStridedSlice S8x2048x32 ![0, 0, 640] a slices_S8x2048x672_S8x2048x32_0_0_640) (extractStridedSlice S8x2048x32 ![0, 0, 640] a
    slices_S8x2048x672_S8x2048x32_0_0_640)) (constant S_ .f32 0x00000000#32) reducesTo_S8x2048x32_S8x2048_d2 h_S_)) (broadcastInDim S8x2048x1 ![]
    bcast_S_S8x2048x1 (constant S_ .f32 0x42000000#32))) (broadcastInDim S8x2048x1 ![] bcast_S_S8x2048x1 (constant S_ .f32 0x358637BD#32))))))
    (broadcastInDim S8x2048x32 ![0, 1, 2] bcast_S1x1x32_S8x2048x32_0_1_2 (broadcastInDim S1x1x32 ![2] bcast_S32_S1x1x32_2 (extractStridedSlice S32
    ![64] k slices_S96_S32_64)))

/-- The reference's rotated key part. -/
def refKr (y : FVec Ideal S8x2048x32 .f32) : FVec Ideal S8x2048x32 .f32 :=
  concatenate S8x2048x32 2 [⟨S8x2048x16, (subf (mulf (extractStridedSlice S8x2048x16 ![0, 0, 0] y slices_S8x2048x32_S8x2048x16_0_0_0)
    (broadcastInDim S8x2048x16 ![0, 1, 2] bcast_S1x2048x16_S8x2048x16_0_1_2 (broadcastInDim S1x2048x16 ![1, 2] bcast_S2048x16_S1x2048x16_1_2 co)))
    (mulf (extractStridedSlice S8x2048x16 ![0, 0, 16] y slices_S8x2048x32_S8x2048x16_0_0_16) (broadcastInDim S8x2048x16 ![0, 1, 2]
    bcast_S1x2048x16_S8x2048x16_0_1_2 (broadcastInDim S1x2048x16 ![1, 2] bcast_S2048x16_S1x2048x16_1_2 si))))⟩, ⟨S8x2048x16, (addf (mulf
    (extractStridedSlice S8x2048x16 ![0, 0, 0] y slices_S8x2048x32_S8x2048x16_0_0_0) (broadcastInDim S8x2048x16 ![0, 1, 2]
    bcast_S1x2048x16_S8x2048x16_0_1_2 (broadcastInDim S1x2048x16 ![1, 2] bcast_S2048x16_S1x2048x16_1_2 si))) (mulf (extractStridedSlice S8x2048x16
    ![0, 0, 16] y slices_S8x2048x32_S8x2048x16_0_0_16) (broadcastInDim S8x2048x16 ![0, 1, 2] bcast_S1x2048x16_S8x2048x16_0_1_2 (broadcastInDim
    S1x2048x16 ![1, 2] bcast_S2048x16_S1x2048x16_1_2 co))))⟩] concatenates_S8x2048x16_S8x2048x16_S8x2048x32_d2

/-- The reference's latent keys `y` beside the rotated parts `z`. -/
def refLat (y : FVec Ideal S8x2048x256 .f32) (z : FVec Ideal S8x2048x32 .f32) : FVec Ideal S16384x288 .f32 :=
  shapeCast S16384x288 (concatenate S8x2048x288 2 [⟨S8x2048x256, y⟩, ⟨S8x2048x32, z⟩] concatenates_S8x2048x256_S8x2048x32_S8x2048x288_d2)
    shapeCasts_S8x2048x288_S16384x288

theorem refNrm_apply (b : Fin 8) (n : Fin 2048) (k : Fin 1024) :
    refNrm x g (ix3 b n k) = nrm 1149239296#32 (fun k => x (ix3 b n k)) (fun k => g (ix1 k)) k := by
  unfold nrm
  pointwise [refNrm]

theorem refProj_apply (h : FVec Ideal S8x2048x1024 .f32) (b : Fin 8) (n : Fin 2048) (d : Fin 672) :
    refProj w h (ix3 b n d) = ∑ k, h (ix3 b n k) * w (ix2 k d) := by
  pointwise [refProj]

theorem refCq_apply (a : FVec Ideal S8x2048x672 .f32) (b : Fin 8) (n : Fin 2048) (e : Fin 384) :
    refCq gq a (ix3 b n e) = nrm 1136656384#32 (fun e : Fin 384 => a (ix3 b n ⟨e.val, by omega⟩)) (fun e => gq (ix1 e)) e := by
  unfold nrm
  pointwise [refCq]

theorem refCkv_apply (a : FVec Ideal S8x2048x672 .f32) (b : Fin 8) (n : Fin 2048) (e : Fin 256) :
    refCkv gk a (ix3 b n e) = nrm 1132462080#32 (fun e : Fin 256 => a (ix3 b n ⟨384 + e.val, by omega⟩)) (fun e => gk (ix1 e)) e := by
  unfold nrm
  pointwise [refCkv]

theorem refKp_apply (a : FVec Ideal S8x2048x672 .f32) (b : Fin 8) (n : Fin 2048) (e : Fin 32) :
    refKp k a (ix3 b n e) = nrm 1107296256#32 (fun e : Fin 32 => a (ix3 b n ⟨640 + e.val, by omega⟩)) (fun e => k (ix1 ⟨64 + e.val, by omega⟩)) e := by
  unfold nrm
  pointwise [refKp]

theorem refHeads_apply (h : FVec Ideal S8x2048x384 .f32) (b : Fin 8) (n : Fin 2048) (a : Fin 16) (e : Fin 96) :
    refHeads u h (ix4 b n a e) = ∑ k, h (ix3 b n k) * u (ix2 k ⟨96 * a.val + e.val, by omega⟩) := by
  have he : (⟨96 * a.val + e.val, by omega⟩ : Fin 1536) = ⟨a.val * 96 + e.val, by omega⟩ := Fin.ext (by simp only; omega)
  rw [he]
  pointwise [refHeads]

theorem refQn_apply (y : FVec Ideal S8x2048x16x96 .f32) (b : Fin 8) (n : Fin 2048) (a : Fin 16) (e : Fin 64) :
    refQn q y (ix4 b n a e)
      = nrm 1115684864#32 (fun e : Fin 64 => y (ix4 b n a ⟨e.val, by omega⟩)) (fun e => q (ix1 ⟨e.val, by omega⟩)) e := by
  unfold nrm
  pointwise [refQn]

theorem refQp_apply (y : FVec Ideal S8x2048x16x96 .f32) (b : Fin 8) (n : Fin 2048) (a : Fin 16) (e : Fin 32) :
    refQp q y (ix4 b n a e)
      = nrm 1107296256#32 (fun e : Fin 32 => y (ix4 b n a ⟨64 + e.val, by omega⟩)) (fun e => q (ix1 ⟨64 + e.val, by omega⟩)) e := by
  unfold nrm
  pointwise [refQp]

theorem refQr_apply (y : FVec Ideal S8x2048x16x32 .f32) (b : Fin 8) (n : Fin 2048) (a : Fin 16) (e : Fin 32) :
    refQr co si y (ix4 b n a e) = rot (fun e => y (ix4 b n a e)) (fun e => co (ix2 n e)) (fun e => si (ix2 n e)) e := by
  unfold rot
  pointwise [refQr]
  split
  · rename_i h
    have he : (⟨16 + e.val, by omega⟩ : Fin 32) = ⟨e.val + 16, by omega⟩ := Fin.ext (Nat.add_comm _ _)
    rw [he]
  · rename_i h
    have he : (⟨16 + (e.val - 16), by omega⟩ : Fin 32) = e := Fin.ext (by simp only; omega)
    rw [he]

theorem refKr_apply (y : FVec Ideal S8x2048x32 .f32) (b : Fin 8) (n : Fin 2048) (e : Fin 32) :
    refKr co si y (ix3 b n e) = rot (fun e => y (ix3 b n e)) (fun e => co (ix2 n e)) (fun e => si (ix2 n e)) e := by
  unfold rot
  pointwise [refKr]
  split
  · rename_i h
    have he : (⟨16 + e.val, by omega⟩ : Fin 32) = ⟨e.val + 16, by omega⟩ := Fin.ext (Nat.add_comm _ _)
    rw [he]
  · rename_i h
    have he : (⟨16 + (e.val - 16), by omega⟩ : Fin 32) = e := Fin.ext (by simp only; omega)
    rw [he]

theorem refQ_apply (y : FVec Ideal S8x2048x16x64 .f32) (z : FVec Ideal S8x2048x16x32 .f32) (n : Fin 16384) (d : Fin 2048) :
    refQ y z (ix2 n d) = if h : d.val % 128 < 64 then
      y (ix4 ⟨n.val / 2048, by omega⟩ ⟨n.val % 2048, Nat.mod_lt _ (by omega)⟩ ⟨d.val / 128, by omega⟩ ⟨d.val % 128, h⟩) * Ideal.ofBits .f32 1037108716#32
    else if h' : d.val % 128 < 96 then
      z (ix4 ⟨n.val / 2048, by omega⟩ ⟨n.val % 2048, Nat.mod_lt _ (by omega)⟩ ⟨d.val / 128, by omega⟩ ⟨d.val % 128 - 64, by omega⟩)
        * Ideal.ofBits .f32 1037108716#32
    else 0 := by
  pointwise [refQ]
  by_cases h : d.val % 128 < 64
  · have h' : d.val % 128 < 96 := by omega
    simp only [dif_pos h, dif_pos h']
  · by_cases h' : d.val % 128 < 96
    · simp only [dif_neg h, dif_pos h']
    · simp only [dif_neg h, dif_neg h']

theorem refLat_apply (y : FVec Ideal S8x2048x256 .f32) (z : FVec Ideal S8x2048x32 .f32) (n : Fin 16384) (d : Fin 288) :
    refLat y z (ix2 n d) = if h : d.val < 256 then y (ix3 ⟨n.val / 2048, by omega⟩ ⟨n.val % 2048, Nat.mod_lt _ (by omega)⟩ ⟨d.val, h⟩)
      else z (ix3 ⟨n.val / 2048, by omega⟩ ⟨n.val % 2048, Nat.mod_lt _ (by omega)⟩ ⟨d.val - 256, by omega⟩) := by
  pointwise [refLat]

/-- The queries of a row by the three parts of a head's lanes. -/
theorem qRow_apply (C : Fin 384 → EReal) (U : Fin 384 → Fin 1536 → EReal) (v : Fin 96 → EReal) (c s : Fin 16 → EReal) (d : Fin 2048) :
    qRow C U v c s d = if h : d.val % 128 < 64 then
      nrm 1115684864#32 (fun e : Fin 64 => ∑ k, C k * U k ⟨96 * (d.val / 128) + e.val, by omega⟩) (fun e => v ⟨e.val, by omega⟩) ⟨d.val % 128, h⟩
        * Ideal.ofBits .f32 1037108716#32
    else if h' : d.val % 128 < 96 then
      rot (nrm 1107296256#32 (fun e : Fin 32 => ∑ k, C k * U k ⟨96 * (d.val / 128) + (64 + e.val), by omega⟩) fun e => v ⟨64 + e.val, by omega⟩) c s
        ⟨d.val % 128 - 64, by omega⟩ * Ideal.ofBits .f32 1037108716#32
    else 0 := by
  unfold qRow qHead
  by_cases h : d.val % 128 < 64
  · simp only [dif_pos h]
  · by_cases h' : d.val % 128 < 96
    · simp only [dif_neg h, dif_pos h']
    · simp only [dif_neg h, dif_neg h', zero_mul]

/-- The reference's queries are the projection's. -/
theorem ref_q : refQ (refQn q (refHeads u (refCq gq (refProj w (refNrm x g))))) (refQr co si (refQp q (refHeads u (refCq gq (refProj w (refNrm x g))))))
    = qArr x g w gq u q co si := by
  funext j
  obtain ⟨n, d, rfl⟩ : ∃ (n : Fin 16384) (d : Fin 2048), j = ix2 n d := ⟨j 0, j 1, Shared.pair_idx j⟩
  have hC : ∀ e : Fin 384, refCq gq (refProj w (refNrm x g)) (ix3 ⟨n.val / 2048, by omega⟩ ⟨n.val % 2048, Nat.mod_lt _ (by omega)⟩ e)
      = qLat (rowH x g n) (fun k d => w (ix2 k d)) (fun e => gq (ix1 e)) e := fun e => by
    rw [refCq_apply]
    simp only [refProj_apply, refNrm_apply]
    rfl
  rw [refQ_apply]
  simp only [refQr_apply, refQn_apply, refQp_apply, refHeads_apply, hC]
  show _ = qRow (qLat (rowH x g n) (fun k d => w (ix2 k d)) (fun e => gq (ix1 e))) (fun k d => u (ix2 k d)) (fun e => q (ix1 e))
    (angle co n) (angle si n) d
  rw [qRow_apply]
  rfl

/-- The reference's latent keys and rotated parts are the projection's. -/
theorem ref_lat : refLat (refCkv gk (refProj w (refNrm x g))) (refKr co si (refKp k (refProj w (refNrm x g)))) = latArr x g w gk k co si := by
  funext j
  obtain ⟨n, d, rfl⟩ : ∃ (n : Fin 16384) (d : Fin 288), j = ix2 n d := ⟨j 0, j 1, Shared.pair_idx j⟩
  rw [refLat_apply]
  simp only [refKr_apply, refCkv_apply, refKp_apply, refProj_apply, refNrm_apply]
  rfl

end

/-- The kernel's two results are the reference's, whatever the arguments. -/
theorem algebraic : Cert.algebraic_MlaProjIdeal_MlaProjReferenceIdeal := by
  intro m ρ m' ρ' _ hagree
  refine ⟨fun c => qArr (argX m c) (argG m c) (argW m c) (argGq m c) (argU m c) (argQ m c) (argC m c) (argS m c),
    fun c => latArr (argX m c) (argG m c) (argW m c) (argGk m c) (argK m c) (argC m c) (argS m c), ?_, ?_⟩
  · exact (θ_run Cert.MlaProjIdeal.defs _ _).mono (fun _ h c => ⟨(h c).1.trans (final_q m c), (h c).2.1.trans (final_lat m c), (h c).2.2⟩)
      (Cert.MlaProjIdeal.Value.run_blocks (F := Ideal) m ρ)
  · refine (θ_run Cert.MlaProjReferenceIdeal.defs _ _).mono (fun _ h c => ⟨(h c).1.trans ?_, (h c).2.1.trans ?_, (h c).2.2⟩)
      (Cert.MlaProjReferenceIdeal.Value.run (F := Ideal) m' ρ')
    · unfold Cert.MlaProjReferenceIdeal.Value.res_main_v131
      obtain ⟨h0, h1, h2, h3, h4, h5, h6, h7, h8, h9⟩ := hagree c
      rw [h0, h1, h2, h3, h5, h6, h8, h9]
      exact ref_q (argX m c) (argG m c) (argW m c) (argGq m c) (argU m c) (argQ m c) (argC m c) (argS m c)
    · unfold Cert.MlaProjReferenceIdeal.Value.res_main_v133
      obtain ⟨h0, h1, h2, h3, h4, h5, h6, h7, h8, h9⟩ := hagree c
      rw [h0, h1, h2, h4, h7, h8, h9]
      exact ref_lat (argX m c) (argG m c) (argW m c) (argGk m c) (argK m c) (argC m c) (argS m c)

end Cert.MlaProj

end
-- ==== Proof.MobaMeans.Final.lean ====
/-
  The means of the keys over blocks of 256 positions: the kernel's blocks tile the array, so it is the mean of every block.
-/
module

public import proofs.«01_k».proof.Proof.Gen.MobaMeansIdeal.Frame
public import proofs.«01_k».proof.Proof.Gen.MobaMeansIdeal.Value
public import proofs.«01_k».proof.Proof.Shared.Index

@[expose] public section

set_option maxRecDepth 16384

noncomputable section

namespace Cert.MobaMeans

open Cert.MobaMeansIdeal Cert.MobaMeansIdeal.Gen Idealize.ShloMosaic Idealize.ShloMosaic.TcCoe Idealize.SL.Sem
open Idealize.ShloMosaic.Pipeline (Dat)

/-- The mean of each block of 256 rows, of the first 256 columns. -/
def arr (X : FVec Ideal (⟨2, ![16384, 512]⟩ : Shape) .f32) : FVec Ideal (⟨2, ![64, 256]⟩ : Shape) .f32 := fun i =>
  Ideal.div (∑ e : Fin 256, X (ix2 ⟨256 * (i 0).val + e.val, by have : (i 0).val < 64 := (i 0).isLt; omega⟩
    ⟨(i 1).val, by have : (i 1).val < 256 := (i 1).isLt; omega⟩)) (Ideal.ofBits .f32 1132462080#32)

theorem ofBits_256 : Ideal.ofBits .f32 1132462080#32 = ((256 : ℝ) : EReal) := by
  simp [Ideal.ofBits, Ideal.ieee, -EReal.coe_mul]; norm_num
theorem ofBits_256th : Ideal.ofBits .f32 998244352#32 = ((1 / 256 : ℝ) : EReal) := by
  simp [Ideal.ofBits, Ideal.ieee, -EReal.coe_mul]; norm_num

/-- Dividing by 256 is multiplying by its inverse, of an infinite sum too. -/
theorem div_256 (S : EReal) : Ideal.div S (Ideal.ofBits .f32 1132462080#32) = S * Ideal.ofBits .f32 998244352#32 := by
  have h0 : ((256 : ℝ) : EReal) ≠ 0 := by norm_num
  rw [ofBits_256, ofBits_256th, Ideal.div, if_neg h0, ← EReal.coe_inv]
  norm_num

/-- One grid point's result at a block and a column. -/
theorem out_apply (x : Vec Ideal S2048x256 .f32) (b : Fin 8) (d : Fin 256) :
    out0_1 x (ix2 b d) = (∑ e : Fin 256, x (ix2 ⟨256 * b.val + e.val, by omega⟩ d)) * Ideal.ofBits .f32 998244352#32 := by
  have hx : View.ld x r0_0 = x := Shared.window_whole x _ rfl rfl _
  have he : ∀ e : Fin 256, (⟨256 * b.val + e.val, by omega⟩ : Fin 2048) = ⟨b.val * 256 + e.val, by omega⟩ :=
    fun e => Fin.ext (by simp only; omega)
  unfold out0_1
  rw [View.canon_unit_zero (by funext a; fin_cases a <;> rfl), hx]
  simp only [he]
  pointwise [k0_pay1]

variable (m : (ℓ : Loc nD τ sig) → Buf (Elt Ideal) ℓ) (c : Dev nD) (t : Fin cfg0.N)

/-- The argument array. -/
abbrev argX : FVec Ideal S16384x512 .f32 := m ((c : Thread nD τ).loc main_arg0)

/-- A grid point's blocks of rows. -/
theorem index_0 : ∀ t : Fin cfg0.N, win0_0.index t 0 = t.val ∧ win0_0.index t 1 = 0 :=
  (by decide +kernel : ∀ t : Fin grid0.N, win0_0.index t 0 = t.val ∧ win0_0.index t 1 = 0)
theorem index_1 : ∀ t : Fin cfg0.N, win0_1.index t 0 = t.val ∧ win0_1.index t 1 = 0 :=
  (by decide +kernel : ∀ t : Fin grid0.N, win0_1.index t 0 = t.val ∧ win0_1.index t 1 = 0)

theorem t_lt : t.val < 8 := lt_of_lt_of_eq t.isLt N_0

/-- A grid point's rows, the keys' columns. -/
theorem blkX (r : Fin 2048) (k : Fin 256) :
    iblk m c 0 t (ix2 r k) = argX m c (ix2 ⟨2048 * t.val + r.val, by have := t_lt t; omega⟩ ⟨k.val, by omega⟩) := by
  show V m c main_arg0 ((win0_0.rect t).emb (ix2 r k)) = _
  rw [V_main_arg0]
  refine congrArg (argX m c) (funext fun a => Fin.ext ?_)
  obtain ⟨e0, e1⟩ := index_0 t
  match a with
  | ⟨0, _⟩ =>
    show win0_0.index t 0 * 2048 + 1 * r.val = 2048 * t.val + r.val
    omega
  | ⟨1, _⟩ =>
    show win0_0.index t 1 * 256 + 1 * k.val = k.val
    omega

/-- What a grid point writes back is its block of the means. -/
theorem flushed_eq : (dats m 0 c).flushed 1 t = ((cfg0.win 1).blk t).view.read (Elt Ideal) (arr (argX m c)) := by
  rw [Value.flushed1]
  funext j
  obtain ⟨b, d, rfl⟩ : ∃ (b : Fin 8) (d : Fin 256), j = ix2 b d := ⟨j 0, j 1, Shared.pair_idx j⟩
  refine (out_apply (iblk m c 0 t) b d).trans ?_
  simp only [blkX]
  show _ = arr (argX m c) ((win0_1.rect t).emb (ix2 b d))
  have e : (win0_1.rect t).emb (ix2 b d) = (ix2 ⟨8 * t.val + b.val, by have := t_lt t; omega⟩ d : S64x256.Idx) := by
    obtain ⟨e0, e1⟩ := index_1 t
    funext a
    refine Fin.ext ?_
    match a with
    | ⟨0, _⟩ =>
      show win0_1.index t 0 * 8 + 1 * b.val = 8 * t.val + b.val
      omega
    | ⟨1, _⟩ =>
      show win0_1.index t 1 * 256 + 1 * d.val = d.val
      omega
  rw [e]
  unfold arr
  rw [div_256]
  refine congrArg (· * _) (Finset.sum_congr rfl fun e _ => congrArg (argX m c) ?_)
  refine congrArg (fun r => ix2 r _) (Fin.ext ?_)
  show 2048 * t.val + (256 * b.val + e.val) = 256 * (8 * t.val + b.val) + e.val
  omega

/-- Every place of the array lies in a grid point's block. -/
theorem cover (x : S64x256.Idx) : ∃ t : Fin cfg0.N, (cfg0.win 1).flush t = true ∧ x ∈ ((cfg0.win 1).blk t).view.set := by
  have h0 : (x 0 : ℕ) < 64 := (x 0).isLt
  have h1 : (x 1 : ℕ) < 256 := (x 1).isLt
  let t : Fin cfg0.N := ⟨(x 0 : ℕ) / 8, lt_of_lt_of_eq (by omega) N_0.symm⟩
  refine ⟨t, flush0_1 t, ?_⟩
  show x ∈ ((View.whole main_v0).slice (win0_1.rect t)).set
  rw [View.set_slice_whole, Rect.mem_set_unit]
  obtain ⟨e0, e1⟩ := index_1 t
  have ht : t.val = (x 0 : ℕ) / 8 := rfl
  intro a
  match a with
  | ⟨0, _⟩ =>
    show win0_1.index t 0 * 8 ≤ (x 0 : ℕ) ∧ (x 0 : ℕ) < win0_1.index t 0 * 8 + 8
    omega
  | ⟨1, _⟩ =>
    show win0_1.index t 1 * 256 ≤ (x 1 : ℕ) ∧ (x 1 : ℕ) < win0_1.index t 1 * 256 + 256
    omega

/-- The result array at the end of the grid is the means of the argument. -/
theorem final : (dats m 0 c).arrAt 1 cfg0.N = arr (argX m c) :=
  (dats m 0 c).arrAt_eq_of_cover 1 _ (fun t _ => flushed_eq m c t) cover

end Cert.MobaMeans

end
-- ==== Proof.MobaMeans.Claims.lean ====
/-
  The claims about the means of the keys over blocks.
-/
module

public import proofs.«01_k».proof.Defs
public import proofs.«01_k».proof.Proof.Gen.MobaMeans.Frame
public import proofs.«01_k».proof.Proof.Gen.MobaMeansReferenceIdeal.Run
public import proofs.«01_k».proof.Proof.MobaMeans.Final
public import Idealize.ShloMosaic.Lib.Quiescent

@[expose] public section

set_option maxRecDepth 16384

noncomputable section

namespace Cert.MobaMeans

open Idealize.ShloMosaic Idealize.ShloMosaic.TcCoe Idealize.SL.Sem

/-- The kernel as printed terminates, its argument unchanged. -/
theorem frame_P : Cert.quiescent_MobaMeans := fun m ρ _ => Cert.MobaMeans.Gen.frame m ρ
/-- The kernel over the extended reals terminates, its argument unchanged. -/
theorem frame_PI : Cert.quiescent_MobaMeansIdeal := fun m ρ _ => Cert.MobaMeansIdeal.Gen.frame m ρ
/-- The reference terminates, its argument unchanged; it has no semaphore. -/
theorem frame_RI : Cert.quiescent_MobaMeansReferenceIdeal := fun m ρ _ =>
  (θ_run Cert.MobaMeansReferenceIdeal.defs _ _).mono (fun r h => ⟨fun c => (h c).2, sem_eq_zero_of_no_sems (by decide) r.2⟩)
    (Cert.MobaMeansReferenceIdeal.Value.run (F := Ideal) m ρ)
/-- No operation was rewritten. -/
theorem preserves : Cert.preserves_MobaMeans_MobaMeansIdeal := trivial

section
open Cert.MobaMeansReferenceIdeal Cert.MobaMeansReferenceIdeal.Gen

variable (x : FVec Ideal S16384x512 .f32)

/-- The reference's keys by blocks and heads. -/
def refKeys : FVec Ideal S8x8x256x4x64 .f32 :=
  shapeCast S8x8x256x4x64 (shapeCast S8x2048x4x64 (extractStridedSlice S8x2048x1x4x64 ![0, 0, 0, 0, 0] (shapeCast S8x2048x2x4x64 x
    shapeCasts_S16384x512_S8x2048x2x4x64) slices_S8x2048x2x4x64_S8x2048x1x4x64_0_0_0_0_0) shapeCasts_S8x2048x1x4x64_S8x2048x4x64)
    shapeCasts_S8x2048x4x64_S8x8x256x4x64

/-- The reference's means of keys `y` over their blocks. -/
def refMeans (y : FVec Ideal S8x8x256x4x64 .f32) : FVec Ideal S64x256 .f32 :=
  shapeCast S64x256 (Host.divf (Host.reduceAdd y (constant S_ .f32 0x00000000#32) reducesTo_S8x8x256x4x64_S8x8x4x64_d2 h_S_) (broadcastInDim
    S8x8x4x64 ![] bcast_S_S8x8x4x64 (constant S_ .f32 0x43800000#32))) shapeCasts_S8x8x4x64_S64x256

theorem refKeys_apply (b n : Fin 8) (e : Fin 256) (h : Fin 4) (d : Fin 64) : refKeys x (ix5 b n e h d)
    = x (ix2 ⟨2048 * b.val + 256 * n.val + e.val, by omega⟩ ⟨64 * h.val + d.val, by omega⟩) := by
  pointwise [refKeys]
  refine congrArg x (congrArg₂ ix2 (Fin.ext ?_) (Fin.ext ?_))
  · show b.val * 2048 + (n.val * 256 + e.val) = 2048 * b.val + 256 * n.val + e.val
    omega
  · show h.val * 64 + d.val = 64 * h.val + d.val
    omega

theorem refMeans_apply (y : FVec Ideal S8x8x256x4x64 .f32) (r : Fin 64) (d : Fin 256) : refMeans y (ix2 r d)
    = Ideal.div (∑ e : Fin 256, y (ix5 ⟨r.val / 8, by omega⟩ ⟨r.val % 8, by omega⟩ e ⟨d.val / 64, by omega⟩ ⟨d.val % 64, by omega⟩))
      (Ideal.ofBits .f32 1132462080#32) := by
  pointwise [refMeans]

/-- The reference computes the mean of every block. -/
theorem ref_eq : refMeans (refKeys x) = arr x := by
  funext j
  obtain ⟨r, d, rfl⟩ : ∃ (r : Fin 64) (d : Fin 256), j = ix2 r d := ⟨j 0, j 1, Shared.pair_idx j⟩
  rw [refMeans_apply]
  simp only [refKeys_apply]
  unfold arr
  refine congrArg (fun S => Ideal.div S _) (Finset.sum_congr rfl fun e _ => congrArg x ?_)
  refine congrArg₂ ix2 (Fin.ext ?_) (Fin.ext ?_)
  · show 2048 * (r.val / 8) + 256 * (r.val % 8) + e.val = 256 * r.val + e.val
    omega
  · show 64 * (d.val / 64) + d.val % 64 = d.val
    omega

end

/-- The kernel's result is the reference's, whatever the argument. -/
theorem algebraic : Cert.algebraic_MobaMeansIdeal_MobaMeansReferenceIdeal := by
  intro m ρ m' ρ' _ hagree
  refine ⟨fun c => arr (argX m c), ?_, ?_⟩
  · exact (θ_run Cert.MobaMeansIdeal.defs _ _).mono (fun _ h c => ⟨(h c).1.trans (final m c), (h c).2⟩)
      (Cert.MobaMeansIdeal.Value.run_blocks (F := Ideal) m ρ)
  · refine (θ_run Cert.MobaMeansReferenceIdeal.defs _ _).mono (fun _ h c => ⟨(h c).1.trans ?_, (h c).2⟩)
      (Cert.MobaMeansReferenceIdeal.Value.run (F := Ideal) m' ρ')
    rw [hagree c]
    exact ref_eq (argX m c)

end Cert.MobaMeans

end
-- ==== Proof.Mlp.Block.lean ====
/-
  The MLP with squared ReLU, its norm and its residual: what it is of one row, and that one block of the kernel computes it
  for the block's rows.
-/
module

public import proofs.«01_k».proof.Proof.Gen.MlpIdeal.Frame
public import proofs.«01_k».proof.Proof.Shared.Index

@[expose] public section

set_option maxRecDepth 16384

noncomputable section

namespace Cert.Mlp

open Idealize.ShloMosaic

/-! ## The function of one row -/

/-- A row divided by its root mean square and scaled by the gains. -/
def nrm (x g : Fin 1024 → EReal) (k : Fin 1024) : EReal :=
  x k * Ideal.rsqrt (Ideal.div (∑ j, x j * x j) (Ideal.ofBits .f32 1149239296#32) + Ideal.ofBits .f32 897988541#32) * g k

/-- A hidden unit before it is squared. -/
def unit (x g : Fin 1024 → EReal) (W : Fin 1024 → Fin 4096 → EReal) (f : Fin 4096) : EReal :=
  max (∑ k, nrm x g k * W k f) 0

/-- The row after the layer. -/
def row (x g : Fin 1024 → EReal) (W : Fin 1024 → Fin 4096 → EReal) (W' : Fin 4096 → Fin 1024 → EReal) (d : Fin 1024) : EReal :=
  x d + ∑ f, unit x g W f * unit x g W f * W' f d

/-- The layer of a whole array of rows. -/
def arr (X : FVec Ideal (⟨2, ![16384, 1024]⟩ : Shape) .f32) (g : FVec Ideal (⟨1, ![1024]⟩ : Shape) .f32)
    (W : FVec Ideal (⟨2, ![1024, 4096]⟩ : Shape) .f32) (W' : FVec Ideal (⟨2, ![4096, 1024]⟩ : Shape) .f32) :
    FVec Ideal (⟨2, ![16384, 1024]⟩ : Shape) .f32 := fun i =>
  row (fun k => X (ix2 (i 0) k)) (fun k => g (ix1 k)) (fun k f => W (ix2 k f)) (fun f d => W' (ix2 f d)) (i 1)

/-! ## One block -/

section
open Cert.MlpIdeal Cert.MlpIdeal.Gen

variable (x : Vec Ideal S512x1024 .f32) (g : Vec Ideal S1x1024 .f32) (r : Fin 512)

theorem pay2_apply (k : Fin 1024) :
    k0_pay2 x g (ix2 r k) = nrm (fun k => x (ix2 r k)) (fun k => g (ix2 0 k)) k := by
  unfold nrm
  pointwise [k0_pay2]

variable (W : Vec Ideal S1024x4096 .bf16) (W' : Vec Ideal S4096x1024 .bf16)

/-- A quarter of the hidden units' columns of the first weights, read off the window at column `n`. -/
theorem cols_apply (n : ℕ) (hn : n + 1024 ≤ 4096) (inb) (k j : Fin 1024) :
    View.ld W (Rect.unit (s := S1024x4096) ![0, n] S1024x1024.size inb) (ix2 k j) = W (ix2 k ⟨n + j.val, by omega⟩) :=
  Shared.window_apply W ![0, n] inb k j k ⟨n + j.val, by omega⟩ (Nat.zero_add _).symm rfl

/-- The same quarter of the second weights' rows. -/
theorem rows_apply (n : ℕ) (hn : n + 1024 ≤ 4096) (inb) (k j : Fin 1024) :
    View.ld W' (Rect.unit (s := S4096x1024) ![n, 0] S1024x1024.size inb) (ix2 k j) = W' (ix2 ⟨n + k.val, by omega⟩ j) :=
  Shared.window_apply W' ![n, 0] inb k j ⟨n + k.val, by omega⟩ j rfl (Nat.zero_add _).symm

/-- The block's result at a row and a column is the layer of the row. -/
theorem out_apply (d : Fin 1024) :
    out0_4 x g W W' (ix2 r d)
      = row (fun k => x (ix2 r k)) (fun k => g (ix2 0 k)) (fun k f => W (ix2 k f)) (fun f d => W' (ix2 f d)) d := by
  have hx : View.ld x r0_0 = x := Shared.window_whole x _ rfl rfl _
  have hg : View.ld g r0_1 = g := Shared.window_whole g _ rfl rfl _
  unfold out0_4
  rw [View.canon_unit_zero (by funext a; fin_cases a <;> rfl), hx, hg]
  have e1 : ∀ (h : FVec Ideal S512x1024 .bf16) (u : FVec Ideal S512x1024 .f32) (a b a' b' : Vec Ideal S1024x1024 .bf16),
      k0_pay1 h u a b a' b' (ix2 r d) = u (ix2 r d)
        + ∑ f, max (∑ k, h (ix2 r k) * a (ix2 k f)) 0 * max (∑ k, h (ix2 r k) * a (ix2 k f)) 0 * b (ix2 f d)
        + ∑ f, max (∑ k, h (ix2 r k) * a' (ix2 k f)) 0 * max (∑ k, h (ix2 r k) * a' (ix2 k f)) 0 * b' (ix2 f d) := by
    intro h u a b a' b'
    pointwise [k0_pay1]
  have e2 : ∀ (a b a' b' : Vec Ideal S1024x1024 .bf16),
      k0_pay3 x g a b a' b' (ix2 r d) = x (ix2 r d)
        + ∑ f, max (∑ k, k0_pay2 x g (ix2 r k) * a (ix2 k f)) 0 * max (∑ k, k0_pay2 x g (ix2 r k) * a (ix2 k f)) 0 * b (ix2 f d)
        + ∑ f, max (∑ k, k0_pay2 x g (ix2 r k) * a' (ix2 k f)) 0 * max (∑ k, k0_pay2 x g (ix2 r k) * a' (ix2 k f)) 0 * b' (ix2 f d) := by
    intro a b a' b'
    generalize hp : k0_pay2 x g = p
    pointwise [k0_pay3, hp]
  rw [e1, e2]
  simp only [pay2_apply, row, Shared.sum_quarters, unit]
  simp only [cols_apply W 0 (by omega), cols_apply W 1024 (by omega), cols_apply W 2048 (by omega), cols_apply W 3072 (by omega),
    rows_apply W' 0 (by omega), rows_apply W' 1024 (by omega), rows_apply W' 2048 (by omega), rows_apply W' 3072 (by omega), Nat.zero_add]
  simp only [add_assoc]

end

end Cert.Mlp

end
-- ==== Proof.Mlp.Final.lean ====
/-
  The kernel's whole result: its blocks of rows tile the array, so it is the layer of every row.
-/
module

public import proofs.«01_k».proof.Proof.Mlp.Block
public import proofs.«01_k».proof.Proof.Gen.MlpIdeal.Value

@[expose] public section

set_option maxRecDepth 16384

noncomputable section

namespace Cert.Mlp

open Cert.MlpIdeal Cert.MlpIdeal.Gen Idealize.ShloMosaic Idealize.ShloMosaic.TcCoe Idealize.SL.Sem
open Idealize.ShloMosaic.Pipeline (Dat)

variable (m : (ℓ : Loc nD τ sig) → Buf (Elt Ideal) ℓ) (c : Dev nD) (t : Fin cfg0.N)

/-- The four argument arrays. -/
abbrev argX : FVec Ideal S16384x1024 .f32 := m ((c : Thread nD τ).loc main_arg0)
abbrev argG : FVec Ideal S1024 .f32 := m ((c : Thread nD τ).loc main_arg1)
abbrev argW : FVec Ideal S1024x4096 .f32 := m ((c : Thread nD τ).loc main_arg2)
abbrev argW' : FVec Ideal S4096x1024 .f32 := m ((c : Thread nD τ).loc main_arg3)

/-- The arrays the launch finds: the gains as one row, the weights in the kernel's format. -/
theorem gains_eq : V m c main_v0 = shapeCast S1x1024 (argG m c) shapeCasts_S1024_S1x1024 := by
  dsimp only [V, hostOps0]; after_results; rfl
theorem weights_eq : V m c main_v1 = argW m c := by
  dsimp only [V, hostOps0]; after_results; rfl
theorem weights'_eq : V m c main_v2 = argW' m c := by
  dsimp only [V, hostOps0]; after_results; rfl

/-- A grid point's block of rows. -/
theorem index_in : ∀ t : Fin cfg0.N, win0_0.index t 0 = t.val ∧ win0_0.index t 1 = 0 := (by decide +kernel : ∀ t : Fin grid0.N, win0_0.index t 0 = t.val ∧ win0_0.index t 1 = 0)
theorem index_out : ∀ t : Fin cfg0.N, win0_4.index t 0 = t.val ∧ win0_4.index t 1 = 0 := (by decide +kernel : ∀ t : Fin grid0.N, win0_4.index t 0 = t.val ∧ win0_4.index t 1 = 0)

theorem t_lt : t.val < 32 := lt_of_lt_of_eq t.isLt N_0

theorem blkX (r : Fin 512) (k : Fin 1024) :
    iblk m c 0 t (ix2 r k) = argX m c (ix2 ⟨512 * t.val + r.val, by have := t_lt t; omega⟩ k) := by
  show V m c main_arg0 ((win0_0.rect t).emb (ix2 r k)) = _
  rw [V_main_arg0]
  refine congrArg (argX m c) (funext fun a => Fin.ext ?_)
  obtain ⟨e0, e1⟩ := index_in t
  match a with
  | ⟨0, _⟩ =>
    show win0_0.index t 0 * 512 + 1 * r.val = 512 * t.val + r.val
    omega
  | ⟨1, _⟩ =>
    show win0_0.index t 1 * 1024 + 1 * k.val = k.val
    omega

theorem blkG (k : Fin 1024) : iblk m c 1 t (ix2 0 k) = argG m c (ix1 k) := by
  have e : iblk m c 1 t (ix2 0 k) = V m c main_v0 (ix2 0 k) := by
    show V m c main_v0 ((win0_1.rect t).emb (ix2 0 k)) = _
    refine congrArg (V m c main_v0) (funext fun a => Fin.ext ?_)
    match a with
    | ⟨0, _⟩ => rfl
    | ⟨1, _⟩ =>
      show 0 * 1024 + 1 * k.val = k.val
      omega
  rw [e, gains_eq]
  pointwise

theorem blkW (k : Fin 1024) (f : Fin 4096) : iblk m c 2 t (ix2 k f) = argW m c (ix2 k f) := by
  rw [← weights_eq]
  show V m c main_v1 ((win0_2.rect t).emb (ix2 k f)) = _
  refine congrArg (V m c main_v1) (funext fun a => Fin.ext ?_)
  match a with
  | ⟨0, _⟩ =>
    show 0 * 1024 + 1 * k.val = k.val
    omega
  | ⟨1, _⟩ =>
    show 0 * 4096 + 1 * f.val = f.val
    omega

theorem blkW' (f : Fin 4096) (k : Fin 1024) : iblk m c 3 t (ix2 f k) = argW' m c (ix2 f k) := by
  rw [← weights'_eq]
  show V m c main_v2 ((win0_3.rect t).emb (ix2 f k)) = _
  refine congrArg (V m c main_v2) (funext fun a => Fin.ext ?_)
  match a with
  | ⟨0, _⟩ =>
    show 0 * 4096 + 1 * f.val = f.val
    omega
  | ⟨1, _⟩ =>
    show 0 * 1024 + 1 * k.val = k.val
    omega

/-- What a grid point writes back is its block of the layer. -/
theorem flushed_eq : (dats m 0 c).flushed 4 t
    = ((cfg0.win 4).blk t).view.read (Elt Ideal) (arr (argX m c) (argG m c) (argW m c) (argW' m c)) := by
  rw [Value.flushed4]
  funext j
  obtain ⟨r, d, rfl⟩ : ∃ (r : Fin 512) (d : Fin 1024), j = ix2 r d := ⟨j 0, j 1, Shared.pair_idx j⟩
  refine (out_apply (iblk m c 0 t) (iblk m c 1 t) r (iblk m c 2 t) (iblk m c 3 t) d).trans ?_
  simp only [blkX, blkG, blkW, blkW']
  show _ = arr (argX m c) (argG m c) (argW m c) (argW' m c) ((win0_4.rect t).emb (ix2 r d))
  have e : (win0_4.rect t).emb (ix2 r d) = (ix2 ⟨512 * t.val + r.val, by have := t_lt t; omega⟩ d : S16384x1024.Idx) := by
    obtain ⟨e0, e1⟩ := index_out t
    funext a
    refine Fin.ext ?_
    match a with
    | ⟨0, _⟩ =>
      show win0_4.index t 0 * 512 + 1 * r.val = 512 * t.val + r.val
      omega
    | ⟨1, _⟩ =>
      show win0_4.index t 1 * 1024 + 1 * d.val = d.val
      omega
  rw [e]
  rfl

/-- Every place of the array lies in a grid point's block. -/
theorem cover (x : S16384x1024.Idx) : ∃ t : Fin cfg0.N, (cfg0.win 4).flush t = true ∧ x ∈ ((cfg0.win 4).blk t).view.set := by
  have h0 : (x 0 : ℕ) < 16384 := (x 0).isLt
  have h1 : (x 1 : ℕ) < 1024 := (x 1).isLt
  let t : Fin cfg0.N := ⟨(x 0 : ℕ) / 512, lt_of_lt_of_eq (by omega) N_0.symm⟩
  refine ⟨t, flush0_4 t, ?_⟩
  show x ∈ ((View.whole main_v3).slice (win0_4.rect t)).set
  rw [View.set_slice_whole, Rect.mem_set_unit]
  obtain ⟨e0, e1⟩ := index_out t
  have ht : t.val = (x 0 : ℕ) / 512 := rfl
  intro a
  match a with
  | ⟨0, _⟩ =>
    show win0_4.index t 0 * 512 ≤ (x 0 : ℕ) ∧ (x 0 : ℕ) < win0_4.index t 0 * 512 + 512
    omega
  | ⟨1, _⟩ =>
    show win0_4.index t 1 * 1024 ≤ (x 1 : ℕ) ∧ (x 1 : ℕ) < win0_4.index t 1 * 1024 + 1024
    omega

/-- The result array at the end of the grid is the layer of the arguments. -/
theorem final : (dats m 0 c).arrAt 4 cfg0.N = arr (argX m c) (argG m c) (argW m c) (argW' m c) :=
  (dats m 0 c).arrAt_eq_of_cover 4 _ (fun t _ => flushed_eq m c t) cover

end Cert.Mlp

end
-- ==== Proof.Mlp.Claims.lean ====
/-
  The claims about the MLP.
-/
module

public import proofs.«01_k».proof.Defs
public import proofs.«01_k».proof.Proof.Gen.Mlp.Frame
public import proofs.«01_k».proof.Proof.Gen.MlpReferenceIdeal.Run
public import proofs.«01_k».proof.Proof.Mlp.Final
public import Idealize.ShloMosaic.Lib.Quiescent

@[expose] public section

set_option maxRecDepth 16384

noncomputable section

namespace Cert.Mlp

open Idealize.ShloMosaic Idealize.ShloMosaic.TcCoe Idealize.SL.Sem

/-- The kernel as printed terminates, its arguments unchanged. -/
theorem frame_P : Cert.quiescent_Mlp := fun m ρ _ => Cert.Mlp.Gen.frame m ρ
/-- The kernel over the extended reals terminates, its arguments unchanged. -/
theorem frame_PI : Cert.quiescent_MlpIdeal := fun m ρ _ => Cert.MlpIdeal.Gen.frame m ρ
/-- The reference terminates, its arguments unchanged; it has no semaphore. -/
theorem frame_RI : Cert.quiescent_MlpReferenceIdeal := fun m ρ _ =>
  (θ_run Cert.MlpReferenceIdeal.defs _ _).mono (fun r h => ⟨fun c => (h c).2, sem_eq_zero_of_no_sems (by decide) r.2⟩)
    (Cert.MlpReferenceIdeal.Value.run (F := Ideal) m ρ)
/-- No operation was rewritten. -/
theorem preserves : Cert.preserves_Mlp_MlpIdeal := trivial

section
open Cert.MlpReferenceIdeal Cert.MlpReferenceIdeal.Gen

variable (x : FVec Ideal S16384x1024 .f32) (g : FVec Ideal S1024 .f32) (w : FVec Ideal S1024x4096 .f32) (w' : FVec Ideal S4096x1024 .f32)

/-- The reference's normed rows. -/
def refNrm : FVec Ideal S16384x1024 .f32 :=
  mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g))

/-- The reference's hidden units of normed rows `h`. -/
def refUnit (h : FVec Ideal S16384x1024 .f32) : FVec Ideal S16384x4096 .f32 :=
  maximumf (Host.dotGeneral dot_S16384x1024_S1024x4096_S16384x4096_1_0_0_1_n_n none h w) (broadcastInDim S16384x4096 ![] bcast_S_S16384x4096 (constant S_ .f32 0x00000000#32))

/-- The reference's result from the hidden units `u`. -/
def refOut (u : FVec Ideal S16384x4096 .f32) : FVec Ideal S16384x1024 .f32 :=
  addf x (Host.dotGeneral dot_S16384x4096_S4096x1024_S16384x1024_1_0_0_1_n_n none (mulf u u) w')

theorem refNrm_apply (i : Fin 16384) (k : Fin 1024) :
    refNrm x g (ix2 i k) = nrm (fun k => x (ix2 i k)) (fun k => g (ix1 k)) k := by
  unfold nrm
  pointwise [refNrm]

theorem refUnit_apply (h : FVec Ideal S16384x1024 .f32) (i : Fin 16384) (f : Fin 4096) :
    refUnit w h (ix2 i f) = max (∑ k, h (ix2 i k) * w (ix2 k f)) 0 := by
  pointwise [refUnit]

theorem refOut_apply (u : FVec Ideal S16384x4096 .f32) (i : Fin 16384) (d : Fin 1024) :
    refOut x w' u (ix2 i d) = x (ix2 i d) + ∑ f, u (ix2 i f) * u (ix2 i f) * w' (ix2 f d) := by
  pointwise [refOut]

/-- The reference computes the layer of every row. -/
theorem ref_eq : refOut x w' (refUnit w (refNrm x g)) = arr x g w w' := by
  funext j
  obtain ⟨r, d, rfl⟩ : ∃ (r : Fin 16384) (d : Fin 1024), j = ix2 r d := ⟨j 0, j 1, Shared.pair_idx j⟩
  rw [refOut_apply]
  simp only [refUnit_apply, refNrm_apply]
  rfl

end

/-- The kernel's result is the reference's, whatever the arguments. -/
theorem algebraic : Cert.algebraic_MlpIdeal_MlpReferenceIdeal := by
  intro m ρ m' ρ' _ hagree
  refine ⟨fun c => arr (argX m c) (argG m c) (argW m c) (argW' m c), ?_, ?_⟩
  · exact (θ_run Cert.MlpIdeal.defs _ _).mono (fun _ h c => ⟨(h c).1.trans (final m c), (h c).2⟩)
      (Cert.MlpIdeal.Value.run_blocks (F := Ideal) m ρ)
  · refine (θ_run Cert.MlpReferenceIdeal.defs _ _).mono (fun _ h c => ⟨(h c).1.trans ?_, (h c).2⟩)
      (Cert.MlpReferenceIdeal.Value.run (F := Ideal) m' ρ')
    rw [(hagree c).1, (hagree c).2.1, (hagree c).2.2.1, (hagree c).2.2.2]
    exact ref_eq (argX m c) (argG m c) (argW m c) (argW' m c)

end Cert.Mlp

end
-- ==== Proof.MobaProj.Block.lean ====
/-
  One block of the kernel: its three results at a row, as lanes of four heads.
-/
module

public import proofs.«01_k».proof.Proof.Gen.MobaProjIdeal.Frame
public import proofs.«01_k».proof.Proof.MobaProj.Spec

@[expose] public section

set_option maxRecDepth 16384

noncomputable section

namespace Cert.MobaProj

open Idealize.ShloMosaic
open Cert.MobaProjIdeal Cert.MobaProjIdeal.Gen

/-! ## The vectors the block stores -/

section
variable (h : FVec Ideal S512x1024 .bf16) (M : FVec Ideal S256x256 .bf16) (co si : FVec Ideal S512x256 .f32)
  (qg up : FVec Ideal S1x256 .f32) (w : Vec Ideal S1024x256 .bf16) (r : Fin 512) (j : Fin 256)

/-- The lane function over the block's vectors at a row. -/
abbrev vlane : EReal :=
  lane (fun k => h (ix2 r k)) (fun k j => w (ix2 k j)) (fun x j => M (ix2 x j)) (fun j => qg (ix2 0 j)) (fun j => up (ix2 0 j))
    (fun j => co (ix2 r j)) (fun j => si (ix2 r j)) j

theorem pay15_apply : k0_pay15 h M co si qg up w (ix2 r j) = vlane h M co si qg up w r j * Ideal.ofBits .f32 1040187392#32 := by
  unfold vlane lane
  pointwise [k0_pay15]

theorem pay14_apply :
    k0_pay14 (k0_pay13 h M co si qg up w) (ix2 r j) = vlane h M co si qg up w r j * Ideal.ofBits .f32 1040187392#32 := by
  unfold vlane lane
  pointwise [k0_pay14, k0_pay13]

theorem pay17_apply :
    k0_pay17 co si up (k0_pay16 h M qg w) (ix2 r j) = vlane h M co si qg up w r j * Ideal.ofBits .f32 1040187392#32 := by
  unfold vlane lane
  pointwise [k0_pay17, k0_pay16]

theorem pay18_apply : k0_pay18 h M co si qg up w (ix2 r j) = vlane h M co si qg up w r j := by
  unfold vlane lane
  pointwise [k0_pay18]

theorem pay19_apply : k0_pay19 h w (ix2 r j) = ∑ k, h (ix2 r k) * w (ix2 k j) := by
  pointwise [k0_pay19]

end

section
variable (x : Vec Ideal S512x1024 .f32) (g : Vec Ideal S1x1024 .f32) (M : Vec Ideal S256x256 .bf16) (co si : FVec Ideal S512x256 .f32)
  (qg up : FVec Ideal S1x256 .f32) (w : Vec Ideal S1024x256 .bf16) (r : Fin 512)

theorem pay3_apply (k : Fin 1024) : k0_pay3 x g (ix2 r k) = nrm (fun k => x (ix2 r k)) (fun k => g (ix2 0 k)) k := by
  unfold nrm
  pointwise [k0_pay3]

theorem pay12_apply (j : Fin 256) :
    k0_pay12 co si qg up (k0_pay10 x g w) (k0_pay11 x g M w) (Scalar.ofBits .f32 0x358637BD#32) (ix2 r j)
      = vlane (k0_pay3 x g) M co si qg up w r j * Ideal.ofBits .f32 1040187392#32 := by
  unfold vlane lane
  generalize hp : k0_pay3 x g = p
  pointwise [k0_pay12, k0_pay11, k0_pay10, k0_pay4, hp]

end

/-! ## The block's results -/

section
variable (x : Vec Ideal S512x1024 .f32) (g : Vec Ideal S1x1024 .f32) (W : Vec Ideal S1024x1536 .bf16) (M : Vec Ideal S256x256 .bf16)
  (C : Vec Ideal S8x256 .f32) (co si : Vec Ideal S512x256 .f32) (r : Fin 512)

/-- The window of 256 columns of the weights at column `n`. -/
theorem cols_apply (n : ℕ) (hn : n + 256 ≤ 1536) (inb) (k : Fin 1024) (j : Fin 256) :
    View.ld W (Rect.unit (s := S1024x1536) ![0, n] S1024x256.size inb) (ix2 k j) = W (ix2 k ⟨n + j.val, by omega⟩) :=
  Shared.window_apply W ![0, n] inb k j k ⟨n + j.val, by omega⟩ (Nat.zero_add _).symm rfl

/-- A row of the constants. -/
theorem const_apply (n : ℕ) (hn : n < 8) (inb) (j : Fin 256) :
    View.ld C (Rect.unit (s := S8x256) ![n, 0] S1x256.size inb) (ix2 0 j) = C (ix2 ⟨n, hn⟩ j) :=
  Shared.window_apply C ![n, 0] inb 0 j ⟨n, hn⟩ j rfl (Nat.zero_add _).symm

/-- The lanes of the 256 columns of the weights at column `n`, with the gains in row `q` of the constants. -/
def blane (n : ℕ) (hn : n + 256 ≤ 1536) (q : Fin 8) (j : Fin 256) : EReal :=
  lane (nrm (fun k => x (ix2 r k)) (fun k => g (ix2 0 k))) (fun k j => W (ix2 k ⟨n + j.val, by omega⟩)) (fun x j => M (ix2 x j))
    (fun j => C (ix2 q j)) (fun j => C (ix2 2 j)) (fun j => co (ix2 r j)) (fun j => si (ix2 r j)) j

theorem vlane_eq (n : ℕ) (hn : n + 256 ≤ 1536) (q : Fin 8) (inb inb' inb'') (j : Fin 256) :
    vlane (k0_pay3 x g) M co si (View.ld C (Rect.unit (s := S8x256) ![q.val, 0] S1x256.size inb))
        (View.ld C (Rect.unit (s := S8x256) ![2, 0] S1x256.size inb'))
        (View.ld W (Rect.unit (s := S1024x1536) ![0, n] S1024x256.size inb'')) r j
      = blane x g W M C co si r n hn q j := by
  unfold vlane blane
  have e2 : ∀ j : Fin 256, View.ld C (Rect.unit (s := S8x256) ![2, 0] S1x256.size inb') (ix2 0 j) = C (ix2 2 j) :=
    const_apply C 2 (by omega) inb'
  simp only [pay3_apply, cols_apply W n hn inb'', const_apply C q.val q.isLt, e2]

theorem p4 : (k0_pay4 M : FVec Ideal S256x256 .bf16) = M := by
  funext y; obtain ⟨a, b, rfl⟩ : ∃ (a : Fin 256) (b : Fin 256), y = ix2 a b := ⟨y 0, y 1, Shared.pair_idx y⟩
  pointwise [k0_pay4]
theorem p5 : (k0_pay5 co : FVec Ideal S512x256 .f32) = co := by
  funext y; obtain ⟨a, b, rfl⟩ : ∃ (a : Fin 512) (b : Fin 256), y = ix2 a b := ⟨y 0, y 1, Shared.pair_idx y⟩
  pointwise [k0_pay5]
theorem p6 : (k0_pay6 co : FVec Ideal S512x256 .f32) = co := by
  funext y; obtain ⟨a, b, rfl⟩ : ∃ (a : Fin 512) (b : Fin 256), y = ix2 a b := ⟨y 0, y 1, Shared.pair_idx y⟩
  pointwise [k0_pay6]
theorem p7 (u : Vec Ideal S1x256 .f32) : (k0_pay7 u : FVec Ideal S1x256 .f32) = u := by
  funext y; obtain ⟨a, b, rfl⟩ : ∃ (a : Fin 1) (b : Fin 256), y = ix2 a b := ⟨y 0, y 1, Shared.pair_idx y⟩
  pointwise [k0_pay7]
theorem p8 (u : Vec Ideal S1x256 .f32) : (k0_pay8 u : FVec Ideal S1x256 .f32) = u := by
  funext y; obtain ⟨a, b, rfl⟩ : ∃ (a : Fin 1) (b : Fin 256), y = ix2 a b := ⟨y 0, y 1, Shared.pair_idx y⟩
  pointwise [k0_pay8]
theorem p9 (u : Vec Ideal S1x256 .f32) : (k0_pay9 u : FVec Ideal S1x256 .f32) = u := by
  funext y; obtain ⟨a, b, rfl⟩ : ∃ (a : Fin 1) (b : Fin 256), y = ix2 a b := ⟨y 0, y 1, Shared.pair_idx y⟩
  pointwise [k0_pay9]

/-- The block's queries. -/
def qBlk : Vec Ideal S512x1024 .bf16 := fun y =>
  blane x g W M C co si (y 0) (256 * ((y 1).val / 256)) (by have : (y 1).val < 1024 := (y 1).isLt; omega) 0
    ⟨(y 1).val % 256, Nat.mod_lt _ (by omega)⟩ * Ideal.ofBits .f32 1040187392#32

/-- The block's keys and values. -/
def kvBlk : Vec Ideal S512x512 .f32 := fun y =>
  if h : (y 1).val < 256 then blane x g W M C co si (y 0) 1024 (by omega) 1 ⟨(y 1).val, h⟩
  else ∑ k, nrm (fun k => x (ix2 (y 0) k)) (fun k => g (ix2 0 k)) k
    * W (ix2 k ⟨1024 + (y 1).val, by have : (y 1).val < 512 := (y 1).isLt; omega⟩)

/-- A block's queries at the place a window of 256 columns at a multiple of 256 reads. -/
theorem qBlk_at (n : ℕ) (hn : n + 256 ≤ 1024) (hm : n % 256 = 0) (y : S512x1024.Idx) (j : Fin 256) (h0 : (y 0).val = r.val)
    (h1 : (y 1).val = n + j.val) :
    qBlk x g W M C co si y = blane x g W M C co si r n (by omega) 0 j * Ideal.ofBits .f32 1040187392#32 := by
  have e0 : y 0 = r := Fin.ext h0
  unfold qBlk
  have e1 : 256 * ((y 1).val / 256) = n := by omega
  have e2 : (⟨(y 1).val % 256, Nat.mod_lt _ (by omega)⟩ : Fin 256) = j := Fin.ext (by show (y 1).val % 256 = j.val; omega)
  rw [e2, e0]
  simp only [e1]

theorem out7_eq : out0_7 x g W M C co si = qBlk x g W M C co si := by
  have hx : View.ld x r0_0 = x := Shared.window_whole x _ rfl rfl _
  have hg : View.ld g r0_1 = g := Shared.window_whole g _ rfl rfl _
  have hM : View.ld M r0_2 = M := Shared.window_whole M _ rfl rfl _
  have hco : View.ld co r0_3 = co := Shared.window_whole co _ rfl rfl _
  have hsi : View.ld si r0_3 = si := Shared.window_whole si _ rfl rfl _
  funext y
  unfold out0_7
  refine View.canon_apply_of_pieces _ _ ?_ y (cover0_7 _ _ _ _ y)
  simp only [k0_pay20, k0_pay21, k0_pay22, k0_pay23, k0_pay24, k0_pay25, hx, hg, hM, hco, hsi, p4, p5, p6, p7, p9]
  intro p hp
  simp only [List.mem_cons, List.not_mem_nil, or_false] at hp
  rcases hp with rfl | rfl | rfl | rfl <;> intro z <;>
    obtain ⟨r, j, rfl⟩ : ∃ (r : Fin 512) (j : Fin 256), z = ix2 r j := ⟨z 0, z 1, Shared.pair_idx z⟩
  · refine (pay17_apply _ _ _ _ _ _ _ r j).trans ?_
    rw [qBlk_at x g W M C co si r 768 (by omega) (by omega) _ j (by show 0 + 1 * r.val = _; omega) (by show 768 + 1 * j.val = _; omega)]
    exact congrArg (· * _) (vlane_eq x g W M C co si r 768 (by omega) 0 _ _ _ j)
  · refine (pay15_apply _ _ _ _ _ _ _ r j).trans ?_
    rw [qBlk_at x g W M C co si r 512 (by omega) (by omega) _ j (by show 0 + 1 * r.val = _; omega) (by show 512 + 1 * j.val = _; omega)]
    exact congrArg (· * _) (vlane_eq x g W M C co si r 512 (by omega) 0 _ _ _ j)
  · refine (pay14_apply _ _ _ _ _ _ _ r j).trans ?_
    rw [qBlk_at x g W M C co si r 256 (by omega) (by omega) _ j (by show 0 + 1 * r.val = _; omega) (by show 256 + 1 * j.val = _; omega)]
    exact congrArg (· * _) (vlane_eq x g W M C co si r 256 (by omega) 0 _ _ _ j)
  · refine (pay12_apply _ _ _ _ _ _ _ _ r j).trans ?_
    rw [qBlk_at x g W M C co si r 0 (by omega) (by omega) _ j (by show 0 + 1 * r.val = _; omega) (by show 0 + 1 * j.val = _; omega)]
    exact congrArg (· * _) (vlane_eq x g W M C co si r 0 (by omega) 0 _ _ _ j)

theorem kvBlk_keys (y : S512x512.Idx) (j : Fin 256) (h0 : (y 0).val = r.val) (h1 : (y 1).val = j.val) :
    kvBlk x g W M C co si y = blane x g W M C co si r 1024 (by omega) 1 j := by
  have e0 : y 0 = r := Fin.ext h0
  unfold kvBlk
  have e1 : (y 1).val < 256 := by omega
  have e2 : (⟨(y 1).val, e1⟩ : Fin 256) = j := Fin.ext h1
  rw [dif_pos e1, e2, e0]

theorem kvBlk_vals (y : S512x512.Idx) (j : Fin 256) (h0 : (y 0).val = r.val) (h1 : (y 1).val = 256 + j.val) :
    kvBlk x g W M C co si y = ∑ k, nrm (fun k => x (ix2 r k)) (fun k => g (ix2 0 k)) k * W (ix2 k ⟨1280 + j.val, by omega⟩) := by
  have e0 : y 0 = r := Fin.ext h0
  unfold kvBlk
  have e1 : ¬ (y 1).val < 256 := by omega
  have e2 : 1024 + (y 1).val = 1280 + j.val := by omega
  rw [dif_neg e1, e0]
  simp only [e2]

theorem pay26_apply (j : Fin 256) : k0_pay26 x g W M C co si (ix2 r j) = blane x g W M C co si r 1024 (by omega) 1 j := by
  have hx : View.ld x r0_0 = x := Shared.window_whole x _ rfl rfl _
  have hg : View.ld g r0_1 = g := Shared.window_whole g _ rfl rfl _
  have hM : View.ld M r0_2 = M := Shared.window_whole M _ rfl rfl _
  have hco : View.ld co r0_3 = co := Shared.window_whole co _ rfl rfl _
  have hsi : View.ld si r0_3 = si := Shared.window_whole si _ rfl rfl _
  unfold k0_pay26
  simp only [k0_pay20, k0_pay21, k0_pay22, k0_pay23, k0_pay25, hx, hg, hM, hco, hsi, p4, p5, p6, p8, p9]
  exact (pay18_apply _ _ _ _ _ _ _ r j).trans (vlane_eq x g W M C co si r 1024 (by omega) 1 _ _ _ j)

theorem pay27_apply (j : Fin 256) : k0_pay27 x g W M C co si (ix2 r j)
    = ∑ k, nrm (fun k => x (ix2 r k)) (fun k => g (ix2 0 k)) k * W (ix2 k ⟨1280 + j.val, by omega⟩) := by
  have hx : View.ld x r0_0 = x := Shared.window_whole x _ rfl rfl _
  have hg : View.ld g r0_1 = g := Shared.window_whole g _ rfl rfl _
  unfold k0_pay27
  simp only [k0_pay20, hx, hg]
  refine (pay19_apply _ _ r j).trans ?_
  simp only [pay3_apply, cols_apply W 1280 (by omega)]

theorem out8_eq : out0_8 x g W M C co si = kvBlk x g W M C co si := by
  funext y
  unfold out0_8
  refine View.canon_apply_of_pieces _ _ ?_ y (cover0_8 _ _ y)
  intro p hp
  simp only [List.mem_cons, List.not_mem_nil, or_false] at hp
  rcases hp with rfl | rfl <;> intro z <;>
    obtain ⟨r, j, rfl⟩ : ∃ (r : Fin 512) (j : Fin 256), z = ix2 r j := ⟨z 0, z 1, Shared.pair_idx z⟩
  · exact (pay27_apply x g W M C co si r j).trans
      (kvBlk_vals x g W M C co si r _ j (by show 0 + 1 * r.val = _; omega) (by show 256 + 1 * j.val = _; omega)).symm
  · exact (pay26_apply x g W M C co si r j).trans
      (kvBlk_keys x g W M C co si r _ j (by show 0 + 1 * r.val = _; omega) (by show 0 + 1 * j.val = _; omega)).symm

theorem out9_eq : out0_9 x g W M C co si = (kvBlk x g W M C co si : S512x512.Idx → EReal) := by
  funext y
  unfold out0_9
  refine View.canon_apply_of_pieces (Val := Elt Ideal) (e := .bf16) (kvBlk x g W M C co si) _ ?_ y (cover0_9 _ _ y)
  intro p hp
  simp only [List.mem_cons, List.not_mem_nil, or_false] at hp
  rcases hp with rfl | rfl <;> intro z <;>
    obtain ⟨r, j, rfl⟩ : ∃ (r : Fin 512) (j : Fin 256), z = ix2 r j := ⟨z 0, z 1, Shared.pair_idx z⟩
  · exact (pay27_apply x g W M C co si r j).trans
      (kvBlk_vals x g W M C co si r _ j (by show 0 + 1 * r.val = _; omega) (by show 256 + 1 * j.val = _; omega)).symm
  · exact (pay26_apply x g W M C co si r j).trans
      (kvBlk_keys x g W M C co si r _ j (by show 0 + 1 * r.val = _; omega) (by show 0 + 1 * j.val = _; omega)).symm

end

end Cert.MobaProj

end
-- ==== Proof.MobaProj.Final.lean ====
/-
  The kernel's whole results: its blocks of rows tile the arrays, so they are the projection of every row.
-/
module

public import proofs.«01_k».proof.Proof.MobaProj.Block
public import proofs.«01_k».proof.Proof.MobaProj.Host
public import proofs.«01_k».proof.Proof.Gen.MobaProjIdeal.Value

@[expose] public section

set_option maxRecDepth 16384

noncomputable section

namespace Cert.MobaProj

open Cert.MobaProjIdeal Cert.MobaProjIdeal.Gen Idealize.ShloMosaic Idealize.ShloMosaic.TcCoe Idealize.SL.Sem
open Idealize.ShloMosaic.Pipeline (Dat)

/-! ## The projection of every row -/

section
variable (x : FVec Ideal S8x2048x1024 .f32) (g : FVec Ideal S1024 .f32) (w : FVec Ideal S1024x1536 .f32) (q k : FVec Ideal S64 .f32)
  (co si : FVec Ideal S2048x32 .f32)

/-- The normed row `n` of all batches. -/
def rowH (n : Fin 16384) : Fin 1024 → EReal :=
  nrm (fun k => x (ix3 ⟨n.val / 2048, by omega⟩ ⟨n.val % 2048, Nat.mod_lt _ (by omega)⟩ k)) (fun k => g (ix1 k))

/-- The angles' cosines or sines of row `n`. -/
def angle (t : FVec Ideal S2048x32 .f32) (n : Fin 16384) (e : Fin 32) : EReal := t (ix2 ⟨n.val % 2048, Nat.mod_lt _ (by omega)⟩ e)

/-- The queries of every row. -/
def qArr : FVec Ideal S16384x1024 .bf16 := fun y =>
  qRow (rowH x g (y 0)) (fun k d => w (ix2 k d)) (fun e => q (ix1 e)) (angle co (y 0)) (angle si (y 0)) (y 1)

/-- The keys and values of every row. -/
def kvArr : FVec Ideal S16384x512 .f32 := fun y =>
  kvRow (rowH x g (y 0)) (fun k d => w (ix2 k d)) (fun e => k (ix1 e)) (angle co (y 0)) (angle si (y 0)) (y 1)

end

variable (m : (ℓ : Loc nD τ sig) → Buf (Elt Ideal) ℓ) (c : Dev nD) (t : Fin cfg0.N)

/-! ## A grid point's blocks -/

/-- A grid point's block of rows. -/
theorem index_rows : ∀ t : Fin cfg0.N, win0_0.index t 0 = t.val ∧ win0_0.index t 1 = 0 :=
  (by decide +kernel : ∀ t : Fin grid0.N, win0_0.index t 0 = t.val ∧ win0_0.index t 1 = 0)
theorem index_cos : ∀ t : Fin cfg0.N, win0_5.index t 0 = t.val % 4 ∧ win0_5.index t 1 = 0 :=
  (by decide +kernel : ∀ t : Fin grid0.N, win0_5.index t 0 = t.val % 4 ∧ win0_5.index t 1 = 0)
theorem index_sin : ∀ t : Fin cfg0.N, win0_6.index t 0 = t.val % 4 ∧ win0_6.index t 1 = 0 :=
  (by decide +kernel : ∀ t : Fin grid0.N, win0_6.index t 0 = t.val % 4 ∧ win0_6.index t 1 = 0)
theorem index_q : ∀ t : Fin cfg0.N, win0_7.index t 0 = t.val ∧ win0_7.index t 1 = 0 :=
  (by decide +kernel : ∀ t : Fin grid0.N, win0_7.index t 0 = t.val ∧ win0_7.index t 1 = 0)
theorem index_kv : ∀ t : Fin cfg0.N, win0_8.index t 0 = t.val ∧ win0_8.index t 1 = 0 :=
  (by decide +kernel : ∀ t : Fin grid0.N, win0_8.index t 0 = t.val ∧ win0_8.index t 1 = 0)
theorem index_kv' : ∀ t : Fin cfg0.N, win0_9.index t 0 = t.val ∧ win0_9.index t 1 = 0 :=
  (by decide +kernel : ∀ t : Fin grid0.N, win0_9.index t 0 = t.val ∧ win0_9.index t 1 = 0)

theorem t_lt : t.val < 32 := lt_of_lt_of_eq t.isLt N_0

/-- The row of the array at row `r` of a grid point's block. -/
abbrev rowAt (r : Fin 512) : Fin 16384 := ⟨512 * t.val + r.val, by have := t_lt t; omega⟩

theorem blkX (r : Fin 512) (k : Fin 1024) : iblk m c 0 t (ix2 r k) = V m c main_v9 (ix2 (rowAt t r) k) := by
  show V m c main_v9 ((win0_0.rect t).emb (ix2 r k)) = _
  refine congrArg (V m c main_v9) (funext fun a => Fin.ext ?_)
  obtain ⟨e0, e1⟩ := index_rows t
  match a with
  | ⟨0, _⟩ =>
    show win0_0.index t 0 * 512 + 1 * r.val = 512 * t.val + r.val
    omega
  | ⟨1, _⟩ =>
    show win0_0.index t 1 * 1024 + 1 * k.val = k.val
    omega

theorem blkG (k : Fin 1024) : iblk m c 1 t (ix2 0 k) = argG m c (ix1 k) := by
  rw [← gains_apply]
  show V m c main_v10 ((win0_1.rect t).emb (ix2 0 k)) = _
  refine congrArg (V m c main_v10) (funext fun a => Fin.ext ?_)
  match a with
  | ⟨0, _⟩ => rfl
  | ⟨1, _⟩ =>
    show 0 * 1024 + 1 * k.val = k.val
    omega

theorem blkW (k : Fin 1024) (d : Fin 1536) : iblk m c 2 t (ix2 k d) = V m c main_v8 (ix2 k d) := by
  show V m c main_v8 ((win0_2.rect t).emb (ix2 k d)) = _
  refine congrArg (V m c main_v8) (funext fun a => Fin.ext ?_)
  match a with
  | ⟨0, _⟩ =>
    show 0 * 1024 + 1 * k.val = k.val
    omega
  | ⟨1, _⟩ =>
    show 0 * 1536 + 1 * d.val = d.val
    omega

theorem blkM (x j : Fin 256) : iblk m c 3 t (ix2 x j) = V m c main_v38 (ix2 x j) := by
  show V m c main_v38 ((win0_3.rect t).emb (ix2 x j)) = _
  refine congrArg (V m c main_v38) (funext fun a => Fin.ext ?_)
  match a with
  | ⟨0, _⟩ =>
    show 0 * 256 + 1 * x.val = x.val
    omega
  | ⟨1, _⟩ =>
    show 0 * 256 + 1 * j.val = j.val
    omega

theorem blkC (x : Fin 8) (j : Fin 256) : iblk m c 4 t (ix2 x j) = V m c main_v29 (ix2 x j) := by
  show V m c main_v29 ((win0_4.rect t).emb (ix2 x j)) = _
  refine congrArg (V m c main_v29) (funext fun a => Fin.ext ?_)
  match a with
  | ⟨0, _⟩ =>
    show 0 * 8 + 1 * x.val = x.val
    omega
  | ⟨1, _⟩ =>
    show 0 * 256 + 1 * j.val = j.val
    omega

theorem blkCos (r : Fin 512) (j : Fin 256) : iblk m c 5 t (ix2 r j)
    = V m c main_v14 (ix2 ⟨(rowAt t r).val % 2048, Nat.mod_lt _ (by omega)⟩ j) := by
  show V m c main_v14 ((win0_5.rect t).emb (ix2 r j)) = _
  refine congrArg (V m c main_v14) (funext fun a => Fin.ext ?_)
  obtain ⟨e0, e1⟩ := index_cos t
  match a with
  | ⟨0, _⟩ =>
    show win0_5.index t 0 * 512 + 1 * r.val = (512 * t.val + r.val) % 2048
    omega
  | ⟨1, _⟩ =>
    show win0_5.index t 1 * 256 + 1 * j.val = j.val
    omega

theorem blkSin (r : Fin 512) (j : Fin 256) : iblk m c 6 t (ix2 r j)
    = V m c main_v19 (ix2 ⟨(rowAt t r).val % 2048, Nat.mod_lt _ (by omega)⟩ j) := by
  show V m c main_v19 ((win0_6.rect t).emb (ix2 r j)) = _
  refine congrArg (V m c main_v19) (funext fun a => Fin.ext ?_)
  obtain ⟨e0, e1⟩ := index_sin t
  match a with
  | ⟨0, _⟩ =>
    show win0_6.index t 0 * 512 + 1 * r.val = (512 * t.val + r.val) % 2048
    omega
  | ⟨1, _⟩ =>
    show win0_6.index t 1 * 256 + 1 * j.val = j.val
    omega

/-- The normed row of a block. -/
theorem nrm_blk (r : Fin 512) : nrm (fun k => iblk m c 0 t (ix2 r k)) (fun k => iblk m c 1 t (ix2 0 k))
    = rowH (argX m c) (argG m c) (rowAt t r) := by
  have ex : (fun k => iblk m c 0 t (ix2 r k)) = fun k => argX m c
      (ix3 ⟨(rowAt t r).val / 2048, by omega⟩ ⟨(rowAt t r).val % 2048, Nat.mod_lt _ (by omega)⟩ k) :=
    funext fun k => (blkX m c t r k).trans (rows_apply m c (rowAt t r) k)
  have eg : (fun k => iblk m c 1 t (ix2 0 k)) = fun k => argG m c (ix1 k) := funext fun k => blkG m c t k
  unfold rowH
  rw [ex, eg]

/-- A head of a grid point's block, from a start of columns that hold the head's columns of the weights. -/
theorem blane_eq (r : Fin 512) (n : ℕ) (hn : n + 256 ≤ 1536) (q : Fin 8) (j : Fin 256) (p : Fin 64 → EReal) (o : ℕ) (ho : o + 64 ≤ 1536)
    (hp : ∀ j : Fin 256, V m c main_v29 (ix2 q j) = p ⟨j.val % 64, Nat.mod_lt _ (by omega)⟩)
    (hw : ∀ (k : Fin 1024) (e : Fin 64), V m c main_v8 (ix2 k ⟨n + (64 * (j.val / 64) + e.val), by omega⟩) = argW m c (ix2 k ⟨o + e.val, by omega⟩)) :
    blane (iblk m c 0 t) (iblk m c 1 t) (iblk m c 2 t) (iblk m c 3 t) (iblk m c 4 t) (iblk m c 5 t) (iblk m c 6 t) r n hn q j
      = head (rowH (argX m c) (argG m c) (rowAt t r)) (fun k d => argW m c (ix2 k d)) o ho p (angle (argC m c) (rowAt t r))
          (angle (argS m c) (rowAt t r)) ⟨j.val % 64, Nat.mod_lt _ (by omega)⟩ := by
  unfold blane
  rw [nrm_blk]
  refine (lane_eq _ _ _ _ _ _ _ p (angle (argC m c) (rowAt t r)) (angle (argS m c) (rowAt t r)) ?_ ?_ ?_ ?_ ?_ j).trans ?_
  · intro x j; rw [blkM]; exact means_apply m c x j
  · intro j; rw [blkC]; exact hp j
  · intro j; rw [blkC]; exact half_apply m c j
  · intro j; rw [blkCos]; exact cos_apply m c _ j
  · intro j; rw [blkSin]; exact sin_apply m c _ j
  · unfold head
    simp only [blkW, hw]

/-! ## What a grid point writes back -/

/-- The queries. -/
theorem flushed_q : (dats m 0 c).flushed 7 t
    = ((cfg0.win 7).blk t).view.read (Elt Ideal) (qArr (argX m c) (argG m c) (argW m c) (argQ m c) (argC m c) (argS m c)) := by
  rw [Value.flushed7]
  funext y
  obtain ⟨r, d, rfl⟩ : ∃ (r : Fin 512) (d : Fin 1024), y = ix2 r d := ⟨y 0, y 1, Shared.pair_idx y⟩
  refine (congrFun (out7_eq (iblk m c 0 t) (iblk m c 1 t) (iblk m c 2 t) (iblk m c 3 t) (iblk m c 4 t) (iblk m c 5 t) (iblk m c 6 t)) (ix2 r d)).trans ?_
  have e : (win0_7.rect t).emb (ix2 r d) = (ix2 (rowAt t r) d : S16384x1024.Idx) := by
    obtain ⟨e0, e1⟩ := index_q t
    funext a
    refine Fin.ext ?_
    match a with
    | ⟨0, _⟩ =>
      show win0_7.index t 0 * 512 + 1 * r.val = 512 * t.val + r.val
      omega
    | ⟨1, _⟩ =>
      show win0_7.index t 1 * 1024 + 1 * d.val = d.val
      omega
  show _ = qArr (argX m c) (argG m c) (argW m c) (argQ m c) (argC m c) (argS m c) ((win0_7.rect t).emb (ix2 r d))
  rw [e]
  unfold qBlk qArr qRow
  refine congrArg (· * _) ?_
  refine (blane_eq m c t r (256 * (d.val / 256)) (by omega) 0 ⟨d.val % 256, Nat.mod_lt _ (by omega)⟩ (fun e => argQ m c (ix1 e)) (slot d.val)
    (slot_le _ d.isLt) (qgain_apply m c) ?_).trans ?_
  · intro k e
    rw [weights_apply, if_pos (by simp only; omega)]
    refine congrArg (fun d => argW m c (ix2 k d)) (Fin.ext ?_)
    show slot ((256 * (d.val / 256) + (64 * (d.val % 256 / 64) + e.val)) % 1024) + (256 * (d.val / 256) + (64 * (d.val % 256 / 64) + e.val)) % 64
      = slot d.val + e.val
    have h1 : (256 * (d.val / 256) + (64 * (d.val % 256 / 64) + e.val)) % 1024 = 64 * (d.val / 64) + e.val := by omega
    have h2 : (256 * (d.val / 256) + (64 * (d.val % 256 / 64) + e.val)) % 64 = e.val := by omega
    rw [h1, h2]
    unfold slot
    omega
  · have : (⟨d.val % 256 % 64, Nat.mod_lt _ (by omega)⟩ : Fin 64) = ⟨d.val % 64, Nat.mod_lt _ (by omega)⟩ := Fin.ext (by simp only; omega)
    exact congrArg _ this

/-- The keys and values of a block. -/
theorem kv_blk (r : Fin 512) (d : Fin 512) :
    kvBlk (iblk m c 0 t) (iblk m c 1 t) (iblk m c 2 t) (iblk m c 3 t) (iblk m c 4 t) (iblk m c 5 t) (iblk m c 6 t) (ix2 r d)
      = kvArr (argX m c) (argG m c) (argW m c) (argK m c) (argC m c) (argS m c) (ix2 (rowAt t r) d) := by
  unfold kvBlk kvArr kvRow
  by_cases h : d.val < 256
  · refine (dif_pos h).trans (Eq.trans ?_ (dif_pos h).symm)
    refine blane_eq m c t r 1024 (by omega) 1 ⟨d.val, h⟩ (fun e => argK m c (ix1 e)) (1024 + 64 * (d.val / 64)) (by omega)
      (kgain_apply m c) ?_
    intro k e
    rw [weights_apply, if_neg (by simp only; omega)]
    exact congrArg (fun d => argW m c (ix2 k d)) (Fin.ext (by simp only; omega))
  · refine (dif_neg h).trans (Eq.trans ?_ (dif_neg h).symm)
    show (∑ k, nrm (fun k => iblk m c 0 t (ix2 r k)) (fun k => iblk m c 1 t (ix2 0 k)) k * iblk m c 2 t (ix2 k ⟨1024 + d.val, by omega⟩)) = _
    rw [nrm_blk]
    refine Finset.sum_congr rfl fun k _ => ?_
    rw [blkW, weights_apply, if_neg (by simp only; omega)]
    rfl

theorem flushed_kv : (dats m 0 c).flushed 8 t
    = ((cfg0.win 8).blk t).view.read (Elt Ideal) (kvArr (argX m c) (argG m c) (argW m c) (argK m c) (argC m c) (argS m c)) := by
  rw [Value.flushed8]
  funext y
  obtain ⟨r, d, rfl⟩ : ∃ (r : Fin 512) (d : Fin 512), y = ix2 r d := ⟨y 0, y 1, Shared.pair_idx y⟩
  refine (congrFun (out8_eq (iblk m c 0 t) (iblk m c 1 t) (iblk m c 2 t) (iblk m c 3 t) (iblk m c 4 t) (iblk m c 5 t) (iblk m c 6 t)) (ix2 r d)).trans ?_
  refine (kv_blk m c t r d).trans ?_
  show _ = kvArr (argX m c) (argG m c) (argW m c) (argK m c) (argC m c) (argS m c) ((win0_8.rect t).emb (ix2 r d))
  refine congrArg _ (funext fun a => Fin.ext ?_)
  obtain ⟨e0, e1⟩ := index_kv t
  match a with
  | ⟨0, _⟩ =>
    show 512 * t.val + r.val = win0_8.index t 0 * 512 + 1 * r.val
    omega
  | ⟨1, _⟩ =>
    show d.val = win0_8.index t 1 * 512 + 1 * d.val
    omega

/-- The keys and values again, in the narrow format. -/
theorem flushed_kv' : (dats m 0 c).flushed 9 t
    = ((cfg0.win 9).blk t).view.read (Elt Ideal)
        (kvArr (argX m c) (argG m c) (argW m c) (argK m c) (argC m c) (argS m c) : S16384x512.Idx → EReal) := by
  rw [Value.flushed9]
  funext y
  obtain ⟨r, d, rfl⟩ : ∃ (r : Fin 512) (d : Fin 512), y = ix2 r d := ⟨y 0, y 1, Shared.pair_idx y⟩
  refine (congrFun (out9_eq (iblk m c 0 t) (iblk m c 1 t) (iblk m c 2 t) (iblk m c 3 t) (iblk m c 4 t) (iblk m c 5 t) (iblk m c 6 t)) (ix2 r d)).trans ?_
  refine (kv_blk m c t r d).trans ?_
  show _ = kvArr (argX m c) (argG m c) (argW m c) (argK m c) (argC m c) (argS m c) ((win0_9.rect t).emb (ix2 r d))
  refine congrArg _ (funext fun a => Fin.ext ?_)
  obtain ⟨e0, e1⟩ := index_kv' t
  match a with
  | ⟨0, _⟩ =>
    show 512 * t.val + r.val = win0_9.index t 0 * 512 + 1 * r.val
    omega
  | ⟨1, _⟩ =>
    show d.val = win0_9.index t 1 * 512 + 1 * d.val
    omega

/-! ## The whole arrays -/

/-- Every place of the queries lies in a grid point's block. -/
theorem cover_q (x : S16384x1024.Idx) : ∃ t : Fin cfg0.N, (cfg0.win 7).flush t = true ∧ x ∈ ((cfg0.win 7).blk t).view.set := by
  have h0 : (x 0 : ℕ) < 16384 := (x 0).isLt
  have h1 : (x 1 : ℕ) < 1024 := (x 1).isLt
  let t : Fin cfg0.N := ⟨(x 0 : ℕ) / 512, lt_of_lt_of_eq (by omega) N_0.symm⟩
  refine ⟨t, flush0_7 t, ?_⟩
  show x ∈ ((View.whole main_v39_0).slice (win0_7.rect t)).set
  rw [View.set_slice_whole, Rect.mem_set_unit]
  obtain ⟨e0, e1⟩ := index_q t
  have ht : t.val = (x 0 : ℕ) / 512 := rfl
  intro a
  match a with
  | ⟨0, _⟩ =>
    show win0_7.index t 0 * 512 ≤ (x 0 : ℕ) ∧ (x 0 : ℕ) < win0_7.index t 0 * 512 + 512
    omega
  | ⟨1, _⟩ =>
    show win0_7.index t 1 * 1024 ≤ (x 1 : ℕ) ∧ (x 1 : ℕ) < win0_7.index t 1 * 1024 + 1024
    omega

theorem cover_kv (x : S16384x512.Idx) : ∃ t : Fin cfg0.N, (cfg0.win 8).flush t = true ∧ x ∈ ((cfg0.win 8).blk t).view.set := by
  have h0 : (x 0 : ℕ) < 16384 := (x 0).isLt
  have h1 : (x 1 : ℕ) < 512 := (x 1).isLt
  let t : Fin cfg0.N := ⟨(x 0 : ℕ) / 512, lt_of_lt_of_eq (by omega) N_0.symm⟩
  refine ⟨t, flush0_8 t, ?_⟩
  show x ∈ ((View.whole main_v39_1).slice (win0_8.rect t)).set
  rw [View.set_slice_whole, Rect.mem_set_unit]
  obtain ⟨e0, e1⟩ := index_kv t
  have ht : t.val = (x 0 : ℕ) / 512 := rfl
  intro a
  match a with
  | ⟨0, _⟩ =>
    show win0_8.index t 0 * 512 ≤ (x 0 : ℕ) ∧ (x 0 : ℕ) < win0_8.index t 0 * 512 + 512
    omega
  | ⟨1, _⟩ =>
    show win0_8.index t 1 * 512 ≤ (x 1 : ℕ) ∧ (x 1 : ℕ) < win0_8.index t 1 * 512 + 512
    omega

theorem cover_kv' (x : S16384x512.Idx) : ∃ t : Fin cfg0.N, (cfg0.win 9).flush t = true ∧ x ∈ ((cfg0.win 9).blk t).view.set := by
  have h0 : (x 0 : ℕ) < 16384 := (x 0).isLt
  have h1 : (x 1 : ℕ) < 512 := (x 1).isLt
  let t : Fin cfg0.N := ⟨(x 0 : ℕ) / 512, lt_of_lt_of_eq (by omega) N_0.symm⟩
  refine ⟨t, flush0_9 t, ?_⟩
  show x ∈ ((View.whole main_v39_2).slice (win0_9.rect t)).set
  rw [View.set_slice_whole, Rect.mem_set_unit]
  obtain ⟨e0, e1⟩ := index_kv' t
  have ht : t.val = (x 0 : ℕ) / 512 := rfl
  intro a
  match a with
  | ⟨0, _⟩ =>
    show win0_9.index t 0 * 512 ≤ (x 0 : ℕ) ∧ (x 0 : ℕ) < win0_9.index t 0 * 512 + 512
    omega
  | ⟨1, _⟩ =>
    show win0_9.index t 1 * 512 ≤ (x 1 : ℕ) ∧ (x 1 : ℕ) < win0_9.index t 1 * 512 + 512
    omega

/-- The queries' array at the end of the grid. -/
theorem final_q : (dats m 0 c).arrAt 7 cfg0.N = qArr (argX m c) (argG m c) (argW m c) (argQ m c) (argC m c) (argS m c) :=
  (dats m 0 c).arrAt_eq_of_cover 7 _ (fun t _ => flushed_q m c t) cover_q
/-- The keys' and values' array at the end of the grid. -/
theorem final_kv : (dats m 0 c).arrAt 8 cfg0.N = kvArr (argX m c) (argG m c) (argW m c) (argK m c) (argC m c) (argS m c) :=
  (dats m 0 c).arrAt_eq_of_cover 8 _ (fun t _ => flushed_kv m c t) cover_kv
/-- The same in the narrow format. -/
theorem final_kv' : (dats m 0 c).arrAt 9 cfg0.N
    = (kvArr (argX m c) (argG m c) (argW m c) (argK m c) (argC m c) (argS m c) : S16384x512.Idx → EReal) :=
  (dats m 0 c).arrAt_eq_of_cover 9 _ (fun t _ => flushed_kv' m c t) cover_kv'

end Cert.MobaProj

end
-- ==== Proof.MobaProj.Claims.lean ====
/-
  The claims about the block-attention projection.
-/
module

public import proofs.«01_k».proof.Defs
public import proofs.«01_k».proof.Proof.Gen.MobaProj.Frame
public import proofs.«01_k».proof.Proof.Gen.MobaProjReferenceIdeal.Run
public import proofs.«01_k».proof.Proof.MobaProj.Final
public import Idealize.ShloMosaic.Lib.Quiescent

@[expose] public section

set_option maxRecDepth 16384

noncomputable section

namespace Cert.MobaProj

open Idealize.ShloMosaic Idealize.ShloMosaic.TcCoe Idealize.SL.Sem

/-- The kernel as printed terminates, its arguments unchanged. -/
theorem frame_P : Cert.quiescent_MobaProj := fun m ρ _ => Cert.MobaProj.Gen.frame m ρ
/-- The kernel over the extended reals terminates, its arguments unchanged. -/
theorem frame_PI : Cert.quiescent_MobaProjIdeal := fun m ρ _ => Cert.MobaProjIdeal.Gen.frame m ρ
/-- The reference terminates, its arguments unchanged; it has no semaphore. -/
theorem frame_RI : Cert.quiescent_MobaProjReferenceIdeal := fun m ρ _ =>
  (θ_run Cert.MobaProjReferenceIdeal.defs _ _).mono (fun r h => ⟨fun c => (h c).2.2.2, sem_eq_zero_of_no_sems (by decide) r.2⟩)
    (Cert.MobaProjReferenceIdeal.Value.run (F := Ideal) m ρ)
/-- No operation was rewritten. -/
theorem preserves : Cert.preserves_MobaProj_MobaProjIdeal := trivial

section
open Cert.MobaProjReferenceIdeal Cert.MobaProjReferenceIdeal.Gen

variable (x : FVec Ideal S8x2048x1024 .f32) (g : FVec Ideal S1024 .f32) (w : FVec Ideal S1024x1536 .f32) (q k : FVec Ideal S64 .f32)
  (co si : FVec Ideal S2048x32 .f32)

/-- The reference's normed rows. -/
def refNrm : FVec Ideal S8x2048x1024 .f32 :=
  mulf (mulf x (broadcastInDim S8x2048x1024 ![0, 1, 2] bcast_S8x2048x1_S8x2048x1024_0_1_2 (Host.rsqrt (addf (Host.divf (broadcastInDim S8x2048x1 ![0,
    1] bcast_S8x2048_S8x2048x1_0_1 (Host.reduceAdd (mulf x x) (constant S_ .f32 0x00000000#32) reducesTo_S8x2048x1024_S8x2048_d2 h_S_))
    (broadcastInDim S8x2048x1 ![] bcast_S_S8x2048x1 (constant S_ .f32 0x44800000#32))) (broadcastInDim S8x2048x1 ![] bcast_S_S8x2048x1 (constant S_
    .f32 0x358637BD#32)))))) (broadcastInDim S8x2048x1024 ![0, 1, 2] bcast_S1x1x1024_S8x2048x1024_0_1_2 (broadcastInDim S1x1x1024 ![2]
    bcast_S1024_S1x1x1024_2 g))

/-- The reference's product of normed rows `h` with the weights. -/
def refProj (h : FVec Ideal S8x2048x1024 .f32) : FVec Ideal S8x2048x1536 .f32 :=
  Host.dotGeneral dot_S8x2048x1024_S1024x1536_S8x2048x1536_2_0_01_1_n_n none h w

/-- The reference's normed query heads of the product `p`. -/
def refQn (p : FVec Ideal S8x2048x1536 .f32) : FVec Ideal S8x2048x16x64 .f32 :=
  mulf (mulf (shapeCast S8x2048x16x64 (extractStridedSlice S8x2048x1024 ![0, 0, 0] p slices_S8x2048x1536_S8x2048x1024_0_0_0)
    shapeCasts_S8x2048x1024_S8x2048x16x64) (broadcastInDim S8x2048x16x64 ![0, 1, 2, 3] bcast_S8x2048x16x1_S8x2048x16x64_0_1_2_3 (Host.rsqrt (addf
    (Host.divf (broadcastInDim S8x2048x16x1 ![0, 1, 2] bcast_S8x2048x16_S8x2048x16x1_0_1_2 (Host.reduceAdd (mulf (shapeCast S8x2048x16x64
    (extractStridedSlice S8x2048x1024 ![0, 0, 0] p slices_S8x2048x1536_S8x2048x1024_0_0_0) shapeCasts_S8x2048x1024_S8x2048x16x64) (shapeCast
    S8x2048x16x64 (extractStridedSlice S8x2048x1024 ![0, 0, 0] p slices_S8x2048x1536_S8x2048x1024_0_0_0) shapeCasts_S8x2048x1024_S8x2048x16x64))
    (constant S_ .f32 0x00000000#32) reducesTo_S8x2048x16x64_S8x2048x16_d3 h_S_)) (broadcastInDim S8x2048x16x1 ![] bcast_S_S8x2048x16x1 (constant S_
    .f32 0x42800000#32))) (broadcastInDim S8x2048x16x1 ![] bcast_S_S8x2048x16x1 (constant S_ .f32 0x358637BD#32)))))) (broadcastInDim S8x2048x16x64
    ![0, 1, 2, 3] bcast_S1x1x1x64_S8x2048x16x64_0_1_2_3 (broadcastInDim S1x1x1x64 ![3] bcast_S64_S1x1x1x64_3 q))

/-- The reference's normed key heads of the product `p`. -/
def refKn (p : FVec Ideal S8x2048x1536 .f32) : FVec Ideal S8x2048x4x64 .f32 :=
  mulf (mulf (shapeCast S8x2048x4x64 (extractStridedSlice S8x2048x256 ![0, 0, 1024] p slices_S8x2048x1536_S8x2048x256_0_0_1024)
    shapeCasts_S8x2048x256_S8x2048x4x64) (broadcastInDim S8x2048x4x64 ![0, 1, 2, 3] bcast_S8x2048x4x1_S8x2048x4x64_0_1_2_3 (Host.rsqrt (addf
    (Host.divf (broadcastInDim S8x2048x4x1 ![0, 1, 2] bcast_S8x2048x4_S8x2048x4x1_0_1_2 (Host.reduceAdd (mulf (shapeCast S8x2048x4x64
    (extractStridedSlice S8x2048x256 ![0, 0, 1024] p slices_S8x2048x1536_S8x2048x256_0_0_1024) shapeCasts_S8x2048x256_S8x2048x4x64) (shapeCast
    S8x2048x4x64 (extractStridedSlice S8x2048x256 ![0, 0, 1024] p slices_S8x2048x1536_S8x2048x256_0_0_1024) shapeCasts_S8x2048x256_S8x2048x4x64))
    (constant S_ .f32 0x00000000#32) reducesTo_S8x2048x4x64_S8x2048x4_d3 h_S_)) (broadcastInDim S8x2048x4x1 ![] bcast_S_S8x2048x4x1 (constant S_ .f32
    0x42800000#32))) (broadcastInDim S8x2048x4x1 ![] bcast_S_S8x2048x4x1 (constant S_ .f32 0x358637BD#32)))))) (broadcastInDim S8x2048x4x64 ![0, 1, 2,
    3] bcast_S1x1x1x64_S8x2048x4x64_0_1_2_3 (broadcastInDim S1x1x1x64 ![3] bcast_S64_S1x1x1x64_3 k))

/-- The reference's rotated query heads. -/
def refQr (a : FVec Ideal S8x2048x16x64 .f32) : FVec Ideal S8x2048x16x64 .f32 :=
  concatenate S8x2048x16x64 3 [⟨S8x2048x16x32, (subf (mulf (extractStridedSlice S8x2048x16x32 ![0, 0, 0, 0] a
    slices_S8x2048x16x64_S8x2048x16x32_0_0_0_0) (broadcastInDim S8x2048x16x32 ![0, 1, 2, 3] bcast_S1x2048x1x32_S8x2048x16x32_0_1_2_3 (broadcastInDim
    S1x2048x1x32 ![1, 2, 3] bcast_S2048x1x32_S1x2048x1x32_1_2_3 (broadcastInDim S2048x1x32 ![0, 2] bcast_S2048x32_S2048x1x32_0_2 co)))) (mulf
    (extractStridedSlice S8x2048x16x32 ![0, 0, 0, 32] a slices_S8x2048x16x64_S8x2048x16x32_0_0_0_32) (broadcastInDim S8x2048x16x32 ![0, 1, 2, 3]
    bcast_S1x2048x1x32_S8x2048x16x32_0_1_2_3 (broadcastInDim S1x2048x1x32 ![1, 2, 3] bcast_S2048x1x32_S1x2048x1x32_1_2_3 (broadcastInDim S2048x1x32
    ![0, 2] bcast_S2048x32_S2048x1x32_0_2 si)))))⟩, ⟨S8x2048x16x32, (addf (mulf (extractStridedSlice S8x2048x16x32 ![0, 0, 0, 0] a
    slices_S8x2048x16x64_S8x2048x16x32_0_0_0_0) (broadcastInDim S8x2048x16x32 ![0, 1, 2, 3] bcast_S1x2048x1x32_S8x2048x16x32_0_1_2_3 (broadcastInDim
    S1x2048x1x32 ![1, 2, 3] bcast_S2048x1x32_S1x2048x1x32_1_2_3 (broadcastInDim S2048x1x32 ![0, 2] bcast_S2048x32_S2048x1x32_0_2 si)))) (mulf
    (extractStridedSlice S8x2048x16x32 ![0, 0, 0, 32] a slices_S8x2048x16x64_S8x2048x16x32_0_0_0_32) (broadcastInDim S8x2048x16x32 ![0, 1, 2, 3]
    bcast_S1x2048x1x32_S8x2048x16x32_0_1_2_3 (broadcastInDim S1x2048x1x32 ![1, 2, 3] bcast_S2048x1x32_S1x2048x1x32_1_2_3 (broadcastInDim S2048x1x32
    ![0, 2] bcast_S2048x32_S2048x1x32_0_2 co)))))⟩] concatenates_S8x2048x16x32_S8x2048x16x32_S8x2048x16x64_d3

/-- The reference's rotated key heads. -/
def refKr (a : FVec Ideal S8x2048x4x64 .f32) : FVec Ideal S8x2048x4x64 .f32 :=
  concatenate S8x2048x4x64 3 [⟨S8x2048x4x32, (subf (mulf (extractStridedSlice S8x2048x4x32 ![0, 0, 0, 0] a slices_S8x2048x4x64_S8x2048x4x32_0_0_0_0)
    (broadcastInDim S8x2048x4x32 ![0, 1, 2, 3] bcast_S1x2048x1x32_S8x2048x4x32_0_1_2_3 (broadcastInDim S1x2048x1x32 ![1, 2, 3]
    bcast_S2048x1x32_S1x2048x1x32_1_2_3 (broadcastInDim S2048x1x32 ![0, 2] bcast_S2048x32_S2048x1x32_0_2 co)))) (mulf (extractStridedSlice
    S8x2048x4x32 ![0, 0, 0, 32] a slices_S8x2048x4x64_S8x2048x4x32_0_0_0_32) (broadcastInDim S8x2048x4x32 ![0, 1, 2, 3]
    bcast_S1x2048x1x32_S8x2048x4x32_0_1_2_3 (broadcastInDim S1x2048x1x32 ![1, 2, 3] bcast_S2048x1x32_S1x2048x1x32_1_2_3 (broadcastInDim S2048x1x32
    ![0, 2] bcast_S2048x32_S2048x1x32_0_2 si)))))⟩, ⟨S8x2048x4x32, (addf (mulf (extractStridedSlice S8x2048x4x32 ![0, 0, 0, 0] a
    slices_S8x2048x4x64_S8x2048x4x32_0_0_0_0) (broadcastInDim S8x2048x4x32 ![0, 1, 2, 3] bcast_S1x2048x1x32_S8x2048x4x32_0_1_2_3 (broadcastInDim
    S1x2048x1x32 ![1, 2, 3] bcast_S2048x1x32_S1x2048x1x32_1_2_3 (broadcastInDim S2048x1x32 ![0, 2] bcast_S2048x32_S2048x1x32_0_2 si)))) (mulf
    (extractStridedSlice S8x2048x4x32 ![0, 0, 0, 32] a slices_S8x2048x4x64_S8x2048x4x32_0_0_0_32) (broadcastInDim S8x2048x4x32 ![0, 1, 2, 3]
    bcast_S1x2048x1x32_S8x2048x4x32_0_1_2_3 (broadcastInDim S1x2048x1x32 ![1, 2, 3] bcast_S2048x1x32_S1x2048x1x32_1_2_3 (broadcastInDim S2048x1x32
    ![0, 2] bcast_S2048x32_S2048x1x32_0_2 co)))))⟩] concatenates_S8x2048x4x32_S8x2048x4x32_S8x2048x4x64_d3

/-- The reference's queries, scaled and in slot order, of rotated heads `y`. -/
def refQ (y : FVec Ideal S8x2048x16x64 .f32) : FVec Ideal S16384x1024 .bf16 :=
  truncf .bf16 (shapeCast S16384x1024 (transpose S8x2048x2x4x2x64 [0, 1, 2, 4, 3, 5] (shapeCast S8x2048x2x2x4x64 (mulf y (broadcastInDim S8x2048x16x64
    ![] bcast_S_S8x2048x16x64 (constant S_ .f32 0x3E000000#32))) shapeCasts_S8x2048x16x64_S8x2048x2x2x4x64)
    transposes_S8x2048x2x2x4x64_S8x2048x2x4x2x64_0_1_2_4_3_5) shapeCasts_S8x2048x2x4x2x64_S16384x1024) bitsLt_bf16_f32

/-- The reference's keys, of rotated heads `y`, beside the values, of the product `p`. -/
def refKv (p : FVec Ideal S8x2048x1536 .f32) (y : FVec Ideal S8x2048x4x64 .f32) : FVec Ideal S16384x512 .f32 :=
  shapeCast S16384x512 (concatenate S8x2048x512 2 [⟨S8x2048x256, (shapeCast S8x2048x256 y shapeCasts_S8x2048x4x64_S8x2048x256)⟩, ⟨S8x2048x256,
    (extractStridedSlice S8x2048x256 ![0, 0, 1280] p slices_S8x2048x1536_S8x2048x256_0_0_1280)⟩] concatenates_S8x2048x256_S8x2048x256_S8x2048x512_d2)
    shapeCasts_S8x2048x512_S16384x512

theorem refNrm_apply (b : Fin 8) (n : Fin 2048) (k : Fin 1024) :
    refNrm x g (ix3 b n k) = nrm (fun k => x (ix3 b n k)) (fun k => g (ix1 k)) k := by
  unfold nrm
  pointwise [refNrm]

theorem refProj_apply (h : FVec Ideal S8x2048x1024 .f32) (b : Fin 8) (n : Fin 2048) (d : Fin 1536) :
    refProj w h (ix3 b n d) = ∑ k, h (ix3 b n k) * w (ix2 k d) := by
  pointwise [refProj]

theorem refQn_apply (p : FVec Ideal S8x2048x1536 .f32) (b : Fin 8) (n : Fin 2048) (a : Fin 16) (e : Fin 64) :
    refQn q p (ix4 b n a e) = hn (fun e => p (ix3 b n ⟨64 * a.val + e.val, by omega⟩)) (fun e => q (ix1 e)) e := by
  have he : ∀ e : Fin 64, (⟨64 * a.val + e.val, by omega⟩ : Fin 1536) = ⟨a.val * 64 + e.val, by omega⟩ :=
    fun e => Fin.ext (by simp only; omega)
  unfold hn
  simp only [he]
  pointwise [refQn]

theorem refKn_apply (p : FVec Ideal S8x2048x1536 .f32) (b : Fin 8) (n : Fin 2048) (a : Fin 4) (e : Fin 64) :
    refKn k p (ix4 b n a e) = hn (fun e => p (ix3 b n ⟨1024 + 64 * a.val + e.val, by omega⟩)) (fun e => k (ix1 e)) e := by
  have he : ∀ e : Fin 64, (⟨1024 + 64 * a.val + e.val, by omega⟩ : Fin 1536) = ⟨1024 + (a.val * 64 + e.val), by omega⟩ :=
    fun e => Fin.ext (by simp only; omega)
  unfold hn
  simp only [he]
  pointwise [refKn]

theorem refQr_apply (y : FVec Ideal S8x2048x16x64 .f32) (b : Fin 8) (n : Fin 2048) (a : Fin 16) (e : Fin 64) :
    refQr co si y (ix4 b n a e) = rot (fun e => y (ix4 b n a e)) (fun e => co (ix2 n e)) (fun e => si (ix2 n e)) e := by
  unfold rot
  pointwise [refQr]
  split
  · rename_i h
    have he : (⟨32 + e.val, by omega⟩ : Fin 64) = ⟨e.val + 32, by omega⟩ := Fin.ext (Nat.add_comm _ _)
    rw [he]
  · rename_i h
    have he : (⟨32 + (e.val - 32), by omega⟩ : Fin 64) = e := Fin.ext (by simp only; omega)
    rw [he]

theorem refKr_apply (y : FVec Ideal S8x2048x4x64 .f32) (b : Fin 8) (n : Fin 2048) (a : Fin 4) (e : Fin 64) :
    refKr co si y (ix4 b n a e) = rot (fun e => y (ix4 b n a e)) (fun e => co (ix2 n e)) (fun e => si (ix2 n e)) e := by
  unfold rot
  pointwise [refKr]
  split
  · rename_i h
    have he : (⟨32 + e.val, by omega⟩ : Fin 64) = ⟨e.val + 32, by omega⟩ := Fin.ext (Nat.add_comm _ _)
    rw [he]
  · rename_i h
    have he : (⟨32 + (e.val - 32), by omega⟩ : Fin 64) = e := Fin.ext (by simp only; omega)
    rw [he]

theorem refQ_apply (y : FVec Ideal S8x2048x16x64 .f32) (n : Fin 16384) (d : Fin 1024) :
    refQ y (ix2 n d) = y (ix4 ⟨n.val / 2048, by omega⟩ ⟨n.val % 2048, Nat.mod_lt _ (by omega)⟩ ⟨slot d.val / 64, by unfold slot; omega⟩
      ⟨d.val % 64, Nat.mod_lt _ (by omega)⟩) * Ideal.ofBits .f32 1040187392#32 := by
  have he : (⟨slot d.val / 64, by unfold slot; omega⟩ : Fin 16) = ⟨d.val / 512 * 8 + d.val / 64 % 2 * 4 + d.val / 128 % 4, by omega⟩ :=
    Fin.ext (by unfold slot; simp only; omega)
  rw [he]
  pointwise [refQ]

theorem refKv_apply (p : FVec Ideal S8x2048x1536 .f32) (y : FVec Ideal S8x2048x4x64 .f32) (n : Fin 16384) (d : Fin 512) :
    refKv p y (ix2 n d) = if h : d.val < 256 then y (ix4 ⟨n.val / 2048, by omega⟩ ⟨n.val % 2048, Nat.mod_lt _ (by omega)⟩ ⟨d.val / 64, by omega⟩
      ⟨d.val % 64, Nat.mod_lt _ (by omega)⟩) else p (ix3 ⟨n.val / 2048, by omega⟩ ⟨n.val % 2048, Nat.mod_lt _ (by omega)⟩ ⟨1024 + d.val, by omega⟩) := by
  pointwise [refKv]
  split
  · rfl
  · exact congrArg (fun d => p (ix3 _ _ d)) (Fin.ext (by simp only; omega))

/-- The reference's queries are the projection's. -/
theorem ref_q : refQ (refQr co si (refQn q (refProj w (refNrm x g)))) = qArr x g w q co si := by
  funext j
  obtain ⟨n, d, rfl⟩ : ∃ (n : Fin 16384) (d : Fin 1024), j = ix2 n d := ⟨j 0, j 1, Shared.pair_idx j⟩
  rw [refQ_apply, refQr_apply]
  simp only [refQn_apply, refProj_apply, refNrm_apply]
  unfold qArr qRow head
  have he : ∀ e : Fin 64, (⟨64 * (slot d.val / 64) + e.val, by unfold slot; omega⟩ : Fin 1536) = ⟨slot d.val + e.val, by unfold slot; omega⟩ :=
    fun e => Fin.ext (by unfold slot; simp only; omega)
  simp only [he]
  rfl

/-- The reference's keys and values are the projection's. -/
theorem ref_kv : refKv (refProj w (refNrm x g)) (refKr co si (refKn k (refProj w (refNrm x g)))) = kvArr x g w k co si := by
  funext j
  obtain ⟨n, d, rfl⟩ : ∃ (n : Fin 16384) (d : Fin 512), j = ix2 n d := ⟨j 0, j 1, Shared.pair_idx j⟩
  rw [refKv_apply]
  simp only [refKr_apply, refKn_apply, refProj_apply, refNrm_apply]
  rfl

end

/-- The kernel's three results are the reference's, whatever the arguments. -/
theorem algebraic : Cert.algebraic_MobaProjIdeal_MobaProjReferenceIdeal := by
  intro m ρ m' ρ' _ hagree
  refine ⟨fun c => qArr (argX m c) (argG m c) (argW m c) (argQ m c) (argC m c) (argS m c),
    fun c => kvArr (argX m c) (argG m c) (argW m c) (argK m c) (argC m c) (argS m c),
    fun c => kvArr (argX m c) (argG m c) (argW m c) (argK m c) (argC m c) (argS m c), ?_, ?_⟩
  · exact (θ_run Cert.MobaProjIdeal.defs _ _).mono (fun _ h c => ⟨(h c).1.trans (final_q m c), (h c).2.1.trans (final_kv m c),
        (h c).2.2.1.trans (final_kv' m c), (h c).2.2.2⟩)
      (Cert.MobaProjIdeal.Value.run_blocks (F := Ideal) m ρ)
  · refine (θ_run Cert.MobaProjReferenceIdeal.defs _ _).mono (fun _ h c => ⟨(h c).1.trans ?_, (h c).2.1.trans ?_, (h c).2.2.1.trans ?_, (h c).2.2.2⟩)
      (Cert.MobaProjReferenceIdeal.Value.run (F := Ideal) m' ρ')
    · unfold Cert.MobaProjReferenceIdeal.Value.res_main_v91
      rw [(hagree c).1, (hagree c).2.1, (hagree c).2.2.1, (hagree c).2.2.2.1, (hagree c).2.2.2.2.2.1, (hagree c).2.2.2.2.2.2]
      exact ref_q (argX m c) (argG m c) (argW m c) (argQ m c) (argC m c) (argS m c)
    · unfold Cert.MobaProjReferenceIdeal.Value.res_main_v90
      rw [(hagree c).1, (hagree c).2.1, (hagree c).2.2.1, (hagree c).2.2.2.2.1, (hagree c).2.2.2.2.2.1, (hagree c).2.2.2.2.2.2]
      exact ref_kv (argX m c) (argG m c) (argW m c) (argK m c) (argC m c) (argS m c)
    · unfold Cert.MobaProjReferenceIdeal.Value.res_main_v92
      rw [(hagree c).1, (hagree c).2.1, (hagree c).2.2.1, (hagree c).2.2.2.2.1, (hagree c).2.2.2.2.2.1, (hagree c).2.2.2.2.2.2]
      exact ref_kv (argX m c) (argG m c) (argW m c) (argK m c) (argC m c) (argS m c)

end Cert.MobaProj

end
-- ==== Proof.MobaSample.Block.lean ====
/-
  The one block of the sampled rows' projection: its three results at a row, as lanes of four heads.
-/
module

public import proofs.«01_k».proof.Proof.Gen.MobaSampleIdeal.Frame
public import proofs.«01_k».proof.Proof.MobaProj.Spec

@[expose] public section

set_option maxRecDepth 16384

noncomputable section

namespace Cert.MobaSample

open Idealize.ShloMosaic
open Cert.MobaProj (nrm hn rot head slot slot_le qRow kvRow lane lane_eq)
open Cert.MobaSampleIdeal Cert.MobaSampleIdeal.Gen

/-! ## The vectors the block stores -/

section
variable (h : FVec Ideal S256x1024 .bf16) (M : FVec Ideal S256x256 .bf16) (co si : FVec Ideal S256x256 .f32)
  (qg up : FVec Ideal S1x256 .f32) (w : Vec Ideal S1024x256 .bf16) (r : Fin 256) (j : Fin 256)

/-- The lane function over the block's vectors at a row. -/
abbrev vlane : EReal :=
  lane (fun k => h (ix2 r k)) (fun k j => w (ix2 k j)) (fun x j => M (ix2 x j)) (fun j => qg (ix2 0 j)) (fun j => up (ix2 0 j))
    (fun j => co (ix2 r j)) (fun j => si (ix2 r j)) j

theorem pay14_apply : k0_pay14 h M co si qg up w (ix2 r j) = vlane h M co si qg up w r j * Ideal.ofBits .f32 1040187392#32 := by
  unfold vlane lane
  pointwise [k0_pay14]

theorem pay13_apply : k0_pay13 h M co si qg up w (ix2 r j) = vlane h M co si qg up w r j * Ideal.ofBits .f32 1040187392#32 := by
  unfold vlane lane
  pointwise [k0_pay13]

theorem pay17_apply : k0_pay17 co si up (k0_pay15 h M qg w) (k0_pay16 h M qg w) 32#32 (ix2 r j)
    = vlane h M co si qg up w r j * Ideal.ofBits .f32 1040187392#32 := by
  unfold vlane lane
  pointwise [k0_pay17, k0_pay16, k0_pay15]

theorem pay18_apply : k0_pay18 h M co si qg up w (ix2 r j) = vlane h M co si qg up w r j := by
  unfold vlane lane
  pointwise [k0_pay18]

theorem pay19_apply : k0_pay19 h w (ix2 r j) = ∑ k, h (ix2 r k) * w (ix2 k j) := by
  pointwise [k0_pay19]

end

section
variable (x : Vec Ideal S256x1024 .f32) (g : Vec Ideal S1x1024 .f32) (M : Vec Ideal S256x256 .bf16) (co si : FVec Ideal S256x256 .f32)
  (qg up : FVec Ideal S1x256 .f32) (w : Vec Ideal S1024x256 .bf16) (r : Fin 256)

theorem pay3_apply (k : Fin 1024) : k0_pay3 x g (ix2 r k) = nrm (fun k => x (ix2 r k)) (fun k => g (ix2 0 k)) k := by
  unfold nrm
  pointwise [k0_pay3]

theorem pay12_apply (j : Fin 256) :
    k0_pay12 co si qg up (k0_pay10 x g w) (k0_pay11 x g M w) (Scalar.ofBits .f32 0x358637BD#32) (ix2 r j)
      = vlane (k0_pay3 x g) M co si qg up w r j * Ideal.ofBits .f32 1040187392#32 := by
  unfold vlane lane
  generalize hp : k0_pay3 x g = p
  pointwise [k0_pay12, k0_pay11, k0_pay10, k0_pay4, hp]

end

/-! ## The block's results -/

section
variable (x : Vec Ideal S256x1024 .f32) (g : Vec Ideal S1x1024 .f32) (W : Vec Ideal S1024x1536 .bf16) (M : Vec Ideal S256x256 .bf16)
  (C : Vec Ideal S8x256 .f32) (co si : Vec Ideal S256x256 .f32) (r : Fin 256)

/-- The window of 256 columns of the weights at column `n`. -/
theorem cols_apply (n : ℕ) (hn : n + 256 ≤ 1536) (inb) (k : Fin 1024) (j : Fin 256) :
    View.ld W (Rect.unit (s := S1024x1536) ![0, n] S1024x256.size inb) (ix2 k j) = W (ix2 k ⟨n + j.val, by omega⟩) :=
  Shared.window_apply W ![0, n] inb k j k ⟨n + j.val, by omega⟩ (Nat.zero_add _).symm rfl

/-- A row of the constants. -/
theorem const_apply (n : ℕ) (hn : n < 8) (inb) (j : Fin 256) :
    View.ld C (Rect.unit (s := S8x256) ![n, 0] S1x256.size inb) (ix2 0 j) = C (ix2 ⟨n, hn⟩ j) :=
  Shared.window_apply C ![n, 0] inb 0 j ⟨n, hn⟩ j rfl (Nat.zero_add _).symm

/-- The lanes of the 256 columns of the weights at column `n`, with the gains in row `q` of the constants. -/
def blane (n : ℕ) (hn : n + 256 ≤ 1536) (q : Fin 8) (j : Fin 256) : EReal :=
  lane (nrm (fun k => x (ix2 r k)) (fun k => g (ix2 0 k))) (fun k j => W (ix2 k ⟨n + j.val, by omega⟩)) (fun x j => M (ix2 x j))
    (fun j => C (ix2 q j)) (fun j => C (ix2 2 j)) (fun j => co (ix2 r j)) (fun j => si (ix2 r j)) j

theorem vlane_eq (n : ℕ) (hn : n + 256 ≤ 1536) (q : Fin 8) (inb inb' inb'') (j : Fin 256) :
    vlane (k0_pay3 x g) M co si (View.ld C (Rect.unit (s := S8x256) ![q.val, 0] S1x256.size inb))
        (View.ld C (Rect.unit (s := S8x256) ![2, 0] S1x256.size inb'))
        (View.ld W (Rect.unit (s := S1024x1536) ![0, n] S1024x256.size inb'')) r j
      = blane x g W M C co si r n hn q j := by
  unfold vlane blane
  have e2 : ∀ j : Fin 256, View.ld C (Rect.unit (s := S8x256) ![2, 0] S1x256.size inb') (ix2 0 j) = C (ix2 2 j) :=
    const_apply C 2 (by omega) inb'
  simp only [pay3_apply, cols_apply W n hn inb'', const_apply C q.val q.isLt, e2]

theorem p4 : (k0_pay4 M : FVec Ideal S256x256 .bf16) = M := by
  funext y; obtain ⟨a, b, rfl⟩ : ∃ (a : Fin 256) (b : Fin 256), y = ix2 a b := ⟨y 0, y 1, Shared.pair_idx y⟩
  pointwise [k0_pay4]
theorem p5 : (k0_pay5 co : FVec Ideal S256x256 .f32) = co := by
  funext y; obtain ⟨a, b, rfl⟩ : ∃ (a : Fin 256) (b : Fin 256), y = ix2 a b := ⟨y 0, y 1, Shared.pair_idx y⟩
  pointwise [k0_pay5]
theorem p6 : (k0_pay6 co : FVec Ideal S256x256 .f32) = co := by
  funext y; obtain ⟨a, b, rfl⟩ : ∃ (a : Fin 256) (b : Fin 256), y = ix2 a b := ⟨y 0, y 1, Shared.pair_idx y⟩
  pointwise [k0_pay6]
theorem p7 (u : Vec Ideal S1x256 .f32) : (k0_pay7 u : FVec Ideal S1x256 .f32) = u := by
  funext y; obtain ⟨a, b, rfl⟩ : ∃ (a : Fin 1) (b : Fin 256), y = ix2 a b := ⟨y 0, y 1, Shared.pair_idx y⟩
  pointwise [k0_pay7]
theorem p8 (u : Vec Ideal S1x256 .f32) : (k0_pay8 u : FVec Ideal S1x256 .f32) = u := by
  funext y; obtain ⟨a, b, rfl⟩ : ∃ (a : Fin 1) (b : Fin 256), y = ix2 a b := ⟨y 0, y 1, Shared.pair_idx y⟩
  pointwise [k0_pay8]
theorem p9 (u : Vec Ideal S1x256 .f32) : (k0_pay9 u : FVec Ideal S1x256 .f32) = u := by
  funext y; obtain ⟨a, b, rfl⟩ : ∃ (a : Fin 1) (b : Fin 256), y = ix2 a b := ⟨y 0, y 1, Shared.pair_idx y⟩
  pointwise [k0_pay9]

/-- The block's queries. -/
def qBlk : Vec Ideal S256x1024 .f32 := fun y =>
  blane x g W M C co si (y 0) (256 * ((y 1).val / 256)) (by have : (y 1).val < 1024 := (y 1).isLt; omega) 0
    ⟨(y 1).val % 256, Nat.mod_lt _ (by omega)⟩ * Ideal.ofBits .f32 1040187392#32

/-- The block's keys and values. -/
def kvBlk : Vec Ideal S256x512 .f32 := fun y =>
  if h : (y 1).val < 256 then blane x g W M C co si (y 0) 1024 (by omega) 1 ⟨(y 1).val, h⟩
  else ∑ k, nrm (fun k => x (ix2 (y 0) k)) (fun k => g (ix2 0 k)) k
    * W (ix2 k ⟨1024 + (y 1).val, by have : (y 1).val < 512 := (y 1).isLt; omega⟩)

/-- A block's queries at the place a window of 256 columns at a multiple of 256 reads. -/
theorem qBlk_at (n : ℕ) (hn : n + 256 ≤ 1024) (hm : n % 256 = 0) (y : S256x1024.Idx) (j : Fin 256) (h0 : (y 0).val = r.val)
    (h1 : (y 1).val = n + j.val) :
    qBlk x g W M C co si y = blane x g W M C co si r n (by omega) 0 j * Ideal.ofBits .f32 1040187392#32 := by
  have e0 : y 0 = r := Fin.ext h0
  unfold qBlk
  have e1 : 256 * ((y 1).val / 256) = n := by omega
  have e2 : (⟨(y 1).val % 256, Nat.mod_lt _ (by omega)⟩ : Fin 256) = j := Fin.ext (by show (y 1).val % 256 = j.val; omega)
  rw [e2, e0]
  simp only [e1]

theorem out7_eq : out0_7 x g W M C co si = qBlk x g W M C co si := by
  have hx : View.ld x r0_0 = x := Shared.window_whole x _ rfl rfl _
  have hg : View.ld g r0_1 = g := Shared.window_whole g _ rfl rfl _
  have hM : View.ld M r0_2 = M := Shared.window_whole M _ rfl rfl _
  have hco : View.ld co r0_2 = co := Shared.window_whole co _ rfl rfl _
  have hsi : View.ld si r0_2 = si := Shared.window_whole si _ rfl rfl _
  funext y
  unfold out0_7
  refine View.canon_apply_of_pieces _ _ ?_ y (cover0_7 _ _ _ _ y)
  simp only [k0_pay20, k0_pay21, k0_pay22, k0_pay23, k0_pay24, k0_pay26, hx, hg, hM, hco, hsi, p4, p5, p6, p7, p9]
  intro p hp
  simp only [List.mem_cons, List.not_mem_nil, or_false] at hp
  rcases hp with rfl | rfl | rfl | rfl <;> intro z <;>
    obtain ⟨r, j, rfl⟩ : ∃ (r : Fin 256) (j : Fin 256), z = ix2 r j := ⟨z 0, z 1, Shared.pair_idx z⟩
  · refine (pay17_apply _ _ _ _ _ _ _ r j).trans ?_
    rw [qBlk_at x g W M C co si r 768 (by omega) (by omega) _ j (by show 0 + 1 * r.val = _; omega) (by show 768 + 1 * j.val = _; omega)]
    exact congrArg (· * _) (vlane_eq x g W M C co si r 768 (by omega) 0 _ _ _ j)
  · refine (pay14_apply _ _ _ _ _ _ _ r j).trans ?_
    rw [qBlk_at x g W M C co si r 512 (by omega) (by omega) _ j (by show 0 + 1 * r.val = _; omega) (by show 512 + 1 * j.val = _; omega)]
    exact congrArg (· * _) (vlane_eq x g W M C co si r 512 (by omega) 0 _ _ _ j)
  · refine (pay13_apply _ _ _ _ _ _ _ r j).trans ?_
    rw [qBlk_at x g W M C co si r 256 (by omega) (by omega) _ j (by show 0 + 1 * r.val = _; omega) (by show 256 + 1 * j.val = _; omega)]
    exact congrArg (· * _) (vlane_eq x g W M C co si r 256 (by omega) 0 _ _ _ j)
  · refine (pay12_apply _ _ _ _ _ _ _ _ r j).trans ?_
    rw [qBlk_at x g W M C co si r 0 (by omega) (by omega) _ j (by show 0 + 1 * r.val = _; omega) (by show 0 + 1 * j.val = _; omega)]
    exact congrArg (· * _) (vlane_eq x g W M C co si r 0 (by omega) 0 _ _ _ j)

theorem kvBlk_keys (y : S256x512.Idx) (j : Fin 256) (h0 : (y 0).val = r.val) (h1 : (y 1).val = j.val) :
    kvBlk x g W M C co si y = blane x g W M C co si r 1024 (by omega) 1 j := by
  have e0 : y 0 = r := Fin.ext h0
  unfold kvBlk
  have e1 : (y 1).val < 256 := by omega
  have e2 : (⟨(y 1).val, e1⟩ : Fin 256) = j := Fin.ext h1
  rw [dif_pos e1, e2, e0]

theorem kvBlk_vals (y : S256x512.Idx) (j : Fin 256) (h0 : (y 0).val = r.val) (h1 : (y 1).val = 256 + j.val) :
    kvBlk x g W M C co si y = ∑ k, nrm (fun k => x (ix2 r k)) (fun k => g (ix2 0 k)) k * W (ix2 k ⟨1280 + j.val, by omega⟩) := by
  have e0 : y 0 = r := Fin.ext h0
  unfold kvBlk
  have e1 : ¬ (y 1).val < 256 := by omega
  have e2 : 1024 + (y 1).val = 1280 + j.val := by omega
  rw [dif_neg e1, e0]
  simp only [e2]

/-- The block's keys, the vector its two narrow and wide stores share. -/
abbrev keys : FVec Ideal S256x256 .f32 :=
  k0_pay18 (k0_pay20 x g W M C co si) (k0_pay21 x g W M C co si) (k0_pay22 x g W M C co si) (k0_pay23 x g W M C co si)
    (k0_pay25 x g W M C co si) (k0_pay26 x g W M C co si) (View.ld W r0_14)

theorem keys_apply (j : Fin 256) : keys x g W M C co si (ix2 r j) = blane x g W M C co si r 1024 (by omega) 1 j := by
  have hx : View.ld x r0_0 = x := Shared.window_whole x _ rfl rfl _
  have hg : View.ld g r0_1 = g := Shared.window_whole g _ rfl rfl _
  have hM : View.ld M r0_2 = M := Shared.window_whole M _ rfl rfl _
  have hco : View.ld co r0_2 = co := Shared.window_whole co _ rfl rfl _
  have hsi : View.ld si r0_2 = si := Shared.window_whole si _ rfl rfl _
  unfold keys
  simp only [k0_pay20, k0_pay21, k0_pay22, k0_pay23, k0_pay25, k0_pay26, hx, hg, hM, hco, hsi, p4, p5, p6, p8, p9]
  exact (pay18_apply _ _ _ _ _ _ _ r j).trans (vlane_eq x g W M C co si r 1024 (by omega) 1 _ _ _ j)

theorem pay27_apply (j : Fin 256) : k0_pay27 x g W M C co si (ix2 r j)
    = ∑ k, nrm (fun k => x (ix2 r k)) (fun k => g (ix2 0 k)) k * W (ix2 k ⟨1280 + j.val, by omega⟩) := by
  have hx : View.ld x r0_0 = x := Shared.window_whole x _ rfl rfl _
  have hg : View.ld g r0_1 = g := Shared.window_whole g _ rfl rfl _
  unfold k0_pay27
  simp only [k0_pay20, hx, hg]
  refine (pay19_apply _ _ r j).trans ?_
  simp only [pay3_apply, cols_apply W 1280 (by omega)]

theorem out8_eq : out0_8 x g W M C co si = kvBlk x g W M C co si := by
  funext y
  unfold out0_8
  refine View.canon_apply_of_pieces _ _ ?_ y (cover0_8 _ _ y)
  intro p hp
  simp only [List.mem_cons, List.not_mem_nil, or_false] at hp
  rcases hp with rfl | rfl <;> intro z <;>
    obtain ⟨r, j, rfl⟩ : ∃ (r : Fin 256) (j : Fin 256), z = ix2 r j := ⟨z 0, z 1, Shared.pair_idx z⟩
  · exact (pay27_apply x g W M C co si r j).trans
      (kvBlk_vals x g W M C co si r _ j (by show 0 + 1 * r.val = _; omega) (by show 256 + 1 * j.val = _; omega)).symm
  · exact (keys_apply x g W M C co si r j).trans
      (kvBlk_keys x g W M C co si r _ j (by show 0 + 1 * r.val = _; omega) (by show 0 + 1 * j.val = _; omega)).symm

theorem out9_eq : out0_9 x g W M C co si = (kvBlk x g W M C co si : S256x512.Idx → EReal) := by
  funext y
  unfold out0_9
  refine View.canon_apply_of_pieces (Val := Elt Ideal) (e := .bf16) (kvBlk x g W M C co si) _ ?_ y (cover0_9 _ _ y)
  intro p hp
  simp only [List.mem_cons, List.not_mem_nil, or_false] at hp
  rcases hp with rfl | rfl <;> intro z <;>
    obtain ⟨r, j, rfl⟩ : ∃ (r : Fin 256) (j : Fin 256), z = ix2 r j := ⟨z 0, z 1, Shared.pair_idx z⟩
  · exact (pay27_apply x g W M C co si r j).trans
      (kvBlk_vals x g W M C co si r _ j (by show 0 + 1 * r.val = _; omega) (by show 256 + 1 * j.val = _; omega)).symm
  · exact (keys_apply x g W M C co si r j).trans
      (kvBlk_keys x g W M C co si r _ j (by show 0 + 1 * r.val = _; omega) (by show 0 + 1 * j.val = _; omega)).symm

end

end Cert.MobaSample

end
-- ==== Proof.MobaSample.Host.lean ====
/-
  What the host hands the kernel for the sampled rows: the weights with the queries' columns in slot order, the gains and the
  half mask as rows of constants, the group means' matrix, and the tables of eight positions laid out over sequences and lanes.
-/
module

public import proofs.«01_k».proof.Proof.Gen.MobaSampleIdeal.Frame
public import proofs.«01_k».proof.Proof.MobaProj.Host
public import Idealize.ShloMosaic.Lib.Routing.OpsPair

@[expose] public section

set_option maxRecDepth 16384

noncomputable section

namespace Cert.MobaSample

open Cert.MobaProj (nrm hn rot head slot slot_le qRow kvRow lane lane_eq foldl_land group_word)
open Cert.MobaSampleIdeal Cert.MobaSampleIdeal.Gen Idealize.ShloMosaic Idealize.ShloMosaic.TcCoe Idealize.SL.Sem

variable (m : (ℓ : Loc nD τ sig) → Buf (Elt Ideal) ℓ) (c : Dev nD)

/-- The seven argument arrays. -/
abbrev argX : FVec Ideal S32x8x1024 .f32 := m ((c : Thread nD τ).loc main_arg0)
abbrev argG : FVec Ideal S1024 .f32 := m ((c : Thread nD τ).loc main_arg1)
abbrev argW : FVec Ideal S1024x1536 .f32 := m ((c : Thread nD τ).loc main_arg2)
abbrev argQ : FVec Ideal S64 .f32 := m ((c : Thread nD τ).loc main_arg3)
abbrev argK : FVec Ideal S64 .f32 := m ((c : Thread nD τ).loc main_arg4)
abbrev argC : FVec Ideal S8x32 .f32 := m ((c : Thread nD τ).loc main_arg5)
abbrev argS : FVec Ideal S8x32 .f32 := m ((c : Thread nD τ).loc main_arg6)

/-! ## The rows and the tables -/

theorem rows_apply (n : Fin 256) (k : Fin 1024) :
    V m c main_v15 (ix2 n k) = argX m c (ix3 ⟨n.val / 8, by omega⟩ ⟨n.val % 8, Nat.mod_lt _ (by omega)⟩ k) := by
  have e : V m c main_v15 = shapeCast S256x1024 (argX m c) shapeCasts_S32x8x1024_S256x1024 := by
    dsimp only [V, hostOps0, hostOps0_1, hostOps0_2, List.flatten_cons, List.flatten_nil, List.append_nil, List.cons_append,
      List.nil_append]
    after_results <;> rfl
  rw [e]
  pointwise

theorem gains_apply (k : Fin 1024) : V m c main_v16 (ix2 0 k) = argG m c (ix1 k) := by
  have e : V m c main_v16 = shapeCast S1x1024 (argG m c) shapeCasts_S1024_S1x1024 := by
    dsimp only [V, hostOps0, hostOps0_1, hostOps0_2, List.flatten_cons, List.flatten_nil, List.append_nil, List.cons_append,
      List.nil_append]
    after_results <;> rfl
  rw [e]
  pointwise

/-- A table of the eight positions, once for every sequence. -/
def tiled (C : FVec Ideal S8x32 .f32) : FVec Ideal S256x32 .f32 :=
  shapeCast S256x32 (broadcastInDim S32x8x1x32 ![0, 1, 2, 3] bcast_S1x8x1x32_S32x8x1x32_0_1_2_3
    (shapeCast S1x8x1x32 C shapeCasts_S8x32_S1x8x1x32)) shapeCasts_S32x8x1x32_S256x32

theorem tiled_apply (C : FVec Ideal S8x32 .f32) (n : Fin 256) (e : Fin 32) :
    tiled C (ix2 n e) = C (ix2 ⟨n.val % 8, Nat.mod_lt _ (by omega)⟩ e) := by
  pointwise [tiled]

/-- The cosines over lanes. -/
def cosWide (C : FVec Ideal S256x32 .f32) : FVec Ideal S256x256 .f32 :=
  shapeCast S256x256 (broadcastInDim S1x256x4x64 ![0, 1, 2, 3] bcast_S1x256x1x64_S1x256x4x64_0_1_2_3
    (shapeCast S1x256x1x64 (concatenate S256x64 1 [⟨S256x32, C⟩, ⟨S256x32, C⟩] concatenates_S256x32_S256x32_S256x64_d1)
      shapeCasts_S256x64_S1x256x1x64)) shapeCasts_S1x256x4x64_S256x256

/-- The signed sines over lanes. -/
def sinWide (C : FVec Ideal S256x32 .f32) : FVec Ideal S256x256 .f32 :=
  shapeCast S256x256 (broadcastInDim S1x256x4x64 ![0, 1, 2, 3] bcast_S1x256x1x64_S1x256x4x64_0_1_2_3
    (shapeCast S1x256x1x64 (concatenate S256x64 1 [⟨S256x32, Host.negf C⟩, ⟨S256x32, C⟩] concatenates_S256x32_S256x32_S256x64_d1)
      shapeCasts_S256x64_S1x256x1x64)) shapeCasts_S1x256x4x64_S256x256

theorem cos_apply (n j : Fin 256) :
    V m c main_v20 (ix2 n j) = argC m c (ix2 ⟨n.val % 8, Nat.mod_lt _ (by omega)⟩ ⟨j.val % 32, Nat.mod_lt _ (by omega)⟩) := by
  have e : V m c main_v20 = cosWide (tiled (argC m c)) := by
    dsimp only [V, hostOps0, hostOps0_1, hostOps0_2, List.flatten_cons, List.flatten_nil, List.append_nil, List.cons_append,
      List.nil_append]
    after_results <;> rfl
  rw [e]
  rw [← tiled_apply (argC m c) n]
  generalize tiled (argC m c) = C
  pointwise [cosWide]
  split
  · exact congrArg (fun d => C (ix2 n d)) (Fin.ext (by simp only; omega))
  · exact congrArg (fun d => C (ix2 n d)) (Fin.ext (by simp only; omega))

theorem sin_apply (n j : Fin 256) :
    V m c main_v25 (ix2 n j) = if j.val % 64 < 32 then -argS m c (ix2 ⟨n.val % 8, Nat.mod_lt _ (by omega)⟩ ⟨j.val % 32, Nat.mod_lt _ (by omega)⟩)
      else argS m c (ix2 ⟨n.val % 8, Nat.mod_lt _ (by omega)⟩ ⟨j.val % 32, Nat.mod_lt _ (by omega)⟩) := by
  have e : V m c main_v25 = sinWide (tiled (argS m c)) := by
    dsimp only [V, hostOps0, hostOps0_1, hostOps0_2, List.flatten_cons, List.flatten_nil, List.append_nil, List.cons_append,
      List.nil_append]
    after_results <;> rfl
  rw [e]
  rw [← tiled_apply (argS m c) n]
  generalize tiled (argS m c) = C
  pointwise [sinWide]
  split
  · exact congrArg (fun d => -C (ix2 n d)) (Fin.ext (by simp only; omega))
  · exact congrArg (fun d => C (ix2 n d)) (Fin.ext (by simp only; omega))

/-! ## The constants -/

/-- The group means' matrix. -/
def means : FVec Ideal S256x256 .bf16 :=
  truncf .bf16 (select (cmpi .eq (Host.divsi (iotaInDim S256x256 32 0) (broadcastInDim S256x256 ![] bcast_S_S256x256 (constantI S_ 32 64#32)))
      (Host.divsi (iotaInDim S256x256 32 1) (broadcastInDim S256x256 ![] bcast_S_S256x256 (constantI S_ 32 64#32))))
    (broadcastInDim S256x256 ![] bcast_S_S256x256 (constant (F := Ideal) S_ .f32 0x3C800000#32))
    (broadcastInDim S256x256 ![] bcast_S_S256x256 (constant (F := Ideal) S_ .f32 0x00000000#32))) bitsLt_bf16_f32

theorem means_apply (x j : Fin 256) :
    V m c main_v44 (ix2 x j) = if x.val / 64 = j.val / 64 then Ideal.ofBits .f32 1015021568#32 else 0 := by
  have e : V m c main_v44 = means := by
    dsimp only [V, hostOps0, hostOps0_1, hostOps0_2, List.flatten_cons, List.flatten_nil, List.append_nil, List.cons_append,
      List.nil_append]
    after_results <;> rfl
  rw [e]
  pointwise [means]
  rw [group_word, group_word]
  by_cases h : x.val / 64 = j.val / 64
  · rw [h, if_pos rfl]
    simp [Scalar.select, IntOp.cmpi]
  · have hn : BitVec.ofNat 32 (x.val / 64) ≠ BitVec.ofNat 32 (j.val / 64) := by
      intro e
      have := congrArg BitVec.toNat e
      simp only [BitVec.toNat_ofNat] at this
      omega
    rw [if_neg h]
    have hb : (BitVec.ofNat 32 (x.val / 64) == BitVec.ofNat 32 (j.val / 64)) = false := beq_false_of_ne hn
    simp [Scalar.select, IntOp.cmpi, hb]

/-- The gains of four heads side by side. -/
def wide (q : FVec Ideal S64 .f32) : FVec Ideal S256 .f32 :=
  shapeCast S256 (broadcastInDim S4x64 ![0, 1] bcast_S1x64_S4x64_0_1 (shapeCast S1x64 q shapeCasts_S64_S1x64)) shapeCasts_S4x64_S256

theorem wide_apply (q : FVec Ideal S64 .f32) (j : Fin 256) : wide q (ix1 j) = q (ix1 ⟨j.val % 64, Nat.mod_lt _ (by omega)⟩) := by
  pointwise [wide]

/-- The literal of zeros and, in its third row, the half mask. -/
def mask : FVec Ideal S8x256 .f32 := fun i => FloatOps.ofBits .f32 (lit1 (S8x256.rowMajor i))

/-- One row of the constants set. -/
def setRow (C : FVec Ideal S8x256 .f32) (n : BitVec 32) (u : FVec Ideal S256 .f32) : FVec Ideal S8x256 .f32 :=
  Host.scatter scatter_S8x256_S1_S256_0_0_0_0 (fun _ b => b) C (broadcastInDim S1 ![] bcast_S_S1 (constantI S_ 32 n)) u

theorem consts_eq : V m c main_v35 = setRow (setRow mask 0#32 (wide (argQ m c))) 1#32 (wide (argK m c)) := by
  dsimp only [V, hostOps0, hostOps0_1, hostOps0_2, List.flatten_cons, List.flatten_nil, List.append_nil, List.cons_append,
    List.nil_append]
  after_results <;> rfl

/-- The set row holds the update; the others stay. -/
theorem setRow_apply (C : FVec Ideal S8x256 .f32) (n : Fin 8) (u : FVec Ideal S256 .f32) (r : Fin 8) (j : Fin 256) :
    setRow C (BitVec.ofNat 32 n.val) u (ix2 r j) = if r = n then u (ix1 j) else C (ix2 r j) := by
  unfold setRow
  rw [Routing.scatter_at]
  have hl : ∀ k : S256.Idx, scatter_S8x256_S1_S256_0_0_0_0.resultIdx? k (broadcastInDim S1 ![] bcast_S_S1 (constantI S_ 32 (BitVec.ofNat 32 n.val)))
      = some (ix2 r j) ↔ r = n ∧ k = ix1 j := by
    intro k
    refine (Routing.resultIdx?_ix2 (R := 8) (C := 256) scatter_S8x256_S1_S256_0_0_0_0 k _ r j).trans ?_
    have h0 : scatter_S8x256_S1_S256_0_0_0_0.start k (broadcastInDim S1 ![] bcast_S_S1 (constantI S_ 32 (BitVec.ofNat 32 n.val))) 0
        = (BitVec.ofNat 32 n.val).toInt := rfl
    have h1 : scatter_S8x256_S1_S256_0_0_0_0.start k (broadcastInDim S1 ![] bcast_S_S1 (constantI S_ 32 (BitVec.ofNat 32 n.val))) 1 = 0 := rfl
    have w0 : scatter_S8x256_S1_S256_0_0_0_0.window k 0 = 0 := rfl
    have w1 : scatter_S8x256_S1_S256_0_0_0_0.window k 1 = (k 0).val := rfl
    have hn : (BitVec.ofNat 32 n.val).toInt = (n.val : Int) := by
      have : ∀ n : Fin 8, (BitVec.ofNat 32 n.val).toInt = (n.val : Int) := by decide
      exact this n
    rw [h0, h1, w0, w1, hn]
    constructor
    · rintro ⟨e0, e1⟩
      refine ⟨Fin.ext (by omega), funext fun a => ?_⟩
      match a with
      | ⟨0, _⟩ => exact Fin.ext (by show (k 0).val = j.val; omega)
    · rintro ⟨rfl, rfl⟩
      exact ⟨by omega, by show (0 : Int) + (j.val : Int) = _; omega⟩
  simp only [hl]
  by_cases hr : r = n
  · rw [if_pos hr]
    simp only [hr, true_and]
    refine (foldl_land (fun i => S256.rowMajor.symm i = ix1 j) (fun i => u (S256.rowMajor.symm i)) (S256.rowMajor (ix1 j))
      (fun i => ⟨fun e => by rw [← e, Equiv.apply_symm_apply], fun e => by rw [e, Equiv.symm_apply_apply]⟩) _ _).trans ?_
    rw [if_pos (List.mem_finRange _), Equiv.symm_apply_apply]
  · rw [if_neg hr]
    simp only [hr, false_and, if_false]
    generalize List.finRange S256.numel = l
    induction l with
    | nil => rfl
    | cons _ _ ih => exact ih

theorem qgain_apply (j : Fin 256) : V m c main_v35 (ix2 0 j) = argQ m c (ix1 ⟨j.val % 64, Nat.mod_lt _ (by omega)⟩) := by
  rw [consts_eq, ← wide_apply (argQ m c)]
  refine (setRow_apply _ 1 _ 0 j).trans ?_
  rw [if_neg (by decide)]
  refine (setRow_apply _ 0 _ 0 j).trans ?_
  rw [if_pos rfl]

theorem kgain_apply (j : Fin 256) : V m c main_v35 (ix2 1 j) = argK m c (ix1 ⟨j.val % 64, Nat.mod_lt _ (by omega)⟩) := by
  rw [consts_eq, ← wide_apply (argK m c)]
  refine (setRow_apply _ 1 _ 1 j).trans ?_
  rw [if_pos rfl]

theorem mask_word : ∀ j : Fin 256, lit1 (S8x256.rowMajor (ix2 2 j)) = if j.val % 64 < 32 then 0x3F800000#32 else 0x00000000#32 := by
  decide +kernel

theorem half_apply (j : Fin 256) : V m c main_v35 (ix2 2 j) = if j.val % 64 < 32 then (1 : EReal) else (0 : EReal) := by
  rw [consts_eq]
  refine (setRow_apply _ 1 _ 2 j).trans ?_
  rw [if_neg (by decide)]
  refine (setRow_apply _ 0 _ 2 j).trans ?_
  rw [if_neg (by decide)]
  unfold mask
  rw [mask_word]
  split
  · show Ideal.ofBits .f32 0x3F800000#32 = 1
    simp [Ideal.ofBits, Ideal.ieee, -EReal.coe_mul]
    norm_num
  · show Ideal.ofBits .f32 0x00000000#32 = 0
    simp [Ideal.ofBits, Ideal.ieee, -EReal.coe_mul]

/-! ## The weights -/

/-- The weights with the queries' columns gathered. -/
def weights (W : FVec Ideal S1024x1536 .f32) : FVec Ideal S1024x1536 .bf16 :=
  truncf .bf16 (concatenate S1024x1536 1 [⟨S1024x1024, Host.gather gather_S1024x1024_S1024x1_S1024x1024_0_1_n_n_1_1_10241
      (extractStridedSlice S1024x1024 ![0, 0] W slices_S1024x1536_S1024x1024_0_0)
      (broadcastInDim S1024x1 ![0] bcast_S1024_S1024x1_0 (select (constantI S1024 1 0#1)
        (addi (fun i => lit0 (S1024.rowMajor i)) (broadcastInDim S1024 ![] bcast_S_S1024 (constantI S_ 32 1024#32)))
        (fun i => lit0 (S1024.rowMajor i))))⟩,
    ⟨S1024x512, extractStridedSlice S1024x512 ![0, 1024] W slices_S1024x1536_S1024x512_0_1024⟩] concatenates_S1024x1024_S1024x512_S1024x1536_d1)
    bitsLt_bf16_f32

theorem weights_eq : V m c main_v8 = weights (argW m c) := by
  dsimp only [V, hostOps0, hostOps0_1, hostOps0_2, List.flatten_cons, List.flatten_nil, List.append_nil, List.cons_append,
    List.nil_append]
  after_results <;> rfl

/-- A gathered column. -/
theorem gather_col (x : S1024x1024.Idx → EReal) (idx : IVec S1024x1 32) (k j b : Fin 1024) (hb : idx (ix2 j 0) = BitVec.ofNat 32 b.val) :
    Host.gather gather_S1024x1024_S1024x1_S1024x1024_0_1_n_n_1_1_10241 x idx (ix2 k j) = x (ix2 k b) := by
  refine congrArg x (funext fun a => Fin.ext ?_)
  match a with
  | ⟨0, _⟩ =>
    show 0 + 0 + k.val = k.val
    omega
  | ⟨1, _⟩ =>
    have hi : gather_S1024x1024_S1024x1_S1024x1024_0_1_n_n_1_1_10241.siIdx (ix2 k j) ⟨0, by decide⟩ = ix2 j 0 := by
      funext a
      match a with
      | ⟨0, _⟩ => rfl
      | ⟨1, _⟩ => rfl
    show min (idx (gather_S1024x1024_S1024x1_S1024x1024_0_1_n_n_1_1_10241.siIdx (ix2 k j) ⟨0, by decide⟩)).toInt.toNat (1024 - 1) + 0 + 0 = b.val
    have hz : ∀ b : Fin 1024, (BitVec.ofNat 32 b.val).toInt.toNat = b.val := by decide +kernel
    rw [hi, hb, hz]
    omega

theorem slot_word : ∀ j : Fin 1024, lit0 (S1024.rowMajor (ix1 j)) = BitVec.ofNat 32 (slot j.val + j.val % 64) := by
  decide +kernel

theorem weights_apply (k : Fin 1024) (d : Fin 1536) : V m c main_v8 (ix2 k d)
    = if d.val < 1024 then argW m c (ix2 k ⟨slot (d.val % 1024) + d.val % 64, by unfold slot; omega⟩) else argW m c (ix2 k d) := by
  rw [weights_eq]
  pointwise [weights]
  split
  · rename_i h
    refine (gather_col _ _ k ⟨d.val, h⟩ ⟨slot d.val + d.val % 64, by unfold slot; omega⟩ ?_).trans ?_
    · exact slot_word ⟨d.val, h⟩
    · pointwise
      exact congrArg (fun d => argW m c (ix2 k d)) (Fin.ext (by simp only [Nat.mod_eq_of_lt h]))
  · exact congrArg (fun d => argW m c (ix2 k d)) (Fin.ext (by simp only; omega))

end Cert.MobaSample

end
-- ==== Proof.MobaSample.Final.lean ====
/-
  The whole results of the sampled rows' projection: the one block of rows is the arrays, so they are the projection of every row.
-/
module

public import proofs.«01_k».proof.Proof.MobaSample.Block
public import proofs.«01_k».proof.Proof.MobaSample.Host
public import proofs.«01_k».proof.Proof.Gen.MobaSampleIdeal.Value

@[expose] public section

set_option maxRecDepth 16384

noncomputable section

namespace Cert.MobaSample

open Cert.MobaProj (nrm hn rot head slot slot_le qRow kvRow lane lane_eq)
open Cert.MobaSampleIdeal Cert.MobaSampleIdeal.Gen Idealize.ShloMosaic Idealize.ShloMosaic.TcCoe Idealize.SL.Sem
open Idealize.ShloMosaic.Pipeline (Dat)

/-! ## The projection of every row -/

section
variable (x : FVec Ideal S32x8x1024 .f32) (g : FVec Ideal S1024 .f32) (w : FVec Ideal S1024x1536 .f32) (q k : FVec Ideal S64 .f32)
  (co si : FVec Ideal S8x32 .f32)

/-- The normed row `n` of all sequences. -/
def rowH (n : Fin 256) : Fin 1024 → EReal :=
  nrm (fun k => x (ix3 ⟨n.val / 8, by omega⟩ ⟨n.val % 8, Nat.mod_lt _ (by omega)⟩ k)) (fun k => g (ix1 k))

/-- The angles' cosines or sines of row `n`. -/
def angle (t : FVec Ideal S8x32 .f32) (n : Fin 256) (e : Fin 32) : EReal := t (ix2 ⟨n.val % 8, Nat.mod_lt _ (by omega)⟩ e)

/-- The queries of every row. -/
def qArr : FVec Ideal S256x1024 .f32 := fun y =>
  qRow (rowH x g (y 0)) (fun k d => w (ix2 k d)) (fun e => q (ix1 e)) (angle co (y 0)) (angle si (y 0)) (y 1)

/-- The keys and values of every row. -/
def kvArr : FVec Ideal S256x512 .f32 := fun y =>
  kvRow (rowH x g (y 0)) (fun k d => w (ix2 k d)) (fun e => k (ix1 e)) (angle co (y 0)) (angle si (y 0)) (y 1)

end

variable (m : (ℓ : Loc nD τ sig) → Buf (Elt Ideal) ℓ) (c : Dev nD) (t : Fin cfg0.N)

/-! ## A grid point's blocks -/

/-- A grid point's block of rows. -/
theorem index_rows : ∀ t : Fin cfg0.N, win0_0.index t 0 = t.val ∧ win0_0.index t 1 = 0 :=
  (by decide +kernel : ∀ t : Fin grid0.N, win0_0.index t 0 = t.val ∧ win0_0.index t 1 = 0)
theorem index_q : ∀ t : Fin cfg0.N, win0_7.index t 0 = t.val ∧ win0_7.index t 1 = 0 :=
  (by decide +kernel : ∀ t : Fin grid0.N, win0_7.index t 0 = t.val ∧ win0_7.index t 1 = 0)
theorem index_kv : ∀ t : Fin cfg0.N, win0_8.index t 0 = t.val ∧ win0_8.index t 1 = 0 :=
  (by decide +kernel : ∀ t : Fin grid0.N, win0_8.index t 0 = t.val ∧ win0_8.index t 1 = 0)
theorem index_kv' : ∀ t : Fin cfg0.N, win0_9.index t 0 = t.val ∧ win0_9.index t 1 = 0 :=
  (by decide +kernel : ∀ t : Fin grid0.N, win0_9.index t 0 = t.val ∧ win0_9.index t 1 = 0)

theorem t_lt : t.val < 1 := lt_of_lt_of_eq t.isLt N_0

/-- The row of the array at row `r` of a grid point's block. -/
abbrev rowAt (r : Fin 256) : Fin 256 := ⟨256 * t.val + r.val, by have := t_lt t; omega⟩

theorem blkX (r : Fin 256) (k : Fin 1024) : iblk m c 0 t (ix2 r k) = V m c main_v15 (ix2 (rowAt t r) k) := by
  show V m c main_v15 ((win0_0.rect t).emb (ix2 r k)) = _
  refine congrArg (V m c main_v15) (funext fun a => Fin.ext ?_)
  obtain ⟨e0, e1⟩ := index_rows t
  match a with
  | ⟨0, _⟩ =>
    show win0_0.index t 0 * 256 + 1 * r.val = 256 * t.val + r.val
    omega
  | ⟨1, _⟩ =>
    show win0_0.index t 1 * 1024 + 1 * k.val = k.val
    omega

theorem blkG (k : Fin 1024) : iblk m c 1 t (ix2 0 k) = argG m c (ix1 k) := by
  rw [← gains_apply]
  show V m c main_v16 ((win0_1.rect t).emb (ix2 0 k)) = _
  refine congrArg (V m c main_v16) (funext fun a => Fin.ext ?_)
  match a with
  | ⟨0, _⟩ => rfl
  | ⟨1, _⟩ =>
    show 0 * 1024 + 1 * k.val = k.val
    omega

theorem blkW (k : Fin 1024) (d : Fin 1536) : iblk m c 2 t (ix2 k d) = V m c main_v8 (ix2 k d) := by
  show V m c main_v8 ((win0_2.rect t).emb (ix2 k d)) = _
  refine congrArg (V m c main_v8) (funext fun a => Fin.ext ?_)
  match a with
  | ⟨0, _⟩ =>
    show 0 * 1024 + 1 * k.val = k.val
    omega
  | ⟨1, _⟩ =>
    show 0 * 1536 + 1 * d.val = d.val
    omega

theorem blkM (x j : Fin 256) : iblk m c 3 t (ix2 x j) = V m c main_v44 (ix2 x j) := by
  show V m c main_v44 ((win0_3.rect t).emb (ix2 x j)) = _
  refine congrArg (V m c main_v44) (funext fun a => Fin.ext ?_)
  match a with
  | ⟨0, _⟩ =>
    show 0 * 256 + 1 * x.val = x.val
    omega
  | ⟨1, _⟩ =>
    show 0 * 256 + 1 * j.val = j.val
    omega

theorem blkC (x : Fin 8) (j : Fin 256) : iblk m c 4 t (ix2 x j) = V m c main_v35 (ix2 x j) := by
  show V m c main_v35 ((win0_4.rect t).emb (ix2 x j)) = _
  refine congrArg (V m c main_v35) (funext fun a => Fin.ext ?_)
  match a with
  | ⟨0, _⟩ =>
    show 0 * 8 + 1 * x.val = x.val
    omega
  | ⟨1, _⟩ =>
    show 0 * 256 + 1 * j.val = j.val
    omega

theorem blkCos (r j : Fin 256) : iblk m c 5 t (ix2 r j) = V m c main_v20 (ix2 (rowAt t r) j) := by
  show V m c main_v20 ((win0_5.rect t).emb (ix2 r j)) = _
  refine congrArg (V m c main_v20) (funext fun a => Fin.ext ?_)
  have ht := t_lt t
  match a with
  | ⟨0, _⟩ =>
    show 0 * 256 + 1 * r.val = 256 * t.val + r.val
    omega
  | ⟨1, _⟩ =>
    show 0 * 256 + 1 * j.val = j.val
    omega

theorem blkSin (r j : Fin 256) : iblk m c 6 t (ix2 r j) = V m c main_v25 (ix2 (rowAt t r) j) := by
  show V m c main_v25 ((win0_6.rect t).emb (ix2 r j)) = _
  refine congrArg (V m c main_v25) (funext fun a => Fin.ext ?_)
  have ht := t_lt t
  match a with
  | ⟨0, _⟩ =>
    show 0 * 256 + 1 * r.val = 256 * t.val + r.val
    omega
  | ⟨1, _⟩ =>
    show 0 * 256 + 1 * j.val = j.val
    omega

/-- The normed row of a block. -/
theorem nrm_blk (r : Fin 256) : nrm (fun k => iblk m c 0 t (ix2 r k)) (fun k => iblk m c 1 t (ix2 0 k))
    = rowH (argX m c) (argG m c) (rowAt t r) := by
  have ex : (fun k => iblk m c 0 t (ix2 r k)) = fun k => argX m c
      (ix3 ⟨(rowAt t r).val / 8, by omega⟩ ⟨(rowAt t r).val % 8, Nat.mod_lt _ (by omega)⟩ k) :=
    funext fun k => (blkX m c t r k).trans (rows_apply m c (rowAt t r) k)
  have eg : (fun k => iblk m c 1 t (ix2 0 k)) = fun k => argG m c (ix1 k) := funext fun k => blkG m c t k
  unfold rowH
  rw [ex, eg]

/-- A head of a grid point's block, from a start of columns that hold the head's columns of the weights. -/
theorem blane_eq (r : Fin 256) (n : ℕ) (hn : n + 256 ≤ 1536) (q : Fin 8) (j : Fin 256) (p : Fin 64 → EReal) (o : ℕ) (ho : o + 64 ≤ 1536)
    (hp : ∀ j : Fin 256, V m c main_v35 (ix2 q j) = p ⟨j.val % 64, Nat.mod_lt _ (by omega)⟩)
    (hw : ∀ (k : Fin 1024) (e : Fin 64), V m c main_v8 (ix2 k ⟨n + (64 * (j.val / 64) + e.val), by omega⟩) = argW m c (ix2 k ⟨o + e.val, by omega⟩)) :
    blane (iblk m c 0 t) (iblk m c 1 t) (iblk m c 2 t) (iblk m c 3 t) (iblk m c 4 t) (iblk m c 5 t) (iblk m c 6 t) r n hn q j
      = head (rowH (argX m c) (argG m c) (rowAt t r)) (fun k d => argW m c (ix2 k d)) o ho p (angle (argC m c) (rowAt t r))
          (angle (argS m c) (rowAt t r)) ⟨j.val % 64, Nat.mod_lt _ (by omega)⟩ := by
  unfold blane
  rw [nrm_blk]
  refine (lane_eq _ _ _ _ _ _ _ p (angle (argC m c) (rowAt t r)) (angle (argS m c) (rowAt t r)) ?_ ?_ ?_ ?_ ?_ j).trans ?_
  · intro x j; rw [blkM]; exact means_apply m c x j
  · intro j; rw [blkC]; exact hp j
  · intro j; rw [blkC]; exact half_apply m c j
  · intro j; rw [blkCos]; exact cos_apply m c _ j
  · intro j; rw [blkSin]; exact sin_apply m c _ j
  · unfold head
    simp only [blkW, hw]

/-! ## What a grid point writes back -/

/-- The queries. -/
theorem flushed_q : (dats m 0 c).flushed 7 t
    = ((cfg0.win 7).blk t).view.read (Elt Ideal) (qArr (argX m c) (argG m c) (argW m c) (argQ m c) (argC m c) (argS m c)) := by
  rw [Value.flushed7]
  funext y
  obtain ⟨r, d, rfl⟩ : ∃ (r : Fin 256) (d : Fin 1024), y = ix2 r d := ⟨y 0, y 1, Shared.pair_idx y⟩
  refine (congrFun (out7_eq (iblk m c 0 t) (iblk m c 1 t) (iblk m c 2 t) (iblk m c 3 t) (iblk m c 4 t) (iblk m c 5 t) (iblk m c 6 t)) (ix2 r d)).trans ?_
  have e : (win0_7.rect t).emb (ix2 r d) = (ix2 (rowAt t r) d : S256x1024.Idx) := by
    obtain ⟨e0, e1⟩ := index_q t
    funext a
    refine Fin.ext ?_
    match a with
    | ⟨0, _⟩ =>
      show win0_7.index t 0 * 256 + 1 * r.val = 256 * t.val + r.val
      omega
    | ⟨1, _⟩ =>
      show win0_7.index t 1 * 1024 + 1 * d.val = d.val
      omega
  show _ = qArr (argX m c) (argG m c) (argW m c) (argQ m c) (argC m c) (argS m c) ((win0_7.rect t).emb (ix2 r d))
  rw [e]
  unfold qBlk qArr qRow
  refine congrArg (· * _) ?_
  refine (blane_eq m c t r (256 * (d.val / 256)) (by omega) 0 ⟨d.val % 256, Nat.mod_lt _ (by omega)⟩ (fun e => argQ m c (ix1 e)) (slot d.val)
    (slot_le _ d.isLt) (qgain_apply m c) ?_).trans ?_
  · intro k e
    rw [weights_apply, if_pos (by simp only; omega)]
    refine congrArg (fun d => argW m c (ix2 k d)) (Fin.ext ?_)
    show slot ((256 * (d.val / 256) + (64 * (d.val % 256 / 64) + e.val)) % 1024) + (256 * (d.val / 256) + (64 * (d.val % 256 / 64) + e.val)) % 64
      = slot d.val + e.val
    have h1 : (256 * (d.val / 256) + (64 * (d.val % 256 / 64) + e.val)) % 1024 = 64 * (d.val / 64) + e.val := by omega
    have h2 : (256 * (d.val / 256) + (64 * (d.val % 256 / 64) + e.val)) % 64 = e.val := by omega
    rw [h1, h2]
    unfold slot
    omega
  · have : (⟨d.val % 256 % 64, Nat.mod_lt _ (by omega)⟩ : Fin 64) = ⟨d.val % 64, Nat.mod_lt _ (by omega)⟩ := Fin.ext (by simp only; omega)
    exact congrArg _ this

/-- The keys and values of a block. -/
theorem kv_blk (r : Fin 256) (d : Fin 512) :
    kvBlk (iblk m c 0 t) (iblk m c 1 t) (iblk m c 2 t) (iblk m c 3 t) (iblk m c 4 t) (iblk m c 5 t) (iblk m c 6 t) (ix2 r d)
      = kvArr (argX m c) (argG m c) (argW m c) (argK m c) (argC m c) (argS m c) (ix2 (rowAt t r) d) := by
  unfold kvBlk kvArr kvRow
  by_cases h : d.val < 256
  · refine (dif_pos h).trans (Eq.trans ?_ (dif_pos h).symm)
    refine blane_eq m c t r 1024 (by omega) 1 ⟨d.val, h⟩ (fun e => argK m c (ix1 e)) (1024 + 64 * (d.val / 64)) (by omega)
      (kgain_apply m c) ?_
    intro k e
    rw [weights_apply, if_neg (by simp only; omega)]
    exact congrArg (fun d => argW m c (ix2 k d)) (Fin.ext (by simp only; omega))
  · refine (dif_neg h).trans (Eq.trans ?_ (dif_neg h).symm)
    show (∑ k, nrm (fun k => iblk m c 0 t (ix2 r k)) (fun k => iblk m c 1 t (ix2 0 k)) k * iblk m c 2 t (ix2 k ⟨1024 + d.val, by omega⟩)) = _
    rw [nrm_blk]
    refine Finset.sum_congr rfl fun k _ => ?_
    rw [blkW, weights_apply, if_neg (by simp only; omega)]
    rfl

theorem flushed_kv : (dats m 0 c).flushed 8 t
    = ((cfg0.win 8).blk t).view.read (Elt Ideal) (kvArr (argX m c) (argG m c) (argW m c) (argK m c) (argC m c) (argS m c)) := by
  rw [Value.flushed8]
  funext y
  obtain ⟨r, d, rfl⟩ : ∃ (r : Fin 256) (d : Fin 512), y = ix2 r d := ⟨y 0, y 1, Shared.pair_idx y⟩
  refine (congrFun (out8_eq (iblk m c 0 t) (iblk m c 1 t) (iblk m c 2 t) (iblk m c 3 t) (iblk m c 4 t) (iblk m c 5 t) (iblk m c 6 t)) (ix2 r d)).trans ?_
  refine (kv_blk m c t r d).trans ?_
  show _ = kvArr (argX m c) (argG m c) (argW m c) (argK m c) (argC m c) (argS m c) ((win0_8.rect t).emb (ix2 r d))
  refine congrArg _ (funext fun a => Fin.ext ?_)
  obtain ⟨e0, e1⟩ := index_kv t
  match a with
  | ⟨0, _⟩ =>
    show 256 * t.val + r.val = win0_8.index t 0 * 256 + 1 * r.val
    omega
  | ⟨1, _⟩ =>
    show d.val = win0_8.index t 1 * 512 + 1 * d.val
    omega

/-- The keys and values again, in the narrow format. -/
theorem flushed_kv' : (dats m 0 c).flushed 9 t
    = ((cfg0.win 9).blk t).view.read (Elt Ideal)
        (kvArr (argX m c) (argG m c) (argW m c) (argK m c) (argC m c) (argS m c) : S256x512.Idx → EReal) := by
  rw [Value.flushed9]
  funext y
  obtain ⟨r, d, rfl⟩ : ∃ (r : Fin 256) (d : Fin 512), y = ix2 r d := ⟨y 0, y 1, Shared.pair_idx y⟩
  refine (congrFun (out9_eq (iblk m c 0 t) (iblk m c 1 t) (iblk m c 2 t) (iblk m c 3 t) (iblk m c 4 t) (iblk m c 5 t) (iblk m c 6 t)) (ix2 r d)).trans ?_
  refine (kv_blk m c t r d).trans ?_
  show _ = kvArr (argX m c) (argG m c) (argW m c) (argK m c) (argC m c) (argS m c) ((win0_9.rect t).emb (ix2 r d))
  refine congrArg _ (funext fun a => Fin.ext ?_)
  obtain ⟨e0, e1⟩ := index_kv' t
  match a with
  | ⟨0, _⟩ =>
    show 256 * t.val + r.val = win0_9.index t 0 * 256 + 1 * r.val
    omega
  | ⟨1, _⟩ =>
    show d.val = win0_9.index t 1 * 512 + 1 * d.val
    omega

/-! ## The whole arrays -/

/-- Every place of the queries lies in a grid point's block. -/
theorem cover_q (x : S256x1024.Idx) : ∃ t : Fin cfg0.N, (cfg0.win 7).flush t = true ∧ x ∈ ((cfg0.win 7).blk t).view.set := by
  have h0 : (x 0 : ℕ) < 256 := (x 0).isLt
  have h1 : (x 1 : ℕ) < 1024 := (x 1).isLt
  let t : Fin cfg0.N := ⟨(x 0 : ℕ) / 256, lt_of_lt_of_eq (by omega) N_0.symm⟩
  refine ⟨t, flush0_7 t, ?_⟩
  show x ∈ ((View.whole main_v45_0).slice (win0_7.rect t)).set
  rw [View.set_slice_whole, Rect.mem_set_unit]
  obtain ⟨e0, e1⟩ := index_q t
  have ht : t.val = (x 0 : ℕ) / 256 := rfl
  intro a
  match a with
  | ⟨0, _⟩ =>
    show win0_7.index t 0 * 256 ≤ (x 0 : ℕ) ∧ (x 0 : ℕ) < win0_7.index t 0 * 256 + 256
    omega
  | ⟨1, _⟩ =>
    show win0_7.index t 1 * 1024 ≤ (x 1 : ℕ) ∧ (x 1 : ℕ) < win0_7.index t 1 * 1024 + 1024
    omega

theorem cover_kv (x : S256x512.Idx) : ∃ t : Fin cfg0.N, (cfg0.win 8).flush t = true ∧ x ∈ ((cfg0.win 8).blk t).view.set := by
  have h0 : (x 0 : ℕ) < 256 := (x 0).isLt
  have h1 : (x 1 : ℕ) < 512 := (x 1).isLt
  let t : Fin cfg0.N := ⟨(x 0 : ℕ) / 256, lt_of_lt_of_eq (by omega) N_0.symm⟩
  refine ⟨t, flush0_8 t, ?_⟩
  show x ∈ ((View.whole main_v45_1).slice (win0_8.rect t)).set
  rw [View.set_slice_whole, Rect.mem_set_unit]
  obtain ⟨e0, e1⟩ := index_kv t
  have ht : t.val = (x 0 : ℕ) / 256 := rfl
  intro a
  match a with
  | ⟨0, _⟩ =>
    show win0_8.index t 0 * 256 ≤ (x 0 : ℕ) ∧ (x 0 : ℕ) < win0_8.index t 0 * 256 + 256
    omega
  | ⟨1, _⟩ =>
    show win0_8.index t 1 * 512 ≤ (x 1 : ℕ) ∧ (x 1 : ℕ) < win0_8.index t 1 * 512 + 512
    omega

theorem cover_kv' (x : S256x512.Idx) : ∃ t : Fin cfg0.N, (cfg0.win 9).flush t = true ∧ x ∈ ((cfg0.win 9).blk t).view.set := by
  have h0 : (x 0 : ℕ) < 256 := (x 0).isLt
  have h1 : (x 1 : ℕ) < 512 := (x 1).isLt
  let t : Fin cfg0.N := ⟨(x 0 : ℕ) / 256, lt_of_lt_of_eq (by omega) N_0.symm⟩
  refine ⟨t, flush0_9 t, ?_⟩
  show x ∈ ((View.whole main_v45_2).slice (win0_9.rect t)).set
  rw [View.set_slice_whole, Rect.mem_set_unit]
  obtain ⟨e0, e1⟩ := index_kv' t
  have ht : t.val = (x 0 : ℕ) / 256 := rfl
  intro a
  match a with
  | ⟨0, _⟩ =>
    show win0_9.index t 0 * 256 ≤ (x 0 : ℕ) ∧ (x 0 : ℕ) < win0_9.index t 0 * 256 + 256
    omega
  | ⟨1, _⟩ =>
    show win0_9.index t 1 * 512 ≤ (x 1 : ℕ) ∧ (x 1 : ℕ) < win0_9.index t 1 * 512 + 512
    omega

/-- The queries' array at the end of the grid. -/
theorem final_q : (dats m 0 c).arrAt 7 cfg0.N = qArr (argX m c) (argG m c) (argW m c) (argQ m c) (argC m c) (argS m c) :=
  (dats m 0 c).arrAt_eq_of_cover 7 _ (fun t _ => flushed_q m c t) cover_q
/-- The keys' and values' array at the end of the grid. -/
theorem final_kv : (dats m 0 c).arrAt 8 cfg0.N = kvArr (argX m c) (argG m c) (argW m c) (argK m c) (argC m c) (argS m c) :=
  (dats m 0 c).arrAt_eq_of_cover 8 _ (fun t _ => flushed_kv m c t) cover_kv
/-- The same in the narrow format. -/
theorem final_kv' : (dats m 0 c).arrAt 9 cfg0.N
    = (kvArr (argX m c) (argG m c) (argW m c) (argK m c) (argC m c) (argS m c) : S256x512.Idx → EReal) :=
  (dats m 0 c).arrAt_eq_of_cover 9 _ (fun t _ => flushed_kv' m c t) cover_kv'

end Cert.MobaSample

end
-- ==== Proof.MobaSample.Claims.lean ====
/-
  The claims about the block-attention projection of the sampled rows.
-/
module

public import proofs.«01_k».proof.Defs
public import proofs.«01_k».proof.Proof.Gen.MobaSample.Frame
public import proofs.«01_k».proof.Proof.Gen.MobaSampleReferenceIdeal.Run
public import proofs.«01_k».proof.Proof.MobaSample.Final
public import Idealize.ShloMosaic.Lib.Quiescent

@[expose] public section

set_option maxRecDepth 16384

noncomputable section

namespace Cert.MobaSample

open Cert.MobaProj (nrm hn rot head slot slot_le qRow kvRow lane lane_eq)
open Idealize.ShloMosaic Idealize.ShloMosaic.TcCoe Idealize.SL.Sem

/-- The kernel as printed terminates, its arguments unchanged. -/
theorem frame_P : Cert.quiescent_MobaSample := fun m ρ _ => Cert.MobaSample.Gen.frame m ρ
/-- The kernel over the extended reals terminates, its arguments unchanged. -/
theorem frame_PI : Cert.quiescent_MobaSampleIdeal := fun m ρ _ => Cert.MobaSampleIdeal.Gen.frame m ρ
/-- The reference terminates, its arguments unchanged; it has no semaphore. -/
theorem frame_RI : Cert.quiescent_MobaSampleReferenceIdeal := fun m ρ _ =>
  (θ_run Cert.MobaSampleReferenceIdeal.defs _ _).mono (fun r h => ⟨fun c => (h c).2.2.2, sem_eq_zero_of_no_sems (by decide) r.2⟩)
    (Cert.MobaSampleReferenceIdeal.Value.run (F := Ideal) m ρ)
/-- No operation was rewritten. -/
theorem preserves : Cert.preserves_MobaSample_MobaSampleIdeal := trivial

section
open Cert.MobaSampleReferenceIdeal Cert.MobaSampleReferenceIdeal.Gen

variable (x : FVec Ideal S32x8x1024 .f32) (g : FVec Ideal S1024 .f32) (w : FVec Ideal S1024x1536 .f32) (q k : FVec Ideal S64 .f32)
  (co si : FVec Ideal S8x32 .f32)

/-- The reference's normed rows. -/
def refNrm : FVec Ideal S32x8x1024 .f32 :=
  mulf (mulf x (broadcastInDim S32x8x1024 ![0, 1, 2] bcast_S32x8x1_S32x8x1024_0_1_2 (Host.rsqrt (addf (Host.divf (broadcastInDim S32x8x1 ![0,
    1] bcast_S32x8_S32x8x1_0_1 (Host.reduceAdd (mulf x x) (constant S_ .f32 0x00000000#32) reducesTo_S32x8x1024_S32x8_d2 h_S_))
    (broadcastInDim S32x8x1 ![] bcast_S_S32x8x1 (constant S_ .f32 0x44800000#32))) (broadcastInDim S32x8x1 ![] bcast_S_S32x8x1 (constant S_
    .f32 0x358637BD#32)))))) (broadcastInDim S32x8x1024 ![0, 1, 2] bcast_S1x1x1024_S32x8x1024_0_1_2 (broadcastInDim S1x1x1024 ![2]
    bcast_S1024_S1x1x1024_2 g))

/-- The reference's product of normed rows `h` with the weights. -/
def refProj (h : FVec Ideal S32x8x1024 .f32) : FVec Ideal S32x8x1536 .f32 :=
  Host.dotGeneral dot_S32x8x1024_S1024x1536_S32x8x1536_2_0_01_1_n_n none h w

/-- The reference's normed query heads of the product `p`. -/
def refQn (p : FVec Ideal S32x8x1536 .f32) : FVec Ideal S32x8x16x64 .f32 :=
  mulf (mulf (shapeCast S32x8x16x64 (extractStridedSlice S32x8x1024 ![0, 0, 0] p slices_S32x8x1536_S32x8x1024_0_0_0)
    shapeCasts_S32x8x1024_S32x8x16x64) (broadcastInDim S32x8x16x64 ![0, 1, 2, 3] bcast_S32x8x16x1_S32x8x16x64_0_1_2_3 (Host.rsqrt (addf
    (Host.divf (broadcastInDim S32x8x16x1 ![0, 1, 2] bcast_S32x8x16_S32x8x16x1_0_1_2 (Host.reduceAdd (mulf (shapeCast S32x8x16x64
    (extractStridedSlice S32x8x1024 ![0, 0, 0] p slices_S32x8x1536_S32x8x1024_0_0_0) shapeCasts_S32x8x1024_S32x8x16x64) (shapeCast
    S32x8x16x64 (extractStridedSlice S32x8x1024 ![0, 0, 0] p slices_S32x8x1536_S32x8x1024_0_0_0) shapeCasts_S32x8x1024_S32x8x16x64))
    (constant S_ .f32 0x00000000#32) reducesTo_S32x8x16x64_S32x8x16_d3 h_S_)) (broadcastInDim S32x8x16x1 ![] bcast_S_S32x8x16x1 (constant S_
    .f32 0x42800000#32))) (broadcastInDim S32x8x16x1 ![] bcast_S_S32x8x16x1 (constant S_ .f32 0x358637BD#32)))))) (broadcastInDim S32x8x16x64
    ![0, 1, 2, 3] bcast_S1x1x1x64_S32x8x16x64_0_1_2_3 (broadcastInDim S1x1x1x64 ![3] bcast_S64_S1x1x1x64_3 q))

/-- The reference's normed key heads of the product `p`. -/
def refKn (p : FVec Ideal S32x8x1536 .f32) : FVec Ideal S32x8x4x64 .f32 :=
  mulf (mulf (shapeCast S32x8x4x64 (extractStridedSlice S32x8x256 ![0, 0, 1024] p slices_S32x8x1536_S32x8x256_0_0_1024)
    shapeCasts_S32x8x256_S32x8x4x64) (broadcastInDim S32x8x4x64 ![0, 1, 2, 3] bcast_S32x8x4x1_S32x8x4x64_0_1_2_3 (Host.rsqrt (addf
    (Host.divf (broadcastInDim S32x8x4x1 ![0, 1, 2] bcast_S32x8x4_S32x8x4x1_0_1_2 (Host.reduceAdd (mulf (shapeCast S32x8x4x64
    (extractStridedSlice S32x8x256 ![0, 0, 1024] p slices_S32x8x1536_S32x8x256_0_0_1024) shapeCasts_S32x8x256_S32x8x4x64) (shapeCast
    S32x8x4x64 (extractStridedSlice S32x8x256 ![0, 0, 1024] p slices_S32x8x1536_S32x8x256_0_0_1024) shapeCasts_S32x8x256_S32x8x4x64))
    (constant S_ .f32 0x00000000#32) reducesTo_S32x8x4x64_S32x8x4_d3 h_S_)) (broadcastInDim S32x8x4x1 ![] bcast_S_S32x8x4x1 (constant S_ .f32
    0x42800000#32))) (broadcastInDim S32x8x4x1 ![] bcast_S_S32x8x4x1 (constant S_ .f32 0x358637BD#32)))))) (broadcastInDim S32x8x4x64 ![0, 1, 2,
    3] bcast_S1x1x1x64_S32x8x4x64_0_1_2_3 (broadcastInDim S1x1x1x64 ![3] bcast_S64_S1x1x1x64_3 k))

/-- The reference's rotated query heads. -/
def refQr (a : FVec Ideal S32x8x16x64 .f32) : FVec Ideal S32x8x16x64 .f32 :=
  concatenate S32x8x16x64 3 [⟨S32x8x16x32, (subf (mulf (extractStridedSlice S32x8x16x32 ![0, 0, 0, 0] a
    slices_S32x8x16x64_S32x8x16x32_0_0_0_0) (broadcastInDim S32x8x16x32 ![0, 1, 2, 3] bcast_S1x8x1x32_S32x8x16x32_0_1_2_3 (broadcastInDim
    S1x8x1x32 ![1, 2, 3] bcast_S8x1x32_S1x8x1x32_1_2_3 (broadcastInDim S8x1x32 ![0, 2] bcast_S8x32_S8x1x32_0_2 co)))) (mulf
    (extractStridedSlice S32x8x16x32 ![0, 0, 0, 32] a slices_S32x8x16x64_S32x8x16x32_0_0_0_32) (broadcastInDim S32x8x16x32 ![0, 1, 2, 3]
    bcast_S1x8x1x32_S32x8x16x32_0_1_2_3 (broadcastInDim S1x8x1x32 ![1, 2, 3] bcast_S8x1x32_S1x8x1x32_1_2_3 (broadcastInDim S8x1x32
    ![0, 2] bcast_S8x32_S8x1x32_0_2 si)))))⟩, ⟨S32x8x16x32, (addf (mulf (extractStridedSlice S32x8x16x32 ![0, 0, 0, 0] a
    slices_S32x8x16x64_S32x8x16x32_0_0_0_0) (broadcastInDim S32x8x16x32 ![0, 1, 2, 3] bcast_S1x8x1x32_S32x8x16x32_0_1_2_3 (broadcastInDim
    S1x8x1x32 ![1, 2, 3] bcast_S8x1x32_S1x8x1x32_1_2_3 (broadcastInDim S8x1x32 ![0, 2] bcast_S8x32_S8x1x32_0_2 si)))) (mulf
    (extractStridedSlice S32x8x16x32 ![0, 0, 0, 32] a slices_S32x8x16x64_S32x8x16x32_0_0_0_32) (broadcastInDim S32x8x16x32 ![0, 1, 2, 3]
    bcast_S1x8x1x32_S32x8x16x32_0_1_2_3 (broadcastInDim S1x8x1x32 ![1, 2, 3] bcast_S8x1x32_S1x8x1x32_1_2_3 (broadcastInDim S8x1x32
    ![0, 2] bcast_S8x32_S8x1x32_0_2 co)))))⟩] concatenates_S32x8x16x32_S32x8x16x32_S32x8x16x64_d3

/-- The reference's rotated key heads. -/
def refKr (a : FVec Ideal S32x8x4x64 .f32) : FVec Ideal S32x8x4x64 .f32 :=
  concatenate S32x8x4x64 3 [⟨S32x8x4x32, (subf (mulf (extractStridedSlice S32x8x4x32 ![0, 0, 0, 0] a slices_S32x8x4x64_S32x8x4x32_0_0_0_0)
    (broadcastInDim S32x8x4x32 ![0, 1, 2, 3] bcast_S1x8x1x32_S32x8x4x32_0_1_2_3 (broadcastInDim S1x8x1x32 ![1, 2, 3]
    bcast_S8x1x32_S1x8x1x32_1_2_3 (broadcastInDim S8x1x32 ![0, 2] bcast_S8x32_S8x1x32_0_2 co)))) (mulf (extractStridedSlice
    S32x8x4x32 ![0, 0, 0, 32] a slices_S32x8x4x64_S32x8x4x32_0_0_0_32) (broadcastInDim S32x8x4x32 ![0, 1, 2, 3]
    bcast_S1x8x1x32_S32x8x4x32_0_1_2_3 (broadcastInDim S1x8x1x32 ![1, 2, 3] bcast_S8x1x32_S1x8x1x32_1_2_3 (broadcastInDim S8x1x32
    ![0, 2] bcast_S8x32_S8x1x32_0_2 si)))))⟩, ⟨S32x8x4x32, (addf (mulf (extractStridedSlice S32x8x4x32 ![0, 0, 0, 0] a
    slices_S32x8x4x64_S32x8x4x32_0_0_0_0) (broadcastInDim S32x8x4x32 ![0, 1, 2, 3] bcast_S1x8x1x32_S32x8x4x32_0_1_2_3 (broadcastInDim
    S1x8x1x32 ![1, 2, 3] bcast_S8x1x32_S1x8x1x32_1_2_3 (broadcastInDim S8x1x32 ![0, 2] bcast_S8x32_S8x1x32_0_2 si)))) (mulf
    (extractStridedSlice S32x8x4x32 ![0, 0, 0, 32] a slices_S32x8x4x64_S32x8x4x32_0_0_0_32) (broadcastInDim S32x8x4x32 ![0, 1, 2, 3]
    bcast_S1x8x1x32_S32x8x4x32_0_1_2_3 (broadcastInDim S1x8x1x32 ![1, 2, 3] bcast_S8x1x32_S1x8x1x32_1_2_3 (broadcastInDim S8x1x32
    ![0, 2] bcast_S8x32_S8x1x32_0_2 co)))))⟩] concatenates_S32x8x4x32_S32x8x4x32_S32x8x4x64_d3

/-- The reference's queries, scaled and in slot order, of rotated heads `y`. -/
def refQ (y : FVec Ideal S32x8x16x64 .f32) : FVec Ideal S256x1024 .f32 :=
  shapeCast S256x1024 (transpose S32x8x2x4x2x64 [0, 1, 2, 4, 3, 5] (shapeCast S32x8x2x2x4x64 (mulf y (broadcastInDim S32x8x16x64
    ![] bcast_S_S32x8x16x64 (constant S_ .f32 0x3E000000#32))) shapeCasts_S32x8x16x64_S32x8x2x2x4x64)
    transposes_S32x8x2x2x4x64_S32x8x2x4x2x64_0_1_2_4_3_5) shapeCasts_S32x8x2x4x2x64_S256x1024

/-- The reference's keys, of rotated heads `y`, beside the values, of the product `p`. -/
def refKv (p : FVec Ideal S32x8x1536 .f32) (y : FVec Ideal S32x8x4x64 .f32) : FVec Ideal S256x512 .f32 :=
  shapeCast S256x512 (concatenate S32x8x512 2 [⟨S32x8x256, (shapeCast S32x8x256 y shapeCasts_S32x8x4x64_S32x8x256)⟩, ⟨S32x8x256,
    (extractStridedSlice S32x8x256 ![0, 0, 1280] p slices_S32x8x1536_S32x8x256_0_0_1280)⟩] concatenates_S32x8x256_S32x8x256_S32x8x512_d2)
    shapeCasts_S32x8x512_S256x512

theorem refNrm_apply (b : Fin 32) (n : Fin 8) (k : Fin 1024) :
    refNrm x g (ix3 b n k) = nrm (fun k => x (ix3 b n k)) (fun k => g (ix1 k)) k := by
  unfold nrm
  pointwise [refNrm]

theorem refProj_apply (h : FVec Ideal S32x8x1024 .f32) (b : Fin 32) (n : Fin 8) (d : Fin 1536) :
    refProj w h (ix3 b n d) = ∑ k, h (ix3 b n k) * w (ix2 k d) := by
  pointwise [refProj]

theorem refQn_apply (p : FVec Ideal S32x8x1536 .f32) (b : Fin 32) (n : Fin 8) (a : Fin 16) (e : Fin 64) :
    refQn q p (ix4 b n a e) = hn (fun e => p (ix3 b n ⟨64 * a.val + e.val, by omega⟩)) (fun e => q (ix1 e)) e := by
  have he : ∀ e : Fin 64, (⟨64 * a.val + e.val, by omega⟩ : Fin 1536) = ⟨a.val * 64 + e.val, by omega⟩ :=
    fun e => Fin.ext (by simp only; omega)
  unfold hn
  simp only [he]
  pointwise [refQn]

theorem refKn_apply (p : FVec Ideal S32x8x1536 .f32) (b : Fin 32) (n : Fin 8) (a : Fin 4) (e : Fin 64) :
    refKn k p (ix4 b n a e) = hn (fun e => p (ix3 b n ⟨1024 + 64 * a.val + e.val, by omega⟩)) (fun e => k (ix1 e)) e := by
  have he : ∀ e : Fin 64, (⟨1024 + 64 * a.val + e.val, by omega⟩ : Fin 1536) = ⟨1024 + (a.val * 64 + e.val), by omega⟩ :=
    fun e => Fin.ext (by simp only; omega)
  unfold hn
  simp only [he]
  pointwise [refKn]

theorem refQr_apply (y : FVec Ideal S32x8x16x64 .f32) (b : Fin 32) (n : Fin 8) (a : Fin 16) (e : Fin 64) :
    refQr co si y (ix4 b n a e) = rot (fun e => y (ix4 b n a e)) (fun e => co (ix2 n e)) (fun e => si (ix2 n e)) e := by
  unfold rot
  pointwise [refQr]
  split
  · rename_i h
    have he : (⟨32 + e.val, by omega⟩ : Fin 64) = ⟨e.val + 32, by omega⟩ := Fin.ext (Nat.add_comm _ _)
    rw [he]
  · rename_i h
    have he : (⟨32 + (e.val - 32), by omega⟩ : Fin 64) = e := Fin.ext (by simp only; omega)
    rw [he]

theorem refKr_apply (y : FVec Ideal S32x8x4x64 .f32) (b : Fin 32) (n : Fin 8) (a : Fin 4) (e : Fin 64) :
    refKr co si y (ix4 b n a e) = rot (fun e => y (ix4 b n a e)) (fun e => co (ix2 n e)) (fun e => si (ix2 n e)) e := by
  unfold rot
  pointwise [refKr]
  split
  · rename_i h
    have he : (⟨32 + e.val, by omega⟩ : Fin 64) = ⟨e.val + 32, by omega⟩ := Fin.ext (Nat.add_comm _ _)
    rw [he]
  · rename_i h
    have he : (⟨32 + (e.val - 32), by omega⟩ : Fin 64) = e := Fin.ext (by simp only; omega)
    rw [he]

theorem refQ_apply (y : FVec Ideal S32x8x16x64 .f32) (n : Fin 256) (d : Fin 1024) :
    refQ y (ix2 n d) = y (ix4 ⟨n.val / 8, by omega⟩ ⟨n.val % 8, Nat.mod_lt _ (by omega)⟩ ⟨slot d.val / 64, by unfold slot; omega⟩
      ⟨d.val % 64, Nat.mod_lt _ (by omega)⟩) * Ideal.ofBits .f32 1040187392#32 := by
  have he : (⟨slot d.val / 64, by unfold slot; omega⟩ : Fin 16) = ⟨d.val / 512 * 8 + d.val / 64 % 2 * 4 + d.val / 128 % 4, by omega⟩ :=
    Fin.ext (by unfold slot; simp only; omega)
  rw [he]
  pointwise [refQ]

theorem refKv_apply (p : FVec Ideal S32x8x1536 .f32) (y : FVec Ideal S32x8x4x64 .f32) (n : Fin 256) (d : Fin 512) :
    refKv p y (ix2 n d) = if h : d.val < 256 then y (ix4 ⟨n.val / 8, by omega⟩ ⟨n.val % 8, Nat.mod_lt _ (by omega)⟩ ⟨d.val / 64, by omega⟩
      ⟨d.val % 64, Nat.mod_lt _ (by omega)⟩) else p (ix3 ⟨n.val / 8, by omega⟩ ⟨n.val % 8, Nat.mod_lt _ (by omega)⟩ ⟨1024 + d.val, by omega⟩) := by
  pointwise [refKv]
  split
  · rfl
  · exact congrArg (fun d => p (ix3 _ _ d)) (Fin.ext (by simp only; omega))

/-- The reference's queries are the projection's. -/
theorem ref_q : refQ (refQr co si (refQn q (refProj w (refNrm x g)))) = qArr x g w q co si := by
  funext j
  obtain ⟨n, d, rfl⟩ : ∃ (n : Fin 256) (d : Fin 1024), j = ix2 n d := ⟨j 0, j 1, Shared.pair_idx j⟩
  rw [refQ_apply, refQr_apply]
  simp only [refQn_apply, refProj_apply, refNrm_apply]
  unfold qArr qRow head
  have he : ∀ e : Fin 64, (⟨64 * (slot d.val / 64) + e.val, by unfold slot; omega⟩ : Fin 1536) = ⟨slot d.val + e.val, by unfold slot; omega⟩ :=
    fun e => Fin.ext (by unfold slot; simp only; omega)
  simp only [he]
  rfl

/-- The reference's keys and values are the projection's. -/
theorem ref_kv : refKv (refProj w (refNrm x g)) (refKr co si (refKn k (refProj w (refNrm x g)))) = kvArr x g w k co si := by
  funext j
  obtain ⟨n, d, rfl⟩ : ∃ (n : Fin 256) (d : Fin 512), j = ix2 n d := ⟨j 0, j 1, Shared.pair_idx j⟩
  rw [refKv_apply]
  simp only [refKr_apply, refKn_apply, refProj_apply, refNrm_apply]
  rfl

end

/-- The kernel's three results are the reference's, whatever the arguments. -/
theorem algebraic : Cert.algebraic_MobaSampleIdeal_MobaSampleReferenceIdeal := by
  intro m ρ m' ρ' _ hagree
  refine ⟨fun c => qArr (argX m c) (argG m c) (argW m c) (argQ m c) (argC m c) (argS m c),
    fun c => kvArr (argX m c) (argG m c) (argW m c) (argK m c) (argC m c) (argS m c),
    fun c => kvArr (argX m c) (argG m c) (argW m c) (argK m c) (argC m c) (argS m c), ?_, ?_⟩
  · exact (θ_run Cert.MobaSampleIdeal.defs _ _).mono (fun _ h c => ⟨(h c).1.trans (final_q m c), (h c).2.1.trans (final_kv m c),
        (h c).2.2.1.trans (final_kv' m c), (h c).2.2.2⟩)
      (Cert.MobaSampleIdeal.Value.run_blocks (F := Ideal) m ρ)
  · refine (θ_run Cert.MobaSampleReferenceIdeal.defs _ _).mono (fun _ h c => ⟨(h c).1.trans ?_, (h c).2.1.trans ?_, (h c).2.2.1.trans ?_, (h c).2.2.2⟩)
      (Cert.MobaSampleReferenceIdeal.Value.run (F := Ideal) m' ρ')
    · unfold Cert.MobaSampleReferenceIdeal.Value.res_main_v86
      rw [(hagree c).1, (hagree c).2.1, (hagree c).2.2.1, (hagree c).2.2.2.1, (hagree c).2.2.2.2.2.1, (hagree c).2.2.2.2.2.2]
      exact ref_q (argX m c) (argG m c) (argW m c) (argQ m c) (argC m c) (argS m c)
    · unfold Cert.MobaSampleReferenceIdeal.Value.res_main_v90
      rw [(hagree c).1, (hagree c).2.1, (hagree c).2.2.1, (hagree c).2.2.2.2.1, (hagree c).2.2.2.2.2.1, (hagree c).2.2.2.2.2.2]
      exact ref_kv (argX m c) (argG m c) (argW m c) (argK m c) (argC m c) (argS m c)
    · unfold Cert.MobaSampleReferenceIdeal.Value.res_main_v91
      rw [(hagree c).1, (hagree c).2.1, (hagree c).2.2.1, (hagree c).2.2.2.2.1, (hagree c).2.2.2.2.2.1, (hagree c).2.2.2.2.2.2]
      exact congrArg (fun a : FVec Ideal Cert.MobaSampleReferenceIdeal.S256x512 .f32 => truncf .bf16 a (by decide))
        (ref_kv (argX m c) (argG m c) (argW m c) (argK m c) (argC m c) (argS m c))

end Cert.MobaSample

end
-- ==== Proof.NsaProj.Spec.lean ====
/-
  The sparse-attention projection: what it is of one row, and its keys' part through lanes of two heads at once.
-/
module

public import proofs.«01_k».proof.Proof.MobaProj.Spec

@[expose] public section

set_option maxRecDepth 16384

noncomputable section

namespace Cert.NsaProj

open Idealize.ShloMosaic
open Cert.MobaProj (nrm hn rot sum_sq_mul ofBits_64 ofBits_64th ofBits_half)

/-! ## The function of one row -/

/-- Coordinate `e` of the head whose columns start at `o`: projected, normed and rotated. -/
def head (h : Fin 1024 → EReal) (W : Fin 1024 → Fin 1840 → EReal) (o : ℕ) (ho : o + 64 ≤ 1840) (g : Fin 64 → EReal)
    (c s : Fin 32 → EReal) (e : Fin 64) : EReal :=
  rot (hn (fun e => ∑ k, h k * W k ⟨o + e.val, by omega⟩) g) c s e

/-- Where the columns of the head at slot column `d` start: slots run over the queries of a group, then the two key heads. -/
def slot (d : ℕ) : ℕ := 64 * (d / 64 % 2 * 8 + d / 128)

theorem slot_le (d : ℕ) (hd : d < 1024) : slot d + 64 ≤ 1840 := by unfold slot; omega

/-- The queries of a row in slot order, scaled. -/
def qRow (h : Fin 1024 → EReal) (W : Fin 1024 → Fin 1840 → EReal) (g : Fin 64 → EReal) (c s : Fin 32 → EReal) (d : Fin 1024) : EReal :=
  head h W (slot d.val) (slot_le _ d.isLt) g c s ⟨d.val % 64, Nat.mod_lt _ (by omega)⟩ * Ideal.ofBits .f32 1040187392#32

/-- The keys and then the values of a row, branch by branch, each branch with gains of its own. -/
def kvRow (h : Fin 1024 → EReal) (W : Fin 1024 → Fin 1840 → EReal) (g : Fin 3 → Fin 64 → EReal) (c s : Fin 32 → EReal) (d : Fin 768) : EReal :=
  if d.val % 256 < 128 then head h W (1024 + 64 * (d.val / 64)) (by omega) (g ⟨d.val / 256, by omega⟩) c s ⟨d.val % 64, Nat.mod_lt _ (by omega)⟩
  else ∑ k, h k * W k ⟨1024 + d.val, by omega⟩

/-- The logistic function. -/
def logi (a : EReal) : EReal := Ideal.div (Ideal.ofBits .f32 1065353216#32) (Ideal.ofBits .f32 1065353216#32 + Ideal.exp (-a))

/-- The gates of a row, of the last 48 columns; the lanes beyond hold the gate of zero. -/
def gateRow (h : Fin 1024 → EReal) (W : Fin 1024 → Fin 1840 → EReal) (d : Fin 128) : EReal :=
  logi (if hd : d.val < 48 then ∑ k, h k * W k ⟨1792 + d.val, by omega⟩ else 0)

/-! ## The keys through lanes -/

/-- Two heads side by side: each lane divided by the root of its masked mean of squares, scaled, and rotated by lane turns. -/
def pair (h : Fin 1024 → EReal) (W : Fin 1024 → Fin 128 → EReal) (M : Fin 128 → Fin 128 → EReal) (g u c s : Fin 128 → EReal)
    (j : Fin 128) : EReal :=
  let y : Fin 128 → EReal := fun j => (∑ x, h x * W x j) *
    Ideal.rsqrt (∑ x, ((∑ k, h k * W k x) * ∑ k, h k * W k x) * M x j + Ideal.ofBits .f32 897988541#32) * g j
  y j * c j + (if Ideal.ofBits .f32 1056964608#32 < u j then y ⟨(j.val + 128 - 96) % 128, Nat.mod_lt _ (by omega)⟩
    else y ⟨(j.val + 128 - 32) % 128, Nat.mod_lt _ (by omega)⟩) * s j

/-- A sum over 128 lanes masked to the group of 64 holding lane `j`. -/
theorem sum_group (f : Fin 128 → EReal) (j : Fin 128) :
    (∑ x : Fin 128, if x.val / 64 = j.val / 64 then f x else 0) = ∑ e : Fin 64, f ⟨64 * (j.val / 64) + e.val, by omega⟩ := by
  rw [← (finProdFinEquiv (m := 2) (n := 64)).sum_comp, Fintype.sum_prod_type,
    Finset.sum_eq_single (⟨j.val / 64, by omega⟩ : Fin 2)]
  · refine Finset.sum_congr rfl fun e _ => ?_
    have : (finProdFinEquiv ((⟨j.val / 64, by omega⟩ : Fin 2), e)).val / 64 = j.val / 64 := by
      show (e.val + 64 * (j.val / 64)) / 64 = _
      omega
    rw [if_pos this]
    exact congrArg f (Fin.ext (Nat.add_comm _ _))
  · intro b _ hb
    refine Finset.sum_eq_zero fun e _ => if_neg fun h => hb (Fin.ext ?_)
    have : (e.val + 64 * b.val) / 64 = j.val / 64 := h
    show b.val = j.val / 64
    omega
  · exact fun h => absurd (Finset.mem_univ _) h

/-- With the group masks, tables and gains of two heads side by side, a lane is its head's coordinate. -/
theorem pair_eq (h : Fin 1024 → EReal) (W : Fin 1024 → Fin 128 → EReal) (M : Fin 128 → Fin 128 → EReal) (g u c s : Fin 128 → EReal)
    (g' : Fin 64 → EReal) (c' s' : Fin 32 → EReal)
    (hM : ∀ x j, M x j = if x.val / 64 = j.val / 64 then Ideal.ofBits .f32 1015021568#32 else 0)
    (hg : ∀ j, g j = g' ⟨j.val % 64, Nat.mod_lt _ (by omega)⟩)
    (hu : ∀ j, u j = if j.val % 64 < 32 then 1 else 0)
    (hc : ∀ j, c j = c' ⟨j.val % 32, Nat.mod_lt _ (by omega)⟩)
    (hs : ∀ j, s j = if j.val % 64 < 32 then -s' ⟨j.val % 32, Nat.mod_lt _ (by omega)⟩ else s' ⟨j.val % 32, Nat.mod_lt _ (by omega)⟩)
    (j : Fin 128) :
    pair h W M g u c s j
      = rot (hn (fun e => ∑ k, h k * W k ⟨64 * (j.val / 64) + e.val, by omega⟩) g') c' s' ⟨j.val % 64, Nat.mod_lt _ (by omega)⟩ := by
  have hy : ∀ (i : Fin 128) (e : Fin 64), i.val = 64 * (j.val / 64) + e.val →
      (∑ x, h x * W x i) * Ideal.rsqrt (∑ x, ((∑ k, h k * W k x) * ∑ k, h k * W k x) * M x i + Ideal.ofBits .f32 897988541#32) * g i
        = hn (fun e => ∑ k, h k * W k ⟨64 * (j.val / 64) + e.val, by omega⟩) g' e := by
    intro i e hi
    have hi' : i = ⟨64 * (j.val / 64) + e.val, by omega⟩ := Fin.ext hi
    have hd : i.val / 64 = j.val / 64 := by omega
    have hm : (⟨i.val % 64, Nat.mod_lt _ (by omega)⟩ : Fin 64) = e := Fin.ext (by show _ % 64 = _; omega)
    have hA : (∑ x, h x * W x i) = ∑ k, h k * W k ⟨64 * (j.val / 64) + e.val, by omega⟩ :=
      Finset.sum_congr rfl fun k _ => congrArg (fun i => h k * W k i) hi'
    unfold hn
    rw [hg]
    simp only [hM, hd, hm, mul_ite, mul_zero]
    rw [sum_group (fun x => ((∑ k, h k * W k x) * ∑ k, h k * W k x) * Ideal.ofBits .f32 1015021568#32) j,
      sum_sq_mul (fun e : Fin 64 => ∑ k, h k * W k ⟨64 * (j.val / 64) + e.val, by omega⟩)]
    have hdiv : ∀ S : EReal, Ideal.div S (Ideal.ofBits .f32 1115684864#32) = S * Ideal.ofBits .f32 1015021568#32 := by
      intro S
      have h0 : ((64 : ℝ) : EReal) ≠ 0 := by norm_num
      rw [ofBits_64, ofBits_64th, Ideal.div, if_neg h0, ← EReal.coe_inv]
      norm_num
    rw [hdiv, hA]
  unfold pair rot
  dsimp only
  rw [hc, hs, hu, ofBits_half]
  have hj : j.val < 128 := j.isLt
  by_cases hlt : j.val % 64 < 32
  · have e1 := hy j ⟨j.val % 64, Nat.mod_lt _ (by omega)⟩ (by show _ = _ + j.val % 64; omega)
    have e2 := hy ⟨(j.val + 128 - 96) % 128, Nat.mod_lt _ (by omega)⟩ ⟨j.val % 64 + 32, by omega⟩
      (by show (j.val + 128 - 96) % 128 = _ + (j.val % 64 + 32); omega)
    have h1 : (((1 / 2 : ℝ)) : EReal) < 1 := by exact_mod_cast (by norm_num : (1 / 2 : ℝ) < 1)
    have hcm : (⟨j.val % 32, Nat.mod_lt _ (by omega)⟩ : Fin 32) = ⟨j.val % 64, hlt⟩ := Fin.ext (by show j.val % 32 = j.val % 64; omega)
    rw [if_pos hlt, if_pos hlt, if_pos h1, dif_pos hlt, e1, e2, hcm, mul_neg, sub_eq_add_neg]
  · have e1 := hy j ⟨j.val % 64, Nat.mod_lt _ (by omega)⟩ (by show _ = _ + j.val % 64; omega)
    have e2 := hy ⟨(j.val + 128 - 32) % 128, Nat.mod_lt _ (by omega)⟩ ⟨j.val % 64 - 32, by omega⟩
      (by show (j.val + 128 - 32) % 128 = _ + (j.val % 64 - 32); omega)
    have h1 : ¬ (((1 / 2 : ℝ)) : EReal) < 0 := by
      rw [not_lt]; exact_mod_cast (by norm_num : (0 : ℝ) ≤ 1 / 2)
    have hcm : (⟨j.val % 32, Nat.mod_lt _ (by omega)⟩ : Fin 32) = ⟨j.val % 64 - 32, by omega⟩ :=
      Fin.ext (by show j.val % 32 = j.val % 64 - 32; omega)
    rw [if_neg hlt, if_neg hlt, if_neg h1, dif_neg hlt, e1, e2, hcm, add_comm]

end Cert.NsaProj

end
-- ==== Proof.NsaProj.Block.lean ====
/-
  One block of the kernel: its four results at a row, the queries as lanes of four heads and the keys of two.
-/
module

public import proofs.«01_k».proof.Proof.Gen.NsaProjIdeal.Frame
public import proofs.«01_k».proof.Proof.NsaProj.Spec

@[expose] public section

set_option maxRecDepth 16384

noncomputable section

namespace Cert.NsaProj

open Idealize.ShloMosaic
open Cert.MobaProj (nrm hn rot lane lane_eq)
open Cert.NsaProjIdeal Cert.NsaProjIdeal.Gen

/-! ## The vectors the block stores -/

section
variable (h : FVec Ideal S512x1024 .bf16) (M : FVec Ideal S256x256 .bf16) (co si : FVec Ideal S512x256 .f32)
  (qg up : FVec Ideal S1x256 .f32) (w : Vec Ideal S1024x256 .bf16) (r : Fin 512) (j : Fin 256)

/-- The lane function over the block's vectors at a row. -/
abbrev vlane : EReal :=
  lane (fun k => h (ix2 r k)) (fun k j => w (ix2 k j)) (fun x j => M (ix2 x j)) (fun j => qg (ix2 0 j)) (fun j => up (ix2 0 j))
    (fun j => co (ix2 r j)) (fun j => si (ix2 r j)) j

theorem pay12_apply : k0_pay12 h M co si qg up w (ix2 r j) = vlane h M co si qg up w r j * Ideal.ofBits .f32 1040187392#32 := by
  unfold vlane lane
  pointwise [k0_pay12]

theorem pay13_apply : k0_pay13 h M co si qg up w (ix2 r j) = vlane h M co si qg up w r j * Ideal.ofBits .f32 1040187392#32 := by
  unfold vlane lane
  pointwise [k0_pay13]

theorem pay17_apply : k0_pay17 co si up (k0_pay14 h M qg w) (k0_pay15 h M qg w) (k0_pay16 h M qg w) (ix2 r j)
    = vlane h M co si qg up w r j * Ideal.ofBits .f32 1040187392#32 := by
  unfold vlane lane
  pointwise [k0_pay17, k0_pay16, k0_pay15, k0_pay14]

end

/-- The first half of 256 lanes. -/
abbrev lo (j : Fin 128) : Fin 256 := ⟨j.val, by omega⟩
/-- The second half of 256 lanes. -/
abbrev hi (j : Fin 128) : Fin 256 := ⟨128 + j.val, by omega⟩

section
variable (h : FVec Ideal S512x1024 .bf16) (M : FVec Ideal S128x128 .bf16) (co si : FVec Ideal S512x256 .f32)
  (qg : FVec Ideal S1x128 .f32) (up : FVec Ideal S1x256 .f32) (w : Vec Ideal S1024x256 .bf16) (r : Fin 512) (j : Fin 128)

/-- The lanes of two key heads over the block's vectors at a row. -/
abbrev vpair : EReal :=
  pair (fun k => h (ix2 r k)) (fun k j => w (ix2 k (lo j))) (fun x j => M (ix2 x j)) (fun j => qg (ix2 0 j)) (fun j => up (ix2 0 (lo j)))
    (fun j => co (ix2 r (lo j))) (fun j => si (ix2 r (lo j))) j

theorem pay20_apply : k0_pay20 h co si up M w qg (ix2 r j) = vpair h M co si qg up w r j := by
  unfold vpair pair
  pointwise [k0_pay20, k0_pay19, k0_pay18, lo]

theorem pay25_apply : k0_pay25 h co si up M w qg (ix2 r j) = vpair h M co si qg up w r j := by
  unfold vpair pair
  pointwise [k0_pay25, k0_pay24, lo]

theorem pay30_apply : k0_pay30 h co si up M w qg (ix2 r j) = vpair h M co si qg up w r j := by
  unfold vpair pair
  pointwise [k0_pay30, k0_pay29, lo]

theorem pay21_apply : k0_pay21 h w (ix2 r j) = ∑ k, h (ix2 r k) * w (ix2 k (hi j)) := by
  pointwise [k0_pay21, k0_pay19, hi]

theorem pay26_apply : k0_pay26 h w (ix2 r j) = ∑ k, h (ix2 r k) * w (ix2 k (hi j)) := by
  pointwise [k0_pay26, k0_pay24, hi]

theorem pay31_apply : k0_pay31 h w (ix2 r j) = ∑ k, h (ix2 r k) * w (ix2 k (hi j)) := by
  pointwise [k0_pay31, k0_pay29, hi]

theorem pay18_eq : (k0_pay18 M : FVec Ideal S128x128 .bf16) = M := by
  funext y; obtain ⟨a, b, rfl⟩ : ∃ (a : Fin 128) (b : Fin 128), y = ix2 a b := ⟨y 0, y 1, Shared.pair_idx y⟩
  pointwise [k0_pay18]

theorem pay3_apply (u : Vec Ideal S1024x128 .bf16) : k0_pay3 h u (ix2 r j) = logi (∑ k, h (ix2 r k) * u (ix2 k j)) := by
  unfold logi
  rw [← zero_sub]
  pointwise [k0_pay3]

end

section
variable (x : Vec Ideal S512x1024 .f32) (g : Vec Ideal S1x1024 .f32) (M : Vec Ideal S256x256 .bf16) (co si : FVec Ideal S512x256 .f32)
  (qg up : FVec Ideal S1x256 .f32) (w : Vec Ideal S1024x256 .bf16) (r : Fin 512)

theorem pay4_apply (k : Fin 1024) : k0_pay4 x g (ix2 r k) = nrm (fun k => x (ix2 r k)) (fun k => g (ix2 0 k)) k := by
  unfold nrm
  pointwise [k0_pay4]

theorem pay11_apply (j : Fin 256) :
    k0_pay11 co si qg up (k0_pay10 x g M w) (ix2 r j) = vlane (k0_pay4 x g) M co si qg up w r j * Ideal.ofBits .f32 1040187392#32 := by
  unfold vlane lane
  generalize hp : k0_pay4 x g = p
  pointwise [k0_pay11, k0_pay10, k0_pay5, hp]

end

/-! ## The block's results -/

section
variable (x : Vec Ideal S512x1024 .f32) (g : Vec Ideal S1x1024 .f32) (W : Vec Ideal S1024x1920 .bf16) (M : Vec Ideal S256x256 .bf16)
  (C : Vec Ideal S8x256 .f32) (co si : Vec Ideal S512x256 .f32) (r : Fin 512)

/-- The window of 256 columns of the weights at column `n`. -/
theorem cols_apply (n : ℕ) (hn : n + 256 ≤ 1920) (inb) (k : Fin 1024) (j : Fin 256) :
    View.ld W (Rect.unit (s := S1024x1920) ![0, n] S1024x256.size inb) (ix2 k j) = W (ix2 k ⟨n + j.val, by omega⟩) :=
  Shared.window_apply W ![0, n] inb k j k ⟨n + j.val, by omega⟩ (Nat.zero_add _).symm rfl

/-- A row of the constants. -/
theorem const_apply (n : ℕ) (hn : n < 8) (inb) (j : Fin 256) :
    View.ld C (Rect.unit (s := S8x256) ![n, 0] S1x256.size inb) (ix2 0 j) = C (ix2 ⟨n, hn⟩ j) :=
  Shared.window_apply C ![n, 0] inb 0 j ⟨n, hn⟩ j rfl (Nat.zero_add _).symm

/-- The lanes of the 256 columns of the weights at column `n`, with the gains in row `q` of the constants. -/
def blane (n : ℕ) (hn : n + 256 ≤ 1920) (q : Fin 8) (j : Fin 256) : EReal :=
  lane (nrm (fun k => x (ix2 r k)) (fun k => g (ix2 0 k))) (fun k j => W (ix2 k ⟨n + j.val, by omega⟩)) (fun x j => M (ix2 x j))
    (fun j => C (ix2 q j)) (fun j => C (ix2 4 j)) (fun j => co (ix2 r j)) (fun j => si (ix2 r j)) j

theorem vlane_eq (n : ℕ) (hn : n + 256 ≤ 1920) (q : Fin 8) (inb inb' inb'') (j : Fin 256) :
    vlane (k0_pay4 x g) M co si (View.ld C (Rect.unit (s := S8x256) ![q.val, 0] S1x256.size inb))
        (View.ld C (Rect.unit (s := S8x256) ![4, 0] S1x256.size inb'))
        (View.ld W (Rect.unit (s := S1024x1920) ![0, n] S1024x256.size inb'')) r j
      = blane x g W M C co si r n hn q j := by
  unfold vlane blane
  have e2 : ∀ j : Fin 256, View.ld C (Rect.unit (s := S8x256) ![4, 0] S1x256.size inb') (ix2 0 j) = C (ix2 4 j) :=
    const_apply C 4 (by omega) inb'
  simp only [pay4_apply, cols_apply W n hn inb'', const_apply C q.val q.isLt, e2]

theorem p5 : (k0_pay5 M : FVec Ideal S256x256 .bf16) = M := by
  funext y; obtain ⟨a, b, rfl⟩ : ∃ (a : Fin 256) (b : Fin 256), y = ix2 a b := ⟨y 0, y 1, Shared.pair_idx y⟩
  pointwise [k0_pay5]
theorem p6 : (k0_pay6 co : FVec Ideal S512x256 .f32) = co := by
  funext y; obtain ⟨a, b, rfl⟩ : ∃ (a : Fin 512) (b : Fin 256), y = ix2 a b := ⟨y 0, y 1, Shared.pair_idx y⟩
  pointwise [k0_pay6]
theorem p7 : (k0_pay7 co : FVec Ideal S512x256 .f32) = co := by
  funext y; obtain ⟨a, b, rfl⟩ : ∃ (a : Fin 512) (b : Fin 256), y = ix2 a b := ⟨y 0, y 1, Shared.pair_idx y⟩
  pointwise [k0_pay7]
theorem p8 (u : Vec Ideal S1x256 .f32) : (k0_pay8 u : FVec Ideal S1x256 .f32) = u := by
  funext y; obtain ⟨a, b, rfl⟩ : ∃ (a : Fin 1) (b : Fin 256), y = ix2 a b := ⟨y 0, y 1, Shared.pair_idx y⟩
  pointwise [k0_pay8]
theorem p9 (u : Vec Ideal S1x256 .f32) : (k0_pay9 u : FVec Ideal S1x256 .f32) = u := by
  funext y; obtain ⟨a, b, rfl⟩ : ∃ (a : Fin 1) (b : Fin 256), y = ix2 a b := ⟨y 0, y 1, Shared.pair_idx y⟩
  pointwise [k0_pay9]

/-- The square of 128 lanes at the corner of the group means' matrix. -/
theorem corner_apply (inb) (a b : Fin 128) :
    View.ld M (Rect.unit (s := S256x256) ![0, 0] S128x128.size inb) (ix2 a b) = M (ix2 (lo a) (lo b)) :=
  Shared.window_apply M ![0, 0] inb a b (lo a) (lo b) (Nat.zero_add _).symm (Nat.zero_add _).symm

/-- The first half of a row of the constants. -/
theorem const_lo_apply (n : ℕ) (hn : n < 8) (inb) (j : Fin 128) :
    View.ld C (Rect.unit (s := S8x256) ![n, 0] S1x128.size inb) (ix2 0 j) = C (ix2 ⟨n, hn⟩ (lo j)) :=
  Shared.window_apply C ![n, 0] inb 0 j ⟨n, hn⟩ (lo j) rfl (Nat.zero_add _).symm

/-- The lanes of the two key heads at column `n` of the weights, with the gains in row `q` of the constants. -/
def bpair (n : ℕ) (hn : n + 128 ≤ 1920) (q : Fin 8) (j : Fin 128) : EReal :=
  pair (nrm (fun k => x (ix2 r k)) (fun k => g (ix2 0 k))) (fun k j => W (ix2 k ⟨n + j.val, by omega⟩)) (fun x j => M (ix2 (lo x) (lo j)))
    (fun j => C (ix2 q (lo j))) (fun j => C (ix2 4 (lo j))) (fun j => co (ix2 r (lo j))) (fun j => si (ix2 r (lo j))) j

theorem vpair_eq (n : ℕ) (hn : n + 256 ≤ 1920) (q : Fin 8) (inm inb inb' inb'') (j : Fin 128) :
    vpair (k0_pay4 x g) (View.ld M (Rect.unit (s := S256x256) ![0, 0] S128x128.size inm)) co si
        (View.ld C (Rect.unit (s := S8x256) ![q.val, 0] S1x128.size inb))
        (View.ld C (Rect.unit (s := S8x256) ![4, 0] S1x256.size inb'))
        (View.ld W (Rect.unit (s := S1024x1920) ![0, n] S1024x256.size inb'')) r j
      = bpair x g W M C co si r n (by omega) q j := by
  unfold vpair bpair
  have e2 : ∀ j : Fin 256, View.ld C (Rect.unit (s := S8x256) ![4, 0] S1x256.size inb') (ix2 0 j) = C (ix2 4 j) :=
    const_apply C 4 (by omega) inb'
  have e3 : (fun x j : Fin 128 => View.ld M (Rect.unit (s := S256x256) ![0, 0] S128x128.size inm) (ix2 x j))
      = fun x j => M (ix2 (lo x) (lo j)) := funext fun x => funext fun j => corner_apply M inm x j
  rw [e3]
  simp only [pay4_apply, cols_apply W n hn inb'', const_lo_apply C q.val q.isLt, e2]

/-- The columns of the gates. -/
theorem gate_cols_apply (inb) (k : Fin 1024) (j : Fin 128) :
    View.ld W (Rect.unit (s := S1024x1920) ![0, 1792] S1024x128.size inb) (ix2 k j) = W (ix2 k ⟨1792 + j.val, by omega⟩) :=
  Shared.window_apply W ![0, 1792] inb k j k ⟨1792 + j.val, by omega⟩ (Nat.zero_add _).symm rfl

/-- The block's queries. -/
def qBlk : Vec Ideal S512x1024 .bf16 := fun y =>
  blane x g W M C co si (y 0) (256 * ((y 1).val / 256)) (by have : (y 1).val < 1024 := (y 1).isLt; omega) 0
    ⟨(y 1).val % 256, Nat.mod_lt _ (by omega)⟩ * Ideal.ofBits .f32 1040187392#32

/-- The block's keys and values. -/
def kvBlk : Vec Ideal S512x768 .f32 := fun y =>
  if h : (y 1).val % 256 < 128 then
    bpair x g W M C co si (y 0) (1024 + 256 * ((y 1).val / 256)) (by have : (y 1).val < 768 := (y 1).isLt; omega)
      ⟨1 + (y 1).val / 256, by have : (y 1).val < 768 := (y 1).isLt; omega⟩ ⟨(y 1).val % 256, h⟩
  else ∑ k, nrm (fun k => x (ix2 (y 0) k)) (fun k => g (ix2 0 k)) k
    * W (ix2 k ⟨1024 + (y 1).val, by have : (y 1).val < 768 := (y 1).isLt; omega⟩)

/-- The block's gates. -/
def gateBlk : Vec Ideal S512x128 .f32 := fun y =>
  logi (∑ k, nrm (fun k => x (ix2 (y 0) k)) (fun k => g (ix2 0 k)) k
    * W (ix2 k ⟨1792 + (y 1).val, by have : (y 1).val < 128 := (y 1).isLt; omega⟩))

/-- A block's queries at the place a window of 256 columns at a multiple of 256 reads. -/
theorem qBlk_at (n : ℕ) (hn : n + 256 ≤ 1024) (hm : n % 256 = 0) (y : S512x1024.Idx) (j : Fin 256) (h0 : (y 0).val = r.val)
    (h1 : (y 1).val = n + j.val) :
    qBlk x g W M C co si y = blane x g W M C co si r n (by omega) 0 j * Ideal.ofBits .f32 1040187392#32 := by
  have e0 : y 0 = r := Fin.ext h0
  unfold qBlk
  have e1 : 256 * ((y 1).val / 256) = n := by omega
  have e2 : (⟨(y 1).val % 256, Nat.mod_lt _ (by omega)⟩ : Fin 256) = j := Fin.ext (by show (y 1).val % 256 = j.val; omega)
  rw [e2, e0]
  simp only [e1]

theorem out7_eq : out0_7 x g W M C co si = qBlk x g W M C co si := by
  have hx : View.ld x r0_0 = x := Shared.window_whole x _ rfl rfl _
  have hg : View.ld g r0_1 = g := Shared.window_whole g _ rfl rfl _
  have hM : View.ld M r0_2 = M := Shared.window_whole M _ rfl rfl _
  have hco : View.ld co r0_3 = co := Shared.window_whole co _ rfl rfl _
  have hsi : View.ld si r0_3 = si := Shared.window_whole si _ rfl rfl _
  funext y
  unfold out0_7
  refine View.canon_apply_of_pieces _ _ ?_ y (cover0_7 _ _ _ _ y)
  simp only [k0_pay32, k0_pay33, k0_pay34, k0_pay35, k0_pay36, k0_pay37, hx, hg, hM, hco, hsi, p5, p6, p7, p8, p9]
  intro p hp
  simp only [List.mem_cons, List.not_mem_nil, or_false] at hp
  rcases hp with rfl | rfl | rfl | rfl <;> intro z <;>
    obtain ⟨r, j, rfl⟩ : ∃ (r : Fin 512) (j : Fin 256), z = ix2 r j := ⟨z 0, z 1, Shared.pair_idx z⟩
  · refine (pay17_apply _ _ _ _ _ _ _ r j).trans ?_
    rw [qBlk_at x g W M C co si r 768 (by omega) (by omega) _ j (by show 0 + 1 * r.val = _; omega) (by show 768 + 1 * j.val = _; omega)]
    exact congrArg (· * _) (vlane_eq x g W M C co si r 768 (by omega) 0 _ _ _ j)
  · refine (pay13_apply _ _ _ _ _ _ _ r j).trans ?_
    rw [qBlk_at x g W M C co si r 512 (by omega) (by omega) _ j (by show 0 + 1 * r.val = _; omega) (by show 512 + 1 * j.val = _; omega)]
    exact congrArg (· * _) (vlane_eq x g W M C co si r 512 (by omega) 0 _ _ _ j)
  · refine (pay12_apply _ _ _ _ _ _ _ r j).trans ?_
    rw [qBlk_at x g W M C co si r 256 (by omega) (by omega) _ j (by show 0 + 1 * r.val = _; omega) (by show 256 + 1 * j.val = _; omega)]
    exact congrArg (· * _) (vlane_eq x g W M C co si r 256 (by omega) 0 _ _ _ j)
  · refine (pay11_apply _ _ _ _ _ _ _ _ r j).trans ?_
    rw [qBlk_at x g W M C co si r 0 (by omega) (by omega) _ j (by show 0 + 1 * r.val = _; omega) (by show 0 + 1 * j.val = _; omega)]
    exact congrArg (· * _) (vlane_eq x g W M C co si r 0 (by omega) 0 _ _ _ j)

theorem kvBlk_keys (b : ℕ) (hb : b < 3) (y : S512x768.Idx) (j : Fin 128) (h0 : (y 0).val = r.val) (h1 : (y 1).val = 256 * b + j.val) :
    kvBlk x g W M C co si y = bpair x g W M C co si r (1024 + 256 * b) (by omega) ⟨1 + b, by omega⟩ j := by
  have e0 : y 0 = r := Fin.ext h0
  unfold kvBlk
  have e1 : (y 1).val % 256 < 128 := by omega
  have e2 : (⟨(y 1).val % 256, e1⟩ : Fin 128) = j := Fin.ext (by show (y 1).val % 256 = j.val; omega)
  have e3 : (y 1).val / 256 = b := by omega
  rw [dif_pos e1, e2, e0]
  simp only [e3]

theorem kvBlk_vals (n : ℕ) (hn : n + 128 ≤ 768) (hm : n % 256 = 128) (y : S512x768.Idx) (j : Fin 128) (h0 : (y 0).val = r.val)
    (h1 : (y 1).val = n + j.val) :
    kvBlk x g W M C co si y = ∑ k, nrm (fun k => x (ix2 r k)) (fun k => g (ix2 0 k)) k * W (ix2 k ⟨1024 + n + j.val, by omega⟩) := by
  have e0 : y 0 = r := Fin.ext h0
  unfold kvBlk
  have e1 : ¬ (y 1).val % 256 < 128 := by omega
  have e2 : 1024 + (y 1).val = 1024 + n + j.val := by omega
  rw [dif_neg e1, e0]
  simp only [e2]

/-- The keys of the third branch, the vector its wide and narrow stores share. -/
abbrev keys2 : FVec Ideal S512x128 .f32 :=
  k0_pay30 (k0_pay32 x g W M C co si) (k0_pay34 x g W M C co si) (k0_pay35 x g W M C co si) (k0_pay37 x g W M C co si)
    (k0_pay38 x g W M C co si) (View.ld W r0_23) (View.ld C r0_24)

theorem keys0_apply (j : Fin 128) : k0_pay39 x g W M C co si (ix2 r j) = bpair x g W M C co si r 1024 (by omega) 1 j := by
  have hx : View.ld x r0_0 = x := Shared.window_whole x _ rfl rfl _
  have hg : View.ld g r0_1 = g := Shared.window_whole g _ rfl rfl _
  have hco : View.ld co r0_3 = co := Shared.window_whole co _ rfl rfl _
  have hsi : View.ld si r0_3 = si := Shared.window_whole si _ rfl rfl _
  simp only [k0_pay39, k0_pay32, k0_pay34, k0_pay35, k0_pay37, k0_pay38, pay18_eq, hx, hg, hco, hsi, p6, p7, p9]
  exact (pay20_apply _ _ _ _ _ _ _ r j).trans (vpair_eq x g W M C co si r 1024 (by omega) 1 _ _ _ _ j)

theorem vals0_apply (j : Fin 128) : k0_pay40 x g W M C co si (ix2 r j)
    = ∑ k, nrm (fun k => x (ix2 r k)) (fun k => g (ix2 0 k)) k * W (ix2 k ⟨1024 + 128 + j.val, by omega⟩) := by
  have hx : View.ld x r0_0 = x := Shared.window_whole x _ rfl rfl _
  have hg : View.ld g r0_1 = g := Shared.window_whole g _ rfl rfl _
  unfold k0_pay40
  simp only [k0_pay32, hx, hg]
  refine (pay21_apply _ _ r j).trans ?_
  simp only [pay4_apply, cols_apply W 1024 (by omega)]
  have e : 1024 + (128 + j.val) = 1024 + 128 + j.val := by omega
  simp only [e]

theorem keys1_apply (j : Fin 128) : k0_pay41 x g W M C co si (ix2 r j) = bpair x g W M C co si r 1280 (by omega) 2 j := by
  have hx : View.ld x r0_0 = x := Shared.window_whole x _ rfl rfl _
  have hg : View.ld g r0_1 = g := Shared.window_whole g _ rfl rfl _
  have hco : View.ld co r0_3 = co := Shared.window_whole co _ rfl rfl _
  have hsi : View.ld si r0_3 = si := Shared.window_whole si _ rfl rfl _
  simp only [k0_pay41, k0_pay32, k0_pay34, k0_pay35, k0_pay37, k0_pay38, pay18_eq, hx, hg, hco, hsi, p6, p7, p9]
  exact (pay25_apply _ _ _ _ _ _ _ r j).trans (vpair_eq x g W M C co si r 1280 (by omega) 2 _ _ _ _ j)

theorem vals1_apply (j : Fin 128) : k0_pay42 x g W M C co si (ix2 r j)
    = ∑ k, nrm (fun k => x (ix2 r k)) (fun k => g (ix2 0 k)) k * W (ix2 k ⟨1024 + 384 + j.val, by omega⟩) := by
  have hx : View.ld x r0_0 = x := Shared.window_whole x _ rfl rfl _
  have hg : View.ld g r0_1 = g := Shared.window_whole g _ rfl rfl _
  unfold k0_pay42
  simp only [k0_pay32, hx, hg]
  refine (pay26_apply _ _ r j).trans ?_
  simp only [pay4_apply, cols_apply W 1280 (by omega)]
  have e : 1280 + (128 + j.val) = 1024 + 384 + j.val := by omega
  simp only [e]

theorem keys2_apply (j : Fin 128) : keys2 x g W M C co si (ix2 r j) = bpair x g W M C co si r 1536 (by omega) 3 j := by
  have hx : View.ld x r0_0 = x := Shared.window_whole x _ rfl rfl _
  have hg : View.ld g r0_1 = g := Shared.window_whole g _ rfl rfl _
  have hco : View.ld co r0_3 = co := Shared.window_whole co _ rfl rfl _
  have hsi : View.ld si r0_3 = si := Shared.window_whole si _ rfl rfl _
  unfold keys2
  simp only [k0_pay32, k0_pay34, k0_pay35, k0_pay37, k0_pay38, pay18_eq, hx, hg, hco, hsi, p6, p7, p9]
  exact (pay30_apply _ _ _ _ _ _ _ r j).trans (vpair_eq x g W M C co si r 1536 (by omega) 3 _ _ _ _ j)

theorem vals2_apply (j : Fin 128) : k0_pay43 x g W M C co si (ix2 r j)
    = ∑ k, nrm (fun k => x (ix2 r k)) (fun k => g (ix2 0 k)) k * W (ix2 k ⟨1024 + 640 + j.val, by omega⟩) := by
  have hx : View.ld x r0_0 = x := Shared.window_whole x _ rfl rfl _
  have hg : View.ld g r0_1 = g := Shared.window_whole g _ rfl rfl _
  unfold k0_pay43
  simp only [k0_pay32, hx, hg]
  refine (pay31_apply _ _ r j).trans ?_
  simp only [pay4_apply, cols_apply W 1536 (by omega)]
  have e : 1536 + (128 + j.val) = 1024 + 640 + j.val := by omega
  simp only [e]

theorem out8_eq : out0_8 x g W M C co si = kvBlk x g W M C co si := by
  funext y
  unfold out0_8
  refine View.canon_apply_of_pieces _ _ ?_ y (cover0_8 _ _ _ _ _ _ y)
  intro p hp
  simp only [List.mem_cons, List.not_mem_nil, or_false] at hp
  rcases hp with rfl | rfl | rfl | rfl | rfl | rfl <;> intro z <;>
    obtain ⟨r, j, rfl⟩ : ∃ (r : Fin 512) (j : Fin 128), z = ix2 r j := ⟨z 0, z 1, Shared.pair_idx z⟩
  · exact (vals2_apply x g W M C co si r j).trans
      (kvBlk_vals x g W M C co si r 640 (by omega) (by omega) _ j (by show 0 + 1 * r.val = _; omega) (by show 640 + 1 * j.val = _; omega)).symm
  · exact (keys2_apply x g W M C co si r j).trans
      (kvBlk_keys x g W M C co si r 2 (by omega) _ j (by show 0 + 1 * r.val = _; omega) (by show 512 + 1 * j.val = _; omega)).symm
  · exact (vals1_apply x g W M C co si r j).trans
      (kvBlk_vals x g W M C co si r 384 (by omega) (by omega) _ j (by show 0 + 1 * r.val = _; omega) (by show 384 + 1 * j.val = _; omega)).symm
  · exact (keys1_apply x g W M C co si r j).trans
      (kvBlk_keys x g W M C co si r 1 (by omega) _ j (by show 0 + 1 * r.val = _; omega) (by show 256 + 1 * j.val = _; omega)).symm
  · exact (vals0_apply x g W M C co si r j).trans
      (kvBlk_vals x g W M C co si r 128 (by omega) (by omega) _ j (by show 0 + 1 * r.val = _; omega) (by show 128 + 1 * j.val = _; omega)).symm
  · exact (keys0_apply x g W M C co si r j).trans
      (kvBlk_keys x g W M C co si r 0 (by omega) _ j (by show 0 + 1 * r.val = _; omega) (by show 0 + 1 * j.val = _; omega)).symm

theorem out9_eq : out0_9 x g W M C co si = (kvBlk x g W M C co si : S512x768.Idx → EReal) := by
  funext y
  unfold out0_9
  refine View.canon_apply_of_pieces (Val := Elt Ideal) (e := .bf16) (kvBlk x g W M C co si) _ ?_ y (cover0_9 _ _ _ _ _ _ y)
  intro p hp
  simp only [List.mem_cons, List.not_mem_nil, or_false] at hp
  rcases hp with rfl | rfl | rfl | rfl | rfl | rfl <;> intro z <;>
    obtain ⟨r, j, rfl⟩ : ∃ (r : Fin 512) (j : Fin 128), z = ix2 r j := ⟨z 0, z 1, Shared.pair_idx z⟩
  · exact (vals2_apply x g W M C co si r j).trans
      (kvBlk_vals x g W M C co si r 640 (by omega) (by omega) _ j (by show 0 + 1 * r.val = _; omega) (by show 640 + 1 * j.val = _; omega)).symm
  · exact (keys2_apply x g W M C co si r j).trans
      (kvBlk_keys x g W M C co si r 2 (by omega) _ j (by show 0 + 1 * r.val = _; omega) (by show 512 + 1 * j.val = _; omega)).symm
  · exact (vals1_apply x g W M C co si r j).trans
      (kvBlk_vals x g W M C co si r 384 (by omega) (by omega) _ j (by show 0 + 1 * r.val = _; omega) (by show 384 + 1 * j.val = _; omega)).symm
  · exact (keys1_apply x g W M C co si r j).trans
      (kvBlk_keys x g W M C co si r 1 (by omega) _ j (by show 0 + 1 * r.val = _; omega) (by show 256 + 1 * j.val = _; omega)).symm
  · exact (vals0_apply x g W M C co si r j).trans
      (kvBlk_vals x g W M C co si r 128 (by omega) (by omega) _ j (by show 0 + 1 * r.val = _; omega) (by show 128 + 1 * j.val = _; omega)).symm
  · exact (keys0_apply x g W M C co si r j).trans
      (kvBlk_keys x g W M C co si r 0 (by omega) _ j (by show 0 + 1 * r.val = _; omega) (by show 0 + 1 * j.val = _; omega)).symm

theorem out10_eq : out0_10 x g W M C co si = gateBlk x g W := by
  have hx : View.ld x r0_0 = x := Shared.window_whole x _ rfl rfl _
  have hg : View.ld g r0_1 = g := Shared.window_whole g _ rfl rfl _
  funext y
  unfold out0_10
  refine View.canon_apply_of_pieces _ _ ?_ y (cover0_10 _ y)
  intro p hp
  simp only [List.mem_cons, List.not_mem_nil, or_false] at hp
  subst hp
  intro z
  obtain ⟨r, j, rfl⟩ : ∃ (r : Fin 512) (j : Fin 128), z = ix2 r j := ⟨z 0, z 1, Shared.pair_idx z⟩
  simp only [k0_pay32, hx, hg]
  refine (pay3_apply _ r j _).trans ?_
  simp only [pay4_apply]
  have e0 : r0_28.emb (ix2 r j) = (ix2 r j : S512x128.Idx) := by
    funext a
    refine Fin.ext ?_
    match a with
    | ⟨0, _⟩ =>
      show 0 + 1 * r.val = r.val
      omega
    | ⟨1, _⟩ =>
      show 0 + 1 * j.val = j.val
      omega
  show _ = gateBlk x g W (r0_28.emb (ix2 r j))
  rw [e0]
  exact congrArg logi (Finset.sum_congr rfl fun k _ => congrArg (_ * ·) (gate_cols_apply W _ k j))

end

end Cert.NsaProj

end
-- ==== Proof.NsaProj.Host.lean ====
/-
  What the host hands the kernel: the weights with the queries' columns in slot order and columns of zeros behind, the gains and the half mask as rows of
  constants, the group means' matrix, and the tables laid out over lanes.
-/
module

public import proofs.«01_k».proof.Proof.Gen.NsaProjIdeal.Frame
public import proofs.«01_k».proof.Proof.NsaProj.Spec
public import proofs.«01_k».proof.Proof.MobaProj.Host
public import Idealize.ShloMosaic.Lib.Routing.OpsPair

@[expose] public section

set_option maxRecDepth 16384

noncomputable section

namespace Cert.NsaProj

open Cert.MobaProj (foldl_land group_word)
open Cert.NsaProjIdeal Cert.NsaProjIdeal.Gen Idealize.ShloMosaic Idealize.ShloMosaic.TcCoe Idealize.SL.Sem

variable (m : (ℓ : Loc nD τ sig) → Buf (Elt Ideal) ℓ) (c : Dev nD)

/-- The seven argument arrays. -/
abbrev argX : FVec Ideal S8x2048x1024 .f32 := m ((c : Thread nD τ).loc main_arg0)
abbrev argG : FVec Ideal S1024 .f32 := m ((c : Thread nD τ).loc main_arg1)
abbrev argW : FVec Ideal S1024x1840 .f32 := m ((c : Thread nD τ).loc main_arg2)
abbrev argQ : FVec Ideal S64 .f32 := m ((c : Thread nD τ).loc main_arg3)
abbrev argK : FVec Ideal S3x64 .f32 := m ((c : Thread nD τ).loc main_arg4)
abbrev argC : FVec Ideal S2048x32 .f32 := m ((c : Thread nD τ).loc main_arg5)
abbrev argS : FVec Ideal S2048x32 .f32 := m ((c : Thread nD τ).loc main_arg6)

/-! ## The rows and the tables -/

theorem rows_apply (n : Fin 16384) (k : Fin 1024) :
    V m c main_v10 (ix2 n k) = argX m c (ix3 ⟨n.val / 2048, by omega⟩ ⟨n.val % 2048, Nat.mod_lt _ (by omega)⟩ k) := by
  have e : V m c main_v10 = shapeCast S16384x1024 (argX m c) shapeCasts_S8x2048x1024_S16384x1024 := by
    dsimp only [V, hostOps0, hostOps0_1, hostOps0_2, List.flatten_cons, List.flatten_nil, List.append_nil, List.cons_append,
      List.nil_append]
    after_results <;> rfl
  rw [e]
  pointwise

theorem gains_apply (k : Fin 1024) : V m c main_v11 (ix2 0 k) = argG m c (ix1 k) := by
  have e : V m c main_v11 = shapeCast S1x1024 (argG m c) shapeCasts_S1024_S1x1024 := by
    dsimp only [V, hostOps0, hostOps0_1, hostOps0_2, List.flatten_cons, List.flatten_nil, List.append_nil, List.cons_append,
      List.nil_append]
    after_results <;> rfl
  rw [e]
  pointwise

/-- The cosines over lanes. -/
def cosWide (C : FVec Ideal S2048x32 .f32) : FVec Ideal S2048x256 .f32 :=
  shapeCast S2048x256 (broadcastInDim S1x2048x4x64 ![0, 1, 2, 3] bcast_S1x2048x1x64_S1x2048x4x64_0_1_2_3
    (shapeCast S1x2048x1x64 (concatenate S2048x64 1 [⟨S2048x32, C⟩, ⟨S2048x32, C⟩] concatenates_S2048x32_S2048x32_S2048x64_d1)
      shapeCasts_S2048x64_S1x2048x1x64)) shapeCasts_S1x2048x4x64_S2048x256

/-- The signed sines over lanes. -/
def sinWide (C : FVec Ideal S2048x32 .f32) : FVec Ideal S2048x256 .f32 :=
  shapeCast S2048x256 (broadcastInDim S1x2048x4x64 ![0, 1, 2, 3] bcast_S1x2048x1x64_S1x2048x4x64_0_1_2_3
    (shapeCast S1x2048x1x64 (concatenate S2048x64 1 [⟨S2048x32, Host.negf C⟩, ⟨S2048x32, C⟩] concatenates_S2048x32_S2048x32_S2048x64_d1)
      shapeCasts_S2048x64_S1x2048x1x64)) shapeCasts_S1x2048x4x64_S2048x256

theorem cos_apply (n : Fin 2048) (j : Fin 256) :
    V m c main_v15 (ix2 n j) = argC m c (ix2 n ⟨j.val % 32, Nat.mod_lt _ (by omega)⟩) := by
  have e : V m c main_v15 = cosWide (argC m c) := by
    dsimp only [V, hostOps0, hostOps0_1, hostOps0_2, List.flatten_cons, List.flatten_nil, List.append_nil, List.cons_append,
      List.nil_append]
    after_results <;> rfl
  rw [e]
  pointwise [cosWide]
  split
  · exact congrArg (fun d => argC m c (ix2 n d)) (Fin.ext (by simp only; omega))
  · exact congrArg (fun d => argC m c (ix2 n d)) (Fin.ext (by simp only; omega))

theorem sin_apply (n : Fin 2048) (j : Fin 256) :
    V m c main_v20 (ix2 n j) = if j.val % 64 < 32 then -argS m c (ix2 n ⟨j.val % 32, Nat.mod_lt _ (by omega)⟩)
      else argS m c (ix2 n ⟨j.val % 32, Nat.mod_lt _ (by omega)⟩) := by
  have e : V m c main_v20 = sinWide (argS m c) := by
    dsimp only [V, hostOps0, hostOps0_1, hostOps0_2, List.flatten_cons, List.flatten_nil, List.append_nil, List.cons_append,
      List.nil_append]
    after_results <;> rfl
  rw [e]
  pointwise [sinWide]
  split
  · exact congrArg (fun d => -argS m c (ix2 n d)) (Fin.ext (by simp only; omega))
  · exact congrArg (fun d => argS m c (ix2 n d)) (Fin.ext (by simp only; omega))

/-! ## The constants -/

/-- The group means' matrix. -/
def means : FVec Ideal S256x256 .bf16 :=
  truncf .bf16 (select (cmpi .eq (Host.divsi (iotaInDim S256x256 32 0) (broadcastInDim S256x256 ![] bcast_S_S256x256 (constantI S_ 32 64#32)))
      (Host.divsi (iotaInDim S256x256 32 1) (broadcastInDim S256x256 ![] bcast_S_S256x256 (constantI S_ 32 64#32))))
    (broadcastInDim S256x256 ![] bcast_S_S256x256 (constant (F := Ideal) S_ .f32 0x3C800000#32))
    (broadcastInDim S256x256 ![] bcast_S_S256x256 (constant (F := Ideal) S_ .f32 0x00000000#32))) bitsLt_bf16_f32

theorem means_apply (x j : Fin 256) :
    V m c main_v55 (ix2 x j) = if x.val / 64 = j.val / 64 then Ideal.ofBits .f32 1015021568#32 else 0 := by
  have e : V m c main_v55 = means := by
    dsimp only [V, hostOps0, hostOps0_1, hostOps0_2, List.flatten_cons, List.flatten_nil, List.append_nil, List.cons_append,
      List.nil_append]
    after_results <;> rfl
  rw [e]
  pointwise [means]
  rw [group_word, group_word]
  by_cases h : x.val / 64 = j.val / 64
  · rw [h, if_pos rfl]
    simp [Scalar.select, IntOp.cmpi]
  · have hn : BitVec.ofNat 32 (x.val / 64) ≠ BitVec.ofNat 32 (j.val / 64) := by
      intro e
      have := congrArg BitVec.toNat e
      simp only [BitVec.toNat_ofNat] at this
      omega
    rw [if_neg h]
    have hb : (BitVec.ofNat 32 (x.val / 64) == BitVec.ofNat 32 (j.val / 64)) = false := beq_false_of_ne hn
    simp [Scalar.select, IntOp.cmpi, hb]

/-- The gains of four heads side by side. -/
def wide (q : FVec Ideal S64 .f32) : FVec Ideal S256 .f32 :=
  shapeCast S256 (broadcastInDim S4x64 ![0, 1] bcast_S1x64_S4x64_0_1 (shapeCast S1x64 q shapeCasts_S64_S1x64)) shapeCasts_S4x64_S256

theorem wide_apply (q : FVec Ideal S64 .f32) (j : Fin 256) : wide q (ix1 j) = q (ix1 ⟨j.val % 64, Nat.mod_lt _ (by omega)⟩) := by
  pointwise [wide]

/-- The literal of zeros and, in its fifth row, the half mask. -/
def mask : FVec Ideal S8x256 .f32 := fun i => FloatOps.ofBits .f32 (lit1 (S8x256.rowMajor i))

/-- One row of the constants set. -/
def setRow (C : FVec Ideal S8x256 .f32) (n : BitVec 32) (u : FVec Ideal S256 .f32) : FVec Ideal S8x256 .f32 :=
  Host.scatter scatter_S8x256_S1_S256_0_0_0_0 (fun _ b => b) C (broadcastInDim S1 ![] bcast_S_S1 (constantI S_ 32 n)) u

/-- The key gains of branch 0. -/
def gain0 (k : FVec Ideal S3x64 .f32) : FVec Ideal S64 .f32 :=
  shapeCast S64 (extractStridedSlice S1x64 ![0, 0] k slices_S3x64_S1x64_0_0) shapeCasts_S1x64_S64
/-- The key gains of branch 1. -/
def gain1 (k : FVec Ideal S3x64 .f32) : FVec Ideal S64 .f32 :=
  shapeCast S64 (extractStridedSlice S1x64 ![1, 0] k slices_S3x64_S1x64_1_0) shapeCasts_S1x64_S64
/-- The key gains of branch 2. -/
def gain2 (k : FVec Ideal S3x64 .f32) : FVec Ideal S64 .f32 :=
  shapeCast S64 (extractStridedSlice S1x64 ![2, 0] k slices_S3x64_S1x64_2_0) shapeCasts_S1x64_S64

theorem gain0_apply (k : FVec Ideal S3x64 .f32) (e : Fin 64) : gain0 k (ix1 e) = k (ix2 0 e) := by
  pointwise [gain0]
theorem gain1_apply (k : FVec Ideal S3x64 .f32) (e : Fin 64) : gain1 k (ix1 e) = k (ix2 1 e) := by
  pointwise [gain1]
theorem gain2_apply (k : FVec Ideal S3x64 .f32) (e : Fin 64) : gain2 k (ix1 e) = k (ix2 2 e) := by
  pointwise [gain2]

theorem consts_eq : V m c main_v46 = setRow (setRow (setRow (setRow mask 0#32 (wide (argQ m c))) 1#32 (wide (gain0 (argK m c)))) 2#32
    (wide (gain1 (argK m c)))) 3#32 (wide (gain2 (argK m c))) := by
  dsimp only [V, hostOps0, hostOps0_1, hostOps0_2, List.flatten_cons, List.flatten_nil, List.append_nil, List.cons_append,
    List.nil_append]
  after_results <;> rfl

/-- The set row holds the update; the others stay. -/
theorem setRow_apply (C : FVec Ideal S8x256 .f32) (n : Fin 8) (u : FVec Ideal S256 .f32) (r : Fin 8) (j : Fin 256) :
    setRow C (BitVec.ofNat 32 n.val) u (ix2 r j) = if r = n then u (ix1 j) else C (ix2 r j) := by
  unfold setRow
  rw [Routing.scatter_at]
  have hl : ∀ k : S256.Idx, scatter_S8x256_S1_S256_0_0_0_0.resultIdx? k (broadcastInDim S1 ![] bcast_S_S1 (constantI S_ 32 (BitVec.ofNat 32 n.val)))
      = some (ix2 r j) ↔ r = n ∧ k = ix1 j := by
    intro k
    refine (Routing.resultIdx?_ix2 (R := 8) (C := 256) scatter_S8x256_S1_S256_0_0_0_0 k _ r j).trans ?_
    have h0 : scatter_S8x256_S1_S256_0_0_0_0.start k (broadcastInDim S1 ![] bcast_S_S1 (constantI S_ 32 (BitVec.ofNat 32 n.val))) 0
        = (BitVec.ofNat 32 n.val).toInt := rfl
    have h1 : scatter_S8x256_S1_S256_0_0_0_0.start k (broadcastInDim S1 ![] bcast_S_S1 (constantI S_ 32 (BitVec.ofNat 32 n.val))) 1 = 0 := rfl
    have w0 : scatter_S8x256_S1_S256_0_0_0_0.window k 0 = 0 := rfl
    have w1 : scatter_S8x256_S1_S256_0_0_0_0.window k 1 = (k 0).val := rfl
    have hn : (BitVec.ofNat 32 n.val).toInt = (n.val : Int) := by
      have : ∀ n : Fin 8, (BitVec.ofNat 32 n.val).toInt = (n.val : Int) := by decide
      exact this n
    rw [h0, h1, w0, w1, hn]
    constructor
    · rintro ⟨e0, e1⟩
      refine ⟨Fin.ext (by omega), funext fun a => ?_⟩
      match a with
      | ⟨0, _⟩ => exact Fin.ext (by show (k 0).val = j.val; omega)
    · rintro ⟨rfl, rfl⟩
      exact ⟨by omega, by show (0 : Int) + (j.val : Int) = _; omega⟩
  simp only [hl]
  by_cases hr : r = n
  · rw [if_pos hr]
    simp only [hr, true_and]
    refine (foldl_land (fun i => S256.rowMajor.symm i = ix1 j) (fun i => u (S256.rowMajor.symm i)) (S256.rowMajor (ix1 j))
      (fun i => ⟨fun e => by rw [← e, Equiv.apply_symm_apply], fun e => by rw [e, Equiv.symm_apply_apply]⟩) _ _).trans ?_
    rw [if_pos (List.mem_finRange _), Equiv.symm_apply_apply]
  · rw [if_neg hr]
    simp only [hr, false_and, if_false]
    generalize List.finRange S256.numel = l
    induction l with
    | nil => rfl
    | cons _ _ ih => exact ih

theorem qgain_apply (j : Fin 256) : V m c main_v46 (ix2 0 j) = argQ m c (ix1 ⟨j.val % 64, Nat.mod_lt _ (by omega)⟩) := by
  rw [consts_eq, ← wide_apply (argQ m c)]
  refine (setRow_apply _ 3 _ 0 j).trans ?_
  rw [if_neg (by decide)]
  refine (setRow_apply _ 2 _ 0 j).trans ?_
  rw [if_neg (by decide)]
  refine (setRow_apply _ 1 _ 0 j).trans ?_
  rw [if_neg (by decide)]
  refine (setRow_apply _ 0 _ 0 j).trans ?_
  rw [if_pos rfl]

theorem kgain0_apply (j : Fin 256) : V m c main_v46 (ix2 1 j) = argK m c (ix2 0 ⟨j.val % 64, Nat.mod_lt _ (by omega)⟩) := by
  rw [consts_eq, ← gain0_apply (argK m c), ← wide_apply (gain0 (argK m c))]
  refine (setRow_apply _ 3 _ 1 j).trans ?_
  rw [if_neg (by decide)]
  refine (setRow_apply _ 2 _ 1 j).trans ?_
  rw [if_neg (by decide)]
  refine (setRow_apply _ 1 _ 1 j).trans ?_
  rw [if_pos rfl]

theorem kgain1_apply (j : Fin 256) : V m c main_v46 (ix2 2 j) = argK m c (ix2 1 ⟨j.val % 64, Nat.mod_lt _ (by omega)⟩) := by
  rw [consts_eq, ← gain1_apply (argK m c), ← wide_apply (gain1 (argK m c))]
  refine (setRow_apply _ 3 _ 2 j).trans ?_
  rw [if_neg (by decide)]
  refine (setRow_apply _ 2 _ 2 j).trans ?_
  rw [if_pos rfl]

theorem kgain2_apply (j : Fin 256) : V m c main_v46 (ix2 3 j) = argK m c (ix2 2 ⟨j.val % 64, Nat.mod_lt _ (by omega)⟩) := by
  rw [consts_eq, ← gain2_apply (argK m c), ← wide_apply (gain2 (argK m c))]
  refine (setRow_apply _ 3 _ 3 j).trans ?_
  rw [if_pos rfl]

theorem mask_word : ∀ j : Fin 256, lit1 (S8x256.rowMajor (ix2 4 j)) = if j.val % 64 < 32 then 0x3F800000#32 else 0x00000000#32 := by
  decide +kernel

theorem half_apply (j : Fin 256) : V m c main_v46 (ix2 4 j) = if j.val % 64 < 32 then (1 : EReal) else (0 : EReal) := by
  rw [consts_eq]
  refine (setRow_apply _ 3 _ 4 j).trans ?_
  rw [if_neg (by decide)]
  refine (setRow_apply _ 2 _ 4 j).trans ?_
  rw [if_neg (by decide)]
  refine (setRow_apply _ 1 _ 4 j).trans ?_
  rw [if_neg (by decide)]
  refine (setRow_apply _ 0 _ 4 j).trans ?_
  rw [if_neg (by decide)]
  unfold mask
  rw [mask_word]
  split
  · show Ideal.ofBits .f32 0x3F800000#32 = 1
    simp [Ideal.ofBits, Ideal.ieee, -EReal.coe_mul]
    norm_num
  · show Ideal.ofBits .f32 0x00000000#32 = 0
    simp [Ideal.ofBits, Ideal.ieee, -EReal.coe_mul]

/-! ## The weights -/

/-- The weights with the queries' columns gathered and 80 columns of zeros behind. -/
def weights (W : FVec Ideal S1024x1840 .f32) : FVec Ideal S1024x1920 .bf16 :=
  truncf .bf16 (concatenate S1024x1920 1 [⟨S1024x1024, Host.gather gather_S1024x1024_S1024x1_S1024x1024_0_1_n_n_1_1_10241
      (extractStridedSlice S1024x1024 ![0, 0] W slices_S1024x1840_S1024x1024_0_0)
      (broadcastInDim S1024x1 ![0] bcast_S1024_S1024x1_0 (select (constantI S1024 1 0#1)
        (addi (fun i => lit0 (S1024.rowMajor i)) (broadcastInDim S1024 ![] bcast_S_S1024 (constantI S_ 32 1024#32)))
        (fun i => lit0 (S1024.rowMajor i))))⟩,
    ⟨S1024x816, extractStridedSlice S1024x816 ![0, 1024] W slices_S1024x1840_S1024x816_0_1024⟩,
    ⟨S1024x80, broadcastInDim S1024x80 ![] bcast_S_S1024x80 (constant (F := Ideal) S_ .f32 0x00000000#32)⟩]
    concatenates_S1024x1024_S1024x816_S1024x80_S1024x1920_d1) bitsLt_bf16_f32

theorem weights_eq : V m c main_v9 = weights (argW m c) := by
  dsimp only [V, hostOps0, hostOps0_1, hostOps0_2, List.flatten_cons, List.flatten_nil, List.append_nil, List.cons_append,
    List.nil_append]
  after_results <;> rfl

/-- A gathered column. -/
theorem gather_col (x : S1024x1024.Idx → EReal) (idx : IVec S1024x1 32) (k j b : Fin 1024) (hb : idx (ix2 j 0) = BitVec.ofNat 32 b.val) :
    Host.gather gather_S1024x1024_S1024x1_S1024x1024_0_1_n_n_1_1_10241 x idx (ix2 k j) = x (ix2 k b) := by
  refine congrArg x (funext fun a => Fin.ext ?_)
  match a with
  | ⟨0, _⟩ =>
    show 0 + 0 + k.val = k.val
    omega
  | ⟨1, _⟩ =>
    have hi : gather_S1024x1024_S1024x1_S1024x1024_0_1_n_n_1_1_10241.siIdx (ix2 k j) ⟨0, by decide⟩ = ix2 j 0 := by
      funext a
      match a with
      | ⟨0, _⟩ => rfl
      | ⟨1, _⟩ => rfl
    show min (idx (gather_S1024x1024_S1024x1_S1024x1024_0_1_n_n_1_1_10241.siIdx (ix2 k j) ⟨0, by decide⟩)).toInt.toNat (1024 - 1) + 0 + 0 = b.val
    have hz : ∀ b : Fin 1024, (BitVec.ofNat 32 b.val).toInt.toNat = b.val := by decide +kernel
    rw [hi, hb, hz]
    omega

theorem slot_word : ∀ j : Fin 1024, lit0 (S1024.rowMajor (ix1 j)) = BitVec.ofNat 32 (slot j.val + j.val % 64) := by
  decide +kernel

theorem weights_apply (k : Fin 1024) (d : Fin 1920) : V m c main_v9 (ix2 k d)
    = if d.val < 1024 then argW m c (ix2 k ⟨slot (d.val % 1024) + d.val % 64, by unfold slot; omega⟩)
      else if h : d.val < 1840 then argW m c (ix2 k ⟨d.val, h⟩) else 0 := by
  rw [weights_eq]
  pointwise [weights]
  split
  · rename_i h
    refine (gather_col _ _ k ⟨d.val, h⟩ ⟨slot d.val + d.val % 64, by unfold slot; omega⟩ ?_).trans ?_
    · exact slot_word ⟨d.val, h⟩
    · pointwise
      exact congrArg (fun d => argW m c (ix2 k d)) (Fin.ext (by simp only [Nat.mod_eq_of_lt h]))
  · split
    · rw [dif_pos (by omega)]
      exact congrArg (fun d => argW m c (ix2 k d)) (Fin.ext (by show 1024 + (d.val - 1024) = d.val; omega))
    · rw [dif_neg (by omega)]

end Cert.NsaProj

end
-- ==== Proof.NsaProj.Final.lean ====
/-
  The kernel's whole results: its blocks of rows tile the arrays, so they are the projection of every row.
-/
module

public import proofs.«01_k».proof.Proof.NsaProj.Block
public import proofs.«01_k».proof.Proof.NsaProj.Host
public import proofs.«01_k».proof.Proof.Gen.NsaProjIdeal.Value

@[expose] public section

set_option maxRecDepth 16384

noncomputable section

namespace Cert.NsaProj

open Cert.MobaProj (nrm hn rot lane lane_eq)
open Cert.NsaProjIdeal Cert.NsaProjIdeal.Gen Idealize.ShloMosaic Idealize.ShloMosaic.TcCoe Idealize.SL.Sem
open Idealize.ShloMosaic.Pipeline (Dat)

/-! ## The projection of every row -/

section
variable (x : FVec Ideal S8x2048x1024 .f32) (g : FVec Ideal S1024 .f32) (w : FVec Ideal S1024x1840 .f32) (q : FVec Ideal S64 .f32)
  (k : FVec Ideal S3x64 .f32)
  (co si : FVec Ideal S2048x32 .f32)

/-- The normed row `n` of all batches. -/
def rowH (n : Fin 16384) : Fin 1024 → EReal :=
  nrm (fun k => x (ix3 ⟨n.val / 2048, by omega⟩ ⟨n.val % 2048, Nat.mod_lt _ (by omega)⟩ k)) (fun k => g (ix1 k))

/-- The angles' cosines or sines of row `n`. -/
def angle (t : FVec Ideal S2048x32 .f32) (n : Fin 16384) (e : Fin 32) : EReal := t (ix2 ⟨n.val % 2048, Nat.mod_lt _ (by omega)⟩ e)

/-- The queries of every row. -/
def qArr : FVec Ideal S16384x1024 .bf16 := fun y =>
  qRow (rowH x g (y 0)) (fun k d => w (ix2 k d)) (fun e => q (ix1 e)) (angle co (y 0)) (angle si (y 0)) (y 1)

/-- The keys and values of every row. -/
def kvArr : FVec Ideal S16384x768 .f32 := fun y =>
  kvRow (rowH x g (y 0)) (fun k d => w (ix2 k d)) (fun b e => k (ix2 b e)) (angle co (y 0)) (angle si (y 0)) (y 1)

/-- The gates of every row. -/
def gateArr : FVec Ideal S16384x128 .f32 := fun y => gateRow (rowH x g (y 0)) (fun k d => w (ix2 k d)) (y 1)

end

variable (m : (ℓ : Loc nD τ sig) → Buf (Elt Ideal) ℓ) (c : Dev nD) (t : Fin cfg0.N)

/-! ## A grid point's blocks -/

/-- A grid point's block of rows. -/
theorem index_rows : ∀ t : Fin cfg0.N, win0_0.index t 0 = t.val ∧ win0_0.index t 1 = 0 :=
  (by decide +kernel : ∀ t : Fin grid0.N, win0_0.index t 0 = t.val ∧ win0_0.index t 1 = 0)
theorem index_cos : ∀ t : Fin cfg0.N, win0_5.index t 0 = t.val % 4 ∧ win0_5.index t 1 = 0 :=
  (by decide +kernel : ∀ t : Fin grid0.N, win0_5.index t 0 = t.val % 4 ∧ win0_5.index t 1 = 0)
theorem index_sin : ∀ t : Fin cfg0.N, win0_6.index t 0 = t.val % 4 ∧ win0_6.index t 1 = 0 :=
  (by decide +kernel : ∀ t : Fin grid0.N, win0_6.index t 0 = t.val % 4 ∧ win0_6.index t 1 = 0)
theorem index_q : ∀ t : Fin cfg0.N, win0_7.index t 0 = t.val ∧ win0_7.index t 1 = 0 :=
  (by decide +kernel : ∀ t : Fin grid0.N, win0_7.index t 0 = t.val ∧ win0_7.index t 1 = 0)
theorem index_kv : ∀ t : Fin cfg0.N, win0_8.index t 0 = t.val ∧ win0_8.index t 1 = 0 :=
  (by decide +kernel : ∀ t : Fin grid0.N, win0_8.index t 0 = t.val ∧ win0_8.index t 1 = 0)
theorem index_kv' : ∀ t : Fin cfg0.N, win0_9.index t 0 = t.val ∧ win0_9.index t 1 = 0 :=
  (by decide +kernel : ∀ t : Fin grid0.N, win0_9.index t 0 = t.val ∧ win0_9.index t 1 = 0)

theorem index_gate : ∀ t : Fin cfg0.N, win0_10.index t 0 = t.val ∧ win0_10.index t 1 = 0 :=
  (by decide +kernel : ∀ t : Fin grid0.N, win0_10.index t 0 = t.val ∧ win0_10.index t 1 = 0)

theorem t_lt : t.val < 32 := lt_of_lt_of_eq t.isLt N_0

/-- The row of the array at row `r` of a grid point's block. -/
abbrev rowAt (r : Fin 512) : Fin 16384 := ⟨512 * t.val + r.val, by have := t_lt t; omega⟩

theorem blkX (r : Fin 512) (k : Fin 1024) : iblk m c 0 t (ix2 r k) = V m c main_v10 (ix2 (rowAt t r) k) := by
  show V m c main_v10 ((win0_0.rect t).emb (ix2 r k)) = _
  refine congrArg (V m c main_v10) (funext fun a => Fin.ext ?_)
  obtain ⟨e0, e1⟩ := index_rows t
  match a with
  | ⟨0, _⟩ =>
    show win0_0.index t 0 * 512 + 1 * r.val = 512 * t.val + r.val
    omega
  | ⟨1, _⟩ =>
    show win0_0.index t 1 * 1024 + 1 * k.val = k.val
    omega

theorem blkG (k : Fin 1024) : iblk m c 1 t (ix2 0 k) = argG m c (ix1 k) := by
  rw [← gains_apply]
  show V m c main_v11 ((win0_1.rect t).emb (ix2 0 k)) = _
  refine congrArg (V m c main_v11) (funext fun a => Fin.ext ?_)
  match a with
  | ⟨0, _⟩ => rfl
  | ⟨1, _⟩ =>
    show 0 * 1024 + 1 * k.val = k.val
    omega

theorem blkW (k : Fin 1024) (d : Fin 1920) : iblk m c 2 t (ix2 k d) = V m c main_v9 (ix2 k d) := by
  show V m c main_v9 ((win0_2.rect t).emb (ix2 k d)) = _
  refine congrArg (V m c main_v9) (funext fun a => Fin.ext ?_)
  match a with
  | ⟨0, _⟩ =>
    show 0 * 1024 + 1 * k.val = k.val
    omega
  | ⟨1, _⟩ =>
    show 0 * 1920 + 1 * d.val = d.val
    omega

theorem blkM (x j : Fin 256) : iblk m c 3 t (ix2 x j) = V m c main_v55 (ix2 x j) := by
  show V m c main_v55 ((win0_3.rect t).emb (ix2 x j)) = _
  refine congrArg (V m c main_v55) (funext fun a => Fin.ext ?_)
  match a with
  | ⟨0, _⟩ =>
    show 0 * 256 + 1 * x.val = x.val
    omega
  | ⟨1, _⟩ =>
    show 0 * 256 + 1 * j.val = j.val
    omega

theorem blkC (x : Fin 8) (j : Fin 256) : iblk m c 4 t (ix2 x j) = V m c main_v46 (ix2 x j) := by
  show V m c main_v46 ((win0_4.rect t).emb (ix2 x j)) = _
  refine congrArg (V m c main_v46) (funext fun a => Fin.ext ?_)
  match a with
  | ⟨0, _⟩ =>
    show 0 * 8 + 1 * x.val = x.val
    omega
  | ⟨1, _⟩ =>
    show 0 * 256 + 1 * j.val = j.val
    omega

theorem blkCos (r : Fin 512) (j : Fin 256) : iblk m c 5 t (ix2 r j)
    = V m c main_v15 (ix2 ⟨(rowAt t r).val % 2048, Nat.mod_lt _ (by omega)⟩ j) := by
  show V m c main_v15 ((win0_5.rect t).emb (ix2 r j)) = _
  refine congrArg (V m c main_v15) (funext fun a => Fin.ext ?_)
  obtain ⟨e0, e1⟩ := index_cos t
  match a with
  | ⟨0, _⟩ =>
    show win0_5.index t 0 * 512 + 1 * r.val = (512 * t.val + r.val) % 2048
    omega
  | ⟨1, _⟩ =>
    show win0_5.index t 1 * 256 + 1 * j.val = j.val
    omega

theorem blkSin (r : Fin 512) (j : Fin 256) : iblk m c 6 t (ix2 r j)
    = V m c main_v20 (ix2 ⟨(rowAt t r).val % 2048, Nat.mod_lt _ (by omega)⟩ j) := by
  show V m c main_v20 ((win0_6.rect t).emb (ix2 r j)) = _
  refine congrArg (V m c main_v20) (funext fun a => Fin.ext ?_)
  obtain ⟨e0, e1⟩ := index_sin t
  match a with
  | ⟨0, _⟩ =>
    show win0_6.index t 0 * 512 + 1 * r.val = (512 * t.val + r.val) % 2048
    omega
  | ⟨1, _⟩ =>
    show win0_6.index t 1 * 256 + 1 * j.val = j.val
    omega

/-- The normed row of a block. -/
theorem nrm_blk (r : Fin 512) : nrm (fun k => iblk m c 0 t (ix2 r k)) (fun k => iblk m c 1 t (ix2 0 k))
    = rowH (argX m c) (argG m c) (rowAt t r) := by
  have ex : (fun k => iblk m c 0 t (ix2 r k)) = fun k => argX m c
      (ix3 ⟨(rowAt t r).val / 2048, by omega⟩ ⟨(rowAt t r).val % 2048, Nat.mod_lt _ (by omega)⟩ k) :=
    funext fun k => (blkX m c t r k).trans (rows_apply m c (rowAt t r) k)
  have eg : (fun k => iblk m c 1 t (ix2 0 k)) = fun k => argG m c (ix1 k) := funext fun k => blkG m c t k
  unfold rowH
  rw [ex, eg]

/-- A head of a grid point's block, from a start of columns that hold the head's columns of the weights. -/
theorem blane_eq (r : Fin 512) (n : ℕ) (hn : n + 256 ≤ 1920) (q : Fin 8) (j : Fin 256) (p : Fin 64 → EReal) (o : ℕ) (ho : o + 64 ≤ 1840)
    (hp : ∀ j : Fin 256, V m c main_v46 (ix2 q j) = p ⟨j.val % 64, Nat.mod_lt _ (by omega)⟩)
    (hw : ∀ (k : Fin 1024) (e : Fin 64), V m c main_v9 (ix2 k ⟨n + (64 * (j.val / 64) + e.val), by omega⟩) = argW m c (ix2 k ⟨o + e.val, by omega⟩)) :
    blane (iblk m c 0 t) (iblk m c 1 t) (iblk m c 2 t) (iblk m c 3 t) (iblk m c 4 t) (iblk m c 5 t) (iblk m c 6 t) r n hn q j
      = head (rowH (argX m c) (argG m c) (rowAt t r)) (fun k d => argW m c (ix2 k d)) o ho p (angle (argC m c) (rowAt t r))
          (angle (argS m c) (rowAt t r)) ⟨j.val % 64, Nat.mod_lt _ (by omega)⟩ := by
  unfold blane
  rw [nrm_blk]
  refine (lane_eq _ _ _ _ _ _ _ p (angle (argC m c) (rowAt t r)) (angle (argS m c) (rowAt t r)) ?_ ?_ ?_ ?_ ?_ j).trans ?_
  · intro x j; rw [blkM]; exact means_apply m c x j
  · intro j; rw [blkC]; exact hp j
  · intro j; rw [blkC]; exact half_apply m c j
  · intro j; rw [blkCos]; exact cos_apply m c _ j
  · intro j; rw [blkSin]; exact sin_apply m c _ j
  · unfold head
    simp only [blkW, hw]

/-- A key head of a grid point's block, from a start of columns that hold the head's columns of the weights. -/
theorem bpair_eq (r : Fin 512) (n : ℕ) (hn : n + 128 ≤ 1920) (q : Fin 8) (j : Fin 128) (p : Fin 64 → EReal) (o : ℕ) (ho : o + 64 ≤ 1840)
    (hp : ∀ j : Fin 256, V m c main_v46 (ix2 q j) = p ⟨j.val % 64, Nat.mod_lt _ (by omega)⟩)
    (hw : ∀ (k : Fin 1024) (e : Fin 64), V m c main_v9 (ix2 k ⟨n + (64 * (j.val / 64) + e.val), by omega⟩) = argW m c (ix2 k ⟨o + e.val, by omega⟩)) :
    bpair (iblk m c 0 t) (iblk m c 1 t) (iblk m c 2 t) (iblk m c 3 t) (iblk m c 4 t) (iblk m c 5 t) (iblk m c 6 t) r n hn q j
      = head (rowH (argX m c) (argG m c) (rowAt t r)) (fun k d => argW m c (ix2 k d)) o ho p (angle (argC m c) (rowAt t r))
          (angle (argS m c) (rowAt t r)) ⟨j.val % 64, Nat.mod_lt _ (by omega)⟩ := by
  unfold bpair
  rw [nrm_blk]
  refine (pair_eq _ _ _ _ _ _ _ p (angle (argC m c) (rowAt t r)) (angle (argS m c) (rowAt t r)) ?_ ?_ ?_ ?_ ?_ j).trans ?_
  · intro x j; rw [blkM]; exact means_apply m c (lo x) (lo j)
  · intro j; rw [blkC]; exact hp (lo j)
  · intro j; rw [blkC]; exact half_apply m c (lo j)
  · intro j; rw [blkCos]; exact cos_apply m c _ (lo j)
  · intro j; rw [blkSin]; exact sin_apply m c _ (lo j)
  · unfold head
    simp only [blkW, hw]

/-! ## What a grid point writes back -/

/-- The queries. -/
theorem flushed_q : (dats m 0 c).flushed 7 t
    = ((cfg0.win 7).blk t).view.read (Elt Ideal) (qArr (argX m c) (argG m c) (argW m c) (argQ m c) (argC m c) (argS m c)) := by
  rw [Value.flushed7]
  funext y
  obtain ⟨r, d, rfl⟩ : ∃ (r : Fin 512) (d : Fin 1024), y = ix2 r d := ⟨y 0, y 1, Shared.pair_idx y⟩
  refine (congrFun (out7_eq (iblk m c 0 t) (iblk m c 1 t) (iblk m c 2 t) (iblk m c 3 t) (iblk m c 4 t) (iblk m c 5 t) (iblk m c 6 t)) (ix2 r d)).trans ?_
  have e : (win0_7.rect t).emb (ix2 r d) = (ix2 (rowAt t r) d : S16384x1024.Idx) := by
    obtain ⟨e0, e1⟩ := index_q t
    funext a
    refine Fin.ext ?_
    match a with
    | ⟨0, _⟩ =>
      show win0_7.index t 0 * 512 + 1 * r.val = 512 * t.val + r.val
      omega
    | ⟨1, _⟩ =>
      show win0_7.index t 1 * 1024 + 1 * d.val = d.val
      omega
  show _ = qArr (argX m c) (argG m c) (argW m c) (argQ m c) (argC m c) (argS m c) ((win0_7.rect t).emb (ix2 r d))
  rw [e]
  unfold qBlk qArr qRow
  refine congrArg (· * _) ?_
  refine (blane_eq m c t r (256 * (d.val / 256)) (by omega) 0 ⟨d.val % 256, Nat.mod_lt _ (by omega)⟩ (fun e => argQ m c (ix1 e)) (slot d.val)
    (slot_le _ d.isLt) (qgain_apply m c) ?_).trans ?_
  · intro k e
    rw [weights_apply, if_pos (by simp only; omega)]
    refine congrArg (fun d => argW m c (ix2 k d)) (Fin.ext ?_)
    show slot ((256 * (d.val / 256) + (64 * (d.val % 256 / 64) + e.val)) % 1024) + (256 * (d.val / 256) + (64 * (d.val % 256 / 64) + e.val)) % 64
      = slot d.val + e.val
    have h1 : (256 * (d.val / 256) + (64 * (d.val % 256 / 64) + e.val)) % 1024 = 64 * (d.val / 64) + e.val := by omega
    have h2 : (256 * (d.val / 256) + (64 * (d.val % 256 / 64) + e.val)) % 64 = e.val := by omega
    rw [h1, h2]
    unfold slot
    omega
  · have : (⟨d.val % 256 % 64, Nat.mod_lt _ (by omega)⟩ : Fin 64) = ⟨d.val % 64, Nat.mod_lt _ (by omega)⟩ := Fin.ext (by simp only; omega)
    exact congrArg _ this

/-- The key gains of branch `b`. -/
theorem kgain_apply (b : Fin 3) (q : Fin 8) (hq : q.val = 1 + b.val) (j : Fin 256) :
    V m c main_v46 (ix2 q j) = argK m c (ix2 b ⟨j.val % 64, Nat.mod_lt _ (by omega)⟩) := by
  match b with
  | ⟨0, _⟩ => obtain rfl : q = 1 := Fin.ext hq; exact kgain0_apply m c j
  | ⟨1, _⟩ => obtain rfl : q = 2 := Fin.ext hq; exact kgain1_apply m c j
  | ⟨2, _⟩ => obtain rfl : q = 3 := Fin.ext hq; exact kgain2_apply m c j

/-- The keys and values of a block. -/
theorem kv_blk (r : Fin 512) (d : Fin 768) :
    kvBlk (iblk m c 0 t) (iblk m c 1 t) (iblk m c 2 t) (iblk m c 3 t) (iblk m c 4 t) (iblk m c 5 t) (iblk m c 6 t) (ix2 r d)
      = kvArr (argX m c) (argG m c) (argW m c) (argK m c) (argC m c) (argS m c) (ix2 (rowAt t r) d) := by
  unfold kvBlk kvArr kvRow
  by_cases h : d.val % 256 < 128
  · refine (dif_pos h).trans (Eq.trans ?_ (if_pos h).symm)
    refine (bpair_eq m c t r (1024 + 256 * (d.val / 256)) (by omega) ⟨1 + d.val / 256, by omega⟩ ⟨d.val % 256, h⟩
      (fun e => argK m c (ix2 ⟨d.val / 256, by omega⟩ e)) (1024 + 64 * (d.val / 64)) (by omega)
      (fun j => kgain_apply m c ⟨d.val / 256, by omega⟩ _ rfl j) ?_).trans ?_
    · intro k e
      rw [weights_apply, if_neg (by simp only; omega), dif_pos (by simp only; omega)]
      exact congrArg (fun d => argW m c (ix2 k d)) (Fin.ext (by simp only; omega))
    · have : (⟨d.val % 256 % 64, Nat.mod_lt _ (by omega)⟩ : Fin 64) = ⟨d.val % 64, Nat.mod_lt _ (by omega)⟩ := Fin.ext (by simp only; omega)
      exact congrArg _ this
  · refine (dif_neg h).trans (Eq.trans ?_ (if_neg h).symm)
    show (∑ k, nrm (fun k => iblk m c 0 t (ix2 r k)) (fun k => iblk m c 1 t (ix2 0 k)) k * iblk m c 2 t (ix2 k ⟨1024 + d.val, by omega⟩)) = _
    rw [nrm_blk]
    refine Finset.sum_congr rfl fun k _ => ?_
    rw [blkW, weights_apply, if_neg (by simp only; omega), dif_pos (by simp only; omega)]
    rfl

/-- The gates of a block. -/
theorem gate_blk (r : Fin 512) (d : Fin 128) : gateBlk (iblk m c 0 t) (iblk m c 1 t) (iblk m c 2 t) (ix2 r d)
    = gateArr (argX m c) (argG m c) (argW m c) (ix2 (rowAt t r) d) := by
  unfold gateBlk gateArr gateRow
  refine congrArg logi ?_
  show (∑ k, nrm (fun k => iblk m c 0 t (ix2 r k)) (fun k => iblk m c 1 t (ix2 0 k)) k * iblk m c 2 t (ix2 k ⟨1792 + d.val, by omega⟩)) = _
  rw [nrm_blk]
  by_cases h : d.val < 48
  · refine Eq.trans ?_ (dif_pos h).symm
    refine Finset.sum_congr rfl fun k _ => ?_
    rw [blkW, weights_apply, if_neg (by simp only; omega), dif_pos (by simp only; omega)]
    rfl
  · refine Eq.trans ?_ (dif_neg h).symm
    refine Finset.sum_eq_zero fun k _ => ?_
    rw [blkW, weights_apply, if_neg (by simp only; omega), dif_neg (by simp only; omega), mul_zero]

theorem flushed_kv : (dats m 0 c).flushed 8 t
    = ((cfg0.win 8).blk t).view.read (Elt Ideal) (kvArr (argX m c) (argG m c) (argW m c) (argK m c) (argC m c) (argS m c)) := by
  rw [Value.flushed8]
  funext y
  obtain ⟨r, d, rfl⟩ : ∃ (r : Fin 512) (d : Fin 768), y = ix2 r d := ⟨y 0, y 1, Shared.pair_idx y⟩
  refine (congrFun (out8_eq (iblk m c 0 t) (iblk m c 1 t) (iblk m c 2 t) (iblk m c 3 t) (iblk m c 4 t) (iblk m c 5 t) (iblk m c 6 t)) (ix2 r d)).trans ?_
  refine (kv_blk m c t r d).trans ?_
  show _ = kvArr (argX m c) (argG m c) (argW m c) (argK m c) (argC m c) (argS m c) ((win0_8.rect t).emb (ix2 r d))
  refine congrArg _ (funext fun a => Fin.ext ?_)
  obtain ⟨e0, e1⟩ := index_kv t
  match a with
  | ⟨0, _⟩ =>
    show 512 * t.val + r.val = win0_8.index t 0 * 512 + 1 * r.val
    omega
  | ⟨1, _⟩ =>
    show d.val = win0_8.index t 1 * 768 + 1 * d.val
    omega

/-- The keys and values again, in the narrow format. -/
theorem flushed_kv' : (dats m 0 c).flushed 9 t
    = ((cfg0.win 9).blk t).view.read (Elt Ideal)
        (kvArr (argX m c) (argG m c) (argW m c) (argK m c) (argC m c) (argS m c) : S16384x768.Idx → EReal) := by
  rw [Value.flushed9]
  funext y
  obtain ⟨r, d, rfl⟩ : ∃ (r : Fin 512) (d : Fin 768), y = ix2 r d := ⟨y 0, y 1, Shared.pair_idx y⟩
  refine (congrFun (out9_eq (iblk m c 0 t) (iblk m c 1 t) (iblk m c 2 t) (iblk m c 3 t) (iblk m c 4 t) (iblk m c 5 t) (iblk m c 6 t)) (ix2 r d)).trans ?_
  refine (kv_blk m c t r d).trans ?_
  show _ = kvArr (argX m c) (argG m c) (argW m c) (argK m c) (argC m c) (argS m c) ((win0_9.rect t).emb (ix2 r d))
  refine congrArg _ (funext fun a => Fin.ext ?_)
  obtain ⟨e0, e1⟩ := index_kv' t
  match a with
  | ⟨0, _⟩ =>
    show 512 * t.val + r.val = win0_9.index t 0 * 512 + 1 * r.val
    omega
  | ⟨1, _⟩ =>
    show d.val = win0_9.index t 1 * 768 + 1 * d.val
    omega

/-- The gates. -/
theorem flushed_gate : (dats m 0 c).flushed 10 t
    = ((cfg0.win 10).blk t).view.read (Elt Ideal) (gateArr (argX m c) (argG m c) (argW m c)) := by
  rw [Value.flushed10]
  funext y
  obtain ⟨r, d, rfl⟩ : ∃ (r : Fin 512) (d : Fin 128), y = ix2 r d := ⟨y 0, y 1, Shared.pair_idx y⟩
  refine (congrFun (out10_eq (iblk m c 0 t) (iblk m c 1 t) (iblk m c 2 t) (iblk m c 3 t) (iblk m c 4 t) (iblk m c 5 t) (iblk m c 6 t)) (ix2 r d)).trans ?_
  refine (gate_blk m c t r d).trans ?_
  show _ = gateArr (argX m c) (argG m c) (argW m c) ((win0_10.rect t).emb (ix2 r d))
  refine congrArg _ (funext fun a => Fin.ext ?_)
  obtain ⟨e0, e1⟩ := index_gate t
  match a with
  | ⟨0, _⟩ =>
    show 512 * t.val + r.val = win0_10.index t 0 * 512 + 1 * r.val
    omega
  | ⟨1, _⟩ =>
    show d.val = win0_10.index t 1 * 128 + 1 * d.val
    omega

/-! ## The whole arrays -/

/-- Every place of the queries lies in a grid point's block. -/
theorem cover_q (x : S16384x1024.Idx) : ∃ t : Fin cfg0.N, (cfg0.win 7).flush t = true ∧ x ∈ ((cfg0.win 7).blk t).view.set := by
  have h0 : (x 0 : ℕ) < 16384 := (x 0).isLt
  have h1 : (x 1 : ℕ) < 1024 := (x 1).isLt
  let t : Fin cfg0.N := ⟨(x 0 : ℕ) / 512, lt_of_lt_of_eq (by omega) N_0.symm⟩
  refine ⟨t, flush0_7 t, ?_⟩
  show x ∈ ((View.whole main_v56_0).slice (win0_7.rect t)).set
  rw [View.set_slice_whole, Rect.mem_set_unit]
  obtain ⟨e0, e1⟩ := index_q t
  have ht : t.val = (x 0 : ℕ) / 512 := rfl
  intro a
  match a with
  | ⟨0, _⟩ =>
    show win0_7.index t 0 * 512 ≤ (x 0 : ℕ) ∧ (x 0 : ℕ) < win0_7.index t 0 * 512 + 512
    omega
  | ⟨1, _⟩ =>
    show win0_7.index t 1 * 1024 ≤ (x 1 : ℕ) ∧ (x 1 : ℕ) < win0_7.index t 1 * 1024 + 1024
    omega

theorem cover_kv (x : S16384x768.Idx) : ∃ t : Fin cfg0.N, (cfg0.win 8).flush t = true ∧ x ∈ ((cfg0.win 8).blk t).view.set := by
  have h0 : (x 0 : ℕ) < 16384 := (x 0).isLt
  have h1 : (x 1 : ℕ) < 768 := (x 1).isLt
  let t : Fin cfg0.N := ⟨(x 0 : ℕ) / 512, lt_of_lt_of_eq (by omega) N_0.symm⟩
  refine ⟨t, flush0_8 t, ?_⟩
  show x ∈ ((View.whole main_v56_1).slice (win0_8.rect t)).set
  rw [View.set_slice_whole, Rect.mem_set_unit]
  obtain ⟨e0, e1⟩ := index_kv t
  have ht : t.val = (x 0 : ℕ) / 512 := rfl
  intro a
  match a with
  | ⟨0, _⟩ =>
    show win0_8.index t 0 * 512 ≤ (x 0 : ℕ) ∧ (x 0 : ℕ) < win0_8.index t 0 * 512 + 512
    omega
  | ⟨1, _⟩ =>
    show win0_8.index t 1 * 768 ≤ (x 1 : ℕ) ∧ (x 1 : ℕ) < win0_8.index t 1 * 768 + 768
    omega

theorem cover_kv' (x : S16384x768.Idx) : ∃ t : Fin cfg0.N, (cfg0.win 9).flush t = true ∧ x ∈ ((cfg0.win 9).blk t).view.set := by
  have h0 : (x 0 : ℕ) < 16384 := (x 0).isLt
  have h1 : (x 1 : ℕ) < 768 := (x 1).isLt
  let t : Fin cfg0.N := ⟨(x 0 : ℕ) / 512, lt_of_lt_of_eq (by omega) N_0.symm⟩
  refine ⟨t, flush0_9 t, ?_⟩
  show x ∈ ((View.whole main_v56_2).slice (win0_9.rect t)).set
  rw [View.set_slice_whole, Rect.mem_set_unit]
  obtain ⟨e0, e1⟩ := index_kv' t
  have ht : t.val = (x 0 : ℕ) / 512 := rfl
  intro a
  match a with
  | ⟨0, _⟩ =>
    show win0_9.index t 0 * 512 ≤ (x 0 : ℕ) ∧ (x 0 : ℕ) < win0_9.index t 0 * 512 + 512
    omega
  | ⟨1, _⟩ =>
    show win0_9.index t 1 * 768 ≤ (x 1 : ℕ) ∧ (x 1 : ℕ) < win0_9.index t 1 * 768 + 768
    omega

theorem cover_gate (x : S16384x128.Idx) : ∃ t : Fin cfg0.N, (cfg0.win 10).flush t = true ∧ x ∈ ((cfg0.win 10).blk t).view.set := by
  have h0 : (x 0 : ℕ) < 16384 := (x 0).isLt
  have h1 : (x 1 : ℕ) < 128 := (x 1).isLt
  let t : Fin cfg0.N := ⟨(x 0 : ℕ) / 512, lt_of_lt_of_eq (by omega) N_0.symm⟩
  refine ⟨t, flush0_10 t, ?_⟩
  show x ∈ ((View.whole main_v56_3).slice (win0_10.rect t)).set
  rw [View.set_slice_whole, Rect.mem_set_unit]
  obtain ⟨e0, e1⟩ := index_gate t
  have ht : t.val = (x 0 : ℕ) / 512 := rfl
  intro a
  match a with
  | ⟨0, _⟩ =>
    show win0_10.index t 0 * 512 ≤ (x 0 : ℕ) ∧ (x 0 : ℕ) < win0_10.index t 0 * 512 + 512
    omega
  | ⟨1, _⟩ =>
    show win0_10.index t 1 * 128 ≤ (x 1 : ℕ) ∧ (x 1 : ℕ) < win0_10.index t 1 * 128 + 128
    omega

/-- The queries' array at the end of the grid. -/
theorem final_q : (dats m 0 c).arrAt 7 cfg0.N = qArr (argX m c) (argG m c) (argW m c) (argQ m c) (argC m c) (argS m c) :=
  (dats m 0 c).arrAt_eq_of_cover 7 _ (fun t _ => flushed_q m c t) cover_q
/-- The keys' and values' array at the end of the grid. -/
theorem final_kv : (dats m 0 c).arrAt 8 cfg0.N = kvArr (argX m c) (argG m c) (argW m c) (argK m c) (argC m c) (argS m c) :=
  (dats m 0 c).arrAt_eq_of_cover 8 _ (fun t _ => flushed_kv m c t) cover_kv
/-- The same in the narrow format. -/
theorem final_kv' : (dats m 0 c).arrAt 9 cfg0.N
    = (kvArr (argX m c) (argG m c) (argW m c) (argK m c) (argC m c) (argS m c) : S16384x768.Idx → EReal) :=
  (dats m 0 c).arrAt_eq_of_cover 9 _ (fun t _ => flushed_kv' m c t) cover_kv'

/-- The gates' array at the end of the grid. -/
theorem final_gate : (dats m 0 c).arrAt 10 cfg0.N = gateArr (argX m c) (argG m c) (argW m c) :=
  (dats m 0 c).arrAt_eq_of_cover 10 _ (fun t _ => flushed_gate m c t) cover_gate

end Cert.NsaProj

end
-- ==== Proof.NsaProj.Claims.lean ====
/-
  The claims about the sparse-attention projection.
-/
module

public import proofs.«01_k».proof.Defs
public import proofs.«01_k».proof.Proof.Gen.NsaProj.Frame
public import proofs.«01_k».proof.Proof.Gen.NsaProjReferenceIdeal.Run
public import proofs.«01_k».proof.Proof.NsaProj.Final
public import Idealize.ShloMosaic.Lib.Quiescent

@[expose] public section

set_option maxRecDepth 16384

noncomputable section

namespace Cert.NsaProj

open Cert.MobaProj (nrm hn rot lane lane_eq)
open Idealize.ShloMosaic Idealize.ShloMosaic.TcCoe Idealize.SL.Sem

/-- The kernel as printed terminates, its arguments unchanged. -/
theorem frame_P : Cert.quiescent_NsaProj := fun m ρ _ => Cert.NsaProj.Gen.frame m ρ
/-- The kernel over the extended reals terminates, its arguments unchanged. -/
theorem frame_PI : Cert.quiescent_NsaProjIdeal := fun m ρ _ => Cert.NsaProjIdeal.Gen.frame m ρ
/-- The reference terminates, its arguments unchanged; it has no semaphore. -/
theorem frame_RI : Cert.quiescent_NsaProjReferenceIdeal := fun m ρ _ =>
  (θ_run Cert.NsaProjReferenceIdeal.defs _ _).mono (fun r h => ⟨fun c => (h c).2.2.2.2, sem_eq_zero_of_no_sems (by decide) r.2⟩)
    (Cert.NsaProjReferenceIdeal.Value.run (F := Ideal) m ρ)
/-- No operation was rewritten. -/
theorem preserves : Cert.preserves_NsaProj_NsaProjIdeal := trivial

section
open Cert.NsaProjReferenceIdeal Cert.NsaProjReferenceIdeal.Gen

variable (x : FVec Ideal S8x2048x1024 .f32) (g : FVec Ideal S1024 .f32) (w : FVec Ideal S1024x1840 .f32) (q : FVec Ideal S64 .f32)
  (k : FVec Ideal S3x64 .f32)
  (co si : FVec Ideal S2048x32 .f32)

/-- The reference's normed rows. -/
def refNrm : FVec Ideal S8x2048x1024 .f32 :=
  mulf (mulf x (broadcastInDim S8x2048x1024 ![0, 1, 2] bcast_S8x2048x1_S8x2048x1024_0_1_2 (Host.rsqrt (addf (Host.divf (broadcastInDim S8x2048x1 ![0,
    1] bcast_S8x2048_S8x2048x1_0_1 (Host.reduceAdd (mulf x x) (constant S_ .f32 0x00000000#32) reducesTo_S8x2048x1024_S8x2048_d2 h_S_))
    (broadcastInDim S8x2048x1 ![] bcast_S_S8x2048x1 (constant S_ .f32 0x44800000#32))) (broadcastInDim S8x2048x1 ![] bcast_S_S8x2048x1 (constant S_
    .f32 0x358637BD#32)))))) (broadcastInDim S8x2048x1024 ![0, 1, 2] bcast_S1x1x1024_S8x2048x1024_0_1_2 (broadcastInDim S1x1x1024 ![2]
    bcast_S1024_S1x1x1024_2 g))

/-- The reference's product of normed rows `h` with the weights. -/
def refProj (h : FVec Ideal S8x2048x1024 .f32) : FVec Ideal S8x2048x1840 .f32 :=
  Host.dotGeneral dot_S8x2048x1024_S1024x1840_S8x2048x1840_2_0_01_1_n_n none h w

/-- The reference's normed query heads of the product `p`. -/
def refQn (p : FVec Ideal S8x2048x1840 .f32) : FVec Ideal S8x2048x16x64 .f32 :=
  mulf (mulf (shapeCast S8x2048x16x64 (extractStridedSlice S8x2048x1024 ![0, 0, 0] p slices_S8x2048x1840_S8x2048x1024_0_0_0)
    shapeCasts_S8x2048x1024_S8x2048x16x64) (broadcastInDim S8x2048x16x64 ![0, 1, 2, 3] bcast_S8x2048x16x1_S8x2048x16x64_0_1_2_3 (Host.rsqrt (addf
    (Host.divf (broadcastInDim S8x2048x16x1 ![0, 1, 2] bcast_S8x2048x16_S8x2048x16x1_0_1_2 (Host.reduceAdd (mulf (shapeCast S8x2048x16x64
    (extractStridedSlice S8x2048x1024 ![0, 0, 0] p slices_S8x2048x1840_S8x2048x1024_0_0_0) shapeCasts_S8x2048x1024_S8x2048x16x64) (shapeCast
    S8x2048x16x64 (extractStridedSlice S8x2048x1024 ![0, 0, 0] p slices_S8x2048x1840_S8x2048x1024_0_0_0) shapeCasts_S8x2048x1024_S8x2048x16x64))
    (constant S_ .f32 0x00000000#32) reducesTo_S8x2048x16x64_S8x2048x16_d3 h_S_)) (broadcastInDim S8x2048x16x1 ![] bcast_S_S8x2048x16x1 (constant S_
    .f32 0x42800000#32))) (broadcastInDim S8x2048x16x1 ![] bcast_S_S8x2048x16x1 (constant S_ .f32 0x358637BD#32)))))) (broadcastInDim S8x2048x16x64
    ![0, 1, 2, 3] bcast_S1x1x1x64_S8x2048x16x64_0_1_2_3 (broadcastInDim S1x1x1x64 ![3] bcast_S64_S1x1x1x64_3 q))

/-- The reference's keys' and values' columns of the product `p`, the keys and the values of each branch apart. -/
def refBr (p : FVec Ideal S8x2048x1840 .f32) : FVec Ideal S8x2048x3x2x2x64 .f32 :=
  shapeCast S8x2048x3x2x2x64 (extractStridedSlice S8x2048x768 ![0, 0, 1024] p slices_S8x2048x1840_S8x2048x768_0_0_1024)
    shapeCasts_S8x2048x768_S8x2048x3x2x2x64

/-- The keys' heads of `refBr`. -/
def refK (u : FVec Ideal S8x2048x3x2x2x64 .f32) : FVec Ideal S8x2048x3x2x64 .f32 :=
  shapeCast S8x2048x3x2x64 (extractStridedSlice S8x2048x3x1x2x64 ![0, 0, 0, 0, 0, 0] u slices_S8x2048x3x2x2x64_S8x2048x3x1x2x64_0_0_0_0_0_0)
    shapeCasts_S8x2048x3x1x2x64_S8x2048x3x2x64

/-- The reference's normed key heads `a`, the branches' heads in one line. -/
def refKn (a : FVec Ideal S8x2048x3x2x64 .f32) : FVec Ideal S8x2048x6x64 .f32 :=
  shapeCast S8x2048x6x64 (mulf (mulf a (broadcastInDim S8x2048x3x2x64 ![0, 1, 2, 3, 4] bcast_S8x2048x3x2x1_S8x2048x3x2x64_0_1_2_3_4 (Host.rsqrt (addf
    (Host.divf (broadcastInDim S8x2048x3x2x1 ![0, 1, 2, 3] bcast_S8x2048x3x2_S8x2048x3x2x1_0_1_2_3 (Host.reduceAdd (mulf a a)
    (constant S_ .f32 0x00000000#32) reducesTo_S8x2048x3x2x64_S8x2048x3x2_d4 h_S_)) (broadcastInDim S8x2048x3x2x1 ![] bcast_S_S8x2048x3x2x1
    (constant S_ .f32 0x42800000#32))) (broadcastInDim S8x2048x3x2x1 ![] bcast_S_S8x2048x3x2x1 (constant S_ .f32 0x358637BD#32))))))
    (broadcastInDim S8x2048x3x2x64 ![0, 1, 2, 3, 4] bcast_S1x1x3x1x64_S8x2048x3x2x64_0_1_2_3_4 (broadcastInDim S1x1x3x1x64 ![2, 3, 4]
    bcast_S3x1x64_S1x1x3x1x64_2_3_4 (broadcastInDim S3x1x64 ![0, 2] bcast_S3x64_S3x1x64_0_2 k)))) shapeCasts_S8x2048x3x2x64_S8x2048x6x64

/-- The reference's rotated query heads. -/
def refQr (a : FVec Ideal S8x2048x16x64 .f32) : FVec Ideal S8x2048x16x64 .f32 :=
  concatenate S8x2048x16x64 3 [⟨S8x2048x16x32, (subf (mulf (extractStridedSlice S8x2048x16x32 ![0, 0, 0, 0] a
    slices_S8x2048x16x64_S8x2048x16x32_0_0_0_0) (broadcastInDim S8x2048x16x32 ![0, 1, 2, 3] bcast_S1x2048x1x32_S8x2048x16x32_0_1_2_3 (broadcastInDim
    S1x2048x1x32 ![1, 2, 3] bcast_S2048x1x32_S1x2048x1x32_1_2_3 (broadcastInDim S2048x1x32 ![0, 2] bcast_S2048x32_S2048x1x32_0_2 co)))) (mulf
    (extractStridedSlice S8x2048x16x32 ![0, 0, 0, 32] a slices_S8x2048x16x64_S8x2048x16x32_0_0_0_32) (broadcastInDim S8x2048x16x32 ![0, 1, 2, 3]
    bcast_S1x2048x1x32_S8x2048x16x32_0_1_2_3 (broadcastInDim S1x2048x1x32 ![1, 2, 3] bcast_S2048x1x32_S1x2048x1x32_1_2_3 (broadcastInDim S2048x1x32
    ![0, 2] bcast_S2048x32_S2048x1x32_0_2 si)))))⟩, ⟨S8x2048x16x32, (addf (mulf (extractStridedSlice S8x2048x16x32 ![0, 0, 0, 0] a
    slices_S8x2048x16x64_S8x2048x16x32_0_0_0_0) (broadcastInDim S8x2048x16x32 ![0, 1, 2, 3] bcast_S1x2048x1x32_S8x2048x16x32_0_1_2_3 (broadcastInDim
    S1x2048x1x32 ![1, 2, 3] bcast_S2048x1x32_S1x2048x1x32_1_2_3 (broadcastInDim S2048x1x32 ![0, 2] bcast_S2048x32_S2048x1x32_0_2 si)))) (mulf
    (extractStridedSlice S8x2048x16x32 ![0, 0, 0, 32] a slices_S8x2048x16x64_S8x2048x16x32_0_0_0_32) (broadcastInDim S8x2048x16x32 ![0, 1, 2, 3]
    bcast_S1x2048x1x32_S8x2048x16x32_0_1_2_3 (broadcastInDim S1x2048x1x32 ![1, 2, 3] bcast_S2048x1x32_S1x2048x1x32_1_2_3 (broadcastInDim S2048x1x32
    ![0, 2] bcast_S2048x32_S2048x1x32_0_2 co)))))⟩] concatenates_S8x2048x16x32_S8x2048x16x32_S8x2048x16x64_d3

/-- The reference's rotated key heads. -/
def refKr (a : FVec Ideal S8x2048x6x64 .f32) : FVec Ideal S8x2048x6x64 .f32 :=
  concatenate S8x2048x6x64 3 [⟨S8x2048x6x32, (subf (mulf (extractStridedSlice S8x2048x6x32 ![0, 0, 0, 0] a slices_S8x2048x6x64_S8x2048x6x32_0_0_0_0)
    (broadcastInDim S8x2048x6x32 ![0, 1, 2, 3] bcast_S1x2048x1x32_S8x2048x6x32_0_1_2_3 (broadcastInDim S1x2048x1x32 ![1, 2, 3]
    bcast_S2048x1x32_S1x2048x1x32_1_2_3 (broadcastInDim S2048x1x32 ![0, 2] bcast_S2048x32_S2048x1x32_0_2 co)))) (mulf (extractStridedSlice
    S8x2048x6x32 ![0, 0, 0, 32] a slices_S8x2048x6x64_S8x2048x6x32_0_0_0_32) (broadcastInDim S8x2048x6x32 ![0, 1, 2, 3]
    bcast_S1x2048x1x32_S8x2048x6x32_0_1_2_3 (broadcastInDim S1x2048x1x32 ![1, 2, 3] bcast_S2048x1x32_S1x2048x1x32_1_2_3 (broadcastInDim S2048x1x32
    ![0, 2] bcast_S2048x32_S2048x1x32_0_2 si)))))⟩, ⟨S8x2048x6x32, (addf (mulf (extractStridedSlice S8x2048x6x32 ![0, 0, 0, 0] a
    slices_S8x2048x6x64_S8x2048x6x32_0_0_0_0) (broadcastInDim S8x2048x6x32 ![0, 1, 2, 3] bcast_S1x2048x1x32_S8x2048x6x32_0_1_2_3 (broadcastInDim
    S1x2048x1x32 ![1, 2, 3] bcast_S2048x1x32_S1x2048x1x32_1_2_3 (broadcastInDim S2048x1x32 ![0, 2] bcast_S2048x32_S2048x1x32_0_2 si)))) (mulf
    (extractStridedSlice S8x2048x6x32 ![0, 0, 0, 32] a slices_S8x2048x6x64_S8x2048x6x32_0_0_0_32) (broadcastInDim S8x2048x6x32 ![0, 1, 2, 3]
    bcast_S1x2048x1x32_S8x2048x6x32_0_1_2_3 (broadcastInDim S1x2048x1x32 ![1, 2, 3] bcast_S2048x1x32_S1x2048x1x32_1_2_3 (broadcastInDim S2048x1x32
    ![0, 2] bcast_S2048x32_S2048x1x32_0_2 co)))))⟩] concatenates_S8x2048x6x32_S8x2048x6x32_S8x2048x6x64_d3

/-- The reference's queries, scaled and in slot order, of rotated heads `y`. -/
def refQ (y : FVec Ideal S8x2048x16x64 .f32) : FVec Ideal S16384x1024 .bf16 :=
  truncf .bf16 (shapeCast S16384x1024 (transpose S8x2048x8x2x64 [0, 1, 3, 2, 4] (shapeCast S8x2048x2x8x64 (mulf y (broadcastInDim S8x2048x16x64
    ![] bcast_S_S8x2048x16x64 (constant S_ .f32 0x3E000000#32))) shapeCasts_S8x2048x16x64_S8x2048x2x8x64)
    transposes_S8x2048x2x8x64_S8x2048x8x2x64_0_1_3_2_4) shapeCasts_S8x2048x8x2x64_S16384x1024) bitsLt_bf16_f32

/-- The reference's keys, of rotated heads `y`, beside the values, of `refBr`, branch by branch. -/
def refKv (u : FVec Ideal S8x2048x3x2x2x64 .f32) (y : FVec Ideal S8x2048x6x64 .f32) : FVec Ideal S16384x768 .f32 :=
  shapeCast S16384x768 (concatenate S8x2048x3x2x2x64 3 [⟨S8x2048x3x1x2x64, (broadcastInDim S8x2048x3x1x2x64 ![0, 1, 2, 4, 5]
    bcast_S8x2048x3x2x64_S8x2048x3x1x2x64_0_1_2_4_5 (shapeCast S8x2048x3x2x64 y shapeCasts_S8x2048x6x64_S8x2048x3x2x64))⟩, ⟨S8x2048x3x1x2x64,
    (broadcastInDim S8x2048x3x1x2x64 ![0, 1, 2, 4, 5] bcast_S8x2048x3x2x64_S8x2048x3x1x2x64_0_1_2_4_5 (shapeCast S8x2048x3x2x64
    (extractStridedSlice S8x2048x3x1x2x64 ![0, 0, 0, 1, 0, 0] u slices_S8x2048x3x2x2x64_S8x2048x3x1x2x64_0_0_0_1_0_0)
    shapeCasts_S8x2048x3x1x2x64_S8x2048x3x2x64))⟩] concatenates_S8x2048x3x1x2x64_S8x2048x3x1x2x64_S8x2048x3x2x2x64_d3)
    shapeCasts_S8x2048x3x2x2x64_S16384x768

/-- The reference's gates of the product `p`. -/
def refGate (p : FVec Ideal S8x2048x1840 .f32) : FVec Ideal S16384x128 .f32 :=
  shapeCast S16384x128 (Host.divf (broadcastInDim S8x2048x128 ![] bcast_S_S8x2048x128 (constant S_ .f32 0x3F800000#32)) (addf (broadcastInDim
    S8x2048x128 ![] bcast_S_S8x2048x128 (constant S_ .f32 0x3F800000#32)) (Host.exp (Host.negf (concatenate S8x2048x128 2 [⟨S8x2048x48,
    (extractStridedSlice S8x2048x48 ![0, 0, 1792] p slices_S8x2048x1840_S8x2048x48_0_0_1792)⟩, ⟨S8x2048x80, (broadcastInDim S8x2048x80 ![]
    bcast_S_S8x2048x80 (constant S_ .f32 0x00000000#32))⟩] concatenates_S8x2048x48_S8x2048x80_S8x2048x128_d2))))) shapeCasts_S8x2048x128_S16384x128

theorem refNrm_apply (b : Fin 8) (n : Fin 2048) (k : Fin 1024) :
    refNrm x g (ix3 b n k) = nrm (fun k => x (ix3 b n k)) (fun k => g (ix1 k)) k := by
  unfold nrm
  pointwise [refNrm]

theorem refProj_apply (h : FVec Ideal S8x2048x1024 .f32) (b : Fin 8) (n : Fin 2048) (d : Fin 1840) :
    refProj w h (ix3 b n d) = ∑ k, h (ix3 b n k) * w (ix2 k d) := by
  pointwise [refProj]

theorem refQn_apply (p : FVec Ideal S8x2048x1840 .f32) (b : Fin 8) (n : Fin 2048) (a : Fin 16) (e : Fin 64) :
    refQn q p (ix4 b n a e) = hn (fun e => p (ix3 b n ⟨64 * a.val + e.val, by omega⟩)) (fun e => q (ix1 e)) e := by
  have he : ∀ e : Fin 64, (⟨64 * a.val + e.val, by omega⟩ : Fin 1840) = ⟨a.val * 64 + e.val, by omega⟩ :=
    fun e => Fin.ext (by simp only; omega)
  unfold hn
  simp only [he]
  pointwise [refQn]

theorem refBr_apply (p : FVec Ideal S8x2048x1840 .f32) (b : Fin 8) (n : Fin 2048) (a : Fin 3) (v h : Fin 2) (e : Fin 64) :
    refBr p (ix6 b n a v h e) = p (ix3 b n ⟨1024 + (256 * a.val + 128 * v.val + 64 * h.val + e.val), by omega⟩) := by
  have he : (⟨1024 + (256 * a.val + 128 * v.val + 64 * h.val + e.val), by omega⟩ : Fin 1840)
      = ⟨1024 + (a.val * 256 + v.val * 128 + h.val * 64 + e.val), by omega⟩ := Fin.ext (by simp only; omega)
  rw [he]
  pointwise [refBr]

theorem refK_apply (u : FVec Ideal S8x2048x3x2x2x64 .f32) (b : Fin 8) (n : Fin 2048) (a : Fin 3) (h : Fin 2) (e : Fin 64) :
    refK u (ix5 b n a h e) = u (ix6 b n a 0 h e) := by
  pointwise [refK]

theorem refKn_apply (y : FVec Ideal S8x2048x3x2x64 .f32) (b : Fin 8) (n : Fin 2048) (a : Fin 6) (e : Fin 64) :
    refKn k y (ix4 b n a e) = hn (fun e => y (ix5 b n ⟨a.val / 2, by omega⟩ ⟨a.val % 2, by omega⟩ e)) (fun e => k (ix2 ⟨a.val / 2, by omega⟩ e)) e := by
  unfold hn
  pointwise [refKn]

theorem refQr_apply (y : FVec Ideal S8x2048x16x64 .f32) (b : Fin 8) (n : Fin 2048) (a : Fin 16) (e : Fin 64) :
    refQr co si y (ix4 b n a e) = rot (fun e => y (ix4 b n a e)) (fun e => co (ix2 n e)) (fun e => si (ix2 n e)) e := by
  unfold rot
  pointwise [refQr]
  split
  · rename_i h
    have he : (⟨32 + e.val, by omega⟩ : Fin 64) = ⟨e.val + 32, by omega⟩ := Fin.ext (Nat.add_comm _ _)
    rw [he]
  · rename_i h
    have he : (⟨32 + (e.val - 32), by omega⟩ : Fin 64) = e := Fin.ext (by simp only; omega)
    rw [he]

theorem refKr_apply (y : FVec Ideal S8x2048x6x64 .f32) (b : Fin 8) (n : Fin 2048) (a : Fin 6) (e : Fin 64) :
    refKr co si y (ix4 b n a e) = rot (fun e => y (ix4 b n a e)) (fun e => co (ix2 n e)) (fun e => si (ix2 n e)) e := by
  unfold rot
  pointwise [refKr]
  split
  · rename_i h
    have he : (⟨32 + e.val, by omega⟩ : Fin 64) = ⟨e.val + 32, by omega⟩ := Fin.ext (Nat.add_comm _ _)
    rw [he]
  · rename_i h
    have he : (⟨32 + (e.val - 32), by omega⟩ : Fin 64) = e := Fin.ext (by simp only; omega)
    rw [he]

theorem refQ_apply (y : FVec Ideal S8x2048x16x64 .f32) (n : Fin 16384) (d : Fin 1024) :
    refQ y (ix2 n d) = y (ix4 ⟨n.val / 2048, by omega⟩ ⟨n.val % 2048, Nat.mod_lt _ (by omega)⟩ ⟨slot d.val / 64, by unfold slot; omega⟩
      ⟨d.val % 64, Nat.mod_lt _ (by omega)⟩) * Ideal.ofBits .f32 1040187392#32 := by
  have he : (⟨slot d.val / 64, by unfold slot; omega⟩ : Fin 16) = ⟨d.val / 64 % 2 * 8 + d.val / 128, by omega⟩ :=
    Fin.ext (by unfold slot; simp only; omega)
  rw [he]
  pointwise [refQ]

/-- A choice on a condition is the choice on an equivalent one. -/
theorem dite_ite {α : Type} {a b : Prop} [Decidable a] [Decidable b] (e : a ↔ b) {s : a → α} {t : ¬a → α} {s' t' : α}
    (hs : ∀ h, s h = s') (ht : ∀ h, t h = t') : (if h : a then s h else t h) = if b then s' else t' := by
  by_cases h : a
  · rw [dif_pos h, if_pos (e.mp h), hs h]
  · rw [dif_neg h, if_neg (fun hb => h (e.mpr hb)), ht h]

theorem refKv_apply (u : FVec Ideal S8x2048x3x2x2x64 .f32) (y : FVec Ideal S8x2048x6x64 .f32) (n : Fin 16384) (d : Fin 768) :
    refKv u y (ix2 n d) = if d.val % 256 < 128 then y (ix4 ⟨n.val / 2048, by omega⟩ ⟨n.val % 2048, Nat.mod_lt _ (by omega)⟩
        ⟨2 * (d.val / 256) + d.val / 64 % 2, by omega⟩ ⟨d.val % 64, Nat.mod_lt _ (by omega)⟩)
      else u (ix6 ⟨n.val / 2048, by omega⟩ ⟨n.val % 2048, Nat.mod_lt _ (by omega)⟩ ⟨d.val / 256, by omega⟩ 1 ⟨d.val / 64 % 2, by omega⟩
        ⟨d.val % 64, Nat.mod_lt _ (by omega)⟩) := by
  have he : (⟨2 * (d.val / 256) + d.val / 64 % 2, by omega⟩ : Fin 6) = ⟨d.val / 256 * 2 + d.val / 64 % 2, by omega⟩ :=
    Fin.ext (by simp only; omega)
  rw [he]
  pointwise [refKv]
  exact dite_ite (show d.val / 128 % 2 < 1 ↔ d.val % 256 < 128 by clear he; omega) (fun _ => rfl) (fun _ => rfl)

theorem refGate_apply (p : FVec Ideal S8x2048x1840 .f32) (n : Fin 16384) (d : Fin 128) :
    refGate p (ix2 n d) = logi (if h : d.val < 48 then p (ix3 ⟨n.val / 2048, by omega⟩ ⟨n.val % 2048, Nat.mod_lt _ (by omega)⟩ ⟨1792 + d.val, by omega⟩)
      else 0) := by
  unfold logi
  pointwise [refGate]

/-- The reference's queries are the projection's. -/
theorem ref_q : refQ (refQr co si (refQn q (refProj w (refNrm x g)))) = qArr x g w q co si := by
  funext j
  obtain ⟨n, d, rfl⟩ : ∃ (n : Fin 16384) (d : Fin 1024), j = ix2 n d := ⟨j 0, j 1, Shared.pair_idx j⟩
  rw [refQ_apply, refQr_apply]
  simp only [refQn_apply, refProj_apply, refNrm_apply]
  unfold qArr qRow head
  have he : ∀ e : Fin 64, (⟨64 * (slot d.val / 64) + e.val, by unfold slot; omega⟩ : Fin 1840) = ⟨slot d.val + e.val, by unfold slot; omega⟩ :=
    fun e => Fin.ext (by unfold slot; simp only; omega)
  simp only [he]
  rfl

/-- The reference's keys and values are the projection's. -/
theorem ref_kv : refKv (refBr (refProj w (refNrm x g))) (refKr co si (refKn k (refK (refBr (refProj w (refNrm x g)))))) = kvArr x g w k co si := by
  funext j
  obtain ⟨n, d, rfl⟩ : ∃ (n : Fin 16384) (d : Fin 768), j = ix2 n d := ⟨j 0, j 1, Shared.pair_idx j⟩
  rw [refKv_apply]
  simp only [refKr_apply, refKn_apply, refK_apply, refBr_apply, refProj_apply, refNrm_apply]
  unfold kvArr kvRow head
  show _ = if d.val % 256 < 128 then _ else _
  split
  · rename_i h
    have h1 : (2 * (d.val / 256) + d.val / 64 % 2) / 2 = d.val / 256 := by omega
    have h2 : (2 * (d.val / 256) + d.val / 64 % 2) % 2 = d.val / 64 % 2 := by omega
    have he : ∀ e : Fin 64, (⟨1024 + (256 * (d.val / 256) + 128 * 0 + 64 * (d.val / 64 % 2) + e.val), by omega⟩ : Fin 1840)
        = ⟨1024 + 64 * (d.val / 64) + e.val, by omega⟩ := fun e => Fin.ext (by simp only; omega)
    simp only [h1, h2, Fin.val_zero, he]
    rfl
  · rename_i h
    have he : (⟨1024 + (256 * (d.val / 256) + 128 * 1 + 64 * (d.val / 64 % 2) + d.val % 64), by omega⟩ : Fin 1840)
        = ⟨1024 + d.val, by omega⟩ := Fin.ext (by simp only; omega)
    simp only [Fin.val_one, he]
    rfl

/-- The reference's gates are the projection's. -/
theorem ref_gate : refGate (refProj w (refNrm x g)) = gateArr x g w := by
  funext j
  obtain ⟨n, d, rfl⟩ : ∃ (n : Fin 16384) (d : Fin 128), j = ix2 n d := ⟨j 0, j 1, Shared.pair_idx j⟩
  rw [refGate_apply]
  simp only [refProj_apply, refNrm_apply]
  rfl

end

/-- The kernel's four results are the reference's, whatever the arguments. -/
theorem algebraic : Cert.algebraic_NsaProjIdeal_NsaProjReferenceIdeal := by
  intro m ρ m' ρ' _ hagree
  refine ⟨fun c => qArr (argX m c) (argG m c) (argW m c) (argQ m c) (argC m c) (argS m c),
    fun c => kvArr (argX m c) (argG m c) (argW m c) (argK m c) (argC m c) (argS m c),
    fun c => kvArr (argX m c) (argG m c) (argW m c) (argK m c) (argC m c) (argS m c),
    fun c => gateArr (argX m c) (argG m c) (argW m c), ?_, ?_⟩
  · exact (θ_run Cert.NsaProjIdeal.defs _ _).mono (fun _ h c => ⟨(h c).1.trans (final_q m c), (h c).2.1.trans (final_kv m c),
        (h c).2.2.1.trans (final_kv' m c), (h c).2.2.2.1.trans (final_gate m c), (h c).2.2.2.2⟩)
      (Cert.NsaProjIdeal.Value.run_blocks (F := Ideal) m ρ)
  · refine (θ_run Cert.NsaProjReferenceIdeal.defs _ _).mono (fun _ h c => ⟨(h c).1.trans ?_, (h c).2.1.trans ?_, (h c).2.2.1.trans ?_,
        (h c).2.2.2.1.trans ?_, (h c).2.2.2.2⟩)
      (Cert.NsaProjReferenceIdeal.Value.run (F := Ideal) m' ρ')
    · unfold Cert.NsaProjReferenceIdeal.Value.res_main_v108
      rw [(hagree c).1, (hagree c).2.1, (hagree c).2.2.1, (hagree c).2.2.2.1, (hagree c).2.2.2.2.2.1, (hagree c).2.2.2.2.2.2]
      exact ref_q (argX m c) (argG m c) (argW m c) (argQ m c) (argC m c) (argS m c)
    · unfold Cert.NsaProjReferenceIdeal.Value.res_main_v94
      rw [(hagree c).1, (hagree c).2.1, (hagree c).2.2.1, (hagree c).2.2.2.2.1, (hagree c).2.2.2.2.2.1, (hagree c).2.2.2.2.2.2]
      exact ref_kv (argX m c) (argG m c) (argW m c) (argK m c) (argC m c) (argS m c)
    · unfold Cert.NsaProjReferenceIdeal.Value.res_main_v109
      rw [(hagree c).1, (hagree c).2.1, (hagree c).2.2.1, (hagree c).2.2.2.2.1, (hagree c).2.2.2.2.2.1, (hagree c).2.2.2.2.2.2]
      exact congrArg (fun a : FVec Ideal Cert.NsaProjReferenceIdeal.S16384x768 .f32 => truncf .bf16 a (by decide))
        (ref_kv (argX m c) (argG m c) (argW m c) (argK m c) (argC m c) (argS m c))
    · rw [(hagree c).1, (hagree c).2.1, (hagree c).2.2.1]
      exact ref_gate (argX m c) (argG m c) (argW m c)

end Cert.NsaProj

end
-- ==== Proof.Outproj.Final.lean ====
/-
  The output projection with its residual: the kernel's blocks of rows tile the array, so it is the projection of every row.
-/
module

public import proofs.«01_k».proof.Proof.Gen.OutprojIdeal.Frame
public import proofs.«01_k».proof.Proof.Gen.OutprojIdeal.Value
public import proofs.«01_k».proof.Proof.Shared.Index

@[expose] public section

set_option maxRecDepth 16384

noncomputable section

namespace Cert.Outproj

open Cert.OutprojIdeal Cert.OutprojIdeal.Gen Idealize.ShloMosaic Idealize.ShloMosaic.TcCoe Idealize.SL.Sem
open Idealize.ShloMosaic.Pipeline (Dat)

/-- The rows plus the projections of the attention's rows. -/
def arr (X : FVec Ideal (⟨2, ![16384, 1024]⟩ : Shape) .f32) (O : FVec Ideal (⟨2, ![16384, 1024]⟩ : Shape) .bf16)
    (W : FVec Ideal (⟨2, ![1024, 1024]⟩ : Shape) .f32) : FVec Ideal (⟨2, ![16384, 1024]⟩ : Shape) .f32 := fun i =>
  X (ix2 (i 0) (i 1)) + ∑ k : Fin 1024, O (ix2 (i 0) k) * W (ix2 k (i 1))

/-- One block's result at a row and a column. -/
theorem out_apply (x : Vec Ideal S512x1024 .f32) (o : Vec Ideal S512x1024 .bf16) (W : Vec Ideal S1024x1024 .bf16) (r : Fin 512) (d : Fin 1024) :
    out0_3 x o W (ix2 r d) = x (ix2 r d) + ∑ k : Fin 1024, o (ix2 r k) * W (ix2 k d) := by
  have hx : View.ld x r0_0 = x := Shared.window_whole x _ rfl rfl _
  have ho : View.ld o r0_0 = o := Shared.window_whole o _ rfl rfl _
  have hw : View.ld W r0_1 = W := Shared.window_whole W _ rfl rfl _
  unfold out0_3
  rw [View.canon_unit_zero (by funext a; fin_cases a <;> rfl), hx, ho, hw]
  pointwise [k0_pay1]

variable (m : (ℓ : Loc nD τ sig) → Buf (Elt Ideal) ℓ) (c : Dev nD) (t : Fin cfg0.N)

/-- The three argument arrays. -/
abbrev argX : FVec Ideal S16384x1024 .f32 := m ((c : Thread nD τ).loc main_arg0)
abbrev argO : FVec Ideal S16384x1024 .bf16 := m ((c : Thread nD τ).loc main_arg1)
abbrev argW : FVec Ideal S1024x1024 .f32 := m ((c : Thread nD τ).loc main_arg2)

/-- The launch finds the weights in the kernel's format. -/
theorem weights_eq : V m c main_v0 = argW m c := by
  dsimp only [V, hostOps0]; after_results; rfl

/-- A grid point's blocks of rows. -/
theorem index_0 : ∀ t : Fin cfg0.N, win0_0.index t 0 = t.val ∧ win0_0.index t 1 = 0 := (by decide +kernel : ∀ t : Fin grid0.N, win0_0.index t 0 = t.val ∧ win0_0.index t 1 = 0)
theorem index_1 : ∀ t : Fin cfg0.N, win0_1.index t 0 = t.val ∧ win0_1.index t 1 = 0 := (by decide +kernel : ∀ t : Fin grid0.N, win0_1.index t 0 = t.val ∧ win0_1.index t 1 = 0)
theorem index_3 : ∀ t : Fin cfg0.N, win0_3.index t 0 = t.val ∧ win0_3.index t 1 = 0 := (by decide +kernel : ∀ t : Fin grid0.N, win0_3.index t 0 = t.val ∧ win0_3.index t 1 = 0)

theorem t_lt : t.val < 32 := lt_of_lt_of_eq t.isLt N_0

theorem blkX (r : Fin 512) (k : Fin 1024) :
    iblk m c 0 t (ix2 r k) = argX m c (ix2 ⟨512 * t.val + r.val, by have := t_lt t; omega⟩ k) := by
  show V m c main_arg0 ((win0_0.rect t).emb (ix2 r k)) = _
  rw [V_main_arg0]
  refine congrArg (argX m c) (funext fun a => Fin.ext ?_)
  obtain ⟨e0, e1⟩ := index_0 t
  match a with
  | ⟨0, _⟩ =>
    show win0_0.index t 0 * 512 + 1 * r.val = 512 * t.val + r.val
    omega
  | ⟨1, _⟩ =>
    show win0_0.index t 1 * 1024 + 1 * k.val = k.val
    omega

theorem blkO (r : Fin 512) (k : Fin 1024) :
    iblk m c 1 t (ix2 r k) = argO m c (ix2 ⟨512 * t.val + r.val, by have := t_lt t; omega⟩ k) := by
  show V m c main_arg1 ((win0_1.rect t).emb (ix2 r k)) = _
  rw [V_main_arg1]
  refine congrArg (argO m c) (funext fun a => Fin.ext ?_)
  obtain ⟨e0, e1⟩ := index_1 t
  match a with
  | ⟨0, _⟩ =>
    show win0_1.index t 0 * 512 + 1 * r.val = 512 * t.val + r.val
    omega
  | ⟨1, _⟩ =>
    show win0_1.index t 1 * 1024 + 1 * k.val = k.val
    omega

theorem blkW (k d : Fin 1024) : iblk m c 2 t (ix2 k d) = argW m c (ix2 k d) := by
  rw [← weights_eq]
  show V m c main_v0 ((win0_2.rect t).emb (ix2 k d)) = _
  refine congrArg (V m c main_v0) (funext fun a => Fin.ext ?_)
  match a with
  | ⟨0, _⟩ =>
    show 0 * 1024 + 1 * k.val = k.val
    omega
  | ⟨1, _⟩ =>
    show 0 * 1024 + 1 * d.val = d.val
    omega

/-- What a grid point writes back is its block of the projection. -/
theorem flushed_eq : (dats m 0 c).flushed 3 t
    = ((cfg0.win 3).blk t).view.read (Elt Ideal) (arr (argX m c) (argO m c) (argW m c)) := by
  rw [Value.flushed3]
  funext j
  obtain ⟨r, d, rfl⟩ : ∃ (r : Fin 512) (d : Fin 1024), j = ix2 r d := ⟨j 0, j 1, Shared.pair_idx j⟩
  refine (out_apply (iblk m c 0 t) (iblk m c 1 t) (iblk m c 2 t) r d).trans ?_
  simp only [blkX, blkO, blkW]
  show _ = arr (argX m c) (argO m c) (argW m c) ((win0_3.rect t).emb (ix2 r d))
  have e : (win0_3.rect t).emb (ix2 r d) = (ix2 ⟨512 * t.val + r.val, by have := t_lt t; omega⟩ d : S16384x1024.Idx) := by
    obtain ⟨e0, e1⟩ := index_3 t
    funext a
    refine Fin.ext ?_
    match a with
    | ⟨0, _⟩ =>
      show win0_3.index t 0 * 512 + 1 * r.val = 512 * t.val + r.val
      omega
    | ⟨1, _⟩ =>
      show win0_3.index t 1 * 1024 + 1 * d.val = d.val
      omega
  rw [e]
  rfl

/-- Every place of the array lies in a grid point's block. -/
theorem cover (x : S16384x1024.Idx) : ∃ t : Fin cfg0.N, (cfg0.win 3).flush t = true ∧ x ∈ ((cfg0.win 3).blk t).view.set := by
  have h0 : (x 0 : ℕ) < 16384 := (x 0).isLt
  have h1 : (x 1 : ℕ) < 1024 := (x 1).isLt
  let t : Fin cfg0.N := ⟨(x 0 : ℕ) / 512, lt_of_lt_of_eq (by omega) N_0.symm⟩
  refine ⟨t, flush0_3 t, ?_⟩
  show x ∈ ((View.whole main_v1).slice (win0_3.rect t)).set
  rw [View.set_slice_whole, Rect.mem_set_unit]
  obtain ⟨e0, e1⟩ := index_3 t
  have ht : t.val = (x 0 : ℕ) / 512 := rfl
  intro a
  match a with
  | ⟨0, _⟩ =>
    show win0_3.index t 0 * 512 ≤ (x 0 : ℕ) ∧ (x 0 : ℕ) < win0_3.index t 0 * 512 + 512
    omega
  | ⟨1, _⟩ =>
    show win0_3.index t 1 * 1024 ≤ (x 1 : ℕ) ∧ (x 1 : ℕ) < win0_3.index t 1 * 1024 + 1024
    omega

/-- The result array at the end of the grid is the projection of the arguments. -/
theorem final : (dats m 0 c).arrAt 3 cfg0.N = arr (argX m c) (argO m c) (argW m c) :=
  (dats m 0 c).arrAt_eq_of_cover 3 _ (fun t _ => flushed_eq m c t) cover

end Cert.Outproj

end
-- ==== Proof.Outproj.Claims.lean ====
/-
  The claims about the output projection.
-/
module

public import proofs.«01_k».proof.Defs
public import proofs.«01_k».proof.Proof.Gen.Outproj.Frame
public import proofs.«01_k».proof.Proof.Gen.OutprojReferenceIdeal.Run
public import proofs.«01_k».proof.Proof.Outproj.Final
public import Idealize.ShloMosaic.Lib.Quiescent

@[expose] public section

set_option maxRecDepth 16384

noncomputable section

namespace Cert.Outproj

open Idealize.ShloMosaic Idealize.ShloMosaic.TcCoe Idealize.SL.Sem

/-- The kernel as printed terminates, its arguments unchanged. -/
theorem frame_P : Cert.quiescent_Outproj := fun m ρ _ => Cert.Outproj.Gen.frame m ρ
/-- The kernel over the extended reals terminates, its arguments unchanged. -/
theorem frame_PI : Cert.quiescent_OutprojIdeal := fun m ρ _ => Cert.OutprojIdeal.Gen.frame m ρ
/-- The reference terminates, its arguments unchanged; it has no semaphore. -/
theorem frame_RI : Cert.quiescent_OutprojReferenceIdeal := fun m ρ _ =>
  (θ_run Cert.OutprojReferenceIdeal.defs _ _).mono (fun r h => ⟨fun c => (h c).2, sem_eq_zero_of_no_sems (by decide) r.2⟩)
    (Cert.OutprojReferenceIdeal.Value.run (F := Ideal) m ρ)
/-- No operation was rewritten. -/
theorem preserves : Cert.preserves_Outproj_OutprojIdeal := trivial

section
open Cert.OutprojReferenceIdeal Cert.OutprojReferenceIdeal.Gen

/-- The reference computes the projection of every row. -/
theorem ref_eq (x : FVec Ideal S16384x1024 .f32) (o : FVec Ideal S16384x1024 .bf16) (w : FVec Ideal S1024x1024 .f32) :
    addf x (Host.dotGeneral dot_S16384x1024_S1024x1024_S16384x1024_1_0_0_1_n_n none (extf .f32 o bitsLt_bf16_f32) w) = arr x o w := by
  funext j
  obtain ⟨r, d, rfl⟩ : ∃ (r : Fin 16384) (d : Fin 1024), j = ix2 r d := ⟨j 0, j 1, Shared.pair_idx j⟩
  unfold arr
  pointwise

end

/-- The kernel's result is the reference's, whatever the arguments. -/
theorem algebraic : Cert.algebraic_OutprojIdeal_OutprojReferenceIdeal := by
  intro m ρ m' ρ' _ hagree
  refine ⟨fun c => arr (argX m c) (argO m c) (argW m c), ?_, ?_⟩
  · exact (θ_run Cert.OutprojIdeal.defs _ _).mono (fun _ h c => ⟨(h c).1.trans (final m c), (h c).2⟩)
      (Cert.OutprojIdeal.Value.run_blocks (F := Ideal) m ρ)
  · refine (θ_run Cert.OutprojReferenceIdeal.defs _ _).mono (fun _ h c => ⟨(h c).1.trans ?_, (h c).2⟩)
      (Cert.OutprojReferenceIdeal.Value.run (F := Ideal) m' ρ')
    rw [(hagree c).1, (hagree c).2.1, (hagree c).2.2]
    exact ref_eq (argX m c) (argO m c) (argW m c)

end Cert.Outproj

end
-- ==== Proof.lean ====
/-
  The certificate: the claims of Defs.lean, assembled.
-/
module

public import proofs.«01_k».proof.Defs
public import proofs.«01_k».proof.Proof.Mla.Claims
public import proofs.«01_k».proof.Proof.MlaExpand.Claims
public import proofs.«01_k».proof.Proof.MlaProj.Claims
public import proofs.«01_k».proof.Proof.MobaMeans.Claims
public import proofs.«01_k».proof.Proof.Mlp.Claims
public import proofs.«01_k».proof.Proof.MobaProj.Claims
public import proofs.«01_k».proof.Proof.MobaSample.Claims
public import proofs.«01_k».proof.Proof.NsaProj.Claims
public import proofs.«01_k».proof.Proof.Outproj.Claims

@[expose] public section

noncomputable section

namespace Cert.Proof

theorem claim : Cert.Claim :=
  ⟨Cert.Kernel.Gen.facts, Cert.KernelIdeal.Gen.facts, Cert.ReferenceIdeal.Gen.facts,
    Cert.Mlp.Gen.facts, Cert.MlpIdeal.Gen.facts, Cert.MlpReferenceIdeal.Gen.facts,
    Cert.Outproj.Gen.facts, Cert.OutprojIdeal.Gen.facts, Cert.OutprojReferenceIdeal.Gen.facts,
    Cert.MobaProj.Gen.facts, Cert.MobaProjIdeal.Gen.facts, Cert.MobaProjReferenceIdeal.Gen.facts,
    Cert.MobaSample.Gen.facts, Cert.MobaSampleIdeal.Gen.facts, Cert.MobaSampleReferenceIdeal.Gen.facts,
    Cert.NsaProj.Gen.facts, Cert.NsaProjIdeal.Gen.facts, Cert.NsaProjReferenceIdeal.Gen.facts,
    Cert.MlaExpand.Gen.facts, Cert.MlaExpandIdeal.Gen.facts, Cert.MlaExpandReferenceIdeal.Gen.facts,
    Cert.MlaProj.Gen.facts, Cert.MlaProjIdeal.Gen.facts, Cert.MlaProjReferenceIdeal.Gen.facts,
    Cert.MobaMeans.Gen.facts, Cert.MobaMeansIdeal.Gen.facts, Cert.MobaMeansReferenceIdeal.Gen.facts, Cert.Mla.preFacts,
    Cert.Mla.frame_P, Cert.Mla.frame_PI, Cert.Mla.frame_PI_pre, Cert.Mla.frame_RI, Cert.Mla.frame_RI_pre,
    Cert.Mlp.frame_P, Cert.Mlp.frame_PI, Cert.Mlp.frame_RI,
    Cert.Outproj.frame_P, Cert.Outproj.frame_PI, Cert.Outproj.frame_RI,
    Cert.MobaProj.frame_P, Cert.MobaProj.frame_PI, Cert.MobaProj.frame_RI,
    Cert.MobaSample.frame_P, Cert.MobaSample.frame_PI, Cert.MobaSample.frame_RI,
    Cert.NsaProj.frame_P, Cert.NsaProj.frame_PI, Cert.NsaProj.frame_RI,
    Cert.MlaExpand.frame_P, Cert.MlaExpand.frame_PI, Cert.MlaExpand.frame_RI,
    Cert.MlaProj.frame_P, Cert.MlaProj.frame_PI, Cert.MlaProj.frame_RI,
    Cert.MobaMeans.frame_P, Cert.MobaMeans.frame_PI, Cert.MobaMeans.frame_RI,
    Cert.Mla.preserves, Cert.Mla.algebraic, Cert.Mlp.preserves, Cert.Mlp.algebraic,
    Cert.Outproj.preserves, Cert.Outproj.algebraic, Cert.MobaProj.preserves, Cert.MobaProj.algebraic,
    Cert.MobaSample.preserves, Cert.MobaSample.algebraic,
    Cert.NsaProj.preserves, Cert.NsaProj.algebraic,
    Cert.MlaExpand.preserves, Cert.MlaExpand.algebraic,
    Cert.MlaProj.preserves, Cert.MlaProj.algebraic, Cert.MobaMeans.preserves, Cert.MobaMeans.algebraic⟩

end Cert.Proof

end
